-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v16_13) = v1 c
          ∧ r.2.mem ((c.tc : Thread Cert.ReferenceIdeal.nD Cert.ReferenceIdeal.τ).loc Cert.ReferenceIdeal.main_v16_14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S128x128x512 : Shape := ⟨3, ![128, 128, 512]⟩
abbrev S256x512 : Shape := ⟨2, ![256, 512]⟩
abbrev S360x512 : Shape := ⟨2, ![360, 512]⟩
abbrev S256x360 : Shape := ⟨2, ![256, 360]⟩
abbrev S256 : Shape := ⟨1, ![256]⟩
abbrev S512x256 : Shape := ⟨2, ![512, 256]⟩
abbrev S512x360 : Shape := ⟨2, ![512, 360]⟩
abbrev S360x256 : Shape := ⟨2, ![360, 256]⟩
abbrev S1x256 : Shape := ⟨2, ![1, 256]⟩
abbrev S_ : Shape := ⟨0, ![]⟩
abbrev S1 : Shape := ⟨1, ![1]⟩
abbrev S2 : Shape := ⟨1, ![2]⟩
abbrev S128 : Shape := ⟨1, ![128]⟩
abbrev S128x1 : Shape := ⟨2, ![128, 1]⟩
abbrev S128x2 : Shape := ⟨2, ![128, 2]⟩
abbrev S1x1 : Shape := ⟨2, ![1, 1]⟩
abbrev S128x128 : Shape := ⟨2, ![128, 128]⟩
abbrev S1x128x128 : Shape := ⟨3, ![1, 128, 128]⟩
abbrev S128x1x1 : Shape := ⟨3, ![128, 1, 1]⟩
abbrev S128x128x128 : Shape := ⟨3, ![128, 128, 128]⟩
abbrev S1x1x1 : Shape := ⟨3, ![1, 1, 1]⟩
abbrev S1x128 : Shape := ⟨2, ![1, 128]⟩
abbrev S128x128x256 : Shape := ⟨3, ![128, 128, 256]⟩
abbrev S128x512 : Shape := ⟨2, ![128, 512]⟩
abbrev S4x128x360 : Shape := ⟨3, ![4, 128, 360]⟩
abbrev S128x256 : Shape := ⟨2, ![128, 256]⟩
abbrev S16x128x512 : Shape := ⟨3, ![16, 128, 512]⟩
abbrev S2048x512 : Shape := ⟨2, ![2048, 512]⟩
abbrev S2048x256 : Shape := ⟨2, ![2048, 256]⟩
abbrev S16x128x256 : Shape := ⟨3, ![16, 128, 256]⟩
abbrev S128x360 : Shape := ⟨2, ![128, 360]⟩
abbrev S1x128x360 : Shape := ⟨3, ![1, 128, 360]⟩
abbrev S1x128x256 : Shape := ⟨3, ![1, 128, 256]⟩
abbrev S1x1x256 : Shape := ⟨3, ![1, 1, 256]⟩
abbrev S16x128 : Shape := ⟨2, ![16, 128]⟩
abbrev S1x1x512 : Shape := ⟨3, ![1, 1, 512]⟩
abbrev S1x512 : Shape := ⟨2, ![1, 512]⟩
abbrev S64x512 : Shape := ⟨2, ![64, 512]⟩
abbrev S64x360 : Shape := ⟨2, ![64, 360]⟩
abbrev S1x64x360 : Shape := ⟨3, ![1, 64, 360]⟩
abbrev S64x256 : Shape := ⟨2, ![64, 256]⟩
abbrev S128x129 : Shape := ⟨2, ![128, 129]⟩

abbrev nBuf : Space → Nat
  | .hbm => 550
  | .vmem => 18
  | .smem => 1
  | _ => 0

abbrev hbmTy0_0 (i : Nat) : BufTy := match i % 128 with
  | 0 => ⟨S128x128x512, .f32⟩
  | 1 => ⟨S256x512, .f32⟩
  | 2 => ⟨S360x512, .f32⟩
  | 3 => ⟨S360x512, .f32⟩
  | 4 => ⟨S360x512, .f32⟩
  | 5 => ⟨S256x360, .f32⟩
  | 6 => ⟨S256, .f32⟩
  | 7 => ⟨S128x128x512, .f32⟩
  | 8 => ⟨S512x256, .f32⟩
  | 9 => ⟨S512x360, .f32⟩
  | 10 => ⟨S512x360, .f32⟩
  | 11 => ⟨S512x360, .f32⟩
  | 12 => ⟨S360x256, .f32⟩
  | 13 => ⟨S1x256, .f32⟩
  | 14 => ⟨S_, .i32⟩
  | 15 => ⟨S_, .i32⟩
  | 16 => ⟨S_, .i32⟩
  | 17 => ⟨S_, .i32⟩
  | 18 => ⟨S1, .i32⟩
  | 19 => ⟨S_, .i32⟩
  | 20 => ⟨S_, .i32⟩
  | 21 => ⟨S_, .i32⟩
  | 22 => ⟨S1, .i32⟩
  | 23 => ⟨S2, .i32⟩
  | 24 => ⟨S128, .i32⟩
  | 25 => ⟨S128, .i32⟩
  | 26 => ⟨S_, .i32⟩
  | 27 => ⟨S128, .i32⟩
  | 28 => ⟨S128, .i32⟩
  | 29 => ⟨S128x1, .i32⟩
  | 30 => ⟨S_, .i32⟩
  | 31 => ⟨S128, .i32⟩
  | 32 => ⟨S128, .i32⟩
  | 33 => ⟨S128x1, .i32⟩
  | 34 => ⟨S128x2, .i32⟩
  | 35 => ⟨S1, .i32⟩
  | 36 => ⟨S_, .i32⟩
  | 37 => ⟨S1, .i32⟩
  | 38 => ⟨S_, .i32⟩
  | 39 => ⟨S128x1, .i32⟩
  | 40 => ⟨S128x1, .i32⟩
  | 41 => ⟨S_, .i32⟩
  | 42 => ⟨S_, .i32⟩
  | 43 => ⟨S_, .i32⟩
  | 44 => ⟨S128x1, .i32⟩
  | 45 => ⟨S128x1, .i32⟩
  | 46 => ⟨S128x1, .i32⟩
  | 47 => ⟨S128x1, .i32⟩
  | 48 => ⟨S128x1, .i32⟩
  | 49 => ⟨S_, .i32⟩
  | 50 => ⟨S128x1, .i32⟩
  | 51 => ⟨S128x1, .i32⟩
  | 52 => ⟨S_, .i32⟩
  | 53 => ⟨S128x1, .i32⟩
  | 54 => ⟨S128x1, .i32⟩
  | 55 => ⟨S128x1, .i32⟩
  | 56 => ⟨S128x1, .i32⟩
  | 57 => ⟨S128x1, .i32⟩
  | 58 => ⟨S_, .i32⟩
  | 59 => ⟨S128x1, .i32⟩
  | 60 => ⟨S128x1, .i32⟩
  | 61 => ⟨S_, .i32⟩
  | 62 => ⟨S128x1, .i32⟩
  | 63 => ⟨S128x1, .i32⟩
  | 64 => ⟨S128x1, .i32⟩
  | 65 => ⟨S128x1, .i32⟩
  | 66 => ⟨S128x1, .i32⟩
  | 67 => ⟨S_, .i32⟩
  | 68 => ⟨S128x1, .i32⟩
  | 69 => ⟨S128x1, .i32⟩
  | 70 => ⟨S_, .i32⟩
  | 71 => ⟨S128x1, .i32⟩
  | 72 => ⟨S128x1, .i32⟩
  | 73 => ⟨S128x1, .i32⟩
  | 74 => ⟨S128x1, .i32⟩
  | 75 => ⟨S128x1, .i32⟩
  | 76 => ⟨S_, .i32⟩
  | 77 => ⟨S128x1, .i32⟩
  | 78 => ⟨S128x1, .i32⟩
  | 79 => ⟨S_, .i32⟩
  | 80 => ⟨S128x1, .i32⟩
  | 81 => ⟨S128x1, .i32⟩
  | 82 => ⟨S128x1, .i32⟩
  | 83 => ⟨S128x1, .i32⟩
  | 84 => ⟨S128x1, .i32⟩
  | 85 => ⟨S128x1, .i32⟩
  | 86 => ⟨S128x1, .i32⟩
  | 87 => ⟨S128x1, .i32⟩
  | 88 => ⟨S_, .i32⟩
  | 89 => ⟨S128x1, .i32⟩
  | 90 => ⟨S128x1, .i32⟩
  | 91 => ⟨S128x1, .i32⟩
  | 92 => ⟨S_, .i32⟩
  | 93 => ⟨S128x1, .i32⟩
  | 94 => ⟨S128x1, .i32⟩
  | 95 => ⟨S_, .i32⟩
  | 96 => ⟨S128x1, .i32⟩
  | 97 => ⟨S128x1, .i32⟩
  | 98 => ⟨S128x1, .i32⟩
  | 99 => ⟨S128x1, .i32⟩
  | 100 => ⟨S128x1, .i32⟩
  | 101 => ⟨S_, .i32⟩
  | 102 => ⟨S128x1, .i32⟩
  | 103 => ⟨S128x1, .i32⟩
  | 104 => ⟨S_, .i32⟩
  | 105 => ⟨S128x1, .i32⟩
  | 106 => ⟨S128x1, .i32⟩
  | 107 => ⟨S128x1, .i32⟩
  | 108 => ⟨S128x1, .i32⟩
  | 109 => ⟨S128x1, .i32⟩
  | 110 => ⟨S_, .i32⟩
  | 111 => ⟨S128x1, .i32⟩
  | 112 => ⟨S128x1, .i32⟩
  | 113 => ⟨S_, .i32⟩
  | 114 => ⟨S128x1, .i32⟩
  | 115 => ⟨S128x1, .i32⟩
  | 116 => ⟨S128x1, .i32⟩
  | 117 => ⟨S128x1, .i32⟩
  | 118 => ⟨S128x1, .i32⟩
  | 119 => ⟨S_, .i32⟩
  | 120 => ⟨S128x1, .i32⟩
  | 121 => ⟨S128x1, .i32⟩
  | 122 => ⟨S_, .i32⟩
  | 123 => ⟨S128x1, .i32⟩
  | 124 => ⟨S128x1, .i32⟩
  | 125 => ⟨S128x1, .i32⟩
  | 126 => ⟨S128x1, .i32⟩
  | 127 => ⟨S128x1, .i32⟩
  | _ => ⟨S128x128x512, .f32⟩

abbrev hbmTy0_1 (i : Nat) : BufTy := match i % 128 with
  | 0 => ⟨S128x1, .i32⟩
  | 1 => ⟨S128x1, .i32⟩
  | 2 => ⟨S128x1, .i32⟩
  | 3 => ⟨S_, .i32⟩
  | 4 => ⟨S128x1, .i32⟩
  | 5 => ⟨S128x1, .i32⟩
  | 6 => ⟨S128x1, .i32⟩
  | 7 => ⟨S_, .i32⟩
  | 8 => ⟨S128x1, .i32⟩
  | 9 => ⟨S128x1, .i32⟩
  | 10 => ⟨S_, .i32⟩
  | 11 => ⟨S128x1, .i32⟩
  | 12 => ⟨S128x1, .i32⟩
  | 13 => ⟨S128x1, .i32⟩
  | 14 => ⟨S128x1, .i32⟩
  | 15 => ⟨S128x1, .i32⟩
  | 16 => ⟨S_, .i32⟩
  | 17 => ⟨S128x1, .i32⟩
  | 18 => ⟨S128x1, .i32⟩
  | 19 => ⟨S_, .i32⟩
  | 20 => ⟨S128x1, .i32⟩
  | 21 => ⟨S128x1, .i32⟩
  | 22 => ⟨S128x1, .i32⟩
  | 23 => ⟨S128x1, .i32⟩
  | 24 => ⟨S128x1, .i32⟩
  | 25 => ⟨S_, .i32⟩
  | 26 => ⟨S128x1, .i32⟩
  | 27 => ⟨S128x1, .i32⟩
  | 28 => ⟨S_, .i32⟩
  | 29 => ⟨S128x1, .i32⟩
  | 30 => ⟨S128x1, .i32⟩
  | 31 => ⟨S128x1, .i32⟩
  | 32 => ⟨S128x1, .i32⟩
  | 33 => ⟨S128x1, .i32⟩
  | 34 => ⟨S_, .i32⟩
  | 35 => ⟨S128x1, .i32⟩
  | 36 => ⟨S128x1, .i32⟩
  | 37 => ⟨S_, .i32⟩
  | 38 => ⟨S128x1, .i32⟩
  | 39 => ⟨S128x1, .i32⟩
  | 40 => ⟨S128x1, .i32⟩
  | 41 => ⟨S128x1, .i32⟩
  | 42 => ⟨S128x1, .i32⟩
  | 43 => ⟨S128x1, .i32⟩
  | 44 => ⟨S128x1, .i32⟩
  | 45 => ⟨S128x1, .i32⟩
  | 46 => ⟨S_, .i32⟩
  | 47 => ⟨S128x1, .i32⟩
  | 48 => ⟨S128x1, .i32⟩
  | 49 => ⟨S128x1, .i32⟩
  | 50 => ⟨S_, .i32⟩
  | 51 => ⟨S128x1, .i32⟩
  | 52 => ⟨S128x1, .i32⟩
  | 53 => ⟨S_, .i32⟩
  | 54 => ⟨S128x1, .i32⟩
  | 55 => ⟨S128x1, .i32⟩
  | 56 => ⟨S128x1, .i32⟩
  | 57 => ⟨S128x1, .i32⟩
  | 58 => ⟨S128x1, .i32⟩
  | 59 => ⟨S_, .i32⟩
  | 60 => ⟨S128x1, .i32⟩
  | 61 => ⟨S128x1, .i32⟩
  | 62 => ⟨S_, .i32⟩
  | 63 => ⟨S128x1, .i32⟩
  | 64 => ⟨S128x1, .i32⟩
  | 65 => ⟨S128x1, .i32⟩
  | 66 => ⟨S128x1, .i32⟩
  | 67 => ⟨S128x1, .i32⟩
  | 68 => ⟨S_, .i32⟩
  | 69 => ⟨S128x1, .i32⟩
  | 70 => ⟨S128x1, .i32⟩
  | 71 => ⟨S_, .i32⟩
  | 72 => ⟨S128x1, .i32⟩
  | 73 => ⟨S128x1, .i32⟩
  | 74 => ⟨S128x1, .i32⟩
  | 75 => ⟨S128x1, .i32⟩
  | 76 => ⟨S128x1, .i32⟩
  | 77 => ⟨S_, .i32⟩
  | 78 => ⟨S128x1, .i32⟩
  | 79 => ⟨S128x1, .i32⟩
  | 80 => ⟨S_, .i32⟩
  | 81 => ⟨S128x1, .i32⟩
  | 82 => ⟨S128x1, .i32⟩
  | 83 => ⟨S128x1, .i32⟩
  | 84 => ⟨S128x1, .i32⟩
  | 85 => ⟨S128x1, .i32⟩
  | 86 => ⟨S128x1, .i32⟩
  | 87 => ⟨S128x1, .i32⟩
  | 88 => ⟨S128x1, .i32⟩
  | 89 => ⟨S_, .i32⟩
  | 90 => ⟨S128x1, .i32⟩
  | 91 => ⟨S128x1, .i32⟩
  | 92 => ⟨S128x1, .i32⟩
  | 93 => ⟨S_, .i32⟩
  | 94 => ⟨S128x1, .i32⟩
  | 95 => ⟨S128x1, .i32⟩
  | 96 => ⟨S_, .i32⟩
  | 97 => ⟨S128x1, .i32⟩
  | 98 => ⟨S128x1, .i32⟩
  | 99 => ⟨S128x1, .i32⟩
  | 100 => ⟨S128x1, .i32⟩
  | 101 => ⟨S128x1, .i32⟩
  | 102 => ⟨S_, .i32⟩
  | 103 => ⟨S128x1, .i32⟩
  | 104 => ⟨S128x1, .i32⟩
  | 105 => ⟨S_, .i32⟩
  | 106 => ⟨S128x1, .i32⟩
  | 107 => ⟨S128x1, .i32⟩
  | 108 => ⟨S128x1, .i32⟩
  | 109 => ⟨S128x1, .i32⟩
  | 110 => ⟨S128x1, .i32⟩
  | 111 => ⟨S_, .i32⟩
  | 112 => ⟨S128x1, .i32⟩
  | 113 => ⟨S128x1, .i32⟩
  | 114 => ⟨S_, .i32⟩
  | 115 => ⟨S128x1, .i32⟩
  | 116 => ⟨S128x1, .i32⟩
  | 117 => ⟨S128x1, .i32⟩
  | 118 => ⟨S128x1, .i32⟩
  | 119 => ⟨S128x1, .i32⟩
  | 120 => ⟨S_, .i32⟩
  | 121 => ⟨S128x1, .i32⟩
  | 122 => ⟨S128x1, .i32⟩
  | 123 => ⟨S_, .i32⟩
  | 124 => ⟨S128x1, .i32⟩
  | 125 => ⟨S128x1, .i32⟩
  | 126 => ⟨S128x1, .i32⟩
  | 127 => ⟨S128x1, .i32⟩
  | _ => ⟨S128x128x512, .f32⟩

abbrev hbmTy0_2 (i : Nat) : BufTy := match i % 128 with
  | 0 => ⟨S128x1, .i32⟩
  | 1 => ⟨S128x1, .i32⟩
  | 2 => ⟨S128x1, .i32⟩
  | 3 => ⟨S128x1, .i32⟩
  | 4 => ⟨S_, .i32⟩
  | 5 => ⟨S128x1, .i32⟩
  | 6 => ⟨S128x1, .i32⟩
  | 7 => ⟨S128x2, .i32⟩
  | 8 => ⟨S_, .f32⟩
  | 9 => ⟨S_, .f32⟩
  | 10 => ⟨S_, .f32⟩
  | 11 => ⟨S1x1, .f32⟩
  | 12 => ⟨S1x1, .f32⟩
  | 13 => ⟨S128x1, .i32⟩
  | 14 => ⟨S128, .i32⟩
  | 15 => ⟨S128x1, .i32⟩
  | 16 => ⟨S128, .i32⟩
  | 17 => ⟨S128x128, .i64⟩
  | 18 => ⟨S128x128, .i64⟩
  | 19 => ⟨S_, .i64⟩
  | 20 => ⟨S128x128, .i64⟩
  | 21 => ⟨S128x128, .i64⟩
  | 22 => ⟨S_, .i64⟩
  | 23 => ⟨S128x128, .i64⟩
  | 24 => ⟨S128x128, .i64⟩
  | 25 => ⟨S128x128, .i64⟩
  | 26 => ⟨S_, .i64⟩
  | 27 => ⟨S128x128, .i64⟩
  | 28 => ⟨S128x128, .i64⟩
  | 29 => ⟨S128x128, .i32⟩
  | 30 => ⟨S128x128, .i32⟩
  | 31 => ⟨S1x128x128, .i32⟩
  | 32 => ⟨S1x128x128, .i32⟩
  | 33 => ⟨S128x1x1, .i32⟩
  | 34 => ⟨S128x1x1, .i32⟩
  | 35 => ⟨S128x1x1, .i32⟩
  | 36 => ⟨S_, .i32⟩
  | 37 => ⟨S128x1x1, .i32⟩
  | 38 => ⟨S128x1x1, .i32⟩
  | 39 => ⟨S128x128x128, .i32⟩
  | 40 => ⟨S128x128x128, .i32⟩
  | 41 => ⟨S128x128x128, .i32⟩
  | 42 => ⟨S128x128x128, .i32⟩
  | 43 => ⟨S128x128x128, .i32⟩
  | 44 => ⟨S128x128x128, .i32⟩
  | 45 => ⟨S128x128x128, .i32⟩
  | 46 => ⟨S_, .i32⟩
  | 47 => ⟨S128x128x128, .i32⟩
  | 48 => ⟨S128x128x128, .i32⟩
  | 49 => ⟨S_, .i32⟩
  | 50 => ⟨S128x128x128, .i32⟩
  | 51 => ⟨S128x128x128, .i32⟩
  | 52 => ⟨S128x128x128, .i32⟩
  | 53 => ⟨S128x128x128, .i32⟩
  | 54 => ⟨S128x128x128, .i32⟩
  | 55 => ⟨S_, .i32⟩
  | 56 => ⟨S128x128x128, .i32⟩
  | 57 => ⟨S128x128x128, .i32⟩
  | 58 => ⟨S_, .i32⟩
  | 59 => ⟨S128x128x128, .i32⟩
  | 60 => ⟨S128x128x128, .i32⟩
  | 61 => ⟨S128x128x128, .i32⟩
  | 62 => ⟨S128x128x128, .i32⟩
  | 63 => ⟨S128x128x128, .i32⟩
  | 64 => ⟨S_, .i32⟩
  | 65 => ⟨S128x128x128, .i32⟩
  | 66 => ⟨S128x128x128, .i32⟩
  | 67 => ⟨S_, .i32⟩
  | 68 => ⟨S128x128x128, .i32⟩
  | 69 => ⟨S128x128x128, .i32⟩
  | 70 => ⟨S128x128x128, .i32⟩
  | 71 => ⟨S128x128x128, .i32⟩
  | 72 => ⟨S128x128x128, .i32⟩
  | 73 => ⟨S_, .i32⟩
  | 74 => ⟨S128x128x128, .i32⟩
  | 75 => ⟨S128x128x128, .i32⟩
  | 76 => ⟨S_, .i32⟩
  | 77 => ⟨S128x128x128, .i32⟩
  | 78 => ⟨S128x128x128, .i32⟩
  | 79 => ⟨S128x128x128, .i32⟩
  | 80 => ⟨S128x128x128, .i32⟩
  | 81 => ⟨S128x128x128, .i32⟩
  | 82 => ⟨S128x128x128, .i32⟩
  | 83 => ⟨S128x128x128, .i32⟩
  | 84 => ⟨S128x128x128, .i32⟩
  | 85 => ⟨S_, .i32⟩
  | 86 => ⟨S128x128x128, .i32⟩
  | 87 => ⟨S128x128x128, .i32⟩
  | 88 => ⟨S128x128x128, .i32⟩
  | 89 => ⟨S_, .i32⟩
  | 90 => ⟨S128x128x128, .i32⟩
  | 91 => ⟨S128x128x128, .i32⟩
  | 92 => ⟨S_, .i32⟩
  | 93 => ⟨S128x128x128, .i32⟩
  | 94 => ⟨S128x128x128, .i32⟩
  | 95 => ⟨S128x128x128, .i32⟩
  | 96 => ⟨S128x128x128, .i32⟩
  | 97 => ⟨S128x128x128, .i32⟩
  | 98 => ⟨S_, .i32⟩
  | 99 => ⟨S128x128x128, .i32⟩
  | 100 => ⟨S128x128x128, .i32⟩
  | 101 => ⟨S_, .i32⟩
  | 102 => ⟨S128x128x128, .i32⟩
  | 103 => ⟨S128x128x128, .i32⟩
  | 104 => ⟨S128x128x128, .i32⟩
  | 105 => ⟨S128x128x128, .i32⟩
  | 106 => ⟨S128x128x128, .i32⟩
  | 107 => ⟨S_, .i32⟩
  | 108 => ⟨S128x128x128, .i32⟩
  | 109 => ⟨S128x128x128, .i32⟩
  | 110 => ⟨S_, .i32⟩
  | 111 => ⟨S128x128x128, .i32⟩
  | 112 => ⟨S128x128x128, .i32⟩
  | 113 => ⟨S128x128x128, .i32⟩
  | 114 => ⟨S128x128x128, .i32⟩
  | 115 => ⟨S128x128x128, .i32⟩
  | 116 => ⟨S_, .i32⟩
  | 117 => ⟨S128x128x128, .i32⟩
  | 118 => ⟨S128x128x128, .i32⟩
  | 119 => ⟨S_, .i32⟩
  | 120 => ⟨S128x128x128, .i32⟩
  | 121 => ⟨S128x128x128, .i32⟩
  | 122 => ⟨S128x128x128, .i32⟩
  | 123 => ⟨S128x128x128, .i32⟩
  | 124 => ⟨S128x128x128, .i32⟩
  | 125 => ⟨S128x128x128, .i32⟩
  | 126 => ⟨S128x128x128, .i32⟩
  | 127 => ⟨S128x128x128, .i32⟩
  | _ => ⟨S128x128x512, .f32⟩

abbrev hbmTy0_3 (i : Nat) : BufTy := match i % 128 with
  | 0 => ⟨S_, .i32⟩
  | 1 => ⟨S128x128x128, .i32⟩
  | 2 => ⟨S128x128x128, .i32⟩
  | 3 => ⟨S128x128x128, .i32⟩
  | 4 => ⟨S_, .i32⟩
  | 5 => ⟨S128x128x128, .i32⟩
  | 6 => ⟨S128x128x128, .i32⟩
  | 7 => ⟨S_, .i32⟩
  | 8 => ⟨S128x128x128, .i32⟩
  | 9 => ⟨S128x128x128, .i32⟩
  | 10 => ⟨S128x128x128, .i32⟩
  | 11 => ⟨S128x128x128, .i32⟩
  | 12 => ⟨S128x128x128, .i32⟩
  | 13 => ⟨S_, .i32⟩
  | 14 => ⟨S128x128x128, .i32⟩
  | 15 => ⟨S128x128x128, .i32⟩
  | 16 => ⟨S_, .i32⟩
  | 17 => ⟨S128x128x128, .i32⟩
  | 18 => ⟨S128x128x128, .i32⟩
  | 19 => ⟨S128x128x128, .i32⟩
  | 20 => ⟨S128x128x128, .i32⟩
  | 21 => ⟨S128x128x128, .i32⟩
  | 22 => ⟨S_, .i32⟩
  | 23 => ⟨S128x128x128, .i32⟩
  | 24 => ⟨S128x128x128, .i32⟩
  | 25 => ⟨S_, .i32⟩
  | 26 => ⟨S128x128x128, .i32⟩
  | 27 => ⟨S128x128x128, .i32⟩
  | 28 => ⟨S128x128x128, .i32⟩
  | 29 => ⟨S128x128x128, .i32⟩
  | 30 => ⟨S128x128x128, .i32⟩
  | 31 => ⟨S_, .i32⟩
  | 32 => ⟨S128x128x128, .i32⟩
  | 33 => ⟨S128x128x128, .i32⟩
  | 34 => ⟨S_, .i32⟩
  | 35 => ⟨S128x128x128, .i32⟩
  | 36 => ⟨S128x128x128, .i32⟩
  | 37 => ⟨S128x128x128, .i32⟩
  | 38 => ⟨S128x128x128, .i32⟩
  | 39 => ⟨S128x128x128, .i32⟩
  | 40 => ⟨S128x128x128, .i32⟩
  | 41 => ⟨S128x128x128, .i32⟩
  | 42 => ⟨S128x128x128, .i32⟩
  | 43 => ⟨S_, .i32⟩
  | 44 => ⟨S128x128x128, .i32⟩
  | 45 => ⟨S128x128x128, .i32⟩
  | 46 => ⟨S128x128x128, .i32⟩
  | 47 => ⟨S_, .i32⟩
  | 48 => ⟨S128x128x128, .i32⟩
  | 49 => ⟨S128x128x128, .i32⟩
  | 50 => ⟨S_, .i32⟩
  | 51 => ⟨S128x128x128, .i32⟩
  | 52 => ⟨S128x128x128, .i32⟩
  | 53 => ⟨S128x128x128, .i32⟩
  | 54 => ⟨S128x128x128, .i32⟩
  | 55 => ⟨S128x128x128, .i32⟩
  | 56 => ⟨S_, .i32⟩
  | 57 => ⟨S128x128x128, .i32⟩
  | 58 => ⟨S128x128x128, .i32⟩
  | 59 => ⟨S_, .i32⟩
  | 60 => ⟨S128x128x128, .i32⟩
  | 61 => ⟨S128x128x128, .i32⟩
  | 62 => ⟨S128x128x128, .i32⟩
  | 63 => ⟨S128x128x128, .i32⟩
  | 64 => ⟨S128x128x128, .i32⟩
  | 65 => ⟨S_, .i32⟩
  | 66 => ⟨S128x128x128, .i32⟩
  | 67 => ⟨S128x128x128, .i32⟩
  | 68 => ⟨S_, .i32⟩
  | 69 => ⟨S128x128x128, .i32⟩
  | 70 => ⟨S128x128x128, .i32⟩
  | 71 => ⟨S128x128x128, .i32⟩
  | 72 => ⟨S128x128x128, .i32⟩
  | 73 => ⟨S128x128x128, .i32⟩
  | 74 => ⟨S_, .i32⟩
  | 75 => ⟨S128x128x128, .i32⟩
  | 76 => ⟨S128x128x128, .i32⟩
  | 77 => ⟨S_, .i32⟩
  | 78 => ⟨S128x128x128, .i32⟩
  | 79 => ⟨S128x128x128, .i32⟩
  | 80 => ⟨S128x128x128, .i32⟩
  | 81 => ⟨S128x128x128, .i32⟩
  | 82 => ⟨S128x128x128, .i32⟩
  | 83 => ⟨S128x128x128, .i32⟩
  | 84 => ⟨S128x128x128, .i32⟩
  | 85 => ⟨S128x128x128, .i32⟩
  | 86 => ⟨S_, .i32⟩
  | 87 => ⟨S128x128x128, .i32⟩
  | 88 => ⟨S128x128x128, .i32⟩
  | 89 => ⟨S128x128x128, .i32⟩
  | 90 => ⟨S_, .i32⟩
  | 91 => ⟨S128x128x128, .i32⟩
  | 92 => ⟨S128x128x128, .i32⟩
  | 93 => ⟨S_, .i32⟩
  | 94 => ⟨S128x128x128, .i32⟩
  | 95 => ⟨S128x128x128, .i32⟩
  | 96 => ⟨S128x128x128, .i32⟩
  | 97 => ⟨S128x128x128, .i32⟩
  | 98 => ⟨S128x128x128, .i32⟩
  | 99 => ⟨S_, .i32⟩
  | 100 => ⟨S128x128x128, .i32⟩
  | 101 => ⟨S128x128x128, .i32⟩
  | 102 => ⟨S_, .i32⟩
  | 103 => ⟨S128x128x128, .i32⟩
  | 104 => ⟨S128x128x128, .i32⟩
  | 105 => ⟨S128x128x128, .i32⟩
  | 106 => ⟨S128x128x128, .i32⟩
  | 107 => ⟨S128x128x128, .i32⟩
  | 108 => ⟨S_, .i32⟩
  | 109 => ⟨S128x128x128, .i32⟩
  | 110 => ⟨S128x128x128, .i32⟩
  | 111 => ⟨S_, .i32⟩
  | 112 => ⟨S128x128x128, .i32⟩
  | 113 => ⟨S128x128x128, .i32⟩
  | 114 => ⟨S128x128x128, .i32⟩
  | 115 => ⟨S128x128x128, .i32⟩
  | 116 => ⟨S128x128x128, .i32⟩
  | 117 => ⟨S_, .i32⟩
  | 118 => ⟨S128x128x128, .i32⟩
  | 119 => ⟨S128x128x128, .i32⟩
  | 120 => ⟨S_, .i32⟩
  | 121 => ⟨S128x128x128, .i32⟩
  | 122 => ⟨S128x128x128, .i32⟩
  | 123 => ⟨S128x128x128, .i32⟩
  | 124 => ⟨S128x128x128, .i32⟩
  | 125 => ⟨S128x128x128, .i32⟩
  | 126 => ⟨S128x128x128, .i32⟩
  | 127 => ⟨S128x128x128, .i32⟩
  | _ => ⟨S128x128x512, .f32⟩

abbrev hbmTy0_4 (i : Nat) : BufTy := match i % 128 with
  | 0 => ⟨S128x128x128, .i32⟩
  | 1 => ⟨S_, .i32⟩
  | 2 => ⟨S128x128x128, .i32⟩
  | 3 => ⟨S128x128x128, .i32⟩
  | 4 => ⟨S128x128x128, .i32⟩
  | 5 => ⟨S_, .i32⟩
  | 6 => ⟨S128x128x128, .i32⟩
  | 7 => ⟨S128x128x128, .i32⟩
  | 8 => ⟨S_, .i32⟩
  | 9 => ⟨S128x128x128, .i32⟩
  | 10 => ⟨S128x128x128, .i32⟩
  | 11 => ⟨S128x128x128, .f32⟩
  | 12 => ⟨S_, .f32⟩
  | 13 => ⟨S128x128x128, .f32⟩
  | 14 => ⟨S128x128x128, .f32⟩
  | 15 => ⟨S1x1, .f32⟩
  | 16 => ⟨S1x1x1, .f32⟩
  | 17 => ⟨S128x128x128, .f32⟩
  | 18 => ⟨S128x128x128, .f32⟩
  | 19 => ⟨S1x1x1, .f32⟩
  | 20 => ⟨S128x128x128, .f32⟩
  | 21 => ⟨S128x128x128, .f32⟩
  | 22 => ⟨S1x1x1, .f32⟩
  | 23 => ⟨S128x128x128, .f32⟩
  | 24 => ⟨S128x128x128, .f32⟩
  | 25 => ⟨S128x128x128, .f32⟩
  | 26 => ⟨S128x128x128, .f32⟩
  | 27 => ⟨S128x128x128, .f32⟩
  | 28 => ⟨S128x128x128, .f32⟩
  | 29 => ⟨S128x128x128, .f32⟩
  | 30 => ⟨S128x128, .i32⟩
  | 31 => ⟨S1x128, .f32⟩
  | 32 => ⟨S1x128, .f32⟩
  | 33 => ⟨S128x128, .i32⟩
  | 34 => ⟨S128x1, .i32⟩
  | 35 => ⟨S128x129, .i32⟩
  | 36 => ⟨S128, .f32⟩
  | 37 => ⟨S128, .f32⟩
  | _ => ⟨S128x128x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S128x128x512, .f32⟩

abbrev bufTy : (tb : Table) → Fin (tcTables nBuf tb) → BufTy
  | .hbm, ⟨i, _⟩ => hbmTy i
  | .local _ .vmem, ⟨0, _⟩ => ⟨S128x128x512, .f32⟩
  | .local _ .vmem, ⟨1, _⟩ => ⟨S512x256, .f32⟩
  | .local _ .vmem, ⟨2, _⟩ => ⟨S512x360, .f32⟩
  | .local _ .vmem, ⟨3, _⟩ => ⟨S512x360, .f32⟩
  | .local _ .vmem, ⟨4, _⟩ => ⟨S512x360, .f32⟩
  | .local _ .vmem, ⟨5, _⟩ => ⟨S360x256, .f32⟩
  | .local _ .vmem, ⟨6, _⟩ => ⟨S1x256, .f32⟩
  | .local _ .vmem, ⟨7, _⟩ => ⟨S128x128x128, .f32⟩
  | .local _ .vmem, ⟨8, _⟩ => ⟨S128x128, .i32⟩
  | .local _ .vmem, ⟨9, _⟩ => ⟨S1x128, .f32⟩
  | .local _ .vmem, ⟨10, _⟩ => ⟨S1x128, .f32⟩
  | .local _ .vmem, ⟨11, _⟩ => ⟨S128x128x256, .f32⟩
  | .local _ .vmem, ⟨12, _⟩ => ⟨S128x128, .f32⟩
  | .local _ .vmem, ⟨13, _⟩ => ⟨S128x128, .f32⟩
  | .local _ .vmem, ⟨14, _⟩ => ⟨S128x512, .f32⟩
  | .local _ .vmem, ⟨15, _⟩ => ⟨S4x128x360, .f32⟩
  | .local _ .vmem, ⟨16, _⟩ => ⟨S128x256, .f32⟩
  | .local _ .vmem, ⟨17, _⟩ => ⟨S1x128, .i32⟩
  | .local _ .smem, ⟨0, _⟩ => ⟨S1x128, .i32⟩
  | _, _ => ⟨S128x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_c_0 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_call0_v0 : Ref sig .tc := ⟨.hbm, 41, rfl⟩
abbrev main_call0_call0_c : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_c_0 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_c_1 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_call0_v12 : Ref sig .tc := ⟨.hbm, 56, rfl⟩
abbrev main_call0_call0_v13 : Ref sig .tc := ⟨.hbm, 57, rfl⟩
abbrev main_call0_call0_c_2 : Ref sig .tc := ⟨.hbm, 58, rfl⟩
abbrev main_call0_call0_v14 : Ref sig .tc := ⟨.hbm, 59, rfl⟩
abbrev main_call0_call0_v15 : Ref sig .tc := ⟨.hbm, 60, rfl⟩
abbrev main_call0_call0_c_3 : Ref sig .tc := ⟨.hbm, 61, rfl⟩
abbrev main_call0_call0_v16 : Ref sig .tc := ⟨.hbm, 62, rfl⟩
abbrev main_call0_call0_v17 : Ref sig .tc := ⟨.hbm, 63, rfl⟩
abbrev main_call0_call0_v18 : Ref sig .tc := ⟨.hbm, 64, rfl⟩
abbrev main_call0_call0_v19 : Ref sig .tc := ⟨.hbm, 65, rfl⟩
abbrev main_call0_call0_v20 : Ref sig .tc := ⟨.hbm, 66, rfl⟩
abbrev main_call0_call0_c_4 : Ref sig .tc := ⟨.hbm, 67, rfl⟩
abbrev main_call0_call0_v21 : Ref sig .tc := ⟨.hbm, 68, rfl⟩
abbrev main_call0_call0_v22 : Ref sig .tc := ⟨.hbm, 69, rfl⟩
abbrev main_call0_call0_c_5 : Ref sig .tc := ⟨.hbm, 70, rfl⟩
abbrev main_call0_call0_v23 : Ref sig .tc := ⟨.hbm, 71, rfl⟩
abbrev main_call0_call0_v24 : Ref sig .tc := ⟨.hbm, 72, rfl⟩
abbrev main_call0_call0_v25 : Ref sig .tc := ⟨.hbm, 73, rfl⟩
abbrev main_call0_call0_v26 : Ref sig .tc := ⟨.hbm, 74, rfl⟩
abbrev main_call0_call0_v27 : Ref sig .tc := ⟨.hbm, 75, rfl⟩
abbrev main_call0_call0_c_6 : Ref sig .tc := ⟨.hbm, 76, rfl⟩
abbrev main_call0_call0_v28 : Ref sig .tc := ⟨.hbm, 77, rfl⟩
abbrev main_call0_call0_v29 : Ref sig .tc := ⟨.hbm, 78, rfl⟩
abbrev main_call0_call0_c_7 : Ref sig .tc := ⟨.hbm, 79, rfl⟩
abbrev main_call0_call0_v30 : Ref sig .tc := ⟨.hbm, 80, rfl⟩
abbrev main_call0_call0_v31 : Ref sig .tc := ⟨.hbm, 81, rfl⟩
abbrev main_call0_call0_v32 : Ref sig .tc := ⟨.hbm, 82, rfl⟩
abbrev main_call0_call0_v33 : Ref sig .tc := ⟨.hbm, 83, rfl⟩
abbrev main_call0_call0_v34 : Ref sig .tc := ⟨.hbm, 84, rfl⟩
abbrev main_call0_call0_v35 : Ref sig .tc := ⟨.hbm, 85, rfl⟩
abbrev main_call0_call0_v36 : Ref sig .tc := ⟨.hbm, 86, rfl⟩
abbrev main_call0_call0_v37 : Ref sig .tc := ⟨.hbm, 87, rfl⟩
abbrev main_call0_call0_c_8 : Ref sig .tc := ⟨.hbm, 88, rfl⟩
abbrev main_call0_call0_v38 : Ref sig .tc := ⟨.hbm, 89, rfl⟩
abbrev main_call0_call0_v39 : Ref sig .tc := ⟨.hbm, 90, rfl⟩
abbrev main_call0_call0_v40 : Ref sig .tc := ⟨.hbm, 91, rfl⟩
abbrev main_call0_call0_c_9 : Ref sig .tc := ⟨.hbm, 92, rfl⟩
abbrev main_call0_call0_v41 : Ref sig .tc := ⟨.hbm, 93, rfl⟩
abbrev main_call0_call0_v42 : Ref sig .tc := ⟨.hbm, 94, rfl⟩
abbrev main_call0_call0_c_10 : Ref sig .tc := ⟨.hbm, 95, rfl⟩
abbrev main_call0_call0_v43 : Ref sig .tc := ⟨.hbm, 96, rfl⟩
abbrev main_call0_call0_v44 : Ref sig .tc := ⟨.hbm, 97, rfl⟩
abbrev main_call0_call0_v45 : Ref sig .tc := ⟨.hbm, 98, rfl⟩
abbrev main_call0_call0_v46 : Ref sig .tc := ⟨.hbm, 99, rfl⟩
abbrev main_call0_call0_v47 : Ref sig .tc := ⟨.hbm, 100, rfl⟩
abbrev main_call0_call0_c_11 : Ref sig .tc := ⟨.hbm, 101, rfl⟩
abbrev main_call0_call0_v48 : Ref sig .tc := ⟨.hbm, 102, rfl⟩
abbrev main_call0_call0_v49 : Ref sig .tc := ⟨.hbm, 103, rfl⟩
abbrev main_call0_call0_c_12 : Ref sig .tc := ⟨.hbm, 104, rfl⟩
abbrev main_call0_call0_v50 : Ref sig .tc := ⟨.hbm, 105, rfl⟩
abbrev main_call0_call0_v51 : Ref sig .tc := ⟨.hbm, 106, rfl⟩
abbrev main_call0_call0_v52 : Ref sig .tc := ⟨.hbm, 107, rfl⟩
abbrev main_call0_call0_v53 : Ref sig .tc := ⟨.hbm, 108, rfl⟩
abbrev main_call0_call0_v54 : Ref sig .tc := ⟨.hbm, 109, rfl⟩
abbrev main_call0_call0_c_13 : Ref sig .tc := ⟨.hbm, 110, rfl⟩
abbrev main_call0_call0_v55 : Ref sig .tc := ⟨.hbm, 111, rfl⟩
abbrev main_call0_call0_v56 : Ref sig .tc := ⟨.hbm, 112, rfl⟩
abbrev main_call0_call0_c_14 : Ref sig .tc := ⟨.hbm, 113, rfl⟩
abbrev main_call0_call0_v57 : Ref sig .tc := ⟨.hbm, 114, rfl⟩
abbrev main_call0_call0_v58 : Ref sig .tc := ⟨.hbm, 115, rfl⟩
abbrev main_call0_call0_v59 : Ref sig .tc := ⟨.hbm, 116, rfl⟩
abbrev main_call0_call0_v60 : Ref sig .tc := ⟨.hbm, 117, rfl⟩
abbrev main_call0_call0_v61 : Ref sig .tc := ⟨.hbm, 118, rfl⟩
abbrev main_call0_call0_c_15 : Ref sig .tc := ⟨.hbm, 119, rfl⟩
abbrev main_call0_call0_v62 : Ref sig .tc := ⟨.hbm, 120, rfl⟩
abbrev main_call0_call0_v63 : Ref sig .tc := ⟨.hbm, 121, rfl⟩
abbrev main_call0_call0_c_16 : Ref sig .tc := ⟨.hbm, 122, rfl⟩
abbrev main_call0_call0_v64 : Ref sig .tc := ⟨.hbm, 123, rfl⟩
abbrev main_call0_call0_v65 : Ref sig .tc := ⟨.hbm, 124, rfl⟩
abbrev main_call0_call0_v66 : Ref sig .tc := ⟨.hbm, 125, rfl⟩
abbrev main_call0_call0_v67 : Ref sig .tc := ⟨.hbm, 126, rfl⟩
abbrev main_call0_call0_v68 : Ref sig .tc := ⟨.hbm, 127, rfl⟩
abbrev main_call0_call0_v69 : Ref sig .tc := ⟨.hbm, 128, rfl⟩
abbrev main_call0_call0_v70 : Ref sig .tc := ⟨.hbm, 129, rfl⟩
abbrev main_call0_call0_v71 : Ref sig .tc := ⟨.hbm, 130, rfl⟩
abbrev main_call0_call0_c_17 : Ref sig .tc := ⟨.hbm, 131, rfl⟩
abbrev main_call0_call0_v72 : Ref sig .tc := ⟨.hbm, 132, rfl⟩
abbrev main_call0_call0_v73 : Ref sig .tc := ⟨.hbm, 133, rfl⟩
abbrev main_call0_call0_v74 : Ref sig .tc := ⟨.hbm, 134, rfl⟩
abbrev main_call0_call0_c_18 : Ref sig .tc := ⟨.hbm, 135, rfl⟩
abbrev main_call0_call0_v75 : Ref sig .tc := ⟨.hbm, 136, rfl⟩
abbrev main_call0_call0_v76 : Ref sig .tc := ⟨.hbm, 137, rfl⟩
abbrev main_call0_call0_c_19 : Ref sig .tc := ⟨.hbm, 138, rfl⟩
abbrev main_call0_call0_v77 : Ref sig .tc := ⟨.hbm, 139, rfl⟩
abbrev main_call0_call0_v78 : Ref sig .tc := ⟨.hbm, 140, rfl⟩
abbrev main_call0_call0_v79 : Ref sig .tc := ⟨.hbm, 141, rfl⟩
abbrev main_call0_call0_v80 : Ref sig .tc := ⟨.hbm, 142, rfl⟩
abbrev main_call0_call0_v81 : Ref sig .tc := ⟨.hbm, 143, rfl⟩
abbrev main_call0_call0_c_20 : Ref sig .tc := ⟨.hbm, 144, rfl⟩
abbrev main_call0_call0_v82 : Ref sig .tc := ⟨.hbm, 145, rfl⟩
abbrev main_call0_call0_v83 : Ref sig .tc := ⟨.hbm, 146, rfl⟩
abbrev main_call0_call0_c_21 : Ref sig .tc := ⟨.hbm, 147, rfl⟩
abbrev main_call0_call0_v84 : Ref sig .tc := ⟨.hbm, 148, rfl⟩
abbrev main_call0_call0_v85 : Ref sig .tc := ⟨.hbm, 149, rfl⟩
abbrev main_call0_call0_v86 : Ref sig .tc := ⟨.hbm, 150, rfl⟩
abbrev main_call0_call0_v87 : Ref sig .tc := ⟨.hbm, 151, rfl⟩
abbrev main_call0_call0_v88 : Ref sig .tc := ⟨.hbm, 152, rfl⟩
abbrev main_call0_call0_c_22 : Ref sig .tc := ⟨.hbm, 153, rfl⟩
abbrev main_call0_call0_v89 : Ref sig .tc := ⟨.hbm, 154, rfl⟩
abbrev main_call0_call0_v90 : Ref sig .tc := ⟨.hbm, 155, rfl⟩
abbrev main_call0_call0_c_23 : Ref sig .tc := ⟨.hbm, 156, rfl⟩
abbrev main_call0_call0_v91 : Ref sig .tc := ⟨.hbm, 157, rfl⟩
abbrev main_call0_call0_v92 : Ref sig .tc := ⟨.hbm, 158, rfl⟩
abbrev main_call0_call0_v93 : Ref sig .tc := ⟨.hbm, 159, rfl⟩
abbrev main_call0_call0_v94 : Ref sig .tc := ⟨.hbm, 160, rfl⟩
abbrev main_call0_call0_v95 : Ref sig .tc := ⟨.hbm, 161, rfl⟩
abbrev main_call0_call0_c_24 : Ref sig .tc := ⟨.hbm, 162, rfl⟩
abbrev main_call0_call0_v96 : Ref sig .tc := ⟨.hbm, 163, rfl⟩
abbrev main_call0_call0_v97 : Ref sig .tc := ⟨.hbm, 164, rfl⟩
abbrev main_call0_call0_c_25 : Ref sig .tc := ⟨.hbm, 165, rfl⟩
abbrev main_call0_call0_v98 : Ref sig .tc := ⟨.hbm, 166, rfl⟩
abbrev main_call0_call0_v99 : Ref sig .tc := ⟨.hbm, 167, rfl⟩
abbrev main_call0_call0_v100 : Ref sig .tc := ⟨.hbm, 168, rfl⟩
abbrev main_call0_call0_v101 : Ref sig .tc := ⟨.hbm, 169, rfl⟩
abbrev main_call0_call0_v102 : Ref sig .tc := ⟨.hbm, 170, rfl⟩
abbrev main_call0_call0_v103 : Ref sig .tc := ⟨.hbm, 171, rfl⟩
abbrev main_call0_call0_v104 : Ref sig .tc := ⟨.hbm, 172, rfl⟩
abbrev main_call0_call0_v105 : Ref sig .tc := ⟨.hbm, 173, rfl⟩
abbrev main_call0_call0_c_26 : Ref sig .tc := ⟨.hbm, 174, rfl⟩
abbrev main_call0_call0_v106 : Ref sig .tc := ⟨.hbm, 175, rfl⟩
abbrev main_call0_call0_v107 : Ref sig .tc := ⟨.hbm, 176, rfl⟩
abbrev main_call0_call0_v108 : Ref sig .tc := ⟨.hbm, 177, rfl⟩
abbrev main_call0_call0_c_27 : Ref sig .tc := ⟨.hbm, 178, rfl⟩
abbrev main_call0_call0_v109 : Ref sig .tc := ⟨.hbm, 179, rfl⟩
abbrev main_call0_call0_v110 : Ref sig .tc := ⟨.hbm, 180, rfl⟩
abbrev main_call0_call0_c_28 : Ref sig .tc := ⟨.hbm, 181, rfl⟩
abbrev main_call0_call0_v111 : Ref sig .tc := ⟨.hbm, 182, rfl⟩
abbrev main_call0_call0_v112 : Ref sig .tc := ⟨.hbm, 183, rfl⟩
abbrev main_call0_call0_v113 : Ref sig .tc := ⟨.hbm, 184, rfl⟩
abbrev main_call0_call0_v114 : Ref sig .tc := ⟨.hbm, 185, rfl⟩
abbrev main_call0_call0_v115 : Ref sig .tc := ⟨.hbm, 186, rfl⟩
abbrev main_call0_call0_c_29 : Ref sig .tc := ⟨.hbm, 187, rfl⟩
abbrev main_call0_call0_v116 : Ref sig .tc := ⟨.hbm, 188, rfl⟩
abbrev main_call0_call0_v117 : Ref sig .tc := ⟨.hbm, 189, rfl⟩
abbrev main_call0_call0_c_30 : Ref sig .tc := ⟨.hbm, 190, rfl⟩
abbrev main_call0_call0_v118 : Ref sig .tc := ⟨.hbm, 191, rfl⟩
abbrev main_call0_call0_v119 : Ref sig .tc := ⟨.hbm, 192, rfl⟩
abbrev main_call0_call0_v120 : Ref sig .tc := ⟨.hbm, 193, rfl⟩
abbrev main_call0_call0_v121 : Ref sig .tc := ⟨.hbm, 194, rfl⟩
abbrev main_call0_call0_v122 : Ref sig .tc := ⟨.hbm, 195, rfl⟩
abbrev main_call0_call0_c_31 : Ref sig .tc := ⟨.hbm, 196, rfl⟩
abbrev main_call0_call0_v123 : Ref sig .tc := ⟨.hbm, 197, rfl⟩
abbrev main_call0_call0_v124 : Ref sig .tc := ⟨.hbm, 198, rfl⟩
abbrev main_call0_call0_c_32 : Ref sig .tc := ⟨.hbm, 199, rfl⟩
abbrev main_call0_call0_v125 : Ref sig .tc := ⟨.hbm, 200, rfl⟩
abbrev main_call0_call0_v126 : Ref sig .tc := ⟨.hbm, 201, rfl⟩
abbrev main_call0_call0_v127 : Ref sig .tc := ⟨.hbm, 202, rfl⟩
abbrev main_call0_call0_v128 : Ref sig .tc := ⟨.hbm, 203, rfl⟩
abbrev main_call0_call0_v129 : Ref sig .tc := ⟨.hbm, 204, rfl⟩
abbrev main_call0_call0_c_33 : Ref sig .tc := ⟨.hbm, 205, rfl⟩
abbrev main_call0_call0_v130 : Ref sig .tc := ⟨.hbm, 206, rfl⟩
abbrev main_call0_call0_v131 : Ref sig .tc := ⟨.hbm, 207, rfl⟩
abbrev main_call0_call0_c_34 : Ref sig .tc := ⟨.hbm, 208, rfl⟩
abbrev main_call0_call0_v132 : Ref sig .tc := ⟨.hbm, 209, rfl⟩
abbrev main_call0_call0_v133 : Ref sig .tc := ⟨.hbm, 210, rfl⟩
abbrev main_call0_call0_v134 : Ref sig .tc := ⟨.hbm, 211, rfl⟩
abbrev main_call0_call0_v135 : Ref sig .tc := ⟨.hbm, 212, rfl⟩
abbrev main_call0_call0_v136 : Ref sig .tc := ⟨.hbm, 213, rfl⟩
abbrev main_call0_call0_v137 : Ref sig .tc := ⟨.hbm, 214, rfl⟩
abbrev main_call0_call0_v138 : Ref sig .tc := ⟨.hbm, 215, rfl⟩
abbrev main_call0_call0_v139 : Ref sig .tc := ⟨.hbm, 216, rfl⟩
abbrev main_call0_call0_c_35 : Ref sig .tc := ⟨.hbm, 217, rfl⟩
abbrev main_call0_call0_v140 : Ref sig .tc := ⟨.hbm, 218, rfl⟩
abbrev main_call0_call0_v141 : Ref sig .tc := ⟨.hbm, 219, rfl⟩
abbrev main_call0_call0_v142 : Ref sig .tc := ⟨.hbm, 220, rfl⟩
abbrev main_call0_call0_c_36 : Ref sig .tc := ⟨.hbm, 221, rfl⟩
abbrev main_call0_call0_v143 : Ref sig .tc := ⟨.hbm, 222, rfl⟩
abbrev main_call0_call0_v144 : Ref sig .tc := ⟨.hbm, 223, rfl⟩
abbrev main_call0_call0_c_37 : Ref sig .tc := ⟨.hbm, 224, rfl⟩
abbrev main_call0_call0_v145 : Ref sig .tc := ⟨.hbm, 225, rfl⟩
abbrev main_call0_call0_v146 : Ref sig .tc := ⟨.hbm, 226, rfl⟩
abbrev main_call0_call0_v147 : Ref sig .tc := ⟨.hbm, 227, rfl⟩
abbrev main_call0_call0_v148 : Ref sig .tc := ⟨.hbm, 228, rfl⟩
abbrev main_call0_call0_v149 : Ref sig .tc := ⟨.hbm, 229, rfl⟩
abbrev main_call0_call0_c_38 : Ref sig .tc := ⟨.hbm, 230, rfl⟩
abbrev main_call0_call0_v150 : Ref sig .tc := ⟨.hbm, 231, rfl⟩
abbrev main_call0_call0_v151 : Ref sig .tc := ⟨.hbm, 232, rfl⟩
abbrev main_call0_call0_c_39 : Ref sig .tc := ⟨.hbm, 233, rfl⟩
abbrev main_call0_call0_v152 : Ref sig .tc := ⟨.hbm, 234, rfl⟩
abbrev main_call0_call0_v153 : Ref sig .tc := ⟨.hbm, 235, rfl⟩
abbrev main_call0_call0_v154 : Ref sig .tc := ⟨.hbm, 236, rfl⟩
abbrev main_call0_call0_v155 : Ref sig .tc := ⟨.hbm, 237, rfl⟩
abbrev main_call0_call0_v156 : Ref sig .tc := ⟨.hbm, 238, rfl⟩
abbrev main_call0_call0_c_40 : Ref sig .tc := ⟨.hbm, 239, rfl⟩
abbrev main_call0_call0_v157 : Ref sig .tc := ⟨.hbm, 240, rfl⟩
abbrev main_call0_call0_v158 : Ref sig .tc := ⟨.hbm, 241, rfl⟩
abbrev main_call0_call0_c_41 : Ref sig .tc := ⟨.hbm, 242, rfl⟩
abbrev main_call0_call0_v159 : Ref sig .tc := ⟨.hbm, 243, rfl⟩
abbrev main_call0_call0_v160 : Ref sig .tc := ⟨.hbm, 244, rfl⟩
abbrev main_call0_call0_v161 : Ref sig .tc := ⟨.hbm, 245, rfl⟩
abbrev main_call0_call0_v162 : Ref sig .tc := ⟨.hbm, 246, rfl⟩
abbrev main_call0_call0_v163 : Ref sig .tc := ⟨.hbm, 247, rfl⟩
abbrev main_call0_call0_c_42 : Ref sig .tc := ⟨.hbm, 248, rfl⟩
abbrev main_call0_call0_v164 : Ref sig .tc := ⟨.hbm, 249, rfl⟩
abbrev main_call0_call0_v165 : Ref sig .tc := ⟨.hbm, 250, rfl⟩
abbrev main_call0_call0_c_43 : Ref sig .tc := ⟨.hbm, 251, rfl⟩
abbrev main_call0_call0_v166 : Ref sig .tc := ⟨.hbm, 252, rfl⟩
abbrev main_call0_call0_v167 : Ref sig .tc := ⟨.hbm, 253, rfl⟩
abbrev main_call0_call0_v168 : Ref sig .tc := ⟨.hbm, 254, rfl⟩
abbrev main_call0_call0_v169 : Ref sig .tc := ⟨.hbm, 255, rfl⟩
abbrev main_call0_call0_v170 : Ref sig .tc := ⟨.hbm, 256, rfl⟩
abbrev main_call0_v13_0 : Ref sig .tc := ⟨.hbm, 257, rfl⟩
abbrev main_call0_call0_v172 : Ref sig .tc := ⟨.hbm, 258, rfl⟩
abbrev main_call0_call0_v173 : Ref sig .tc := ⟨.hbm, 259, rfl⟩
abbrev main_call0_call0_c_44 : Ref sig .tc := ⟨.hbm, 260, rfl⟩
abbrev main_call0_call0_v174 : Ref sig .tc := ⟨.hbm, 261, rfl⟩
abbrev main_call0_v13_1 : Ref sig .tc := ⟨.hbm, 262, rfl⟩
abbrev main_v16 : Ref sig .tc := ⟨.hbm, 263, rfl⟩
abbrev main_call1_cst : Ref sig .tc := ⟨.hbm, 264, rfl⟩
abbrev main_call1_cst_0 : Ref sig .tc := ⟨.hbm, 265, rfl⟩
abbrev main_call1_call0_v0 : Ref sig .tc := ⟨.hbm, 266, rfl⟩
abbrev main_call1_call0_v1 : Ref sig .tc := ⟨.hbm, 267, rfl⟩
abbrev main_call1_call0_v2 : Ref sig .tc := ⟨.hbm, 268, rfl⟩
abbrev main_call1_call0_v3 : Ref sig .tc := ⟨.hbm, 269, rfl⟩
abbrev main_call1_call0_v4 : Ref sig .tc := ⟨.hbm, 270, rfl⟩
abbrev main_call1_call0_v5 : Ref sig .tc := ⟨.hbm, 271, rfl⟩
abbrev main_call1_call0_v6 : Ref sig .tc := ⟨.hbm, 272, rfl⟩
abbrev main_call1_call0_v7 : Ref sig .tc := ⟨.hbm, 273, rfl⟩
abbrev main_call1_call0_v8 : Ref sig .tc := ⟨.hbm, 274, rfl⟩
abbrev main_call1_call0_c : Ref sig .tc := ⟨.hbm, 275, rfl⟩
abbrev main_call1_call0_v9 : Ref sig .tc := ⟨.hbm, 276, rfl⟩
abbrev main_call1_call0_v10 : Ref sig .tc := ⟨.hbm, 277, rfl⟩
abbrev main_call1_call0_c_0 : Ref sig .tc := ⟨.hbm, 278, rfl⟩
abbrev main_call1_call0_v11 : Ref sig .tc := ⟨.hbm, 279, rfl⟩
abbrev main_call1_call0_v12 : Ref sig .tc := ⟨.hbm, 280, rfl⟩
abbrev main_call1_call0_v13 : Ref sig .tc := ⟨.hbm, 281, rfl⟩
abbrev main_call1_call0_c_1 : Ref sig .tc := ⟨.hbm, 282, rfl⟩
abbrev main_call1_call0_v14 : Ref sig .tc := ⟨.hbm, 283, rfl⟩
abbrev main_call1_call0_v15 : Ref sig .tc := ⟨.hbm, 284, rfl⟩
abbrev main_call1_call0_v16 : Ref sig .tc := ⟨.hbm, 285, rfl⟩
abbrev main_call1_call0_v17 : Ref sig .tc := ⟨.hbm, 286, rfl⟩
abbrev main_call1_call0_v18 : Ref sig .tc := ⟨.hbm, 287, rfl⟩
abbrev main_call1_call0_v19 : Ref sig .tc := ⟨.hbm, 288, rfl⟩
abbrev main_call1_call0_v20 : Ref sig .tc := ⟨.hbm, 289, rfl⟩
abbrev main_call1_call0_v21 : Ref sig .tc := ⟨.hbm, 290, rfl⟩
abbrev main_call1_call0_call0_v0 : Ref sig .tc := ⟨.hbm, 291, rfl⟩
abbrev main_call1_call0_call0_c : Ref sig .tc := ⟨.hbm, 292, rfl⟩
abbrev main_call1_call0_call0_v1 : Ref sig .tc := ⟨.hbm, 293, rfl⟩
abbrev main_call1_call0_call0_v2 : Ref sig .tc := ⟨.hbm, 294, rfl⟩
abbrev main_call1_call0_call0_v3 : Ref sig .tc := ⟨.hbm, 295, rfl⟩
abbrev main_call1_call0_call0_v4 : Ref sig .tc := ⟨.hbm, 296, rfl⟩
abbrev main_call1_call0_call0_v5 : Ref sig .tc := ⟨.hbm, 297, rfl⟩
abbrev main_call1_call0_call0_v6 : Ref sig .tc := ⟨.hbm, 298, rfl⟩
abbrev main_call1_call0_call0_v7 : Ref sig .tc := ⟨.hbm, 299, rfl⟩
abbrev main_call1_call0_call0_v8 : Ref sig .tc := ⟨.hbm, 300, rfl⟩
abbrev main_call1_call0_call0_v9 : Ref sig .tc := ⟨.hbm, 301, rfl⟩
abbrev main_call1_call0_call0_c_0 : Ref sig .tc := ⟨.hbm, 302, rfl⟩
abbrev main_call1_call0_call0_v10 : Ref sig .tc := ⟨.hbm, 303, rfl⟩
abbrev main_call1_call0_call0_v11 : Ref sig .tc := ⟨.hbm, 304, rfl⟩
abbrev main_call1_call0_call0_c_1 : Ref sig .tc := ⟨.hbm, 305, rfl⟩
abbrev main_call1_call0_call0_v12 : Ref sig .tc := ⟨.hbm, 306, rfl⟩
abbrev main_call1_call0_call0_v13 : Ref sig .tc := ⟨.hbm, 307, rfl⟩
abbrev main_call1_call0_call0_v14 : Ref sig .tc := ⟨.hbm, 308, rfl⟩
abbrev main_call1_call0_call0_v15 : Ref sig .tc := ⟨.hbm, 309, rfl⟩
abbrev main_call1_call0_call0_v16 : Ref sig .tc := ⟨.hbm, 310, rfl⟩
abbrev main_call1_call0_call0_c_2 : Ref sig .tc := ⟨.hbm, 311, rfl⟩
abbrev main_call1_call0_call0_v17 : Ref sig .tc := ⟨.hbm, 312, rfl⟩
abbrev main_call1_call0_call0_v18 : Ref sig .tc := ⟨.hbm, 313, rfl⟩
abbrev main_call1_call0_call0_c_3 : Ref sig .tc := ⟨.hbm, 314, rfl⟩
abbrev main_call1_call0_call0_v19 : Ref sig .tc := ⟨.hbm, 315, rfl⟩
abbrev main_call1_call0_call0_v20 : Ref sig .tc := ⟨.hbm, 316, rfl⟩
abbrev main_call1_call0_call0_v21 : Ref sig .tc := ⟨.hbm, 317, rfl⟩
abbrev main_call1_call0_call0_v22 : Ref sig .tc := ⟨.hbm, 318, rfl⟩
abbrev main_call1_call0_call0_v23 : Ref sig .tc := ⟨.hbm, 319, rfl⟩
abbrev main_call1_call0_call0_c_4 : Ref sig .tc := ⟨.hbm, 320, rfl⟩
abbrev main_call1_call0_call0_v24 : Ref sig .tc := ⟨.hbm, 321, rfl⟩
abbrev main_call1_call0_call0_v25 : Ref sig .tc := ⟨.hbm, 322, rfl⟩
abbrev main_call1_call0_call0_c_5 : Ref sig .tc := ⟨.hbm, 323, rfl⟩
abbrev main_call1_call0_call0_v26 : Ref sig .tc := ⟨.hbm, 324, rfl⟩
abbrev main_call1_call0_call0_v27 : Ref sig .tc := ⟨.hbm, 325, rfl⟩
abbrev main_call1_call0_call0_v28 : Ref sig .tc := ⟨.hbm, 326, rfl⟩
abbrev main_call1_call0_call0_v29 : Ref sig .tc := ⟨.hbm, 327, rfl⟩
abbrev main_call1_call0_call0_v30 : Ref sig .tc := ⟨.hbm, 328, rfl⟩
abbrev main_call1_call0_call0_c_6 : Ref sig .tc := ⟨.hbm, 329, rfl⟩
abbrev main_call1_call0_call0_v31 : Ref sig .tc := ⟨.hbm, 330, rfl⟩
abbrev main_call1_call0_call0_v32 : Ref sig .tc := ⟨.hbm, 331, rfl⟩
abbrev main_call1_call0_call0_c_7 : Ref sig .tc := ⟨.hbm, 332, rfl⟩
abbrev main_call1_call0_call0_v33 : Ref sig .tc := ⟨.hbm, 333, rfl⟩
abbrev main_call1_call0_call0_v34 : Ref sig .tc := ⟨.hbm, 334, rfl⟩
abbrev main_call1_call0_call0_v35 : Ref sig .tc := ⟨.hbm, 335, rfl⟩
abbrev main_call1_call0_call0_v36 : Ref sig .tc := ⟨.hbm, 336, rfl⟩
abbrev main_call1_call0_call0_v37 : Ref sig .tc := ⟨.hbm, 337, rfl⟩
abbrev main_call1_call0_call0_v38 : Ref sig .tc := ⟨.hbm, 338, rfl⟩
abbrev main_call1_call0_call0_v39 : Ref sig .tc := ⟨.hbm, 339, rfl⟩
abbrev main_call1_call0_call0_v40 : Ref sig .tc := ⟨.hbm, 340, rfl⟩
abbrev main_call1_call0_call0_c_8 : Ref sig .tc := ⟨.hbm, 341, rfl⟩
abbrev main_call1_call0_call0_v41 : Ref sig .tc := ⟨.hbm, 342, rfl⟩
abbrev main_call1_call0_call0_v42 : Ref sig .tc := ⟨.hbm, 343, rfl⟩
abbrev main_call1_call0_call0_v43 : Ref sig .tc := ⟨.hbm, 344, rfl⟩
abbrev main_call1_call0_call0_c_9 : Ref sig .tc := ⟨.hbm, 345, rfl⟩
abbrev main_call1_call0_call0_v44 : Ref sig .tc := ⟨.hbm, 346, rfl⟩
abbrev main_call1_call0_call0_v45 : Ref sig .tc := ⟨.hbm, 347, rfl⟩
abbrev main_call1_call0_call0_c_10 : Ref sig .tc := ⟨.hbm, 348, rfl⟩
abbrev main_call1_call0_call0_v46 : Ref sig .tc := ⟨.hbm, 349, rfl⟩
abbrev main_call1_call0_call0_v47 : Ref sig .tc := ⟨.hbm, 350, rfl⟩
abbrev main_call1_call0_call0_v48 : Ref sig .tc := ⟨.hbm, 351, rfl⟩
abbrev main_call1_call0_call0_v49 : Ref sig .tc := ⟨.hbm, 352, rfl⟩
abbrev main_call1_call0_call0_v50 : Ref sig .tc := ⟨.hbm, 353, rfl⟩
abbrev main_call1_call0_call0_c_11 : Ref sig .tc := ⟨.hbm, 354, rfl⟩
abbrev main_call1_call0_call0_v51 : Ref sig .tc := ⟨.hbm, 355, rfl⟩
abbrev main_call1_call0_call0_v52 : Ref sig .tc := ⟨.hbm, 356, rfl⟩
abbrev main_call1_call0_call0_c_12 : Ref sig .tc := ⟨.hbm, 357, rfl⟩
abbrev main_call1_call0_call0_v53 : Ref sig .tc := ⟨.hbm, 358, rfl⟩
abbrev main_call1_call0_call0_v54 : Ref sig .tc := ⟨.hbm, 359, rfl⟩
abbrev main_call1_call0_call0_v55 : Ref sig .tc := ⟨.hbm, 360, rfl⟩
abbrev main_call1_call0_call0_v56 : Ref sig .tc := ⟨.hbm, 361, rfl⟩
abbrev main_call1_call0_call0_v57 : Ref sig .tc := ⟨.hbm, 362, rfl⟩
abbrev main_call1_call0_call0_c_13 : Ref sig .tc := ⟨.hbm, 363, rfl⟩
abbrev main_call1_call0_call0_v58 : Ref sig .tc := ⟨.hbm, 364, rfl⟩
abbrev main_call1_call0_call0_v59 : Ref sig .tc := ⟨.hbm, 365, rfl⟩
abbrev main_call1_call0_call0_c_14 : Ref sig .tc := ⟨.hbm, 366, rfl⟩
abbrev main_call1_call0_call0_v60 : Ref sig .tc := ⟨.hbm, 367, rfl⟩
abbrev main_call1_call0_call0_v61 : Ref sig .tc := ⟨.hbm, 368, rfl⟩
abbrev main_call1_call0_call0_v62 : Ref sig .tc := ⟨.hbm, 369, rfl⟩
abbrev main_call1_call0_call0_v63 : Ref sig .tc := ⟨.hbm, 370, rfl⟩
abbrev main_call1_call0_call0_v64 : Ref sig .tc := ⟨.hbm, 371, rfl⟩
abbrev main_call1_call0_call0_c_15 : Ref sig .tc := ⟨.hbm, 372, rfl⟩
abbrev main_call1_call0_call0_v65 : Ref sig .tc := ⟨.hbm, 373, rfl⟩
abbrev main_call1_call0_call0_v66 : Ref sig .tc := ⟨.hbm, 374, rfl⟩
abbrev main_call1_call0_call0_c_16 : Ref sig .tc := ⟨.hbm, 375, rfl⟩
abbrev main_call1_call0_call0_v67 : Ref sig .tc := ⟨.hbm, 376, rfl⟩
abbrev main_call1_call0_call0_v68 : Ref sig .tc := ⟨.hbm, 377, rfl⟩
abbrev main_call1_call0_call0_v69 : Ref sig .tc := ⟨.hbm, 378, rfl⟩
abbrev main_call1_call0_call0_v70 : Ref sig .tc := ⟨.hbm, 379, rfl⟩
abbrev main_call1_call0_call0_v71 : Ref sig .tc := ⟨.hbm, 380, rfl⟩
abbrev main_call1_call0_call0_v72 : Ref sig .tc := ⟨.hbm, 381, rfl⟩
abbrev main_call1_call0_call0_v73 : Ref sig .tc := ⟨.hbm, 382, rfl⟩
abbrev main_call1_call0_call0_v74 : Ref sig .tc := ⟨.hbm, 383, rfl⟩
abbrev main_call1_call0_call0_c_17 : Ref sig .tc := ⟨.hbm, 384, rfl⟩
abbrev main_call1_call0_call0_v75 : Ref sig .tc := ⟨.hbm, 385, rfl⟩
abbrev main_call1_call0_call0_v76 : Ref sig .tc := ⟨.hbm, 386, rfl⟩
abbrev main_call1_call0_call0_v77 : Ref sig .tc := ⟨.hbm, 387, rfl⟩
abbrev main_call1_call0_call0_c_18 : Ref sig .tc := ⟨.hbm, 388, rfl⟩
abbrev main_call1_call0_call0_v78 : Ref sig .tc := ⟨.hbm, 389, rfl⟩
abbrev main_call1_call0_call0_v79 : Ref sig .tc := ⟨.hbm, 390, rfl⟩
abbrev main_call1_call0_call0_c_19 : Ref sig .tc := ⟨.hbm, 391, rfl⟩
abbrev main_call1_call0_call0_v80 : Ref sig .tc := ⟨.hbm, 392, rfl⟩
abbrev main_call1_call0_call0_v81 : Ref sig .tc := ⟨.hbm, 393, rfl⟩
abbrev main_call1_call0_call0_v82 : Ref sig .tc := ⟨.hbm, 394, rfl⟩
abbrev main_call1_call0_call0_v83 : Ref sig .tc := ⟨.hbm, 395, rfl⟩
abbrev main_call1_call0_call0_v84 : Ref sig .tc := ⟨.hbm, 396, rfl⟩
abbrev main_call1_call0_call0_c_20 : Ref sig .tc := ⟨.hbm, 397, rfl⟩
abbrev main_call1_call0_call0_v85 : Ref sig .tc := ⟨.hbm, 398, rfl⟩
abbrev main_call1_call0_call0_v86 : Ref sig .tc := ⟨.hbm, 399, rfl⟩
abbrev main_call1_call0_call0_c_21 : Ref sig .tc := ⟨.hbm, 400, rfl⟩
abbrev main_call1_call0_call0_v87 : Ref sig .tc := ⟨.hbm, 401, rfl⟩
abbrev main_call1_call0_call0_v88 : Ref sig .tc := ⟨.hbm, 402, rfl⟩
abbrev main_call1_call0_call0_v89 : Ref sig .tc := ⟨.hbm, 403, rfl⟩
abbrev main_call1_call0_call0_v90 : Ref sig .tc := ⟨.hbm, 404, rfl⟩
abbrev main_call1_call0_call0_v91 : Ref sig .tc := ⟨.hbm, 405, rfl⟩
abbrev main_call1_call0_call0_c_22 : Ref sig .tc := ⟨.hbm, 406, rfl⟩
abbrev main_call1_call0_call0_v92 : Ref sig .tc := ⟨.hbm, 407, rfl⟩
abbrev main_call1_call0_call0_v93 : Ref sig .tc := ⟨.hbm, 408, rfl⟩
abbrev main_call1_call0_call0_c_23 : Ref sig .tc := ⟨.hbm, 409, rfl⟩
abbrev main_call1_call0_call0_v94 : Ref sig .tc := ⟨.hbm, 410, rfl⟩
abbrev main_call1_call0_call0_v95 : Ref sig .tc := ⟨.hbm, 411, rfl⟩
abbrev main_call1_call0_call0_v96 : Ref sig .tc := ⟨.hbm, 412, rfl⟩
abbrev main_call1_call0_call0_v97 : Ref sig .tc := ⟨.hbm, 413, rfl⟩
abbrev main_call1_call0_call0_v98 : Ref sig .tc := ⟨.hbm, 414, rfl⟩
abbrev main_call1_call0_call0_c_24 : Ref sig .tc := ⟨.hbm, 415, rfl⟩
abbrev main_call1_call0_call0_v99 : Ref sig .tc := ⟨.hbm, 416, rfl⟩
abbrev main_call1_call0_call0_v100 : Ref sig .tc := ⟨.hbm, 417, rfl⟩
abbrev main_call1_call0_call0_c_25 : Ref sig .tc := ⟨.hbm, 418, rfl⟩
abbrev main_call1_call0_call0_v101 : Ref sig .tc := ⟨.hbm, 419, rfl⟩
abbrev main_call1_call0_call0_v102 : Ref sig .tc := ⟨.hbm, 420, rfl⟩
abbrev main_call1_call0_call0_v103 : Ref sig .tc := ⟨.hbm, 421, rfl⟩
abbrev main_call1_call0_call0_v104 : Ref sig .tc := ⟨.hbm, 422, rfl⟩
abbrev main_call1_call0_call0_v105 : Ref sig .tc := ⟨.hbm, 423, rfl⟩
abbrev main_call1_call0_call0_v106 : Ref sig .tc := ⟨.hbm, 424, rfl⟩
abbrev main_call1_call0_call0_v107 : Ref sig .tc := ⟨.hbm, 425, rfl⟩
abbrev main_call1_call0_call0_v108 : Ref sig .tc := ⟨.hbm, 426, rfl⟩
abbrev main_call1_call0_call0_c_26 : Ref sig .tc := ⟨.hbm, 427, rfl⟩
abbrev main_call1_call0_call0_v109 : Ref sig .tc := ⟨.hbm, 428, rfl⟩
abbrev main_call1_call0_call0_v110 : Ref sig .tc := ⟨.hbm, 429, rfl⟩
abbrev main_call1_call0_call0_v111 : Ref sig .tc := ⟨.hbm, 430, rfl⟩
abbrev main_call1_call0_call0_c_27 : Ref sig .tc := ⟨.hbm, 431, rfl⟩
abbrev main_call1_call0_call0_v112 : Ref sig .tc := ⟨.hbm, 432, rfl⟩
abbrev main_call1_call0_call0_v113 : Ref sig .tc := ⟨.hbm, 433, rfl⟩
abbrev main_call1_call0_call0_c_28 : Ref sig .tc := ⟨.hbm, 434, rfl⟩
abbrev main_call1_call0_call0_v114 : Ref sig .tc := ⟨.hbm, 435, rfl⟩
abbrev main_call1_call0_call0_v115 : Ref sig .tc := ⟨.hbm, 436, rfl⟩
abbrev main_call1_call0_call0_v116 : Ref sig .tc := ⟨.hbm, 437, rfl⟩
abbrev main_call1_call0_call0_v117 : Ref sig .tc := ⟨.hbm, 438, rfl⟩
abbrev main_call1_call0_call0_v118 : Ref sig .tc := ⟨.hbm, 439, rfl⟩
abbrev main_call1_call0_call0_c_29 : Ref sig .tc := ⟨.hbm, 440, rfl⟩
abbrev main_call1_call0_call0_v119 : Ref sig .tc := ⟨.hbm, 441, rfl⟩
abbrev main_call1_call0_call0_v120 : Ref sig .tc := ⟨.hbm, 442, rfl⟩
abbrev main_call1_call0_call0_c_30 : Ref sig .tc := ⟨.hbm, 443, rfl⟩
abbrev main_call1_call0_call0_v121 : Ref sig .tc := ⟨.hbm, 444, rfl⟩
abbrev main_call1_call0_call0_v122 : Ref sig .tc := ⟨.hbm, 445, rfl⟩
abbrev main_call1_call0_call0_v123 : Ref sig .tc := ⟨.hbm, 446, rfl⟩
abbrev main_call1_call0_call0_v124 : Ref sig .tc := ⟨.hbm, 447, rfl⟩
abbrev main_call1_call0_call0_v125 : Ref sig .tc := ⟨.hbm, 448, rfl⟩
abbrev main_call1_call0_call0_c_31 : Ref sig .tc := ⟨.hbm, 449, rfl⟩
abbrev main_call1_call0_call0_v126 : Ref sig .tc := ⟨.hbm, 450, rfl⟩
abbrev main_call1_call0_call0_v127 : Ref sig .tc := ⟨.hbm, 451, rfl⟩
abbrev main_call1_call0_call0_c_32 : Ref sig .tc := ⟨.hbm, 452, rfl⟩
abbrev main_call1_call0_call0_v128 : Ref sig .tc := ⟨.hbm, 453, rfl⟩
abbrev main_call1_call0_call0_v129 : Ref sig .tc := ⟨.hbm, 454, rfl⟩
abbrev main_call1_call0_call0_v130 : Ref sig .tc := ⟨.hbm, 455, rfl⟩
abbrev main_call1_call0_call0_v131 : Ref sig .tc := ⟨.hbm, 456, rfl⟩
abbrev main_call1_call0_call0_v132 : Ref sig .tc := ⟨.hbm, 457, rfl⟩
abbrev main_call1_call0_call0_c_33 : Ref sig .tc := ⟨.hbm, 458, rfl⟩
abbrev main_call1_call0_call0_v133 : Ref sig .tc := ⟨.hbm, 459, rfl⟩
abbrev main_call1_call0_call0_v134 : Ref sig .tc := ⟨.hbm, 460, rfl⟩
abbrev main_call1_call0_call0_c_34 : Ref sig .tc := ⟨.hbm, 461, rfl⟩
abbrev main_call1_call0_call0_v135 : Ref sig .tc := ⟨.hbm, 462, rfl⟩
abbrev main_call1_call0_call0_v136 : Ref sig .tc := ⟨.hbm, 463, rfl⟩
abbrev main_call1_call0_call0_v137 : Ref sig .tc := ⟨.hbm, 464, rfl⟩
abbrev main_call1_call0_call0_v138 : Ref sig .tc := ⟨.hbm, 465, rfl⟩
abbrev main_call1_call0_call0_v139 : Ref sig .tc := ⟨.hbm, 466, rfl⟩
abbrev main_call1_call0_call0_v140 : Ref sig .tc := ⟨.hbm, 467, rfl⟩
abbrev main_call1_call0_call0_v141 : Ref sig .tc := ⟨.hbm, 468, rfl⟩
abbrev main_call1_call0_call0_v142 : Ref sig .tc := ⟨.hbm, 469, rfl⟩
abbrev main_call1_call0_call0_c_35 : Ref sig .tc := ⟨.hbm, 470, rfl⟩
abbrev main_call1_call0_call0_v143 : Ref sig .tc := ⟨.hbm, 471, rfl⟩
abbrev main_call1_call0_call0_v144 : Ref sig .tc := ⟨.hbm, 472, rfl⟩
abbrev main_call1_call0_call0_v145 : Ref sig .tc := ⟨.hbm, 473, rfl⟩
abbrev main_call1_call0_call0_c_36 : Ref sig .tc := ⟨.hbm, 474, rfl⟩
abbrev main_call1_call0_call0_v146 : Ref sig .tc := ⟨.hbm, 475, rfl⟩
abbrev main_call1_call0_call0_v147 : Ref sig .tc := ⟨.hbm, 476, rfl⟩
abbrev main_call1_call0_call0_c_37 : Ref sig .tc := ⟨.hbm, 477, rfl⟩
abbrev main_call1_call0_call0_v148 : Ref sig .tc := ⟨.hbm, 478, rfl⟩
abbrev main_call1_call0_call0_v149 : Ref sig .tc := ⟨.hbm, 479, rfl⟩
abbrev main_call1_call0_call0_v150 : Ref sig .tc := ⟨.hbm, 480, rfl⟩
abbrev main_call1_call0_call0_v151 : Ref sig .tc := ⟨.hbm, 481, rfl⟩
abbrev main_call1_call0_call0_v152 : Ref sig .tc := ⟨.hbm, 482, rfl⟩
abbrev main_call1_call0_call0_c_38 : Ref sig .tc := ⟨.hbm, 483, rfl⟩
abbrev main_call1_call0_call0_v153 : Ref sig .tc := ⟨.hbm, 484, rfl⟩
abbrev main_call1_call0_call0_v154 : Ref sig .tc := ⟨.hbm, 485, rfl⟩
abbrev main_call1_call0_call0_c_39 : Ref sig .tc := ⟨.hbm, 486, rfl⟩
abbrev main_call1_call0_call0_v155 : Ref sig .tc := ⟨.hbm, 487, rfl⟩
abbrev main_call1_call0_call0_v156 : Ref sig .tc := ⟨.hbm, 488, rfl⟩
abbrev main_call1_call0_call0_v157 : Ref sig .tc := ⟨.hbm, 489, rfl⟩
abbrev main_call1_call0_call0_v158 : Ref sig .tc := ⟨.hbm, 490, rfl⟩
abbrev main_call1_call0_call0_v159 : Ref sig .tc := ⟨.hbm, 491, rfl⟩
abbrev main_call1_call0_call0_c_40 : Ref sig .tc := ⟨.hbm, 492, rfl⟩
abbrev main_call1_call0_call0_v160 : Ref sig .tc := ⟨.hbm, 493, rfl⟩
abbrev main_call1_call0_call0_v161 : Ref sig .tc := ⟨.hbm, 494, rfl⟩
abbrev main_call1_call0_call0_c_41 : Ref sig .tc := ⟨.hbm, 495, rfl⟩
abbrev main_call1_call0_call0_v162 : Ref sig .tc := ⟨.hbm, 496, rfl⟩
abbrev main_call1_call0_call0_v163 : Ref sig .tc := ⟨.hbm, 497, rfl⟩
abbrev main_call1_call0_call0_v164 : Ref sig .tc := ⟨.hbm, 498, rfl⟩
abbrev main_call1_call0_call0_v165 : Ref sig .tc := ⟨.hbm, 499, rfl⟩
abbrev main_call1_call0_call0_v166 : Ref sig .tc := ⟨.hbm, 500, rfl⟩
abbrev main_call1_call0_call0_c_42 : Ref sig .tc := ⟨.hbm, 501, rfl⟩
abbrev main_call1_call0_call0_v167 : Ref sig .tc := ⟨.hbm, 502, rfl⟩
abbrev main_call1_call0_call0_v168 : Ref sig .tc := ⟨.hbm, 503, rfl⟩
abbrev main_call1_call0_call0_c_43 : Ref sig .tc := ⟨.hbm, 504, rfl⟩
abbrev main_call1_call0_call0_v169 : Ref sig .tc := ⟨.hbm, 505, rfl⟩
abbrev main_call1_call0_call0_v170 : Ref sig .tc := ⟨.hbm, 506, rfl⟩
abbrev main_call1_call0_call0_v171 : Ref sig .tc := ⟨.hbm, 507, rfl⟩
abbrev main_call1_call0_call0_v172 : Ref sig .tc := ⟨.hbm, 508, rfl⟩
abbrev main_call1_call0_call0_v173 : Ref sig .tc := ⟨.hbm, 509, rfl⟩
abbrev main_call1_call0_v22_0 : Ref sig .tc := ⟨.hbm, 510, rfl⟩
abbrev main_call1_call0_call0_v175 : Ref sig .tc := ⟨.hbm, 511, rfl⟩
abbrev main_call1_call0_call0_v176 : Ref sig .tc := ⟨.hbm, 512, rfl⟩
abbrev main_call1_call0_call0_c_44 : Ref sig .tc := ⟨.hbm, 513, rfl⟩
abbrev main_call1_call0_call0_v177 : Ref sig .tc := ⟨.hbm, 514, rfl⟩
abbrev main_call1_call0_v22_1 : Ref sig .tc := ⟨.hbm, 515, rfl⟩
abbrev main_call1_call0_v23 : Ref sig .tc := ⟨.hbm, 516, rfl⟩
abbrev main_call1_call0_c_2 : Ref sig .tc := ⟨.hbm, 517, rfl⟩
abbrev main_call1_call0_v24 : Ref sig .tc := ⟨.hbm, 518, rfl⟩
abbrev main_call1_call0_v25 : Ref sig .tc := ⟨.hbm, 519, rfl⟩
abbrev main_call1_call0_c_3 : Ref sig .tc := ⟨.hbm, 520, rfl⟩
abbrev main_call1_call0_v26 : Ref sig .tc := ⟨.hbm, 521, rfl⟩
abbrev main_call1_call0_v27 : Ref sig .tc := ⟨.hbm, 522, rfl⟩
abbrev main_call1_call0_v28 : Ref sig .tc := ⟨.hbm, 523, rfl⟩
abbrev main_call1_call0_cst : Ref sig .tc := ⟨.hbm, 524, rfl⟩
abbrev main_call1_call0_v29 : Ref sig .tc := ⟨.hbm, 525, rfl⟩
abbrev main_call1_call0_v30 : Ref sig .tc := ⟨.hbm, 526, rfl⟩
abbrev main_call1_call0_v31 : Ref sig .tc := ⟨.hbm, 527, rfl⟩
abbrev main_call1_call0_v32 : Ref sig .tc := ⟨.hbm, 528, rfl⟩
abbrev main_call1_call0_v33 : Ref sig .tc := ⟨.hbm, 529, rfl⟩
abbrev main_call1_call0_v34 : Ref sig .tc := ⟨.hbm, 530, rfl⟩
abbrev main_call1_call0_v35 : Ref sig .tc := ⟨.hbm, 531, rfl⟩
abbrev main_call1_call0_v36 : Ref sig .tc := ⟨.hbm, 532, rfl⟩
abbrev main_call1_call0_v37 : Ref sig .tc := ⟨.hbm, 533, rfl⟩
abbrev main_call1_call0_v38 : Ref sig .tc := ⟨.hbm, 534, rfl⟩
abbrev main_call1_call0_v39 : Ref sig .tc := ⟨.hbm, 535, rfl⟩
abbrev main_call1_v0 : Ref sig .tc := ⟨.hbm, 536, rfl⟩
abbrev main_call1_v1 : Ref sig .tc := ⟨.hbm, 537, rfl⟩
abbrev main_call1_v2 : Ref sig .tc := ⟨.hbm, 538, rfl⟩
abbrev main_call1_v3 : Ref sig .tc := ⟨.hbm, 539, rfl⟩
abbrev main_v17 : Ref sig .tc := ⟨.hbm, 540, rfl⟩
abbrev main_v18 : Ref sig .tc := ⟨.hbm, 541, rfl⟩
abbrev main_v19_0 : Ref sig .tc := ⟨.hbm, 542, rfl⟩
abbrev main_v19_1 : Ref sig .tc := ⟨.hbm, 543, rfl⟩
abbrev main_v19_2 : Ref sig .tc := ⟨.hbm, 544, rfl⟩
abbrev main_v20 : Ref sig .tc := ⟨.hbm, 545, rfl⟩
abbrev main_v21 : Ref sig .tc := ⟨.hbm, 546, rfl⟩
abbrev main_v22 : Ref sig .tc := ⟨.hbm, 547, rfl⟩
abbrev main_v23 : Ref sig .tc := ⟨.hbm, 548, rfl⟩
abbrev main_v24 : Ref sig .tc := ⟨.hbm, 549, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg20 : BitVec 32 := Scf.iv c0_i32 c1_i32 k0_t1
  let c16_i32 : BitVec 32 := 16#32
  let v26 : BitVec 32 := Scalar.muli arg20 c16_i32
  let v27 : Index := Scalar.indexCast v26
  let c0_23 : Index := 0#32
  let c0_24 : Index := 0#32
  ![v27.toNat, 0, 0]
def k0_off2 (k0_t1 : Fin k0_t1_loop.trips) : Fin 3 → Nat :=
  let c0_i32 : BitVec 32 := 0#32
  let c1_i32 : BitVec 32 := 1#32
  let arg20 : BitVec 32 := Scf.iv c0_i32 c1_i32 k0_t1
  let c16_i32_28 : BitVec 32 := 16#32
  let v35 : BitVec 32 := Scalar.muli arg20 c16_i32_28
  let v36 : Index := Scalar.indexCast v35
  let c0_29 : Index := 0#32
  let c0_30 : Index := 0#32
  ![v36.toNat, 0, 0]
@[reducible] def k0_t2_loop : Scf.Loop 32 :=
  let c0_i32_16 : BitVec 32 := 0#32
  let c128_i32 : BitVec 32 := 128#32
  let v22 : BitVec 32 := Scalar.addi c0_i32_16 c128_i32
  let c1_i32_17 : BitVec 32 := 1#32
  ⟨c0_i32_16, v22, c1_i32_17⟩
def k0_off3 (k0_t2 : Fin k0_t2_loop.trips) (c1_i32_30 : BitVec 32) : Fin 3 → Nat :=
  let c0_i32_16 : BitVec 32 := 0#32
  let c1_i32_17 : BitVec 32 := 1#32
  let arg20 : BitVec 32 := Scf.iv c0_i32_16 c1_i32_17 k0_t2
  let v31 : BitVec 32 := Scalar.addi arg20 c1_i32_30
  let c4_i32 : BitVec 32 := 4#32
  let v32 : BitVec 32 := Scalar.remsi v31 c4_i32
  let v33 : Index := Scalar.indexCast v32
  let c0_31 : Index := 0#32
  let c0_32 : Index := 0#32
  ![v33.toNat, 0, 0]
def k0_off4 (k0_t2 : Fin k0_t2_loop.trips) : Fin 3 → Nat :=
  let c0_i32_16 : BitVec 32 := 0#32
  let c1_i32_17 : BitVec 32 := 1#32
  let arg20 : BitVec 32 := Scf.iv c0_i32_16 c1_i32_17 k0_t2
  let c4_i32_43 : BitVec 32 := 4#32
  let v54 : BitVec 32 := Scalar.remsi arg20 c4_i32_43
  let v56 : Index := Scalar.indexCast v54
  let c0_45 : Index := 0#32
  let c0_46 : Index := 0#32
  ![v56.toNat, 0, 0]
def k0_off5 (k0_t2 : Fin k0_t2_loop.trips) : Fin 3 → Nat :=
  let c0_i32_16 : BitVec 32 := 0#32
  let c1_i32_17 : BitVec 32 := 1#32
  let arg20 : BitVec 32 := Scf.iv c0_i32_16 c1_i32_17 k0_t2
  let v168 : Index := Scalar.indexCast arg20
  let c0_96 : Index := 0#32
  let c0_97 : Index := 0#32
  ![v168.toNat, 0, 0]
def k0_off6 (k0_t2 : Fin k0_t2_loop.trips) : Fin 2 → Nat :=
  let c0_i32_16 : BitVec 32 := 0#32
  let c1_i32_17 : BitVec 32 := 1#32
  let arg20 : BitVec 32 := Scf.iv c0_i32_16 c1_i32_17 k0_t2
  let v205 : Index := Scalar.indexCast arg20
  let c0_105 : Index := 0#32
  ![v205.toNat, 0]
def k0_off7 (v216 : BitVec 32) : Fin 3 → Nat :=
  let v217 : Index := Scalar.indexCast v216
  let c0_114 : Index := 0#32
  let c0_115 : Index := 0#32
  ![v217.toNat, 0, 0]

def k0_chk1 (v216 : BitVec 32) : Prop :=
  (∀ a, (k0_off7 v216) a + S1x1x512.size a ≤ S128x128x512.size a)
theorem k0_off7_inb : ∀ (v216 : BitVec 32) (k0_hw1 : k0_chk1 v216), ∀ a, (k0_off7 v216) a + S1x1x512.size a ≤ S128x128x512.size a := fun v216 k0_hw1 => k0_hw1

def k0_off8 (v223 : BitVec 32) : Fin 3 → Nat :=
  let v224 : Index := Scalar.indexCast v223
  let c1_119 : Index := 1#32
  let c0_120 : Index := 0#32
  ![v224.toNat, 1, 0]

def k0_chk2 (v223 : BitVec 32) : Prop :=
  (∀ a, (k0_off8 v223) a + S1x1x512.size a ≤ S128x128x512.size a)
theorem k0_off8_inb : ∀ (v223 : BitVec 32) (k0_hw2 : k0_chk2 v223), ∀ a, (k0_off8 v223) a + S1x1x512.size a ≤ S128x128x512.size a := fun v223 k0_hw2 => k0_hw2

def k0_off9 (v230 : BitVec 32) : Fin 3 → Nat :=
  let v231 : Index := Scalar.indexCast v230
  let c2_124 : Index := 2#32
  let c0_125 : Index := 0#32
  ![v231.toNat, 2, 0]

def k0_chk3 (v230 : BitVec 32) : Prop :=
  (∀ a, (k0_off9 v230) a + S1x1x512.size a ≤ S128x128x512.size a)
theorem k0_off9_inb : ∀ (v230 : BitVec 32) (k0_hw3 : k0_chk3 v230), ∀ a, (k0_off9 v230) a + S1x1x512.size a ≤ S128x128x512.size a := fun v230 k0_hw3 => k0_hw3

def k0_off10 (v237 : BitVec 32) : Fin 3 → Nat :=
  let v238 : Index := Scalar.indexCast v237
  let c3_129 : Index := 3#32
  let c0_130 : Index := 0#32
  ![v238.toNat, 3, 0]

def k0_chk4 (v237 : BitVec 32) : Prop :=
  (∀ a, (k0_off10 v237) a + S1x1x512.size a ≤ S128x128x512.size a)
theorem k0_off10_inb : ∀ (v237 : BitVec 32) (k0_hw4 : k0_chk4 v237), ∀ a, (k0_off10 v237) a + S1x1x512.size a ≤ S128x128x512.size a := fun v237 k0_hw4 => k0_hw4

def k0_off11 (v244 : BitVec 32) : Fin 3 → Nat :=
  let v245 : Index := Scalar.indexCast v244
  let c4_134 : Index := 4#32
  let c0_135 : Index := 0#32
  ![v245.toNat, 4, 0]

def k0_chk5 (v244 : BitVec 32) : Prop :=
  (∀ a, (k0_off11 v244) a + S1x1x512.size a ≤ S128x128x512.size a)
theorem k0_off11_inb : ∀ (v244 : BitVec 32) (k0_hw5 : k0_chk5 v244), ∀ a, (k0_off11 v244) a + S1x1x512.size a ≤ S128x128x512.size a := fun v244 k0_hw5 => k0_hw5

def k0_off12 (v251 : BitVec 32) : Fin 3 → Nat :=
  let v252 : Index := Scalar.indexCast v251
  let c5_139 : Index := 5#32
  let c0_140 : Index := 0#32
  ![v252.toNat, 5, 0]

def k0_chk6 (v251 : BitVec 32) : Prop :=
  (∀ a, (k0_off12 v251) a + S1x1x512.size a ≤ S128x128x512.size a)
theorem k0_off12_inb : ∀ (v251 : BitVec 32) (k0_hw6 : k0_chk6 v251), ∀ a, (k0_off12 v251) a + S1x1x512.size a ≤ S128x128x512.size a := fun v251 k0_hw6 => k0_hw6

def k0_off13 (v258 : BitVec 32) : Fin 3 → Nat :=
  let v259 : Index := Scalar.indexCast v258
  let c6_144 : Index := 6#32
  let c0_145 : Index := 0#32
  ![v259.toNat, 6, 0]

def k0_chk7 (v258 : BitVec 32) : Prop :=
  (∀ a, (k0_off13 v258) a + S1x1x512.size a ≤ S128x128x512.size a)
theorem k0_off13_inb : ∀ (v258 : BitVec 32) (k0_hw7 : k0_chk7 v258), ∀ a, (k0_off13 v258) a + S1x1x512.size a ≤ S128x128x512.size a := fun v258 k0_hw7 => k0_hw7

def k0_off14 (v265 : BitVec 32) : Fin 3 → Nat :=
  let v266 : Index := Scalar.indexCast v265
  let c7_149 : Index := 7#32
  let c0_150 : Index := 0#32
  ![v266.toNat, 7, 0]

def k0_chk8 (v265 : BitVec 32) : Prop :=
  (∀ a, (k0_off14 v265) a + S1x1x512.size a ≤ S128x128x512.size a)
theorem k0_off14_inb : ∀ (v265 : BitVec 32) (k0_hw8 : k0_chk8 v265), ∀ a, (k0_off14 v265) a + S1x1x512.size a ≤ S128x128x512.size a := fun v265 k0_hw8 => k0_hw8

def k0_off15 (v272 : BitVec 32) : Fin 3 → Nat :=
  let v273 : Index := Scalar.indexCast v272
  let c8_154 : Index := 8#32
  let c0_155 : Index := 0#32
  ![v273.toNat, 8, 0]

def k0_chk9 (v272 : BitVec 32) : Prop :=
  (∀ a, (k0_off15 v272) a + S1x1x512.size a ≤ S128x128x512.size a)
theorem k0_off15_inb : ∀ (v272 : BitVec 32) (k0_hw9 : k0_chk9 v272), ∀ a, (k0_off15 v272) a + S1x1x512.size a ≤ S128x128x512.size a := fun v272 k0_hw9 => k0_hw9

def k0_off16 (v279 : BitVec 32) : Fin 3 → Nat :=
  let v280 : Index := Scalar.indexCast v279
  let c9_159 : Index := 9#32
  let c0_160 : Index := 0#32
  ![v280.toNat, 9, 0]

def k0_chk10 (v279 : BitVec 32) : Prop :=
  (∀ a, (k0_off16 v279) a + S1x1x512.size a ≤ S128x128x512.size a)
theorem k0_off16_inb : ∀ (v279 : BitVec 32) (k0_hw10 : k0_chk10 v279), ∀ a, (k0_off16 v279) a + S1x1x512.size a ≤ S128x128x512.size a := fun v279 k0_hw10 => k0_hw10

def k0_off17 (v286 : BitVec 32) : Fin 3 → Nat :=
  let v287 : Index := Scalar.indexCast v286
  let c10_164 : Index := 10#32
  let c0_165 : Index := 0#32
  ![v287.toNat, 10, 0]

def k0_chk11 (v286 : BitVec 32) : Prop :=
  (∀ a, (k0_off17 v286) a + S1x1x512.size a ≤ S128x128x512.size a)
theorem k0_off17_inb : ∀ (v286 : BitVec 32) (k0_hw11 : k0_chk11 v286), ∀ a, (k0_off17 v286) a + S1x1x512.size a ≤ S128x128x512.size a := fun v286 k0_hw11 => k0_hw11

def k0_off18 (v293 : BitVec 32) : Fin 3 → Nat :=
  let v294 : Index := Scalar.indexCast v293
  let c11_169 : Index := 11#32
  let c0_170 : Index := 0#32
  ![v294.toNat, 11, 0]

def k0_chk12 (v293 : BitVec 32) : Prop :=
  (∀ a, (k0_off18 v293) a + S1x1x512.size a ≤ S128x128x512.size a)
theorem k0_off18_inb : ∀ (v293 : BitVec 32) (k0_hw12 : k0_chk12 v293), ∀ a, (k0_off18 v293) a + S1x1x512.size a ≤ S128x128x512.size a := fun v293 k0_hw12 => k0_hw12

def k0_off19 (v300 : BitVec 32) : Fin 3 → Nat :=
  let v301 : Index := Scalar.indexCast v300
  let c12_174 : Index := 12#32
  let c0_175 : Index := 0#32
  ![v301.toNat, 12, 0]

def k0_chk13 (v300 : BitVec 32) : Prop :=
  (∀ a, (k0_off19 v300) a + S1x1x512.size a ≤ S128x128x512.size a)
theorem k0_off19_inb : ∀ (v300 : BitVec 32) (k0_hw13 : k0_chk13 v300), ∀ a, (k0_off19 v300) a + S1x1x512.size a ≤ S128x128x512.size a := fun v300 k0_hw13 => k0_hw13

def k0_off20 (v307 : BitVec 32) : Fin 3 → Nat :=
  let v308 : Index := Scalar.indexCast v307
  let c13_179 : Index := 13#32
  let c0_180 : Index := 0#32
  ![v308.toNat, 13, 0]

def k0_chk14 (v307 : BitVec 32) : Prop :=
  (∀ a, (k0_off20 v307) a + S1x1x512.size a ≤ S128x128x512.size a)
theorem k0_off20_inb : ∀ (v307 : BitVec 32) (k0_hw14 : k0_chk14 v307), ∀ a, (k0_off20 v307) a + S1x1x512.size a ≤ S128x128x512.size a := fun v307 k0_hw14 => k0_hw14

def k0_off21 (v314 : BitVec 32) : Fin 3 → Nat :=
  let v315 : Index := Scalar.indexCast v314
  let c14_184 : Index := 14#32
  let c0_185 : Index := 0#32
  ![v315.toNat, 14, 0]

def k0_chk15 (v314 : BitVec 32) : Prop :=
  (∀ a, (k0_off21 v314) a + S1x1x512.size a ≤ S128x128x512.size a)
theorem k0_off21_inb : ∀ (v314 : BitVec 32) (k0_hw15 : k0_chk15 v314), ∀ a, (k0_off21 v314) a + S1x1x512.size a ≤ S128x128x512.size a := fun v314 k0_hw15 => k0_hw15

def k0_off22 (v321 : BitVec 32) : Fin 3 → Nat :=
  let v322 : Index := Scalar.indexCast v321
  let c15_189 : Index := 15#32
  let c0_190 : Index := 0#32
  ![v322.toNat, 15, 0]

def k0_chk16 (v321 : BitVec 32) : Prop :=
  (∀ a, (k0_off22 v321) a + S1x1x512.size a ≤ S128x128x512.size a)
theorem k0_off22_inb : ∀ (v321 : BitVec 32) (k0_hw16 : k0_chk16 v321), ∀ a, (k0_off22 v321) a + S1x1x512.size a ≤ S128x128x512.size a := fun v321 k0_hw16 => k0_hw16

def k0_off23 (v328 : BitVec 32) : Fin 3 → Nat :=
  let v329 : Index := Scalar.indexCast v328
  let c16_195 : Index := 16#32
  let c0_196 : Index := 0#32
  ![v329.toNat, 16, 0]

def k0_chk17 (v328 : BitVec 32) : Prop :=
  (∀ a, (k0_off23 v328) a + S1x1x512.size a ≤ S128x128x512.size a)
theorem k0_off23_inb : ∀ (v328 : BitVec 32) (k0_hw17 : k0_chk17 v328), ∀ a, (k0_off23 v328) a + S1x1x512.size a ≤ S128x128x512.size a := fun v328 k0_hw17 => k0_hw17

def k0_off24 (v335 : BitVec 32) : Fin 3 → Nat :=
  let v336 : Index := Scalar.indexCast v335
  let c17_200 : Index := 17#32
  let c0_201 : Index := 0#32
  ![v336.toNat, 17, 0]

def k0_chk18 (v335 : BitVec 32) : Prop :=
  (∀ a, (k0_off24 v335) a + S1x1x512.size a ≤ S128x128x512.size a)
theorem k0_off24_inb : ∀ (v335 : BitVec 32) (k0_hw18 : k0_chk18 v335), ∀ a, (k0_off24 v335) a + S1x1x512.size a ≤ S128x128x512.size a := fun v335 k0_hw18 => k0_hw18

def k0_off25 (v342 : BitVec 32) : Fin 3 → Nat :=
  let v343 : Index := Scalar.indexCast v342
  let c18_205 : Index := 18#32
  let c0_206 : Index := 0#32
  ![v343.toNat, 18, 0]

def k0_chk19 (v342 : BitVec 32) : Prop :=
  (∀ a, (k0_off25 v342) a + S1x1x512.size a ≤ S128x128x512.size a)
theorem k0_off25_inb : ∀ (v342 : BitVec 32) (k0_hw19 : k0_chk19 v342), ∀ a, (k0_off25 v342) a + S1x1x512.size a ≤ S128x128x512.size a := fun v342 k0_hw19 => k0_hw19

def k0_off26 (v349 : BitVec 32) : Fin 3 → Nat :=
  let v350 : Index := Scalar.indexCast v349
  let c19_210 : Index := 19#32
  let c0_211 : Index := 0#32
  ![v350.toNat, 19, 0]

def k0_chk20 (v349 : BitVec 32) : Prop :=
  (∀ a, (k0_off26 v349) a + S1x1x512.size a ≤ S128x128x512.size a)
theorem k0_off26_inb : ∀ (v349 : BitVec 32) (k0_hw20 : k0_chk20 v349), ∀ a, (k0_off26 v349) a + S1x1x512.size a ≤ S128x128x512.size a := fun v349 k0_hw20 => k0_hw20

def k0_off27 (v356 : BitVec 32) : Fin 3 → Nat :=
  let v357 : Index := Scalar.indexCast v356
  let c20_215 : Index := 20#32
  let c0_216 : Index := 0#32
  ![v357.toNat, 20, 0]

def k0_chk21 (v356 : BitVec 32) : Prop :=
  (∀ a, (k0_off27 v356) a + S1x1x512.size a ≤ S128x128x512.size a)
theorem k0_off27_inb : ∀ (v356 : BitVec 32) (k0_hw21 : k0_chk21 v356), ∀ a, (k0_off27 v356) a + S1x1x512.size a ≤ S128x128x512.size a := fun v356 k0_hw21 => k0_hw21

def k0_off28 (v363 : BitVec 32) : Fin 3 → Nat :=
  let v364 : Index := Scalar.indexCast v363
  let c21_220 : Index := 21#32
  let c0_221 : Index := 0#32
  ![v364.toNat, 21, 0]

def k0_chk22 (v363 : BitVec 32) : Prop :=
  (∀ a, (k0_off28 v363) a + S1x1x512.size a ≤ S128x128x512.size a)
theorem k0_off28_inb : ∀ (v363 : BitVec 32) (k0_hw22 : k0_chk22 v363), ∀ a, (k0_off28 v363) a + S1x1x512.size a ≤ S128x128x512.size a := fun v363 k0_hw22 => k0_hw22

def k0_off29 (v370 : BitVec 32) : Fin 3 → Nat :=
  let v371 : Index := Scalar.indexCast v370
  let c22_225 : Index := 22#32
  let c0_226 : Index := 0#32
  ![v371.toNat, 22, 0]

def k0_chk23 (v370 : BitVec 32) : Prop :=
  (∀ a, (k0_off29 v370) a + S1x1x512.size a ≤ S128x128x512.size a)
theorem k0_off29_inb : ∀ (v370 : BitVec 32) (k0_hw23 : k0_chk23 v370), ∀ a, (k0_off29 v370) a + S1x1x512.size a ≤ S128x128x512.size a := fun v370 k0_hw23 => k0_hw23

def k0_off30 (v377 : BitVec 32) : Fin 3 → Nat :=
  let v378 : Index := Scalar.indexCast v377
  let c23_230 : Index := 23#32
  let c0_231 : Index := 0#32
  ![v378.toNat, 23, 0]

def k0_chk24 (v377 : BitVec 32) : Prop :=
  (∀ a, (k0_off30 v377) a + S1x1x512.size a ≤ S128x128x512.size a)
theorem k0_off30_inb : ∀ (v377 : BitVec 32) (k0_hw24 : k0_chk24 v377), ∀ a, (k0_off30 v377) a + S1x1x512.size a ≤ S128x128x512.size a := fun v377 k0_hw24 => k0_hw24

def k0_off31 (v384 : BitVec 32) : Fin 3 → Nat :=
  let v385 : Index := Scalar.indexCast v384
  let c24_235 : Index := 24#32
  let c0_236 : Index := 0#32
  ![v385.toNat, 24, 0]

def k0_chk25 (v384 : BitVec 32) : Prop :=
  (∀ a, (k0_off31 v384) a + S1x1x512.size a ≤ S128x128x512.size a)
theorem k0_off31_inb : ∀ (v384 : BitVec 32) (k0_hw25 : k0_chk25 v384), ∀ a, (k0_off31 v384) a + S1x1x512.size a ≤ S128x128x512.size a := fun v384 k0_hw25 => k0_hw25

def k0_off32 (v391 : BitVec 32) : Fin 3 → Nat :=
  let v392 : Index := Scalar.indexCast v391
  let c25_240 : Index := 25#32
  let c0_241 : Index := 0#32
  ![v392.toNat, 25, 0]

def k0_chk26 (v391 : BitVec 32) : Prop :=
  (∀ a, (k0_off32 v391) a + S1x1x512.size a ≤ S128x128x512.size a)
theorem k0_off32_inb : ∀ (v391 : BitVec 32) (k0_hw26 : k0_chk26 v391), ∀ a, (k0_off32 v391) a + S1x1x512.size a ≤ S128x128x512.size a := fun v391 k0_hw26 => k0_hw26

def k0_off33 (v398 : BitVec 32) : Fin 3 → Nat :=
  let v399 : Index := Scalar.indexCast v398
  let c26_245 : Index := 26#32
  let c0_246 : Index := 0#32
  ![v399.toNat, 26, 0]

def k0_chk27 (v398 : BitVec 32) : Prop :=
  (∀ a, (k0_off33 v398) a + S1x1x512.size a ≤ S128x128x512.size a)
theorem k0_off33_inb : ∀ (v398 : BitVec 32) (k0_hw27 : k0_chk27 v398), ∀ a, (k0_off33 v398) a + S1x1x512.size a ≤ S128x128x512.size a := fun v398 k0_hw27 => k0_hw27

def k0_off34 (v405 : BitVec 32) : Fin 3 → Nat :=
  let v406 : Index := Scalar.indexCast v405
  let c27_250 : Index := 27#32
  let c0_251 : Index := 0#32
  ![v406.toNat, 27, 0]

def k0_chk28 (v405 : BitVec 32) : Prop :=
  (∀ a, (k0_off34 v405) a + S1x1x512.size a ≤ S128x128x512.size a)
theorem k0_off34_inb : ∀ (v405 : BitVec 32) (k0_hw28 : k0_chk28 v405), ∀ a, (k0_off34 v405) a + S1x1x512.size a ≤ S128x128x512.size a := fun v405 k0_hw28 => k0_hw28

def k0_off35 (v412 : BitVec 32) : Fin 3 → Nat :=
  let v413 : Index := Scalar.indexCast v412
  let c28_255 : Index := 28#32
  let c0_256 : Index := 0#32
  ![v413.toNat, 28, 0]

def k0_chk29 (v412 : BitVec 32) : Prop :=
  (∀ a, (k0_off35 v412) a + S1x1x512.size a ≤ S128x128x512.size a)
theorem k0_off35_inb : ∀ (v412 : BitVec 32) (k0_hw29 : k0_chk29 v412), ∀ a, (k0_off35 v412) a + S1x1x512.size a ≤ S128x128x512.size a := fun v412 k0_hw29 => k0_hw29

def k0_off36 (v419 : BitVec 32) : Fin 3 → Nat :=
  let v420 : Index := Scalar.indexCast v419
  let c29_260 : Index := 29#32
  let c0_261 : Index := 0#32
  ![v420.toNat, 29, 0]

def k0_chk30 (v419 : BitVec 32) : Prop :=
  (∀ a, (k0_off36 v419) a + S1x1x512.size a ≤ S128x128x512.size a)
theorem k0_off36_inb : ∀ (v419 : BitVec 32) (k0_hw30 : k0_chk30 v419), ∀ a, (k0_off36 v419) a + S1x1x512.size a ≤ S128x128x512.size a := fun v419 k0_hw30 => k0_hw30

def k0_off37 (v426 : BitVec 32) : Fin 3 → Nat :=
  let v427 : Index := Scalar.indexCast v426
  let c30_265 : Index := 30#32
  let c0_266 : Index := 0#32
  ![v427.toNat, 30, 0]

def k0_chk31 (v426 : BitVec 32) : Prop :=
  (∀ a, (k0_off37 v426) a + S1x1x512.size a ≤ S128x128x512.size a)
theorem k0_off37_inb : ∀ (v426 : BitVec 32) (k0_hw31 : k0_chk31 v426), ∀ a, (k0_off37 v426) a + S1x1x512.size a ≤ S128x128x512.size a := fun v426 k0_hw31 => k0_hw31

def k0_off38 (v433 : BitVec 32) : Fin 3 → Nat :=
  let v434 : Index := Scalar.indexCast v433
  let c31_270 : Index := 31#32
  let c0_271 : Index := 0#32
  ![v434.toNat, 31, 0]

def k0_chk32 (v433 : BitVec 32) : Prop :=
  (∀ a, (k0_off38 v433) a + S1x1x512.size a ≤ S128x128x512.size a)
theorem k0_off38_inb : ∀ (v433 : BitVec 32) (k0_hw32 : k0_chk32 v433), ∀ a, (k0_off38 v433) a + S1x1x512.size a ≤ S128x128x512.size a := fun v433 k0_hw32 => k0_hw32

def k0_off39 (v440 : BitVec 32) : Fin 3 → Nat :=
  let v441 : Index := Scalar.indexCast v440
  let c32_276 : Index := 32#32
  let c0_277 : Index := 0#32
  ![v441.toNat, 32, 0]

def k0_chk33 (v440 : BitVec 32) : Prop :=
  (∀ a, (k0_off39 v440) a + S1x1x512.size a ≤ S128x128x512.size a)
theorem k0_off39_inb : ∀ (v440 : BitVec 32) (k0_hw33 : k0_chk33 v440), ∀ a, (k0_off39 v440) a + S1x1x512.size a ≤ S128x128x512.size a := fun v440 k0_hw33 => k0_hw33

def k0_off40 (v447 : BitVec 32) : Fin 3 → Nat :=
  let v448 : Index := Scalar.indexCast v447
  let c33_281 : Index := 33#32
  let c0_282 : Index := 0#32
  ![v448.toNat, 33, 0]

def k0_chk34 (v447 : BitVec 32) : Prop :=
  (∀ a, (k0_off40 v447) a + S1x1x512.size a ≤ S128x128x512.size a)
theorem k0_off40_inb : ∀ (v447 : BitVec 32) (k0_hw34 : k0_chk34 v447), ∀ a, (k0_off40 v447) a + S1x1x512.size a ≤ S128x128x512.size a := fun v447 k0_hw34 => k0_hw34

def k0_off41 (v454 : BitVec 32) : Fin 3 → Nat :=
  let v455 : Index := Scalar.indexCast v454
  let c34_286 : Index := 34#32
  let c0_287 : Index := 0#32
  ![v455.toNat, 34, 0]

def k0_chk35 (v454 : BitVec 32) : Prop :=
  (∀ a, (k0_off41 v454) a + S1x1x512.size a ≤ S128x128x512.size a)
theorem k0_off41_inb : ∀ (v454 : BitVec 32) (k0_hw35 : k0_chk35 v454), ∀ a, (k0_off41 v454) a + S1x1x512.size a ≤ S128x128x512.size a := fun v454 k0_hw35 => k0_hw35

def k0_off42 (v461 : BitVec 32) : Fin 3 → Nat :=
  let v462 : Index := Scalar.indexCast v461
  let c35_291 : Index := 35#32
  let c0_292 : Index := 0#32
  ![v462.toNat, 35, 0]

def k0_chk36 (v461 : BitVec 32) : Prop :=
  (∀ a, (k0_off42 v461) a + S1x1x512.size a ≤ S128x128x512.size a)
theorem k0_off42_inb : ∀ (v461 : BitVec 32) (k0_hw36 : k0_chk36 v461), ∀ a, (k0_off42 v461) a + S1x1x512.size a ≤ S128x128x512.size a := fun v461 k0_hw36 => k0_hw36

def k0_off43 (v468 : BitVec 32) : Fin 3 → Nat :=
  let v469 : Index := Scalar.indexCast v468
  let c36_296 : Index := 36#32
  let c0_297 : Index := 0#32
  ![v469.toNat, 36, 0]

def k0_chk37 (v468 : BitVec 32) : Prop :=
  (∀ a, (k0_off43 v468) a + S1x1x512.size a ≤ S128x128x512.size a)
theorem k0_off43_inb : ∀ (v468 : BitVec 32) (k0_hw37 : k0_chk37 v468), ∀ a, (k0_off43 v468) a + S1x1x512.size a ≤ S128x128x512.size a := fun v468 k0_hw37 => k0_hw37

def k0_off44 (v475 : BitVec 32) : Fin 3 → Nat :=
  let v476 : Index := Scalar.indexCast v475
  let c37_301 : Index := 37#32
  let c0_302 : Index := 0#32
  ![v476.toNat, 37, 0]

def k0_chk38 (v475 : BitVec 32) : Prop :=
  (∀ a, (k0_off44 v475) a + S1x1x512.size a ≤ S128x128x512.size a)
theorem k0_off44_inb : ∀ (v475 : BitVec 32) (k0_hw38 : k0_chk38 v475), ∀ a, (k0_off44 v475) a + S1x1x512.size a ≤ S128x128x512.size a := fun v475 k0_hw38 => k0_hw38

def k0_off45 (v482 : BitVec 32) : Fin 3 → Nat :=
  let v483 : Index := Scalar.indexCast v482
  let c38_306 : Index := 38#32
  let c0_307 : Index := 0#32
  ![v483.toNat, 38, 0]

def k0_chk39 (v482 : BitVec 32) : Prop :=
  (∀ a, (k0_off45 v482) a + S1x1x512.size a ≤ S128x128x512.size a)
theorem k0_off45_inb : ∀ (v482 : BitVec 32) (k0_hw39 : k0_chk39 v482), ∀ a, (k0_off45 v482) a + S1x1x512.size a ≤ S128x128x512.size a := fun v482 k0_hw39 => k0_hw39

def k0_off46 (v489 : BitVec 32) : Fin 3 → Nat :=
  let v490 : Index := Scalar.indexCast v489
  let c39_311 : Index := 39#32
  let c0_312 : Index := 0#32
  ![v490.toNat, 39, 0]

def k0_chk40 (v489 : BitVec 32) : Prop :=
  (∀ a, (k0_off46 v489) a + S1x1x512.size a ≤ S128x128x512.size a)
theorem k0_off46_inb : ∀ (v489 : BitVec 32) (k0_hw40 : k0_chk40 v489), ∀ a, (k0_off46 v489) a + S1x1x512.size a ≤ S128x128x512.size a := fun v489 k0_hw40 => k0_hw40

def k0_off47 (v496 : BitVec 32) : Fin 3 → Nat :=
  let v497 : Index := Scalar.indexCast v496
  let c40_316 : Index := 40#32
  let c0_317 : Index := 0#32
  ![v497.toNat, 40, 0]

def k0_chk41 (v496 : BitVec 32) : Prop :=
  (∀ a, (k0_off47 v496) a + S1x1x512.size a ≤ S128x128x512.size a)
theorem k0_off47_inb : ∀ (v496 : BitVec 32) (k0_hw41 : k0_chk41 v496), ∀ a, (k0_off47 v496) a + S1x1x512.size a ≤ S128x128x512.size a := fun v496 k0_hw41 => k0_hw41

def k0_off48 (v503 : BitVec 32) : Fin 3 → Nat :=
  let v504 : Index := Scalar.indexCast v503
  let c41_321 : Index := 41#32
  let c0_322 : Index := 0#32
  ![v504.toNat, 41, 0]

def k0_chk42 (v503 : BitVec 32) : Prop :=
  (∀ a, (k0_off48 v503) a + S1x1x512.size a ≤ S128x128x512.size a)
theorem k0_off48_inb : ∀ (v503 : BitVec 32) (k0_hw42 : k0_chk42 v503), ∀ a, (k0_off48 v503) a + S1x1x512.size a ≤ S128x128x512.size a := fun v503 k0_hw42 => k0_hw42

def k0_off49 (v510 : BitVec 32) : Fin 3 → Nat :=
  let v511 : Index := Scalar.indexCast v510
  let c42_326 : Index := 42#32
  let c0_327 : Index := 0#32
  ![v511.toNat, 42, 0]

def k0_chk43 (v510 : BitVec 32) : Prop :=
  (∀ a, (k0_off49 v510) a + S1x1x512.size a ≤ S128x128x512.size a)
theorem k0_off49_inb : ∀ (v510 : BitVec 32) (k0_hw43 : k0_chk43 v510), ∀ a, (k0_off49 v510) a + S1x1x512.size a ≤ S128x128x512.size a := fun v510 k0_hw43 => k0_hw43

def k0_off50 (v517 : BitVec 32) : Fin 3 → Nat :=
  let v518 : Index := Scalar.indexCast v517
  let c43_331 : Index := 43#32
  let c0_332 : Index := 0#32
  ![v518.toNat, 43, 0]

def k0_chk44 (v517 : BitVec 32) : Prop :=
  (∀ a, (k0_off50 v517) a + S1x1x512.size a ≤ S128x128x512.size a)
theorem k0_off50_inb : ∀ (v517 : BitVec 32) (k0_hw44 : k0_chk44 v517), ∀ a, (k0_off50 v517) a + S1x1x512.size a ≤ S128x128x512.size a := fun v517 k0_hw44 => k0_hw44

def k0_off51 (v524 : BitVec 32) : Fin 3 → Nat :=
  let v525 : Index := Scalar.indexCast v524
  let c44_336 : Index := 44#32
  let c0_337 : Index := 0#32
  ![v525.toNat, 44, 0]

def k0_chk45 (v524 : BitVec 32) : Prop :=
  (∀ a, (k0_off51 v524) a + S1x1x512.size a ≤ S128x128x512.size a)
theorem k0_off51_inb : ∀ (v524 : BitVec 32) (k0_hw45 : k0_chk45 v524), ∀ a, (k0_off51 v524) a + S1x1x512.size a ≤ S128x128x512.size a := fun v524 k0_hw45 => k0_hw45

def k0_off52 (v531 : BitVec 32) : Fin 3 → Nat :=
  let v532 : Index := Scalar.indexCast v531
  let c45_341 : Index := 45#32
  let c0_342 : Index := 0#32
  ![v532.toNat, 45, 0]

def k0_chk46 (v531 : BitVec 32) : Prop :=
  (∀ a, (k0_off52 v531) a + S1x1x512.size a ≤ S128x128x512.size a)
theorem k0_off52_inb : ∀ (v531 : BitVec 32) (k0_hw46 : k0_chk46 v531), ∀ a, (k0_off52 v531) a + S1x1x512.size a ≤ S128x128x512.size a := fun v531 k0_hw46 => k0_hw46

def k0_off53 (v538 : BitVec 32) : Fin 3 → Nat :=
  let v539 : Index := Scalar.indexCast v538
  let c46_346 : Index := 46#32
  let c0_347 : Index := 0#32
  ![v539.toNat, 46, 0]

def k0_chk47 (v538 : BitVec 32) : Prop :=
  (∀ a, (k0_off53 v538) a + S1x1x512.size a ≤ S128x128x512.size a)
theorem k0_off53_inb : ∀ (v538 : BitVec 32) (k0_hw47 : k0_chk47 v538), ∀ a, (k0_off53 v538) a + S1x1x512.size a ≤ S128x128x512.size a := fun v538 k0_hw47 => k0_hw47

def k0_off54 (v545 : BitVec 32) : Fin 3 → Nat :=
  let v546 : Index := Scalar.indexCast v545
  let c47_351 : Index := 47#32
  let c0_352 : Index := 0#32
  ![v546.toNat, 47, 0]

def k0_chk48 (v545 : BitVec 32) : Prop :=
  (∀ a, (k0_off54 v545) a + S1x1x512.size a ≤ S128x128x512.size a)
theorem k0_off54_inb : ∀ (v545 : BitVec 32) (k0_hw48 : k0_chk48 v545), ∀ a, (k0_off54 v545) a + S1x1x512.size a ≤ S128x128x512.size a := fun v545 k0_hw48 => k0_hw48

def k0_off55 (v552 : BitVec 32) : Fin 3 → Nat :=
  let v553 : Index := Scalar.indexCast v552
  let c48_357 : Index := 48#32
  let c0_358 : Index := 0#32
  ![v553.toNat, 48, 0]

def k0_chk49 (v552 : BitVec 32) : Prop :=
  (∀ a, (k0_off55 v552) a + S1x1x512.size a ≤ S128x128x512.size a)
theorem k0_off55_inb : ∀ (v552 : BitVec 32) (k0_hw49 : k0_chk49 v552), ∀ a, (k0_off55 v552) a + S1x1x512.size a ≤ S128x128x512.size a := fun v552 k0_hw49 => k0_hw49

def k0_off56 (v559 : BitVec 32) : Fin 3 → Nat :=
  let v560 : Index := Scalar.indexCast v559
  let c49_362 : Index := 49#32
  let c0_363 : Index := 0#32
  ![v560.toNat, 49, 0]

def k0_chk50 (v559 : BitVec 32) : Prop :=
  (∀ a, (k0_off56 v559) a + S1x1x512.size a ≤ S128x128x512.size a)
theorem k0_off56_inb : ∀ (v559 : BitVec 32) (k0_hw50 : k0_chk50 v559), ∀ a, (k0_off56 v559) a + S1x1x512.size a ≤ S128x128x512.size a := fun v559 k0_hw50 => k0_hw50

def k0_off57 (v566 : BitVec 32) : Fin 3 → Nat :=
  let v567 : Index := Scalar.indexCast v566
  let c50_367 : Index := 50#32
  let c0_368 : Index := 0#32
  ![v567.toNat, 50, 0]

def k0_chk51 (v566 : BitVec 32) : Prop :=
  (∀ a, (k0_off57 v566) a + S1x1x512.size a ≤ S128x128x512.size a)
theorem k0_off57_inb : ∀ (v566 : BitVec 32) (k0_hw51 : k0_chk51 v566), ∀ a, (k0_off57 v566) a + S1x1x512.size a ≤ S128x128x512.size a := fun v566 k0_hw51 => k0_hw51

def k0_off58 (v573 : BitVec 32) : Fin 3 → Nat :=
  let v574 : Index := Scalar.indexCast v573
  let c51_372 : Index := 51#32
  let c0_373 : Index := 0#32
  ![v574.toNat, 51, 0]

def k0_chk52 (v573 : BitVec 32) : Prop :=
  (∀ a, (k0_off58 v573) a + S1x1x512.size a ≤ S128x128x512.size a)
theorem k0_off58_inb : ∀ (v573 : BitVec 32) (k0_hw52 : k0_chk52 v573), ∀ a, (k0_off58 v573) a + S1x1x512.size a ≤ S128x128x512.size a := fun v573 k0_hw52 => k0_hw52

def k0_off59 (v580 : BitVec 32) : Fin 3 → Nat :=
  let v581 : Index := Scalar.indexCast v580
  let c52_377 : Index := 52#32
  let c0_378 : Index := 0#32
  ![v581.toNat, 52, 0]

def k0_chk53 (v580 : BitVec 32) : Prop :=
  (∀ a, (k0_off59 v580) a + S1x1x512.size a ≤ S128x128x512.size a)
theorem k0_off59_inb : ∀ (v580 : BitVec 32) (k0_hw53 : k0_chk53 v580), ∀ a, (k0_off59 v580) a + S1x1x512.size a ≤ S128x128x512.size a := fun v580 k0_hw53 => k0_hw53

def k0_off60 (v587 : BitVec 32) : Fin 3 → Nat :=
  let v588 : Index := Scalar.indexCast v587
  let c53_382 : Index := 53#32
  let c0_383 : Index := 0#32
  ![v588.toNat, 53, 0]

def k0_chk54 (v587 : BitVec 32) : Prop :=
  (∀ a, (k0_off60 v587) a + S1x1x512.size a ≤ S128x128x512.size a)
theorem k0_off60_inb : ∀ (v587 : BitVec 32) (k0_hw54 : k0_chk54 v587), ∀ a, (k0_off60 v587) a + S1x1x512.size a ≤ S128x128x512.size a := fun v587 k0_hw54 => k0_hw54

def k0_off61 (v594 : BitVec 32) : Fin 3 → Nat :=
  let v595 : Index := Scalar.indexCast v594
  let c54_387 : Index := 54#32
  let c0_388 : Index := 0#32
  ![v595.toNat, 54, 0]

def k0_chk55 (v594 : BitVec 32) : Prop :=
  (∀ a, (k0_off61 v594) a + S1x1x512.size a ≤ S128x128x512.size a)
theorem k0_off61_inb : ∀ (v594 : BitVec 32) (k0_hw55 : k0_chk55 v594), ∀ a, (k0_off61 v594) a + S1x1x512.size a ≤ S128x128x512.size a := fun v594 k0_hw55 => k0_hw55

def k0_off62 (v601 : BitVec 32) : Fin 3 → Nat :=
  let v602 : Index := Scalar.indexCast v601
  let c55_392 : Index := 55#32
  let c0_393 : Index := 0#32
  ![v602.toNat, 55, 0]

def k0_chk56 (v601 : BitVec 32) : Prop :=
  (∀ a, (k0_off62 v601) a + S1x1x512.size a ≤ S128x128x512.size a)
theorem k0_off62_inb : ∀ (v601 : BitVec 32) (k0_hw56 : k0_chk56 v601), ∀ a, (k0_off62 v601) a + S1x1x512.size a ≤ S128x128x512.size a := fun v601 k0_hw56 => k0_hw56

def k0_off63 (v608 : BitVec 32) : Fin 3 → Nat :=
  let v609 : Index := Scalar.indexCast v608
  let c56_397 : Index := 56#32
  let c0_398 : Index := 0#32
  ![v609.toNat, 56, 0]

def k0_chk57 (v608 : BitVec 32) : Prop :=
  (∀ a, (k0_off63 v608) a + S1x1x512.size a ≤ S128x128x512.size a)
theorem k0_off63_inb : ∀ (v608 : BitVec 32) (k0_hw57 : k0_chk57 v608), ∀ a, (k0_off63 v608) a + S1x1x512.size a ≤ S128x128x512.size a := fun v608 k0_hw57 => k0_hw57

def k0_off64 (v615 : BitVec 32) : Fin 3 → Nat :=
  let v616 : Index := Scalar.indexCast v615
  let c57_402 : Index := 57#32
  let c0_403 : Index := 0#32
  ![v616.toNat, 57, 0]

def k0_chk58 (v615 : BitVec 32) : Prop :=
  (∀ a, (k0_off64 v615) a + S1x1x512.size a ≤ S128x128x512.size a)
theorem k0_off64_inb : ∀ (v615 : BitVec 32) (k0_hw58 : k0_chk58 v615), ∀ a, (k0_off64 v615) a + S1x1x512.size a ≤ S128x128x512.size a := fun v615 k0_hw58 => k0_hw58

def k0_off65 (v622 : BitVec 32) : Fin 3 → Nat :=
  let v623 : Index := Scalar.indexCast v622
  let c58_407 : Index := 58#32
  let c0_408 : Index := 0#32
  ![v623.toNat, 58, 0]

def k0_chk59 (v622 : BitVec 32) : Prop :=
  (∀ a, (k0_off65 v622) a + S1x1x512.size a ≤ S128x128x512.size a)
theorem k0_off65_inb : ∀ (v622 : BitVec 32) (k0_hw59 : k0_chk59 v622), ∀ a, (k0_off65 v622) a + S1x1x512.size a ≤ S128x128x512.size a := fun v622 k0_hw59 => k0_hw59

def k0_off66 (v629 : BitVec 32) : Fin 3 → Nat :=
  let v630 : Index := Scalar.indexCast v629
  let c59_412 : Index := 59#32
  let c0_413 : Index := 0#32
  ![v630.toNat, 59, 0]

def k0_chk60 (v629 : BitVec 32) : Prop :=
  (∀ a, (k0_off66 v629) a + S1x1x512.size a ≤ S128x128x512.size a)
theorem k0_off66_inb : ∀ (v629 : BitVec 32) (k0_hw60 : k0_chk60 v629), ∀ a, (k0_off66 v629) a + S1x1x512.size a ≤ S128x128x512.size a := fun v629 k0_hw60 => k0_hw60

def k0_off67 (v636 : BitVec 32) : Fin 3 → Nat :=
  let v637 : Index := Scalar.indexCast v636
  let c60_417 : Index := 60#32
  let c0_418 : Index := 0#32
  ![v637.toNat, 60, 0]

def k0_chk61 (v636 : BitVec 32) : Prop :=
  (∀ a, (k0_off67 v636) a + S1x1x512.size a ≤ S128x128x512.size a)
theorem k0_off67_inb : ∀ (v636 : BitVec 32) (k0_hw61 : k0_chk61 v636), ∀ a, (k0_off67 v636) a + S1x1x512.size a ≤ S128x128x512.size a := fun v636 k0_hw61 => k0_hw61

def k0_off68 (v643 : BitVec 32) : Fin 3 → Nat :=
  let v644 : Index := Scalar.indexCast v643
  let c61_422 : Index := 61#32
  let c0_423 : Index := 0#32
  ![v644.toNat, 61, 0]

def k0_chk62 (v643 : BitVec 32) : Prop :=
  (∀ a, (k0_off68 v643) a + S1x1x512.size a ≤ S128x128x512.size a)
theorem k0_off68_inb : ∀ (v643 : BitVec 32) (k0_hw62 : k0_chk62 v643), ∀ a, (k0_off68 v643) a + S1x1x512.size a ≤ S128x128x512.size a := fun v643 k0_hw62 => k0_hw62

def k0_off69 (v650 : BitVec 32) : Fin 3 → Nat :=
  let v651 : Index := Scalar.indexCast v650
  let c62_427 : Index := 62#32
  let c0_428 : Index := 0#32
  ![v651.toNat, 62, 0]

def k0_chk63 (v650 : BitVec 32) : Prop :=
  (∀ a, (k0_off69 v650) a + S1x1x512.size a ≤ S128x128x512.size a)
theorem k0_off69_inb : ∀ (v650 : BitVec 32) (k0_hw63 : k0_chk63 v650), ∀ a, (k0_off69 v650) a + S1x1x512.size a ≤ S128x128x512.size a := fun v650 k0_hw63 => k0_hw63

def k0_off70 (v657 : BitVec 32) : Fin 3 → Nat :=
  let v658 : Index := Scalar.indexCast v657
  let c63_432 : Index := 63#32
  let c0_433 : Index := 0#32
  ![v658.toNat, 63, 0]

def k0_chk64 (v657 : BitVec 32) : Prop :=
  (∀ a, (k0_off70 v657) a + S1x1x512.size a ≤ S128x128x512.size a)
theorem k0_off70_inb : ∀ (v657 : BitVec 32) (k0_hw64 : k0_chk64 v657), ∀ a, (k0_off70 v657) a + S1x1x512.size a ≤ S128x128x512.size a := fun v657 k0_hw64 => k0_hw64

def k0_off71 (v664 : BitVec 32) : Fin 3 → Nat :=
  let v665 : Index := Scalar.indexCast v664
  let c64_438 : Index := 64#32
  let c0_439 : Index := 0#32
  ![v665.toNat, 64, 0]

def k0_chk65 (v664 : BitVec 32) : Prop :=
  (∀ a, (k0_off71 v664) a + S1x1x512.size a ≤ S128x128x512.size a)
theorem k0_off71_inb : ∀ (v664 : BitVec 32) (k0_hw65 : k0_chk65 v664), ∀ a, (k0_off71 v664) a + S1x1x512.size a ≤ S128x128x512.size a := fun v664 k0_hw65 => k0_hw65

def k0_off72 (v671 : BitVec 32) : Fin 3 → Nat :=
  let v672 : Index := Scalar.indexCast v671
  let c65_443 : Index := 65#32
  let c0_444 : Index := 0#32
  ![v672.toNat, 65, 0]

def k0_chk66 (v671 : BitVec 32) : Prop :=
  (∀ a, (k0_off72 v671) a + S1x1x512.size a ≤ S128x128x512.size a)
theorem k0_off72_inb : ∀ (v671 : BitVec 32) (k0_hw66 : k0_chk66 v671), ∀ a, (k0_off72 v671) a + S1x1x512.size a ≤ S128x128x512.size a := fun v671 k0_hw66 => k0_hw66

def k0_off73 (v678 : BitVec 32) : Fin 3 → Nat :=
  let v679 : Index := Scalar.indexCast v678
  let c66_448 : Index := 66#32
  let c0_449 : Index := 0#32
  ![v679.toNat, 66, 0]

def k0_chk67 (v678 : BitVec 32) : Prop :=
  (∀ a, (k0_off73 v678) a + S1x1x512.size a ≤ S128x128x512.size a)
theorem k0_off73_inb : ∀ (v678 : BitVec 32) (k0_hw67 : k0_chk67 v678), ∀ a, (k0_off73 v678) a + S1x1x512.size a ≤ S128x128x512.size a := fun v678 k0_hw67 => k0_hw67

def k0_off74 (v685 : BitVec 32) : Fin 3 → Nat :=
  let v686 : Index := Scalar.indexCast v685
  let c67_453 : Index := 67#32
  let c0_454 : Index := 0#32
  ![v686.toNat, 67, 0]

def k0_chk68 (v685 : BitVec 32) : Prop :=
  (∀ a, (k0_off74 v685) a + S1x1x512.size a ≤ S128x128x512.size a)
theorem k0_off74_inb : ∀ (v685 : BitVec 32) (k0_hw68 : k0_chk68 v685), ∀ a, (k0_off74 v685) a + S1x1x512.size a ≤ S128x128x512.size a := fun v685 k0_hw68 => k0_hw68

def k0_off75 (v692 : BitVec 32) : Fin 3 → Nat :=
  let v693 : Index := Scalar.indexCast v692
  let c68_458 : Index := 68#32
  let c0_459 : Index := 0#32
  ![v693.toNat, 68, 0]

def k0_chk69 (v692 : BitVec 32) : Prop :=
  (∀ a, (k0_off75 v692) a + S1x1x512.size a ≤ S128x128x512.size a)
theorem k0_off75_inb : ∀ (v692 : BitVec 32) (k0_hw69 : k0_chk69 v692), ∀ a, (k0_off75 v692) a + S1x1x512.size a ≤ S128x128x512.size a := fun v692 k0_hw69 => k0_hw69

def k0_off76 (v699 : BitVec 32) : Fin 3 → Nat :=
  let v700 : Index := Scalar.indexCast v699
  let c69_463 : Index := 69#32
  let c0_464 : Index := 0#32
  ![v700.toNat, 69, 0]

def k0_chk70 (v699 : BitVec 32) : Prop :=
  (∀ a, (k0_off76 v699) a + S1x1x512.size a ≤ S128x128x512.size a)
theorem k0_off76_inb : ∀ (v699 : BitVec 32) (k0_hw70 : k0_chk70 v699), ∀ a, (k0_off76 v699) a + S1x1x512.size a ≤ S128x128x512.size a := fun v699 k0_hw70 => k0_hw70

def k0_off77 (v706 : BitVec 32) : Fin 3 → Nat :=
  let v707 : Index := Scalar.indexCast v706
  let c70_468 : Index := 70#32
  let c0_469 : Index := 0#32
  ![v707.toNat, 70, 0]

def k0_chk71 (v706 : BitVec 32) : Prop :=
  (∀ a, (k0_off77 v706) a + S1x1x512.size a ≤ S128x128x512.size a)
theorem k0_off77_inb : ∀ (v706 : BitVec 32) (k0_hw71 : k0_chk71 v706), ∀ a, (k0_off77 v706) a + S1x1x512.size a ≤ S128x128x512.size a := fun v706 k0_hw71 => k0_hw71

def k0_off78 (v713 : BitVec 32) : Fin 3 → Nat :=
  let v714 : Index := Scalar.indexCast v713
  let c71_473 : Index := 71#32
  let c0_474 : Index := 0#32
  ![v714.toNat, 71, 0]

def k0_chk72 (v713 : BitVec 32) : Prop :=
  (∀ a, (k0_off78 v713) a + S1x1x512.size a ≤ S128x128x512.size a)
theorem k0_off78_inb : ∀ (v713 : BitVec 32) (k0_hw72 : k0_chk72 v713), ∀ a, (k0_off78 v713) a + S1x1x512.size a ≤ S128x128x512.size a := fun v713 k0_hw72 => k0_hw72

def k0_off79 (v720 : BitVec 32) : Fin 3 → Nat :=
  let v721 : Index := Scalar.indexCast v720
  let c72_478 : Index := 72#32
  let c0_479 : Index := 0#32
  ![v721.toNat, 72, 0]

def k0_chk73 (v720 : BitVec 32) : Prop :=
  (∀ a, (k0_off79 v720) a + S1x1x512.size a ≤ S128x128x512.size a)
theorem k0_off79_inb : ∀ (v720 : BitVec 32) (k0_hw73 : k0_chk73 v720), ∀ a, (k0_off79 v720) a + S1x1x512.size a ≤ S128x128x512.size a := fun v720 k0_hw73 => k0_hw73

def k0_off80 (v727 : BitVec 32) : Fin 3 → Nat :=
  let v728 : Index := Scalar.indexCast v727
  let c73_483 : Index := 73#32
  let c0_484 : Index := 0#32
  ![v728.toNat, 73, 0]

def k0_chk74 (v727 : BitVec 32) : Prop :=
  (∀ a, (k0_off80 v727) a + S1x1x512.size a ≤ S128x128x512.size a)
theorem k0_off80_inb : ∀ (v727 : BitVec 32) (k0_hw74 : k0_chk74 v727), ∀ a, (k0_off80 v727) a + S1x1x512.size a ≤ S128x128x512.size a := fun v727 k0_hw74 => k0_hw74

def k0_off81 (v734 : BitVec 32) : Fin 3 → Nat :=
  let v735 : Index := Scalar.indexCast v734
  let c74_488 : Index := 74#32
  let c0_489 : Index := 0#32
  ![v735.toNat, 74, 0]

def k0_chk75 (v734 : BitVec 32) : Prop :=
  (∀ a, (k0_off81 v734) a + S1x1x512.size a ≤ S128x128x512.size a)
theorem k0_off81_inb : ∀ (v734 : BitVec 32) (k0_hw75 : k0_chk75 v734), ∀ a, (k0_off81 v734) a + S1x1x512.size a ≤ S128x128x512.size a := fun v734 k0_hw75 => k0_hw75

def k0_off82 (v741 : BitVec 32) : Fin 3 → Nat :=
  let v742 : Index := Scalar.indexCast v741
  let c75_493 : Index := 75#32
  let c0_494 : Index := 0#32
  ![v742.toNat, 75, 0]

def k0_chk76 (v741 : BitVec 32) : Prop :=
  (∀ a, (k0_off82 v741) a + S1x1x512.size a ≤ S128x128x512.size a)
theorem k0_off82_inb : ∀ (v741 : BitVec 32) (k0_hw76 : k0_chk76 v741), ∀ a, (k0_off82 v741) a + S1x1x512.size a ≤ S128x128x512.size a := fun v741 k0_hw76 => k0_hw76

def k0_off83 (v748 : BitVec 32) : Fin 3 → Nat :=
  let v749 : Index := Scalar.indexCast v748
  let c76_498 : Index := 76#32
  let c0_499 : Index := 0#32
  ![v749.toNat, 76, 0]

def k0_chk77 (v748 : BitVec 32) : Prop :=
  (∀ a, (k0_off83 v748) a + S1x1x512.size a ≤ S128x128x512.size a)
theorem k0_off83_inb : ∀ (v748 : BitVec 32) (k0_hw77 : k0_chk77 v748), ∀ a, (k0_off83 v748) a + S1x1x512.size a ≤ S128x128x512.size a := fun v748 k0_hw77 => k0_hw77

def k0_off84 (v755 : BitVec 32) : Fin 3 → Nat :=
  let v756 : Index := Scalar.indexCast v755
  let c77_503 : Index := 77#32
  let c0_504 : Index := 0#32
  ![v756.toNat, 77, 0]

def k0_chk78 (v755 : BitVec 32) : Prop :=
  (∀ a, (k0_off84 v755) a + S1x1x512.size a ≤ S128x128x512.size a)
theorem k0_off84_inb : ∀ (v755 : BitVec 32) (k0_hw78 : k0_chk78 v755), ∀ a, (k0_off84 v755) a + S1x1x512.size a ≤ S128x128x512.size a := fun v755 k0_hw78 => k0_hw78

def k0_off85 (v762 : BitVec 32) : Fin 3 → Nat :=
  let v763 : Index := Scalar.indexCast v762
  let c78_508 : Index := 78#32
  let c0_509 : Index := 0#32
  ![v763.toNat, 78, 0]

def k0_chk79 (v762 : BitVec 32) : Prop :=
  (∀ a, (k0_off85 v762) a + S1x1x512.size a ≤ S128x128x512.size a)
theorem k0_off85_inb : ∀ (v762 : BitVec 32) (k0_hw79 : k0_chk79 v762), ∀ a, (k0_off85 v762) a + S1x1x512.size a ≤ S128x128x512.size a := fun v762 k0_hw79 => k0_hw79

def k0_off86 (v769 : BitVec 32) : Fin 3 → Nat :=
  let v770 : Index := Scalar.indexCast v769
  let c79_513 : Index := 79#32
  let c0_514 : Index := 0#32
  ![v770.toNat, 79, 0]

def k0_chk80 (v769 : BitVec 32) : Prop :=
  (∀ a, (k0_off86 v769) a + S1x1x512.size a ≤ S128x128x512.size a)
theorem k0_off86_inb : ∀ (v769 : BitVec 32) (k0_hw80 : k0_chk80 v769), ∀ a, (k0_off86 v769) a + S1x1x512.size a ≤ S128x128x512.size a := fun v769 k0_hw80 => k0_hw80

def k0_off87 (v776 : BitVec 32) : Fin 3 → Nat :=
  let v777 : Index := Scalar.indexCast v776
  let c80_519 : Index := 80#32
  let c0_520 : Index := 0#32
  ![v777.toNat, 80, 0]

def k0_chk81 (v776 : BitVec 32) : Prop :=
  (∀ a, (k0_off87 v776) a + S1x1x512.size a ≤ S128x128x512.size a)
theorem k0_off87_inb : ∀ (v776 : BitVec 32) (k0_hw81 : k0_chk81 v776), ∀ a, (k0_off87 v776) a + S1x1x512.size a ≤ S128x128x512.size a := fun v776 k0_hw81 => k0_hw81

def k0_off88 (v783 : BitVec 32) : Fin 3 → Nat :=
  let v784 : Index := Scalar.indexCast v783
  let c81_524 : Index := 81#32
  let c0_525 : Index := 0#32
  ![v784.toNat, 81, 0]

def k0_chk82 (v783 : BitVec 32) : Prop :=
  (∀ a, (k0_off88 v783) a + S1x1x512.size a ≤ S128x128x512.size a)
theorem k0_off88_inb : ∀ (v783 : BitVec 32) (k0_hw82 : k0_chk82 v783), ∀ a, (k0_off88 v783) a + S1x1x512.size a ≤ S128x128x512.size a := fun v783 k0_hw82 => k0_hw82

def k0_off89 (v790 : BitVec 32) : Fin 3 → Nat :=
  let v791 : Index := Scalar.indexCast v790
  let c82_529 : Index := 82#32
  let c0_530 : Index := 0#32
  ![v791.toNat, 82, 0]

def k0_chk83 (v790 : BitVec 32) : Prop :=
  (∀ a, (k0_off89 v790) a + S1x1x512.size a ≤ S128x128x512.size a)
theorem k0_off89_inb : ∀ (v790 : BitVec 32) (k0_hw83 : k0_chk83 v790), ∀ a, (k0_off89 v790) a + S1x1x512.size a ≤ S128x128x512.size a := fun v790 k0_hw83 => k0_hw83

def k0_off90 (v797 : BitVec 32) : Fin 3 → Nat :=
  let v798 : Index := Scalar.indexCast v797
  let c83_534 : Index := 83#32
  let c0_535 : Index := 0#32
  ![v798.toNat, 83, 0]

def k0_chk84 (v797 : BitVec 32) : Prop :=
  (∀ a, (k0_off90 v797) a + S1x1x512.size a ≤ S128x128x512.size a)
theorem k0_off90_inb : ∀ (v797 : BitVec 32) (k0_hw84 : k0_chk84 v797), ∀ a, (k0_off90 v797) a + S1x1x512.size a ≤ S128x128x512.size a := fun v797 k0_hw84 => k0_hw84

def k0_off91 (v804 : BitVec 32) : Fin 3 → Nat :=
  let v805 : Index := Scalar.indexCast v804
  let c84_539 : Index := 84#32
  let c0_540 : Index := 0#32
  ![v805.toNat, 84, 0]

def k0_chk85 (v804 : BitVec 32) : Prop :=
  (∀ a, (k0_off91 v804) a + S1x1x512.size a ≤ S128x128x512.size a)
theorem k0_off91_inb : ∀ (v804 : BitVec 32) (k0_hw85 : k0_chk85 v804), ∀ a, (k0_off91 v804) a + S1x1x512.size a ≤ S128x128x512.size a := fun v804 k0_hw85 => k0_hw85

def k0_off92 (v811 : BitVec 32) : Fin 3 → Nat :=
  let v812 : Index := Scalar.indexCast v811
  let c85_544 : Index := 85#32
  let c0_545 : Index := 0#32
  ![v812.toNat, 85, 0]

def k0_chk86 (v811 : BitVec 32) : Prop :=
  (∀ a, (k0_off92 v811) a + S1x1x512.size a ≤ S128x128x512.size a)
theorem k0_off92_inb : ∀ (v811 : BitVec 32) (k0_hw86 : k0_chk86 v811), ∀ a, (k0_off92 v811) a + S1x1x512.size a ≤ S128x128x512.size a := fun v811 k0_hw86 => k0_hw86

def k0_off93 (v818 : BitVec 32) : Fin 3 → Nat :=
  let v819 : Index := Scalar.indexCast v818
  let c86_549 : Index := 86#32
  let c0_550 : Index := 0#32
  ![v819.toNat, 86, 0]

def k0_chk87 (v818 : BitVec 32) : Prop :=
  (∀ a, (k0_off93 v818) a + S1x1x512.size a ≤ S128x128x512.size a)
theorem k0_off93_inb : ∀ (v818 : BitVec 32) (k0_hw87 : k0_chk87 v818), ∀ a, (k0_off93 v818) a + S1x1x512.size a ≤ S128x128x512.size a := fun v818 k0_hw87 => k0_hw87

def k0_off94 (v825 : BitVec 32) : Fin 3 → Nat :=
  let v826 : Index := Scalar.indexCast v825
  let c87_554 : Index := 87#32
  let c0_555 : Index := 0#32
  ![v826.toNat, 87, 0]

def k0_chk88 (v825 : BitVec 32) : Prop :=
  (∀ a, (k0_off94 v825) a + S1x1x512.size a ≤ S128x128x512.size a)
theorem k0_off94_inb : ∀ (v825 : BitVec 32) (k0_hw88 : k0_chk88 v825), ∀ a, (k0_off94 v825) a + S1x1x512.size a ≤ S128x128x512.size a := fun v825 k0_hw88 => k0_hw88

def k0_off95 (v832 : BitVec 32) : Fin 3 → Nat :=
  let v833 : Index := Scalar.indexCast v832
  let c88_559 : Index := 88#32
  let c0_560 : Index := 0#32
  ![v833.toNat, 88, 0]

def k0_chk89 (v832 : BitVec 32) : Prop :=
  (∀ a, (k0_off95 v832) a + S1x1x512.size a ≤ S128x128x512.size a)
theorem k0_off95_inb : ∀ (v832 : BitVec 32) (k0_hw89 : k0_chk89 v832), ∀ a, (k0_off95 v832) a + S1x1x512.size a ≤ S128x128x512.size a := fun v832 k0_hw89 => k0_hw89

def k0_off96 (v839 : BitVec 32) : Fin 3 → Nat :=
  let v840 : Index := Scalar.indexCast v839
  let c89_564 : Index := 89#32
  let c0_565 : Index := 0#32
  ![v840.toNat, 89, 0]

def k0_chk90 (v839 : BitVec 32) : Prop :=
  (∀ a, (k0_off96 v839) a + S1x1x512.size a ≤ S128x128x512.size a)
theorem k0_off96_inb : ∀ (v839 : BitVec 32) (k0_hw90 : k0_chk90 v839), ∀ a, (k0_off96 v839) a + S1x1x512.size a ≤ S128x128x512.size a := fun v839 k0_hw90 => k0_hw90

def k0_off97 (v846 : BitVec 32) : Fin 3 → Nat :=
  let v847 : Index := Scalar.indexCast v846
  let c90_569 : Index := 90#32
  let c0_570 : Index := 0#32
  ![v847.toNat, 90, 0]

def k0_chk91 (v846 : BitVec 32) : Prop :=
  (∀ a, (k0_off97 v846) a + S1x1x512.size a ≤ S128x128x512.size a)
theorem k0_off97_inb : ∀ (v846 : BitVec 32) (k0_hw91 : k0_chk91 v846), ∀ a, (k0_off97 v846) a + S1x1x512.size a ≤ S128x128x512.size a := fun v846 k0_hw91 => k0_hw91

def k0_off98 (v853 : BitVec 32) : Fin 3 → Nat :=
  let v854 : Index := Scalar.indexCast v853
  let c91_574 : Index := 91#32
  let c0_575 : Index := 0#32
  ![v854.toNat, 91, 0]

def k0_chk92 (v853 : BitVec 32) : Prop :=
  (∀ a, (k0_off98 v853) a + S1x1x512.size a ≤ S128x128x512.size a)
theorem k0_off98_inb : ∀ (v853 : BitVec 32) (k0_hw92 : k0_chk92 v853), ∀ a, (k0_off98 v853) a + S1x1x512.size a ≤ S128x128x512.size a := fun v853 k0_hw92 => k0_hw92

def k0_off99 (v860 : BitVec 32) : Fin 3 → Nat :=
  let v861 : Index := Scalar.indexCast v860
  let c92_579 : Index := 92#32
  let c0_580 : Index := 0#32
  ![v861.toNat, 92, 0]

def k0_chk93 (v860 : BitVec 32) : Prop :=
  (∀ a, (k0_off99 v860) a + S1x1x512.size a ≤ S128x128x512.size a)
theorem k0_off99_inb : ∀ (v860 : BitVec 32) (k0_hw93 : k0_chk93 v860), ∀ a, (k0_off99 v860) a + S1x1x512.size a ≤ S128x128x512.size a := fun v860 k0_hw93 => k0_hw93

def k0_off100 (v867 : BitVec 32) : Fin 3 → Nat :=
  let v868 : Index := Scalar.indexCast v867
  let c93_584 : Index := 93#32
  let c0_585 : Index := 0#32
  ![v868.toNat, 93, 0]

def k0_chk94 (v867 : BitVec 32) : Prop :=
  (∀ a, (k0_off100 v867) a + S1x1x512.size a ≤ S128x128x512.size a)
theorem k0_off100_inb : ∀ (v867 : BitVec 32) (k0_hw94 : k0_chk94 v867), ∀ a, (k0_off100 v867) a + S1x1x512.size a ≤ S128x128x512.size a := fun v867 k0_hw94 => k0_hw94

def k0_off101 (v874 : BitVec 32) : Fin 3 → Nat :=
  let v875 : Index := Scalar.indexCast v874
  let c94_589 : Index := 94#32
  let c0_590 : Index := 0#32
  ![v875.toNat, 94, 0]

def k0_chk95 (v874 : BitVec 32) : Prop :=
  (∀ a, (k0_off101 v874) a + S1x1x512.size a ≤ S128x128x512.size a)
theorem k0_off101_inb : ∀ (v874 : BitVec 32) (k0_hw95 : k0_chk95 v874), ∀ a, (k0_off101 v874) a + S1x1x512.size a ≤ S128x128x512.size a := fun v874 k0_hw95 => k0_hw95

def k0_off102 (v881 : BitVec 32) : Fin 3 → Nat :=
  let v882 : Index := Scalar.indexCast v881
  let c95_594 : Index := 95#32
  let c0_595 : Index := 0#32
  ![v882.toNat, 95, 0]

def k0_chk96 (v881 : BitVec 32) : Prop :=
  (∀ a, (k0_off102 v881) a + S1x1x512.size a ≤ S128x128x512.size a)
theorem k0_off102_inb : ∀ (v881 : BitVec 32) (k0_hw96 : k0_chk96 v881), ∀ a, (k0_off102 v881) a + S1x1x512.size a ≤ S128x128x512.size a := fun v881 k0_hw96 => k0_hw96

def k0_off103 (v888 : BitVec 32) : Fin 3 → Nat :=
  let v889 : Index := Scalar.indexCast v888
  let c96_600 : Index := 96#32
  let c0_601 : Index := 0#32
  ![v889.toNat, 96, 0]

def k0_chk97 (v888 : BitVec 32) : Prop :=
  (∀ a, (k0_off103 v888) a + S1x1x512.size a ≤ S128x128x512.size a)
theorem k0_off103_inb : ∀ (v888 : BitVec 32) (k0_hw97 : k0_chk97 v888), ∀ a, (k0_off103 v888) a + S1x1x512.size a ≤ S128x128x512.size a := fun v888 k0_hw97 => k0_hw97

def k0_off104 (v895 : BitVec 32) : Fin 3 → Nat :=
  let v896 : Index := Scalar.indexCast v895
  let c97_605 : Index := 97#32
  let c0_606 : Index := 0#32
  ![v896.toNat, 97, 0]

def k0_chk98 (v895 : BitVec 32) : Prop :=
  (∀ a, (k0_off104 v895) a + S1x1x512.size a ≤ S128x128x512.size a)
theorem k0_off104_inb : ∀ (v895 : BitVec 32) (k0_hw98 : k0_chk98 v895), ∀ a, (k0_off104 v895) a + S1x1x512.size a ≤ S128x128x512.size a := fun v895 k0_hw98 => k0_hw98

def k0_off105 (v902 : BitVec 32) : Fin 3 → Nat :=
  let v903 : Index := Scalar.indexCast v902
  let c98_610 : Index := 98#32
  let c0_611 : Index := 0#32
  ![v903.toNat, 98, 0]

def k0_chk99 (v902 : BitVec 32) : Prop :=
  (∀ a, (k0_off105 v902) a + S1x1x512.size a ≤ S128x128x512.size a)
theorem k0_off105_inb : ∀ (v902 : BitVec 32) (k0_hw99 : k0_chk99 v902), ∀ a, (k0_off105 v902) a + S1x1x512.size a ≤ S128x128x512.size a := fun v902 k0_hw99 => k0_hw99

def k0_off106 (v909 : BitVec 32) : Fin 3 → Nat :=
  let v910 : Index := Scalar.indexCast v909
  let c99_615 : Index := 99#32
  let c0_616 : Index := 0#32
  ![v910.toNat, 99, 0]

def k0_chk100 (v909 : BitVec 32) : Prop :=
  (∀ a, (k0_off106 v909) a + S1x1x512.size a ≤ S128x128x512.size a)
theorem k0_off106_inb : ∀ (v909 : BitVec 32) (k0_hw100 : k0_chk100 v909), ∀ a, (k0_off106 v909) a + S1x1x512.size a ≤ S128x128x512.size a := fun v909 k0_hw100 => k0_hw100

def k0_off107 (v916 : BitVec 32) : Fin 3 → Nat :=
  let v917 : Index := Scalar.indexCast v916
  let c100_620 : Index := 100#32
  let c0_621 : Index := 0#32
  ![v917.toNat, 100, 0]

def k0_chk101 (v916 : BitVec 32) : Prop :=
  (∀ a, (k0_off107 v916) a + S1x1x512.size a ≤ S128x128x512.size a)
theorem k0_off107_inb : ∀ (v916 : BitVec 32) (k0_hw101 : k0_chk101 v916), ∀ a, (k0_off107 v916) a + S1x1x512.size a ≤ S128x128x512.size a := fun v916 k0_hw101 => k0_hw101

def k0_off108 (v923 : BitVec 32) : Fin 3 → Nat :=
  let v924 : Index := Scalar.indexCast v923
  let c101_625 : Index := 101#32
  let c0_626 : Index := 0#32
  ![v924.toNat, 101, 0]

def k0_chk102 (v923 : BitVec 32) : Prop :=
  (∀ a, (k0_off108 v923) a + S1x1x512.size a ≤ S128x128x512.size a)
theorem k0_off108_inb : ∀ (v923 : BitVec 32) (k0_hw102 : k0_chk102 v923), ∀ a, (k0_off108 v923) a + S1x1x512.size a ≤ S128x128x512.size a := fun v923 k0_hw102 => k0_hw102

def k0_off109 (v930 : BitVec 32) : Fin 3 → Nat :=
  let v931 : Index := Scalar.indexCast v930
  let c102_630 : Index := 102#32
  let c0_631 : Index := 0#32
  ![v931.toNat, 102, 0]

def k0_chk103 (v930 : BitVec 32) : Prop :=
  (∀ a, (k0_off109 v930) a + S1x1x512.size a ≤ S128x128x512.size a)
theorem k0_off109_inb : ∀ (v930 : BitVec 32) (k0_hw103 : k0_chk103 v930), ∀ a, (k0_off109 v930) a + S1x1x512.size a ≤ S128x128x512.size a := fun v930 k0_hw103 => k0_hw103

def k0_off110 (v937 : BitVec 32) : Fin 3 → Nat :=
  let v938 : Index := Scalar.indexCast v937
  let c103_635 : Index := 103#32
  let c0_636 : Index := 0#32
  ![v938.toNat, 103, 0]

def k0_chk104 (v937 : BitVec 32) : Prop :=
  (∀ a, (k0_off110 v937) a + S1x1x512.size a ≤ S128x128x512.size a)
theorem k0_off110_inb : ∀ (v937 : BitVec 32) (k0_hw104 : k0_chk104 v937), ∀ a, (k0_off110 v937) a + S1x1x512.size a ≤ S128x128x512.size a := fun v937 k0_hw104 => k0_hw104

def k0_off111 (v944 : BitVec 32) : Fin 3 → Nat :=
  let v945 : Index := Scalar.indexCast v944
  let c104_640 : Index := 104#32
  let c0_641 : Index := 0#32
  ![v945.toNat, 104, 0]

def k0_chk105 (v944 : BitVec 32) : Prop :=
  (∀ a, (k0_off111 v944) a + S1x1x512.size a ≤ S128x128x512.size a)
theorem k0_off111_inb : ∀ (v944 : BitVec 32) (k0_hw105 : k0_chk105 v944), ∀ a, (k0_off111 v944) a + S1x1x512.size a ≤ S128x128x512.size a := fun v944 k0_hw105 => k0_hw105

def k0_off112 (v951 : BitVec 32) : Fin 3 → Nat :=
  let v952 : Index := Scalar.indexCast v951
  let c105_645 : Index := 105#32
  let c0_646 : Index := 0#32
  ![v952.toNat, 105, 0]

def k0_chk106 (v951 : BitVec 32) : Prop :=
  (∀ a, (k0_off112 v951) a + S1x1x512.size a ≤ S128x128x512.size a)
theorem k0_off112_inb : ∀ (v951 : BitVec 32) (k0_hw106 : k0_chk106 v951), ∀ a, (k0_off112 v951) a + S1x1x512.size a ≤ S128x128x512.size a := fun v951 k0_hw106 => k0_hw106

def k0_off113 (v958 : BitVec 32) : Fin 3 → Nat :=
  let v959 : Index := Scalar.indexCast v958
  let c106_650 : Index := 106#32
  let c0_651 : Index := 0#32
  ![v959.toNat, 106, 0]

def k0_chk107 (v958 : BitVec 32) : Prop :=
  (∀ a, (k0_off113 v958) a + S1x1x512.size a ≤ S128x128x512.size a)
theorem k0_off113_inb : ∀ (v958 : BitVec 32) (k0_hw107 : k0_chk107 v958), ∀ a, (k0_off113 v958) a + S1x1x512.size a ≤ S128x128x512.size a := fun v958 k0_hw107 => k0_hw107

def k0_off114 (v965 : BitVec 32) : Fin 3 → Nat :=
  let v966 : Index := Scalar.indexCast v965
  let c107_655 : Index := 107#32
  let c0_656 : Index := 0#32
  ![v966.toNat, 107, 0]

def k0_chk108 (v965 : BitVec 32) : Prop :=
  (∀ a, (k0_off114 v965) a + S1x1x512.size a ≤ S128x128x512.size a)
theorem k0_off114_inb : ∀ (v965 : BitVec 32) (k0_hw108 : k0_chk108 v965), ∀ a, (k0_off114 v965) a + S1x1x512.size a ≤ S128x128x512.size a := fun v965 k0_hw108 => k0_hw108

def k0_off115 (v972 : BitVec 32) : Fin 3 → Nat :=
  let v973 : Index := Scalar.indexCast v972
  let c108_660 : Index := 108#32
  let c0_661 : Index := 0#32
  ![v973.toNat, 108, 0]

def k0_chk109 (v972 : BitVec 32) : Prop :=
  (∀ a, (k0_off115 v972) a + S1x1x512.size a ≤ S128x128x512.size a)
theorem k0_off115_inb : ∀ (v972 : BitVec 32) (k0_hw109 : k0_chk109 v972), ∀ a, (k0_off115 v972) a + S1x1x512.size a ≤ S128x128x512.size a := fun v972 k0_hw109 => k0_hw109

def k0_off116 (v979 : BitVec 32) : Fin 3 → Nat :=
  let v980 : Index := Scalar.indexCast v979
  let c109_665 : Index := 109#32
  let c0_666 : Index := 0#32
  ![v980.toNat, 109, 0]

def k0_chk110 (v979 : BitVec 32) : Prop :=
  (∀ a, (k0_off116 v979) a + S1x1x512.size a ≤ S128x128x512.size a)
theorem k0_off116_inb : ∀ (v979 : BitVec 32) (k0_hw110 : k0_chk110 v979), ∀ a, (k0_off116 v979) a + S1x1x512.size a ≤ S128x128x512.size a := fun v979 k0_hw110 => k0_hw110

def k0_off117 (v986 : BitVec 32) : Fin 3 → Nat :=
  let v987 : Index := Scalar.indexCast v986
  let c110_670 : Index := 110#32
  let c0_671 : Index := 0#32
  ![v987.toNat, 110, 0]

def k0_chk111 (v986 : BitVec 32) : Prop :=
  (∀ a, (k0_off117 v986) a + S1x1x512.size a ≤ S128x128x512.size a)
theorem k0_off117_inb : ∀ (v986 : BitVec 32) (k0_hw111 : k0_chk111 v986), ∀ a, (k0_off117 v986) a + S1x1x512.size a ≤ S128x128x512.size a := fun v986 k0_hw111 => k0_hw111

def k0_off118 (v993 : BitVec 32) : Fin 3 → Nat :=
  let v994 : Index := Scalar.indexCast v993
  let c111_675 : Index := 111#32
  let c0_676 : Index := 0#32
  ![v994.toNat, 111, 0]

def k0_chk112 (v993 : BitVec 32) : Prop :=
  (∀ a, (k0_off118 v993) a + S1x1x512.size a ≤ S128x128x512.size a)
theorem k0_off118_inb : ∀ (v993 : BitVec 32) (k0_hw112 : k0_chk112 v993), ∀ a, (k0_off118 v993) a + S1x1x512.size a ≤ S128x128x512.size a := fun v993 k0_hw112 => k0_hw112

def k0_off119 (v1000 : BitVec 32) : Fin 3 → Nat :=
  let v1001 : Index := Scalar.indexCast v1000
  let c112_681 : Index := 112#32
  let c0_682 : Index := 0#32
  ![v1001.toNat, 112, 0]

def k0_chk113 (v1000 : BitVec 32) : Prop :=
  (∀ a, (k0_off119 v1000) a + S1x1x512.size a ≤ S128x128x512.size a)
theorem k0_off119_inb : ∀ (v1000 : BitVec 32) (k0_hw113 : k0_chk113 v1000), ∀ a, (k0_off119 v1000) a + S1x1x512.size a ≤ S128x128x512.size a := fun v1000 k0_hw113 => k0_hw113

def k0_off120 (v1007 : BitVec 32) : Fin 3 → Nat :=
  let v1008 : Index := Scalar.indexCast v1007
  let c113_686 : Index := 113#32
  let c0_687 : Index := 0#32
  ![v1008.toNat, 113, 0]

def k0_chk114 (v1007 : BitVec 32) : Prop :=
  (∀ a, (k0_off120 v1007) a + S1x1x512.size a ≤ S128x128x512.size a)
theorem k0_off120_inb : ∀ (v1007 : BitVec 32) (k0_hw114 : k0_chk114 v1007), ∀ a, (k0_off120 v1007) a + S1x1x512.size a ≤ S128x128x512.size a := fun v1007 k0_hw114 => k0_hw114

def k0_off121 (v1014 : BitVec 32) : Fin 3 → Nat :=
  let v1015 : Index := Scalar.indexCast v1014
  let c114_691 : Index := 114#32
  let c0_692 : Index := 0#32
  ![v1015.toNat, 114, 0]

def k0_chk115 (v1014 : BitVec 32) : Prop :=
  (∀ a, (k0_off121 v1014) a + S1x1x512.size a ≤ S128x128x512.size a)
theorem k0_off121_inb : ∀ (v1014 : BitVec 32) (k0_hw115 : k0_chk115 v1014), ∀ a, (k0_off121 v1014) a + S1x1x512.size a ≤ S128x128x512.size a := fun v1014 k0_hw115 => k0_hw115

def k0_off122 (v1021 : BitVec 32) : Fin 3 → Nat :=
  let v1022 : Index := Scalar.indexCast v1021
  let c115_696 : Index := 115#32
  let c0_697 : Index := 0#32
  ![v1022.toNat, 115, 0]

def k0_chk116 (v1021 : BitVec 32) : Prop :=
  (∀ a, (k0_off122 v1021) a + S1x1x512.size a ≤ S128x128x512.size a)
theorem k0_off122_inb : ∀ (v1021 : BitVec 32) (k0_hw116 : k0_chk116 v1021), ∀ a, (k0_off122 v1021) a + S1x1x512.size a ≤ S128x128x512.size a := fun v1021 k0_hw116 => k0_hw116

def k0_off123 (v1028 : BitVec 32) : Fin 3 → Nat :=
  let v1029 : Index := Scalar.indexCast v1028
  let c116_701 : Index := 116#32
  let c0_702 : Index := 0#32
  ![v1029.toNat, 116, 0]

def k0_chk117 (v1028 : BitVec 32) : Prop :=
  (∀ a, (k0_off123 v1028) a + S1x1x512.size a ≤ S128x128x512.size a)
theorem k0_off123_inb : ∀ (v1028 : BitVec 32) (k0_hw117 : k0_chk117 v1028), ∀ a, (k0_off123 v1028) a + S1x1x512.size a ≤ S128x128x512.size a := fun v1028 k0_hw117 => k0_hw117

def k0_off124 (v1035 : BitVec 32) : Fin 3 → Nat :=
  let v1036 : Index := Scalar.indexCast v1035
  let c117_706 : Index := 117#32
  let c0_707 : Index := 0#32
  ![v1036.toNat, 117, 0]

def k0_chk118 (v1035 : BitVec 32) : Prop :=
  (∀ a, (k0_off124 v1035) a + S1x1x512.size a ≤ S128x128x512.size a)
theorem k0_off124_inb : ∀ (v1035 : BitVec 32) (k0_hw118 : k0_chk118 v1035), ∀ a, (k0_off124 v1035) a + S1x1x512.size a ≤ S128x128x512.size a := fun v1035 k0_hw118 => k0_hw118

def k0_off125 (v1042 : BitVec 32) : Fin 3 → Nat :=
  let v1043 : Index := Scalar.indexCast v1042
  let c118_711 : Index := 118#32
  let c0_712 : Index := 0#32
  ![v1043.toNat, 118, 0]

def k0_chk119 (v1042 : BitVec 32) : Prop :=
  (∀ a, (k0_off125 v1042) a + S1x1x512.size a ≤ S128x128x512.size a)
theorem k0_off125_inb : ∀ (v1042 : BitVec 32) (k0_hw119 : k0_chk119 v1042), ∀ a, (k0_off125 v1042) a + S1x1x512.size a ≤ S128x128x512.size a := fun v1042 k0_hw119 => k0_hw119

def k0_off126 (v1049 : BitVec 32) : Fin 3 → Nat :=
  let v1050 : Index := Scalar.indexCast v1049
  let c119_716 : Index := 119#32
  let c0_717 : Index := 0#32
  ![v1050.toNat, 119, 0]

def k0_chk120 (v1049 : BitVec 32) : Prop :=
  (∀ a, (k0_off126 v1049) a + S1x1x512.size a ≤ S128x128x512.size a)
theorem k0_off126_inb : ∀ (v1049 : BitVec 32) (k0_hw120 : k0_chk120 v1049), ∀ a, (k0_off126 v1049) a + S1x1x512.size a ≤ S128x128x512.size a := fun v1049 k0_hw120 => k0_hw120

def k0_off127 (v1056 : BitVec 32) : Fin 3 → Nat :=
  let v1057 : Index := Scalar.indexCast v1056
  let c120_721 : Index := 120#32
  let c0_722 : Index := 0#32
  ![v1057.toNat, 120, 0]

def k0_chk121 (v1056 : BitVec 32) : Prop :=
  (∀ a, (k0_off127 v1056) a + S1x1x512.size a ≤ S128x128x512.size a)
theorem k0_off127_inb : ∀ (v1056 : BitVec 32) (k0_hw121 : k0_chk121 v1056), ∀ a, (k0_off127 v1056) a + S1x1x512.size a ≤ S128x128x512.size a := fun v1056 k0_hw121 => k0_hw121

def k0_off128 (v1063 : BitVec 32) : Fin 3 → Nat :=
  let v1064 : Index := Scalar.indexCast v1063
  let c121_726 : Index := 121#32
  let c0_727 : Index := 0#32
  ![v1064.toNat, 121, 0]

def k0_chk122 (v1063 : BitVec 32) : Prop :=
  (∀ a, (k0_off128 v1063) a + S1x1x512.size a ≤ S128x128x512.size a)
theorem k0_off128_inb : ∀ (v1063 : BitVec 32) (k0_hw122 : k0_chk122 v1063), ∀ a, (k0_off128 v1063) a + S1x1x512.size a ≤ S128x128x512.size a := fun v1063 k0_hw122 => k0_hw122

def k0_off129 (v1070 : BitVec 32) : Fin 3 → Nat :=
  let v1071 : Index := Scalar.indexCast v1070
  let c122_731 : Index := 122#32
  let c0_732 : Index := 0#32
  ![v1071.toNat, 122, 0]

def k0_chk123 (v1070 : BitVec 32) : Prop :=
  (∀ a, (k0_off129 v1070) a + S1x1x512.size a ≤ S128x128x512.size a)
theorem k0_off129_inb : ∀ (v1070 : BitVec 32) (k0_hw123 : k0_chk123 v1070), ∀ a, (k0_off129 v1070) a + S1x1x512.size a ≤ S128x128x512.size a := fun v1070 k0_hw123 => k0_hw123

def k0_off130 (v1077 : BitVec 32) : Fin 3 → Nat :=
  let v1078 : Index := Scalar.indexCast v1077
  let c123_736 : Index := 123#32
  let c0_737 : Index := 0#32
  ![v1078.toNat, 123, 0]

def k0_chk124 (v1077 : BitVec 32) : Prop :=
  (∀ a, (k0_off130 v1077) a + S1x1x512.size a ≤ S128x128x512.size a)
theorem k0_off130_inb : ∀ (v1077 : BitVec 32) (k0_hw124 : k0_chk124 v1077), ∀ a, (k0_off130 v1077) a + S1x1x512.size a ≤ S128x128x512.size a := fun v1077 k0_hw124 => k0_hw124

def k0_off131 (v1084 : BitVec 32) : Fin 3 → Nat :=
  let v1085 : Index := Scalar.indexCast v1084
  let c124_741 : Index := 124#32
  let c0_742 : Index := 0#32
  ![v1085.toNat, 124, 0]

def k0_chk125 (v1084 : BitVec 32) : Prop :=
  (∀ a, (k0_off131 v1084) a + S1x1x512.size a ≤ S128x128x512.size a)
theorem k0_off131_inb : ∀ (v1084 : BitVec 32) (k0_hw125 : k0_chk125 v1084), ∀ a, (k0_off131 v1084) a + S1x1x512.size a ≤ S128x128x512.size a := fun v1084 k0_hw125 => k0_hw125

def k0_off132 (v1091 : BitVec 32) : Fin 3 → Nat :=
  let v1092 : Index := Scalar.indexCast v1091
  let c125_746 : Index := 125#32
  let c0_747 : Index := 0#32
  ![v1092.toNat, 125, 0]

def k0_chk126 (v1091 : BitVec 32) : Prop :=
  (∀ a, (k0_off132 v1091) a + S1x1x512.size a ≤ S128x128x512.size a)
theorem k0_off132_inb : ∀ (v1091 : BitVec 32) (k0_hw126 : k0_chk126 v1091), ∀ a, (k0_off132 v1091) a + S1x1x512.size a ≤ S128x128x512.size a := fun v1091 k0_hw126 => k0_hw126

def k0_off133 (v1098 : BitVec 32) : Fin 3 → Nat :=
  let v1099 : Index := Scalar.indexCast v1098
  let c126_751 : Index := 126#32
  let c0_752 : Index := 0#32
  ![v1099.toNat, 126, 0]

def k0_chk127 (v1098 : BitVec 32) : Prop :=
  (∀ a, (k0_off133 v1098) a + S1x1x512.size a ≤ S128x128x512.size a)
theorem k0_off133_inb : ∀ (v1098 : BitVec 32) (k0_hw127 : k0_chk127 v1098), ∀ a, (k0_off133 v1098) a + S1x1x512.size a ≤ S128x128x512.size a := fun v1098 k0_hw127 => k0_hw127

def k0_off134 (v1105 : BitVec 32) : Fin 3 → Nat :=
  let v1106 : Index := Scalar.indexCast v1105
  let c127_756 : Index := 127#32
  let c0_757 : Index := 0#32
  ![v1106.toNat, 127, 0]

def k0_chk128 (v1105 : BitVec 32) : Prop :=
  (∀ a, (k0_off134 v1105) a + S1x1x512.size a ≤ S128x128x512.size a)
theorem k0_off134_inb : ∀ (v1105 : BitVec 32) (k0_hw128 : k0_chk128 v1105), ∀ a, (k0_off134 v1105) a + S1x1x512.size a ≤ S128x128x512.size a := fun v1105 k0_hw128 => k0_hw128

def k0_off135 (k0_t2 : Fin k0_t2_loop.trips) : Fin 3 → Nat :=
  let c0_i32_16 : BitVec 32 := 0#32
  let c1_i32_17 : BitVec 32 := 1#32
  let arg20 : BitVec 32 := Scf.iv c0_i32_16 c1_i32_17 k0_t2
  let c1_i32_30 : BitVec 32 := 1#32
  let v31 : BitVec 32 := Scalar.addi arg20 c1_i32_30
  let c4_i32 : BitVec 32 := 4#32
  let v32 : BitVec 32 := Scalar.remsi v31 c4_i32
  let v1116 : Index := Scalar.indexCast v32
  let c0_765 : Index := 0#32
  let c0_766 : Index := 0#32
  ![v1116.toNat, 0, 0]
def k0_off136 (k0_t2 : Fin k0_t2_loop.trips) : Fin 3 → Nat :=
  let c0_i32_16 : BitVec 32 := 0#32
  let c1_i32_17 : BitVec 32 := 1#32
  let arg20 : BitVec 32 := Scf.iv c0_i32_16 c1_i32_17 k0_t2
  let c1_i32_30 : BitVec 32 := 1#32
  let v31 : BitVec 32 := Scalar.addi arg20 c1_i32_30
  let c4_i32 : BitVec 32 := 4#32
  let v32 : BitVec 32 := Scalar.remsi v31 c4_i32
  let v1132 : Index := Scalar.indexCast v32
  let c64_778 : Index := 64#32
  let c0_779 : Index := 0#32
  ![v1132.toNat, 64, 0]
abbrev stage0_0 : Fin 1 → Memref sig .tc .vmem S128x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x360 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x360 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x360 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S360x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S128x128x512 : Shape := ⟨3, ![128, 128, 512]⟩
abbrev S256x512 : Shape := ⟨2, ![256, 512]⟩
abbrev S360x512 : Shape := ⟨2, ![360, 512]⟩
abbrev S256x360 : Shape := ⟨2, ![256, 360]⟩
abbrev S256 : Shape := ⟨1, ![256]⟩
abbrev S512x256 : Shape := ⟨2, ![512, 256]⟩
abbrev S128x128x256 : Shape := ⟨3, ![128, 128, 256]⟩
abbrev S128 : Shape := ⟨1, ![128]⟩
abbrev S_ : Shape := ⟨0, ![]⟩
abbrev S128x128 : Shape := ⟨2, ![128, 128]⟩
abbrev S3x128x512 : Shape := ⟨3, ![3, 128, 512]⟩
abbrev S1 : Shape := ⟨1, ![1]⟩
abbrev S2 : Shape := ⟨1, ![2]⟩
abbrev S1x128x512 : Shape := ⟨3, ![1, 128, 512]⟩
abbrev S128x512 : Shape := ⟨2, ![128, 512]⟩
abbrev S512x360 : Shape := ⟨2, ![512, 360]⟩
abbrev S128x360 : Shape := ⟨2, ![128, 360]⟩
abbrev S360x256 : Shape := ⟨2, ![360, 256]⟩
abbrev S128x256 : Shape := ⟨2, ![128, 256]⟩
abbrev S128x1x256 : Shape := ⟨3, ![128, 1, 256]⟩
abbrev S1x1x256 : Shape := ⟨3, ![1, 1, 256]⟩
abbrev S1x1 : Shape := ⟨2, ![1, 1]⟩
abbrev S128x1 : Shape := ⟨2, ![128, 1]⟩
abbrev S128x1x1 : Shape := ⟨3, ![128, 1, 1]⟩
abbrev S1x1x1 : Shape := ⟨3, ![1, 1, 1]⟩
abbrev S1x128 : Shape := ⟨2, ![1, 128]⟩
abbrev S128x2 : Shape := ⟨2, ![128, 2]⟩
abbrev S2x128x512 : Shape := ⟨3, ![2, 128, 512]⟩
abbrev S129x128 : Shape := ⟨2, ![129, 128]⟩
abbrev S128x129 : Shape := ⟨2, ![128, 129]⟩

abbrev nBuf : Space → Nat
  | .hbm => 690
  | .vmem => 0
  | .smem => 0
  | _ => 0

abbrev hbmTy0_0 (i : Nat) : BufTy := match i % 128 with
  | 0 => ⟨S128x128x512, .f32⟩
  | 1 => ⟨S256x512, .f32⟩
  | 2 => ⟨S360x512, .f32⟩
  | 3 => ⟨S360x512, .f32⟩
  | 4 => ⟨S360x512, .f32⟩
  | 5 => ⟨S256x360, .f32⟩
  | 6 => ⟨S256, .f32⟩
  | 7 => ⟨S512x256, .f32⟩
  | 8 => ⟨S128x128x256, .f32⟩
  | 9 => ⟨S128, .i32⟩
  | 10 => ⟨S_, .f32⟩
  | 11 => ⟨S128x128, .f32⟩
  | 12 => ⟨S_, .f32⟩
  | 13 => ⟨S3x128x512, .f32⟩
  | 14 => ⟨S_, .f32⟩
  | 15 => ⟨S128, .f32⟩
  | 16 => ⟨S_, .f32⟩
  | 17 => ⟨S128, .f32⟩
  | 18 => ⟨S_, .i32⟩
  | 19 => ⟨S_, .i32⟩
  | 20 => ⟨S_, .i32⟩
  | 21 => ⟨S_, .i32⟩
  | 22 => ⟨S1, .i32⟩
  | 23 => ⟨S_, .i32⟩
  | 24 => ⟨S_, .i32⟩
  | 25 => ⟨S_, .i32⟩
  | 26 => ⟨S1, .i32⟩
  | 27 => ⟨S2, .i32⟩
  | 28 => ⟨S128, .i32⟩
  | 29 => ⟨S_, .i32⟩
  | 30 => ⟨S128x128, .i32⟩
  | 31 => ⟨S_, .i32⟩
  | 32 => ⟨S128, .i32⟩
  | 33 => ⟨S360x512, .f32⟩
  | 34 => ⟨S360x512, .f32⟩
  | 35 => ⟨S360x512, .f32⟩
  | 36 => ⟨S256x360, .f32⟩
  | 37 => ⟨S128x128x256, .f32⟩
  | 38 => ⟨S256, .f32⟩
  | 39 => ⟨S2, .i32⟩
  | 40 => ⟨S128, .i32⟩
  | 41 => ⟨S128x128x512, .f32⟩
  | 42 => ⟨S_, .i32⟩
  | 43 => ⟨S128x128, .f32⟩
  | 44 => ⟨S3x128x512, .f32⟩
  | 45 => ⟨S128, .f32⟩
  | 46 => ⟨S128, .f32⟩
  | 47 => ⟨S128x128, .i32⟩
  | 48 => ⟨S_, .i32⟩
  | 49 => ⟨S_, .i1⟩
  | 50 => ⟨S1, .i32⟩
  | 51 => ⟨S_, .i32⟩
  | 52 => ⟨S1x128x512, .f32⟩
  | 53 => ⟨S128x512, .f32⟩
  | 54 => ⟨S512x360, .f32⟩
  | 55 => ⟨S128x360, .f32⟩
  | 56 => ⟨S1x128x512, .f32⟩
  | 57 => ⟨S128x512, .f32⟩
  | 58 => ⟨S512x360, .f32⟩
  | 59 => ⟨S128x360, .f32⟩
  | 60 => ⟨S128x360, .f32⟩
  | 61 => ⟨S1x128x512, .f32⟩
  | 62 => ⟨S128x512, .f32⟩
  | 63 => ⟨S512x360, .f32⟩
  | 64 => ⟨S128x360, .f32⟩
  | 65 => ⟨S128x360, .f32⟩
  | 66 => ⟨S_, .f32⟩
  | 67 => ⟨S128x360, .f32⟩
  | 68 => ⟨S128x360, .f32⟩
  | 69 => ⟨S360x256, .f32⟩
  | 70 => ⟨S128x256, .f32⟩
  | 71 => ⟨S128x1x256, .f32⟩
  | 72 => ⟨S128x128x256, .f32⟩
  | 73 => ⟨S128x128x256, .f32⟩
  | 74 => ⟨S128x128x256, .f32⟩
  | 75 => ⟨S1x1x256, .f32⟩
  | 76 => ⟨S128x128x256, .f32⟩
  | 77 => ⟨S128x128x256, .f32⟩
  | 78 => ⟨S_, .f32⟩
  | 79 => ⟨S128x128, .f32⟩
  | 80 => ⟨S_, .f32⟩
  | 81 => ⟨S128x128, .f32⟩
  | 82 => ⟨S128x128, .f32⟩
  | 83 => ⟨S128x128, .f32⟩
  | 84 => ⟨S_, .f32⟩
  | 85 => ⟨S128x128, .f32⟩
  | 86 => ⟨S128x128, .f32⟩
  | 87 => ⟨S_, .f32⟩
  | 88 => ⟨S128x128, .f32⟩
  | 89 => ⟨S128x128, .f32⟩
  | 90 => ⟨S128x128, .f32⟩
  | 91 => ⟨S_, .f32⟩
  | 92 => ⟨S_, .f32⟩
  | 93 => ⟨S_, .f32⟩
  | 94 => ⟨S128x128, .f32⟩
  | 95 => ⟨S128x128, .f32⟩
  | 96 => ⟨S_, .f32⟩
  | 97 => ⟨S128x128, .f32⟩
  | 98 => ⟨S128x128, .f32⟩
  | 99 => ⟨S_, .i32⟩
  | 100 => ⟨S_, .i32⟩
  | 101 => ⟨S_, .i32⟩
  | 102 => ⟨S1, .i32⟩
  | 103 => ⟨S_, .i32⟩
  | 104 => ⟨S_, .i32⟩
  | 105 => ⟨S1, .i32⟩
  | 106 => ⟨S2, .i32⟩
  | 107 => ⟨S1, .i32⟩
  | 108 => ⟨S_, .i32⟩
  | 109 => ⟨S1, .i32⟩
  | 110 => ⟨S_, .i32⟩
  | 111 => ⟨S1, .i32⟩
  | 112 => ⟨S1, .i32⟩
  | 113 => ⟨S_, .i32⟩
  | 114 => ⟨S_, .i32⟩
  | 115 => ⟨S_, .i32⟩
  | 116 => ⟨S1, .i32⟩
  | 117 => ⟨S1, .i32⟩
  | 118 => ⟨S1, .i32⟩
  | 119 => ⟨S1, .i32⟩
  | 120 => ⟨S1, .i32⟩
  | 121 => ⟨S_, .i32⟩
  | 122 => ⟨S1, .i32⟩
  | 123 => ⟨S1, .i32⟩
  | 124 => ⟨S_, .i32⟩
  | 125 => ⟨S1, .i32⟩
  | 126 => ⟨S1, .i32⟩
  | 127 => ⟨S1, .i32⟩
  | _ => ⟨S128x128x512, .f32⟩

abbrev hbmTy0_1 (i : Nat) : BufTy := match i % 128 with
  | 0 => ⟨S1, .i32⟩
  | 1 => ⟨S1, .i32⟩
  | 2 => ⟨S_, .i32⟩
  | 3 => ⟨S1, .i32⟩
  | 4 => ⟨S1, .i32⟩
  | 5 => ⟨S_, .i32⟩
  | 6 => ⟨S1, .i32⟩
  | 7 => ⟨S1, .i32⟩
  | 8 => ⟨S1, .i32⟩
  | 9 => ⟨S1, .i32⟩
  | 10 => ⟨S1, .i32⟩
  | 11 => ⟨S_, .i32⟩
  | 12 => ⟨S1, .i32⟩
  | 13 => ⟨S1, .i32⟩
  | 14 => ⟨S_, .i32⟩
  | 15 => ⟨S1, .i32⟩
  | 16 => ⟨S1, .i32⟩
  | 17 => ⟨S1, .i32⟩
  | 18 => ⟨S1, .i32⟩
  | 19 => ⟨S1, .i32⟩
  | 20 => ⟨S_, .i32⟩
  | 21 => ⟨S1, .i32⟩
  | 22 => ⟨S1, .i32⟩
  | 23 => ⟨S_, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S1, .i32⟩
  | 32 => ⟨S_, .i32⟩
  | 33 => ⟨S1, .i32⟩
  | 34 => ⟨S1, .i32⟩
  | 35 => ⟨S1, .i32⟩
  | 36 => ⟨S_, .i32⟩
  | 37 => ⟨S1, .i32⟩
  | 38 => ⟨S1, .i32⟩
  | 39 => ⟨S_, .i32⟩
  | 40 => ⟨S1, .i32⟩
  | 41 => ⟨S1, .i32⟩
  | 42 => ⟨S1, .i32⟩
  | 43 => ⟨S1, .i32⟩
  | 44 => ⟨S1, .i32⟩
  | 45 => ⟨S_, .i32⟩
  | 46 => ⟨S1, .i32⟩
  | 47 => ⟨S1, .i32⟩
  | 48 => ⟨S_, .i32⟩
  | 49 => ⟨S1, .i32⟩
  | 50 => ⟨S1, .i32⟩
  | 51 => ⟨S1, .i32⟩
  | 52 => ⟨S1, .i32⟩
  | 53 => ⟨S1, .i32⟩
  | 54 => ⟨S_, .i32⟩
  | 55 => ⟨S1, .i32⟩
  | 56 => ⟨S1, .i32⟩
  | 57 => ⟨S_, .i32⟩
  | 58 => ⟨S1, .i32⟩
  | 59 => ⟨S1, .i32⟩
  | 60 => ⟨S1, .i32⟩
  | 61 => ⟨S1, .i32⟩
  | 62 => ⟨S1, .i32⟩
  | 63 => ⟨S_, .i32⟩
  | 64 => ⟨S1, .i32⟩
  | 65 => ⟨S1, .i32⟩
  | 66 => ⟨S_, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S1, .i32⟩
  | 75 => ⟨S_, .i32⟩
  | 76 => ⟨S1, .i32⟩
  | 77 => ⟨S1, .i32⟩
  | 78 => ⟨S1, .i32⟩
  | 79 => ⟨S_, .i32⟩
  | 80 => ⟨S1, .i32⟩
  | 81 => ⟨S1, .i32⟩
  | 82 => ⟨S_, .i32⟩
  | 83 => ⟨S1, .i32⟩
  | 84 => ⟨S1, .i32⟩
  | 85 => ⟨S1, .i32⟩
  | 86 => ⟨S1, .i32⟩
  | 87 => ⟨S1, .i32⟩
  | 88 => ⟨S_, .i32⟩
  | 89 => ⟨S1, .i32⟩
  | 90 => ⟨S1, .i32⟩
  | 91 => ⟨S_, .i32⟩
  | 92 => ⟨S1, .i32⟩
  | 93 => ⟨S1, .i32⟩
  | 94 => ⟨S1, .i32⟩
  | 95 => ⟨S1, .i32⟩
  | 96 => ⟨S1, .i32⟩
  | 97 => ⟨S_, .i32⟩
  | 98 => ⟨S1, .i32⟩
  | 99 => ⟨S1, .i32⟩
  | 100 => ⟨S_, .i32⟩
  | 101 => ⟨S1, .i32⟩
  | 102 => ⟨S1, .i32⟩
  | 103 => ⟨S1, .i32⟩
  | 104 => ⟨S1, .i32⟩
  | 105 => ⟨S1, .i32⟩
  | 106 => ⟨S_, .i32⟩
  | 107 => ⟨S1, .i32⟩
  | 108 => ⟨S1, .i32⟩
  | 109 => ⟨S_, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S1, .i32⟩
  | 118 => ⟨S_, .i32⟩
  | 119 => ⟨S1, .i32⟩
  | 120 => ⟨S1, .i32⟩
  | 121 => ⟨S1, .i32⟩
  | 122 => ⟨S_, .i32⟩
  | 123 => ⟨S1, .i32⟩
  | 124 => ⟨S1, .i32⟩
  | 125 => ⟨S_, .i32⟩
  | 126 => ⟨S1, .i32⟩
  | 127 => ⟨S1, .i32⟩
  | _ => ⟨S128x128x512, .f32⟩

abbrev hbmTy0_2 (i : Nat) : BufTy := match i % 128 with
  | 0 => ⟨S1, .i32⟩
  | 1 => ⟨S1, .i32⟩
  | 2 => ⟨S1, .i32⟩
  | 3 => ⟨S_, .i32⟩
  | 4 => ⟨S1, .i32⟩
  | 5 => ⟨S1, .i32⟩
  | 6 => ⟨S_, .i32⟩
  | 7 => ⟨S1, .i32⟩
  | 8 => ⟨S1, .i32⟩
  | 9 => ⟨S1, .i32⟩
  | 10 => ⟨S1, .i32⟩
  | 11 => ⟨S1, .i32⟩
  | 12 => ⟨S_, .i32⟩
  | 13 => ⟨S1, .i32⟩
  | 14 => ⟨S1, .i32⟩
  | 15 => ⟨S_, .i32⟩
  | 16 => ⟨S1, .i32⟩
  | 17 => ⟨S1, .i32⟩
  | 18 => ⟨S1, .i32⟩
  | 19 => ⟨S1, .i32⟩
  | 20 => ⟨S1, .i32⟩
  | 21 => ⟨S_, .i32⟩
  | 22 => ⟨S1, .i32⟩
  | 23 => ⟨S1, .i32⟩
  | 24 => ⟨S_, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S1, .i32⟩
  | 32 => ⟨S1, .i32⟩
  | 33 => ⟨S_, .i32⟩
  | 34 => ⟨S1, .i32⟩
  | 35 => ⟨S1, .i32⟩
  | 36 => ⟨S1, .i32⟩
  | 37 => ⟨S_, .i32⟩
  | 38 => ⟨S1, .i32⟩
  | 39 => ⟨S1, .i32⟩
  | 40 => ⟨S_, .i32⟩
  | 41 => ⟨S1, .i32⟩
  | 42 => ⟨S1, .i32⟩
  | 43 => ⟨S1, .i32⟩
  | 44 => ⟨S1, .i32⟩
  | 45 => ⟨S1, .i32⟩
  | 46 => ⟨S_, .i32⟩
  | 47 => ⟨S1, .i32⟩
  | 48 => ⟨S1, .i32⟩
  | 49 => ⟨S_, .i32⟩
  | 50 => ⟨S1, .i32⟩
  | 51 => ⟨S1, .i32⟩
  | 52 => ⟨S1, .i32⟩
  | 53 => ⟨S1, .i32⟩
  | 54 => ⟨S1, .i32⟩
  | 55 => ⟨S_, .i32⟩
  | 56 => ⟨S1, .i32⟩
  | 57 => ⟨S1, .i32⟩
  | 58 => ⟨S_, .i32⟩
  | 59 => ⟨S1, .i32⟩
  | 60 => ⟨S1, .i32⟩
  | 61 => ⟨S1, .i32⟩
  | 62 => ⟨S1, .i32⟩
  | 63 => ⟨S1, .i32⟩
  | 64 => ⟨S_, .i32⟩
  | 65 => ⟨S1, .i32⟩
  | 66 => ⟨S1, .i32⟩
  | 67 => ⟨S_, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S1, .i32⟩
  | 75 => ⟨S1, .i32⟩
  | 76 => ⟨S_, .i32⟩
  | 77 => ⟨S1, .i32⟩
  | 78 => ⟨S1, .i32⟩
  | 79 => ⟨S2, .i32⟩
  | 80 => ⟨S_, .f32⟩
  | 81 => ⟨S_, .f32⟩
  | 82 => ⟨S_, .f32⟩
  | 83 => ⟨S1x1, .f32⟩
  | 84 => ⟨S1x1, .f32⟩
  | 85 => ⟨S1, .i32⟩
  | 86 => ⟨S_, .i32⟩
  | 87 => ⟨S1, .i32⟩
  | 88 => ⟨S_, .i32⟩
  | 89 => ⟨S128x128, .i64⟩
  | 90 => ⟨S128x128, .i64⟩
  | 91 => ⟨S_, .i64⟩
  | 92 => ⟨S128x128, .i64⟩
  | 93 => ⟨S128x128, .i64⟩
  | 94 => ⟨S_, .i64⟩
  | 95 => ⟨S128x128, .i64⟩
  | 96 => ⟨S128x128, .i64⟩
  | 97 => ⟨S128x128, .i64⟩
  | 98 => ⟨S_, .i64⟩
  | 99 => ⟨S128x128, .i64⟩
  | 100 => ⟨S128x128, .i64⟩
  | 101 => ⟨S128x128, .i32⟩
  | 102 => ⟨S128x128, .i32⟩
  | 103 => ⟨S_, .i32⟩
  | 104 => ⟨S_, .i32⟩
  | 105 => ⟨S_, .i32⟩
  | 106 => ⟨S128x128, .i32⟩
  | 107 => ⟨S128x128, .i32⟩
  | 108 => ⟨S128x128, .i32⟩
  | 109 => ⟨S128x128, .i32⟩
  | 110 => ⟨S128x128, .i32⟩
  | 111 => ⟨S_, .i32⟩
  | 112 => ⟨S128x128, .i32⟩
  | 113 => ⟨S128x128, .i32⟩
  | 114 => ⟨S_, .i32⟩
  | 115 => ⟨S128x128, .i32⟩
  | 116 => ⟨S128x128, .i32⟩
  | 117 => ⟨S128x128, .i32⟩
  | 118 => ⟨S128x128, .i32⟩
  | 119 => ⟨S128x128, .i32⟩
  | 120 => ⟨S_, .i32⟩
  | 121 => ⟨S128x128, .i32⟩
  | 122 => ⟨S128x128, .i32⟩
  | 123 => ⟨S_, .i32⟩
  | 124 => ⟨S128x128, .i32⟩
  | 125 => ⟨S128x128, .i32⟩
  | 126 => ⟨S128x128, .i32⟩
  | 127 => ⟨S128x128, .i32⟩
  | _ => ⟨S128x128x512, .f32⟩

abbrev hbmTy0_3 (i : Nat) : BufTy := match i % 128 with
  | 0 => ⟨S128x128, .i32⟩
  | 1 => ⟨S_, .i32⟩
  | 2 => ⟨S128x128, .i32⟩
  | 3 => ⟨S128x128, .i32⟩
  | 4 => ⟨S_, .i32⟩
  | 5 => ⟨S128x128, .i32⟩
  | 6 => ⟨S128x128, .i32⟩
  | 7 => ⟨S128x128, .i32⟩
  | 8 => ⟨S128x128, .i32⟩
  | 9 => ⟨S128x128, .i32⟩
  | 10 => ⟨S_, .i32⟩
  | 11 => ⟨S128x128, .i32⟩
  | 12 => ⟨S128x128, .i32⟩
  | 13 => ⟨S_, .i32⟩
  | 14 => ⟨S128x128, .i32⟩
  | 15 => ⟨S128x128, .i32⟩
  | 16 => ⟨S128x128, .i32⟩
  | 17 => ⟨S128x128, .i32⟩
  | 18 => ⟨S128x128, .i32⟩
  | 19 => ⟨S128x128, .i32⟩
  | 20 => ⟨S128x128, .i32⟩
  | 21 => ⟨S128x128, .i32⟩
  | 22 => ⟨S_, .i32⟩
  | 23 => ⟨S128x128, .i32⟩
  | 24 => ⟨S128x128, .i32⟩
  | 25 => ⟨S128x128, .i32⟩
  | 26 => ⟨S_, .i32⟩
  | 27 => ⟨S128x128, .i32⟩
  | 28 => ⟨S128x128, .i32⟩
  | 29 => ⟨S_, .i32⟩
  | 30 => ⟨S128x128, .i32⟩
  | 31 => ⟨S128x128, .i32⟩
  | 32 => ⟨S128x128, .i32⟩
  | 33 => ⟨S128x128, .i32⟩
  | 34 => ⟨S128x128, .i32⟩
  | 35 => ⟨S_, .i32⟩
  | 36 => ⟨S128x128, .i32⟩
  | 37 => ⟨S128x128, .i32⟩
  | 38 => ⟨S_, .i32⟩
  | 39 => ⟨S128x128, .i32⟩
  | 40 => ⟨S128x128, .i32⟩
  | 41 => ⟨S128x128, .i32⟩
  | 42 => ⟨S128x128, .i32⟩
  | 43 => ⟨S128x128, .i32⟩
  | 44 => ⟨S_, .i32⟩
  | 45 => ⟨S128x128, .i32⟩
  | 46 => ⟨S128x128, .i32⟩
  | 47 => ⟨S_, .i32⟩
  | 48 => ⟨S128x128, .i32⟩
  | 49 => ⟨S128x128, .i32⟩
  | 50 => ⟨S128x128, .i32⟩
  | 51 => ⟨S128x128, .i32⟩
  | 52 => ⟨S128x128, .i32⟩
  | 53 => ⟨S_, .i32⟩
  | 54 => ⟨S128x128, .i32⟩
  | 55 => ⟨S128x128, .i32⟩
  | 56 => ⟨S_, .i32⟩
  | 57 => ⟨S128x128, .i32⟩
  | 58 => ⟨S128x128, .i32⟩
  | 59 => ⟨S128x128, .i32⟩
  | 60 => ⟨S128x128, .i32⟩
  | 61 => ⟨S128x128, .i32⟩
  | 62 => ⟨S128x128, .i32⟩
  | 63 => ⟨S128x128, .i32⟩
  | 64 => ⟨S128x128, .i32⟩
  | 65 => ⟨S_, .i32⟩
  | 66 => ⟨S128x128, .i32⟩
  | 67 => ⟨S128x128, .i32⟩
  | 68 => ⟨S128x128, .i32⟩
  | 69 => ⟨S_, .i32⟩
  | 70 => ⟨S128x128, .i32⟩
  | 71 => ⟨S128x128, .i32⟩
  | 72 => ⟨S_, .i32⟩
  | 73 => ⟨S128x128, .i32⟩
  | 74 => ⟨S128x128, .i32⟩
  | 75 => ⟨S128x128, .i32⟩
  | 76 => ⟨S128x128, .i32⟩
  | 77 => ⟨S128x128, .i32⟩
  | 78 => ⟨S_, .i32⟩
  | 79 => ⟨S128x128, .i32⟩
  | 80 => ⟨S128x128, .i32⟩
  | 81 => ⟨S_, .i32⟩
  | 82 => ⟨S128x128, .i32⟩
  | 83 => ⟨S128x128, .i32⟩
  | 84 => ⟨S128x128, .i32⟩
  | 85 => ⟨S128x128, .i32⟩
  | 86 => ⟨S128x128, .i32⟩
  | 87 => ⟨S_, .i32⟩
  | 88 => ⟨S128x128, .i32⟩
  | 89 => ⟨S128x128, .i32⟩
  | 90 => ⟨S_, .i32⟩
  | 91 => ⟨S128x128, .i32⟩
  | 92 => ⟨S128x128, .i32⟩
  | 93 => ⟨S128x128, .i32⟩
  | 94 => ⟨S128x128, .i32⟩
  | 95 => ⟨S128x128, .i32⟩
  | 96 => ⟨S_, .i32⟩
  | 97 => ⟨S128x128, .i32⟩
  | 98 => ⟨S128x128, .i32⟩
  | 99 => ⟨S_, .i32⟩
  | 100 => ⟨S128x128, .i32⟩
  | 101 => ⟨S128x128, .i32⟩
  | 102 => ⟨S128x128, .i32⟩
  | 103 => ⟨S128x128, .i32⟩
  | 104 => ⟨S128x128, .i32⟩
  | 105 => ⟨S128x128, .i32⟩
  | 106 => ⟨S128x128, .i32⟩
  | 107 => ⟨S128x128, .i32⟩
  | 108 => ⟨S_, .i32⟩
  | 109 => ⟨S128x128, .i32⟩
  | 110 => ⟨S128x128, .i32⟩
  | 111 => ⟨S128x128, .i32⟩
  | 112 => ⟨S_, .i32⟩
  | 113 => ⟨S128x128, .i32⟩
  | 114 => ⟨S128x128, .i32⟩
  | 115 => ⟨S_, .i32⟩
  | 116 => ⟨S128x128, .i32⟩
  | 117 => ⟨S128x128, .i32⟩
  | 118 => ⟨S128x128, .i32⟩
  | 119 => ⟨S128x128, .i32⟩
  | 120 => ⟨S128x128, .i32⟩
  | 121 => ⟨S_, .i32⟩
  | 122 => ⟨S128x128, .i32⟩
  | 123 => ⟨S128x128, .i32⟩
  | 124 => ⟨S_, .i32⟩
  | 125 => ⟨S128x128, .i32⟩
  | 126 => ⟨S128x128, .i32⟩
  | 127 => ⟨S128x128, .i32⟩
  | _ => ⟨S128x128x512, .f32⟩

abbrev hbmTy0_4 (i : Nat) : BufTy := match i % 128 with
  | 0 => ⟨S128x128, .i32⟩
  | 1 => ⟨S128x128, .i32⟩
  | 2 => ⟨S_, .i32⟩
  | 3 => ⟨S128x128, .i32⟩
  | 4 => ⟨S128x128, .i32⟩
  | 5 => ⟨S_, .i32⟩
  | 6 => ⟨S128x128, .i32⟩
  | 7 => ⟨S128x128, .i32⟩
  | 8 => ⟨S128x128, .i32⟩
  | 9 => ⟨S128x128, .i32⟩
  | 10 => ⟨S128x128, .i32⟩
  | 11 => ⟨S_, .i32⟩
  | 12 => ⟨S128x128, .i32⟩
  | 13 => ⟨S128x128, .i32⟩
  | 14 => ⟨S_, .i32⟩
  | 15 => ⟨S128x128, .i32⟩
  | 16 => ⟨S128x128, .i32⟩
  | 17 => ⟨S128x128, .i32⟩
  | 18 => ⟨S128x128, .i32⟩
  | 19 => ⟨S128x128, .i32⟩
  | 20 => ⟨S128x128, .i32⟩
  | 21 => ⟨S128x128, .i32⟩
  | 22 => ⟨S128x128, .i32⟩
  | 23 => ⟨S_, .i32⟩
  | 24 => ⟨S128x128, .i32⟩
  | 25 => ⟨S128x128, .i32⟩
  | 26 => ⟨S128x128, .i32⟩
  | 27 => ⟨S_, .i32⟩
  | 28 => ⟨S128x128, .i32⟩
  | 29 => ⟨S128x128, .i32⟩
  | 30 => ⟨S_, .i32⟩
  | 31 => ⟨S128x128, .i32⟩
  | 32 => ⟨S128x128, .i32⟩
  | 33 => ⟨S128x128, .i32⟩
  | 34 => ⟨S128x128, .i32⟩
  | 35 => ⟨S128x128, .i32⟩
  | 36 => ⟨S_, .i32⟩
  | 37 => ⟨S128x128, .i32⟩
  | 38 => ⟨S128x128, .i32⟩
  | 39 => ⟨S_, .i32⟩
  | 40 => ⟨S128x128, .i32⟩
  | 41 => ⟨S128x128, .i32⟩
  | 42 => ⟨S128x128, .i32⟩
  | 43 => ⟨S128x128, .i32⟩
  | 44 => ⟨S128x128, .i32⟩
  | 45 => ⟨S_, .i32⟩
  | 46 => ⟨S128x128, .i32⟩
  | 47 => ⟨S128x128, .i32⟩
  | 48 => ⟨S_, .i32⟩
  | 49 => ⟨S128x128, .i32⟩
  | 50 => ⟨S128x128, .i32⟩
  | 51 => ⟨S128x128, .i32⟩
  | 52 => ⟨S128x128, .i32⟩
  | 53 => ⟨S128x128, .i32⟩
  | 54 => ⟨S_, .i32⟩
  | 55 => ⟨S128x128, .i32⟩
  | 56 => ⟨S128x128, .i32⟩
  | 57 => ⟨S_, .i32⟩
  | 58 => ⟨S128x128, .i32⟩
  | 59 => ⟨S128x128, .i32⟩
  | 60 => ⟨S128x128, .i32⟩
  | 61 => ⟨S128x128, .i32⟩
  | 62 => ⟨S128x128, .i32⟩
  | 63 => ⟨S128x128, .i32⟩
  | 64 => ⟨S128x128, .i32⟩
  | 65 => ⟨S128x128, .i32⟩
  | 66 => ⟨S_, .i32⟩
  | 67 => ⟨S128x128, .i32⟩
  | 68 => ⟨S128x128, .i32⟩
  | 69 => ⟨S128x128, .i32⟩
  | 70 => ⟨S_, .i32⟩
  | 71 => ⟨S128x128, .i32⟩
  | 72 => ⟨S128x128, .i32⟩
  | 73 => ⟨S_, .i32⟩
  | 74 => ⟨S128x128, .i32⟩
  | 75 => ⟨S128x128, .i32⟩
  | 76 => ⟨S128x128, .f32⟩
  | 77 => ⟨S_, .f32⟩
  | 78 => ⟨S128x128, .f32⟩
  | 79 => ⟨S128x128, .f32⟩
  | 80 => ⟨S1x1, .f32⟩
  | 81 => ⟨S128x128, .f32⟩
  | 82 => ⟨S128x128, .f32⟩
  | 83 => ⟨S128x128, .f32⟩
  | 84 => ⟨S128x128, .f32⟩
  | 85 => ⟨S128x128, .f32⟩
  | 86 => ⟨S128x128, .f32⟩
  | 87 => ⟨S128x128, .f32⟩
  | 88 => ⟨S128x128, .f32⟩
  | 89 => ⟨S128x128, .f32⟩
  | 90 => ⟨S128x128, .f32⟩
  | 91 => ⟨S128x128, .f32⟩
  | 92 => ⟨S128x128, .i32⟩
  | 93 => ⟨S_, .f32⟩
  | 94 => ⟨S_, .i32⟩
  | 95 => ⟨S128, .f32⟩
  | 96 => ⟨S128, .i32⟩
  | 97 => ⟨S_, .f32⟩
  | 98 => ⟨S128, .f32⟩
  | 99 => ⟨S_, .f32⟩
  | 100 => ⟨S128, .f32⟩
  | 101 => ⟨S128, .f32⟩
  | 102 => ⟨S128x1, .f32⟩
  | 103 => ⟨S128x128, .f32⟩
  | 104 => ⟨S128x128, .f32⟩
  | 105 => ⟨S128x128, .f32⟩
  | 106 => ⟨S_, .f32⟩
  | 107 => ⟨S128, .f32⟩
  | 108 => ⟨S128x1, .f32⟩
  | 109 => ⟨S128x1, .f32⟩
  | 110 => ⟨S128x128, .f32⟩
  | 111 => ⟨S128x128, .f32⟩
  | 112 => ⟨S128x1, .i32⟩
  | 113 => ⟨S_, .i32⟩
  | 114 => ⟨S128x1, .i32⟩
  | 115 => ⟨S128x1, .i1⟩
  | 116 => ⟨S_, .i32⟩
  | 117 => ⟨S128x1, .i32⟩
  | 118 => ⟨S128x1, .i32⟩
  | 119 => ⟨S128x1, .i32⟩
  | 120 => ⟨S128x1x1, .i32⟩
  | 121 => ⟨S1, .i32⟩
  | 122 => ⟨S_, .i32⟩
  | 123 => ⟨S128x1x1, .i32⟩
  | 124 => ⟨S128x1x1, .i1⟩
  | 125 => ⟨S1x1x1, .i32⟩
  | 126 => ⟨S128x1x1, .i32⟩
  | 127 => ⟨S128x1x1, .i1⟩
  | _ => ⟨S128x128x512, .f32⟩

abbrev hbmTy0_5 (i : Nat) : BufTy := match i % 128 with
  | 0 => ⟨S128x1x1, .i1⟩
  | 1 => ⟨S_, .i1⟩
  | 2 => ⟨S128x1, .i1⟩
  | 3 => ⟨S128x1, .f32⟩
  | 4 => ⟨S_, .f32⟩
  | 5 => ⟨S128x1, .f32⟩
  | 6 => ⟨S128x1, .f32⟩
  | 7 => ⟨S128, .f32⟩
  | 8 => ⟨S128, .f32⟩
  | 9 => ⟨S128x128, .f32⟩
  | 10 => ⟨S128x128, .f32⟩
  | 11 => ⟨S_, .f32⟩
  | 12 => ⟨S128, .f32⟩
  | 13 => ⟨S128, .f32⟩
  | 14 => ⟨S128x1, .i32⟩
  | 15 => ⟨S1x128, .i32⟩
  | 16 => ⟨S128x128, .i32⟩
  | 17 => ⟨S128x128, .i32⟩
  | 18 => ⟨S128x128, .i1⟩
  | 19 => ⟨S128x128, .f32⟩
  | 20 => ⟨S128x128, .f32⟩
  | 21 => ⟨S_, .i32⟩
  | 22 => ⟨S128, .i32⟩
  | 23 => ⟨S128, .i1⟩
  | 24 => ⟨S_, .i32⟩
  | 25 => ⟨S128, .i32⟩
  | 26 => ⟨S128, .i32⟩
  | 27 => ⟨S128, .i32⟩
  | 28 => ⟨S_, .i32⟩
  | 29 => ⟨S128, .i32⟩
  | 30 => ⟨S128, .i1⟩
  | 31 => ⟨S_, .i32⟩
  | 32 => ⟨S128, .i32⟩
  | 33 => ⟨S128, .i32⟩
  | 34 => ⟨S128, .i32⟩
  | 35 => ⟨S128x1, .i32⟩
  | 36 => ⟨S128x1, .i32⟩
  | 37 => ⟨S128x2, .i32⟩
  | 38 => ⟨S128x512, .f32⟩
  | 39 => ⟨S2x128x512, .f32⟩
  | 40 => ⟨S1x128x512, .f32⟩
  | 41 => ⟨S3x128x512, .f32⟩
  | 42 => ⟨S1x128, .i32⟩
  | 43 => ⟨S_, .i32⟩
  | 44 => ⟨S128x128, .i32⟩
  | 45 => ⟨S_, .i32⟩
  | 46 => ⟨S_, .i32⟩
  | 47 => ⟨S1x128, .i32⟩
  | 48 => ⟨S129x128, .i32⟩
  | 49 => ⟨S128x129, .i32⟩
  | _ => ⟨S128x128x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S128x128x512, .f32⟩

abbrev bufTy : (tb : Table) → Fin (tcTables nBuf tb) → BufTy
  | .hbm, ⟨i, _⟩ => hbmTy i
  | _, _ => ⟨S128x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_c : Ref sig .tc := ⟨.hbm, 18, rfl⟩
abbrev main_c_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_5 : Ref sig .tc := ⟨.hbm, 29, rfl⟩
abbrev main_v15 : Ref sig .tc := ⟨.hbm, 30, rfl⟩
abbrev main_c_6 : Ref sig .tc := ⟨.hbm, 31, rfl⟩
abbrev main_v16_0 : Ref sig .tc := ⟨.hbm, 32, rfl⟩
abbrev main_v16_1 : Ref sig .tc := ⟨.hbm, 33, rfl⟩
abbrev main_v16_2 : Ref sig .tc := ⟨.hbm, 34, rfl⟩
abbrev main_v16_3 : Ref sig .tc := ⟨.hbm, 35, rfl⟩
abbrev main_v16_4 : Ref sig .tc := ⟨.hbm, 36, rfl⟩
abbrev main_v16_5 : Ref sig .tc := ⟨.hbm, 37, rfl⟩
abbrev main_v16_6 : Ref sig .tc := ⟨.hbm, 38, rfl⟩
abbrev main_v16_7 : Ref sig .tc := ⟨.hbm, 39, rfl⟩
abbrev main_v16_8 : Ref sig .tc := ⟨.hbm, 40, rfl⟩
abbrev main_v16_9 : Ref sig .tc := ⟨.hbm, 41, rfl⟩
abbrev main_v16_10 : Ref sig .tc := ⟨.hbm, 42, rfl⟩
abbrev main_v16_11 : Ref sig .tc := ⟨.hbm, 43, rfl⟩
abbrev main_v16_12 : Ref sig .tc := ⟨.hbm, 44, rfl⟩
abbrev main_v16_13 : Ref sig .tc := ⟨.hbm, 45, rfl⟩
abbrev main_v16_14 : Ref sig .tc := ⟨.hbm, 46, rfl⟩
abbrev main_v16_15 : Ref sig .tc := ⟨.hbm, 47, rfl⟩
abbrev main_while0c_c_22 : Ref sig .tc := ⟨.hbm, 48, rfl⟩
abbrev main_while0c_v20 : Ref sig .tc := ⟨.hbm, 49, rfl⟩
abbrev main_while0b_call0_v0 : Ref sig .tc := ⟨.hbm, 50, rfl⟩
abbrev main_while0b_v20 : Ref sig .tc := ⟨.hbm, 51, rfl⟩
abbrev main_while0b_v21 : Ref sig .tc := ⟨.hbm, 52, rfl⟩
abbrev main_while0b_v22 : Ref sig .tc := ⟨.hbm, 53, rfl⟩
abbrev main_while0b_v23 : Ref sig .tc := ⟨.hbm, 54, rfl⟩
abbrev main_while0b_v24 : Ref sig .tc := ⟨.hbm, 55, rfl⟩
abbrev main_while0b_v25 : Ref sig .tc := ⟨.hbm, 56, rfl⟩
abbrev main_while0b_v26 : Ref sig .tc := ⟨.hbm, 57, rfl⟩
abbrev main_while0b_v27 : Ref sig .tc := ⟨.hbm, 58, rfl⟩
abbrev main_while0b_v28 : Ref sig .tc := ⟨.hbm, 59, rfl⟩
abbrev main_while0b_v29 : Ref sig .tc := ⟨.hbm, 60, rfl⟩
abbrev main_while0b_v30 : Ref sig .tc := ⟨.hbm, 61, rfl⟩
abbrev main_while0b_v31 : Ref sig .tc := ⟨.hbm, 62, rfl⟩
abbrev main_while0b_v32 : Ref sig .tc := ⟨.hbm, 63, rfl⟩
abbrev main_while0b_v33 : Ref sig .tc := ⟨.hbm, 64, rfl⟩
abbrev main_while0b_v34 : Ref sig .tc := ⟨.hbm, 65, rfl⟩
abbrev main_while0b_call1_cst : Ref sig .tc := ⟨.hbm, 66, rfl⟩
abbrev main_while0b_call1_v0 : Ref sig .tc := ⟨.hbm, 67, rfl⟩
abbrev main_while0b_v35 : Ref sig .tc := ⟨.hbm, 68, rfl⟩
abbrev main_while0b_v36 : Ref sig .tc := ⟨.hbm, 69, rfl⟩
abbrev main_while0b_v37 : Ref sig .tc := ⟨.hbm, 70, rfl⟩
abbrev main_while0b_v38 : Ref sig .tc := ⟨.hbm, 71, rfl⟩
abbrev main_while0b_v39 : Ref sig .tc := ⟨.hbm, 72, rfl⟩
abbrev main_while0b_v40 : Ref sig .tc := ⟨.hbm, 73, rfl⟩
abbrev main_while0b_v41 : Ref sig .tc := ⟨.hbm, 74, rfl⟩
abbrev main_while0b_v42 : Ref sig .tc := ⟨.hbm, 75, rfl⟩
abbrev main_while0b_v43 : Ref sig .tc := ⟨.hbm, 76, rfl⟩
abbrev main_while0b_v44 : Ref sig .tc := ⟨.hbm, 77, rfl⟩
abbrev main_while0b_cst_22 : Ref sig .tc := ⟨.hbm, 78, rfl⟩
abbrev main_while0b_v45 : Ref sig .tc := ⟨.hbm, 79, rfl⟩
abbrev main_while0b_cst_23 : Ref sig .tc := ⟨.hbm, 80, rfl⟩
abbrev main_while0b_v46 : Ref sig .tc := ⟨.hbm, 81, rfl⟩
abbrev main_while0b_v47 : Ref sig .tc := ⟨.hbm, 82, rfl⟩
abbrev main_while0b_v48 : Ref sig .tc := ⟨.hbm, 83, rfl⟩
abbrev main_while0b_cst_24 : Ref sig .tc := ⟨.hbm, 84, rfl⟩
abbrev main_while0b_v49 : Ref sig .tc := ⟨.hbm, 85, rfl⟩
abbrev main_while0b_v50 : Ref sig .tc := ⟨.hbm, 86, rfl⟩
abbrev main_while0b_cst_25 : Ref sig .tc := ⟨.hbm, 87, rfl⟩
abbrev main_while0b_v51 : Ref sig .tc := ⟨.hbm, 88, rfl⟩
abbrev main_while0b_v52 : Ref sig .tc := ⟨.hbm, 89, rfl⟩
abbrev main_while0b_v53 : Ref sig .tc := ⟨.hbm, 90, rfl⟩
abbrev main_while0b_cst_26 : Ref sig .tc := ⟨.hbm, 91, rfl⟩
abbrev main_while0b_cst_27 : Ref sig .tc := ⟨.hbm, 92, rfl⟩
abbrev main_while0b_call2_v0 : Ref sig .tc := ⟨.hbm, 93, rfl⟩
abbrev main_while0b_call2_v1 : Ref sig .tc := ⟨.hbm, 94, rfl⟩
abbrev main_while0b_call2_v2 : Ref sig .tc := ⟨.hbm, 95, rfl⟩
abbrev main_while0b_call2_v3 : Ref sig .tc := ⟨.hbm, 96, rfl⟩
abbrev main_while0b_call2_v4 : Ref sig .tc := ⟨.hbm, 97, rfl⟩
abbrev main_while0b_v54 : Ref sig .tc := ⟨.hbm, 98, rfl⟩
abbrev main_while0b_v55 : Ref sig .tc := ⟨.hbm, 99, rfl⟩
abbrev main_while0b_call3_c : Ref sig .tc := ⟨.hbm, 100, rfl⟩
abbrev main_while0b_call3_v0 : Ref sig .tc := ⟨.hbm, 101, rfl⟩
abbrev main_while0b_call3_v1 : Ref sig .tc := ⟨.hbm, 102, rfl⟩
abbrev main_while0b_call3_c_0 : Ref sig .tc := ⟨.hbm, 103, rfl⟩
abbrev main_while0b_call3_v2 : Ref sig .tc := ⟨.hbm, 104, rfl⟩
abbrev main_while0b_call3_v3 : Ref sig .tc := ⟨.hbm, 105, rfl⟩
abbrev main_while0b_call3_v4 : Ref sig .tc := ⟨.hbm, 106, rfl⟩
abbrev main_while0b_call3_v5 : Ref sig .tc := ⟨.hbm, 107, rfl⟩
abbrev main_while0b_call3_v6 : Ref sig .tc := ⟨.hbm, 108, rfl⟩
abbrev main_while0b_call3_v7 : Ref sig .tc := ⟨.hbm, 109, rfl⟩
abbrev main_while0b_call3_v8 : Ref sig .tc := ⟨.hbm, 110, rfl⟩
abbrev main_while0b_call3_v9 : Ref sig .tc := ⟨.hbm, 111, rfl⟩
abbrev main_while0b_call3_v10 : Ref sig .tc := ⟨.hbm, 112, rfl⟩
abbrev main_while0b_call3_call0_v0 : Ref sig .tc := ⟨.hbm, 113, rfl⟩
abbrev main_while0b_call3_call0_c : Ref sig .tc := ⟨.hbm, 114, rfl⟩
abbrev main_while0b_call3_call0_v1 : Ref sig .tc := ⟨.hbm, 115, rfl⟩
abbrev main_while0b_call3_call0_v2 : Ref sig .tc := ⟨.hbm, 116, rfl⟩
abbrev main_while0b_call3_call0_v3 : Ref sig .tc := ⟨.hbm, 117, rfl⟩
abbrev main_while0b_call3_call0_v4 : Ref sig .tc := ⟨.hbm, 118, rfl⟩
abbrev main_while0b_call3_call0_v5 : Ref sig .tc := ⟨.hbm, 119, rfl⟩
abbrev main_while0b_call3_call0_v6 : Ref sig .tc := ⟨.hbm, 120, rfl⟩
abbrev main_while0b_call3_call0_c_0 : Ref sig .tc := ⟨.hbm, 121, rfl⟩
abbrev main_while0b_call3_call0_v7 : Ref sig .tc := ⟨.hbm, 122, rfl⟩
abbrev main_while0b_call3_call0_v8 : Ref sig .tc := ⟨.hbm, 123, rfl⟩
abbrev main_while0b_call3_call0_c_1 : Ref sig .tc := ⟨.hbm, 124, rfl⟩
abbrev main_while0b_call3_call0_v9 : Ref sig .tc := ⟨.hbm, 125, rfl⟩
abbrev main_while0b_call3_call0_v10 : Ref sig .tc := ⟨.hbm, 126, rfl⟩
abbrev main_while0b_call3_call0_v11 : Ref sig .tc := ⟨.hbm, 127, rfl⟩
abbrev main_while0b_call3_call0_v12 : Ref sig .tc := ⟨.hbm, 128, rfl⟩
abbrev main_while0b_call3_call0_v13 : Ref sig .tc := ⟨.hbm, 129, rfl⟩
abbrev main_while0b_call3_call0_c_2 : Ref sig .tc := ⟨.hbm, 130, rfl⟩
abbrev main_while0b_call3_call0_v14 : Ref sig .tc := ⟨.hbm, 131, rfl⟩
abbrev main_while0b_call3_call0_v15 : Ref sig .tc := ⟨.hbm, 132, rfl⟩
abbrev main_while0b_call3_call0_c_3 : Ref sig .tc := ⟨.hbm, 133, rfl⟩
abbrev main_while0b_call3_call0_v16 : Ref sig .tc := ⟨.hbm, 134, rfl⟩
abbrev main_while0b_call3_call0_v17 : Ref sig .tc := ⟨.hbm, 135, rfl⟩
abbrev main_while0b_call3_call0_v18 : Ref sig .tc := ⟨.hbm, 136, rfl⟩
abbrev main_while0b_call3_call0_v19 : Ref sig .tc := ⟨.hbm, 137, rfl⟩
abbrev main_while0b_call3_call0_v20 : Ref sig .tc := ⟨.hbm, 138, rfl⟩
abbrev main_while0b_call3_call0_c_4 : Ref sig .tc := ⟨.hbm, 139, rfl⟩
abbrev main_while0b_call3_call0_v21 : Ref sig .tc := ⟨.hbm, 140, rfl⟩
abbrev main_while0b_call3_call0_v22 : Ref sig .tc := ⟨.hbm, 141, rfl⟩
abbrev main_while0b_call3_call0_c_5 : Ref sig .tc := ⟨.hbm, 142, rfl⟩
abbrev main_while0b_call3_call0_v23 : Ref sig .tc := ⟨.hbm, 143, rfl⟩
abbrev main_while0b_call3_call0_v24 : Ref sig .tc := ⟨.hbm, 144, rfl⟩
abbrev main_while0b_call3_call0_v25 : Ref sig .tc := ⟨.hbm, 145, rfl⟩
abbrev main_while0b_call3_call0_v26 : Ref sig .tc := ⟨.hbm, 146, rfl⟩
abbrev main_while0b_call3_call0_v27 : Ref sig .tc := ⟨.hbm, 147, rfl⟩
abbrev main_while0b_call3_call0_c_6 : Ref sig .tc := ⟨.hbm, 148, rfl⟩
abbrev main_while0b_call3_call0_v28 : Ref sig .tc := ⟨.hbm, 149, rfl⟩
abbrev main_while0b_call3_call0_v29 : Ref sig .tc := ⟨.hbm, 150, rfl⟩
abbrev main_while0b_call3_call0_c_7 : Ref sig .tc := ⟨.hbm, 151, rfl⟩
abbrev main_while0b_call3_call0_v30 : Ref sig .tc := ⟨.hbm, 152, rfl⟩
abbrev main_while0b_call3_call0_v31 : Ref sig .tc := ⟨.hbm, 153, rfl⟩
abbrev main_while0b_call3_call0_v32 : Ref sig .tc := ⟨.hbm, 154, rfl⟩
abbrev main_while0b_call3_call0_v33 : Ref sig .tc := ⟨.hbm, 155, rfl⟩
abbrev main_while0b_call3_call0_v34 : Ref sig .tc := ⟨.hbm, 156, rfl⟩
abbrev main_while0b_call3_call0_v35 : Ref sig .tc := ⟨.hbm, 157, rfl⟩
abbrev main_while0b_call3_call0_v36 : Ref sig .tc := ⟨.hbm, 158, rfl⟩
abbrev main_while0b_call3_call0_v37 : Ref sig .tc := ⟨.hbm, 159, rfl⟩
abbrev main_while0b_call3_call0_c_8 : Ref sig .tc := ⟨.hbm, 160, rfl⟩
abbrev main_while0b_call3_call0_v38 : Ref sig .tc := ⟨.hbm, 161, rfl⟩
abbrev main_while0b_call3_call0_v39 : Ref sig .tc := ⟨.hbm, 162, rfl⟩
abbrev main_while0b_call3_call0_v40 : Ref sig .tc := ⟨.hbm, 163, rfl⟩
abbrev main_while0b_call3_call0_c_9 : Ref sig .tc := ⟨.hbm, 164, rfl⟩
abbrev main_while0b_call3_call0_v41 : Ref sig .tc := ⟨.hbm, 165, rfl⟩
abbrev main_while0b_call3_call0_v42 : Ref sig .tc := ⟨.hbm, 166, rfl⟩
abbrev main_while0b_call3_call0_c_10 : Ref sig .tc := ⟨.hbm, 167, rfl⟩
abbrev main_while0b_call3_call0_v43 : Ref sig .tc := ⟨.hbm, 168, rfl⟩
abbrev main_while0b_call3_call0_v44 : Ref sig .tc := ⟨.hbm, 169, rfl⟩
abbrev main_while0b_call3_call0_v45 : Ref sig .tc := ⟨.hbm, 170, rfl⟩
abbrev main_while0b_call3_call0_v46 : Ref sig .tc := ⟨.hbm, 171, rfl⟩
abbrev main_while0b_call3_call0_v47 : Ref sig .tc := ⟨.hbm, 172, rfl⟩
abbrev main_while0b_call3_call0_c_11 : Ref sig .tc := ⟨.hbm, 173, rfl⟩
abbrev main_while0b_call3_call0_v48 : Ref sig .tc := ⟨.hbm, 174, rfl⟩
abbrev main_while0b_call3_call0_v49 : Ref sig .tc := ⟨.hbm, 175, rfl⟩
abbrev main_while0b_call3_call0_c_12 : Ref sig .tc := ⟨.hbm, 176, rfl⟩
abbrev main_while0b_call3_call0_v50 : Ref sig .tc := ⟨.hbm, 177, rfl⟩
abbrev main_while0b_call3_call0_v51 : Ref sig .tc := ⟨.hbm, 178, rfl⟩
abbrev main_while0b_call3_call0_v52 : Ref sig .tc := ⟨.hbm, 179, rfl⟩
abbrev main_while0b_call3_call0_v53 : Ref sig .tc := ⟨.hbm, 180, rfl⟩
abbrev main_while0b_call3_call0_v54 : Ref sig .tc := ⟨.hbm, 181, rfl⟩
abbrev main_while0b_call3_call0_c_13 : Ref sig .tc := ⟨.hbm, 182, rfl⟩
abbrev main_while0b_call3_call0_v55 : Ref sig .tc := ⟨.hbm, 183, rfl⟩
abbrev main_while0b_call3_call0_v56 : Ref sig .tc := ⟨.hbm, 184, rfl⟩
abbrev main_while0b_call3_call0_c_14 : Ref sig .tc := ⟨.hbm, 185, rfl⟩
abbrev main_while0b_call3_call0_v57 : Ref sig .tc := ⟨.hbm, 186, rfl⟩
abbrev main_while0b_call3_call0_v58 : Ref sig .tc := ⟨.hbm, 187, rfl⟩
abbrev main_while0b_call3_call0_v59 : Ref sig .tc := ⟨.hbm, 188, rfl⟩
abbrev main_while0b_call3_call0_v60 : Ref sig .tc := ⟨.hbm, 189, rfl⟩
abbrev main_while0b_call3_call0_v61 : Ref sig .tc := ⟨.hbm, 190, rfl⟩
abbrev main_while0b_call3_call0_c_15 : Ref sig .tc := ⟨.hbm, 191, rfl⟩
abbrev main_while0b_call3_call0_v62 : Ref sig .tc := ⟨.hbm, 192, rfl⟩
abbrev main_while0b_call3_call0_v63 : Ref sig .tc := ⟨.hbm, 193, rfl⟩
abbrev main_while0b_call3_call0_c_16 : Ref sig .tc := ⟨.hbm, 194, rfl⟩
abbrev main_while0b_call3_call0_v64 : Ref sig .tc := ⟨.hbm, 195, rfl⟩
abbrev main_while0b_call3_call0_v65 : Ref sig .tc := ⟨.hbm, 196, rfl⟩
abbrev main_while0b_call3_call0_v66 : Ref sig .tc := ⟨.hbm, 197, rfl⟩
abbrev main_while0b_call3_call0_v67 : Ref sig .tc := ⟨.hbm, 198, rfl⟩
abbrev main_while0b_call3_call0_v68 : Ref sig .tc := ⟨.hbm, 199, rfl⟩
abbrev main_while0b_call3_call0_v69 : Ref sig .tc := ⟨.hbm, 200, rfl⟩
abbrev main_while0b_call3_call0_v70 : Ref sig .tc := ⟨.hbm, 201, rfl⟩
abbrev main_while0b_call3_call0_v71 : Ref sig .tc := ⟨.hbm, 202, rfl⟩
abbrev main_while0b_call3_call0_c_17 : Ref sig .tc := ⟨.hbm, 203, rfl⟩
abbrev main_while0b_call3_call0_v72 : Ref sig .tc := ⟨.hbm, 204, rfl⟩
abbrev main_while0b_call3_call0_v73 : Ref sig .tc := ⟨.hbm, 205, rfl⟩
abbrev main_while0b_call3_call0_v74 : Ref sig .tc := ⟨.hbm, 206, rfl⟩
abbrev main_while0b_call3_call0_c_18 : Ref sig .tc := ⟨.hbm, 207, rfl⟩
abbrev main_while0b_call3_call0_v75 : Ref sig .tc := ⟨.hbm, 208, rfl⟩
abbrev main_while0b_call3_call0_v76 : Ref sig .tc := ⟨.hbm, 209, rfl⟩
abbrev main_while0b_call3_call0_c_19 : Ref sig .tc := ⟨.hbm, 210, rfl⟩
abbrev main_while0b_call3_call0_v77 : Ref sig .tc := ⟨.hbm, 211, rfl⟩
abbrev main_while0b_call3_call0_v78 : Ref sig .tc := ⟨.hbm, 212, rfl⟩
abbrev main_while0b_call3_call0_v79 : Ref sig .tc := ⟨.hbm, 213, rfl⟩
abbrev main_while0b_call3_call0_v80 : Ref sig .tc := ⟨.hbm, 214, rfl⟩
abbrev main_while0b_call3_call0_v81 : Ref sig .tc := ⟨.hbm, 215, rfl⟩
abbrev main_while0b_call3_call0_c_20 : Ref sig .tc := ⟨.hbm, 216, rfl⟩
abbrev main_while0b_call3_call0_v82 : Ref sig .tc := ⟨.hbm, 217, rfl⟩
abbrev main_while0b_call3_call0_v83 : Ref sig .tc := ⟨.hbm, 218, rfl⟩
abbrev main_while0b_call3_call0_c_21 : Ref sig .tc := ⟨.hbm, 219, rfl⟩
abbrev main_while0b_call3_call0_v84 : Ref sig .tc := ⟨.hbm, 220, rfl⟩
abbrev main_while0b_call3_call0_v85 : Ref sig .tc := ⟨.hbm, 221, rfl⟩
abbrev main_while0b_call3_call0_v86 : Ref sig .tc := ⟨.hbm, 222, rfl⟩
abbrev main_while0b_call3_call0_v87 : Ref sig .tc := ⟨.hbm, 223, rfl⟩
abbrev main_while0b_call3_call0_v88 : Ref sig .tc := ⟨.hbm, 224, rfl⟩
abbrev main_while0b_call3_call0_c_22 : Ref sig .tc := ⟨.hbm, 225, rfl⟩
abbrev main_while0b_call3_call0_v89 : Ref sig .tc := ⟨.hbm, 226, rfl⟩
abbrev main_while0b_call3_call0_v90 : Ref sig .tc := ⟨.hbm, 227, rfl⟩
abbrev main_while0b_call3_call0_c_23 : Ref sig .tc := ⟨.hbm, 228, rfl⟩
abbrev main_while0b_call3_call0_v91 : Ref sig .tc := ⟨.hbm, 229, rfl⟩
abbrev main_while0b_call3_call0_v92 : Ref sig .tc := ⟨.hbm, 230, rfl⟩
abbrev main_while0b_call3_call0_v93 : Ref sig .tc := ⟨.hbm, 231, rfl⟩
abbrev main_while0b_call3_call0_v94 : Ref sig .tc := ⟨.hbm, 232, rfl⟩
abbrev main_while0b_call3_call0_v95 : Ref sig .tc := ⟨.hbm, 233, rfl⟩
abbrev main_while0b_call3_call0_c_24 : Ref sig .tc := ⟨.hbm, 234, rfl⟩
abbrev main_while0b_call3_call0_v96 : Ref sig .tc := ⟨.hbm, 235, rfl⟩
abbrev main_while0b_call3_call0_v97 : Ref sig .tc := ⟨.hbm, 236, rfl⟩
abbrev main_while0b_call3_call0_c_25 : Ref sig .tc := ⟨.hbm, 237, rfl⟩
abbrev main_while0b_call3_call0_v98 : Ref sig .tc := ⟨.hbm, 238, rfl⟩
abbrev main_while0b_call3_call0_v99 : Ref sig .tc := ⟨.hbm, 239, rfl⟩
abbrev main_while0b_call3_call0_v100 : Ref sig .tc := ⟨.hbm, 240, rfl⟩
abbrev main_while0b_call3_call0_v101 : Ref sig .tc := ⟨.hbm, 241, rfl⟩
abbrev main_while0b_call3_call0_v102 : Ref sig .tc := ⟨.hbm, 242, rfl⟩
abbrev main_while0b_call3_call0_v103 : Ref sig .tc := ⟨.hbm, 243, rfl⟩
abbrev main_while0b_call3_call0_v104 : Ref sig .tc := ⟨.hbm, 244, rfl⟩
abbrev main_while0b_call3_call0_v105 : Ref sig .tc := ⟨.hbm, 245, rfl⟩
abbrev main_while0b_call3_call0_c_26 : Ref sig .tc := ⟨.hbm, 246, rfl⟩
abbrev main_while0b_call3_call0_v106 : Ref sig .tc := ⟨.hbm, 247, rfl⟩
abbrev main_while0b_call3_call0_v107 : Ref sig .tc := ⟨.hbm, 248, rfl⟩
abbrev main_while0b_call3_call0_v108 : Ref sig .tc := ⟨.hbm, 249, rfl⟩
abbrev main_while0b_call3_call0_c_27 : Ref sig .tc := ⟨.hbm, 250, rfl⟩
abbrev main_while0b_call3_call0_v109 : Ref sig .tc := ⟨.hbm, 251, rfl⟩
abbrev main_while0b_call3_call0_v110 : Ref sig .tc := ⟨.hbm, 252, rfl⟩
abbrev main_while0b_call3_call0_c_28 : Ref sig .tc := ⟨.hbm, 253, rfl⟩
abbrev main_while0b_call3_call0_v111 : Ref sig .tc := ⟨.hbm, 254, rfl⟩
abbrev main_while0b_call3_call0_v112 : Ref sig .tc := ⟨.hbm, 255, rfl⟩
abbrev main_while0b_call3_call0_v113 : Ref sig .tc := ⟨.hbm, 256, rfl⟩
abbrev main_while0b_call3_call0_v114 : Ref sig .tc := ⟨.hbm, 257, rfl⟩
abbrev main_while0b_call3_call0_v115 : Ref sig .tc := ⟨.hbm, 258, rfl⟩
abbrev main_while0b_call3_call0_c_29 : Ref sig .tc := ⟨.hbm, 259, rfl⟩
abbrev main_while0b_call3_call0_v116 : Ref sig .tc := ⟨.hbm, 260, rfl⟩
abbrev main_while0b_call3_call0_v117 : Ref sig .tc := ⟨.hbm, 261, rfl⟩
abbrev main_while0b_call3_call0_c_30 : Ref sig .tc := ⟨.hbm, 262, rfl⟩
abbrev main_while0b_call3_call0_v118 : Ref sig .tc := ⟨.hbm, 263, rfl⟩
abbrev main_while0b_call3_call0_v119 : Ref sig .tc := ⟨.hbm, 264, rfl⟩
abbrev main_while0b_call3_call0_v120 : Ref sig .tc := ⟨.hbm, 265, rfl⟩
abbrev main_while0b_call3_call0_v121 : Ref sig .tc := ⟨.hbm, 266, rfl⟩
abbrev main_while0b_call3_call0_v122 : Ref sig .tc := ⟨.hbm, 267, rfl⟩
abbrev main_while0b_call3_call0_c_31 : Ref sig .tc := ⟨.hbm, 268, rfl⟩
abbrev main_while0b_call3_call0_v123 : Ref sig .tc := ⟨.hbm, 269, rfl⟩
abbrev main_while0b_call3_call0_v124 : Ref sig .tc := ⟨.hbm, 270, rfl⟩
abbrev main_while0b_call3_call0_c_32 : Ref sig .tc := ⟨.hbm, 271, rfl⟩
abbrev main_while0b_call3_call0_v125 : Ref sig .tc := ⟨.hbm, 272, rfl⟩
abbrev main_while0b_call3_call0_v126 : Ref sig .tc := ⟨.hbm, 273, rfl⟩
abbrev main_while0b_call3_call0_v127 : Ref sig .tc := ⟨.hbm, 274, rfl⟩
abbrev main_while0b_call3_call0_v128 : Ref sig .tc := ⟨.hbm, 275, rfl⟩
abbrev main_while0b_call3_call0_v129 : Ref sig .tc := ⟨.hbm, 276, rfl⟩
abbrev main_while0b_call3_call0_c_33 : Ref sig .tc := ⟨.hbm, 277, rfl⟩
abbrev main_while0b_call3_call0_v130 : Ref sig .tc := ⟨.hbm, 278, rfl⟩
abbrev main_while0b_call3_call0_v131 : Ref sig .tc := ⟨.hbm, 279, rfl⟩
abbrev main_while0b_call3_call0_c_34 : Ref sig .tc := ⟨.hbm, 280, rfl⟩
abbrev main_while0b_call3_call0_v132 : Ref sig .tc := ⟨.hbm, 281, rfl⟩
abbrev main_while0b_call3_call0_v133 : Ref sig .tc := ⟨.hbm, 282, rfl⟩
abbrev main_while0b_call3_call0_v134 : Ref sig .tc := ⟨.hbm, 283, rfl⟩
abbrev main_while0b_call3_call0_v135 : Ref sig .tc := ⟨.hbm, 284, rfl⟩
abbrev main_while0b_call3_call0_v136 : Ref sig .tc := ⟨.hbm, 285, rfl⟩
abbrev main_while0b_call3_call0_v137 : Ref sig .tc := ⟨.hbm, 286, rfl⟩
abbrev main_while0b_call3_call0_v138 : Ref sig .tc := ⟨.hbm, 287, rfl⟩
abbrev main_while0b_call3_call0_v139 : Ref sig .tc := ⟨.hbm, 288, rfl⟩
abbrev main_while0b_call3_call0_c_35 : Ref sig .tc := ⟨.hbm, 289, rfl⟩
abbrev main_while0b_call3_call0_v140 : Ref sig .tc := ⟨.hbm, 290, rfl⟩
abbrev main_while0b_call3_call0_v141 : Ref sig .tc := ⟨.hbm, 291, rfl⟩
abbrev main_while0b_call3_call0_v142 : Ref sig .tc := ⟨.hbm, 292, rfl⟩
abbrev main_while0b_call3_call0_c_36 : Ref sig .tc := ⟨.hbm, 293, rfl⟩
abbrev main_while0b_call3_call0_v143 : Ref sig .tc := ⟨.hbm, 294, rfl⟩
abbrev main_while0b_call3_call0_v144 : Ref sig .tc := ⟨.hbm, 295, rfl⟩
abbrev main_while0b_call3_call0_c_37 : Ref sig .tc := ⟨.hbm, 296, rfl⟩
abbrev main_while0b_call3_call0_v145 : Ref sig .tc := ⟨.hbm, 297, rfl⟩
abbrev main_while0b_call3_call0_v146 : Ref sig .tc := ⟨.hbm, 298, rfl⟩
abbrev main_while0b_call3_call0_v147 : Ref sig .tc := ⟨.hbm, 299, rfl⟩
abbrev main_while0b_call3_call0_v148 : Ref sig .tc := ⟨.hbm, 300, rfl⟩
abbrev main_while0b_call3_call0_v149 : Ref sig .tc := ⟨.hbm, 301, rfl⟩
abbrev main_while0b_call3_call0_c_38 : Ref sig .tc := ⟨.hbm, 302, rfl⟩
abbrev main_while0b_call3_call0_v150 : Ref sig .tc := ⟨.hbm, 303, rfl⟩
abbrev main_while0b_call3_call0_v151 : Ref sig .tc := ⟨.hbm, 304, rfl⟩
abbrev main_while0b_call3_call0_c_39 : Ref sig .tc := ⟨.hbm, 305, rfl⟩
abbrev main_while0b_call3_call0_v152 : Ref sig .tc := ⟨.hbm, 306, rfl⟩
abbrev main_while0b_call3_call0_v153 : Ref sig .tc := ⟨.hbm, 307, rfl⟩
abbrev main_while0b_call3_call0_v154 : Ref sig .tc := ⟨.hbm, 308, rfl⟩
abbrev main_while0b_call3_call0_v155 : Ref sig .tc := ⟨.hbm, 309, rfl⟩
abbrev main_while0b_call3_call0_v156 : Ref sig .tc := ⟨.hbm, 310, rfl⟩
abbrev main_while0b_call3_call0_c_40 : Ref sig .tc := ⟨.hbm, 311, rfl⟩
abbrev main_while0b_call3_call0_v157 : Ref sig .tc := ⟨.hbm, 312, rfl⟩
abbrev main_while0b_call3_call0_v158 : Ref sig .tc := ⟨.hbm, 313, rfl⟩
abbrev main_while0b_call3_call0_c_41 : Ref sig .tc := ⟨.hbm, 314, rfl⟩
abbrev main_while0b_call3_call0_v159 : Ref sig .tc := ⟨.hbm, 315, rfl⟩
abbrev main_while0b_call3_call0_v160 : Ref sig .tc := ⟨.hbm, 316, rfl⟩
abbrev main_while0b_call3_call0_v161 : Ref sig .tc := ⟨.hbm, 317, rfl⟩
abbrev main_while0b_call3_call0_v162 : Ref sig .tc := ⟨.hbm, 318, rfl⟩
abbrev main_while0b_call3_call0_v163 : Ref sig .tc := ⟨.hbm, 319, rfl⟩
abbrev main_while0b_call3_call0_c_42 : Ref sig .tc := ⟨.hbm, 320, rfl⟩
abbrev main_while0b_call3_call0_v164 : Ref sig .tc := ⟨.hbm, 321, rfl⟩
abbrev main_while0b_call3_call0_v165 : Ref sig .tc := ⟨.hbm, 322, rfl⟩
abbrev main_while0b_call3_call0_c_43 : Ref sig .tc := ⟨.hbm, 323, rfl⟩
abbrev main_while0b_call3_call0_v166 : Ref sig .tc := ⟨.hbm, 324, rfl⟩
abbrev main_while0b_call3_call0_v167 : Ref sig .tc := ⟨.hbm, 325, rfl⟩
abbrev main_while0b_call3_call0_v168 : Ref sig .tc := ⟨.hbm, 326, rfl⟩
abbrev main_while0b_call3_call0_v169 : Ref sig .tc := ⟨.hbm, 327, rfl⟩
abbrev main_while0b_call3_call0_v170 : Ref sig .tc := ⟨.hbm, 328, rfl⟩
abbrev main_while0b_call3_v11_0 : Ref sig .tc := ⟨.hbm, 329, rfl⟩
abbrev main_while0b_call3_call0_v172 : Ref sig .tc := ⟨.hbm, 330, rfl⟩
abbrev main_while0b_call3_call0_v173 : Ref sig .tc := ⟨.hbm, 331, rfl⟩
abbrev main_while0b_call3_call0_c_44 : Ref sig .tc := ⟨.hbm, 332, rfl⟩
abbrev main_while0b_call3_call0_v174 : Ref sig .tc := ⟨.hbm, 333, rfl⟩
abbrev main_while0b_call3_v11_1 : Ref sig .tc := ⟨.hbm, 334, rfl⟩
abbrev main_while0b_v56 : Ref sig .tc := ⟨.hbm, 335, rfl⟩
abbrev main_while0b_call4_cst : Ref sig .tc := ⟨.hbm, 336, rfl⟩
abbrev main_while0b_call4_cst_0 : Ref sig .tc := ⟨.hbm, 337, rfl⟩
abbrev main_while0b_call4_call0_v0 : Ref sig .tc := ⟨.hbm, 338, rfl⟩
abbrev main_while0b_call4_call0_v1 : Ref sig .tc := ⟨.hbm, 339, rfl⟩
abbrev main_while0b_call4_call0_v2 : Ref sig .tc := ⟨.hbm, 340, rfl⟩
abbrev main_while0b_call4_call0_v3 : Ref sig .tc := ⟨.hbm, 341, rfl⟩
abbrev main_while0b_call4_call0_v4 : Ref sig .tc := ⟨.hbm, 342, rfl⟩
abbrev main_while0b_call4_call0_v5 : Ref sig .tc := ⟨.hbm, 343, rfl⟩
abbrev main_while0b_call4_call0_v6 : Ref sig .tc := ⟨.hbm, 344, rfl⟩
abbrev main_while0b_call4_call0_v7 : Ref sig .tc := ⟨.hbm, 345, rfl⟩
abbrev main_while0b_call4_call0_v8 : Ref sig .tc := ⟨.hbm, 346, rfl⟩
abbrev main_while0b_call4_call0_c : Ref sig .tc := ⟨.hbm, 347, rfl⟩
abbrev main_while0b_call4_call0_v9 : Ref sig .tc := ⟨.hbm, 348, rfl⟩
abbrev main_while0b_call4_call0_v10 : Ref sig .tc := ⟨.hbm, 349, rfl⟩
abbrev main_while0b_call4_call0_c_0 : Ref sig .tc := ⟨.hbm, 350, rfl⟩
abbrev main_while0b_call4_call0_v11 : Ref sig .tc := ⟨.hbm, 351, rfl⟩
abbrev main_while0b_call4_call0_v12 : Ref sig .tc := ⟨.hbm, 352, rfl⟩
abbrev main_while0b_call4_call0_v13 : Ref sig .tc := ⟨.hbm, 353, rfl⟩
abbrev main_while0b_call4_call0_c_1 : Ref sig .tc := ⟨.hbm, 354, rfl⟩
abbrev main_while0b_call4_call0_v14 : Ref sig .tc := ⟨.hbm, 355, rfl⟩
abbrev main_while0b_call4_call0_v15 : Ref sig .tc := ⟨.hbm, 356, rfl⟩
abbrev main_while0b_call4_call0_v16 : Ref sig .tc := ⟨.hbm, 357, rfl⟩
abbrev main_while0b_call4_call0_v17 : Ref sig .tc := ⟨.hbm, 358, rfl⟩
abbrev main_while0b_call4_call0_call0_v0 : Ref sig .tc := ⟨.hbm, 359, rfl⟩
abbrev main_while0b_call4_call0_call0_c : Ref sig .tc := ⟨.hbm, 360, rfl⟩
abbrev main_while0b_call4_call0_call0_v1 : Ref sig .tc := ⟨.hbm, 361, rfl⟩
abbrev main_while0b_call4_call0_call0_v2 : Ref sig .tc := ⟨.hbm, 362, rfl⟩
abbrev main_while0b_call4_call0_call0_v3 : Ref sig .tc := ⟨.hbm, 363, rfl⟩
abbrev main_while0b_call4_call0_call0_v4 : Ref sig .tc := ⟨.hbm, 364, rfl⟩
abbrev main_while0b_call4_call0_call0_v5 : Ref sig .tc := ⟨.hbm, 365, rfl⟩
abbrev main_while0b_call4_call0_call0_v6 : Ref sig .tc := ⟨.hbm, 366, rfl⟩
abbrev main_while0b_call4_call0_call0_c_0 : Ref sig .tc := ⟨.hbm, 367, rfl⟩
abbrev main_while0b_call4_call0_call0_v7 : Ref sig .tc := ⟨.hbm, 368, rfl⟩
abbrev main_while0b_call4_call0_call0_v8 : Ref sig .tc := ⟨.hbm, 369, rfl⟩
abbrev main_while0b_call4_call0_call0_c_1 : Ref sig .tc := ⟨.hbm, 370, rfl⟩
abbrev main_while0b_call4_call0_call0_v9 : Ref sig .tc := ⟨.hbm, 371, rfl⟩
abbrev main_while0b_call4_call0_call0_v10 : Ref sig .tc := ⟨.hbm, 372, rfl⟩
abbrev main_while0b_call4_call0_call0_v11 : Ref sig .tc := ⟨.hbm, 373, rfl⟩
abbrev main_while0b_call4_call0_call0_v12 : Ref sig .tc := ⟨.hbm, 374, rfl⟩
abbrev main_while0b_call4_call0_call0_v13 : Ref sig .tc := ⟨.hbm, 375, rfl⟩
abbrev main_while0b_call4_call0_call0_c_2 : Ref sig .tc := ⟨.hbm, 376, rfl⟩
abbrev main_while0b_call4_call0_call0_v14 : Ref sig .tc := ⟨.hbm, 377, rfl⟩
abbrev main_while0b_call4_call0_call0_v15 : Ref sig .tc := ⟨.hbm, 378, rfl⟩
abbrev main_while0b_call4_call0_call0_c_3 : Ref sig .tc := ⟨.hbm, 379, rfl⟩
abbrev main_while0b_call4_call0_call0_v16 : Ref sig .tc := ⟨.hbm, 380, rfl⟩
abbrev main_while0b_call4_call0_call0_v17 : Ref sig .tc := ⟨.hbm, 381, rfl⟩
abbrev main_while0b_call4_call0_call0_v18 : Ref sig .tc := ⟨.hbm, 382, rfl⟩
abbrev main_while0b_call4_call0_call0_v19 : Ref sig .tc := ⟨.hbm, 383, rfl⟩
abbrev main_while0b_call4_call0_call0_v20 : Ref sig .tc := ⟨.hbm, 384, rfl⟩
abbrev main_while0b_call4_call0_call0_c_4 : Ref sig .tc := ⟨.hbm, 385, rfl⟩
abbrev main_while0b_call4_call0_call0_v21 : Ref sig .tc := ⟨.hbm, 386, rfl⟩
abbrev main_while0b_call4_call0_call0_v22 : Ref sig .tc := ⟨.hbm, 387, rfl⟩
abbrev main_while0b_call4_call0_call0_c_5 : Ref sig .tc := ⟨.hbm, 388, rfl⟩
abbrev main_while0b_call4_call0_call0_v23 : Ref sig .tc := ⟨.hbm, 389, rfl⟩
abbrev main_while0b_call4_call0_call0_v24 : Ref sig .tc := ⟨.hbm, 390, rfl⟩
abbrev main_while0b_call4_call0_call0_v25 : Ref sig .tc := ⟨.hbm, 391, rfl⟩
abbrev main_while0b_call4_call0_call0_v26 : Ref sig .tc := ⟨.hbm, 392, rfl⟩
abbrev main_while0b_call4_call0_call0_v27 : Ref sig .tc := ⟨.hbm, 393, rfl⟩
abbrev main_while0b_call4_call0_call0_c_6 : Ref sig .tc := ⟨.hbm, 394, rfl⟩
abbrev main_while0b_call4_call0_call0_v28 : Ref sig .tc := ⟨.hbm, 395, rfl⟩
abbrev main_while0b_call4_call0_call0_v29 : Ref sig .tc := ⟨.hbm, 396, rfl⟩
abbrev main_while0b_call4_call0_call0_c_7 : Ref sig .tc := ⟨.hbm, 397, rfl⟩
abbrev main_while0b_call4_call0_call0_v30 : Ref sig .tc := ⟨.hbm, 398, rfl⟩
abbrev main_while0b_call4_call0_call0_v31 : Ref sig .tc := ⟨.hbm, 399, rfl⟩
abbrev main_while0b_call4_call0_call0_v32 : Ref sig .tc := ⟨.hbm, 400, rfl⟩
abbrev main_while0b_call4_call0_call0_v33 : Ref sig .tc := ⟨.hbm, 401, rfl⟩
abbrev main_while0b_call4_call0_call0_v34 : Ref sig .tc := ⟨.hbm, 402, rfl⟩
abbrev main_while0b_call4_call0_call0_v35 : Ref sig .tc := ⟨.hbm, 403, rfl⟩
abbrev main_while0b_call4_call0_call0_v36 : Ref sig .tc := ⟨.hbm, 404, rfl⟩
abbrev main_while0b_call4_call0_call0_v37 : Ref sig .tc := ⟨.hbm, 405, rfl⟩
abbrev main_while0b_call4_call0_call0_c_8 : Ref sig .tc := ⟨.hbm, 406, rfl⟩
abbrev main_while0b_call4_call0_call0_v38 : Ref sig .tc := ⟨.hbm, 407, rfl⟩
abbrev main_while0b_call4_call0_call0_v39 : Ref sig .tc := ⟨.hbm, 408, rfl⟩
abbrev main_while0b_call4_call0_call0_v40 : Ref sig .tc := ⟨.hbm, 409, rfl⟩
abbrev main_while0b_call4_call0_call0_c_9 : Ref sig .tc := ⟨.hbm, 410, rfl⟩
abbrev main_while0b_call4_call0_call0_v41 : Ref sig .tc := ⟨.hbm, 411, rfl⟩
abbrev main_while0b_call4_call0_call0_v42 : Ref sig .tc := ⟨.hbm, 412, rfl⟩
abbrev main_while0b_call4_call0_call0_c_10 : Ref sig .tc := ⟨.hbm, 413, rfl⟩
abbrev main_while0b_call4_call0_call0_v43 : Ref sig .tc := ⟨.hbm, 414, rfl⟩
abbrev main_while0b_call4_call0_call0_v44 : Ref sig .tc := ⟨.hbm, 415, rfl⟩
abbrev main_while0b_call4_call0_call0_v45 : Ref sig .tc := ⟨.hbm, 416, rfl⟩
abbrev main_while0b_call4_call0_call0_v46 : Ref sig .tc := ⟨.hbm, 417, rfl⟩
abbrev main_while0b_call4_call0_call0_v47 : Ref sig .tc := ⟨.hbm, 418, rfl⟩
abbrev main_while0b_call4_call0_call0_c_11 : Ref sig .tc := ⟨.hbm, 419, rfl⟩
abbrev main_while0b_call4_call0_call0_v48 : Ref sig .tc := ⟨.hbm, 420, rfl⟩
abbrev main_while0b_call4_call0_call0_v49 : Ref sig .tc := ⟨.hbm, 421, rfl⟩
abbrev main_while0b_call4_call0_call0_c_12 : Ref sig .tc := ⟨.hbm, 422, rfl⟩
abbrev main_while0b_call4_call0_call0_v50 : Ref sig .tc := ⟨.hbm, 423, rfl⟩
abbrev main_while0b_call4_call0_call0_v51 : Ref sig .tc := ⟨.hbm, 424, rfl⟩
abbrev main_while0b_call4_call0_call0_v52 : Ref sig .tc := ⟨.hbm, 425, rfl⟩
abbrev main_while0b_call4_call0_call0_v53 : Ref sig .tc := ⟨.hbm, 426, rfl⟩
abbrev main_while0b_call4_call0_call0_v54 : Ref sig .tc := ⟨.hbm, 427, rfl⟩
abbrev main_while0b_call4_call0_call0_c_13 : Ref sig .tc := ⟨.hbm, 428, rfl⟩
abbrev main_while0b_call4_call0_call0_v55 : Ref sig .tc := ⟨.hbm, 429, rfl⟩
abbrev main_while0b_call4_call0_call0_v56 : Ref sig .tc := ⟨.hbm, 430, rfl⟩
abbrev main_while0b_call4_call0_call0_c_14 : Ref sig .tc := ⟨.hbm, 431, rfl⟩
abbrev main_while0b_call4_call0_call0_v57 : Ref sig .tc := ⟨.hbm, 432, rfl⟩
abbrev main_while0b_call4_call0_call0_v58 : Ref sig .tc := ⟨.hbm, 433, rfl⟩
abbrev main_while0b_call4_call0_call0_v59 : Ref sig .tc := ⟨.hbm, 434, rfl⟩
abbrev main_while0b_call4_call0_call0_v60 : Ref sig .tc := ⟨.hbm, 435, rfl⟩
abbrev main_while0b_call4_call0_call0_v61 : Ref sig .tc := ⟨.hbm, 436, rfl⟩
abbrev main_while0b_call4_call0_call0_c_15 : Ref sig .tc := ⟨.hbm, 437, rfl⟩
abbrev main_while0b_call4_call0_call0_v62 : Ref sig .tc := ⟨.hbm, 438, rfl⟩
abbrev main_while0b_call4_call0_call0_v63 : Ref sig .tc := ⟨.hbm, 439, rfl⟩
abbrev main_while0b_call4_call0_call0_c_16 : Ref sig .tc := ⟨.hbm, 440, rfl⟩
abbrev main_while0b_call4_call0_call0_v64 : Ref sig .tc := ⟨.hbm, 441, rfl⟩
abbrev main_while0b_call4_call0_call0_v65 : Ref sig .tc := ⟨.hbm, 442, rfl⟩
abbrev main_while0b_call4_call0_call0_v66 : Ref sig .tc := ⟨.hbm, 443, rfl⟩
abbrev main_while0b_call4_call0_call0_v67 : Ref sig .tc := ⟨.hbm, 444, rfl⟩
abbrev main_while0b_call4_call0_call0_v68 : Ref sig .tc := ⟨.hbm, 445, rfl⟩
abbrev main_while0b_call4_call0_call0_v69 : Ref sig .tc := ⟨.hbm, 446, rfl⟩
abbrev main_while0b_call4_call0_call0_v70 : Ref sig .tc := ⟨.hbm, 447, rfl⟩
abbrev main_while0b_call4_call0_call0_v71 : Ref sig .tc := ⟨.hbm, 448, rfl⟩
abbrev main_while0b_call4_call0_call0_c_17 : Ref sig .tc := ⟨.hbm, 449, rfl⟩
abbrev main_while0b_call4_call0_call0_v72 : Ref sig .tc := ⟨.hbm, 450, rfl⟩
abbrev main_while0b_call4_call0_call0_v73 : Ref sig .tc := ⟨.hbm, 451, rfl⟩
abbrev main_while0b_call4_call0_call0_v74 : Ref sig .tc := ⟨.hbm, 452, rfl⟩
abbrev main_while0b_call4_call0_call0_c_18 : Ref sig .tc := ⟨.hbm, 453, rfl⟩
abbrev main_while0b_call4_call0_call0_v75 : Ref sig .tc := ⟨.hbm, 454, rfl⟩
abbrev main_while0b_call4_call0_call0_v76 : Ref sig .tc := ⟨.hbm, 455, rfl⟩
abbrev main_while0b_call4_call0_call0_c_19 : Ref sig .tc := ⟨.hbm, 456, rfl⟩
abbrev main_while0b_call4_call0_call0_v77 : Ref sig .tc := ⟨.hbm, 457, rfl⟩
abbrev main_while0b_call4_call0_call0_v78 : Ref sig .tc := ⟨.hbm, 458, rfl⟩
abbrev main_while0b_call4_call0_call0_v79 : Ref sig .tc := ⟨.hbm, 459, rfl⟩
abbrev main_while0b_call4_call0_call0_v80 : Ref sig .tc := ⟨.hbm, 460, rfl⟩
abbrev main_while0b_call4_call0_call0_v81 : Ref sig .tc := ⟨.hbm, 461, rfl⟩
abbrev main_while0b_call4_call0_call0_c_20 : Ref sig .tc := ⟨.hbm, 462, rfl⟩
abbrev main_while0b_call4_call0_call0_v82 : Ref sig .tc := ⟨.hbm, 463, rfl⟩
abbrev main_while0b_call4_call0_call0_v83 : Ref sig .tc := ⟨.hbm, 464, rfl⟩
abbrev main_while0b_call4_call0_call0_c_21 : Ref sig .tc := ⟨.hbm, 465, rfl⟩
abbrev main_while0b_call4_call0_call0_v84 : Ref sig .tc := ⟨.hbm, 466, rfl⟩
abbrev main_while0b_call4_call0_call0_v85 : Ref sig .tc := ⟨.hbm, 467, rfl⟩
abbrev main_while0b_call4_call0_call0_v86 : Ref sig .tc := ⟨.hbm, 468, rfl⟩
abbrev main_while0b_call4_call0_call0_v87 : Ref sig .tc := ⟨.hbm, 469, rfl⟩
abbrev main_while0b_call4_call0_call0_v88 : Ref sig .tc := ⟨.hbm, 470, rfl⟩
abbrev main_while0b_call4_call0_call0_c_22 : Ref sig .tc := ⟨.hbm, 471, rfl⟩
abbrev main_while0b_call4_call0_call0_v89 : Ref sig .tc := ⟨.hbm, 472, rfl⟩
abbrev main_while0b_call4_call0_call0_v90 : Ref sig .tc := ⟨.hbm, 473, rfl⟩
abbrev main_while0b_call4_call0_call0_c_23 : Ref sig .tc := ⟨.hbm, 474, rfl⟩
abbrev main_while0b_call4_call0_call0_v91 : Ref sig .tc := ⟨.hbm, 475, rfl⟩
abbrev main_while0b_call4_call0_call0_v92 : Ref sig .tc := ⟨.hbm, 476, rfl⟩
abbrev main_while0b_call4_call0_call0_v93 : Ref sig .tc := ⟨.hbm, 477, rfl⟩
abbrev main_while0b_call4_call0_call0_v94 : Ref sig .tc := ⟨.hbm, 478, rfl⟩
abbrev main_while0b_call4_call0_call0_v95 : Ref sig .tc := ⟨.hbm, 479, rfl⟩
abbrev main_while0b_call4_call0_call0_c_24 : Ref sig .tc := ⟨.hbm, 480, rfl⟩
abbrev main_while0b_call4_call0_call0_v96 : Ref sig .tc := ⟨.hbm, 481, rfl⟩
abbrev main_while0b_call4_call0_call0_v97 : Ref sig .tc := ⟨.hbm, 482, rfl⟩
abbrev main_while0b_call4_call0_call0_c_25 : Ref sig .tc := ⟨.hbm, 483, rfl⟩
abbrev main_while0b_call4_call0_call0_v98 : Ref sig .tc := ⟨.hbm, 484, rfl⟩
abbrev main_while0b_call4_call0_call0_v99 : Ref sig .tc := ⟨.hbm, 485, rfl⟩
abbrev main_while0b_call4_call0_call0_v100 : Ref sig .tc := ⟨.hbm, 486, rfl⟩
abbrev main_while0b_call4_call0_call0_v101 : Ref sig .tc := ⟨.hbm, 487, rfl⟩
abbrev main_while0b_call4_call0_call0_v102 : Ref sig .tc := ⟨.hbm, 488, rfl⟩
abbrev main_while0b_call4_call0_call0_v103 : Ref sig .tc := ⟨.hbm, 489, rfl⟩
abbrev main_while0b_call4_call0_call0_v104 : Ref sig .tc := ⟨.hbm, 490, rfl⟩
abbrev main_while0b_call4_call0_call0_v105 : Ref sig .tc := ⟨.hbm, 491, rfl⟩
abbrev main_while0b_call4_call0_call0_c_26 : Ref sig .tc := ⟨.hbm, 492, rfl⟩
abbrev main_while0b_call4_call0_call0_v106 : Ref sig .tc := ⟨.hbm, 493, rfl⟩
abbrev main_while0b_call4_call0_call0_v107 : Ref sig .tc := ⟨.hbm, 494, rfl⟩
abbrev main_while0b_call4_call0_call0_v108 : Ref sig .tc := ⟨.hbm, 495, rfl⟩
abbrev main_while0b_call4_call0_call0_c_27 : Ref sig .tc := ⟨.hbm, 496, rfl⟩
abbrev main_while0b_call4_call0_call0_v109 : Ref sig .tc := ⟨.hbm, 497, rfl⟩
abbrev main_while0b_call4_call0_call0_v110 : Ref sig .tc := ⟨.hbm, 498, rfl⟩
abbrev main_while0b_call4_call0_call0_c_28 : Ref sig .tc := ⟨.hbm, 499, rfl⟩
abbrev main_while0b_call4_call0_call0_v111 : Ref sig .tc := ⟨.hbm, 500, rfl⟩
abbrev main_while0b_call4_call0_call0_v112 : Ref sig .tc := ⟨.hbm, 501, rfl⟩
abbrev main_while0b_call4_call0_call0_v113 : Ref sig .tc := ⟨.hbm, 502, rfl⟩
abbrev main_while0b_call4_call0_call0_v114 : Ref sig .tc := ⟨.hbm, 503, rfl⟩
abbrev main_while0b_call4_call0_call0_v115 : Ref sig .tc := ⟨.hbm, 504, rfl⟩
abbrev main_while0b_call4_call0_call0_c_29 : Ref sig .tc := ⟨.hbm, 505, rfl⟩
abbrev main_while0b_call4_call0_call0_v116 : Ref sig .tc := ⟨.hbm, 506, rfl⟩
abbrev main_while0b_call4_call0_call0_v117 : Ref sig .tc := ⟨.hbm, 507, rfl⟩
abbrev main_while0b_call4_call0_call0_c_30 : Ref sig .tc := ⟨.hbm, 508, rfl⟩
abbrev main_while0b_call4_call0_call0_v118 : Ref sig .tc := ⟨.hbm, 509, rfl⟩
abbrev main_while0b_call4_call0_call0_v119 : Ref sig .tc := ⟨.hbm, 510, rfl⟩
abbrev main_while0b_call4_call0_call0_v120 : Ref sig .tc := ⟨.hbm, 511, rfl⟩
abbrev main_while0b_call4_call0_call0_v121 : Ref sig .tc := ⟨.hbm, 512, rfl⟩
abbrev main_while0b_call4_call0_call0_v122 : Ref sig .tc := ⟨.hbm, 513, rfl⟩
abbrev main_while0b_call4_call0_call0_c_31 : Ref sig .tc := ⟨.hbm, 514, rfl⟩
abbrev main_while0b_call4_call0_call0_v123 : Ref sig .tc := ⟨.hbm, 515, rfl⟩
abbrev main_while0b_call4_call0_call0_v124 : Ref sig .tc := ⟨.hbm, 516, rfl⟩
abbrev main_while0b_call4_call0_call0_c_32 : Ref sig .tc := ⟨.hbm, 517, rfl⟩
abbrev main_while0b_call4_call0_call0_v125 : Ref sig .tc := ⟨.hbm, 518, rfl⟩
abbrev main_while0b_call4_call0_call0_v126 : Ref sig .tc := ⟨.hbm, 519, rfl⟩
abbrev main_while0b_call4_call0_call0_v127 : Ref sig .tc := ⟨.hbm, 520, rfl⟩
abbrev main_while0b_call4_call0_call0_v128 : Ref sig .tc := ⟨.hbm, 521, rfl⟩
abbrev main_while0b_call4_call0_call0_v129 : Ref sig .tc := ⟨.hbm, 522, rfl⟩
abbrev main_while0b_call4_call0_call0_c_33 : Ref sig .tc := ⟨.hbm, 523, rfl⟩
abbrev main_while0b_call4_call0_call0_v130 : Ref sig .tc := ⟨.hbm, 524, rfl⟩
abbrev main_while0b_call4_call0_call0_v131 : Ref sig .tc := ⟨.hbm, 525, rfl⟩
abbrev main_while0b_call4_call0_call0_c_34 : Ref sig .tc := ⟨.hbm, 526, rfl⟩
abbrev main_while0b_call4_call0_call0_v132 : Ref sig .tc := ⟨.hbm, 527, rfl⟩
abbrev main_while0b_call4_call0_call0_v133 : Ref sig .tc := ⟨.hbm, 528, rfl⟩
abbrev main_while0b_call4_call0_call0_v134 : Ref sig .tc := ⟨.hbm, 529, rfl⟩
abbrev main_while0b_call4_call0_call0_v135 : Ref sig .tc := ⟨.hbm, 530, rfl⟩
abbrev main_while0b_call4_call0_call0_v136 : Ref sig .tc := ⟨.hbm, 531, rfl⟩
abbrev main_while0b_call4_call0_call0_v137 : Ref sig .tc := ⟨.hbm, 532, rfl⟩
abbrev main_while0b_call4_call0_call0_v138 : Ref sig .tc := ⟨.hbm, 533, rfl⟩
abbrev main_while0b_call4_call0_call0_v139 : Ref sig .tc := ⟨.hbm, 534, rfl⟩
abbrev main_while0b_call4_call0_call0_c_35 : Ref sig .tc := ⟨.hbm, 535, rfl⟩
abbrev main_while0b_call4_call0_call0_v140 : Ref sig .tc := ⟨.hbm, 536, rfl⟩
abbrev main_while0b_call4_call0_call0_v141 : Ref sig .tc := ⟨.hbm, 537, rfl⟩
abbrev main_while0b_call4_call0_call0_v142 : Ref sig .tc := ⟨.hbm, 538, rfl⟩
abbrev main_while0b_call4_call0_call0_c_36 : Ref sig .tc := ⟨.hbm, 539, rfl⟩
abbrev main_while0b_call4_call0_call0_v143 : Ref sig .tc := ⟨.hbm, 540, rfl⟩
abbrev main_while0b_call4_call0_call0_v144 : Ref sig .tc := ⟨.hbm, 541, rfl⟩
abbrev main_while0b_call4_call0_call0_c_37 : Ref sig .tc := ⟨.hbm, 542, rfl⟩
abbrev main_while0b_call4_call0_call0_v145 : Ref sig .tc := ⟨.hbm, 543, rfl⟩
abbrev main_while0b_call4_call0_call0_v146 : Ref sig .tc := ⟨.hbm, 544, rfl⟩
abbrev main_while0b_call4_call0_call0_v147 : Ref sig .tc := ⟨.hbm, 545, rfl⟩
abbrev main_while0b_call4_call0_call0_v148 : Ref sig .tc := ⟨.hbm, 546, rfl⟩
abbrev main_while0b_call4_call0_call0_v149 : Ref sig .tc := ⟨.hbm, 547, rfl⟩
abbrev main_while0b_call4_call0_call0_c_38 : Ref sig .tc := ⟨.hbm, 548, rfl⟩
abbrev main_while0b_call4_call0_call0_v150 : Ref sig .tc := ⟨.hbm, 549, rfl⟩
abbrev main_while0b_call4_call0_call0_v151 : Ref sig .tc := ⟨.hbm, 550, rfl⟩
abbrev main_while0b_call4_call0_call0_c_39 : Ref sig .tc := ⟨.hbm, 551, rfl⟩
abbrev main_while0b_call4_call0_call0_v152 : Ref sig .tc := ⟨.hbm, 552, rfl⟩
abbrev main_while0b_call4_call0_call0_v153 : Ref sig .tc := ⟨.hbm, 553, rfl⟩
abbrev main_while0b_call4_call0_call0_v154 : Ref sig .tc := ⟨.hbm, 554, rfl⟩
abbrev main_while0b_call4_call0_call0_v155 : Ref sig .tc := ⟨.hbm, 555, rfl⟩
abbrev main_while0b_call4_call0_call0_v156 : Ref sig .tc := ⟨.hbm, 556, rfl⟩
abbrev main_while0b_call4_call0_call0_c_40 : Ref sig .tc := ⟨.hbm, 557, rfl⟩
abbrev main_while0b_call4_call0_call0_v157 : Ref sig .tc := ⟨.hbm, 558, rfl⟩
abbrev main_while0b_call4_call0_call0_v158 : Ref sig .tc := ⟨.hbm, 559, rfl⟩
abbrev main_while0b_call4_call0_call0_c_41 : Ref sig .tc := ⟨.hbm, 560, rfl⟩
abbrev main_while0b_call4_call0_call0_v159 : Ref sig .tc := ⟨.hbm, 561, rfl⟩
abbrev main_while0b_call4_call0_call0_v160 : Ref sig .tc := ⟨.hbm, 562, rfl⟩
abbrev main_while0b_call4_call0_call0_v161 : Ref sig .tc := ⟨.hbm, 563, rfl⟩
abbrev main_while0b_call4_call0_call0_v162 : Ref sig .tc := ⟨.hbm, 564, rfl⟩
abbrev main_while0b_call4_call0_call0_v163 : Ref sig .tc := ⟨.hbm, 565, rfl⟩
abbrev main_while0b_call4_call0_call0_c_42 : Ref sig .tc := ⟨.hbm, 566, rfl⟩
abbrev main_while0b_call4_call0_call0_v164 : Ref sig .tc := ⟨.hbm, 567, rfl⟩
abbrev main_while0b_call4_call0_call0_v165 : Ref sig .tc := ⟨.hbm, 568, rfl⟩
abbrev main_while0b_call4_call0_call0_c_43 : Ref sig .tc := ⟨.hbm, 569, rfl⟩
abbrev main_while0b_call4_call0_call0_v166 : Ref sig .tc := ⟨.hbm, 570, rfl⟩
abbrev main_while0b_call4_call0_call0_v167 : Ref sig .tc := ⟨.hbm, 571, rfl⟩
abbrev main_while0b_call4_call0_call0_v168 : Ref sig .tc := ⟨.hbm, 572, rfl⟩
abbrev main_while0b_call4_call0_call0_v169 : Ref sig .tc := ⟨.hbm, 573, rfl⟩
abbrev main_while0b_call4_call0_call0_v170 : Ref sig .tc := ⟨.hbm, 574, rfl⟩
abbrev main_while0b_call4_call0_v18_0 : Ref sig .tc := ⟨.hbm, 575, rfl⟩
abbrev main_while0b_call4_call0_call0_v172 : Ref sig .tc := ⟨.hbm, 576, rfl⟩
abbrev main_while0b_call4_call0_call0_v173 : Ref sig .tc := ⟨.hbm, 577, rfl⟩
abbrev main_while0b_call4_call0_call0_c_44 : Ref sig .tc := ⟨.hbm, 578, rfl⟩
abbrev main_while0b_call4_call0_call0_v174 : Ref sig .tc := ⟨.hbm, 579, rfl⟩
abbrev main_while0b_call4_call0_v18_1 : Ref sig .tc := ⟨.hbm, 580, rfl⟩
abbrev main_while0b_call4_call0_v19 : Ref sig .tc := ⟨.hbm, 581, rfl⟩
abbrev main_while0b_call4_call0_c_2 : Ref sig .tc := ⟨.hbm, 582, rfl⟩
abbrev main_while0b_call4_call0_v20 : Ref sig .tc := ⟨.hbm, 583, rfl⟩
abbrev main_while0b_call4_call0_v21 : Ref sig .tc := ⟨.hbm, 584, rfl⟩
abbrev main_while0b_call4_call0_c_3 : Ref sig .tc := ⟨.hbm, 585, rfl⟩
abbrev main_while0b_call4_call0_v22 : Ref sig .tc := ⟨.hbm, 586, rfl⟩
abbrev main_while0b_call4_call0_v23 : Ref sig .tc := ⟨.hbm, 587, rfl⟩
abbrev main_while0b_call4_call0_v24 : Ref sig .tc := ⟨.hbm, 588, rfl⟩
abbrev main_while0b_call4_call0_cst : Ref sig .tc := ⟨.hbm, 589, rfl⟩
abbrev main_while0b_call4_call0_v25 : Ref sig .tc := ⟨.hbm, 590, rfl⟩
abbrev main_while0b_call4_call0_v26 : Ref sig .tc := ⟨.hbm, 591, rfl⟩
abbrev main_while0b_call4_call0_v27 : Ref sig .tc := ⟨.hbm, 592, rfl⟩
abbrev main_while0b_call4_call0_v28 : Ref sig .tc := ⟨.hbm, 593, rfl⟩
abbrev main_while0b_call4_call0_v29 : Ref sig .tc := ⟨.hbm, 594, rfl⟩
abbrev main_while0b_call4_call0_v30 : Ref sig .tc := ⟨.hbm, 595, rfl⟩
abbrev main_while0b_call4_call0_v31 : Ref sig .tc := ⟨.hbm, 596, rfl⟩
abbrev main_while0b_call4_call0_v32 : Ref sig .tc := ⟨.hbm, 597, rfl⟩
abbrev main_while0b_call4_v0 : Ref sig .tc := ⟨.hbm, 598, rfl⟩
abbrev main_while0b_call4_v1 : Ref sig .tc := ⟨.hbm, 599, rfl⟩
abbrev main_while0b_call4_v2 : Ref sig .tc := ⟨.hbm, 600, rfl⟩
abbrev main_while0b_call4_v3 : Ref sig .tc := ⟨.hbm, 601, rfl⟩
abbrev main_while0b_v57 : Ref sig .tc := ⟨.hbm, 602, rfl⟩
abbrev main_while0b_v58 : Ref sig .tc := ⟨.hbm, 603, rfl⟩
abbrev main_while0b_call5_v0 : Ref sig .tc := ⟨.hbm, 604, rfl⟩
abbrev main_while0b_call5_cst : Ref sig .tc := ⟨.hbm, 605, rfl⟩
abbrev main_while0b_call5_c : Ref sig .tc := ⟨.hbm, 606, rfl⟩
abbrev main_while0b_call5_v1_0 : Ref sig .tc := ⟨.hbm, 607, rfl⟩
abbrev main_while0b_v59 : Ref sig .tc := ⟨.hbm, 608, rfl⟩
abbrev main_while0b_call6_cst : Ref sig .tc := ⟨.hbm, 609, rfl⟩
abbrev main_while0b_call6_v0 : Ref sig .tc := ⟨.hbm, 610, rfl⟩
abbrev main_while0b_call6_cst_0 : Ref sig .tc := ⟨.hbm, 611, rfl⟩
abbrev main_while0b_call6_v1 : Ref sig .tc := ⟨.hbm, 612, rfl⟩
abbrev main_while0b_call6_v2 : Ref sig .tc := ⟨.hbm, 613, rfl⟩
abbrev main_while0b_call6_v3 : Ref sig .tc := ⟨.hbm, 614, rfl⟩
abbrev main_while0b_call6_v4 : Ref sig .tc := ⟨.hbm, 615, rfl⟩
abbrev main_while0b_call6_v5 : Ref sig .tc := ⟨.hbm, 616, rfl⟩
abbrev main_while0b_call6_v6 : Ref sig .tc := ⟨.hbm, 617, rfl⟩
abbrev main_while0b_call6_cst_1 : Ref sig .tc := ⟨.hbm, 618, rfl⟩
abbrev main_while0b_call6_v7 : Ref sig .tc := ⟨.hbm, 619, rfl⟩
abbrev main_while0b_call6_v8 : Ref sig .tc := ⟨.hbm, 620, rfl⟩
abbrev main_while0b_call6_v9 : Ref sig .tc := ⟨.hbm, 621, rfl⟩
abbrev main_while0b_call6_v10 : Ref sig .tc := ⟨.hbm, 622, rfl⟩
abbrev main_while0b_v60 : Ref sig .tc := ⟨.hbm, 623, rfl⟩
abbrev main_while0b_v61 : Ref sig .tc := ⟨.hbm, 624, rfl⟩
abbrev main_while0b_call7_c : Ref sig .tc := ⟨.hbm, 625, rfl⟩
abbrev main_while0b_call7_v0 : Ref sig .tc := ⟨.hbm, 626, rfl⟩
abbrev main_while0b_call7_v1 : Ref sig .tc := ⟨.hbm, 627, rfl⟩
abbrev main_while0b_call7_c_0 : Ref sig .tc := ⟨.hbm, 628, rfl⟩
abbrev main_while0b_call7_v2 : Ref sig .tc := ⟨.hbm, 629, rfl⟩
abbrev main_while0b_call7_v3 : Ref sig .tc := ⟨.hbm, 630, rfl⟩
abbrev main_while0b_call7_v4 : Ref sig .tc := ⟨.hbm, 631, rfl⟩
abbrev main_while0b_call7_v5 : Ref sig .tc := ⟨.hbm, 632, rfl⟩
abbrev main_while0b_call7_c_1 : Ref sig .tc := ⟨.hbm, 633, rfl⟩
abbrev main_while0b_call7_c_2 : Ref sig .tc := ⟨.hbm, 634, rfl⟩
abbrev main_while0b_call7_v6 : Ref sig .tc := ⟨.hbm, 635, rfl⟩
abbrev main_while0b_call7_v7 : Ref sig .tc := ⟨.hbm, 636, rfl⟩
abbrev main_while0b_call7_v8 : Ref sig .tc := ⟨.hbm, 637, rfl⟩
abbrev main_while0b_call7_v9 : Ref sig .tc := ⟨.hbm, 638, rfl⟩
abbrev main_while0b_call7_v10 : Ref sig .tc := ⟨.hbm, 639, rfl⟩
abbrev main_while0b_call7_v11 : Ref sig .tc := ⟨.hbm, 640, rfl⟩
abbrev main_while0b_call7_c_3 : Ref sig .tc := ⟨.hbm, 641, rfl⟩
abbrev main_while0b_call7_v12 : Ref sig .tc := ⟨.hbm, 642, rfl⟩
abbrev main_while0b_call7_v13 : Ref sig .tc := ⟨.hbm, 643, rfl⟩
abbrev main_while0b_call7_cst : Ref sig .tc := ⟨.hbm, 644, rfl⟩
abbrev main_while0b_call7_v14 : Ref sig .tc := ⟨.hbm, 645, rfl⟩
abbrev main_while0b_v62 : Ref sig .tc := ⟨.hbm, 646, rfl⟩
abbrev main_while0b_v63 : Ref sig .tc := ⟨.hbm, 647, rfl⟩
abbrev main_while0b_v64 : Ref sig .tc := ⟨.hbm, 648, rfl⟩
abbrev main_while0b_v65 : Ref sig .tc := ⟨.hbm, 649, rfl⟩
abbrev main_while0b_v66 : Ref sig .tc := ⟨.hbm, 650, rfl⟩
abbrev main_while0b_cst_28 : Ref sig .tc := ⟨.hbm, 651, rfl⟩
abbrev main_while0b_v67 : Ref sig .tc := ⟨.hbm, 652, rfl⟩
abbrev main_while0b_v68 : Ref sig .tc := ⟨.hbm, 653, rfl⟩
abbrev main_while0b_call8_v0 : Ref sig .tc := ⟨.hbm, 654, rfl⟩
abbrev main_while0b_call8_v1 : Ref sig .tc := ⟨.hbm, 655, rfl⟩
abbrev main_while0b_call8_v2 : Ref sig .tc := ⟨.hbm, 656, rfl⟩
abbrev main_while0b_call8_v3 : Ref sig .tc := ⟨.hbm, 657, rfl⟩
abbrev main_while0b_call8_v4 : Ref sig .tc := ⟨.hbm, 658, rfl⟩
abbrev main_while0b_v69 : Ref sig .tc := ⟨.hbm, 659, rfl⟩
abbrev main_while0b_v70 : Ref sig .tc := ⟨.hbm, 660, rfl⟩
abbrev main_while0b_c_29 : Ref sig .tc := ⟨.hbm, 661, rfl⟩
abbrev main_while0b_v71 : Ref sig .tc := ⟨.hbm, 662, rfl⟩
abbrev main_while0b_v72 : Ref sig .tc := ⟨.hbm, 663, rfl⟩
abbrev main_while0b_c_30 : Ref sig .tc := ⟨.hbm, 664, rfl⟩
abbrev main_while0b_v73 : Ref sig .tc := ⟨.hbm, 665, rfl⟩
abbrev main_while0b_v74 : Ref sig .tc := ⟨.hbm, 666, rfl⟩
abbrev main_while0b_v75 : Ref sig .tc := ⟨.hbm, 667, rfl⟩
abbrev main_while0b_c_31 : Ref sig .tc := ⟨.hbm, 668, rfl⟩
abbrev main_while0b_v76 : Ref sig .tc := ⟨.hbm, 669, rfl⟩
abbrev main_while0b_v77 : Ref sig .tc := ⟨.hbm, 670, rfl⟩
abbrev main_while0b_c_32 : Ref sig .tc := ⟨.hbm, 671, rfl⟩
abbrev main_while0b_v78 : Ref sig .tc := ⟨.hbm, 672, rfl⟩
abbrev main_while0b_v79 : Ref sig .tc := ⟨.hbm, 673, rfl⟩
abbrev main_while0b_v80 : Ref sig .tc := ⟨.hbm, 674, rfl⟩
abbrev main_while0b_v81 : Ref sig .tc := ⟨.hbm, 675, rfl⟩
abbrev main_while0b_v82 : Ref sig .tc := ⟨.hbm, 676, rfl⟩
abbrev main_while0b_v83 : Ref sig .tc := ⟨.hbm, 677, rfl⟩
abbrev main_while0b_v84 : Ref sig .tc := ⟨.hbm, 678, rfl⟩
abbrev main_while0b_v85 : Ref sig .tc := ⟨.hbm, 679, rfl⟩
abbrev main_while0b_v86 : Ref sig .tc := ⟨.hbm, 680, rfl⟩
abbrev main_while0b_v87 : Ref sig .tc := ⟨.hbm, 681, rfl⟩
abbrev main_while0b_call9_v0 : Ref sig .tc := ⟨.hbm, 682, rfl⟩
abbrev main_while0b_call9_c : Ref sig .tc := ⟨.hbm, 683, rfl⟩
abbrev main_while0b_v88 : Ref sig .tc := ⟨.hbm, 684, rfl⟩
abbrev main_while0b_c_33 : Ref sig .tc := ⟨.hbm, 685, rfl⟩
abbrev main_while0b_v89 : Ref sig .tc := ⟨.hbm, 686, rfl⟩
abbrev main_v17 : Ref sig .tc := ⟨.hbm, 687, rfl⟩
abbrev main_v18 : Ref sig .tc := ⟨.hbm, 688, rfl⟩
abbrev main_v19 : Ref sig .tc := ⟨.hbm, 689, rfl⟩

abbrev nD : Nat := 1
abbrev τ : Topo := Topo.v7x

variable {F : FTy → Type} [FloatOps F]

abbrev main_while0_count : Scf.Loop 32 := ⟨0#32, 128#32, 1#32⟩
-- ==== Proof.Rules.lean ====
/- One rule per memory operation of the kernel, over buffers given by the values read through them: a load reads a
   window of the values, an unmasked store puts its payload over a window. -/
module

public import proofs.«01_k».proof.Proof.Gen.KernelIdeal.Skeleton
public import Idealize.ShloMosaic.Lib.VecWindow
public import Idealize.ShloMosaic.Lib.Memref
public import Idealize.ShloMosaic.Lib.Transfers
public import Idealize.ShloMosaic.Lib.Pipeline.Frame
public import Idealize.ShloMosaic.Lib.Tactic
public import Idealize.ShloMosaic.Lib.Pipeline.Kit

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-- The memref's buffer, wholly held by this core, reading `X` through the memref. -/
abbrev holds (c : Dev nD) {sp : Space} {s : Shape} {e : EltTy} (m : Memref sig .tc sp s e) (X : s.Idx → Elt F e) : sProp 𝕄 :=
  owns (c : Thread nD τ) m fullShare X

section
variable (𝒱 : Variants) (c : Dev nD) (bd : Option 𝒱.V) {E : Set ℕ} {α : Type} {Q : α → sProp (MT nD τ sig Unit (Elt F) ℕ (Pipeline.UD sig nD τ) ℕ)}

/-- What is to be proved of a program of this core run to the postcondition `Q`. -/
abbrev WP (𝒱 : Variants) (c : Dev nD) (bd : Option 𝒱.V) (E : Set ℕ) {α : Type} (p : Prog (TpuEff nD τ sig (Elt F) Λ₀ .tc) α) (Q : α → sProp 𝕄) : sProp 𝕄 :=
  wp Idealize.ShloMosaic.frame (wpE (defs₀ (F := F)) 𝒱 (c : Thread nD τ) bd) E p Q

/-- A load of a window hands the program that window of the values held. -/
theorem wp_load_window {sp : CoreSpace} {s : Shape} {e : EltTy} {m : Memref sig .tc sp s e} {X : s.Idx → Elt F e}
    {off size : Fin s.rank → ℕ} {inb : ∀ a, off a + size a ≤ s.size a} {hl : m.view.LoadsAt (Rect.unit off size inb).toLoadRect}
    {k : _ → Prog (TpuEff nD τ sig (Elt F) Λ₀ .tc) α} :
    holds c m X ⊢ iprop((holds c m X -∗ WP 𝒱 c bd E (k (VecWindow.window X off size inb)) Q)
      -∗ WP 𝒱 c bd E (.op (.load m (Rect.unit off size inb).toLoadRect hl) k) Q) := by
  unfold holds owns WP
  iintro ⟨%f, %hf, H⟩ Hk
  iapply (wp_load (𝒱 := 𝒱) (c := (c : Thread nD τ)) (bd := bd) (E := E) (View.setOn_subset_set _ _)) $$ [H]
  · iexact H
  iintro H
  rw [View.readAt_unit m.view f inb rfl inb, hf]
  iapply Hk
  iexists f
  isplitr
  · ipureintro; exact hf
  iexact H

/-- A load of the whole buffer hands the program the values held. -/
theorem wp_load_whole {sp : CoreSpace} {s : Shape} {e : EltTy} {m : Memref sig .tc sp s e} {X : s.Idx → Elt F e}
    {off : Fin s.rank → ℕ} {inb : ∀ a, off a + s.size a ≤ s.size a} {hl : m.view.LoadsAt (Rect.unit off s.size inb).toLoadRect}
    {k : _ → Prog (TpuEff nD τ sig (Elt F) Λ₀ .tc) α} :
    holds c m X ⊢ iprop((holds c m X -∗ WP 𝒱 c bd E (k X) Q)
      -∗ WP 𝒱 c bd E (.op (.load m (Rect.unit off s.size inb).toLoadRect hl) k) Q) := by
  unfold holds owns WP
  iintro ⟨%f, %hf, H⟩ Hk
  iapply (wp_load (𝒱 := 𝒱) (c := (c : Thread nD τ)) (bd := bd) (E := E) (View.setOn_subset_set _ _)) $$ [H]
  · iexact H
  iintro H
  rw [View.readAt_full m.view f inb, hf]
  iapply Hk
  iexists f
  isplitr
  · ipureintro; exact hf
  iexact H

/-- An unmasked store over a window leaves the values held with the payload put there. -/
theorem wp_store_window {sp : CoreSpace} {s : Shape} {e : EltTy} {m : Memref sig .tc sp s e} {X : s.Idx → Elt F e}
    {off size : Fin s.rank → ℕ} {inb : ∀ a, off a + size a ≤ s.size a} {w : (Rect.unit off size inb).shape.Idx → Elt F e}
    {hx : (m.access (Rect.unit off size inb)).Stores Finset.univ} {hm}
    {k : PUnit → Prog (TpuEff nD τ sig (Elt F) Λ₀ .tc) α} :
    holds c m X ⊢ iprop((holds c m (VecWindow.put X off size w) -∗ WP 𝒱 c bd E (k ⟨⟩) Q)
      -∗ WP 𝒱 c bd E (.op (.store m (Rect.unit off size inb) w Finset.univ hx hm) k) Q) := by
  unfold holds owns WP
  iintro ⟨%f, %hf, H⟩ Hk
  iapply (wp_store (𝒱 := 𝒱) (c := (c : Thread nD τ)) (bd := bd) (E := E) (S := m.view.set)
    ((View.setOn_subset_set _ _).trans (View.set_slice_subset _ _))) $$ [H]
  · iexact H
  iintro H
  iapply Hk
  iexists _
  isplitr
  swap
  · iexact H
  ipureintro
  rw [← hf]
  exact View.read_writes_cons_put m.view f inb w [] rfl

/-- An unmasked store over the whole buffer leaves the payload. -/
theorem wp_store_whole {sp : CoreSpace} {s : Shape} {e : EltTy} {m : Memref sig .tc sp s e} {X : s.Idx → Elt F e}
    {off : Fin s.rank → ℕ} {inb : ∀ a, off a + s.size a ≤ s.size a} {w : (Rect.unit off s.size inb).shape.Idx → Elt F e}
    {hx : (m.access (Rect.unit off s.size inb)).Stores Finset.univ} {hm}
    {k : PUnit → Prog (TpuEff nD τ sig (Elt F) Λ₀ .tc) α} :
    holds c m X ⊢ iprop((holds c m (show s.Idx → Elt F e from w) -∗ WP 𝒱 c bd E (k ⟨⟩) Q)
      -∗ WP 𝒱 c bd E (.op (.store m (Rect.unit off s.size inb) w Finset.univ hx hm) k) Q) := by
  unfold holds owns WP
  iintro ⟨%f, %hf, H⟩ Hk
  iapply (wp_store (𝒱 := 𝒱) (c := (c : Thread nD τ)) (bd := bd) (E := E) (S := m.view.set)
    ((View.setOn_subset_set _ _).trans (View.set_slice_subset _ _))) $$ [H]
  · iexact H
  iintro H
  iapply Hk
  iexists _
  isplitr
  swap
  · iexact H
  ipureintro
  exact View.read_writes_full m.view f inb w []

/-- A read of one word of scalar memory hands the program that word of the values held. -/
theorem wp_word {s : Shape} {e : EltTy} {m : Memref sig .tc .smem s e} {X : s.Idx → Elt F e} {r : Rect s}
    {hw : (m.access r).Loads} {x : r.shape.Idx} {k : Elt F e → Prog (TpuEff nD τ sig (Elt F) Λ₀ .tc) α} :
    holds c m X ⊢ iprop((holds c m X -∗ WP 𝒱 c bd E (k (X (r.emb x))) Q)
      -∗ WP 𝒱 c bd E (smemLoadElt m r hw x k) Q) := by
  unfold holds owns WP
  iintro ⟨%f, %hf, H⟩ Hk
  iapply (wp_smemLoadElt (𝒱 := 𝒱) (c := (c : Thread nD τ)) (bd := bd) (E := E) (S := m.view.set) (View.set_slice_subset _ _)) $$ [H]
  · iexact H
  iintro H
  have e1 : (m.access r).read (Elt F) f x = X (r.emb x) := by
    rw [← hf]; rfl
  rw [e1]
  iapply Hk
  iexists f
  isplitr
  · ipureintro; exact hf
  iexact H

/-- A copy on this core's own cell and its wait: the destination then reads what the source reads, the cell is back at
    zero. -/
theorem wp_copy {sp sp' : Space} {s : Shape} {e : EltTy} {src : Memref sig .tc sp s e} {dst : Memref sig .tc sp' s e}
    {sem : DmaSem sig} (hs : 0 < s.numel) {X Y : s.Idx → Elt F e} {W : Waits sig Unit}
    {h1 : src.view.WordExact} {h2 : dst.view.WordExact} {h3} {h4 : src.view.WordExact} {h5 : dst.view.WordExact}
    {k : Prog (TpuEff nD τ sig (Elt F) Λ₀ .tc) α} :
    iprop(holds c src X ∗ holds c dst Y ∗ semVal ((c : Thread nD τ), .dma sem) 0 ∗ owes (c : Thread nD τ) 0 W)
      ⊢ iprop((holds c src X ∗ holds c dst X ∗ semVal ((c : Thread nD τ), .dma sem) 0 ∗ owes (c : Thread nD τ) 0 (insert (SemLoc.dma sem, ()) W)
          -∗ WP 𝒱 c bd Set.univ k Q)
        -∗ WP 𝒱 c bd Set.univ (.op (.enqueueDma src (.here dst) (.dma sem) h1 h2 h3) fun _ => .op (.waitDma2 sem src dst h4 h5) fun _ => k) Q) := by
  unfold holds owns WP
  iintro ⟨⟨%f, %hf, Hs⟩, ⟨%g, %hg, Hd⟩, Hv, Ho⟩ Hk
  iapply (Transfers.wp_dmaLocal countersEmb 𝒱 (c : Thread nD τ) bd () _ rfl (View.amount_pos _ _ hs) subset_rfl) $$ [Hs Hd Hv]
  · isplitl [Hs]; · iexact Hs
    isplitl [Hd]; · iexact Hd
    iexact Hv
  iintro Hf
  iapply (Transfers.wp_waitLocal countersEmb 𝒱 (c : Thread nD τ) bd () rfl) $$ [Hf Ho]
  · isplitl [Hf]; · iexact Hf
    iexact Ho
  iintro ⟨⟨Hd, Hs⟩, Hv, Ho⟩
  iapply Hk
  isplitl [Hs]
  · iexists f
    isplitr
    · ipureintro; exact hf
    iexact Hs
  isplitl [Hd]
  · iexists _
    isplitr
    swap
    · iexact Hd
    ipureintro
    rw [View.read_write_univ]
    exact hf
  isplitl [Hv] <;> iassumption

end

end Cert.KernelIdeal.Hand

end
-- ==== Proof.Rows.lean ====
/- The copy of the chosen points' rows: the kernel reads the 128 chosen indices one word at a time out of scalar
   memory and copies, for each batch entry, that row of the inputs over its row of the buffer of the point chosen
   last. Written once for a row, then for the rows from any row to the last. -/
module

public import proofs.«01_k».proof.Proof.Rules
public import Idealize.ShloMosaic.Lib.ValueIdx
public import Idealize.ShloMosaic.Lib.Pipeline.Value

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F]

local notation "𝕄" => MT nD τ sig Unit (Elt F) ℕ (Pipeline.UD sig nD τ) ℕ

/-- Where the row of batch entry `b` chosen by the word `w` starts in the inputs. -/
def srcOff (b : Fin 128) (w : BitVec 32) : Fin 3 → ℕ := ![(Scalar.indexCast w).toNat, b.val, 0]

/-- That the row chosen by the word `w` lies in the inputs. -/
def SrcIn (b : Fin 128) (w : BitVec 32) : Prop := ∀ a, srcOff b w a + S1x1x512.size a ≤ S128x128x512.size a

instance SrcIn.dec (b : Fin 128) (w : BitVec 32) : Decidable (SrcIn b w) := decidable_of_iff' _ (Iff.of_eq (SrcIn.eq_1 b w))

theorem row_inb (b : Fin 128) : ∀ a, (![b.val, 0] : Fin 2 → ℕ) a + S1x512.size a ≤ S128x512.size a := by
  intro a; have := b.isLt; fin_cases a <;> simp [S1x512, S128x512] <;> omega

theorem word_inb (b : Fin 128) : ∀ a, (![0, b.val] : Fin 2 → ℕ) a + S1x1.size a ≤ S1x128.size a := by
  intro a; have := b.isLt; fin_cases a <;> simp [S1x1, S1x128] <;> omega

/-- The copy of batch entry `b`'s row, then `K`. -/
def rowProg (arg0 : Memref sig .tc .vmem S128x128x512 .f32) (arg14 : Memref sig .tc .vmem S128x512 .f32)
    (arg18 : Memref sig .tc .smem S1x128 .i32) {α : Type} (b : Fin 128)
    (K : Prog (TpuEff nD τ sig (Elt F) Λ₀ .tc) α) : Prog (TpuEff nD τ sig (Elt F) Λ₀ .tc) α :=
  smemLoadElt (Val := Elt F) (p := .tc) arg18 (Rect.unit (s := S1x128) ![0, b.val] S1x1.size (word_inb b)) (View.loads_smem_one rfl numel1_S1x1)
    (Shape.Idx.first (numel1_S1x1.symm ▸ Nat.one_pos)) fun w =>
  .op (TpuEff.assume (SrcIn b w) (SrcIn.dec b w)) fun h =>
  .op (.load arg0 (Rect.unit (s := S128x128x512) (srcOff b w) S1x1x512.size h.down).toLoadRect (View.loadsAt_vmem h_S1x1x512)) fun v =>
  .op (.load arg14 (Rect.unit (s := S128x512) ![b.val, 0] S1x512.size (row_inb b)).toLoadRect (View.loadsAt_vmem h_S1x512)) fun _ =>
  .op (.store arg14 (Rect.unit (s := S128x512) ![b.val, 0] S1x512.size (row_inb b))
    (shapeCast S1x512 (shapeCast S1x512 v shapeCasts_S1x1x512_S1x512) shapeCasts_S1x512_S1x512)
    Finset.univ (View.stores_vmem_bits_univ h_S1x512 rfl) (.inl rfl)) fun _ => K

/-- The copies of the last `n` rows in order, then `K`. -/
def rowsFrom (arg0 : Memref sig .tc .vmem S128x128x512 .f32) (arg14 : Memref sig .tc .vmem S128x512 .f32)
    (arg18 : Memref sig .tc .smem S1x128 .i32) {α : Type} :
    (n : ℕ) → n ≤ 128 → Prog (TpuEff nD τ sig (Elt F) Λ₀ .tc) α → Prog (TpuEff nD τ sig (Elt F) Λ₀ .tc) α
  | 0, _, K => K
  | n + 1, h, K => rowProg arg0 arg14 arg18 ⟨127 - n, by omega⟩ (rowsFrom arg0 arg14 arg18 n (Nat.le_of_succ_le h) K)

/-- The inputs' rows the words `I` choose: of batch entry `b`, row `I b`. -/
def rowsOf (tin : FVec F S128x128x512 .f32) (I : IVec S1x128 32) : FVec F S128x512 .f32 := fun y =>
  tin (ix3 ⟨min (I (ix2 0 (y 0))).toNat 127, by omega⟩ (y 0) (y 1))

/-- The first `k` rows of `new`, the others of `old`. -/
def mixRows (k : ℕ) (new old : FVec F S128x512 .f32) : FVec F S128x512 .f32 := fun y =>
  if (y 0).val < k then new y else old y

theorem mixRows_zero (new old : FVec F S128x512 .f32) : mixRows 0 new old = old := by
  funext y; simp [mixRows]

theorem mixRows_all (new old : FVec F S128x512 .f32) : mixRows 128 new old = new := by
  funext y; exact if_pos (y 0).isLt

theorem srcIn_of_lt (b : Fin 128) {w : BitVec 32} (h : w.toNat < 128) : SrcIn b w := by
  intro a
  have hb := b.isLt
  have h' : (Scalar.indexCast w).toNat < 128 := h
  fin_cases a <;> simp [srcOff, S1x1x512, S128x128x512] <;> omega

/-- Putting the row the kernel copies for batch entry `b` over row `b` extends the rows copied by one. -/
theorem put_row (tin : FVec F S128x128x512 .f32) (I : IVec S1x128 32) (old : FVec F S128x512 .f32) (b : Fin 128)
    (w : BitVec 32) (hw : w = I (ix2 0 b)) (hI : w.toNat < 128) (inb : SrcIn b w) :
    VecWindow.put (mixRows b.val (rowsOf tin I) old) ![b.val, 0] S1x512.size
      (shapeCast S1x512 (shapeCast S1x512 (VecWindow.window tin (srcOff b w) S1x1x512.size inb) shapeCasts_S1x1x512_S1x512) shapeCasts_S1x512_S1x512)
      = mixRows (b.val + 1) (rowsOf tin I) old := by
  funext y
  unfold VecWindow.put
  split
  · rename_i h
    have h0 : (y 0).val = b.val := by
      have := h 0; simp [S1x512] at this; omega
    have hy0 : (y 0) = b := Fin.ext h0
    rw [shapeCast_self]
    refine (shapeCast_dropUnit_apply (n := 2) ![1, 512] _ _ _).trans ?_
    have e1 : mixRows (b.val + 1) (rowsOf tin I) old y = rowsOf tin I y := if_pos (by omega)
    rw [e1]
    unfold VecWindow.window rowsOf
    congr 1
    funext a
    refine Fin.ext ?_
    have hm : min (I (ix2 0 (y 0))).toNat 127 = w.toNat := by rw [hy0, ← hw]; omega
    match a with
    | ⟨0, _⟩ => show w.toNat + 1 * 0 = min (I (ix2 0 (y 0))).toNat 127; omega
    | ⟨1, _⟩ => show b.val + 1 * ((y 0).val - b.val) = (y 0).val; omega
    | ⟨2, _⟩ => show 0 + 1 * ((y 1).val - 0) = (y 1).val; omega
  · rename_i h
    have h0 : (y 0).val ≠ b.val := fun h0 => h (by
      intro a
      match a with
      | ⟨0, _⟩ => show b.val ≤ (y 0).val ∧ (y 0).val < b.val + 1; omega
      | ⟨1, _⟩ => exact ⟨Nat.zero_le _, by show (y 1).val < 0 + 512; have h1 : (y 1).val < 512 := (y 1).isLt; omega⟩)
    unfold mixRows
    by_cases h1 : (y 0).val < b.val
    · rw [if_pos h1, if_pos (by omega)]
    · rw [if_neg h1, if_neg (by omega)]

section
variable (𝒱 : Variants) (c : Dev nD) (bd : Option 𝒱.V) {E : Set ℕ} {α : Type} {Q : α → sProp (MT nD τ sig Unit (Elt F) ℕ (Pipeline.UD sig nD τ) ℕ)}
variable (arg0 : Memref sig .tc .vmem S128x128x512 .f32) (arg14 : Memref sig .tc .vmem S128x512 .f32) (arg18 : Memref sig .tc .smem S1x128 .i32)

/-- One row's copy: the rows copied so far grow by row `b`. -/
theorem wp_row (tin : FVec F S128x128x512 .f32) (I : IVec S1x128 32) (hI : ∀ y, (I y).toNat < 128) (old : FVec F S128x512 .f32) (b : Fin 128)
    {K : Prog (TpuEff nD τ sig (Elt F) Λ₀ .tc) α} :
    iprop(holds (F := F) c arg0 tin ∗ holds (F := F) c arg18 I ∗ holds c arg14 (mixRows b.val (rowsOf tin I) old))
      ⊢ iprop((holds (F := F) c arg0 tin ∗ holds (F := F) c arg18 I ∗ holds c arg14 (mixRows (b.val + 1) (rowsOf tin I) old) -∗ WP 𝒱 c bd E K Q)
        -∗ WP 𝒱 c bd E (rowProg arg0 arg14 arg18 b K) Q) := by
  unfold rowProg
  iintro ⟨H0, H18, H14⟩ Hk
  iapply (wp_word 𝒱 c bd) $$ [H18]
  · iexact H18
  iintro H18
  have hw : I ((Rect.unit (s := S1x128) ![0, b.val] S1x1.size (word_inb b)).emb (Shape.Idx.first (numel1_S1x1.symm ▸ Nat.one_pos))) = I (ix2 0 b) := by
    congr 1
    funext a
    refine Fin.ext ?_
    match a with
    | ⟨0, _⟩ => exact Nat.lt_one_iff.1 (Fin.isLt _)
    | ⟨1, _⟩ =>
      show b.val + 1 * ((Shape.Idx.first (numel1_S1x1.symm ▸ Nat.one_pos) : S1x1.Idx) 1).val = b.val
      have := ((Shape.Idx.first (numel1_S1x1.symm ▸ Nat.one_pos) : S1x1.Idx) 1).isLt
      have e : S1x1.size 1 = 1 := rfl
      omega
  rw [hw]
  have hin := srcIn_of_lt b (hI (ix2 0 b))
  iapply (wp_assume 𝒱 (c : Thread nD τ) bd E hin)
  iapply (wp_load_window 𝒱 c bd) $$ [H0]
  · iexact H0
  iintro H0
  iapply (wp_load_window 𝒱 c bd) $$ [H14]
  · iexact H14
  iintro H14
  iapply (wp_store_window 𝒱 c bd) $$ [H14]
  · iexact H14
  iintro H14
  iapply Hk
  isplitl [H0]; · iexact H0
  isplitl [H18]; · iexact H18
  rw [put_row tin I old b (I (ix2 0 b)) rfl (hI _) hin]
  iexact H14

/-- The last `n` rows' copies: all the rows are then the chosen ones. -/
theorem wp_rowsFrom (tin : FVec F S128x128x512 .f32) (I : IVec S1x128 32) (hI : ∀ y, (I y).toNat < 128) (old : FVec F S128x512 .f32)
    {K : Prog (TpuEff nD τ sig (Elt F) Λ₀ .tc) α} (n : ℕ) (h : n ≤ 128) :
    iprop(holds (F := F) c arg0 tin ∗ holds (F := F) c arg18 I ∗ holds c arg14 (mixRows (128 - n) (rowsOf tin I) old))
      ⊢ iprop((holds (F := F) c arg0 tin ∗ holds (F := F) c arg18 I ∗ holds c arg14 (rowsOf tin I) -∗ WP 𝒱 c bd E K Q)
        -∗ WP 𝒱 c bd E (rowsFrom arg0 arg14 arg18 n h K) Q) := by
  induction n with
  | zero =>
    unfold rowsFrom
    rw [show 128 - 0 = 128 from rfl, mixRows_all]
    iintro H Hk
    iapply Hk
    iexact H
  | succ n ih =>
    unfold rowsFrom
    iintro H Hk
    have hb : 127 - n < 128 := by omega
    have e : 128 - (n + 1) = (⟨127 - n, by omega⟩ : Fin 128).val := by show 128 - (n + 1) = 127 - n; omega
    rw [e]
    iapply (wp_row 𝒱 c bd arg0 arg14 arg18 tin I hI old ⟨127 - n, hb⟩) $$ [H]
    · iexact H
    rw [show (⟨127 - n, by omega⟩ : Fin 128).val + 1 = 128 - n by show 127 - n + 1 = _; first | rfl | omega]
    iintro H
    iapply (ih (Nat.le_of_succ_le h)) $$ [H]
    · iexact H
    iexact Hk

/-- All the rows' copies: the rows are the chosen ones, whatever they were. -/
theorem wp_rows (tin : FVec F S128x128x512 .f32) (I : IVec S1x128 32) (hI : ∀ y, (I y).toNat < 128) (old : FVec F S128x512 .f32)
    {K : Prog (TpuEff nD τ sig (Elt F) Λ₀ .tc) α} :
    iprop(holds (F := F) c arg0 tin ∗ holds (F := F) c arg18 I ∗ holds c arg14 old)
      ⊢ iprop((holds (F := F) c arg0 tin ∗ holds (F := F) c arg18 I ∗ holds c arg14 (rowsOf tin I) -∗ WP 𝒱 c bd E K Q)
        -∗ WP 𝒱 c bd E (rowsFrom arg0 arg14 arg18 128 (Nat.le_refl 128) K) Q) := by
  have h := wp_rowsFrom 𝒱 c bd (E := E) (Q := Q) arg0 arg14 arg18 tin I hI old (K := K) 128 (Nat.le_refl 128)
  rwa [Nat.sub_self, mixRows_zero] at h

end

end Cert.KernelIdeal.Hand

end
-- ==== Proof.Step.lean ====
/- One decode step of the kernel: its operations in the order it issues them, the eight chunks of the score loop and
   the 128 copied rows each written once, and that the kernel's step is this program. -/
module

public import proofs.«01_k».proof.Proof.Rows

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F]

local notation "𝕄" => MT nD τ sig Unit (Elt F) ℕ (Pipeline.UD sig nD τ) ℕ

theorem chunk3_inb (k : Fin 8) : ∀ a, (![16 * k.val, 0, 0] : Fin 3 → ℕ) a + S16x128x256.size a ≤ S128x128x256.size a := by
  intro a; have := k.isLt
  match a with
  | ⟨0, _⟩ => show 16 * k.val + 16 ≤ 128; omega
  | ⟨1, _⟩ => show 0 + 128 ≤ 128; omega
  | ⟨2, _⟩ => show 0 + 256 ≤ 256; omega

theorem chunk2_inb (k : Fin 8) : ∀ a, (![16 * k.val, 0] : Fin 2 → ℕ) a + S16x128.size a ≤ S128x128.size a := by
  intro a; have := k.isLt
  match a with
  | ⟨0, _⟩ => show 16 * k.val + 16 ≤ 128; omega
  | ⟨1, _⟩ => show 0 + 128 ≤ 128; omega

/-- The scores of chunk `k`'s 16 points, then `K`. -/
def chunkProg (arg11 : Memref sig .tc .vmem S128x128x256 .f32) (arg13 : Memref sig .tc .vmem S128x128 .f32)
    (v : FVec F S1x256 .f32) (eq : FVec F S128x256 .f32) {α : Type} (k : Fin 8)
    (K : Prog (TpuEff nD τ sig (Elt F) Λ₀ .tc) α) : Prog (TpuEff nD τ sig (Elt F) Λ₀ .tc) α :=
  .op (.load arg11 (Rect.unit (s := S128x128x256) ![16 * k.val, 0, 0] S16x128x256.size (chunk3_inb k)).toLoadRect (View.loadsAt_vmem h_S16x128x256)) fun e =>
  .op (.load arg13 (Rect.unit (s := S128x128) ![16 * k.val, 0] S16x128.size (chunk2_inb k)).toLoadRect (View.loadsAt_vmem h_S16x128)) fun _ =>
  .op (.store arg13 (Rect.unit (s := S128x128) ![16 * k.val, 0] S16x128.size (chunk2_inb k)) (k0_pay5 v eq e) Finset.univ (View.stores_vmem_bits_univ h_S16x128 rfl) (.inl rfl)) fun _ => K

/-- The scores of the last `n` chunks in order, then `K`. -/
def chunksFrom (arg11 : Memref sig .tc .vmem S128x128x256 .f32) (arg13 : Memref sig .tc .vmem S128x128 .f32)
    (v : FVec F S1x256 .f32) (eq : FVec F S128x256 .f32) {α : Type} :
    (n : ℕ) → n ≤ 8 → Prog (TpuEff nD τ sig (Elt F) Λ₀ .tc) α → Prog (TpuEff nD τ sig (Elt F) Λ₀ .tc) α
  | 0, _, K => K
  | n + 1, h, K => chunkProg arg11 arg13 v eq ⟨7 - n, by omega⟩ (chunksFrom arg11 arg13 v eq n (Nat.le_of_succ_le h) K)

/-- The scores of the points of chunk `k` against the encoded queries `eq`. -/
def chunkScore (v : FVec F S1x256 .f32) (eq : FVec F S128x256 .f32) (e : FVec F S128x128x256 .f32) (k : Fin 8) : FVec F S16x128 .f32 :=
  k0_pay5 v eq (VecWindow.window e ![16 * k.val, 0, 0] S16x128x256.size (chunk3_inb k))

/-- The scores of all the points. -/
def scoresOf (v : FVec F S1x256 .f32) (eq : FVec F S128x256 .f32) (e : FVec F S128x128x256 .f32) : FVec F S128x128 .f32 := fun y =>
  chunkScore v eq e ⟨(y 0).val / 16, by have h : (y 0).val < 128 := (y 0).isLt; omega⟩ (ix2 ⟨(y 0).val % 16, Nat.mod_lt _ (by decide)⟩ (y 1))

/-- The first `16 k` rows of `new`, the others of `old`. -/
def mixChunks (k : ℕ) (new old : FVec F S128x128 .f32) : FVec F S128x128 .f32 := fun y =>
  if (y 0).val < 16 * k then new y else old y

theorem mixChunks_zero (new old : FVec F S128x128 .f32) : mixChunks 0 new old = old := by
  funext y; simp [mixChunks]

theorem mixChunks_all (new old : FVec F S128x128 .f32) : mixChunks 8 new old = new := by
  funext y; exact if_pos (y 0).isLt

/-- Putting chunk `k`'s scores extends the scores written by one chunk. -/
theorem put_chunk (v : FVec F S1x256 .f32) (eq : FVec F S128x256 .f32) (e : FVec F S128x128x256 .f32) (old : FVec F S128x128 .f32) (k : Fin 8) :
    VecWindow.put (mixChunks k.val (scoresOf v eq e) old) ![16 * k.val, 0] S16x128.size (chunkScore v eq e k)
      = mixChunks (k.val + 1) (scoresOf v eq e) old := by
  funext y
  unfold VecWindow.put
  split
  · rename_i h
    have h0 : 16 * k.val ≤ (y 0).val ∧ (y 0).val < 16 * k.val + 16 := h 0
    have e1 : mixChunks (k.val + 1) (scoresOf v eq e) old y = scoresOf v eq e y := if_pos (by omega)
    rw [e1]
    unfold scoresOf
    have hk : (⟨(y 0).val / 16, by have h : (y 0).val < 128 := (y 0).isLt; omega⟩ : Fin 8) = k := Fin.ext (by show (y 0).val / 16 = k.val; omega)
    rw [hk]
    congr 1
    funext a
    refine Fin.ext ?_
    match a with
    | ⟨0, _⟩ => show (y 0).val - 16 * k.val = (y 0).val % 16; omega
    | ⟨1, _⟩ => show (y 1).val - 0 = (y 1).val; omega
  · rename_i h
    have h0 : ¬(16 * k.val ≤ (y 0).val ∧ (y 0).val < 16 * k.val + 16) := fun h0 => h (by
      intro a
      match a with
      | ⟨0, _⟩ => exact h0
      | ⟨1, _⟩ => exact ⟨Nat.zero_le _, by show (y 1).val < 0 + 128; have h1 : (y 1).val < 128 := (y 1).isLt; omega⟩)
    unfold mixChunks
    by_cases h1 : (y 0).val < 16 * k.val
    · rw [if_pos h1, if_pos (by omega)]
    · rw [if_neg h1, if_neg (by omega)]

section
variable (𝒱 : Variants) (c : Dev nD) (bd : Option 𝒱.V) {E : Set ℕ} {α : Type} {Q : α → sProp (MT nD τ sig Unit (Elt F) ℕ (Pipeline.UD sig nD τ) ℕ)}
variable (arg11 : Memref sig .tc .vmem S128x128x256 .f32) (arg13 : Memref sig .tc .vmem S128x128 .f32)

/-- The last `n` chunks: all the scores are then the new ones. -/
theorem wp_chunksFrom (v : FVec F S1x256 .f32) (eq : FVec F S128x256 .f32) (e : FVec F S128x128x256 .f32) (old : FVec F S128x128 .f32)
    {K : Prog (TpuEff nD τ sig (Elt F) Λ₀ .tc) α} (n : ℕ) (h : n ≤ 8) :
    iprop(holds c arg11 e ∗ holds c arg13 (mixChunks (8 - n) (scoresOf v eq e) old))
      ⊢ iprop((holds c arg11 e ∗ holds c arg13 (scoresOf v eq e) -∗ WP 𝒱 c bd E K Q)
        -∗ WP 𝒱 c bd E (chunksFrom arg11 arg13 v eq n h K) Q) := by
  induction n with
  | zero =>
    unfold chunksFrom
    rw [show 8 - 0 = 8 from rfl, mixChunks_all]
    iintro H Hk
    iapply Hk
    iexact H
  | succ n ih =>
    unfold chunksFrom chunkProg
    have hb : 7 - n < 8 := by omega
    have e1 : 8 - (n + 1) = (⟨7 - n, hb⟩ : Fin 8).val := by show 8 - (n + 1) = 7 - n; omega
    have e2 : (⟨7 - n, hb⟩ : Fin 8).val + 1 = 8 - n := by show 7 - n + 1 = 8 - n; omega
    rw [e1]
    iintro ⟨H11, H13⟩ Hk
    iapply (wp_load_window 𝒱 c bd) $$ [H11]
    · iexact H11
    iintro H11
    iapply (wp_load_window 𝒱 c bd) $$ [H13]
    · iexact H13
    iintro H13
    iapply (wp_store_window 𝒱 c bd) $$ [H13]
    · iexact H13
    iintro H13
    have e3 := put_chunk v eq e old ⟨7 - n, hb⟩
    unfold chunkScore at e3
    rw [e3, e2]
    iapply (ih (Nat.le_of_succ_le h)) $$ [H11 H13]
    · isplitl [H11] <;> iassumption
    iexact Hk

/-- All the chunks: the scores are the new ones, whatever they were. -/
theorem wp_chunks (v : FVec F S1x256 .f32) (eq : FVec F S128x256 .f32) (e : FVec F S128x128x256 .f32) (old : FVec F S128x128 .f32)
    {K : Prog (TpuEff nD τ sig (Elt F) Λ₀ .tc) α} :
    iprop(holds c arg11 e ∗ holds c arg13 old)
      ⊢ iprop((holds c arg11 e ∗ holds c arg13 (scoresOf v eq e) -∗ WP 𝒱 c bd E K Q)
        -∗ WP 𝒱 c bd E (chunksFrom arg11 arg13 v eq 8 (Nat.le_refl 8) K) Q) := by
  have h := wp_chunksFrom 𝒱 c bd (E := E) (Q := Q) arg11 arg13 v eq e old (K := K) 8 (Nat.le_refl 8)
  rwa [Nat.sub_self, mixChunks_zero] at h

end

/-- What follows the copied rows: the encoded queries of the next step, by halves of the batch. -/
def tailProg (arg4 : Memref sig .tc .vmem S512x360 .f32) (arg5 : Memref sig .tc .vmem S360x256 .f32)
    (arg14 : Memref sig .tc .vmem S128x512 .f32) (arg15 : Memref sig .tc .vmem S4x128x360 .f32) (arg16 : Memref sig .tc .vmem S128x256 .f32)
    {α : Type} (t : Fin k0_t2_loop.trips) (r : α) : Prog (TpuEff nD τ sig (Elt F) Λ₀ .tc) α :=
  .op (.load arg14 (Rect.unit (s := S128x512) ![0, 0] S64x512.size inb_S128x512_S64x512_0_0).toLoadRect (View.loadsAt_vmem h_S64x512)) fun r0 =>
  .op (.load arg4 (Rect.unit (s := S512x360) ![0, 0] S512x360.size inb_S512x360_S512x360_0_0).toLoadRect (View.loadsAt_vmem h_S512x360)) fun w2 =>
  .op (.load arg15 (Rect.unit (s := S4x128x360) (k0_off135 t) S1x64x360.size (k0_off135_inb t)).toLoadRect (View.loadsAt_vmem h_S1x64x360)) fun q0 =>
  .op (.load arg5 (Rect.unit (s := S360x256) ![0, 0] S360x256.size inb_S360x256_S360x256_0_0).toLoadRect (View.loadsAt_vmem h_S360x256)) fun wp =>
  .op (.load arg16 (Rect.unit (s := S128x256) ![0, 0] S64x256.size inb_S128x256_S64x256_0_0).toLoadRect (View.loadsAt_vmem h_S64x256)) fun _ =>
  .op (.store arg16 (Rect.unit (s := S128x256) ![0, 0] S64x256.size inb_S128x256_S64x256_0_0) (k0_pay184 r0 w2 q0 wp) Finset.univ (View.stores_vmem_bits_univ h_S64x256 rfl) (.inl rfl)) fun _ =>
  .op (.load arg14 (Rect.unit (s := S128x512) ![64, 0] S64x512.size inb_S128x512_S64x512_64_0).toLoadRect (View.loadsAt_vmem h_S64x512)) fun r1 =>
  .op (.load arg4 (Rect.unit (s := S512x360) ![0, 0] S512x360.size inb_S512x360_S512x360_0_0).toLoadRect (View.loadsAt_vmem h_S512x360)) fun w2' =>
  .op (.load arg15 (Rect.unit (s := S4x128x360) (k0_off136 t) S1x64x360.size (k0_off136_inb t)).toLoadRect (View.loadsAt_vmem h_S1x64x360)) fun q1 =>
  .op (.load arg5 (Rect.unit (s := S360x256) ![0, 0] S360x256.size inb_S360x256_S360x256_0_0).toLoadRect (View.loadsAt_vmem h_S360x256)) fun wp' =>
  .op (.load arg16 (Rect.unit (s := S128x256) ![64, 0] S64x256.size inb_S128x256_S64x256_64_0).toLoadRect (View.loadsAt_vmem h_S64x256)) fun _ =>
  .op (.store arg16 (Rect.unit (s := S128x256) ![64, 0] S64x256.size inb_S128x256_S64x256_64_0) (k0_pay184 r1 w2' q1 wp') Finset.univ (View.stores_vmem_bits_univ h_S64x256 rfl) (.inl rfl)) fun _ =>
  .ret r

section
variable
  (arg0 : Memref sig .tc .vmem S128x128x512 .f32) (harg0 : arg0.IsWhole)
  (arg1 : Memref sig .tc .vmem S512x256 .f32) (harg1 : arg1.IsWhole)
  (arg2 : Memref sig .tc .vmem S512x360 .f32) (harg2 : arg2.IsWhole)
  (arg3 : Memref sig .tc .vmem S512x360 .f32) (harg3 : arg3.IsWhole)
  (arg4 : Memref sig .tc .vmem S512x360 .f32) (harg4 : arg4.IsWhole)
  (arg5 : Memref sig .tc .vmem S360x256 .f32) (harg5 : arg5.IsWhole)
  (arg6 : Memref sig .tc .vmem S1x256 .f32) (harg6 : arg6.IsWhole)
  (arg7 : Memref sig .tc .vmem S128x128x128 .f32) (harg7 : arg7.IsWhole)
  (arg8 : Memref sig .tc .vmem S128x128 .i32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S128x128x256 .f32) (harg11 : arg11.IsWhole)
  (arg12 : Memref sig .tc .vmem S128x128 .f32) (harg12 : arg12.IsWhole)
  (arg13 : Memref sig .tc .vmem S128x128 .f32) (harg13 : arg13.IsWhole)
  (arg14 : Memref sig .tc .vmem S128x512 .f32) (harg14 : arg14.IsWhole)
  (arg15 : Memref sig .tc .vmem S4x128x360 .f32) (harg15 : arg15.IsWhole)
  (arg16 : Memref sig .tc .vmem S128x256 .f32) (harg16 : arg16.IsWhole)
  (arg17 : Memref sig .tc .vmem S1x128 .i32) (harg17 : arg17.IsWhole)
  (arg18 : Memref sig .tc .smem S1x128 .i32) (harg18 : arg18.IsWhole)
  (arg19 : DmaSems sig S_)

/-- One decode step. -/
def stepProg (v17 : IVec S128x128 32) (v18 : Vec F S1x256 .f32) (t : Fin k0_t2_loop.trips) (acc : FVec F S1x128 .f32 × FVec F S1x128 .f32) :
    Prog (TpuEff nD τ sig (Elt F) Λ₀ .tc) (FVec F S1x128 .f32 × FVec F S1x128 .f32) :=
  .op (.load arg16 (Rect.unit (s := S128x256) ![0, 0] S128x256.size inb_S128x256_S128x256_0_0).toLoadRect (View.loadsAt_vmem h_S128x256)) fun (eq : Vec F S128x256 .f32) =>
  .op (.load arg14 (Rect.unit (s := S128x512) ![0, 0] S128x512.size inb_S128x512_S128x512_0_0).toLoadRect (View.loadsAt_vmem h_S128x512)) fun r =>
  .op (.load arg3 (Rect.unit (s := S512x360) ![0, 0] S512x360.size inb_S512x360_S512x360_0_0).toLoadRect (View.loadsAt_vmem h_S512x360)) fun w1 =>
  .op (.load arg15 (Rect.unit (s := S4x128x360) (k0_off3 t 1#32) S1x128x360.size (k0_off3_inb t 0)).toLoadRect (View.loadsAt_vmem h_S1x128x360)) fun q1 =>
  .op (.load arg15 (Rect.unit (s := S4x128x360) (k0_off3 t 1#32) S1x128x360.size (k0_off3_inb t 0)).toLoadRect (View.loadsAt_vmem h_S1x128x360)) fun _ =>
  .op (.store arg15 (Rect.unit (s := S4x128x360) (k0_off3 t 1#32) S1x128x360.size (k0_off3_inb t 0)) (k0_pay1 r w1 q1) Finset.univ (View.stores_vmem_bits_univ h_S1x128x360 rfl) (.inl rfl)) fun _ =>
  .op (.load arg2 (Rect.unit (s := S512x360) ![0, 0] S512x360.size inb_S512x360_S512x360_0_0).toLoadRect (View.loadsAt_vmem h_S512x360)) fun w0 =>
  .op (.load arg15 (Rect.unit (s := S4x128x360) (k0_off3 t 2#32) S1x128x360.size (k0_off3_inb t 1)).toLoadRect (View.loadsAt_vmem h_S1x128x360)) fun q2 =>
  .op (.load arg15 (Rect.unit (s := S4x128x360) (k0_off3 t 2#32) S1x128x360.size (k0_off3_inb t 1)).toLoadRect (View.loadsAt_vmem h_S1x128x360)) fun _ =>
  .op (.store arg15 (Rect.unit (s := S4x128x360) (k0_off3 t 2#32) S1x128x360.size (k0_off3_inb t 1)) (k0_pay2 r w0 q2) Finset.univ (View.stores_vmem_bits_univ h_S1x128x360 rfl) (.inl rfl)) fun _ =>
  .op (.load arg15 (Rect.unit (s := S4x128x360) (k0_off4 t) S1x128x360.size (k0_off4_inb t)).toLoadRect (View.loadsAt_vmem h_S1x128x360)) fun _ =>
  .op (.store arg15 (Rect.unit (s := S4x128x360) (k0_off4 t) S1x128x360.size (k0_off4_inb t)) (k0_pay4 (k0_pay3 (F := F))) Finset.univ (View.stores_vmem_bits_univ h_S1x128x360 rfl) (.inl rfl)) fun _ =>
  chunksFrom arg11 arg13 (k0_pay191 v18) eq 8 (Nat.le_refl 8) <|
  .op (.load arg13 (Rect.unit (s := S128x128) ![0, 0] S128x128.size inb_S128x128_S128x128_0_0).toLoadRect (View.loadsAt_vmem h_S128x128)) fun s =>
  .op (.load arg12 (Rect.unit (s := S128x128) ![0, 0] S128x128.size inb_S128x128_S128x128_0_0).toLoadRect (View.loadsAt_vmem h_S128x128)) fun mk =>
  .op (.load arg7 (Rect.unit (s := S128x128x128) (k0_off5 t) S1x128x128.size (k0_off5_inb t)).toLoadRect (View.loadsAt_vmem h_S1x128x128)) fun g =>
  .op (.load arg8 (Rect.unit (s := S128x128) (k0_off6 t) S1x128.size (k0_off6_inb t)).toLoadRect (View.loadsAt_vmem h_S1x128)) fun _ =>
  .op (.store arg8 (Rect.unit (s := S128x128) (k0_off6 t) S1x128.size (k0_off6_inb t)) (k0_pay20 v17 (k0_pay13 s mk) g) Finset.univ (View.stores_vmem_bits_univ h_S1x128 rfl) (.inl rfl)) fun _ =>
  .op (.load arg12 (Rect.unit (s := S128x128) ![0, 0] S128x128.size inb_S128x128_S128x128_0_0).toLoadRect (View.loadsAt_vmem h_S128x128)) fun mk' =>
  .op (.load arg12 (Rect.unit (s := S128x128) ![0, 0] S128x128.size inb_S128x128_S128x128_0_0).toLoadRect (View.loadsAt_vmem h_S128x128)) fun _ =>
  .op (.store arg12 (Rect.unit (s := S128x128) ![0, 0] S128x128.size inb_S128x128_S128x128_0_0) (k0_pay21 v17 (k0_pay13 s mk) g mk') Finset.univ (View.stores_vmem_bits_univ h_S128x128 rfl) (.inl rfl)) fun _ =>
  .op (.load arg17 (Rect.unit (s := S1x128) ![0, 0] S1x128.size inb_S1x128_S1x128_0_0).toLoadRect (View.loadsAt_vmem h_S1x128)) fun _ =>
  .op (.store arg17 (Rect.unit (s := S1x128) ![0, 0] S1x128.size inb_S1x128_S1x128_0_0) (k0_pay23 (k0_pay22 v17 (k0_pay13 s mk) g)) Finset.univ (View.stores_vmem_bits_univ h_S1x128 rfl) (.inl rfl)) fun _ =>
  .op (.enqueueDma arg17 (.here arg18) (.dma arg19.sem) harg17.wordExact harg18.wordExact ⟨Or.inl rfl, trivial⟩) fun _ =>
  .op (.waitDma2 arg19.sem arg17 arg18 harg17.wordExact harg18.wordExact) fun _ =>
  rowsFrom arg0 arg14 arg18 128 (Nat.le_refl 128) <|
  tailProg arg4 arg5 arg14 arg15 arg16 t (k0_pay18 v17 acc.1 (k0_pay13 s mk) g, k0_pay19 acc.2 (k0_pay13 s mk))

set_option maxRecDepth 100000 in
/-- The kernel's decode step is `stepProg`. -/
theorem step_eq (v17 : IVec S128x128 32) (v18 : Vec F S1x256 .f32) (t : Fin k0_t2_loop.trips) (acc : FVec F S1x128 .f32 × FVec F S1x128 .f32) :
    k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v17 v18 t acc
      = stepProg arg0 arg2 arg3 arg4 arg5 arg7 arg8 arg11 arg12 arg13 arg14 arg15 arg16 arg17 harg17 arg18 harg18 arg19 v17 v18 t acc := by
  chain_rfl

end

end Cert.KernelIdeal.Hand

end
-- ==== Proof.StepRun.lean ====
/- What one decode step does to the values the kernel's buffers hold: the new values as functions of the old. -/
module

public import proofs.«01_k».proof.Proof.Step

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F]

local notation "𝕄" => MT nD τ sig Unit (Elt F) ℕ (Pipeline.UD sig nD τ) ℕ

/-- The values the kernel reads and never changes during the decode loop: the inputs, the transposed query weights of
    the last three points, the projection, the attention vector, the noise of every step, the encoded points. -/
structure Consts (F : FTy → Type) where
  tin : FVec F S128x128x512 .f32
  w0 : FVec F S512x360 .f32
  w1 : FVec F S512x360 .f32
  w2 : FVec F S512x360 .f32
  wp : FVec F S360x256 .f32
  v : FVec F S1x256 .f32
  g : FVec F S128x128x128 .f32
  e : FVec F S128x128x256 .f32

/-- The values carried from step to step: the visited mask, the point chosen last, the four slots of query sums, the
    encoded queries, the tour so far, the summed log-probabilities and the summed entropies. -/
structure State (F : FTy → Type) where
  mask : FVec F S128x128 .f32
  rnew : FVec F S128x512 .f32
  q : FVec F S4x128x360 .f32
  eq : FVec F S128x256 .f32
  tour : IVec S128x128 32
  lp : FVec F S1x128 .f32
  ent : FVec F S1x128 .f32

namespace Consts
variable (K : Consts F) (t : Fin k0_t2_loop.trips) (s : State F)

/-- The row number of every entry of the scores. -/
abbrev rowNo : IVec S128x128 32 := iota .tc S128x128 32 [0] iota_S128x128_d0_w32

/-- The masked logits of the step. -/
def logits : FVec F S128x128 .f32 := k0_pay13 (scoresOf (k0_pay191 K.v) s.eq K.e) s.mask

/-- The noise of step `t`. -/
def noise : FVec F S1x128x128 .f32 := VecWindow.window K.g (k0_off5 t) S1x128x128.size (k0_off5_inb t)

/-- The chosen points. -/
def idx : IVec S1x128 32 := k0_pay23 (k0_pay22 rowNo (K.logits s) (K.noise t))

/-- The slots once the last chosen point has been added to the sums of the next two steps and this step's emptied. -/
def slots : FVec F S4x128x360 .f32 :=
  let q1 := VecWindow.put s.q (k0_off3 t 1#32) S1x128x360.size (k0_pay1 s.rnew K.w1 (VecWindow.window s.q (k0_off3 t 1#32) S1x128x360.size (k0_off3_inb t 0)))
  let q2 := VecWindow.put q1 (k0_off3 t 2#32) S1x128x360.size (k0_pay2 s.rnew K.w0 (VecWindow.window q1 (k0_off3 t 2#32) S1x128x360.size (k0_off3_inb t 1)))
  VecWindow.put q2 (k0_off4 t) S1x128x360.size (k0_pay4 (k0_pay3 (F := F)))

/-- The encoded queries of the next step, of the points just chosen `r` and the slots `q`. -/
def encode (r : FVec F S128x512 .f32) (q : FVec F S4x128x360 .f32) (old : FVec F S128x256 .f32) : FVec F S128x256 .f32 :=
  VecWindow.put (VecWindow.put old ![0, 0] S64x256.size
      (k0_pay184 (VecWindow.window r ![0, 0] S64x512.size inb_S128x512_S64x512_0_0) K.w2 (VecWindow.window q (k0_off135 t) S1x64x360.size (k0_off135_inb t)) K.wp))
    ![64, 0] S64x256.size
    (k0_pay184 (VecWindow.window r ![64, 0] S64x512.size inb_S128x512_S64x512_64_0) K.w2 (VecWindow.window q (k0_off136 t) S1x64x360.size (k0_off136_inb t)) K.wp)

/-- The values carried after step `t`. -/
def next : State F where
  mask := k0_pay21 rowNo (K.logits s) (K.noise t) s.mask
  rnew := rowsOf K.tin (K.idx t s)
  q := K.slots t s
  eq := K.encode t (rowsOf K.tin (K.idx t s)) (K.slots t s) s.eq
  tour := VecWindow.put s.tour (k0_off6 t) S1x128.size (k0_pay20 rowNo (K.logits s) (K.noise t))
  lp := k0_pay18 rowNo s.lp (K.logits s) (K.noise t)
  ent := k0_pay19 s.ent (K.logits s)

end Consts

section
variable (c : Dev nD)
variable
  (arg0 : Memref sig .tc .vmem S128x128x512 .f32) (harg0 : arg0.IsWhole)
  (arg1 : Memref sig .tc .vmem S512x256 .f32) (harg1 : arg1.IsWhole)
  (arg2 : Memref sig .tc .vmem S512x360 .f32) (harg2 : arg2.IsWhole)
  (arg3 : Memref sig .tc .vmem S512x360 .f32) (harg3 : arg3.IsWhole)
  (arg4 : Memref sig .tc .vmem S512x360 .f32) (harg4 : arg4.IsWhole)
  (arg5 : Memref sig .tc .vmem S360x256 .f32) (harg5 : arg5.IsWhole)
  (arg6 : Memref sig .tc .vmem S1x256 .f32) (harg6 : arg6.IsWhole)
  (arg7 : Memref sig .tc .vmem S128x128x128 .f32) (harg7 : arg7.IsWhole)
  (arg8 : Memref sig .tc .vmem S128x128 .i32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S128x128x256 .f32) (harg11 : arg11.IsWhole)
  (arg12 : Memref sig .tc .vmem S128x128 .f32) (harg12 : arg12.IsWhole)
  (arg13 : Memref sig .tc .vmem S128x128 .f32) (harg13 : arg13.IsWhole)
  (arg14 : Memref sig .tc .vmem S128x512 .f32) (harg14 : arg14.IsWhole)
  (arg15 : Memref sig .tc .vmem S4x128x360 .f32) (harg15 : arg15.IsWhole)
  (arg16 : Memref sig .tc .vmem S128x256 .f32) (harg16 : arg16.IsWhole)
  (arg17 : Memref sig .tc .vmem S1x128 .i32) (harg17 : arg17.IsWhole)
  (arg18 : Memref sig .tc .smem S1x128 .i32) (harg18 : arg18.IsWhole)
  (arg19 : DmaSems sig S_)

/-- What this core holds during the decode loop, the carried values `s` in their buffers. -/
def loopRes (K : Consts F) (s : State F) : sProp (MT nD τ sig Unit (Elt F) ℕ (Pipeline.UD sig nD τ) ℕ) :=
  iprop(holds c arg0 K.tin ∗ holds c arg2 K.w0 ∗ holds c arg3 K.w1 ∗ holds c arg4 K.w2 ∗ holds c arg5 K.wp ∗ holds c arg7 K.g ∗ holds c arg11 K.e
    ∗ holds (F := F) c arg8 s.tour ∗ holds c arg12 s.mask ∗ holds c arg14 s.rnew ∗ holds c arg15 s.q ∗ holds c arg16 s.eq
    ∗ (∃ x, holds (F := F) c arg13 x) ∗ (∃ x, holds (F := F) c arg17 x) ∗ (∃ x, holds (F := F) c arg18 x)
    ∗ semVal ((c : Thread nD τ), .dma arg19.sem) 0 ∗ (∃ W, owes (c : Thread nD τ) 0 W))

variable (𝒱 : Variants) (bd : Option 𝒱.V)

/-- One decode step: the carried values become the next ones. The chosen points are asked to be points. -/
theorem wp_step (K : Consts F) (t : Fin k0_t2_loop.trips) (s : State F) (hidx : ∀ y, (K.idx t s y).toNat < 128) :
    loopRes c arg0 arg2 arg3 arg4 arg5 arg7 arg8 arg11 arg12 arg13 arg14 arg15 arg16 arg17 arg18 arg19 K s
      ⊢ WP 𝒱 c bd Set.univ (stepProg arg0 arg2 arg3 arg4 arg5 arg7 arg8 arg11 arg12 arg13 arg14 arg15 arg16 arg17 harg17 arg18 harg18 arg19 Consts.rowNo K.v t (s.lp, s.ent))
        (fun r => iprop(⌜r = ((K.next t s).lp, (K.next t s).ent)⌝ ∗ loopRes c arg0 arg2 arg3 arg4 arg5 arg7 arg8 arg11 arg12 arg13 arg14 arg15 arg16 arg17 arg18 arg19 K (K.next t s))) := by
  unfold loopRes stepProg
  iintro ⟨H0, H2, H3, H4, H5, H7, H11, H8, H12, H14, H15, H16, ⟨%s13, H13⟩, ⟨%s17, H17⟩, ⟨%s18, H18⟩, Hv, ⟨%W, Ho⟩⟩
  iapply (wp_load_whole 𝒱 c bd) $$ [H16]
  · iexact H16
  iintro H16
  iapply (wp_load_whole 𝒱 c bd) $$ [H14]
  · iexact H14
  iintro H14
  iapply (wp_load_whole 𝒱 c bd) $$ [H3]
  · iexact H3
  iintro H3
  iapply (wp_load_window 𝒱 c bd) $$ [H15]
  · iexact H15
  iintro H15
  iapply (wp_load_window 𝒱 c bd) $$ [H15]
  · iexact H15
  iintro H15
  iapply (wp_store_window 𝒱 c bd) $$ [H15]
  · iexact H15
  iintro H15
  iapply (wp_load_whole 𝒱 c bd) $$ [H2]
  · iexact H2
  iintro H2
  iapply (wp_load_window 𝒱 c bd) $$ [H15]
  · iexact H15
  iintro H15
  iapply (wp_load_window 𝒱 c bd) $$ [H15]
  · iexact H15
  iintro H15
  iapply (wp_store_window 𝒱 c bd) $$ [H15]
  · iexact H15
  iintro H15
  iapply (wp_load_window 𝒱 c bd) $$ [H15]
  · iexact H15
  iintro H15
  iapply (wp_store_window 𝒱 c bd) $$ [H15]
  · iexact H15
  iintro H15
  iapply (wp_chunks 𝒱 c bd arg11 arg13 (k0_pay191 K.v) s.eq K.e s13) $$ [H11 H13]
  · isplitl [H11] <;> iassumption
  iintro ⟨H11, H13⟩
  iapply (wp_load_whole 𝒱 c bd) $$ [H13]
  · iexact H13
  iintro H13
  iapply (wp_load_whole 𝒱 c bd) $$ [H12]
  · iexact H12
  iintro H12
  iapply (wp_load_window 𝒱 c bd) $$ [H7]
  · iexact H7
  iintro H7
  iapply (wp_load_window 𝒱 c bd) $$ [H8]
  · iexact H8
  iintro H8
  iapply (wp_store_window 𝒱 c bd) $$ [H8]
  · iexact H8
  iintro H8
  iapply (wp_load_whole 𝒱 c bd) $$ [H12]
  · iexact H12
  iintro H12
  iapply (wp_load_whole 𝒱 c bd) $$ [H12]
  · iexact H12
  iintro H12
  iapply (wp_store_whole 𝒱 c bd) $$ [H12]
  · iexact H12
  iintro H12
  iapply (wp_load_whole 𝒱 c bd) $$ [H17]
  · iexact H17
  iintro H17
  iapply (wp_store_whole 𝒱 c bd) $$ [H17]
  · iexact H17
  iintro H17
  iapply (wp_copy 𝒱 c bd (by decide)) $$ [H17 H18 Hv Ho]
  · isplitl [H17]; · iexact H17
    isplitl [H18]; · iexact H18
    isplitl [Hv] <;> iassumption
  iintro ⟨H17, H18, Hv, Ho⟩
  iapply (wp_rows 𝒱 c bd arg0 arg14 arg18 K.tin (K.idx t s) hidx s.rnew) $$ [H0 H18 H14]
  · isplitl [H0]; · iexact H0
    isplitl [H18]; · iexact H18
    iexact H14
  iintro ⟨H0, H18, H14⟩
  unfold tailProg
  iapply (wp_load_window 𝒱 c bd) $$ [H14]
  · iexact H14
  iintro H14
  iapply (wp_load_whole 𝒱 c bd) $$ [H4]
  · iexact H4
  iintro H4
  iapply (wp_load_window 𝒱 c bd) $$ [H15]
  · iexact H15
  iintro H15
  iapply (wp_load_whole 𝒱 c bd) $$ [H5]
  · iexact H5
  iintro H5
  iapply (wp_load_window 𝒱 c bd) $$ [H16]
  · iexact H16
  iintro H16
  iapply (wp_store_window 𝒱 c bd) $$ [H16]
  · iexact H16
  iintro H16
  iapply (wp_load_window 𝒱 c bd) $$ [H14]
  · iexact H14
  iintro H14
  iapply (wp_load_whole 𝒱 c bd) $$ [H4]
  · iexact H4
  iintro H4
  iapply (wp_load_window 𝒱 c bd) $$ [H15]
  · iexact H15
  iintro H15
  iapply (wp_load_whole 𝒱 c bd) $$ [H5]
  · iexact H5
  iintro H5
  iapply (wp_load_window 𝒱 c bd) $$ [H16]
  · iexact H16
  iintro H16
  iapply (wp_store_window 𝒱 c bd) $$ [H16]
  · iexact H16
  iintro H16
  unfold WP
  rw [wp_ret]
  imodintro
  isplitr
  · ipureintro; rfl
  isplitl [H0]; · iexact H0
  isplitl [H2]; · iexact H2
  isplitl [H3]; · iexact H3
  isplitl [H4]; · iexact H4
  isplitl [H5]; · iexact H5
  isplitl [H7]; · iexact H7
  isplitl [H11]; · iexact H11
  isplitl [H8]; · iexact H8
  isplitl [H12]; · iexact H12
  isplitl [H14]; · iexact H14
  isplitl [H15]; · iexact H15
  isplitl [H16]; · iexact H16
  isplitl [H13]; · iexists _; iexact H13
  isplitl [H17]; · iexists _; iexact H17
  isplitl [H18]; · iexists _; iexact H18
  isplitl [Hv]; · iexact Hv
  iexists _
  iexact Ho

end

end Cert.KernelIdeal.Hand

end
-- ==== Proof.Body.lean ====
/- The whole body of the kernel: the points are encoded, the 128 decode steps run, the results are stored. -/
module

public import proofs.«01_k».proof.Proof.StepRun

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.ValueIdx

variable {F : FTy → Type} [FloatOps F]

local notation "𝕄" => MT nD τ sig Unit (Elt F) ℕ (Pipeline.UD sig nD τ) ℕ

/-! ## The encoded points -/

theorem trips1 : k0_t1_loop.trips = 8 := by decide
theorem trips2 : k0_t2_loop.trips = 128 := by decide
theorem off1_eq : ∀ k : Fin k0_t1_loop.trips, k0_off1 k = ![16 * k.val, 0, 0] := by decide +kernel
theorem off2_eq : ∀ k : Fin k0_t1_loop.trips, k0_off2 k = ![16 * k.val, 0, 0] := by decide +kernel
theorem off6_eq : ∀ t : Fin k0_t2_loop.trips, k0_off6 t = ![t.val, 0] := by decide +kernel

/-- Sixteen encoded points, chunk `k`. -/
def encChunk (tin : FVec F S128x128x512 .f32) (w : FVec F S512x256 .f32) (k : Fin k0_t1_loop.trips) : FVec F S16x128x256 .f32 :=
  k0_pay186 (VecWindow.window tin (k0_off1 k) S16x128x512.size (k0_off1_inb k)) w

/-- All the encoded points. -/
def encOf (tin : FVec F S128x128x512 .f32) (w : FVec F S512x256 .f32) : FVec F S128x128x256 .f32 := fun y =>
  encChunk tin w ⟨(y 0).val / 16, by have h : (y 0).val < 128 := (y 0).isLt; rw [trips1]; omega⟩ (ix3 ⟨(y 0).val % 16, Nat.mod_lt _ (by decide)⟩ (y 1) (y 2))

/-- The first `16 k` points of `new`, the others of `old`. -/
def mixEnc (k : ℕ) (new old : FVec F S128x128x256 .f32) : FVec F S128x128x256 .f32 := fun y =>
  if (y 0).val < 16 * k then new y else old y

theorem mixEnc_zero (new old : FVec F S128x128x256 .f32) : mixEnc 0 new old = old := by
  funext y; simp [mixEnc]

theorem mixEnc_all (new old : FVec F S128x128x256 .f32) : mixEnc 8 new old = new := by
  funext y; exact if_pos (y 0).isLt

/-- Putting chunk `k` extends the points written by one chunk. -/
theorem put_enc (tin : FVec F S128x128x512 .f32) (w : FVec F S512x256 .f32) (old : FVec F S128x128x256 .f32) (k : Fin k0_t1_loop.trips) :
    VecWindow.put (mixEnc k.val (encOf tin w) old) (k0_off2 k) S16x128x256.size (encChunk tin w k)
      = mixEnc (k.val + 1) (encOf tin w) old := by
  rw [off2_eq]
  funext y
  unfold VecWindow.put
  split
  · rename_i h
    have h0 : 16 * k.val ≤ (y 0).val ∧ (y 0).val < 16 * k.val + 16 := h 0
    have e1 : mixEnc (k.val + 1) (encOf tin w) old y = encOf tin w y := if_pos (by omega)
    rw [e1]
    unfold encOf
    have hk : (⟨(y 0).val / 16, by have h : (y 0).val < 128 := (y 0).isLt; rw [trips1]; omega⟩ : Fin k0_t1_loop.trips) = k := Fin.ext (by show (y 0).val / 16 = k.val; omega)
    rw [hk]
    congr 1
    funext a
    refine Fin.ext ?_
    match a with
    | ⟨0, _⟩ => show (y 0).val - 16 * k.val = (y 0).val % 16; omega
    | ⟨1, _⟩ => show (y 1).val - 0 = (y 1).val; omega
    | ⟨2, _⟩ => show (y 2).val - 0 = (y 2).val; omega
  · rename_i h
    have h0 : ¬(16 * k.val ≤ (y 0).val ∧ (y 0).val < 16 * k.val + 16) := fun h0 => h (by
      intro a
      match a with
      | ⟨0, _⟩ => exact h0
      | ⟨1, _⟩ => exact ⟨Nat.zero_le _, by show (y 1).val < 0 + 128; have h1 : (y 1).val < 128 := (y 1).isLt; omega⟩
      | ⟨2, _⟩ => exact ⟨Nat.zero_le _, by show (y 2).val < 0 + 256; have h1 : (y 2).val < 256 := (y 2).isLt; omega⟩)
    unfold mixEnc
    by_cases h1 : (y 0).val < 16 * k.val
    · rw [if_pos h1, if_pos (by omega)]
    · rw [if_neg h1, if_neg (by omega)]

/-! ## The states -/

namespace Consts
variable (K : Consts F)

/-- The values the decode loop starts from: everything zero. -/
def start : State F where
  mask := k0_pay187
  rnew := k0_pay188
  q := k0_pay189
  eq := k0_pay190
  tour := fun _ => 0#32
  lp := k0_pay192
  ent := k0_pay193

/-- The values carried before step `n`. -/
def states : ℕ → State F
  | 0 => start
  | n + 1 => if h : n < k0_t2_loop.trips then K.next ⟨n, h⟩ (states n) else states n

theorem states_succ (t : Fin k0_t2_loop.trips) : K.states (t.val + 1) = K.next t (K.states t.val) := by
  show (if h : t.val < k0_t2_loop.trips then K.next ⟨t.val, h⟩ (K.states t.val) else K.states t.val) = _
  rw [dif_pos t.isLt]

/-- The points chosen at step `t`. -/
def chosen (t : Fin k0_t2_loop.trips) : IVec S1x128 32 := k0_pay20 rowNo (K.logits (K.states t.val)) (K.noise t)

/-- The tour: row `t` holds the points chosen at step `t`. -/
def tourOf : IVec S128x128 32 := fun y => K.chosen ⟨(y 0).val, by rw [trips2]; exact (y 0).isLt⟩ (ix2 0 (y 1))

/-- The first `n` rows of the tour over `old`. -/
def tourTo (n : ℕ) (old : IVec S128x128 32) : IVec S128x128 32 := fun y => if (y 0).val < n then K.tourOf y else old y

theorem tourTo_zero (old : IVec S128x128 32) : K.tourTo 0 old = old := by funext y; simp [tourTo]
theorem tourTo_all (old : IVec S128x128 32) : K.tourTo 128 old = K.tourOf := by funext y; exact if_pos (y 0).isLt

theorem put_tour (old : IVec S128x128 32) (t : Fin k0_t2_loop.trips) :
    VecWindow.put (K.tourTo t.val old) (k0_off6 t) S1x128.size (K.chosen t) = K.tourTo (t.val + 1) old := by
  rw [off6_eq]
  funext y
  unfold VecWindow.put
  split
  · rename_i h
    have h0 : t.val ≤ (y 0).val ∧ (y 0).val < t.val + 1 := h 0
    have e1 : K.tourTo (t.val + 1) old y = K.tourOf y := if_pos (by omega)
    rw [e1]
    unfold tourOf
    have hk : (⟨(y 0).val, by rw [trips2]; exact (y 0).isLt⟩ : Fin k0_t2_loop.trips) = t := Fin.ext (by show (y 0).val = t.val; omega)
    rw [hk]
    congr 1
    funext a
    refine Fin.ext ?_
    match a with
    | ⟨0, _⟩ => show (y 0).val - t.val = 0; omega
    | ⟨1, _⟩ => show (y 1).val - 0 = (y 1).val; omega
  · rename_i h
    have h0 : ¬(t.val ≤ (y 0).val ∧ (y 0).val < t.val + 1) := fun h0 => h (by
      intro a
      match a with
      | ⟨0, _⟩ => exact h0
      | ⟨1, _⟩ => exact ⟨Nat.zero_le _, by show (y 1).val < 0 + 128; have h1 : (y 1).val < 128 := (y 1).isLt; omega⟩)
    unfold tourTo
    by_cases h1 : (y 0).val < t.val
    · rw [if_pos h1, if_pos (by omega)]
    · rw [if_neg h1, if_neg (by omega)]

/-- The values carried before step `n` when the tour's buffer held `old` at first. -/
def statesOver (old : IVec S128x128 32) (n : ℕ) : State F := { K.states n with tour := K.tourTo n old }

theorem statesOver_succ (old : IVec S128x128 32) (t : Fin k0_t2_loop.trips) :
    K.next t (K.statesOver old t.val) = K.statesOver old (t.val + 1) := by
  unfold statesOver
  rw [states_succ, ← put_tour]
  rfl

end Consts

/-! ## The body -/

section
variable (c : Dev nD)
variable
  (arg0 : Memref sig .tc .vmem S128x128x512 .f32) (harg0 : arg0.IsWhole)
  (arg1 : Memref sig .tc .vmem S512x256 .f32) (harg1 : arg1.IsWhole)
  (arg2 : Memref sig .tc .vmem S512x360 .f32) (harg2 : arg2.IsWhole)
  (arg3 : Memref sig .tc .vmem S512x360 .f32) (harg3 : arg3.IsWhole)
  (arg4 : Memref sig .tc .vmem S512x360 .f32) (harg4 : arg4.IsWhole)
  (arg5 : Memref sig .tc .vmem S360x256 .f32) (harg5 : arg5.IsWhole)
  (arg6 : Memref sig .tc .vmem S1x256 .f32) (harg6 : arg6.IsWhole)
  (arg7 : Memref sig .tc .vmem S128x128x128 .f32) (harg7 : arg7.IsWhole)
  (arg8 : Memref sig .tc .vmem S128x128 .i32) (harg8 : arg8.IsWhole)
  (arg9 : Memref sig .tc .vmem S1x128 .f32) (harg9 : arg9.IsWhole)
  (arg10 : Memref sig .tc .vmem S1x128 .f32) (harg10 : arg10.IsWhole)
  (arg11 : Memref sig .tc .vmem S128x128x256 .f32) (harg11 : arg11.IsWhole)
  (arg12 : Memref sig .tc .vmem S128x128 .f32) (harg12 : arg12.IsWhole)
  (arg13 : Memref sig .tc .vmem S128x128 .f32) (harg13 : arg13.IsWhole)
  (arg14 : Memref sig .tc .vmem S128x512 .f32) (harg14 : arg14.IsWhole)
  (arg15 : Memref sig .tc .vmem S4x128x360 .f32) (harg15 : arg15.IsWhole)
  (arg16 : Memref sig .tc .vmem S128x256 .f32) (harg16 : arg16.IsWhole)
  (arg17 : Memref sig .tc .vmem S1x128 .i32) (harg17 : arg17.IsWhole)
  (arg18 : Memref sig .tc .smem S1x128 .i32) (harg18 : arg18.IsWhole)
  (arg19 : DmaSems sig S_)
variable (𝒱 : Variants) (bd : Option 𝒱.V)

/-- The first loop: the encoded points are written. -/
theorem wp_encode (tin : FVec F S128x128x512 .f32) (w : FVec F S512x256 .f32) (old : FVec F S128x128x256 .f32)
    {α : Type} {Q : α → sProp (MT nD τ sig Unit (Elt F) ℕ (Pipeline.UD sig nD τ) ℕ)} {kk : Unit → Prog (TpuEff nD τ sig (Elt F) Λ₀ .tc) α} :
    iprop(holds c arg0 tin ∗ holds c arg1 w ∗ holds c arg11 old)
      ⊢ iprop((holds c arg0 tin ∗ holds c arg1 w ∗ holds c arg11 (encOf tin w) -∗ WP 𝒱 c bd Set.univ (kk ()) Q)
        -∗ WP 𝒱 c bd Set.univ (Scf.Loop.for k0_t1_loop k0_t1_ok ⟨⟩ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19) >>= kk) Q) := by
  have h := Scf.wp_for_bind Idealize.ShloMosaic.frame (wpE (defs₀ (F := F)) 𝒱 (c : Thread nD τ) bd) Set.univ
    k0_t1_loop.lb k0_t1_loop.ub k0_t1_loop.st k0_t1_ok () (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19)
    (fun k _ => iprop(holds c arg0 tin ∗ holds c arg1 w ∗ holds c arg11 (mixEnc k (encOf tin w) old))) (by
      intro k _
      unfold k0_t1_body
      iintro ⟨H0, H1, H11⟩
      iapply (wp_load_window 𝒱 c bd) $$ [H0]
      · iexact H0
      iintro H0
      iapply (wp_load_whole 𝒱 c bd) $$ [H1]
      · iexact H1
      iintro H1
      iapply (wp_load_window 𝒱 c bd) $$ [H11]
      · iexact H11
      iintro H11
      iapply (wp_store_window 𝒱 c bd) $$ [H11]
      · iexact H11
      iintro H11
      unfold WP
      have e := put_enc tin w old k
      unfold encChunk at e
      rw [e]
      rw [show ((Prog.ret PUnit.unit).bind fun _ => Pure.pure PUnit.unit : Prog (TpuEff nD τ sig (Elt F) Λ₀ .tc) Unit) = Prog.ret () from rfl, wp_ret]
      imodintro
      isplitl [H0]; · iexact H0
      isplitl [H1]; · iexact H1
      iexact H11) (kk := kk) (Q := Q)
  iintro ⟨H0, H1, H11⟩ Hk
  iapply h $$ [H0 H1 H11]
  · rw [mixEnc_zero]
    isplitl [H0]; · iexact H0
    isplitl [H1]; · iexact H1
    iexact H11
  iintro %a ⟨H0, H1, H11⟩
  iapply Hk
  isplitl [H0]; · iexact H0
  isplitl [H1]; · iexact H1
  have e : mixEnc (Scf.trips k0_t1_loop.lb k0_t1_loop.ub k0_t1_loop.st) (encOf tin w) old = encOf tin w := mixEnc_all _ _
  rw [e]
  iexact H11

/-- One decode step, from the values before step `t` to those before the next. -/
theorem wp_step_over (K : Consts F) (T : IVec S128x128 32) (t : Fin k0_t2_loop.trips) (hidx : ∀ y, (K.idx t (K.statesOver T t.val) y).toNat < 128) :
    loopRes c arg0 arg2 arg3 arg4 arg5 arg7 arg8 arg11 arg12 arg13 arg14 arg15 arg16 arg17 arg18 arg19 K (K.statesOver T t.val)
      ⊢ WP 𝒱 c bd Set.univ (stepProg arg0 arg2 arg3 arg4 arg5 arg7 arg8 arg11 arg12 arg13 arg14 arg15 arg16 arg17 harg17 arg18 harg18 arg19 Consts.rowNo K.v t ((K.states t.val).lp, (K.states t.val).ent))
        (fun r => iprop(⌜r = ((K.states (t.val + 1)).lp, (K.states (t.val + 1)).ent)⌝ ∗ loopRes c arg0 arg2 arg3 arg4 arg5 arg7 arg8 arg11 arg12 arg13 arg14 arg15 arg16 arg17 arg18 arg19 K (K.statesOver T (t.val + 1)))) := by
  have h := K.statesOver_succ T t
  have h1 : (K.states (t.val + 1)).lp = (K.next t (K.statesOver T t.val)).lp := by rw [h]; rfl
  have h2 : (K.states (t.val + 1)).ent = (K.next t (K.statesOver T t.val)).ent := by rw [h]; rfl
  rw [h1, h2, ← h, show (K.states t.val).lp = (K.statesOver T t.val).lp from rfl, show (K.states t.val).ent = (K.statesOver T t.val).ent from rfl]
  exact wp_step c arg0 arg2 arg3 arg4 arg5 arg7 arg8 arg11 arg12 arg13 arg14 arg15 arg16 arg17 harg17 arg18 harg18 arg19 𝒱 bd K t (K.statesOver T t.val) hidx

/-- The decode loop: the carried values become those after all the steps. The chosen points are asked to be points. -/
theorem wp_decode (K : Consts F) (T : IVec S128x128 32) (hidx : ∀ t s y, (K.idx t s y).toNat < 128)
    {α : Type} {Q : α → sProp (MT nD τ sig Unit (Elt F) ℕ (Pipeline.UD sig nD τ) ℕ)} {kk : FVec F S1x128 .f32 × FVec F S1x128 .f32 → Prog (TpuEff nD τ sig (Elt F) Λ₀ .tc) α} :
    loopRes c arg0 arg2 arg3 arg4 arg5 arg7 arg8 arg11 arg12 arg13 arg14 arg15 arg16 arg17 arg18 arg19 K (K.statesOver T 0)
      ⊢ iprop((loopRes c arg0 arg2 arg3 arg4 arg5 arg7 arg8 arg11 arg12 arg13 arg14 arg15 arg16 arg17 arg18 arg19 K (K.statesOver T 128)
          -∗ WP 𝒱 c bd Set.univ (kk ((K.states 128).lp, (K.states 128).ent)) Q)
        -∗ WP 𝒱 c bd Set.univ (Scf.Loop.for k0_t2_loop k0_t2_ok (k0_pay192 (F := F), k0_pay193 (F := F)) (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 Consts.rowNo K.v) >>= kk) Q) := by
  have h := Scf.wp_for_bind Idealize.ShloMosaic.frame (wpE (defs₀ (F := F)) 𝒱 (c : Thread nD τ) bd) Set.univ
    k0_t2_loop.lb k0_t2_loop.ub k0_t2_loop.st k0_t2_ok (k0_pay192 (F := F), k0_pay193 (F := F)) (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 Consts.rowNo K.v)
    (fun k acc => iprop(⌜acc = ((K.states k).lp, (K.states k).ent)⌝
      ∗ loopRes c arg0 arg2 arg3 arg4 arg5 arg7 arg8 arg11 arg12 arg13 arg14 arg15 arg16 arg17 arg18 arg19 K (K.statesOver T k))) (by
      intro t acc
      iintro ⟨%ha, H⟩
      subst ha
      rw [step_eq]
      iapply (wp_step_over c arg0 arg2 arg3 arg4 arg5 arg7 arg8 arg11 arg12 arg13 arg14 arg15 arg16 arg17 harg17 arg18 harg18 arg19 𝒱 bd K T t (hidx t _))
      iexact H) (kk := kk) (Q := Q)
  iintro H Hk
  iapply h $$ [H]
  · isplitr
    · ipureintro; rfl
    iexact H
  iintro %a ⟨%ha, H⟩
  subst ha
  iapply Hk
  iexact H

/-- The whole body: the encoded points, the zeros the carried buffers start from, the decode loop, the two sums. -/
def bodyProg : Prog (TpuEff nD τ sig (Elt F) Λ₀ .tc) PUnit :=
  Scf.Loop.for k0_t1_loop k0_t1_ok ⟨⟩ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19) >>= fun (_ : Unit) =>
  .op (.load arg12 (Rect.unit (s := S128x128) ![0, 0] S128x128.size inb_S128x128_S128x128_0_0).toLoadRect (View.loadsAt_vmem h_S128x128)) fun _ =>
  .op (.store arg12 (Rect.unit (s := S128x128) ![0, 0] S128x128.size inb_S128x128_S128x128_0_0) (k0_pay187 (F := F)) Finset.univ (View.stores_vmem_bits_univ h_S128x128 rfl) (.inl rfl)) fun _ =>
  .op (.load arg14 (Rect.unit (s := S128x512) ![0, 0] S128x512.size inb_S128x512_S128x512_0_0).toLoadRect (View.loadsAt_vmem h_S128x512)) fun _ =>
  .op (.store arg14 (Rect.unit (s := S128x512) ![0, 0] S128x512.size inb_S128x512_S128x512_0_0) (k0_pay188 (F := F)) Finset.univ (View.stores_vmem_bits_univ h_S128x512 rfl) (.inl rfl)) fun _ =>
  .op (.load arg15 (Rect.unit (s := S4x128x360) ![0, 0, 0] S4x128x360.size inb_S4x128x360_S4x128x360_0_0_0).toLoadRect (View.loadsAt_vmem h_S4x128x360)) fun _ =>
  .op (.store arg15 (Rect.unit (s := S4x128x360) ![0, 0, 0] S4x128x360.size inb_S4x128x360_S4x128x360_0_0_0) (k0_pay189 (F := F)) Finset.univ (View.stores_vmem_bits_univ h_S4x128x360 rfl) (.inl rfl)) fun _ =>
  .op (.load arg16 (Rect.unit (s := S128x256) ![0, 0] S128x256.size inb_S128x256_S128x256_0_0).toLoadRect (View.loadsAt_vmem h_S128x256)) fun _ =>
  .op (.store arg16 (Rect.unit (s := S128x256) ![0, 0] S128x256.size inb_S128x256_S128x256_0_0) (k0_pay190 (F := F)) Finset.univ (View.stores_vmem_bits_univ h_S128x256 rfl) (.inl rfl)) fun _ =>
  .op (.load arg6 (Rect.unit (s := S1x256) ![0, 0] S1x256.size inb_S1x256_S1x256_0_0).toLoadRect (View.loadsAt_vmem h_S1x256)) fun (v : Vec F S1x256 .f32) =>
  Scf.Loop.for k0_t2_loop k0_t2_ok (k0_pay192 (F := F), k0_pay193 (F := F)) (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 Consts.rowNo v) >>= fun (r : FVec F S1x128 .f32 × FVec F S1x128 .f32) =>
  .op (.load arg9 (Rect.unit (s := S1x128) ![0, 0] S1x128.size inb_S1x128_S1x128_0_0).toLoadRect (View.loadsAt_vmem h_S1x128)) fun _ =>
  .op (.store arg9 (Rect.unit (s := S1x128) ![0, 0] S1x128.size inb_S1x128_S1x128_0_0) r.1 Finset.univ (View.stores_vmem_bits_univ h_S1x128 rfl) (.inl rfl)) fun _ =>
  .op (.load arg10 (Rect.unit (s := S1x128) ![0, 0] S1x128.size inb_S1x128_S1x128_0_0).toLoadRect (View.loadsAt_vmem h_S1x128)) fun _ =>
  .op (.store arg10 (Rect.unit (s := S1x128) ![0, 0] S1x128.size inb_S1x128_S1x128_0_0) r.2 Finset.univ (View.stores_vmem_bits_univ h_S1x128 rfl) (.inl rfl)) fun _ =>
  .ret ⟨⟩

set_option maxRecDepth 100000 in
/-- The kernel's body is `bodyProg`. -/
theorem body_eq : cc0__decoder_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 = bodyProg (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 := by
  rw [cc0__decoder_body_eq_skeleton]
  unfold cc0__decoder_body_skel
  rw [k0_part39_eq_skeleton]
  unfold k0_part39_skel bodyProg
  simp only [bind_assoc]
  rfl

/-- What the kernel's results are computed from: the inputs it is given and the points it encodes. -/
def constsOf (tin : FVec F S128x128x512 .f32) (wd : FVec F S512x256 .f32) (w0 w1 w2 : FVec F S512x360 .f32) (wp : FVec F S360x256 .f32)
    (v : FVec F S1x256 .f32) (g : FVec F S128x128x128 .f32) : Consts F :=
  { tin := tin, w0 := w0, w1 := w1, w2 := w2, wp := wp, v := v, g := g, e := encOf tin wd }

/-- The whole body: from the inputs in their buffers and anything in the others, to the tour and the two sums in
    theirs. The chosen points are asked to be points. -/
theorem wp_body (tin : FVec F S128x128x512 .f32) (wd : FVec F S512x256 .f32) (w0 w1 w2 : FVec F S512x360 .f32) (wp : FVec F S360x256 .f32)
    (v : FVec F S1x256 .f32) (g : FVec F S128x128x128 .f32) (hidx : ∀ t s y, ((constsOf tin wd w0 w1 w2 wp v g).idx t s y).toNat < 128)
    {Q : PUnit → sProp (MT nD τ sig Unit (Elt F) ℕ (Pipeline.UD sig nD τ) ℕ)} :
    iprop((holds c arg0 tin ∗ holds c arg1 wd ∗ holds c arg2 w0 ∗ holds c arg3 w1 ∗ holds c arg4 w2 ∗ holds c arg5 wp ∗ holds c arg6 v ∗ holds c arg7 g)
        ∗ (∃ x, holds (F := F) c arg8 x) ∗ (∃ x, holds (F := F) c arg9 x) ∗ (∃ x, holds (F := F) c arg10 x)
        ∗ ((∃ x, holds (F := F) c arg11 x) ∗ (∃ x, holds (F := F) c arg12 x) ∗ (∃ x, holds (F := F) c arg13 x) ∗ (∃ x, holds (F := F) c arg14 x)
          ∗ (∃ x, holds (F := F) c arg15 x) ∗ (∃ x, holds (F := F) c arg16 x) ∗ (∃ x, holds (F := F) c arg17 x) ∗ (∃ x, holds (F := F) c arg18 x))
        ∗ semVal ((c : Thread nD τ), .dma arg19.sem) 0 ∗ (∃ W, owes (c : Thread nD τ) 0 W))
      ⊢ iprop(((holds c arg0 tin ∗ holds c arg1 wd ∗ holds c arg2 w0 ∗ holds c arg3 w1 ∗ holds c arg4 w2 ∗ holds c arg5 wp ∗ holds c arg6 v ∗ holds c arg7 g)
        ∗ holds (F := F) c arg8 (constsOf tin wd w0 w1 w2 wp v g).tourOf ∗ holds c arg9 ((constsOf tin wd w0 w1 w2 wp v g).states 128).lp ∗ holds c arg10 ((constsOf tin wd w0 w1 w2 wp v g).states 128).ent
        ∗ ((∃ x, holds (F := F) c arg11 x) ∗ (∃ x, holds (F := F) c arg12 x) ∗ (∃ x, holds (F := F) c arg13 x) ∗ (∃ x, holds (F := F) c arg14 x)
          ∗ (∃ x, holds (F := F) c arg15 x) ∗ (∃ x, holds (F := F) c arg16 x) ∗ (∃ x, holds (F := F) c arg17 x) ∗ (∃ x, holds (F := F) c arg18 x))
        ∗ semVal ((c : Thread nD τ), .dma arg19.sem) 0 ∗ (∃ W, owes (c : Thread nD τ) 0 W) -∗ Q ⟨⟩)
      -∗ WP 𝒱 c bd Set.univ (cc0__decoder_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19) Q) := by
  rw [body_eq]
  unfold bodyProg
  iintro ⟨⟨H0, H1, H2, H3, H4, H5, H6, H7⟩, ⟨%x8, H8⟩, ⟨%x9, H9⟩, ⟨%x10, H10⟩,
    ⟨⟨%x11, H11⟩, ⟨%x12, H12⟩, ⟨%x13, H13⟩, ⟨%x14, H14⟩, ⟨%x15, H15⟩, ⟨%x16, H16⟩, ⟨%x17, H17⟩, ⟨%x18, H18⟩⟩, Hv, Ho⟩ Hk
  iapply (wp_encode c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 𝒱 bd tin wd x11) $$ [H0 H1 H11]
  · isplitl [H0]; · iexact H0
    isplitl [H1]; · iexact H1
    iexact H11
  iintro ⟨H0, H1, H11⟩
  iapply (wp_load_whole 𝒱 c bd) $$ [H12]
  · iexact H12
  iintro H12
  iapply (wp_store_whole 𝒱 c bd) $$ [H12]
  · iexact H12
  iintro H12
  iapply (wp_load_whole 𝒱 c bd) $$ [H14]
  · iexact H14
  iintro H14
  iapply (wp_store_whole 𝒱 c bd) $$ [H14]
  · iexact H14
  iintro H14
  iapply (wp_load_whole 𝒱 c bd) $$ [H15]
  · iexact H15
  iintro H15
  iapply (wp_store_whole 𝒱 c bd) $$ [H15]
  · iexact H15
  iintro H15
  iapply (wp_load_whole 𝒱 c bd) $$ [H16]
  · iexact H16
  iintro H16
  iapply (wp_store_whole 𝒱 c bd) $$ [H16]
  · iexact H16
  iintro H16
  iapply (wp_load_whole 𝒱 c bd) $$ [H6]
  · iexact H6
  iintro H6
  iapply (wp_decode c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 𝒱 bd (constsOf tin wd w0 w1 w2 wp v g) x8 hidx) $$ [H0 H2 H3 H4 H5 H7 H11 H8 H12 H14 H15 H16 H13 H17 H18 Hv Ho]
  · unfold loopRes
    isplitl [H0]; · iexact H0
    isplitl [H2]; · iexact H2
    isplitl [H3]; · iexact H3
    isplitl [H4]; · iexact H4
    isplitl [H5]; · iexact H5
    isplitl [H7]; · iexact H7
    isplitl [H11]; · iexact H11
    isplitl [H8]
    · rw [show ((constsOf tin wd w0 w1 w2 wp v g).statesOver x8 0).tour = x8 from (constsOf tin wd w0 w1 w2 wp v g).tourTo_zero x8]
      iexact H8
    isplitl [H12]; · iexact H12
    isplitl [H14]; · iexact H14
    isplitl [H15]; · iexact H15
    isplitl [H16]; · iexact H16
    isplitl [H13]; · iexists _; iexact H13
    isplitl [H17]; · iexists _; iexact H17
    isplitl [H18]; · iexists _; iexact H18
    isplitl [Hv]; · iexact Hv
    iexact Ho
  unfold loopRes
  rw [show ((constsOf tin wd w0 w1 w2 wp v g).statesOver x8 128).tour = (constsOf tin wd w0 w1 w2 wp v g).tourOf from (constsOf tin wd w0 w1 w2 wp v g).tourTo_all x8]
  iintro ⟨H0, H2, H3, H4, H5, H7, H11, H8, H12, H14, H15, H16, H13, H17, H18, Hv, Ho⟩
  iapply (wp_load_whole 𝒱 c bd) $$ [H9]
  · iexact H9
  iintro H9
  iapply (wp_store_whole 𝒱 c bd) $$ [H9]
  · iexact H9
  iintro H9
  iapply (wp_load_whole 𝒱 c bd) $$ [H10]
  · iexact H10
  iintro H10
  iapply (wp_store_whole 𝒱 c bd) $$ [H10]
  · iexact H10
  iintro H10
  unfold WP
  rw [wp_ret]
  imodintro
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [H9]; · iexact H9
  isplitl [H10]; · iexact H10
  isplitl [H11 H12 H13 H14 H15 H16 H17 H18]
  · isplitl [H11]; · iexists _; iexact H11
    isplitl [H12]; · iexists _; iexact H12
    isplitl [H13]; · iexact H13
    isplitl [H14]; · iexists _; iexact H14
    isplitl [H15]; · iexists _; iexact H15
    isplitl [H16]; · iexists _; iexact H16
    isplitl [H17]; · iexact H17
    iexact H18
  isplitl [Hv]; · iexact Hv
  iexact Ho

end

end Cert.KernelIdeal.Hand

end
-- ==== Proof.Choice.lean ====
/- The greatest of 128 extended reals and the first position that attains it: what a fold by maximum finds, what a
   minimum over the positions that attain it finds, and what an arg-max over (value, position) pairs finds. -/
module

public import Idealize.ShloMosaic.Lib.Pointwise

@[expose] public section

noncomputable section

namespace Cert.Choice

open Idealize.ShloMosaic

/-- The greatest value. -/
def top (z : Fin 128 → EReal) : EReal := Finset.univ.fold max ⊥ z

theorem le_top (z : Fin 128 → EReal) (p : Fin 128) : z p ≤ top z := by
  unfold top
  exact (Finset.le_fold_max _).mpr (Or.inr ⟨p, Finset.mem_univ _, le_refl _⟩)

theorem top_le (z : Fin 128 → EReal) (c : EReal) (h : ∀ p, z p ≤ c) : top z ≤ c := by
  unfold top
  exact (Finset.fold_max_le _).mpr ⟨bot_le, fun p _ => h p⟩

/-- Some position attains the greatest value. -/
theorem exists_top (z : Fin 128 → EReal) : ∃ p, z p = top z := by
  obtain ⟨p, -, hp⟩ := Finset.exists_max_image (Finset.univ : Finset (Fin 128)) z ⟨0, Finset.mem_univ _⟩
  exact ⟨p, le_antisymm (le_top z p) (top_le z _ fun q => hp q (Finset.mem_univ _))⟩

/-- The first position that attains the greatest value. -/
def first (z : Fin 128 → EReal) : Fin 128 :=
  (Finset.univ.filter fun p => z p = top z).min' (by
    obtain ⟨p, hp⟩ := exists_top z
    exact ⟨p, Finset.mem_filter.mpr ⟨Finset.mem_univ _, hp⟩⟩)

theorem first_top (z : Fin 128 → EReal) : z (first z) = top z :=
  (Finset.mem_filter.mp (Finset.min'_mem (Finset.univ.filter fun p => z p = top z) _)).2

theorem first_le (z : Fin 128 → EReal) (p : Fin 128) (h : z p = top z) : first z ≤ p := by
  unfold first
  exact Finset.min'_le _ p (Finset.mem_filter.mpr ⟨Finset.mem_univ _, h⟩)

/-- What is attained no later than the first position is attained at it. -/
theorem eq_first (z : Fin 128 → EReal) (p : Fin 128) (h : z p = top z) (hle : p ≤ first z) : p = first z :=
  le_antisymm hle (first_le z p h)

/-! ## The least of the positions that attain it -/

theorem minsi_cases (a b : BitVec 32) : (IntOp.minsi a b = a ∨ IntOp.minsi a b = b)
    ∧ (IntOp.minsi a b).toInt ≤ a.toInt ∧ (IntOp.minsi a b).toInt ≤ b.toInt := by
  unfold IntOp.minsi
  split
  · rename_i h
    simp only [BitVec.sle, BitVec.slt, decide_eq_true_eq] at h
    exact ⟨.inl rfl, le_refl _, by omega⟩
  · rename_i h
    simp only [BitVec.sle, BitVec.slt, decide_eq_true_eq] at h
    exact ⟨.inr rfl, by omega, le_refl _⟩

theorem fold_minsi (init : BitVec 32) (f : Fin 128 → BitVec 32) (s : Finset (Fin 128)) :
    (s.fold IntOp.minsi init f = init ∨ ∃ p ∈ s, s.fold IntOp.minsi init f = f p)
      ∧ ∀ p ∈ s, (s.fold IntOp.minsi init f).toInt ≤ (f p).toInt := by
  induction s using Finset.induction_on with
  | empty => exact ⟨.inl rfl, fun p hp => absurd hp (Finset.notMem_empty _)⟩
  | insert a s ha ih =>
    rw [Finset.fold_insert ha]
    obtain ⟨hm, h1, h2⟩ := minsi_cases (f a) (s.fold IntOp.minsi init f)
    refine ⟨?_, fun p hp => ?_⟩
    · rcases hm with hm | hm
      · exact .inr ⟨a, Finset.mem_insert_self _ _, hm⟩
      · rcases ih.1 with h | ⟨p, hp, h⟩
        · exact .inl (hm.trans h)
        · exact .inr ⟨p, Finset.mem_insert_of_mem hp, hm.trans h⟩
    · rcases Finset.mem_insert.mp hp with rfl | hp
      · exact h1
      · exact le_trans h2 (ih.2 p hp)

theorem toInt_pos (p : Fin 128) : (BitVec.ofNat 32 p.val).toInt = p.val := by
  have h := p.isLt
  rw [BitVec.toInt_eq_toNat_cond, BitVec.toNat_ofNat]
  omega

/-- The least position that attains the greatest value, every other position read as 128. -/
theorem fold_minsi_first (z : Fin 128 → EReal) :
    Finset.univ.fold IntOp.minsi 2147483647#32 (fun p : Fin 128 => if z p = top z then BitVec.ofNat 32 p.val else 128#32)
      = BitVec.ofNat 32 (first z).val := by
  obtain ⟨hc, hle⟩ := fold_minsi 2147483647#32 (fun p : Fin 128 => if z p = top z then BitVec.ofNat 32 p.val else 128#32) Finset.univ
  have hf := hle (first z) (Finset.mem_univ _)
  simp only [first_top, if_true, toInt_pos] at hf
  have hlt := (first z).isLt
  rcases hc with h | ⟨p, -, h⟩
  · rw [h] at hf
    have : (2147483647#32).toInt = 2147483647 := by decide
    omega
  · rw [h] at hf ⊢
    by_cases hp : z p = top z
    · rw [if_pos hp] at hf ⊢
      rw [toInt_pos] at hf
      rw [eq_first z p hp (by rw [Fin.le_def]; omega)]
    · rw [if_neg hp] at hf
      have : (128#32).toInt = 128 := by decide
      omega

/-! ## The arg-max over pairs -/

/-- A pair is no better than another: its value is less, or equal at a position no earlier. -/
def NoBetter (x r : EReal × BitVec 32) : Prop := x.1 < r.1 ∨ (x.1 = r.1 ∧ r.2.toInt ≤ x.2.toInt)

theorem NoBetter.refl (r : EReal × BitVec 32) : NoBetter r r := .inr ⟨rfl, le_refl _⟩

theorem NoBetter.trans {a b c : EReal × BitVec 32} (h : NoBetter a b) (k : NoBetter b c) : NoBetter a c := by
  rcases h with h | ⟨h, h'⟩ <;> rcases k with k | ⟨k, k'⟩
  · exact .inl (h.trans k)
  · exact .inl (k ▸ h)
  · exact .inl (h ▸ k)
  · exact .inr ⟨h.trans k, k'.trans h'⟩

/-- A left fold by a body that keeps one of two pairs, the better, ends at one of the pairs, the best. -/
theorem foldl_best (f : EReal × BitVec 32 → EReal × BitVec 32 → EReal × BitVec 32)
    (hf : ∀ r x, (f r x = r ∨ f r x = x) ∧ NoBetter r (f r x) ∧ NoBetter x (f r x)) (l : List (EReal × BitVec 32)) :
    ∀ r, (l.foldl f r = r ∨ l.foldl f r ∈ l) ∧ NoBetter r (l.foldl f r) ∧ ∀ x ∈ l, NoBetter x (l.foldl f r) := by
  induction l with
  | nil => exact fun r => ⟨.inl rfl, .refl r, fun x hx => absurd hx (List.not_mem_nil)⟩
  | cons a l ih =>
    intro r
    obtain ⟨h1, h2, h3⟩ := ih (f r a)
    obtain ⟨g1, g2, g3⟩ := hf r a
    refine ⟨?_, g2.trans h2, fun x hx => ?_⟩
    · rcases h1 with h1 | h1
      · rcases g1 with g1 | g1
        · exact .inl (h1.trans g1)
        · refine .inr ?_
          rw [List.foldl_cons, h1, g1]
          exact List.mem_cons_self
      · exact .inr (List.mem_cons_of_mem _ h1)
    · rcases List.mem_cons.mp hx with rfl | hx
      · exact g3.trans h2
      · exact h3 x hx

/-- Over the pairs of the values and their positions, from the least value at position zero, that pair is the
    greatest value at its first position. -/
theorem best_first (z : Fin 128 → EReal) (r : EReal × BitVec 32)
    (hr : r = (⊥, 0#32) ∨ ∃ p : Fin 128, r = (z p, BitVec.ofNat 32 p.val))
    (h0 : NoBetter (⊥, 0#32) r) (h : ∀ p : Fin 128, NoBetter (z p, BitVec.ofNat 32 p.val) r) :
    r.2 = BitVec.ofNat 32 (first z).val := by
  have hle : ∀ p, z p ≤ r.1 := fun p => by
    rcases h p with h | h
    · exact le_of_lt h
    · exact le_of_eq h.1
  rcases hr with rfl | ⟨p, rfl⟩
  · have hz : ∀ p, z p = top z := fun p =>
      (le_bot_iff.mp (hle p)).trans (le_bot_iff.mp (top_le z ⊥ hle)).symm
    rw [le_antisymm (first_le z 0 (hz 0)) (Fin.zero_le _)]
    rfl
  · have hp : z p = top z := le_antisymm (le_top z p) (top_le z _ hle)
    rcases h (first z) with hf | hf
    · exact absurd (first_top z) (ne_of_lt (hf.trans_eq hp))
    · have hf' : (BitVec.ofNat 32 p.val).toInt ≤ (BitVec.ofNat 32 (first z).val).toInt := hf.2
      rw [toInt_pos, toInt_pos] at hf'
      show BitVec.ofNat 32 p.val = _
      rw [eq_first z p hp (by rw [Fin.le_def]; omega)]

/-! ## One column of logits -/

/-- The word of negative infinity reads as the least extended real. -/
theorem ofBits_negInf : Ideal.ofBits FTy.f32 4286578688#32 = ⊥ := by
  simp [Ideal.ofBits, Ideal.ieee]

/-- The logit of a score and of how often its point was visited. -/
def logit (s m : EReal) : EReal :=
  min (Ideal.ofBits FTy.f32 1287568416#32) (max (Ideal.ofBits FTy.f32 3435052064#32)
    (Ideal.ofBits FTy.f32 1092616192#32 * Ideal.tanh s - Ideal.ofBits FTy.f32 1287568416#32 * m))

/-- How far a logit lies from the greatest. -/
def less (z : Fin 128 → EReal) (p : Fin 128) : EReal := z p - top z

/-- The logarithm of the sum of the exponentials of those distances. -/
def lse (z : Fin 128 → EReal) : EReal := Ideal.log (∑ p, Ideal.exp (less z p))

/-- The log-probability of a position. -/
def logProb (z : Fin 128 → EReal) (p : Fin 128) : EReal := less z p - lse z

/-- One at the chosen position, zero elsewhere. -/
def hot (i p : Fin 128) : EReal := if p = i then 1 else 0

/-- A sum weighted by the one-hot of a position is the entry at that position. -/
theorem sum_hot (i : Fin 128) (f : Fin 128 → EReal) : ∑ p, hot i p * f p = f i := by
  unfold hot
  simp

/-- Words of positions are equal only at equal positions. -/
theorem ofNat_inj (i p : Fin 128) : BitVec.ofNat 32 i.val = BitVec.ofNat 32 p.val ↔ p = i := by
  constructor
  · intro h
    have h' := congrArg BitVec.toNat h
    have h1 := i.isLt
    have h2 := p.isLt
    rw [BitVec.toNat_ofNat, BitVec.toNat_ofNat] at h'
    exact Fin.ext (by omega)
  · rintro rfl; rfl

/-- The comparison of a position's word with the chosen one's, as an unsigned bit, is the one-hot. -/
theorem uitofp_hot (i p : Fin 128) :
    FloatOps.uitofp (F := Ideal) .f32 (IntOp.cmpi .eq (BitVec.ofNat 32 i.val) (BitVec.ofNat 32 p.val)) = hot i p := by
  unfold hot
  show ((BitVec.ofBool (decide (BitVec.ofNat 32 i.val = BitVec.ofNat 32 p.val))).toNat : EReal) = _
  by_cases h : p = i
  · rw [if_pos h, decide_eq_true ((ofNat_inj i p).mpr h)]; simp
  · rw [if_neg h, decide_eq_false (fun k => h ((ofNat_inj i p).mp k))]; simp

/-- The same comparison, widened and read signed. -/
theorem sitofp_hot (i p : Fin 128) :
    FloatOps.sitofp (F := Ideal) .f32 (BitVec.setWidth 32 (IntOp.cmpi .eq (BitVec.ofNat 32 p.val) (BitVec.ofNat 32 i.val))) = hot i p := by
  unfold hot
  show ((((BitVec.ofBool (decide (BitVec.ofNat 32 p.val = BitVec.ofNat 32 i.val))).setWidth 32).toInt : ℝ) : EReal) = _
  by_cases h : p = i
  · rw [if_pos h, decide_eq_true ((ofNat_inj p i).mpr h.symm)]; simp
  · rw [if_neg h, decide_eq_false (fun k => h ((ofNat_inj p i).mp k).symm)]; simp

end Cert.Choice

end
-- ==== Proof.KernelRead.lean ====
/- The kernel's step read entry by entry at the exact values: logits, choices, the slots of query sums, the encoded
   queries and the two sums. -/
module

public import proofs.«01_k».proof.Proof.Body
public import proofs.«01_k».proof.Proof.Choice
public import Idealize.ShloMosaic.Lib.Pointwise
public import Idealize.ShloMosaic.Lib.Pointwise.Contract
public import Idealize.ShloMosaic.Lib.Pointwise.IndexBridge

@[expose] public section

set_option maxRecDepth 8192

noncomputable section

namespace Cert.KernelIdeal.Hand

open Idealize.ShloMosaic Cert.KernelIdeal Cert.KernelIdeal.Gen Cert.Choice

/-! ## Windows, entry by entry -/

/-- An entry of a window is the entry of the whole at the window's offset. -/
theorem window_at {s : Shape} {α : Type} (x : s.Idx → α) (off off' size : Fin s.rank → ℕ) (ho : off = off') (inb : ∀ a, off a + size a ≤ s.size a)
    (y : (Rect.unit off size inb).shape.Idx) (z : s.Idx) (h : ∀ a, (z a).val = off' a + (y a).val) :
    VecWindow.window x off size inb y = x z := by
  subst ho
  exact congrArg x (funext fun a => Fin.ext (by rw [h a]; show off a + 1 * (y a).val = _; omega))

/-- Inside the window just put lies the payload. -/
theorem put_in {s : Shape} {α : Type} (x : s.Idx → α) (off size : Fin s.rank → ℕ) (w : ((a : Fin s.rank) → Fin (size a)) → α)
    (y : (a : Fin s.rank) → Fin (size a)) (z : s.Idx) (h : ∀ a, (z a).val = off a + (y a).val) :
    VecWindow.put x off size w z = w y := by
  unfold VecWindow.put
  have hall : ∀ a, off a ≤ (z a).val ∧ (z a).val < off a + size a := fun a => by
    have := h a
    have := (y a).isLt
    omega
  rw [dif_pos hall]
  refine congrArg w (funext fun a => Fin.ext ?_)
  have := h a
  show (z a).val - off a = (y a).val
  omega

/-- Outside it, what was there. -/
theorem put_out {s : Shape} {α : Type} (x : s.Idx → α) (off size : Fin s.rank → ℕ) (w : ((a : Fin s.rank) → Fin (size a)) → α)
    (z : s.Idx) (a : Fin s.rank) (h : (z a).val < off a ∨ off a + size a ≤ (z a).val) : VecWindow.put x off size w z = x z := by
  unfold VecWindow.put
  rw [dif_neg fun hall => ?_]
  have := hall a
  omega

/-! ## The encoded points and the scores -/

theorem encOf_apply (tin : FVec Ideal S128x128x512 .f32) (w : FVec Ideal S512x256 .f32) (p b : Fin 128) (a : Fin 256) :
    encOf (F := Ideal) tin w (ix3 p b a) = ∑ x, tin (ix3 p b x) * w (ix2 x a) := by
  have hp := p.isLt
  have hk : p.val / 16 < k0_t1_loop.trips := by rw [trips1]; omega
  show encChunk tin w ⟨p.val / 16, hk⟩ (ValueIdx.ix3 ⟨p.val % 16, Nat.mod_lt _ (by decide)⟩ b a) = _
  rw [← ix3_eq_valueIdx]
  unfold encChunk
  have h186 : ∀ (e : FVec Ideal S16x128x512 .f32) (q : Fin 16), k0_pay186 (F := Ideal) e w (ix3 q b a) = ∑ x, e (ix3 q b x) * w (ix2 x a) := by
    intro e q
    pointwise [k0_pay186]
  refine (h186 _ _).trans (Finset.sum_congr rfl fun x _ => congrArg (· * w (ix2 x a)) ?_)
  refine window_at tin _ _ _ (off1_eq _) _ _ _ fun d => ?_
  match d with
  | ⟨0, _⟩ => show p.val = 16 * (p.val / 16) + p.val % 16; omega
  | ⟨1, _⟩ => exact (Nat.zero_add _).symm
  | ⟨2, _⟩ => exact (Nat.zero_add _).symm

theorem scoresOf_apply (v : FVec Ideal S1x256 .f32) (eq : FVec Ideal S128x256 .f32) (e : FVec Ideal S128x128x256 .f32) (p b : Fin 128) :
    scoresOf (F := Ideal) v eq e (ix2 p b) = ∑ a, v (ix2 0 a) * Ideal.tanh (e (ix3 p b a) + eq (ix2 b a)) := by
  have hp := p.isLt
  have hk : p.val / 16 < 8 := by omega
  show chunkScore v eq e ⟨p.val / 16, hk⟩ (ValueIdx.ix2 ⟨p.val % 16, Nat.mod_lt _ (by decide)⟩ b) = _
  rw [← ix2_eq_valueIdx]
  unfold chunkScore
  have h5 : ∀ (e : FVec Ideal S16x128x256 .f32) (q : Fin 16), k0_pay5 (F := Ideal) v eq e (ix2 q b)
      = ∑ a, v (ix2 0 a) * Ideal.tanh (e (ix3 q b a) + eq (ix2 b a)) := by
    intro e q
    pointwise [k0_pay5]
  refine (h5 _ _).trans (Finset.sum_congr rfl fun a _ => congrArg (fun u => v (ix2 0 a) * Ideal.tanh (u + eq (ix2 b a))) ?_)
  refine window_at e _ _ _ rfl _ _ _ fun d => ?_
  match d with
  | ⟨0, _⟩ => show p.val = 16 * (p.val / 16) + p.val % 16; omega
  | ⟨1, _⟩ => exact (Nat.zero_add _).symm
  | ⟨2, _⟩ => exact (Nat.zero_add _).symm

/-! ## The payloads of a step -/

theorem pay13_apply (x m : FVec Ideal S128x128 .f32) (p b : Fin 128) :
    k0_pay13 (F := Ideal) x m (ix2 p b) = logit (x (ix2 p b)) (m (ix2 p b)) := by
  pointwise [k0_pay13]
  rfl

theorem rowNo_apply (p b : Fin 128) : Consts.rowNo (ix2 p b) = BitVec.ofNat 32 p.val := by
  pointwise [Consts.rowNo]

/-- The choice in a column: the first point of the greatest sum of logit and noise. -/
def pick (x : FVec Ideal S128x128 .f32) (g : FVec Ideal S1x128x128 .f32) (b : Fin 128) : Fin 128 :=
  first fun p => x (ix2 p b) + g (ix3 0 p b)

theorem pay14_apply (x : FVec Ideal S128x128 .f32) (g : FVec Ideal S1x128x128 .f32) (b : Fin 128) :
    k0_pay14 (F := Ideal) Consts.rowNo x g (ix1 b) = BitVec.ofNat 32 (pick x g b).val := by
  pointwise [k0_pay14]
  simp only [rowNo_apply, ofBits_negInf]
  exact fold_minsi_first fun p => x (ix2 p b) + g (ix3 0 p b)

theorem pay15_apply (x : FVec Ideal S128x128 .f32) (g : FVec Ideal S1x128x128 .f32) (p b : Fin 128) :
    k0_pay15 (F := Ideal) Consts.rowNo x g (ix2 p b) = hot (pick x g b) p := by
  pointwise [k0_pay15]
  rw [pay14_apply]
  exact sitofp_hot _ _

theorem pay16_apply (x : FVec Ideal S128x128 .f32) (p b : Fin 128) :
    k0_pay16 (F := Ideal) x (ix2 p b) = less (fun p => x (ix2 p b)) p := by
  pointwise [k0_pay16]
  rw [ofBits_negInf]
  rfl

theorem pay17_apply (x : FVec Ideal S128x128 .f32) (b : Fin 128) : k0_pay17 (F := Ideal) x (ix1 b) = lse fun p => x (ix2 p b) := by
  pointwise [k0_pay17]
  simp only [pay16_apply]
  rfl

theorem pay18_apply (a : FVec Ideal S1x128 .f32) (x : FVec Ideal S128x128 .f32) (g : FVec Ideal S1x128x128 .f32) (b : Fin 128) :
    k0_pay18 (F := Ideal) Consts.rowNo a x g (ix2 0 b) = a (ix2 0 b) + logProb (fun p => x (ix2 p b)) (pick x g b) := by
  pointwise [k0_pay18]
  simp only [pay15_apply, pay16_apply, pay17_apply, sum_hot]
  rfl

theorem pay19_apply (a : FVec Ideal S1x128 .f32) (x : FVec Ideal S128x128 .f32) (b : Fin 128) :
    k0_pay19 (F := Ideal) a x (ix2 0 b) = a (ix2 0 b) - ∑ p, Ideal.exp (logProb (fun p => x (ix2 p b)) p) * logProb (fun p => x (ix2 p b)) p := by
  pointwise [k0_pay19]
  simp only [pay16_apply, pay17_apply]
  rfl

theorem pay20_apply (x : FVec Ideal S128x128 .f32) (g : FVec Ideal S1x128x128 .f32) (b : Fin 128) :
    k0_pay20 (F := Ideal) Consts.rowNo x g (ix2 0 b) = BitVec.ofNat 32 (pick x g b).val := by
  pointwise [k0_pay20]
  exact pay14_apply x g b

theorem pay21_apply (x : FVec Ideal S128x128 .f32) (g : FVec Ideal S1x128x128 .f32) (m : FVec Ideal S128x128 .f32) (p b : Fin 128) :
    k0_pay21 (F := Ideal) Consts.rowNo x g m (ix2 p b) = m (ix2 p b) + hot (pick x g b) p := by
  pointwise [k0_pay21]
  rw [pay15_apply]

theorem pay23_apply (x : FVec Ideal S128x128 .f32) (g : FVec Ideal S1x128x128 .f32) (b : Fin 128) :
    k0_pay23 (k0_pay22 (F := Ideal) Consts.rowNo x g) (ix2 0 b) = BitVec.ofNat 32 (pick x g b).val := by
  pointwise [k0_pay22, k0_pay23]
  exact pay14_apply x g b

theorem pay1_apply (r : FVec Ideal S128x512 .f32) (w : FVec Ideal S512x360 .f32) (q : FVec Ideal S1x128x360 .f32) (b : Fin 128) (x : Fin 360) :
    k0_pay1 (F := Ideal) r w q (ix3 0 b x) = q (ix3 0 b x) + ∑ h, r (ix2 b h) * w (ix2 h x) := by
  pointwise [k0_pay1]

theorem pay2_apply (r : FVec Ideal S128x512 .f32) (w : FVec Ideal S512x360 .f32) (q : FVec Ideal S1x128x360 .f32) (b : Fin 128) (x : Fin 360) :
    k0_pay2 (F := Ideal) r w q (ix3 0 b x) = q (ix3 0 b x) + ∑ h, r (ix2 b h) * w (ix2 h x) := by
  pointwise [k0_pay2]

theorem pay4_apply (b : Fin 128) (x : Fin 360) : k0_pay4 (F := Ideal) k0_pay3 (ix3 0 b x) = 0 := by
  pointwise [k0_pay4, k0_pay3]

theorem pay184_apply (r : FVec Ideal S64x512 .f32) (w : FVec Ideal S512x360 .f32) (q : FVec Ideal S1x64x360 .f32) (wp : FVec Ideal S360x256 .f32)
    (b : Fin 64) (a : Fin 256) :
    k0_pay184 (F := Ideal) r w q wp (ix2 b a) = ∑ x, max (q (ix3 0 b x) + ∑ h, r (ix2 b h) * w (ix2 h x)) 0 * wp (ix2 x a) := by
  pointwise [k0_pay184]

theorem pay191_apply (v : FVec Ideal S1x256 .f32) (a : Fin 256) : k0_pay191 (F := Ideal) v (ix2 0 a) = v (ix2 0 a) := by
  pointwise [k0_pay191]

/-! ## The step -/

/-- The step number as a position among 128. -/
abbrev stepNo (t : Fin k0_t2_loop.trips) : Fin 128 := ⟨t.val, lt_of_lt_of_eq t.isLt trips2⟩

namespace Consts
variable (K : Consts Ideal) (t : Fin k0_t2_loop.trips) (s : State Ideal)

theorem logits_apply (p b : Fin 128) :
    K.logits s (ix2 p b) = logit (∑ a, K.v (ix2 0 a) * Ideal.tanh (K.e (ix3 p b a) + s.eq (ix2 b a))) (s.mask (ix2 p b)) := by
  unfold logits
  rw [pay13_apply, scoresOf_apply]
  simp only [pay191_apply]

theorem noise_apply (p b : Fin 128) : K.noise t (ix3 0 p b) = K.g (ix3 (stepNo t) p b) := by
  unfold noise
  refine window_at K.g _ _ _ (k0_off5_eq t) _ _ _ fun d => ?_
  match d with
  | ⟨0, _⟩ => rfl
  | ⟨1, _⟩ => exact (Nat.zero_add _).symm
  | ⟨2, _⟩ => exact (Nat.zero_add _).symm

/-- The point chosen for batch entry `b`. -/
def pickAt (b : Fin 128) : Fin 128 := first fun p => K.logits s (ix2 p b) + K.g (ix3 (stepNo t) p b)

theorem pick_eq (b : Fin 128) : pick (K.logits s) (K.noise t) b = K.pickAt t s b := by
  unfold pick pickAt
  simp only [noise_apply]

theorem idx_apply (b : Fin 128) : K.idx t s (ix2 0 b) = BitVec.ofNat 32 (K.pickAt t s b).val := by
  unfold idx
  rw [pay23_apply, pick_eq]

/-- Every chosen point is a point. -/
theorem idx_lt (y : S1x128.Idx) : (K.idx t s y).toNat < 128 := by
  obtain ⟨b, hb⟩ : ∃ b : Fin 128, b = y 1 := ⟨_, rfl⟩
  have hy : y = ix2 (0 : Fin 1) b := by
    funext a
    match a with
    | ⟨0, _⟩ => exact Subsingleton.elim (α := Fin 1) _ _
    | ⟨1, _⟩ => exact hb.symm
  rw [hy, idx_apply, BitVec.toNat_ofNat]
  exact lt_of_le_of_lt (Nat.mod_le _ _) (Fin.isLt _)

theorem next_mask (p b : Fin 128) : (K.next t s).mask (ix2 p b) = s.mask (ix2 p b) + hot (K.pickAt t s b) p := by
  unfold next
  rw [← pick_eq]
  exact pay21_apply _ _ _ p b

theorem next_rnew (b : Fin 128) (h : Fin 512) : (K.next t s).rnew (ix2 b h) = K.tin (ix3 (K.pickAt t s b) b h) := by
  show K.tin (ValueIdx.ix3 ⟨min (K.idx t s (ValueIdx.ix2 0 b)).toNat 127, by omega⟩ b h) = _
  rw [← ix3_eq_valueIdx]
  refine congrArg (fun k => K.tin (ix3 k b h)) (Fin.ext ?_)
  show min (K.idx t s (ValueIdx.ix2 0 b)).toNat 127 = _
  rw [← ix2_eq_valueIdx, idx_apply, BitVec.toNat_ofNat]
  have := (K.pickAt t s b).isLt
  omega

theorem next_lp (b : Fin 128) :
    (K.next t s).lp (ix2 0 b) = s.lp (ix2 0 b) + logProb (fun p => K.logits s (ix2 p b)) (K.pickAt t s b) := by
  unfold next
  rw [← pick_eq]
  exact pay18_apply _ _ _ b

theorem next_ent (b : Fin 128) :
    (K.next t s).ent (ix2 0 b) = s.ent (ix2 0 b)
      - ∑ p, Ideal.exp (logProb (fun p => K.logits s (ix2 p b)) p) * logProb (fun p => K.logits s (ix2 p b)) p := by
  unfold next
  exact pay19_apply _ _ b

theorem tourOf_apply (b : Fin 128) : K.tourOf (ix2 (stepNo t) b) = BitVec.ofNat 32 (K.pickAt t (K.states t.val) b).val := by
  show K.chosen t (ValueIdx.ix2 0 b) = _
  rw [← ix2_eq_valueIdx]
  unfold chosen
  rw [pay20_apply, pick_eq]

/-! ## The slots of query sums -/

/-- A slot's number. -/
abbrev slot (n : ℕ) : Fin 4 := ⟨n % 4, Nat.mod_lt _ (by decide)⟩

theorem off3_1 : k0_off3 t 1#32 = ![(t.val + 1) % 4, 0, 0] := k0_off3_eq t 0
theorem off3_2 : k0_off3 t 2#32 = ![(t.val + 2) % 4, 0, 0] := k0_off3_eq t 1

theorem slot_in (q : FVec Ideal S4x128x360 .f32) (w : FVec Ideal S1x128x360 .f32) (n : ℕ) (off : Fin 3 → ℕ) (ho : off = ![n % 4, 0, 0])
    (b : Fin 128) (x : Fin 360) :
    VecWindow.put (s := S4x128x360) q off S1x128x360.size w (ix3 (slot n) b x) = w (ix3 0 b x) := by
  subst ho
  refine put_in (s := S4x128x360) q ![n % 4, 0, 0] S1x128x360.size w (ix3 (0 : Fin 1) b x) (ix3 (slot n) b x) fun d => ?_
  match d with
  | ⟨0, _⟩ => rfl
  | ⟨1, _⟩ => exact (Nat.zero_add _).symm
  | ⟨2, _⟩ => exact (Nat.zero_add _).symm

theorem slot_out (q : FVec Ideal S4x128x360 .f32) (w : FVec Ideal S1x128x360 .f32) (n k : ℕ) (off : Fin 3 → ℕ) (ho : off = ![n % 4, 0, 0])
    (h : k % 4 ≠ n % 4) (b : Fin 128) (x : Fin 360) :
    VecWindow.put (s := S4x128x360) q off S1x128x360.size w (ix3 (slot k) b x) = q (ix3 (slot k) b x) := by
  subst ho
  exact put_out (s := S4x128x360) q ![n % 4, 0, 0] S1x128x360.size w (ix3 (slot k) b x) 0 (by show k % 4 < n % 4 ∨ n % 4 + 1 ≤ k % 4; omega)

theorem slot_window (q : FVec Ideal S4x128x360 .f32) (n : ℕ) (off : Fin 3 → ℕ) (ho : off = ![n % 4, 0, 0])
    (inb : ∀ a, off a + S1x128x360.size a ≤ S4x128x360.size a) (b : Fin 128) (x : Fin 360) :
    (VecWindow.window q off S1x128x360.size inb : FVec Ideal S1x128x360 .f32) (ix3 0 b x) = q (ix3 (slot n) b x) := by
  subst ho
  refine window_at q _ _ _ rfl _ _ _ fun d => ?_
  match d with
  | ⟨0, _⟩ => rfl
  | ⟨1, _⟩ => exact (Nat.zero_add _).symm
  | ⟨2, _⟩ => exact (Nat.zero_add _).symm

/-- The slot of the next step takes the last chosen point in, through its weights. -/
theorem slots_one (b : Fin 128) (x : Fin 360) :
    K.slots t s (ix3 (slot (t.val + 1)) b x) = s.q (ix3 (slot (t.val + 1)) b x) + ∑ h, s.rnew (ix2 b h) * K.w1 (ix2 h x) := by
  unfold slots
  refine (slot_out _ _ t.val _ _ (k0_off4_eq t) (by omega) b x).trans ?_
  refine (slot_out _ _ (t.val + 2) _ _ (off3_2 t) (by omega) b x).trans ?_
  refine (slot_in _ _ (t.val + 1) _ (off3_1 t) b x).trans ?_
  rw [pay1_apply, slot_window _ _ _ (off3_1 t)]

/-- The slot of the step after it, too. -/
theorem slots_two (b : Fin 128) (x : Fin 360) :
    K.slots t s (ix3 (slot (t.val + 2)) b x) = s.q (ix3 (slot (t.val + 2)) b x) + ∑ h, s.rnew (ix2 b h) * K.w0 (ix2 h x) := by
  unfold slots
  refine (slot_out _ _ t.val _ _ (k0_off4_eq t) (by omega) b x).trans ?_
  refine (slot_in _ _ (t.val + 2) _ (off3_2 t) b x).trans ?_
  rw [pay2_apply, slot_window _ _ _ (off3_2 t)]
  exact congrArg (· + _) (slot_out _ _ (t.val + 1) _ _ (off3_1 t) (by omega) b x)

/-- This step's slot is emptied. -/
theorem slots_zero (b : Fin 128) (x : Fin 360) : K.slots t s (ix3 (slot t.val) b x) = 0 := by
  unfold slots
  exact (slot_in _ _ t.val _ (k0_off4_eq t) b x).trans (pay4_apply b x)

/-- The fourth slot is left. -/
theorem slots_three (b : Fin 128) (x : Fin 360) : K.slots t s (ix3 (slot (t.val + 3)) b x) = s.q (ix3 (slot (t.val + 3)) b x) := by
  unfold slots
  refine (slot_out _ _ t.val _ _ (k0_off4_eq t) (by omega) b x).trans ?_
  refine (slot_out _ _ (t.val + 2) _ _ (off3_2 t) (by omega) b x).trans ?_
  exact slot_out _ _ (t.val + 1) _ _ (off3_1 t) (by omega) b x

/-- The encoded queries of the next step. -/
theorem encode_apply (r : FVec Ideal S128x512 .f32) (q : FVec Ideal S4x128x360 .f32) (old : FVec Ideal S128x256 .f32) (b : Fin 128) (a : Fin 256) :
    K.encode t r q old (ix2 b a)
      = ∑ x, max (q (ix3 (slot (t.val + 1)) b x) + ∑ h, r (ix2 b h) * K.w2 (ix2 h x)) 0 * K.wp (ix2 x a) := by
  have hb := b.isLt
  unfold encode
  by_cases h64 : b.val < 64
  · refine (put_out (s := S128x256) _ ![64, 0] _ _ (ix2 b a) 0 (Or.inl h64)).trans ?_
    refine (put_in (s := S128x256) _ ![0, 0] S64x256.size _ (ix2 (⟨b.val, h64⟩ : Fin 64) a) (ix2 b a) (fun d => by
      match d with
      | ⟨0, _⟩ => exact (Nat.zero_add _).symm
      | ⟨1, _⟩ => exact (Nat.zero_add _).symm)).trans ?_
    rw [pay184_apply]
    refine Finset.sum_congr rfl fun x _ => congrArg (fun u => max u 0 * K.wp (ix2 x a)) (congrArg₂ (· + ·) ?_ (Finset.sum_congr rfl fun h _ => congrArg (· * _) ?_))
    · refine window_at q _ _ _ (k0_off135_eq t) _ _ _ fun d => ?_
      match d with
      | ⟨0, _⟩ => rfl
      | ⟨1, _⟩ => exact (Nat.zero_add _).symm
      | ⟨2, _⟩ => exact (Nat.zero_add _).symm
    · refine window_at r _ _ _ rfl _ _ _ fun d => ?_
      match d with
      | ⟨0, _⟩ => exact (Nat.zero_add _).symm
      | ⟨1, _⟩ => exact (Nat.zero_add _).symm
  · refine (put_in (s := S128x256) _ ![64, 0] S64x256.size _ (ix2 (⟨b.val - 64, by omega⟩ : Fin 64) a) (ix2 b a) (fun d => by
      match d with
      | ⟨0, _⟩ => show b.val = 64 + (b.val - 64); omega
      | ⟨1, _⟩ => exact (Nat.zero_add _).symm)).trans ?_
    rw [pay184_apply]
    refine Finset.sum_congr rfl fun x _ => congrArg (fun u => max u 0 * K.wp (ix2 x a)) (congrArg₂ (· + ·) ?_ (Finset.sum_congr rfl fun h _ => congrArg (· * _) ?_))
    · refine window_at q _ _ _ (k0_off136_eq t) _ _ _ fun d => ?_
      match d with
      | ⟨0, _⟩ => rfl
      | ⟨1, _⟩ => show b.val = 64 + (b.val - 64); omega
      | ⟨2, _⟩ => exact (Nat.zero_add _).symm
    · refine window_at r _ _ _ rfl _ _ _ fun d => ?_
      match d with
      | ⟨0, _⟩ => show b.val = 64 + (b.val - 64); omega
      | ⟨1, _⟩ => exact (Nat.zero_add _).symm

theorem next_eq (b : Fin 128) (a : Fin 256) :
    (K.next t s).eq (ix2 b a)
      = ∑ x, max (K.slots t s (ix3 (slot (t.val + 1)) b x) + ∑ h, (K.next t s).rnew (ix2 b h) * K.w2 (ix2 h x)) 0 * K.wp (ix2 x a) :=
  K.encode_apply t _ _ _ b a

/-- The decode loop starts from zeros. -/
theorem start_apply :
    (∀ p b, (start (F := Ideal)).mask (ix2 p b) = 0) ∧ (∀ b h, (start (F := Ideal)).rnew (ix2 b h) = 0)
      ∧ (∀ k b x, (start (F := Ideal)).q (ix3 k b x) = 0) ∧ (∀ b a, (start (F := Ideal)).eq (ix2 b a) = 0)
      ∧ (∀ b, (start (F := Ideal)).lp (ix2 0 b) = 0) ∧ ∀ b, (start (F := Ideal)).ent (ix2 0 b) = 0 := by
  refine ⟨fun p b => ?_, fun b h => ?_, fun k b x => ?_, fun b a => ?_, fun b => ?_, fun b => ?_⟩
  · show k0_pay187 (F := Ideal) (ix2 p b) = 0
    pointwise [k0_pay187]
  · show k0_pay188 (F := Ideal) (ix2 b h) = 0
    pointwise [k0_pay188]
  · show k0_pay189 (F := Ideal) (ix3 k b x) = 0
    pointwise [k0_pay189]
  · show k0_pay190 (F := Ideal) (ix2 b a) = 0
    pointwise [k0_pay190]
  · show k0_pay192 (F := Ideal) (ix2 0 b) = 0
    pointwise [k0_pay192]
  · show k0_pay193 (F := Ideal) (ix2 0 b) = 0
    pointwise [k0_pay193]

end Consts

end Cert.KernelIdeal.Hand

end
-- ==== Proof.RefOps.lean ====
/- The reference program as lists of host operations: what it does before its loop, in one trip of it, and after; and
   that the program is those lists. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 5408

noncomputable section

namespace Cert.ReferenceIdeal.Gen

open Idealize.ShloMosaic Idealize.ShloMosaic.TcCoe Idealize.ShloMosaic.StableHlo
open Idealize.SL Idealize.SL.RA Idealize.SL.BI
open scoped Idealize.SL.BI
open Idealize.SL.BI.BIBase Idealize.SL.Sem

variable {F : FTy → Type} [FloatOps F]
/-! ## The program as stretches of operations around its loop -/

/-- 41 host operations of @main, in order. -/
abbrev hostOps0 : List (HloOp τ sig (Elt F)) :=
  ( unary main_arg1 main_v0 ((transpose S512x256 [1, 0] · transposes_S256x512_S512x256_1_0) : (⟨S256x512, .f32⟩ : BufTy).Contents (Elt F) → (⟨S512x256, .f32⟩ : BufTy).Contents (Elt F))
  :: binary main_arg0 main_v0 main_v1 ((fun l r => Host.dotGeneral dot_S128x128x512_S512x256_S128x128x256_2_0_01_1_n_n none l r) : (⟨S128x128x512, .f32⟩ : BufTy).Contents (Elt F) → (⟨S512x256, .f32⟩ : BufTy).Contents (Elt F) → (⟨S128x128x256, .f32⟩ : BufTy).Contents (Elt F))
  :: nullary main_v2 (iotaInDim S128 32 0)
  :: nullary main_cst (constant S_ .f32 0x00000000#32)
  :: unary main_cst main_v3 (broadcastInDim S128x128 ![] bcast_S_S128x128 : (⟨S_, .f32⟩ : BufTy).Contents (Elt F) → (⟨S128x128, .f32⟩ : BufTy).Contents (Elt F))
  :: nullary main_cst_0 (constant S_ .f32 0x00000000#32)
  :: unary main_cst_0 main_v4 (broadcastInDim S3x128x512 ![] bcast_S_S3x128x512 : (⟨S_, .f32⟩ : BufTy).Contents (Elt F) → (⟨S3x128x512, .f32⟩ : BufTy).Contents (Elt F))
  :: nullary main_cst_1 (constant S_ .f32 0x00000000#32)
  :: unary main_cst_1 main_v5 (broadcastInDim S128 ![] bcast_S_S128 : (⟨S_, .f32⟩ : BufTy).Contents (Elt F) → (⟨S128, .f32⟩ : BufTy).Contents (Elt F))
  :: nullary main_cst_2 (constant S_ .f32 0x00000000#32)
  :: unary main_cst_2 main_v6 (broadcastInDim S128 ![] bcast_S_S128 : (⟨S_, .f32⟩ : BufTy).Contents (Elt F) → (⟨S128, .f32⟩ : BufTy).Contents (Elt F))
  :: nullary main_c (constantI S_ 32 42#32)
  :: nullary main_c_3 (constantI S_ 32 32#32)
  :: binary main_c main_c_3 main_v7 (Host.shrui : (⟨S_, .i32⟩ : BufTy).Contents (Elt F) → (⟨S_, .i32⟩ : BufTy).Contents (Elt F) → (⟨S_, .i32⟩ : BufTy).Contents (Elt F))
  :: unary main_v7 main_v8 (id : (⟨S_, .i32⟩ : BufTy).Contents (Elt F) → (⟨S_, .i32⟩ : BufTy).Contents (Elt F))
  :: unary main_v8 main_v9 (broadcastInDim S1 ![] bcast_S_S1 : (⟨S_, .i32⟩ : BufTy).Contents (Elt F) → (⟨S1, .i32⟩ : BufTy).Contents (Elt F))
  :: nullary main_c_4 (constantI S_ 32 4294967295#32)
  :: binary main_c main_c_4 main_v10 (andi : (⟨S_, .i32⟩ : BufTy).Contents (Elt F) → (⟨S_, .i32⟩ : BufTy).Contents (Elt F) → (⟨S_, .i32⟩ : BufTy).Contents (Elt F))
  :: unary main_v10 main_v11 (id : (⟨S_, .i32⟩ : BufTy).Contents (Elt F) → (⟨S_, .i32⟩ : BufTy).Contents (Elt F))
  :: unary main_v11 main_v12 (broadcastInDim S1 ![] bcast_S_S1 : (⟨S_, .i32⟩ : BufTy).Contents (Elt F) → (⟨S1, .i32⟩ : BufTy).Contents (Elt F))
  :: binary main_v9 main_v12 main_v13 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))
  :: nullary main_v14 (iotaInDim S128 32 0)
  :: nullary main_c_5 (constantI S_ 32 0#32)
  :: unary main_c_5 main_v15 (broadcastInDim S128x128 ![] bcast_S_S128x128 : (⟨S_, .i32⟩ : BufTy).Contents (Elt F) → (⟨S128x128, .i32⟩ : BufTy).Contents (Elt F))
  :: nullary main_c_6 (constantI S_ 32 0#32)
  :: unary main_v14 main_v16_0 id
  :: unary main_arg2 main_v16_1 id
  :: unary main_arg3 main_v16_2 id
  :: unary main_arg4 main_v16_3 id
  :: unary main_arg5 main_v16_4 id
  :: unary main_v1 main_v16_5 id
  :: unary main_arg6 main_v16_6 id
  :: unary main_v13 main_v16_7 id
  :: unary main_v2 main_v16_8 id
  :: unary main_arg0 main_v16_9 id
  :: unary main_c_6 main_v16_10 id
  :: unary main_v3 main_v16_11 id
  :: unary main_v4 main_v16_12 id
  :: unary main_v5 main_v16_13 id
  :: unary main_v6 main_v16_14 id
  :: unary main_v15 main_v16_15 id
  :: [] )
/-- Each touches buffers of the TensorCore only. -/
theorem hostOps0_sub : (hostOps0 : List (HloOp τ sig (Elt F))).Forall fun op => op.bufs ⊆ tcRefs τ sig :=
  ⟨unary_bufs_sub .., binary_bufs_sub .., nullary_bufs_sub .., nullary_bufs_sub .., unary_bufs_sub .., nullary_bufs_sub .., unary_bufs_sub .., nullary_bufs_sub .., unary_bufs_sub .., nullary_bufs_sub .., unary_bufs_sub .., nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- 3 host operations of @main, in order. -/
abbrev hostOps0_1 : List (HloOp τ sig (Elt F)) :=
  [ unary main_v16_15 main_v17 ((extractStridedSlice S1x128 ![0, 0] · slices_S128x128_S1x128_0_0) : (⟨S128x128, .i32⟩ : BufTy).Contents (Elt F) → (⟨S1x128, .i32⟩ : BufTy).Contents (Elt F)),
    binary main_v16_15 main_v17 main_v18 ((fun a b => concatenate S129x128 0 [⟨S128x128, a⟩, ⟨S1x128, b⟩] concatenates_S128x128_S1x128_S129x128_d0) : (⟨S128x128, .i32⟩ : BufTy).Contents (Elt F) → (⟨S1x128, .i32⟩ : BufTy).Contents (Elt F) → (⟨S129x128, .i32⟩ : BufTy).Contents (Elt F)),
    unary main_v18 main_v19 ((transpose S128x129 [1, 0] · transposes_S129x128_S128x129_1_0) : (⟨S129x128, .i32⟩ : BufTy).Contents (Elt F) → (⟨S128x129, .i32⟩ : BufTy).Contents (Elt F)) ]
/-- Each touches buffers of the TensorCore only. -/
theorem hostOps0_1_sub : (hostOps0_1 : List (HloOp τ sig (Elt F))).Forall fun op => op.bufs ⊆ tcRefs τ sig :=
  ⟨unary_bufs_sub .., binary_bufs_sub .., unary_bufs_sub ..⟩
/-- The program is its first stretch, its loop and its last stretch, one after the other. -/
theorem main_chain (c : Dev nD) : main (F := F) c = (Pipeline.chain
  [ seq hostOps0,
    HostLoop.enter 0,
    seq hostOps0_1 ] : Prog (TpuEff nD τ sig (Elt F) (HostLoop.Sig (Pipeline.Sig Λ₀ (Fin 0) fun p => (pcfgs (F := F) p).Adm) 1) .tc) PUnit) := by
  rewrite [chain_seq_cons, Pipeline.chain_cons, chain_seq_cons]
  chain_rfl

/-- 2 host operations of @dynamic_index_in_dim (main_while0b_call0), in order. -/
abbrev while0Ops0 : List (HloOp τ sig (Elt F)) :=
  [ TRef.unaryIndexed (.of main_v16_0 : TRef sig ⟨S128, .i32⟩) ![(.of main_v16_10 : TRef sig ⟨S_, .i32⟩)] (.of main_while0b_call0_v0 : TRef sig ⟨S1, .i32⟩) (fun x i => Host.dynamicSlice S1 x (fun k => (i k (Shape.Idx.first h_S_)).toInt) sliceFits_S128_S1),
    TRef.reshape (.of main_while0b_call0_v0 : TRef sig ⟨S1, .i32⟩) (.of main_while0b_v20 : TRef sig ⟨S_, .i32⟩) (rfl : (.i32 : EltTy) = .i32) shapeCasts_S1_S_ ]
/-- Each touches buffers of the TensorCore only. -/
theorem while0Ops0_sub : (while0Ops0 : List (HloOp τ sig (Elt F))).Forall fun op => op.bufs ⊆ tcRefs τ sig :=
  ⟨unaryIndexed_bufs_sub .., reshape_bufs_sub ..⟩
/-- 14 host operations of host loop 0's body region, in order. -/
abbrev while0Ops0_1 : List (HloOp τ sig (Elt F)) :=
  [ unary main_v16_12 main_while0b_v21 ((extractStridedSlice S1x128x512 ![0, 0, 0] · slices_S3x128x512_S1x128x512_0_0_0) : (⟨S3x128x512, .f32⟩ : BufTy).Contents (Elt F) → (⟨S1x128x512, .f32⟩ : BufTy).Contents (Elt F)),
    reshape main_while0b_v21 main_while0b_v22 (rfl : (.f32 : EltTy) = .f32) shapeCasts_S1x128x512_S128x512,
    unary main_v16_1 main_while0b_v23 ((transpose S512x360 [1, 0] · transposes_S360x512_S512x360_1_0) : (⟨S360x512, .f32⟩ : BufTy).Contents (Elt F) → (⟨S512x360, .f32⟩ : BufTy).Contents (Elt F)),
    binary main_while0b_v22 main_while0b_v23 main_while0b_v24 ((fun l r => Host.dotGeneral dot_S128x512_S512x360_S128x360_1_0_0_1_n_n none l r) : (⟨S128x512, .f32⟩ : BufTy).Contents (Elt F) → (⟨S512x360, .f32⟩ : BufTy).Contents (Elt F) → (⟨S128x360, .f32⟩ : BufTy).Contents (Elt F)),
    unary main_v16_12 main_while0b_v25 ((extractStridedSlice S1x128x512 ![1, 0, 0] · slices_S3x128x512_S1x128x512_1_0_0) : (⟨S3x128x512, .f32⟩ : BufTy).Contents (Elt F) → (⟨S1x128x512, .f32⟩ : BufTy).Contents (Elt F)),
    reshape main_while0b_v25 main_while0b_v26 (rfl : (.f32 : EltTy) = .f32) shapeCasts_S1x128x512_S128x512,
    unary main_v16_2 main_while0b_v27 ((transpose S512x360 [1, 0] · transposes_S360x512_S512x360_1_0) : (⟨S360x512, .f32⟩ : BufTy).Contents (Elt F) → (⟨S512x360, .f32⟩ : BufTy).Contents (Elt F)),
    binary main_while0b_v26 main_while0b_v27 main_while0b_v28 ((fun l r => Host.dotGeneral dot_S128x512_S512x360_S128x360_1_0_0_1_n_n none l r) : (⟨S128x512, .f32⟩ : BufTy).Contents (Elt F) → (⟨S512x360, .f32⟩ : BufTy).Contents (Elt F) → (⟨S128x360, .f32⟩ : BufTy).Contents (Elt F)),
    binary main_while0b_v24 main_while0b_v28 main_while0b_v29 (addf : (⟨S128x360, .f32⟩ : BufTy).Contents (Elt F) → (⟨S128x360, .f32⟩ : BufTy).Contents (Elt F) → (⟨S128x360, .f32⟩ : BufTy).Contents (Elt F)),
    unary main_v16_12 main_while0b_v30 ((extractStridedSlice S1x128x512 ![2, 0, 0] · slices_S3x128x512_S1x128x512_2_0_0) : (⟨S3x128x512, .f32⟩ : BufTy).Contents (Elt F) → (⟨S1x128x512, .f32⟩ : BufTy).Contents (Elt F)),
    reshape main_while0b_v30 main_while0b_v31 (rfl : (.f32 : EltTy) = .f32) shapeCasts_S1x128x512_S128x512,
    unary main_v16_3 main_while0b_v32 ((transpose S512x360 [1, 0] · transposes_S360x512_S512x360_1_0) : (⟨S360x512, .f32⟩ : BufTy).Contents (Elt F) → (⟨S512x360, .f32⟩ : BufTy).Contents (Elt F)),
    binary main_while0b_v31 main_while0b_v32 main_while0b_v33 ((fun l r => Host.dotGeneral dot_S128x512_S512x360_S128x360_1_0_0_1_n_n none l r) : (⟨S128x512, .f32⟩ : BufTy).Contents (Elt F) → (⟨S512x360, .f32⟩ : BufTy).Contents (Elt F) → (⟨S128x360, .f32⟩ : BufTy).Contents (Elt F)),
    binary main_while0b_v29 main_while0b_v33 main_while0b_v34 (addf : (⟨S128x360, .f32⟩ : BufTy).Contents (Elt F) → (⟨S128x360, .f32⟩ : BufTy).Contents (Elt F) → (⟨S128x360, .f32⟩ : BufTy).Contents (Elt F)) ]
/-- Each touches buffers of the TensorCore only. -/
theorem while0Ops0_1_sub : (while0Ops0_1 : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub ..⟩
/-- 3 host operations of @relu (main_while0b_call1), in order. -/
abbrev while0Ops0_2 : List (HloOp τ sig (Elt F)) :=
  [ TRef.nullary (.of main_while0b_call1_cst : TRef sig ⟨S_, .f32⟩) (constant S_ .f32 0x00000000#32),
    TRef.unary (.of main_while0b_call1_cst : TRef sig ⟨S_, .f32⟩) (.of main_while0b_call1_v0 : TRef sig ⟨S128x360, .f32⟩) (broadcastInDim S128x360 ![] bcast_S_S128x360),
    TRef.binary (.of main_while0b_v34 : TRef sig ⟨S128x360, .f32⟩) (.of main_while0b_call1_v0 : TRef sig ⟨S128x360, .f32⟩) (.of main_while0b_v35 : TRef sig ⟨S128x360, .f32⟩) maximumf ]
/-- Each touches buffers of the TensorCore only. -/
theorem while0Ops0_2_sub : (while0Ops0_2 : List (HloOp τ sig (Elt F))).Forall fun op => op.bufs ⊆ tcRefs τ sig :=
  ⟨nullary_bufs_sub .., unary_bufs_sub .., binary_bufs_sub ..⟩
/-- 24 host operations of host loop 0's body region, in order. -/
abbrev while0Ops0_3 : List (HloOp τ sig (Elt F)) :=
  [ unary main_v16_4 main_while0b_v36 ((transpose S360x256 [1, 0] · transposes_S256x360_S360x256_1_0) : (⟨S256x360, .f32⟩ : BufTy).Contents (Elt F) → (⟨S360x256, .f32⟩ : BufTy).Contents (Elt F)),
    binary main_while0b_v35 main_while0b_v36 main_while0b_v37 ((fun l r => Host.dotGeneral dot_S128x360_S360x256_S128x256_1_0_0_1_n_n none l r) : (⟨S128x360, .f32⟩ : BufTy).Contents (Elt F) → (⟨S360x256, .f32⟩ : BufTy).Contents (Elt F) → (⟨S128x256, .f32⟩ : BufTy).Contents (Elt F)),
    unary main_while0b_v37 main_while0b_v38 (broadcastInDim S128x1x256 ![0, 2] bcast_S128x256_S128x1x256_0_2 : (⟨S128x256, .f32⟩ : BufTy).Contents (Elt F) → (⟨S128x1x256, .f32⟩ : BufTy).Contents (Elt F)),
    unary main_while0b_v38 main_while0b_v39 (broadcastInDim S128x128x256 ![0, 1, 2] bcast_S128x1x256_S128x128x256_0_1_2 : (⟨S128x1x256, .f32⟩ : BufTy).Contents (Elt F) → (⟨S128x128x256, .f32⟩ : BufTy).Contents (Elt F)),
    binary main_v16_5 main_while0b_v39 main_while0b_v40 (addf : (⟨S128x128x256, .f32⟩ : BufTy).Contents (Elt F) → (⟨S128x128x256, .f32⟩ : BufTy).Contents (Elt F) → (⟨S128x128x256, .f32⟩ : BufTy).Contents (Elt F)),
    unary main_while0b_v40 main_while0b_v41 (Host.tanh : (⟨S128x128x256, .f32⟩ : BufTy).Contents (Elt F) → (⟨S128x128x256, .f32⟩ : BufTy).Contents (Elt F)),
    unary main_v16_6 main_while0b_v42 (broadcastInDim S1x1x256 ![2] bcast_S256_S1x1x256_2 : (⟨S256, .f32⟩ : BufTy).Contents (Elt F) → (⟨S1x1x256, .f32⟩ : BufTy).Contents (Elt F)),
    unary main_while0b_v42 main_while0b_v43 (broadcastInDim S128x128x256 ![0, 1, 2] bcast_S1x1x256_S128x128x256_0_1_2 : (⟨S1x1x256, .f32⟩ : BufTy).Contents (Elt F) → (⟨S128x128x256, .f32⟩ : BufTy).Contents (Elt F)),
    binary main_while0b_v43 main_while0b_v41 main_while0b_v44 (mulf : (⟨S128x128x256, .f32⟩ : BufTy).Contents (Elt F) → (⟨S128x128x256, .f32⟩ : BufTy).Contents (Elt F) → (⟨S128x128x256, .f32⟩ : BufTy).Contents (Elt F)),
    nullary main_while0b_cst_22 (constant S_ .f32 0x00000000#32),
    binary main_while0b_v44 main_while0b_cst_22 main_while0b_v45 ((fun x v => Host.reduceAdd x v reducesTo_S128x128x256_S128x128_d2 h_S_) : (⟨S128x128x256, .f32⟩ : BufTy).Contents (Elt F) → (⟨S_, .f32⟩ : BufTy).Contents (Elt F) → (⟨S128x128, .f32⟩ : BufTy).Contents (Elt F)),
    nullary main_while0b_cst_23 (constant S_ .f32 0x3F800000#32),
    unary main_while0b_cst_23 main_while0b_v46 (broadcastInDim S128x128 ![] bcast_S_S128x128 : (⟨S_, .f32⟩ : BufTy).Contents (Elt F) → (⟨S128x128, .f32⟩ : BufTy).Contents (Elt F)),
    binary main_while0b_v45 main_while0b_v46 main_while0b_v47 (Host.divf : (⟨S128x128, .f32⟩ : BufTy).Contents (Elt F) → (⟨S128x128, .f32⟩ : BufTy).Contents (Elt F) → (⟨S128x128, .f32⟩ : BufTy).Contents (Elt F)),
    unary main_while0b_v47 main_while0b_v48 (Host.tanh : (⟨S128x128, .f32⟩ : BufTy).Contents (Elt F) → (⟨S128x128, .f32⟩ : BufTy).Contents (Elt F)),
    nullary main_while0b_cst_24 (constant S_ .f32 0x41200000#32),
    unary main_while0b_cst_24 main_while0b_v49 (broadcastInDim S128x128 ![] bcast_S_S128x128 : (⟨S_, .f32⟩ : BufTy).Contents (Elt F) → (⟨S128x128, .f32⟩ : BufTy).Contents (Elt F)),
    binary main_while0b_v49 main_while0b_v48 main_while0b_v50 (mulf : (⟨S128x128, .f32⟩ : BufTy).Contents (Elt F) → (⟨S128x128, .f32⟩ : BufTy).Contents (Elt F) → (⟨S128x128, .f32⟩ : BufTy).Contents (Elt F)),
    nullary main_while0b_cst_25 (constant S_ .f32 0x4CBEBC20#32),
    unary main_while0b_cst_25 main_while0b_v51 (broadcastInDim S128x128 ![] bcast_S_S128x128 : (⟨S_, .f32⟩ : BufTy).Contents (Elt F) → (⟨S128x128, .f32⟩ : BufTy).Contents (Elt F)),
    binary main_while0b_v51 main_v16_11 main_while0b_v52 (mulf : (⟨S128x128, .f32⟩ : BufTy).Contents (Elt F) → (⟨S128x128, .f32⟩ : BufTy).Contents (Elt F) → (⟨S128x128, .f32⟩ : BufTy).Contents (Elt F)),
    binary main_while0b_v50 main_while0b_v52 main_while0b_v53 (subf : (⟨S128x128, .f32⟩ : BufTy).Contents (Elt F) → (⟨S128x128, .f32⟩ : BufTy).Contents (Elt F) → (⟨S128x128, .f32⟩ : BufTy).Contents (Elt F)),
    nullary main_while0b_cst_26 (constant S_ .f32 0xCCBEBC20#32),
    nullary main_while0b_cst_27 (constant S_ .f32 0x4CBEBC20#32) ]
/-- Each touches buffers of the TensorCore only. -/
theorem while0Ops0_3_sub : (while0Ops0_3 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., unary_bufs_sub .., binary_bufs_sub .., nullary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., nullary_bufs_sub ..⟩
/-- 6 host operations of @clip (main_while0b_call2), in order. -/
abbrev while0Ops0_4 : List (HloOp τ sig (Elt F)) :=
  [ TRef.unary (.of main_while0b_cst_26 : TRef sig ⟨S_, .f32⟩) (.of main_while0b_call2_v0 : TRef sig ⟨S_, .f32⟩) id,
    TRef.unary (.of main_while0b_call2_v0 : TRef sig ⟨S_, .f32⟩) (.of main_while0b_call2_v1 : TRef sig ⟨S128x128, .f32⟩) (broadcastInDim S128x128 ![] bcast_S_S128x128),
    TRef.binary (.of main_while0b_call2_v1 : TRef sig ⟨S128x128, .f32⟩) (.of main_while0b_v53 : TRef sig ⟨S128x128, .f32⟩) (.of main_while0b_call2_v2 : TRef sig ⟨S128x128, .f32⟩) maximumf,
    TRef.unary (.of main_while0b_cst_27 : TRef sig ⟨S_, .f32⟩) (.of main_while0b_call2_v3 : TRef sig ⟨S_, .f32⟩) id,
    TRef.unary (.of main_while0b_call2_v3 : TRef sig ⟨S_, .f32⟩) (.of main_while0b_call2_v4 : TRef sig ⟨S128x128, .f32⟩) (broadcastInDim S128x128 ![] bcast_S_S128x128),
    TRef.binary (.of main_while0b_call2_v4 : TRef sig ⟨S128x128, .f32⟩) (.of main_while0b_call2_v2 : TRef sig ⟨S128x128, .f32⟩) (.of main_while0b_v54 : TRef sig ⟨S128x128, .f32⟩) minimumf ]
/-- Each touches buffers of the TensorCore only. -/
theorem while0Ops0_4_sub : (while0Ops0_4 : List (HloOp τ sig (Elt F))).Forall fun op => op.bufs ⊆ tcRefs τ sig :=
  ⟨unary_bufs_sub .., unary_bufs_sub .., binary_bufs_sub .., unary_bufs_sub .., unary_bufs_sub .., binary_bufs_sub ..⟩
/-- 1 host operation of host loop 0's body region, in order. -/
abbrev while0Ops0_5 : List (HloOp τ sig (Elt F)) :=
  [ unary main_while0b_v20 main_while0b_v55 (id : (⟨S_, .i32⟩ : BufTy).Contents (Elt F) → (⟨S_, .i32⟩ : BufTy).Contents (Elt F)) ]
/-- Each touches buffers of the TensorCore only. -/
theorem while0Ops0_5_sub : (while0Ops0_5 : List (HloOp τ sig (Elt F))).Forall fun op => op.bufs ⊆ tcRefs τ sig :=
  unary_bufs_sub ..
set_option maxHeartbeats 40000000 in
/-- 236 host operations of @_threefry_fold_in (main_while0b_call3), in order. -/
abbrev while0Ops0_6 : List (HloOp τ sig (Elt F)) :=
  ( TRef.nullary (.of main_while0b_call3_c : TRef sig ⟨S_, .i32⟩) (constantI S_ 32 32#32)
  :: TRef.binary (.of main_while0b_v55 : TRef sig ⟨S_, .i32⟩) (.of main_while0b_call3_c : TRef sig ⟨S_, .i32⟩) (.of main_while0b_call3_v0 : TRef sig ⟨S_, .i32⟩) Host.shrui
  :: TRef.unary (.of main_while0b_call3_v0 : TRef sig ⟨S_, .i32⟩) (.of main_while0b_call3_v1 : TRef sig ⟨S1, .i32⟩) (broadcastInDim S1 ![] bcast_S_S1)
  :: TRef.nullary (.of main_while0b_call3_c_0 : TRef sig ⟨S_, .i32⟩) (constantI S_ 32 4294967295#32)
  :: TRef.binary (.of main_while0b_v55 : TRef sig ⟨S_, .i32⟩) (.of main_while0b_call3_c_0 : TRef sig ⟨S_, .i32⟩) (.of main_while0b_call3_v2 : TRef sig ⟨S_, .i32⟩) andi
  :: TRef.unary (.of main_while0b_call3_v2 : TRef sig ⟨S_, .i32⟩) (.of main_while0b_call3_v3 : TRef sig ⟨S1, .i32⟩) (broadcastInDim S1 ![] bcast_S_S1)
  :: TRef.binary (.of main_while0b_call3_v1 : TRef sig ⟨S1, .i32⟩) (.of main_while0b_call3_v3 : TRef sig ⟨S1, .i32⟩) (.of main_while0b_call3_v4 : TRef sig ⟨S2, .i32⟩) (fun a b => concatenate S2 0 [⟨S1, a⟩, ⟨S1, b⟩] concatenates_S1_S1_S2_d0)
  :: TRef.unary (.of main_v16_7 : TRef sig ⟨S2, .i32⟩) (.of main_while0b_call3_v5 : TRef sig ⟨S1, .i32⟩) (extractStridedSlice S1 ![0] · slices_S2_S1_0)
  :: TRef.reshape (.of main_while0b_call3_v5 : TRef sig ⟨S1, .i32⟩) (.of main_while0b_call3_v6 : TRef sig ⟨S_, .i32⟩) (rfl : (.i32 : EltTy) = .i32) shapeCasts_S1_S_
  :: TRef.unary (.of main_v16_7 : TRef sig ⟨S2, .i32⟩) (.of main_while0b_call3_v7 : TRef sig ⟨S1, .i32⟩) (extractStridedSlice S1 ![1] · slices_S2_S1_1)
  :: TRef.reshape (.of main_while0b_call3_v7 : TRef sig ⟨S1, .i32⟩) (.of main_while0b_call3_v8 : TRef sig ⟨S_, .i32⟩) (rfl : (.i32 : EltTy) = .i32) shapeCasts_S1_S_
  :: TRef.unary (.of main_while0b_call3_v4 : TRef sig ⟨S2, .i32⟩) (.of main_while0b_call3_v9 : TRef sig ⟨S1, .i32⟩) (extractStridedSlice S1 ![0] · slices_S2_S1_0)
  :: TRef.unary (.of main_while0b_call3_v4 : TRef sig ⟨S2, .i32⟩) (.of main_while0b_call3_v10 : TRef sig ⟨S1, .i32⟩) (extractStridedSlice S1 ![1] · slices_S2_S1_1)
  :: TRef.binary (.of main_while0b_call3_v6 : TRef sig ⟨S_, .i32⟩) (.of main_while0b_call3_v8 : TRef sig ⟨S_, .i32⟩) (.of main_while0b_call3_call0_v0 : TRef sig ⟨S_, .i32⟩) xori
  :: TRef.nullary (.of main_while0b_call3_call0_c : TRef sig ⟨S_, .i32⟩) (constantI S_ 32 466688986#32)
  :: TRef.binary (.of main_while0b_call3_call0_v0 : TRef sig ⟨S_, .i32⟩) (.of main_while0b_call3_call0_c : TRef sig ⟨S_, .i32⟩) (.of main_while0b_call3_call0_v1 : TRef sig ⟨S_, .i32⟩) xori
  :: TRef.unary (.of main_while0b_call3_v6 : TRef sig ⟨S_, .i32⟩) (.of main_while0b_call3_call0_v2 : TRef sig ⟨S1, .i32⟩) (broadcastInDim S1 ![] bcast_S_S1)
  :: TRef.binary (.of main_while0b_call3_v9 : TRef sig ⟨S1, .i32⟩) (.of main_while0b_call3_call0_v2 : TRef sig ⟨S1, .i32⟩) (.of main_while0b_call3_call0_v3 : TRef sig ⟨S1, .i32⟩) addi
  :: TRef.unary (.of main_while0b_call3_v8 : TRef sig ⟨S_, .i32⟩) (.of main_while0b_call3_call0_v4 : TRef sig ⟨S1, .i32⟩) (broadcastInDim S1 ![] bcast_S_S1)
  :: TRef.binary (.of main_while0b_call3_v10 : TRef sig ⟨S1, .i32⟩) (.of main_while0b_call3_call0_v4 : TRef sig ⟨S1, .i32⟩) (.of main_while0b_call3_call0_v5 : TRef sig ⟨S1, .i32⟩) addi
  :: TRef.binary (.of main_while0b_call3_call0_v3 : TRef sig ⟨S1, .i32⟩) (.of main_while0b_call3_call0_v5 : TRef sig ⟨S1, .i32⟩) (.of main_while0b_call3_call0_v6 : TRef sig ⟨S1, .i32⟩) addi
  :: TRef.nullary (.of main_while0b_call3_call0_c_0 : TRef sig ⟨S_, .i32⟩) (constantI S_ 32 13#32)
  :: TRef.unary (.of main_while0b_call3_call0_c_0 : TRef sig ⟨S_, .i32⟩) (.of main_while0b_call3_call0_v7 : TRef sig ⟨S1, .i32⟩) (broadcastInDim S1 ![] bcast_S_S1)
  :: TRef.binary (.of main_while0b_call3_call0_v5 : TRef sig ⟨S1, .i32⟩) (.of main_while0b_call3_call0_v7 : TRef sig ⟨S1, .i32⟩) (.of main_while0b_call3_call0_v8 : TRef sig ⟨S1, .i32⟩) Host.shli
  :: TRef.nullary (.of main_while0b_call3_call0_c_1 : TRef sig ⟨S_, .i32⟩) (constantI S_ 32 19#32)
  :: TRef.unary (.of main_while0b_call3_call0_c_1 : TRef sig ⟨S_, .i32⟩) (.of main_while0b_call3_call0_v9 : TRef sig ⟨S1, .i32⟩) (broadcastInDim S1 ![] bcast_S_S1)
  :: TRef.binary (.of main_while0b_call3_call0_v5 : TRef sig ⟨S1, .i32⟩) (.of main_while0b_call3_call0_v9 : TRef sig ⟨S1, .i32⟩) (.of main_while0b_call3_call0_v10 : TRef sig ⟨S1, .i32⟩) Host.shrui
  :: TRef.binary (.of main_while0b_call3_call0_v8 : TRef sig ⟨S1, .i32⟩) (.of main_while0b_call3_call0_v10 : TRef sig ⟨S1, .i32⟩) (.of main_while0b_call3_call0_v11 : TRef sig ⟨S1, .i32⟩) ori
  :: TRef.binary (.of main_while0b_call3_call0_v6 : TRef sig ⟨S1, .i32⟩) (.of main_while0b_call3_call0_v11 : TRef sig ⟨S1, .i32⟩) (.of main_while0b_call3_call0_v12 : TRef sig ⟨S1, .i32⟩) xori
  :: TRef.binary (.of main_while0b_call3_call0_v6 : TRef sig ⟨S1, .i32⟩) (.of main_while0b_call3_call0_v12 : TRef sig ⟨S1, .i32⟩) (.of main_while0b_call3_call0_v13 : TRef sig ⟨S1, .i32⟩) addi
  :: TRef.nullary (.of main_while0b_call3_call0_c_2 : TRef sig ⟨S_, .i32⟩) (constantI S_ 32 15#32)
  :: TRef.unary (.of main_while0b_call3_call0_c_2 : TRef sig ⟨S_, .i32⟩) (.of main_while0b_call3_call0_v14 : TRef sig ⟨S1, .i32⟩) (broadcastInDim S1 ![] bcast_S_S1)
  :: TRef.binary (.of main_while0b_call3_call0_v12 : TRef sig ⟨S1, .i32⟩) (.of main_while0b_call3_call0_v14 : TRef sig ⟨S1, .i32⟩) (.of main_while0b_call3_call0_v15 : TRef sig ⟨S1, .i32⟩) Host.shli
  :: TRef.nullary (.of main_while0b_call3_call0_c_3 : TRef sig ⟨S_, .i32⟩) (constantI S_ 32 17#32)
  :: TRef.unary (.of main_while0b_call3_call0_c_3 : TRef sig ⟨S_, .i32⟩) (.of main_while0b_call3_call0_v16 : TRef sig ⟨S1, .i32⟩) (broadcastInDim S1 ![] bcast_S_S1)
  :: TRef.binary (.of main_while0b_call3_call0_v12 : TRef sig ⟨S1, .i32⟩) (.of main_while0b_call3_call0_v16 : TRef sig ⟨S1, .i32⟩) (.of main_while0b_call3_call0_v17 : TRef sig ⟨S1, .i32⟩) Host.shrui
  :: TRef.binary (.of main_while0b_call3_call0_v15 : TRef sig ⟨S1, .i32⟩) (.of main_while0b_call3_call0_v17 : TRef sig ⟨S1, .i32⟩) (.of main_while0b_call3_call0_v18 : TRef sig ⟨S1, .i32⟩) ori
  :: TRef.binary (.of main_while0b_call3_call0_v13 : TRef sig ⟨S1, .i32⟩) (.of main_while0b_call3_call0_v18 : TRef sig ⟨S1, .i32⟩) (.of main_while0b_call3_call0_v19 : TRef sig ⟨S1, .i32⟩) xori
  :: TRef.binary (.of main_while0b_call3_call0_v13 : TRef sig ⟨S1, .i32⟩) (.of main_while0b_call3_call0_v19 : TRef sig ⟨S1, .i32⟩) (.of main_while0b_call3_call0_v20 : TRef sig ⟨S1, .i32⟩) addi
  :: TRef.nullary (.of main_while0b_call3_call0_c_4 : TRef sig ⟨S_, .i32⟩) (constantI S_ 32 26#32)
  :: TRef.unary (.of main_while0b_call3_call0_c_4 : TRef sig ⟨S_, .i32⟩) (.of main_while0b_call3_call0_v21 : TRef sig ⟨S1, .i32⟩) (broadcastInDim S1 ![] bcast_S_S1)
  :: TRef.binary (.of main_while0b_call3_call0_v19 : TRef sig ⟨S1, .i32⟩) (.of main_while0b_call3_call0_v21 : TRef sig ⟨S1, .i32⟩) (.of main_while0b_call3_call0_v22 : TRef sig ⟨S1, .i32⟩) Host.shli
  :: TRef.nullary (.of main_while0b_call3_call0_c_5 : TRef sig ⟨S_, .i32⟩) (constantI S_ 32 6#32)
  :: TRef.unary (.of main_while0b_call3_call0_c_5 : TRef sig ⟨S_, .i32⟩) (.of main_while0b_call3_call0_v23 : TRef sig ⟨S1, .i32⟩) (broadcastInDim S1 ![] bcast_S_S1)
  :: TRef.binary (.of main_while0b_call3_call0_v19 : TRef sig ⟨S1, .i32⟩) (.of main_while0b_call3_call0_v23 : TRef sig ⟨S1, .i32⟩) (.of main_while0b_call3_call0_v24 : TRef sig ⟨S1, .i32⟩) Host.shrui
  :: TRef.binary (.of main_while0b_call3_call0_v22 : TRef sig ⟨S1, .i32⟩) (.of main_while0b_call3_call0_v24 : TRef sig ⟨S1, .i32⟩) (.of main_while0b_call3_call0_v25 : TRef sig ⟨S1, .i32⟩) ori
  :: TRef.binary (.of main_while0b_call3_call0_v20 : TRef sig ⟨S1, .i32⟩) (.of main_while0b_call3_call0_v25 : TRef sig ⟨S1, .i32⟩) (.of main_while0b_call3_call0_v26 : TRef sig ⟨S1, .i32⟩) xori
  :: TRef.binary (.of main_while0b_call3_call0_v20 : TRef sig ⟨S1, .i32⟩) (.of main_while0b_call3_call0_v26 : TRef sig ⟨S1, .i32⟩) (.of main_while0b_call3_call0_v27 : TRef sig ⟨S1, .i32⟩) addi
  :: TRef.nullary (.of main_while0b_call3_call0_c_6 : TRef sig ⟨S_, .i32⟩) (constantI S_ 32 6#32)
  :: TRef.unary (.of main_while0b_call3_call0_c_6 : TRef sig ⟨S_, .i32⟩) (.of main_while0b_call3_call0_v28 : TRef sig ⟨S1, .i32⟩) (broadcastInDim S1 ![] bcast_S_S1)
  :: TRef.binary (.of main_while0b_call3_call0_v26 : TRef sig ⟨S1, .i32⟩) (.of main_while0b_call3_call0_v28 : TRef sig ⟨S1, .i32⟩) (.of main_while0b_call3_call0_v29 : TRef sig ⟨S1, .i32⟩) Host.shli
  :: TRef.nullary (.of main_while0b_call3_call0_c_7 : TRef sig ⟨S_, .i32⟩) (constantI S_ 32 26#32)
  :: TRef.unary (.of main_while0b_call3_call0_c_7 : TRef sig ⟨S_, .i32⟩) (.of main_while0b_call3_call0_v30 : TRef sig ⟨S1, .i32⟩) (broadcastInDim S1 ![] bcast_S_S1)
  :: TRef.binary (.of main_while0b_call3_call0_v26 : TRef sig ⟨S1, .i32⟩) (.of main_while0b_call3_call0_v30 : TRef sig ⟨S1, .i32⟩) (.of main_while0b_call3_call0_v31 : TRef sig ⟨S1, .i32⟩) Host.shrui
  :: TRef.binary (.of main_while0b_call3_call0_v29 : TRef sig ⟨S1, .i32⟩) (.of main_while0b_call3_call0_v31 : TRef sig ⟨S1, .i32⟩) (.of main_while0b_call3_call0_v32 : TRef sig ⟨S1, .i32⟩) ori
  :: TRef.binary (.of main_while0b_call3_call0_v27 : TRef sig ⟨S1, .i32⟩) (.of main_while0b_call3_call0_v32 : TRef sig ⟨S1, .i32⟩) (.of main_while0b_call3_call0_v33 : TRef sig ⟨S1, .i32⟩) xori
  :: TRef.unary (.of main_while0b_call3_v8 : TRef sig ⟨S_, .i32⟩) (.of main_while0b_call3_call0_v34 : TRef sig ⟨S1, .i32⟩) (broadcastInDim S1 ![] bcast_S_S1)
  :: TRef.binary (.of main_while0b_call3_call0_v27 : TRef sig ⟨S1, .i32⟩) (.of main_while0b_call3_call0_v34 : TRef sig ⟨S1, .i32⟩) (.of main_while0b_call3_call0_v35 : TRef sig ⟨S1, .i32⟩) addi
  :: TRef.unary (.of main_while0b_call3_call0_v1 : TRef sig ⟨S_, .i32⟩) (.of main_while0b_call3_call0_v36 : TRef sig ⟨S1, .i32⟩) (broadcastInDim S1 ![] bcast_S_S1)
  :: TRef.binary (.of main_while0b_call3_call0_v33 : TRef sig ⟨S1, .i32⟩) (.of main_while0b_call3_call0_v36 : TRef sig ⟨S1, .i32⟩) (.of main_while0b_call3_call0_v37 : TRef sig ⟨S1, .i32⟩) addi
  :: TRef.nullary (.of main_while0b_call3_call0_c_8 : TRef sig ⟨S_, .i32⟩) (constantI S_ 32 1#32)
  :: TRef.unary (.of main_while0b_call3_call0_c_8 : TRef sig ⟨S_, .i32⟩) (.of main_while0b_call3_call0_v38 : TRef sig ⟨S1, .i32⟩) (broadcastInDim S1 ![] bcast_S_S1)
  :: TRef.binary (.of main_while0b_call3_call0_v37 : TRef sig ⟨S1, .i32⟩) (.of main_while0b_call3_call0_v38 : TRef sig ⟨S1, .i32⟩) (.of main_while0b_call3_call0_v39 : TRef sig ⟨S1, .i32⟩) addi
  :: TRef.binary (.of main_while0b_call3_call0_v35 : TRef sig ⟨S1, .i32⟩) (.of main_while0b_call3_call0_v39 : TRef sig ⟨S1, .i32⟩) (.of main_while0b_call3_call0_v40 : TRef sig ⟨S1, .i32⟩) addi
  :: TRef.nullary (.of main_while0b_call3_call0_c_9 : TRef sig ⟨S_, .i32⟩) (constantI S_ 32 17#32)
  :: TRef.unary (.of main_while0b_call3_call0_c_9 : TRef sig ⟨S_, .i32⟩) (.of main_while0b_call3_call0_v41 : TRef sig ⟨S1, .i32⟩) (broadcastInDim S1 ![] bcast_S_S1)
  :: TRef.binary (.of main_while0b_call3_call0_v39 : TRef sig ⟨S1, .i32⟩) (.of main_while0b_call3_call0_v41 : TRef sig ⟨S1, .i32⟩) (.of main_while0b_call3_call0_v42 : TRef sig ⟨S1, .i32⟩) Host.shli
  :: TRef.nullary (.of main_while0b_call3_call0_c_10 : TRef sig ⟨S_, .i32⟩) (constantI S_ 32 15#32)
  :: TRef.unary (.of main_while0b_call3_call0_c_10 : TRef sig ⟨S_, .i32⟩) (.of main_while0b_call3_call0_v43 : TRef sig ⟨S1, .i32⟩) (broadcastInDim S1 ![] bcast_S_S1)
  :: TRef.binary (.of main_while0b_call3_call0_v39 : TRef sig ⟨S1, .i32⟩) (.of main_while0b_call3_call0_v43 : TRef sig ⟨S1, .i32⟩) (.of main_while0b_call3_call0_v44 : TRef sig ⟨S1, .i32⟩) Host.shrui
  :: TRef.binary (.of main_while0b_call3_call0_v42 : TRef sig ⟨S1, .i32⟩) (.of main_while0b_call3_call0_v44 : TRef sig ⟨S1, .i32⟩) (.of main_while0b_call3_call0_v45 : TRef sig ⟨S1, .i32⟩) ori
  :: TRef.binary (.of main_while0b_call3_call0_v40 : TRef sig ⟨S1, .i32⟩) (.of main_while0b_call3_call0_v45 : TRef sig ⟨S1, .i32⟩) (.of main_while0b_call3_call0_v46 : TRef sig ⟨S1, .i32⟩) xori
  :: TRef.binary (.of main_while0b_call3_call0_v40 : TRef sig ⟨S1, .i32⟩) (.of main_while0b_call3_call0_v46 : TRef sig ⟨S1, .i32⟩) (.of main_while0b_call3_call0_v47 : TRef sig ⟨S1, .i32⟩) addi
  :: TRef.nullary (.of main_while0b_call3_call0_c_11 : TRef sig ⟨S_, .i32⟩) (constantI S_ 32 29#32)
  :: TRef.unary (.of main_while0b_call3_call0_c_11 : TRef sig ⟨S_, .i32⟩) (.of main_while0b_call3_call0_v48 : TRef sig ⟨S1, .i32⟩) (broadcastInDim S1 ![] bcast_S_S1)
  :: TRef.binary (.of main_while0b_call3_call0_v46 : TRef sig ⟨S1, .i32⟩) (.of main_while0b_call3_call0_v48 : TRef sig ⟨S1, .i32⟩) (.of main_while0b_call3_call0_v49 : TRef sig ⟨S1, .i32⟩) Host.shli
  :: TRef.nullary (.of main_while0b_call3_call0_c_12 : TRef sig ⟨S_, .i32⟩) (constantI S_ 32 3#32)
  :: TRef.unary (.of main_while0b_call3_call0_c_12 : TRef sig ⟨S_, .i32⟩) (.of main_while0b_call3_call0_v50 : TRef sig ⟨S1, .i32⟩) (broadcastInDim S1 ![] bcast_S_S1)
  :: TRef.binary (.of main_while0b_call3_call0_v46 : TRef sig ⟨S1, .i32⟩) (.of main_while0b_call3_call0_v50 : TRef sig ⟨S1, .i32⟩) (.of main_while0b_call3_call0_v51 : TRef sig ⟨S1, .i32⟩) Host.shrui
  :: TRef.binary (.of main_while0b_call3_call0_v49 : TRef sig ⟨S1, .i32⟩) (.of main_while0b_call3_call0_v51 : TRef sig ⟨S1, .i32⟩) (.of main_while0b_call3_call0_v52 : TRef sig ⟨S1, .i32⟩) ori
  :: TRef.binary (.of main_while0b_call3_call0_v47 : TRef sig ⟨S1, .i32⟩) (.of main_while0b_call3_call0_v52 : TRef sig ⟨S1, .i32⟩) (.of main_while0b_call3_call0_v53 : TRef sig ⟨S1, .i32⟩) xori
  :: TRef.binary (.of main_while0b_call3_call0_v47 : TRef sig ⟨S1, .i32⟩) (.of main_while0b_call3_call0_v53 : TRef sig ⟨S1, .i32⟩) (.of main_while0b_call3_call0_v54 : TRef sig ⟨S1, .i32⟩) addi
  :: TRef.nullary (.of main_while0b_call3_call0_c_13 : TRef sig ⟨S_, .i32⟩) (constantI S_ 32 16#32)
  :: TRef.unary (.of main_while0b_call3_call0_c_13 : TRef sig ⟨S_, .i32⟩) (.of main_while0b_call3_call0_v55 : TRef sig ⟨S1, .i32⟩) (broadcastInDim S1 ![] bcast_S_S1)
  :: TRef.binary (.of main_while0b_call3_call0_v53 : TRef sig ⟨S1, .i32⟩) (.of main_while0b_call3_call0_v55 : TRef sig ⟨S1, .i32⟩) (.of main_while0b_call3_call0_v56 : TRef sig ⟨S1, .i32⟩) Host.shli
  :: TRef.nullary (.of main_while0b_call3_call0_c_14 : TRef sig ⟨S_, .i32⟩) (constantI S_ 32 16#32)
  :: TRef.unary (.of main_while0b_call3_call0_c_14 : TRef sig ⟨S_, .i32⟩) (.of main_while0b_call3_call0_v57 : TRef sig ⟨S1, .i32⟩) (broadcastInDim S1 ![] bcast_S_S1)
  :: TRef.binary (.of main_while0b_call3_call0_v53 : TRef sig ⟨S1, .i32⟩) (.of main_while0b_call3_call0_v57 : TRef sig ⟨S1, .i32⟩) (.of main_while0b_call3_call0_v58 : TRef sig ⟨S1, .i32⟩) Host.shrui
  :: TRef.binary (.of main_while0b_call3_call0_v56 : TRef sig ⟨S1, .i32⟩) (.of main_while0b_call3_call0_v58 : TRef sig ⟨S1, .i32⟩) (.of main_while0b_call3_call0_v59 : TRef sig ⟨S1, .i32⟩) ori
  :: TRef.binary (.of main_while0b_call3_call0_v54 : TRef sig ⟨S1, .i32⟩) (.of main_while0b_call3_call0_v59 : TRef sig ⟨S1, .i32⟩) (.of main_while0b_call3_call0_v60 : TRef sig ⟨S1, .i32⟩) xori
  :: TRef.binary (.of main_while0b_call3_call0_v54 : TRef sig ⟨S1, .i32⟩) (.of main_while0b_call3_call0_v60 : TRef sig ⟨S1, .i32⟩) (.of main_while0b_call3_call0_v61 : TRef sig ⟨S1, .i32⟩) addi
  :: TRef.nullary (.of main_while0b_call3_call0_c_15 : TRef sig ⟨S_, .i32⟩) (constantI S_ 32 24#32)
  :: TRef.unary (.of main_while0b_call3_call0_c_15 : TRef sig ⟨S_, .i32⟩) (.of main_while0b_call3_call0_v62 : TRef sig ⟨S1, .i32⟩) (broadcastInDim S1 ![] bcast_S_S1)
  :: TRef.binary (.of main_while0b_call3_call0_v60 : TRef sig ⟨S1, .i32⟩) (.of main_while0b_call3_call0_v62 : TRef sig ⟨S1, .i32⟩) (.of main_while0b_call3_call0_v63 : TRef sig ⟨S1, .i32⟩) Host.shli
  :: TRef.nullary (.of main_while0b_call3_call0_c_16 : TRef sig ⟨S_, .i32⟩) (constantI S_ 32 8#32)
  :: TRef.unary (.of main_while0b_call3_call0_c_16 : TRef sig ⟨S_, .i32⟩) (.of main_while0b_call3_call0_v64 : TRef sig ⟨S1, .i32⟩) (broadcastInDim S1 ![] bcast_S_S1)
  :: TRef.binary (.of main_while0b_call3_call0_v60 : TRef sig ⟨S1, .i32⟩) (.of main_while0b_call3_call0_v64 : TRef sig ⟨S1, .i32⟩) (.of main_while0b_call3_call0_v65 : TRef sig ⟨S1, .i32⟩) Host.shrui
  :: TRef.binary (.of main_while0b_call3_call0_v63 : TRef sig ⟨S1, .i32⟩) (.of main_while0b_call3_call0_v65 : TRef sig ⟨S1, .i32⟩) (.of main_while0b_call3_call0_v66 : TRef sig ⟨S1, .i32⟩) ori
  :: TRef.binary (.of main_while0b_call3_call0_v61 : TRef sig ⟨S1, .i32⟩) (.of main_while0b_call3_call0_v66 : TRef sig ⟨S1, .i32⟩) (.of main_while0b_call3_call0_v67 : TRef sig ⟨S1, .i32⟩) xori
  :: TRef.unary (.of main_while0b_call3_call0_v1 : TRef sig ⟨S_, .i32⟩) (.of main_while0b_call3_call0_v68 : TRef sig ⟨S1, .i32⟩) (broadcastInDim S1 ![] bcast_S_S1)
  :: TRef.binary (.of main_while0b_call3_call0_v61 : TRef sig ⟨S1, .i32⟩) (.of main_while0b_call3_call0_v68 : TRef sig ⟨S1, .i32⟩) (.of main_while0b_call3_call0_v69 : TRef sig ⟨S1, .i32⟩) addi
  :: TRef.unary (.of main_while0b_call3_v6 : TRef sig ⟨S_, .i32⟩) (.of main_while0b_call3_call0_v70 : TRef sig ⟨S1, .i32⟩) (broadcastInDim S1 ![] bcast_S_S1)
  :: TRef.binary (.of main_while0b_call3_call0_v67 : TRef sig ⟨S1, .i32⟩) (.of main_while0b_call3_call0_v70 : TRef sig ⟨S1, .i32⟩) (.of main_while0b_call3_call0_v71 : TRef sig ⟨S1, .i32⟩) addi
  :: TRef.nullary (.of main_while0b_call3_call0_c_17 : TRef sig ⟨S_, .i32⟩) (constantI S_ 32 2#32)
  :: TRef.unary (.of main_while0b_call3_call0_c_17 : TRef sig ⟨S_, .i32⟩) (.of main_while0b_call3_call0_v72 : TRef sig ⟨S1, .i32⟩) (broadcastInDim S1 ![] bcast_S_S1)
  :: TRef.binary (.of main_while0b_call3_call0_v71 : TRef sig ⟨S1, .i32⟩) (.of main_while0b_call3_call0_v72 : TRef sig ⟨S1, .i32⟩) (.of main_while0b_call3_call0_v73 : TRef sig ⟨S1, .i32⟩) addi
  :: TRef.binary (.of main_while0b_call3_call0_v69 : TRef sig ⟨S1, .i32⟩) (.of main_while0b_call3_call0_v73 : TRef sig ⟨S1, .i32⟩) (.of main_while0b_call3_call0_v74 : TRef sig ⟨S1, .i32⟩) addi
  :: TRef.nullary (.of main_while0b_call3_call0_c_18 : TRef sig ⟨S_, .i32⟩) (constantI S_ 32 13#32)
  :: TRef.unary (.of main_while0b_call3_call0_c_18 : TRef sig ⟨S_, .i32⟩) (.of main_while0b_call3_call0_v75 : TRef sig ⟨S1, .i32⟩) (broadcastInDim S1 ![] bcast_S_S1)
  :: TRef.binary (.of main_while0b_call3_call0_v73 : TRef sig ⟨S1, .i32⟩) (.of main_while0b_call3_call0_v75 : TRef sig ⟨S1, .i32⟩) (.of main_while0b_call3_call0_v76 : TRef sig ⟨S1, .i32⟩) Host.shli
  :: TRef.nullary (.of main_while0b_call3_call0_c_19 : TRef sig ⟨S_, .i32⟩) (constantI S_ 32 19#32)
  :: TRef.unary (.of main_while0b_call3_call0_c_19 : TRef sig ⟨S_, .i32⟩) (.of main_while0b_call3_call0_v77 : TRef sig ⟨S1, .i32⟩) (broadcastInDim S1 ![] bcast_S_S1)
  :: TRef.binary (.of main_while0b_call3_call0_v73 : TRef sig ⟨S1, .i32⟩) (.of main_while0b_call3_call0_v77 : TRef sig ⟨S1, .i32⟩) (.of main_while0b_call3_call0_v78 : TRef sig ⟨S1, .i32⟩) Host.shrui
  :: TRef.binary (.of main_while0b_call3_call0_v76 : TRef sig ⟨S1, .i32⟩) (.of main_while0b_call3_call0_v78 : TRef sig ⟨S1, .i32⟩) (.of main_while0b_call3_call0_v79 : TRef sig ⟨S1, .i32⟩) ori
  :: TRef.binary (.of main_while0b_call3_call0_v74 : TRef sig ⟨S1, .i32⟩) (.of main_while0b_call3_call0_v79 : TRef sig ⟨S1, .i32⟩) (.of main_while0b_call3_call0_v80 : TRef sig ⟨S1, .i32⟩) xori
  :: TRef.binary (.of main_while0b_call3_call0_v74 : TRef sig ⟨S1, .i32⟩) (.of main_while0b_call3_call0_v80 : TRef sig ⟨S1, .i32⟩) (.of main_while0b_call3_call0_v81 : TRef sig ⟨S1, .i32⟩) addi
  :: TRef.nullary (.of main_while0b_call3_call0_c_20 : TRef sig ⟨S_, .i32⟩) (constantI S_ 32 15#32)
  :: TRef.unary (.of main_while0b_call3_call0_c_20 : TRef sig ⟨S_, .i32⟩) (.of main_while0b_call3_call0_v82 : TRef sig ⟨S1, .i32⟩) (broadcastInDim S1 ![] bcast_S_S1)
  :: TRef.binary (.of main_while0b_call3_call0_v80 : TRef sig ⟨S1, .i32⟩) (.of main_while0b_call3_call0_v82 : TRef sig ⟨S1, .i32⟩) (.of main_while0b_call3_call0_v83 : TRef sig ⟨S1, .i32⟩) Host.shli
  :: TRef.nullary (.of main_while0b_call3_call0_c_21 : TRef sig ⟨S_, .i32⟩) (constantI S_ 32 17#32)
  :: TRef.unary (.of main_while0b_call3_call0_c_21 : TRef sig ⟨S_, .i32⟩) (.of main_while0b_call3_call0_v84 : TRef sig ⟨S1, .i32⟩) (broadcastInDim S1 ![] bcast_S_S1)
  :: TRef.binary (.of main_while0b_call3_call0_v80 : TRef sig ⟨S1, .i32⟩) (.of main_while0b_call3_call0_v84 : TRef sig ⟨S1, .i32⟩) (.of main_while0b_call3_call0_v85 : TRef sig ⟨S1, .i32⟩) Host.shrui
  :: TRef.binary (.of main_while0b_call3_call0_v83 : TRef sig ⟨S1, .i32⟩) (.of main_while0b_call3_call0_v85 : TRef sig ⟨S1, .i32⟩) (.of main_while0b_call3_call0_v86 : TRef sig ⟨S1, .i32⟩) ori
  :: TRef.binary (.of main_while0b_call3_call0_v81 : TRef sig ⟨S1, .i32⟩) (.of main_while0b_call3_call0_v86 : TRef sig ⟨S1, .i32⟩) (.of main_while0b_call3_call0_v87 : TRef sig ⟨S1, .i32⟩) xori
  :: TRef.binary (.of main_while0b_call3_call0_v81 : TRef sig ⟨S1, .i32⟩) (.of main_while0b_call3_call0_v87 : TRef sig ⟨S1, .i32⟩) (.of main_while0b_call3_call0_v88 : TRef sig ⟨S1, .i32⟩) addi
  :: TRef.nullary (.of main_while0b_call3_call0_c_22 : TRef sig ⟨S_, .i32⟩) (constantI S_ 32 26#32)
  :: TRef.unary (.of main_while0b_call3_call0_c_22 : TRef sig ⟨S_, .i32⟩) (.of main_while0b_call3_call0_v89 : TRef sig ⟨S1, .i32⟩) (broadcastInDim S1 ![] bcast_S_S1)
  :: TRef.binary (.of main_while0b_call3_call0_v87 : TRef sig ⟨S1, .i32⟩) (.of main_while0b_call3_call0_v89 : TRef sig ⟨S1, .i32⟩) (.of main_while0b_call3_call0_v90 : TRef sig ⟨S1, .i32⟩) Host.shli
  :: TRef.nullary (.of main_while0b_call3_call0_c_23 : TRef sig ⟨S_, .i32⟩) (constantI S_ 32 6#32)
  :: TRef.unary (.of main_while0b_call3_call0_c_23 : TRef sig ⟨S_, .i32⟩) (.of main_while0b_call3_call0_v91 : TRef sig ⟨S1, .i32⟩) (broadcastInDim S1 ![] bcast_S_S1)
  :: TRef.binary (.of main_while0b_call3_call0_v87 : TRef sig ⟨S1, .i32⟩) (.of main_while0b_call3_call0_v91 : TRef sig ⟨S1, .i32⟩) (.of main_while0b_call3_call0_v92 : TRef sig ⟨S1, .i32⟩) Host.shrui
  :: TRef.binary (.of main_while0b_call3_call0_v90 : TRef sig ⟨S1, .i32⟩) (.of main_while0b_call3_call0_v92 : TRef sig ⟨S1, .i32⟩) (.of main_while0b_call3_call0_v93 : TRef sig ⟨S1, .i32⟩) ori
  :: TRef.binary (.of main_while0b_call3_call0_v88 : TRef sig ⟨S1, .i32⟩) (.of main_while0b_call3_call0_v93 : TRef sig ⟨S1, .i32⟩) (.of main_while0b_call3_call0_v94 : TRef sig ⟨S1, .i32⟩) xori
  :: TRef.binary (.of main_while0b_call3_call0_v88 : TRef sig ⟨S1, .i32⟩) (.of main_while0b_call3_call0_v94 : TRef sig ⟨S1, .i32⟩) (.of main_while0b_call3_call0_v95 : TRef sig ⟨S1, .i32⟩) addi
  :: TRef.nullary (.of main_while0b_call3_call0_c_24 : TRef sig ⟨S_, .i32⟩) (constantI S_ 32 6#32)
  :: TRef.unary (.of main_while0b_call3_call0_c_24 : TRef sig ⟨S_, .i32⟩) (.of main_while0b_call3_call0_v96 : TRef sig ⟨S1, .i32⟩) (broadcastInDim S1 ![] bcast_S_S1)
  :: TRef.binary (.of main_while0b_call3_call0_v94 : TRef sig ⟨S1, .i32⟩) (.of main_while0b_call3_call0_v96 : TRef sig ⟨S1, .i32⟩) (.of main_while0b_call3_call0_v97 : TRef sig ⟨S1, .i32⟩) Host.shli
  :: TRef.nullary (.of main_while0b_call3_call0_c_25 : TRef sig ⟨S_, .i32⟩) (constantI S_ 32 26#32)
  :: TRef.unary (.of main_while0b_call3_call0_c_25 : TRef sig ⟨S_, .i32⟩) (.of main_while0b_call3_call0_v98 : TRef sig ⟨S1, .i32⟩) (broadcastInDim S1 ![] bcast_S_S1)
  :: TRef.binary (.of main_while0b_call3_call0_v94 : TRef sig ⟨S1, .i32⟩) (.of main_while0b_call3_call0_v98 : TRef sig ⟨S1, .i32⟩) (.of main_while0b_call3_call0_v99 : TRef sig ⟨S1, .i32⟩) Host.shrui
  :: TRef.binary (.of main_while0b_call3_call0_v97 : TRef sig ⟨S1, .i32⟩) (.of main_while0b_call3_call0_v99 : TRef sig ⟨S1, .i32⟩) (.of main_while0b_call3_call0_v100 : TRef sig ⟨S1, .i32⟩) ori
  :: TRef.binary (.of main_while0b_call3_call0_v95 : TRef sig ⟨S1, .i32⟩) (.of main_while0b_call3_call0_v100 : TRef sig ⟨S1, .i32⟩) (.of main_while0b_call3_call0_v101 : TRef sig ⟨S1, .i32⟩) xori
  :: TRef.unary (.of main_while0b_call3_v6 : TRef sig ⟨S_, .i32⟩) (.of main_while0b_call3_call0_v102 : TRef sig ⟨S1, .i32⟩) (broadcastInDim S1 ![] bcast_S_S1)
  :: TRef.binary (.of main_while0b_call3_call0_v95 : TRef sig ⟨S1, .i32⟩) (.of main_while0b_call3_call0_v102 : TRef sig ⟨S1, .i32⟩) (.of main_while0b_call3_call0_v103 : TRef sig ⟨S1, .i32⟩) addi
  :: TRef.unary (.of main_while0b_call3_v8 : TRef sig ⟨S_, .i32⟩) (.of main_while0b_call3_call0_v104 : TRef sig ⟨S1, .i32⟩) (broadcastInDim S1 ![] bcast_S_S1)
  :: TRef.binary (.of main_while0b_call3_call0_v101 : TRef sig ⟨S1, .i32⟩) (.of main_while0b_call3_call0_v104 : TRef sig ⟨S1, .i32⟩) (.of main_while0b_call3_call0_v105 : TRef sig ⟨S1, .i32⟩) addi
  :: TRef.nullary (.of main_while0b_call3_call0_c_26 : TRef sig ⟨S_, .i32⟩) (constantI S_ 32 3#32)
  :: TRef.unary (.of main_while0b_call3_call0_c_26 : TRef sig ⟨S_, .i32⟩) (.of main_while0b_call3_call0_v106 : TRef sig ⟨S1, .i32⟩) (broadcastInDim S1 ![] bcast_S_S1)
  :: TRef.binary (.of main_while0b_call3_call0_v105 : TRef sig ⟨S1, .i32⟩) (.of main_while0b_call3_call0_v106 : TRef sig ⟨S1, .i32⟩) (.of main_while0b_call3_call0_v107 : TRef sig ⟨S1, .i32⟩) addi
  :: TRef.binary (.of main_while0b_call3_call0_v103 : TRef sig ⟨S1, .i32⟩) (.of main_while0b_call3_call0_v107 : TRef sig ⟨S1, .i32⟩) (.of main_while0b_call3_call0_v108 : TRef sig ⟨S1, .i32⟩) addi
  :: TRef.nullary (.of main_while0b_call3_call0_c_27 : TRef sig ⟨S_, .i32⟩) (constantI S_ 32 17#32)
  :: TRef.unary (.of main_while0b_call3_call0_c_27 : TRef sig ⟨S_, .i32⟩) (.of main_while0b_call3_call0_v109 : TRef sig ⟨S1, .i32⟩) (broadcastInDim S1 ![] bcast_S_S1)
  :: TRef.binary (.of main_while0b_call3_call0_v107 : TRef sig ⟨S1, .i32⟩) (.of main_while0b_call3_call0_v109 : TRef sig ⟨S1, .i32⟩) (.of main_while0b_call3_call0_v110 : TRef sig ⟨S1, .i32⟩) Host.shli
  :: TRef.nullary (.of main_while0b_call3_call0_c_28 : TRef sig ⟨S_, .i32⟩) (constantI S_ 32 15#32)
  :: TRef.unary (.of main_while0b_call3_call0_c_28 : TRef sig ⟨S_, .i32⟩) (.of main_while0b_call3_call0_v111 : TRef sig ⟨S1, .i32⟩) (broadcastInDim S1 ![] bcast_S_S1)
  :: TRef.binary (.of main_while0b_call3_call0_v107 : TRef sig ⟨S1, .i32⟩) (.of main_while0b_call3_call0_v111 : TRef sig ⟨S1, .i32⟩) (.of main_while0b_call3_call0_v112 : TRef sig ⟨S1, .i32⟩) Host.shrui
  :: TRef.binary (.of main_while0b_call3_call0_v110 : TRef sig ⟨S1, .i32⟩) (.of main_while0b_call3_call0_v112 : TRef sig ⟨S1, .i32⟩) (.of main_while0b_call3_call0_v113 : TRef sig ⟨S1, .i32⟩) ori
  :: TRef.binary (.of main_while0b_call3_call0_v108 : TRef sig ⟨S1, .i32⟩) (.of main_while0b_call3_call0_v113 : TRef sig ⟨S1, .i32⟩) (.of main_while0b_call3_call0_v114 : TRef sig ⟨S1, .i32⟩) xori
  :: TRef.binary (.of main_while0b_call3_call0_v108 : TRef sig ⟨S1, .i32⟩) (.of main_while0b_call3_call0_v114 : TRef sig ⟨S1, .i32⟩) (.of main_while0b_call3_call0_v115 : TRef sig ⟨S1, .i32⟩) addi
  :: TRef.nullary (.of main_while0b_call3_call0_c_29 : TRef sig ⟨S_, .i32⟩) (constantI S_ 32 29#32)
  :: TRef.unary (.of main_while0b_call3_call0_c_29 : TRef sig ⟨S_, .i32⟩) (.of main_while0b_call3_call0_v116 : TRef sig ⟨S1, .i32⟩) (broadcastInDim S1 ![] bcast_S_S1)
  :: TRef.binary (.of main_while0b_call3_call0_v114 : TRef sig ⟨S1, .i32⟩) (.of main_while0b_call3_call0_v116 : TRef sig ⟨S1, .i32⟩) (.of main_while0b_call3_call0_v117 : TRef sig ⟨S1, .i32⟩) Host.shli
  :: TRef.nullary (.of main_while0b_call3_call0_c_30 : TRef sig ⟨S_, .i32⟩) (constantI S_ 32 3#32)
  :: TRef.unary (.of main_while0b_call3_call0_c_30 : TRef sig ⟨S_, .i32⟩) (.of main_while0b_call3_call0_v118 : TRef sig ⟨S1, .i32⟩) (broadcastInDim S1 ![] bcast_S_S1)
  :: TRef.binary (.of main_while0b_call3_call0_v114 : TRef sig ⟨S1, .i32⟩) (.of main_while0b_call3_call0_v118 : TRef sig ⟨S1, .i32⟩) (.of main_while0b_call3_call0_v119 : TRef sig ⟨S1, .i32⟩) Host.shrui
  :: TRef.binary (.of main_while0b_call3_call0_v117 : TRef sig ⟨S1, .i32⟩) (.of main_while0b_call3_call0_v119 : TRef sig ⟨S1, .i32⟩) (.of main_while0b_call3_call0_v120 : TRef sig ⟨S1, .i32⟩) ori
  :: TRef.binary (.of main_while0b_call3_call0_v115 : TRef sig ⟨S1, .i32⟩) (.of main_while0b_call3_call0_v120 : TRef sig ⟨S1, .i32⟩) (.of main_while0b_call3_call0_v121 : TRef sig ⟨S1, .i32⟩) xori
  :: TRef.binary (.of main_while0b_call3_call0_v115 : TRef sig ⟨S1, .i32⟩) (.of main_while0b_call3_call0_v121 : TRef sig ⟨S1, .i32⟩) (.of main_while0b_call3_call0_v122 : TRef sig ⟨S1, .i32⟩) addi
  :: TRef.nullary (.of main_while0b_call3_call0_c_31 : TRef sig ⟨S_, .i32⟩) (constantI S_ 32 16#32)
  :: TRef.unary (.of main_while0b_call3_call0_c_31 : TRef sig ⟨S_, .i32⟩) (.of main_while0b_call3_call0_v123 : TRef sig ⟨S1, .i32⟩) (broadcastInDim S1 ![] bcast_S_S1)
  :: TRef.binary (.of main_while0b_call3_call0_v121 : TRef sig ⟨S1, .i32⟩) (.of main_while0b_call3_call0_v123 : TRef sig ⟨S1, .i32⟩) (.of main_while0b_call3_call0_v124 : TRef sig ⟨S1, .i32⟩) Host.shli
  :: TRef.nullary (.of main_while0b_call3_call0_c_32 : TRef sig ⟨S_, .i32⟩) (constantI S_ 32 16#32)
  :: TRef.unary (.of main_while0b_call3_call0_c_32 : TRef sig ⟨S_, .i32⟩) (.of main_while0b_call3_call0_v125 : TRef sig ⟨S1, .i32⟩) (broadcastInDim S1 ![] bcast_S_S1)
  :: TRef.binary (.of main_while0b_call3_call0_v121 : TRef sig ⟨S1, .i32⟩) (.of main_while0b_call3_call0_v125 : TRef sig ⟨S1, .i32⟩) (.of main_while0b_call3_call0_v126 : TRef sig ⟨S1, .i32⟩) Host.shrui
  :: TRef.binary (.of main_while0b_call3_call0_v124 : TRef sig ⟨S1, .i32⟩) (.of main_while0b_call3_call0_v126 : TRef sig ⟨S1, .i32⟩) (.of main_while0b_call3_call0_v127 : TRef sig ⟨S1, .i32⟩) ori
  :: TRef.binary (.of main_while0b_call3_call0_v122 : TRef sig ⟨S1, .i32⟩) (.of main_while0b_call3_call0_v127 : TRef sig ⟨S1, .i32⟩) (.of main_while0b_call3_call0_v128 : TRef sig ⟨S1, .i32⟩) xori
  :: TRef.binary (.of main_while0b_call3_call0_v122 : TRef sig ⟨S1, .i32⟩) (.of main_while0b_call3_call0_v128 : TRef sig ⟨S1, .i32⟩) (.of main_while0b_call3_call0_v129 : TRef sig ⟨S1, .i32⟩) addi
  :: TRef.nullary (.of main_while0b_call3_call0_c_33 : TRef sig ⟨S_, .i32⟩) (constantI S_ 32 24#32)
  :: TRef.unary (.of main_while0b_call3_call0_c_33 : TRef sig ⟨S_, .i32⟩) (.of main_while0b_call3_call0_v130 : TRef sig ⟨S1, .i32⟩) (broadcastInDim S1 ![] bcast_S_S1)
  :: TRef.binary (.of main_while0b_call3_call0_v128 : TRef sig ⟨S1, .i32⟩) (.of main_while0b_call3_call0_v130 : TRef sig ⟨S1, .i32⟩) (.of main_while0b_call3_call0_v131 : TRef sig ⟨S1, .i32⟩) Host.shli
  :: TRef.nullary (.of main_while0b_call3_call0_c_34 : TRef sig ⟨S_, .i32⟩) (constantI S_ 32 8#32)
  :: TRef.unary (.of main_while0b_call3_call0_c_34 : TRef sig ⟨S_, .i32⟩) (.of main_while0b_call3_call0_v132 : TRef sig ⟨S1, .i32⟩) (broadcastInDim S1 ![] bcast_S_S1)
  :: TRef.binary (.of main_while0b_call3_call0_v128 : TRef sig ⟨S1, .i32⟩) (.of main_while0b_call3_call0_v132 : TRef sig ⟨S1, .i32⟩) (.of main_while0b_call3_call0_v133 : TRef sig ⟨S1, .i32⟩) Host.shrui
  :: TRef.binary (.of main_while0b_call3_call0_v131 : TRef sig ⟨S1, .i32⟩) (.of main_while0b_call3_call0_v133 : TRef sig ⟨S1, .i32⟩) (.of main_while0b_call3_call0_v134 : TRef sig ⟨S1, .i32⟩) ori
  :: TRef.binary (.of main_while0b_call3_call0_v129 : TRef sig ⟨S1, .i32⟩) (.of main_while0b_call3_call0_v134 : TRef sig ⟨S1, .i32⟩) (.of main_while0b_call3_call0_v135 : TRef sig ⟨S1, .i32⟩) xori
  :: TRef.unary (.of main_while0b_call3_v8 : TRef sig ⟨S_, .i32⟩) (.of main_while0b_call3_call0_v136 : TRef sig ⟨S1, .i32⟩) (broadcastInDim S1 ![] bcast_S_S1)
  :: TRef.binary (.of main_while0b_call3_call0_v129 : TRef sig ⟨S1, .i32⟩) (.of main_while0b_call3_call0_v136 : TRef sig ⟨S1, .i32⟩) (.of main_while0b_call3_call0_v137 : TRef sig ⟨S1, .i32⟩) addi
  :: TRef.unary (.of main_while0b_call3_call0_v1 : TRef sig ⟨S_, .i32⟩) (.of main_while0b_call3_call0_v138 : TRef sig ⟨S1, .i32⟩) (broadcastInDim S1 ![] bcast_S_S1)
  :: TRef.binary (.of main_while0b_call3_call0_v135 : TRef sig ⟨S1, .i32⟩) (.of main_while0b_call3_call0_v138 : TRef sig ⟨S1, .i32⟩) (.of main_while0b_call3_call0_v139 : TRef sig ⟨S1, .i32⟩) addi
  :: TRef.nullary (.of main_while0b_call3_call0_c_35 : TRef sig ⟨S_, .i32⟩) (constantI S_ 32 4#32)
  :: TRef.unary (.of main_while0b_call3_call0_c_35 : TRef sig ⟨S_, .i32⟩) (.of main_while0b_call3_call0_v140 : TRef sig ⟨S1, .i32⟩) (broadcastInDim S1 ![] bcast_S_S1)
  :: TRef.binary (.of main_while0b_call3_call0_v139 : TRef sig ⟨S1, .i32⟩) (.of main_while0b_call3_call0_v140 : TRef sig ⟨S1, .i32⟩) (.of main_while0b_call3_call0_v141 : TRef sig ⟨S1, .i32⟩) addi
  :: TRef.binary (.of main_while0b_call3_call0_v137 : TRef sig ⟨S1, .i32⟩) (.of main_while0b_call3_call0_v141 : TRef sig ⟨S1, .i32⟩) (.of main_while0b_call3_call0_v142 : TRef sig ⟨S1, .i32⟩) addi
  :: TRef.nullary (.of main_while0b_call3_call0_c_36 : TRef sig ⟨S_, .i32⟩) (constantI S_ 32 13#32)
  :: TRef.unary (.of main_while0b_call3_call0_c_36 : TRef sig ⟨S_, .i32⟩) (.of main_while0b_call3_call0_v143 : TRef sig ⟨S1, .i32⟩) (broadcastInDim S1 ![] bcast_S_S1)
  :: TRef.binary (.of main_while0b_call3_call0_v141 : TRef sig ⟨S1, .i32⟩) (.of main_while0b_call3_call0_v143 : TRef sig ⟨S1, .i32⟩) (.of main_while0b_call3_call0_v144 : TRef sig ⟨S1, .i32⟩) Host.shli
  :: TRef.nullary (.of main_while0b_call3_call0_c_37 : TRef sig ⟨S_, .i32⟩) (constantI S_ 32 19#32)
  :: TRef.unary (.of main_while0b_call3_call0_c_37 : TRef sig ⟨S_, .i32⟩) (.of main_while0b_call3_call0_v145 : TRef sig ⟨S1, .i32⟩) (broadcastInDim S1 ![] bcast_S_S1)
  :: TRef.binary (.of main_while0b_call3_call0_v141 : TRef sig ⟨S1, .i32⟩) (.of main_while0b_call3_call0_v145 : TRef sig ⟨S1, .i32⟩) (.of main_while0b_call3_call0_v146 : TRef sig ⟨S1, .i32⟩) Host.shrui
  :: TRef.binary (.of main_while0b_call3_call0_v144 : TRef sig ⟨S1, .i32⟩) (.of main_while0b_call3_call0_v146 : TRef sig ⟨S1, .i32⟩) (.of main_while0b_call3_call0_v147 : TRef sig ⟨S1, .i32⟩) ori
  :: TRef.binary (.of main_while0b_call3_call0_v142 : TRef sig ⟨S1, .i32⟩) (.of main_while0b_call3_call0_v147 : TRef sig ⟨S1, .i32⟩) (.of main_while0b_call3_call0_v148 : TRef sig ⟨S1, .i32⟩) xori
  :: TRef.binary (.of main_while0b_call3_call0_v142 : TRef sig ⟨S1, .i32⟩) (.of main_while0b_call3_call0_v148 : TRef sig ⟨S1, .i32⟩) (.of main_while0b_call3_call0_v149 : TRef sig ⟨S1, .i32⟩) addi
  :: TRef.nullary (.of main_while0b_call3_call0_c_38 : TRef sig ⟨S_, .i32⟩) (constantI S_ 32 15#32)
  :: TRef.unary (.of main_while0b_call3_call0_c_38 : TRef sig ⟨S_, .i32⟩) (.of main_while0b_call3_call0_v150 : TRef sig ⟨S1, .i32⟩) (broadcastInDim S1 ![] bcast_S_S1)
  :: TRef.binary (.of main_while0b_call3_call0_v148 : TRef sig ⟨S1, .i32⟩) (.of main_while0b_call3_call0_v150 : TRef sig ⟨S1, .i32⟩) (.of main_while0b_call3_call0_v151 : TRef sig ⟨S1, .i32⟩) Host.shli
  :: TRef.nullary (.of main_while0b_call3_call0_c_39 : TRef sig ⟨S_, .i32⟩) (constantI S_ 32 17#32)
  :: TRef.unary (.of main_while0b_call3_call0_c_39 : TRef sig ⟨S_, .i32⟩) (.of main_while0b_call3_call0_v152 : TRef sig ⟨S1, .i32⟩) (broadcastInDim S1 ![] bcast_S_S1)
  :: TRef.binary (.of main_while0b_call3_call0_v148 : TRef sig ⟨S1, .i32⟩) (.of main_while0b_call3_call0_v152 : TRef sig ⟨S1, .i32⟩) (.of main_while0b_call3_call0_v153 : TRef sig ⟨S1, .i32⟩) Host.shrui
  :: TRef.binary (.of main_while0b_call3_call0_v151 : TRef sig ⟨S1, .i32⟩) (.of main_while0b_call3_call0_v153 : TRef sig ⟨S1, .i32⟩) (.of main_while0b_call3_call0_v154 : TRef sig ⟨S1, .i32⟩) ori
  :: TRef.binary (.of main_while0b_call3_call0_v149 : TRef sig ⟨S1, .i32⟩) (.of main_while0b_call3_call0_v154 : TRef sig ⟨S1, .i32⟩) (.of main_while0b_call3_call0_v155 : TRef sig ⟨S1, .i32⟩) xori
  :: TRef.binary (.of main_while0b_call3_call0_v149 : TRef sig ⟨S1, .i32⟩) (.of main_while0b_call3_call0_v155 : TRef sig ⟨S1, .i32⟩) (.of main_while0b_call3_call0_v156 : TRef sig ⟨S1, .i32⟩) addi
  :: TRef.nullary (.of main_while0b_call3_call0_c_40 : TRef sig ⟨S_, .i32⟩) (constantI S_ 32 26#32)
  :: TRef.unary (.of main_while0b_call3_call0_c_40 : TRef sig ⟨S_, .i32⟩) (.of main_while0b_call3_call0_v157 : TRef sig ⟨S1, .i32⟩) (broadcastInDim S1 ![] bcast_S_S1)
  :: TRef.binary (.of main_while0b_call3_call0_v155 : TRef sig ⟨S1, .i32⟩) (.of main_while0b_call3_call0_v157 : TRef sig ⟨S1, .i32⟩) (.of main_while0b_call3_call0_v158 : TRef sig ⟨S1, .i32⟩) Host.shli
  :: TRef.nullary (.of main_while0b_call3_call0_c_41 : TRef sig ⟨S_, .i32⟩) (constantI S_ 32 6#32)
  :: TRef.unary (.of main_while0b_call3_call0_c_41 : TRef sig ⟨S_, .i32⟩) (.of main_while0b_call3_call0_v159 : TRef sig ⟨S1, .i32⟩) (broadcastInDim S1 ![] bcast_S_S1)
  :: TRef.binary (.of main_while0b_call3_call0_v155 : TRef sig ⟨S1, .i32⟩) (.of main_while0b_call3_call0_v159 : TRef sig ⟨S1, .i32⟩) (.of main_while0b_call3_call0_v160 : TRef sig ⟨S1, .i32⟩) Host.shrui
  :: TRef.binary (.of main_while0b_call3_call0_v158 : TRef sig ⟨S1, .i32⟩) (.of main_while0b_call3_call0_v160 : TRef sig ⟨S1, .i32⟩) (.of main_while0b_call3_call0_v161 : TRef sig ⟨S1, .i32⟩) ori
  :: TRef.binary (.of main_while0b_call3_call0_v156 : TRef sig ⟨S1, .i32⟩) (.of main_while0b_call3_call0_v161 : TRef sig ⟨S1, .i32⟩) (.of main_while0b_call3_call0_v162 : TRef sig ⟨S1, .i32⟩) xori
  :: TRef.binary (.of main_while0b_call3_call0_v156 : TRef sig ⟨S1, .i32⟩) (.of main_while0b_call3_call0_v162 : TRef sig ⟨S1, .i32⟩) (.of main_while0b_call3_call0_v163 : TRef sig ⟨S1, .i32⟩) addi
  :: TRef.nullary (.of main_while0b_call3_call0_c_42 : TRef sig ⟨S_, .i32⟩) (constantI S_ 32 6#32)
  :: TRef.unary (.of main_while0b_call3_call0_c_42 : TRef sig ⟨S_, .i32⟩) (.of main_while0b_call3_call0_v164 : TRef sig ⟨S1, .i32⟩) (broadcastInDim S1 ![] bcast_S_S1)
  :: TRef.binary (.of main_while0b_call3_call0_v162 : TRef sig ⟨S1, .i32⟩) (.of main_while0b_call3_call0_v164 : TRef sig ⟨S1, .i32⟩) (.of main_while0b_call3_call0_v165 : TRef sig ⟨S1, .i32⟩) Host.shli
  :: TRef.nullary (.of main_while0b_call3_call0_c_43 : TRef sig ⟨S_, .i32⟩) (constantI S_ 32 26#32)
  :: TRef.unary (.of main_while0b_call3_call0_c_43 : TRef sig ⟨S_, .i32⟩) (.of main_while0b_call3_call0_v166 : TRef sig ⟨S1, .i32⟩) (broadcastInDim S1 ![] bcast_S_S1)
  :: TRef.binary (.of main_while0b_call3_call0_v162 : TRef sig ⟨S1, .i32⟩) (.of main_while0b_call3_call0_v166 : TRef sig ⟨S1, .i32⟩) (.of main_while0b_call3_call0_v167 : TRef sig ⟨S1, .i32⟩) Host.shrui
  :: TRef.binary (.of main_while0b_call3_call0_v165 : TRef sig ⟨S1, .i32⟩) (.of main_while0b_call3_call0_v167 : TRef sig ⟨S1, .i32⟩) (.of main_while0b_call3_call0_v168 : TRef sig ⟨S1, .i32⟩) ori
  :: TRef.binary (.of main_while0b_call3_call0_v163 : TRef sig ⟨S1, .i32⟩) (.of main_while0b_call3_call0_v168 : TRef sig ⟨S1, .i32⟩) (.of main_while0b_call3_call0_v169 : TRef sig ⟨S1, .i32⟩) xori
  :: TRef.unary (.of main_while0b_call3_call0_v1 : TRef sig ⟨S_, .i32⟩) (.of main_while0b_call3_call0_v170 : TRef sig ⟨S1, .i32⟩) (broadcastInDim S1 ![] bcast_S_S1)
  :: TRef.binary (.of main_while0b_call3_call0_v163 : TRef sig ⟨S1, .i32⟩) (.of main_while0b_call3_call0_v170 : TRef sig ⟨S1, .i32⟩) (.of main_while0b_call3_v11_0 : TRef sig ⟨S1, .i32⟩) addi
  :: TRef.unary (.of main_while0b_call3_v6 : TRef sig ⟨S_, .i32⟩) (.of main_while0b_call3_call0_v172 : TRef sig ⟨S1, .i32⟩) (broadcastInDim S1 ![] bcast_S_S1)
  :: TRef.binary (.of main_while0b_call3_call0_v169 : TRef sig ⟨S1, .i32⟩) (.of main_while0b_call3_call0_v172 : TRef sig ⟨S1, .i32⟩) (.of main_while0b_call3_call0_v173 : TRef sig ⟨S1, .i32⟩) addi
  :: TRef.nullary (.of main_while0b_call3_call0_c_44 : TRef sig ⟨S_, .i32⟩) (constantI S_ 32 5#32)
  :: TRef.unary (.of main_while0b_call3_call0_c_44 : TRef sig ⟨S_, .i32⟩) (.of main_while0b_call3_call0_v174 : TRef sig ⟨S1, .i32⟩) (broadcastInDim S1 ![] bcast_S_S1)
  :: TRef.binary (.of main_while0b_call3_call0_v173 : TRef sig ⟨S1, .i32⟩) (.of main_while0b_call3_call0_v174 : TRef sig ⟨S1, .i32⟩) (.of main_while0b_call3_v11_1 : TRef sig ⟨S1, .i32⟩) addi
  :: TRef.binary main_while0b_call3_call0.v171 main_while0b_call3_call0.v175 (.of main_while0b_v56 : TRef sig ⟨S2, .i32⟩) (fun a b => concatenate S2 0 [⟨S1, a⟩, ⟨S1, b⟩] concatenates_S1_S1_S2_d0)
  :: [] )
set_option maxHeartbeats 40000000 in
/-- Each touches buffers of the TensorCore only. -/
theorem while0Ops0_6_sub : (while0Ops0_6 : List (HloOp τ sig (Elt F))).Forall fun op => op.bufs ⊆ tcRefs τ sig :=
  ⟨nullary_bufs_sub .., binary_bufs_sub .., unary_bufs_sub .., nullary_bufs_sub .., binary_bufs_sub .., unary_bufs_sub .., binary_bufs_sub .., unary_bufs_sub .., reshape_bufs_sub .., unary_bufs_sub .., reshape_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub ..⟩
set_option maxHeartbeats 40000000 in
/-- 267 host operations of @_gumbel (main_while0b_call4), in order. -/
abbrev while0Ops0_7 : List (HloOp τ sig (Elt F)) :=
  ( TRef.nullary (.of main_while0b_call4_cst : TRef sig ⟨S_, .f32⟩) (constant S_ .f32 0x3F800000#32)
  :: TRef.nullary (.of main_while0b_call4_cst_0 : TRef sig ⟨S_, .f32⟩) (constant S_ .f32 0x00800000#32)
  :: TRef.unary (.of main_while0b_call4_cst : TRef sig ⟨S_, .f32⟩) (.of main_while0b_call4_call0_v0 : TRef sig ⟨S_, .f32⟩) id
  :: TRef.unary (.of main_while0b_call4_cst_0 : TRef sig ⟨S_, .f32⟩) (.of main_while0b_call4_call0_v1 : TRef sig ⟨S1x1, .f32⟩) (broadcastInDim S1x1 ![] bcast_S_S1x1)
  :: TRef.unary (.of main_while0b_call4_call0_v0 : TRef sig ⟨S_, .f32⟩) (.of main_while0b_call4_call0_v2 : TRef sig ⟨S1x1, .f32⟩) (broadcastInDim S1x1 ![] bcast_S_S1x1)
  :: TRef.unary (.of main_while0b_v56 : TRef sig ⟨S2, .i32⟩) (.of main_while0b_call4_call0_v3 : TRef sig ⟨S1, .i32⟩) (extractStridedSlice S1 ![0] · slices_S2_S1_0)
  :: TRef.reshape (.of main_while0b_call4_call0_v3 : TRef sig ⟨S1, .i32⟩) (.of main_while0b_call4_call0_v4 : TRef sig ⟨S_, .i32⟩) (rfl : (.i32 : EltTy) = .i32) shapeCasts_S1_S_
  :: TRef.unary (.of main_while0b_v56 : TRef sig ⟨S2, .i32⟩) (.of main_while0b_call4_call0_v5 : TRef sig ⟨S1, .i32⟩) (extractStridedSlice S1 ![1] · slices_S2_S1_1)
  :: TRef.reshape (.of main_while0b_call4_call0_v5 : TRef sig ⟨S1, .i32⟩) (.of main_while0b_call4_call0_v6 : TRef sig ⟨S_, .i32⟩) (rfl : (.i32 : EltTy) = .i32) shapeCasts_S1_S_
  :: TRef.nullary (.of main_while0b_call4_call0_v7 : TRef sig ⟨S128x128, .i64⟩) (iotaInDim S128x128 64 0)
  :: TRef.nullary (.of main_while0b_call4_call0_v8 : TRef sig ⟨S128x128, .i64⟩) (iotaInDim S128x128 64 1)
  :: TRef.nullary (.of main_while0b_call4_call0_c : TRef sig ⟨S_, .i64⟩) (constantI S_ 64 128#64)
  :: TRef.unary (.of main_while0b_call4_call0_c : TRef sig ⟨S_, .i64⟩) (.of main_while0b_call4_call0_v9 : TRef sig ⟨S128x128, .i64⟩) (broadcastInDim S128x128 ![] bcast_S_S128x128)
  :: TRef.binary (.of main_while0b_call4_call0_v9 : TRef sig ⟨S128x128, .i64⟩) (.of main_while0b_call4_call0_v7 : TRef sig ⟨S128x128, .i64⟩) (.of main_while0b_call4_call0_v10 : TRef sig ⟨S128x128, .i64⟩) muli
  :: TRef.nullary (.of main_while0b_call4_call0_c_0 : TRef sig ⟨S_, .i64⟩) (constantI S_ 64 1#64)
  :: TRef.unary (.of main_while0b_call4_call0_c_0 : TRef sig ⟨S_, .i64⟩) (.of main_while0b_call4_call0_v11 : TRef sig ⟨S128x128, .i64⟩) (broadcastInDim S128x128 ![] bcast_S_S128x128)
  :: TRef.binary (.of main_while0b_call4_call0_v11 : TRef sig ⟨S128x128, .i64⟩) (.of main_while0b_call4_call0_v8 : TRef sig ⟨S128x128, .i64⟩) (.of main_while0b_call4_call0_v12 : TRef sig ⟨S128x128, .i64⟩) muli
  :: TRef.binary (.of main_while0b_call4_call0_v10 : TRef sig ⟨S128x128, .i64⟩) (.of main_while0b_call4_call0_v12 : TRef sig ⟨S128x128, .i64⟩) (.of main_while0b_call4_call0_v13 : TRef sig ⟨S128x128, .i64⟩) addi
  :: TRef.nullary (.of main_while0b_call4_call0_c_1 : TRef sig ⟨S_, .i64⟩) (constantI S_ 64 32#64)
  :: TRef.unary (.of main_while0b_call4_call0_c_1 : TRef sig ⟨S_, .i64⟩) (.of main_while0b_call4_call0_v14 : TRef sig ⟨S128x128, .i64⟩) (broadcastInDim S128x128 ![] bcast_S_S128x128)
  :: TRef.binary (.of main_while0b_call4_call0_v13 : TRef sig ⟨S128x128, .i64⟩) (.of main_while0b_call4_call0_v14 : TRef sig ⟨S128x128, .i64⟩) (.of main_while0b_call4_call0_v15 : TRef sig ⟨S128x128, .i64⟩) Host.shrui
  :: TRef.unary (.of main_while0b_call4_call0_v13 : TRef sig ⟨S128x128, .i64⟩) (.of main_while0b_call4_call0_v16 : TRef sig ⟨S128x128, .i32⟩) (trunci 32 · natLt_32_64)
  :: TRef.unary (.of main_while0b_call4_call0_v15 : TRef sig ⟨S128x128, .i64⟩) (.of main_while0b_call4_call0_v17 : TRef sig ⟨S128x128, .i32⟩) (trunci 32 · natLt_32_64)
  :: TRef.binary (.of main_while0b_call4_call0_v4 : TRef sig ⟨S_, .i32⟩) (.of main_while0b_call4_call0_v6 : TRef sig ⟨S_, .i32⟩) (.of main_while0b_call4_call0_call0_v0 : TRef sig ⟨S_, .i32⟩) xori
  :: TRef.nullary (.of main_while0b_call4_call0_call0_c : TRef sig ⟨S_, .i32⟩) (constantI S_ 32 466688986#32)
  :: TRef.binary (.of main_while0b_call4_call0_call0_v0 : TRef sig ⟨S_, .i32⟩) (.of main_while0b_call4_call0_call0_c : TRef sig ⟨S_, .i32⟩) (.of main_while0b_call4_call0_call0_v1 : TRef sig ⟨S_, .i32⟩) xori
  :: TRef.unary (.of main_while0b_call4_call0_v4 : TRef sig ⟨S_, .i32⟩) (.of main_while0b_call4_call0_call0_v2 : TRef sig ⟨S128x128, .i32⟩) (broadcastInDim S128x128 ![] bcast_S_S128x128)
  :: TRef.binary (.of main_while0b_call4_call0_v17 : TRef sig ⟨S128x128, .i32⟩) (.of main_while0b_call4_call0_call0_v2 : TRef sig ⟨S128x128, .i32⟩) (.of main_while0b_call4_call0_call0_v3 : TRef sig ⟨S128x128, .i32⟩) addi
  :: TRef.unary (.of main_while0b_call4_call0_v6 : TRef sig ⟨S_, .i32⟩) (.of main_while0b_call4_call0_call0_v4 : TRef sig ⟨S128x128, .i32⟩) (broadcastInDim S128x128 ![] bcast_S_S128x128)
  :: TRef.binary (.of main_while0b_call4_call0_v16 : TRef sig ⟨S128x128, .i32⟩) (.of main_while0b_call4_call0_call0_v4 : TRef sig ⟨S128x128, .i32⟩) (.of main_while0b_call4_call0_call0_v5 : TRef sig ⟨S128x128, .i32⟩) addi
  :: TRef.binary (.of main_while0b_call4_call0_call0_v3 : TRef sig ⟨S128x128, .i32⟩) (.of main_while0b_call4_call0_call0_v5 : TRef sig ⟨S128x128, .i32⟩) (.of main_while0b_call4_call0_call0_v6 : TRef sig ⟨S128x128, .i32⟩) addi
  :: TRef.nullary (.of main_while0b_call4_call0_call0_c_0 : TRef sig ⟨S_, .i32⟩) (constantI S_ 32 13#32)
  :: TRef.unary (.of main_while0b_call4_call0_call0_c_0 : TRef sig ⟨S_, .i32⟩) (.of main_while0b_call4_call0_call0_v7 : TRef sig ⟨S128x128, .i32⟩) (broadcastInDim S128x128 ![] bcast_S_S128x128)
  :: TRef.binary (.of main_while0b_call4_call0_call0_v5 : TRef sig ⟨S128x128, .i32⟩) (.of main_while0b_call4_call0_call0_v7 : TRef sig ⟨S128x128, .i32⟩) (.of main_while0b_call4_call0_call0_v8 : TRef sig ⟨S128x128, .i32⟩) Host.shli
  :: TRef.nullary (.of main_while0b_call4_call0_call0_c_1 : TRef sig ⟨S_, .i32⟩) (constantI S_ 32 19#32)
  :: TRef.unary (.of main_while0b_call4_call0_call0_c_1 : TRef sig ⟨S_, .i32⟩) (.of main_while0b_call4_call0_call0_v9 : TRef sig ⟨S128x128, .i32⟩) (broadcastInDim S128x128 ![] bcast_S_S128x128)
  :: TRef.binary (.of main_while0b_call4_call0_call0_v5 : TRef sig ⟨S128x128, .i32⟩) (.of main_while0b_call4_call0_call0_v9 : TRef sig ⟨S128x128, .i32⟩) (.of main_while0b_call4_call0_call0_v10 : TRef sig ⟨S128x128, .i32⟩) Host.shrui
  :: TRef.binary (.of main_while0b_call4_call0_call0_v8 : TRef sig ⟨S128x128, .i32⟩) (.of main_while0b_call4_call0_call0_v10 : TRef sig ⟨S128x128, .i32⟩) (.of main_while0b_call4_call0_call0_v11 : TRef sig ⟨S128x128, .i32⟩) ori
  :: TRef.binary (.of main_while0b_call4_call0_call0_v6 : TRef sig ⟨S128x128, .i32⟩) (.of main_while0b_call4_call0_call0_v11 : TRef sig ⟨S128x128, .i32⟩) (.of main_while0b_call4_call0_call0_v12 : TRef sig ⟨S128x128, .i32⟩) xori
  :: TRef.binary (.of main_while0b_call4_call0_call0_v6 : TRef sig ⟨S128x128, .i32⟩) (.of main_while0b_call4_call0_call0_v12 : TRef sig ⟨S128x128, .i32⟩) (.of main_while0b_call4_call0_call0_v13 : TRef sig ⟨S128x128, .i32⟩) addi
  :: TRef.nullary (.of main_while0b_call4_call0_call0_c_2 : TRef sig ⟨S_, .i32⟩) (constantI S_ 32 15#32)
  :: TRef.unary (.of main_while0b_call4_call0_call0_c_2 : TRef sig ⟨S_, .i32⟩) (.of main_while0b_call4_call0_call0_v14 : TRef sig ⟨S128x128, .i32⟩) (broadcastInDim S128x128 ![] bcast_S_S128x128)
  :: TRef.binary (.of main_while0b_call4_call0_call0_v12 : TRef sig ⟨S128x128, .i32⟩) (.of main_while0b_call4_call0_call0_v14 : TRef sig ⟨S128x128, .i32⟩) (.of main_while0b_call4_call0_call0_v15 : TRef sig ⟨S128x128, .i32⟩) Host.shli
  :: TRef.nullary (.of main_while0b_call4_call0_call0_c_3 : TRef sig ⟨S_, .i32⟩) (constantI S_ 32 17#32)
  :: TRef.unary (.of main_while0b_call4_call0_call0_c_3 : TRef sig ⟨S_, .i32⟩) (.of main_while0b_call4_call0_call0_v16 : TRef sig ⟨S128x128, .i32⟩) (broadcastInDim S128x128 ![] bcast_S_S128x128)
  :: TRef.binary (.of main_while0b_call4_call0_call0_v12 : TRef sig ⟨S128x128, .i32⟩) (.of main_while0b_call4_call0_call0_v16 : TRef sig ⟨S128x128, .i32⟩) (.of main_while0b_call4_call0_call0_v17 : TRef sig ⟨S128x128, .i32⟩) Host.shrui
  :: TRef.binary (.of main_while0b_call4_call0_call0_v15 : TRef sig ⟨S128x128, .i32⟩) (.of main_while0b_call4_call0_call0_v17 : TRef sig ⟨S128x128, .i32⟩) (.of main_while0b_call4_call0_call0_v18 : TRef sig ⟨S128x128, .i32⟩) ori
  :: TRef.binary (.of main_while0b_call4_call0_call0_v13 : TRef sig ⟨S128x128, .i32⟩) (.of main_while0b_call4_call0_call0_v18 : TRef sig ⟨S128x128, .i32⟩) (.of main_while0b_call4_call0_call0_v19 : TRef sig ⟨S128x128, .i32⟩) xori
  :: TRef.binary (.of main_while0b_call4_call0_call0_v13 : TRef sig ⟨S128x128, .i32⟩) (.of main_while0b_call4_call0_call0_v19 : TRef sig ⟨S128x128, .i32⟩) (.of main_while0b_call4_call0_call0_v20 : TRef sig ⟨S128x128, .i32⟩) addi
  :: TRef.nullary (.of main_while0b_call4_call0_call0_c_4 : TRef sig ⟨S_, .i32⟩) (constantI S_ 32 26#32)
  :: TRef.unary (.of main_while0b_call4_call0_call0_c_4 : TRef sig ⟨S_, .i32⟩) (.of main_while0b_call4_call0_call0_v21 : TRef sig ⟨S128x128, .i32⟩) (broadcastInDim S128x128 ![] bcast_S_S128x128)
  :: TRef.binary (.of main_while0b_call4_call0_call0_v19 : TRef sig ⟨S128x128, .i32⟩) (.of main_while0b_call4_call0_call0_v21 : TRef sig ⟨S128x128, .i32⟩) (.of main_while0b_call4_call0_call0_v22 : TRef sig ⟨S128x128, .i32⟩) Host.shli
  :: TRef.nullary (.of main_while0b_call4_call0_call0_c_5 : TRef sig ⟨S_, .i32⟩) (constantI S_ 32 6#32)
  :: TRef.unary (.of main_while0b_call4_call0_call0_c_5 : TRef sig ⟨S_, .i32⟩) (.of main_while0b_call4_call0_call0_v23 : TRef sig ⟨S128x128, .i32⟩) (broadcastInDim S128x128 ![] bcast_S_S128x128)
  :: TRef.binary (.of main_while0b_call4_call0_call0_v19 : TRef sig ⟨S128x128, .i32⟩) (.of main_while0b_call4_call0_call0_v23 : TRef sig ⟨S128x128, .i32⟩) (.of main_while0b_call4_call0_call0_v24 : TRef sig ⟨S128x128, .i32⟩) Host.shrui
  :: TRef.binary (.of main_while0b_call4_call0_call0_v22 : TRef sig ⟨S128x128, .i32⟩) (.of main_while0b_call4_call0_call0_v24 : TRef sig ⟨S128x128, .i32⟩) (.of main_while0b_call4_call0_call0_v25 : TRef sig ⟨S128x128, .i32⟩) ori
  :: TRef.binary (.of main_while0b_call4_call0_call0_v20 : TRef sig ⟨S128x128, .i32⟩) (.of main_while0b_call4_call0_call0_v25 : TRef sig ⟨S128x128, .i32⟩) (.of main_while0b_call4_call0_call0_v26 : TRef sig ⟨S128x128, .i32⟩) xori
  :: TRef.binary (.of main_while0b_call4_call0_call0_v20 : TRef sig ⟨S128x128, .i32⟩) (.of main_while0b_call4_call0_call0_v26 : TRef sig ⟨S128x128, .i32⟩) (.of main_while0b_call4_call0_call0_v27 : TRef sig ⟨S128x128, .i32⟩) addi
  :: TRef.nullary (.of main_while0b_call4_call0_call0_c_6 : TRef sig ⟨S_, .i32⟩) (constantI S_ 32 6#32)
  :: TRef.unary (.of main_while0b_call4_call0_call0_c_6 : TRef sig ⟨S_, .i32⟩) (.of main_while0b_call4_call0_call0_v28 : TRef sig ⟨S128x128, .i32⟩) (broadcastInDim S128x128 ![] bcast_S_S128x128)
  :: TRef.binary (.of main_while0b_call4_call0_call0_v26 : TRef sig ⟨S128x128, .i32⟩) (.of main_while0b_call4_call0_call0_v28 : TRef sig ⟨S128x128, .i32⟩) (.of main_while0b_call4_call0_call0_v29 : TRef sig ⟨S128x128, .i32⟩) Host.shli
  :: TRef.nullary (.of main_while0b_call4_call0_call0_c_7 : TRef sig ⟨S_, .i32⟩) (constantI S_ 32 26#32)
  :: TRef.unary (.of main_while0b_call4_call0_call0_c_7 : TRef sig ⟨S_, .i32⟩) (.of main_while0b_call4_call0_call0_v30 : TRef sig ⟨S128x128, .i32⟩) (broadcastInDim S128x128 ![] bcast_S_S128x128)
  :: TRef.binary (.of main_while0b_call4_call0_call0_v26 : TRef sig ⟨S128x128, .i32⟩) (.of main_while0b_call4_call0_call0_v30 : TRef sig ⟨S128x128, .i32⟩) (.of main_while0b_call4_call0_call0_v31 : TRef sig ⟨S128x128, .i32⟩) Host.shrui
  :: TRef.binary (.of main_while0b_call4_call0_call0_v29 : TRef sig ⟨S128x128, .i32⟩) (.of main_while0b_call4_call0_call0_v31 : TRef sig ⟨S128x128, .i32⟩) (.of main_while0b_call4_call0_call0_v32 : TRef sig ⟨S128x128, .i32⟩) ori
  :: TRef.binary (.of main_while0b_call4_call0_call0_v27 : TRef sig ⟨S128x128, .i32⟩) (.of main_while0b_call4_call0_call0_v32 : TRef sig ⟨S128x128, .i32⟩) (.of main_while0b_call4_call0_call0_v33 : TRef sig ⟨S128x128, .i32⟩) xori
  :: TRef.unary (.of main_while0b_call4_call0_v6 : TRef sig ⟨S_, .i32⟩) (.of main_while0b_call4_call0_call0_v34 : TRef sig ⟨S128x128, .i32⟩) (broadcastInDim S128x128 ![] bcast_S_S128x128)
  :: TRef.binary (.of main_while0b_call4_call0_call0_v27 : TRef sig ⟨S128x128, .i32⟩) (.of main_while0b_call4_call0_call0_v34 : TRef sig ⟨S128x128, .i32⟩) (.of main_while0b_call4_call0_call0_v35 : TRef sig ⟨S128x128, .i32⟩) addi
  :: TRef.unary (.of main_while0b_call4_call0_call0_v1 : TRef sig ⟨S_, .i32⟩) (.of main_while0b_call4_call0_call0_v36 : TRef sig ⟨S128x128, .i32⟩) (broadcastInDim S128x128 ![] bcast_S_S128x128)
  :: TRef.binary (.of main_while0b_call4_call0_call0_v33 : TRef sig ⟨S128x128, .i32⟩) (.of main_while0b_call4_call0_call0_v36 : TRef sig ⟨S128x128, .i32⟩) (.of main_while0b_call4_call0_call0_v37 : TRef sig ⟨S128x128, .i32⟩) addi
  :: TRef.nullary (.of main_while0b_call4_call0_call0_c_8 : TRef sig ⟨S_, .i32⟩) (constantI S_ 32 1#32)
  :: TRef.unary (.of main_while0b_call4_call0_call0_c_8 : TRef sig ⟨S_, .i32⟩) (.of main_while0b_call4_call0_call0_v38 : TRef sig ⟨S128x128, .i32⟩) (broadcastInDim S128x128 ![] bcast_S_S128x128)
  :: TRef.binary (.of main_while0b_call4_call0_call0_v37 : TRef sig ⟨S128x128, .i32⟩) (.of main_while0b_call4_call0_call0_v38 : TRef sig ⟨S128x128, .i32⟩) (.of main_while0b_call4_call0_call0_v39 : TRef sig ⟨S128x128, .i32⟩) addi
  :: TRef.binary (.of main_while0b_call4_call0_call0_v35 : TRef sig ⟨S128x128, .i32⟩) (.of main_while0b_call4_call0_call0_v39 : TRef sig ⟨S128x128, .i32⟩) (.of main_while0b_call4_call0_call0_v40 : TRef sig ⟨S128x128, .i32⟩) addi
  :: TRef.nullary (.of main_while0b_call4_call0_call0_c_9 : TRef sig ⟨S_, .i32⟩) (constantI S_ 32 17#32)
  :: TRef.unary (.of main_while0b_call4_call0_call0_c_9 : TRef sig ⟨S_, .i32⟩) (.of main_while0b_call4_call0_call0_v41 : TRef sig ⟨S128x128, .i32⟩) (broadcastInDim S128x128 ![] bcast_S_S128x128)
  :: TRef.binary (.of main_while0b_call4_call0_call0_v39 : TRef sig ⟨S128x128, .i32⟩) (.of main_while0b_call4_call0_call0_v41 : TRef sig ⟨S128x128, .i32⟩) (.of main_while0b_call4_call0_call0_v42 : TRef sig ⟨S128x128, .i32⟩) Host.shli
  :: TRef.nullary (.of main_while0b_call4_call0_call0_c_10 : TRef sig ⟨S_, .i32⟩) (constantI S_ 32 15#32)
  :: TRef.unary (.of main_while0b_call4_call0_call0_c_10 : TRef sig ⟨S_, .i32⟩) (.of main_while0b_call4_call0_call0_v43 : TRef sig ⟨S128x128, .i32⟩) (broadcastInDim S128x128 ![] bcast_S_S128x128)
  :: TRef.binary (.of main_while0b_call4_call0_call0_v39 : TRef sig ⟨S128x128, .i32⟩) (.of main_while0b_call4_call0_call0_v43 : TRef sig ⟨S128x128, .i32⟩) (.of main_while0b_call4_call0_call0_v44 : TRef sig ⟨S128x128, .i32⟩) Host.shrui
  :: TRef.binary (.of main_while0b_call4_call0_call0_v42 : TRef sig ⟨S128x128, .i32⟩) (.of main_while0b_call4_call0_call0_v44 : TRef sig ⟨S128x128, .i32⟩) (.of main_while0b_call4_call0_call0_v45 : TRef sig ⟨S128x128, .i32⟩) ori
  :: TRef.binary (.of main_while0b_call4_call0_call0_v40 : TRef sig ⟨S128x128, .i32⟩) (.of main_while0b_call4_call0_call0_v45 : TRef sig ⟨S128x128, .i32⟩) (.of main_while0b_call4_call0_call0_v46 : TRef sig ⟨S128x128, .i32⟩) xori
  :: TRef.binary (.of main_while0b_call4_call0_call0_v40 : TRef sig ⟨S128x128, .i32⟩) (.of main_while0b_call4_call0_call0_v46 : TRef sig ⟨S128x128, .i32⟩) (.of main_while0b_call4_call0_call0_v47 : TRef sig ⟨S128x128, .i32⟩) addi
  :: TRef.nullary (.of main_while0b_call4_call0_call0_c_11 : TRef sig ⟨S_, .i32⟩) (constantI S_ 32 29#32)
  :: TRef.unary (.of main_while0b_call4_call0_call0_c_11 : TRef sig ⟨S_, .i32⟩) (.of main_while0b_call4_call0_call0_v48 : TRef sig ⟨S128x128, .i32⟩) (broadcastInDim S128x128 ![] bcast_S_S128x128)
  :: TRef.binary (.of main_while0b_call4_call0_call0_v46 : TRef sig ⟨S128x128, .i32⟩) (.of main_while0b_call4_call0_call0_v48 : TRef sig ⟨S128x128, .i32⟩) (.of main_while0b_call4_call0_call0_v49 : TRef sig ⟨S128x128, .i32⟩) Host.shli
  :: TRef.nullary (.of main_while0b_call4_call0_call0_c_12 : TRef sig ⟨S_, .i32⟩) (constantI S_ 32 3#32)
  :: TRef.unary (.of main_while0b_call4_call0_call0_c_12 : TRef sig ⟨S_, .i32⟩) (.of main_while0b_call4_call0_call0_v50 : TRef sig ⟨S128x128, .i32⟩) (broadcastInDim S128x128 ![] bcast_S_S128x128)
  :: TRef.binary (.of main_while0b_call4_call0_call0_v46 : TRef sig ⟨S128x128, .i32⟩) (.of main_while0b_call4_call0_call0_v50 : TRef sig ⟨S128x128, .i32⟩) (.of main_while0b_call4_call0_call0_v51 : TRef sig ⟨S128x128, .i32⟩) Host.shrui
  :: TRef.binary (.of main_while0b_call4_call0_call0_v49 : TRef sig ⟨S128x128, .i32⟩) (.of main_while0b_call4_call0_call0_v51 : TRef sig ⟨S128x128, .i32⟩) (.of main_while0b_call4_call0_call0_v52 : TRef sig ⟨S128x128, .i32⟩) ori
  :: TRef.binary (.of main_while0b_call4_call0_call0_v47 : TRef sig ⟨S128x128, .i32⟩) (.of main_while0b_call4_call0_call0_v52 : TRef sig ⟨S128x128, .i32⟩) (.of main_while0b_call4_call0_call0_v53 : TRef sig ⟨S128x128, .i32⟩) xori
  :: TRef.binary (.of main_while0b_call4_call0_call0_v47 : TRef sig ⟨S128x128, .i32⟩) (.of main_while0b_call4_call0_call0_v53 : TRef sig ⟨S128x128, .i32⟩) (.of main_while0b_call4_call0_call0_v54 : TRef sig ⟨S128x128, .i32⟩) addi
  :: TRef.nullary (.of main_while0b_call4_call0_call0_c_13 : TRef sig ⟨S_, .i32⟩) (constantI S_ 32 16#32)
  :: TRef.unary (.of main_while0b_call4_call0_call0_c_13 : TRef sig ⟨S_, .i32⟩) (.of main_while0b_call4_call0_call0_v55 : TRef sig ⟨S128x128, .i32⟩) (broadcastInDim S128x128 ![] bcast_S_S128x128)
  :: TRef.binary (.of main_while0b_call4_call0_call0_v53 : TRef sig ⟨S128x128, .i32⟩) (.of main_while0b_call4_call0_call0_v55 : TRef sig ⟨S128x128, .i32⟩) (.of main_while0b_call4_call0_call0_v56 : TRef sig ⟨S128x128, .i32⟩) Host.shli
  :: TRef.nullary (.of main_while0b_call4_call0_call0_c_14 : TRef sig ⟨S_, .i32⟩) (constantI S_ 32 16#32)
  :: TRef.unary (.of main_while0b_call4_call0_call0_c_14 : TRef sig ⟨S_, .i32⟩) (.of main_while0b_call4_call0_call0_v57 : TRef sig ⟨S128x128, .i32⟩) (broadcastInDim S128x128 ![] bcast_S_S128x128)
  :: TRef.binary (.of main_while0b_call4_call0_call0_v53 : TRef sig ⟨S128x128, .i32⟩) (.of main_while0b_call4_call0_call0_v57 : TRef sig ⟨S128x128, .i32⟩) (.of main_while0b_call4_call0_call0_v58 : TRef sig ⟨S128x128, .i32⟩) Host.shrui
  :: TRef.binary (.of main_while0b_call4_call0_call0_v56 : TRef sig ⟨S128x128, .i32⟩) (.of main_while0b_call4_call0_call0_v58 : TRef sig ⟨S128x128, .i32⟩) (.of main_while0b_call4_call0_call0_v59 : TRef sig ⟨S128x128, .i32⟩) ori
  :: TRef.binary (.of main_while0b_call4_call0_call0_v54 : TRef sig ⟨S128x128, .i32⟩) (.of main_while0b_call4_call0_call0_v59 : TRef sig ⟨S128x128, .i32⟩) (.of main_while0b_call4_call0_call0_v60 : TRef sig ⟨S128x128, .i32⟩) xori
  :: TRef.binary (.of main_while0b_call4_call0_call0_v54 : TRef sig ⟨S128x128, .i32⟩) (.of main_while0b_call4_call0_call0_v60 : TRef sig ⟨S128x128, .i32⟩) (.of main_while0b_call4_call0_call0_v61 : TRef sig ⟨S128x128, .i32⟩) addi
  :: TRef.nullary (.of main_while0b_call4_call0_call0_c_15 : TRef sig ⟨S_, .i32⟩) (constantI S_ 32 24#32)
  :: TRef.unary (.of main_while0b_call4_call0_call0_c_15 : TRef sig ⟨S_, .i32⟩) (.of main_while0b_call4_call0_call0_v62 : TRef sig ⟨S128x128, .i32⟩) (broadcastInDim S128x128 ![] bcast_S_S128x128)
  :: TRef.binary (.of main_while0b_call4_call0_call0_v60 : TRef sig ⟨S128x128, .i32⟩) (.of main_while0b_call4_call0_call0_v62 : TRef sig ⟨S128x128, .i32⟩) (.of main_while0b_call4_call0_call0_v63 : TRef sig ⟨S128x128, .i32⟩) Host.shli
  :: TRef.nullary (.of main_while0b_call4_call0_call0_c_16 : TRef sig ⟨S_, .i32⟩) (constantI S_ 32 8#32)
  :: TRef.unary (.of main_while0b_call4_call0_call0_c_16 : TRef sig ⟨S_, .i32⟩) (.of main_while0b_call4_call0_call0_v64 : TRef sig ⟨S128x128, .i32⟩) (broadcastInDim S128x128 ![] bcast_S_S128x128)
  :: TRef.binary (.of main_while0b_call4_call0_call0_v60 : TRef sig ⟨S128x128, .i32⟩) (.of main_while0b_call4_call0_call0_v64 : TRef sig ⟨S128x128, .i32⟩) (.of main_while0b_call4_call0_call0_v65 : TRef sig ⟨S128x128, .i32⟩) Host.shrui
  :: TRef.binary (.of main_while0b_call4_call0_call0_v63 : TRef sig ⟨S128x128, .i32⟩) (.of main_while0b_call4_call0_call0_v65 : TRef sig ⟨S128x128, .i32⟩) (.of main_while0b_call4_call0_call0_v66 : TRef sig ⟨S128x128, .i32⟩) ori
  :: TRef.binary (.of main_while0b_call4_call0_call0_v61 : TRef sig ⟨S128x128, .i32⟩) (.of main_while0b_call4_call0_call0_v66 : TRef sig ⟨S128x128, .i32⟩) (.of main_while0b_call4_call0_call0_v67 : TRef sig ⟨S128x128, .i32⟩) xori
  :: TRef.unary (.of main_while0b_call4_call0_call0_v1 : TRef sig ⟨S_, .i32⟩) (.of main_while0b_call4_call0_call0_v68 : TRef sig ⟨S128x128, .i32⟩) (broadcastInDim S128x128 ![] bcast_S_S128x128)
  :: TRef.binary (.of main_while0b_call4_call0_call0_v61 : TRef sig ⟨S128x128, .i32⟩) (.of main_while0b_call4_call0_call0_v68 : TRef sig ⟨S128x128, .i32⟩) (.of main_while0b_call4_call0_call0_v69 : TRef sig ⟨S128x128, .i32⟩) addi
  :: TRef.unary (.of main_while0b_call4_call0_v4 : TRef sig ⟨S_, .i32⟩) (.of main_while0b_call4_call0_call0_v70 : TRef sig ⟨S128x128, .i32⟩) (broadcastInDim S128x128 ![] bcast_S_S128x128)
  :: TRef.binary (.of main_while0b_call4_call0_call0_v67 : TRef sig ⟨S128x128, .i32⟩) (.of main_while0b_call4_call0_call0_v70 : TRef sig ⟨S128x128, .i32⟩) (.of main_while0b_call4_call0_call0_v71 : TRef sig ⟨S128x128, .i32⟩) addi
  :: TRef.nullary (.of main_while0b_call4_call0_call0_c_17 : TRef sig ⟨S_, .i32⟩) (constantI S_ 32 2#32)
  :: TRef.unary (.of main_while0b_call4_call0_call0_c_17 : TRef sig ⟨S_, .i32⟩) (.of main_while0b_call4_call0_call0_v72 : TRef sig ⟨S128x128, .i32⟩) (broadcastInDim S128x128 ![] bcast_S_S128x128)
  :: TRef.binary (.of main_while0b_call4_call0_call0_v71 : TRef sig ⟨S128x128, .i32⟩) (.of main_while0b_call4_call0_call0_v72 : TRef sig ⟨S128x128, .i32⟩) (.of main_while0b_call4_call0_call0_v73 : TRef sig ⟨S128x128, .i32⟩) addi
  :: TRef.binary (.of main_while0b_call4_call0_call0_v69 : TRef sig ⟨S128x128, .i32⟩) (.of main_while0b_call4_call0_call0_v73 : TRef sig ⟨S128x128, .i32⟩) (.of main_while0b_call4_call0_call0_v74 : TRef sig ⟨S128x128, .i32⟩) addi
  :: TRef.nullary (.of main_while0b_call4_call0_call0_c_18 : TRef sig ⟨S_, .i32⟩) (constantI S_ 32 13#32)
  :: TRef.unary (.of main_while0b_call4_call0_call0_c_18 : TRef sig ⟨S_, .i32⟩) (.of main_while0b_call4_call0_call0_v75 : TRef sig ⟨S128x128, .i32⟩) (broadcastInDim S128x128 ![] bcast_S_S128x128)
  :: TRef.binary (.of main_while0b_call4_call0_call0_v73 : TRef sig ⟨S128x128, .i32⟩) (.of main_while0b_call4_call0_call0_v75 : TRef sig ⟨S128x128, .i32⟩) (.of main_while0b_call4_call0_call0_v76 : TRef sig ⟨S128x128, .i32⟩) Host.shli
  :: TRef.nullary (.of main_while0b_call4_call0_call0_c_19 : TRef sig ⟨S_, .i32⟩) (constantI S_ 32 19#32)
  :: TRef.unary (.of main_while0b_call4_call0_call0_c_19 : TRef sig ⟨S_, .i32⟩) (.of main_while0b_call4_call0_call0_v77 : TRef sig ⟨S128x128, .i32⟩) (broadcastInDim S128x128 ![] bcast_S_S128x128)
  :: TRef.binary (.of main_while0b_call4_call0_call0_v73 : TRef sig ⟨S128x128, .i32⟩) (.of main_while0b_call4_call0_call0_v77 : TRef sig ⟨S128x128, .i32⟩) (.of main_while0b_call4_call0_call0_v78 : TRef sig ⟨S128x128, .i32⟩) Host.shrui
  :: TRef.binary (.of main_while0b_call4_call0_call0_v76 : TRef sig ⟨S128x128, .i32⟩) (.of main_while0b_call4_call0_call0_v78 : TRef sig ⟨S128x128, .i32⟩) (.of main_while0b_call4_call0_call0_v79 : TRef sig ⟨S128x128, .i32⟩) ori
  :: TRef.binary (.of main_while0b_call4_call0_call0_v74 : TRef sig ⟨S128x128, .i32⟩) (.of main_while0b_call4_call0_call0_v79 : TRef sig ⟨S128x128, .i32⟩) (.of main_while0b_call4_call0_call0_v80 : TRef sig ⟨S128x128, .i32⟩) xori
  :: TRef.binary (.of main_while0b_call4_call0_call0_v74 : TRef sig ⟨S128x128, .i32⟩) (.of main_while0b_call4_call0_call0_v80 : TRef sig ⟨S128x128, .i32⟩) (.of main_while0b_call4_call0_call0_v81 : TRef sig ⟨S128x128, .i32⟩) addi
  :: TRef.nullary (.of main_while0b_call4_call0_call0_c_20 : TRef sig ⟨S_, .i32⟩) (constantI S_ 32 15#32)
  :: TRef.unary (.of main_while0b_call4_call0_call0_c_20 : TRef sig ⟨S_, .i32⟩) (.of main_while0b_call4_call0_call0_v82 : TRef sig ⟨S128x128, .i32⟩) (broadcastInDim S128x128 ![] bcast_S_S128x128)
  :: TRef.binary (.of main_while0b_call4_call0_call0_v80 : TRef sig ⟨S128x128, .i32⟩) (.of main_while0b_call4_call0_call0_v82 : TRef sig ⟨S128x128, .i32⟩) (.of main_while0b_call4_call0_call0_v83 : TRef sig ⟨S128x128, .i32⟩) Host.shli
  :: TRef.nullary (.of main_while0b_call4_call0_call0_c_21 : TRef sig ⟨S_, .i32⟩) (constantI S_ 32 17#32)
  :: TRef.unary (.of main_while0b_call4_call0_call0_c_21 : TRef sig ⟨S_, .i32⟩) (.of main_while0b_call4_call0_call0_v84 : TRef sig ⟨S128x128, .i32⟩) (broadcastInDim S128x128 ![] bcast_S_S128x128)
  :: TRef.binary (.of main_while0b_call4_call0_call0_v80 : TRef sig ⟨S128x128, .i32⟩) (.of main_while0b_call4_call0_call0_v84 : TRef sig ⟨S128x128, .i32⟩) (.of main_while0b_call4_call0_call0_v85 : TRef sig ⟨S128x128, .i32⟩) Host.shrui
  :: TRef.binary (.of main_while0b_call4_call0_call0_v83 : TRef sig ⟨S128x128, .i32⟩) (.of main_while0b_call4_call0_call0_v85 : TRef sig ⟨S128x128, .i32⟩) (.of main_while0b_call4_call0_call0_v86 : TRef sig ⟨S128x128, .i32⟩) ori
  :: TRef.binary (.of main_while0b_call4_call0_call0_v81 : TRef sig ⟨S128x128, .i32⟩) (.of main_while0b_call4_call0_call0_v86 : TRef sig ⟨S128x128, .i32⟩) (.of main_while0b_call4_call0_call0_v87 : TRef sig ⟨S128x128, .i32⟩) xori
  :: TRef.binary (.of main_while0b_call4_call0_call0_v81 : TRef sig ⟨S128x128, .i32⟩) (.of main_while0b_call4_call0_call0_v87 : TRef sig ⟨S128x128, .i32⟩) (.of main_while0b_call4_call0_call0_v88 : TRef sig ⟨S128x128, .i32⟩) addi
  :: TRef.nullary (.of main_while0b_call4_call0_call0_c_22 : TRef sig ⟨S_, .i32⟩) (constantI S_ 32 26#32)
  :: TRef.unary (.of main_while0b_call4_call0_call0_c_22 : TRef sig ⟨S_, .i32⟩) (.of main_while0b_call4_call0_call0_v89 : TRef sig ⟨S128x128, .i32⟩) (broadcastInDim S128x128 ![] bcast_S_S128x128)
  :: TRef.binary (.of main_while0b_call4_call0_call0_v87 : TRef sig ⟨S128x128, .i32⟩) (.of main_while0b_call4_call0_call0_v89 : TRef sig ⟨S128x128, .i32⟩) (.of main_while0b_call4_call0_call0_v90 : TRef sig ⟨S128x128, .i32⟩) Host.shli
  :: TRef.nullary (.of main_while0b_call4_call0_call0_c_23 : TRef sig ⟨S_, .i32⟩) (constantI S_ 32 6#32)
  :: TRef.unary (.of main_while0b_call4_call0_call0_c_23 : TRef sig ⟨S_, .i32⟩) (.of main_while0b_call4_call0_call0_v91 : TRef sig ⟨S128x128, .i32⟩) (broadcastInDim S128x128 ![] bcast_S_S128x128)
  :: TRef.binary (.of main_while0b_call4_call0_call0_v87 : TRef sig ⟨S128x128, .i32⟩) (.of main_while0b_call4_call0_call0_v91 : TRef sig ⟨S128x128, .i32⟩) (.of main_while0b_call4_call0_call0_v92 : TRef sig ⟨S128x128, .i32⟩) Host.shrui
  :: TRef.binary (.of main_while0b_call4_call0_call0_v90 : TRef sig ⟨S128x128, .i32⟩) (.of main_while0b_call4_call0_call0_v92 : TRef sig ⟨S128x128, .i32⟩) (.of main_while0b_call4_call0_call0_v93 : TRef sig ⟨S128x128, .i32⟩) ori
  :: TRef.binary (.of main_while0b_call4_call0_call0_v88 : TRef sig ⟨S128x128, .i32⟩) (.of main_while0b_call4_call0_call0_v93 : TRef sig ⟨S128x128, .i32⟩) (.of main_while0b_call4_call0_call0_v94 : TRef sig ⟨S128x128, .i32⟩) xori
  :: TRef.binary (.of main_while0b_call4_call0_call0_v88 : TRef sig ⟨S128x128, .i32⟩) (.of main_while0b_call4_call0_call0_v94 : TRef sig ⟨S128x128, .i32⟩) (.of main_while0b_call4_call0_call0_v95 : TRef sig ⟨S128x128, .i32⟩) addi
  :: TRef.nullary (.of main_while0b_call4_call0_call0_c_24 : TRef sig ⟨S_, .i32⟩) (constantI S_ 32 6#32)
  :: TRef.unary (.of main_while0b_call4_call0_call0_c_24 : TRef sig ⟨S_, .i32⟩) (.of main_while0b_call4_call0_call0_v96 : TRef sig ⟨S128x128, .i32⟩) (broadcastInDim S128x128 ![] bcast_S_S128x128)
  :: TRef.binary (.of main_while0b_call4_call0_call0_v94 : TRef sig ⟨S128x128, .i32⟩) (.of main_while0b_call4_call0_call0_v96 : TRef sig ⟨S128x128, .i32⟩) (.of main_while0b_call4_call0_call0_v97 : TRef sig ⟨S128x128, .i32⟩) Host.shli
  :: TRef.nullary (.of main_while0b_call4_call0_call0_c_25 : TRef sig ⟨S_, .i32⟩) (constantI S_ 32 26#32)
  :: TRef.unary (.of main_while0b_call4_call0_call0_c_25 : TRef sig ⟨S_, .i32⟩) (.of main_while0b_call4_call0_call0_v98 : TRef sig ⟨S128x128, .i32⟩) (broadcastInDim S128x128 ![] bcast_S_S128x128)
  :: TRef.binary (.of main_while0b_call4_call0_call0_v94 : TRef sig ⟨S128x128, .i32⟩) (.of main_while0b_call4_call0_call0_v98 : TRef sig ⟨S128x128, .i32⟩) (.of main_while0b_call4_call0_call0_v99 : TRef sig ⟨S128x128, .i32⟩) Host.shrui
  :: TRef.binary (.of main_while0b_call4_call0_call0_v97 : TRef sig ⟨S128x128, .i32⟩) (.of main_while0b_call4_call0_call0_v99 : TRef sig ⟨S128x128, .i32⟩) (.of main_while0b_call4_call0_call0_v100 : TRef sig ⟨S128x128, .i32⟩) ori
  :: TRef.binary (.of main_while0b_call4_call0_call0_v95 : TRef sig ⟨S128x128, .i32⟩) (.of main_while0b_call4_call0_call0_v100 : TRef sig ⟨S128x128, .i32⟩) (.of main_while0b_call4_call0_call0_v101 : TRef sig ⟨S128x128, .i32⟩) xori
  :: TRef.unary (.of main_while0b_call4_call0_v4 : TRef sig ⟨S_, .i32⟩) (.of main_while0b_call4_call0_call0_v102 : TRef sig ⟨S128x128, .i32⟩) (broadcastInDim S128x128 ![] bcast_S_S128x128)
  :: TRef.binary (.of main_while0b_call4_call0_call0_v95 : TRef sig ⟨S128x128, .i32⟩) (.of main_while0b_call4_call0_call0_v102 : TRef sig ⟨S128x128, .i32⟩) (.of main_while0b_call4_call0_call0_v103 : TRef sig ⟨S128x128, .i32⟩) addi
  :: TRef.unary (.of main_while0b_call4_call0_v6 : TRef sig ⟨S_, .i32⟩) (.of main_while0b_call4_call0_call0_v104 : TRef sig ⟨S128x128, .i32⟩) (broadcastInDim S128x128 ![] bcast_S_S128x128)
  :: TRef.binary (.of main_while0b_call4_call0_call0_v101 : TRef sig ⟨S128x128, .i32⟩) (.of main_while0b_call4_call0_call0_v104 : TRef sig ⟨S128x128, .i32⟩) (.of main_while0b_call4_call0_call0_v105 : TRef sig ⟨S128x128, .i32⟩) addi
  :: TRef.nullary (.of main_while0b_call4_call0_call0_c_26 : TRef sig ⟨S_, .i32⟩) (constantI S_ 32 3#32)
  :: TRef.unary (.of main_while0b_call4_call0_call0_c_26 : TRef sig ⟨S_, .i32⟩) (.of main_while0b_call4_call0_call0_v106 : TRef sig ⟨S128x128, .i32⟩) (broadcastInDim S128x128 ![] bcast_S_S128x128)
  :: TRef.binary (.of main_while0b_call4_call0_call0_v105 : TRef sig ⟨S128x128, .i32⟩) (.of main_while0b_call4_call0_call0_v106 : TRef sig ⟨S128x128, .i32⟩) (.of main_while0b_call4_call0_call0_v107 : TRef sig ⟨S128x128, .i32⟩) addi
  :: TRef.binary (.of main_while0b_call4_call0_call0_v103 : TRef sig ⟨S128x128, .i32⟩) (.of main_while0b_call4_call0_call0_v107 : TRef sig ⟨S128x128, .i32⟩) (.of main_while0b_call4_call0_call0_v108 : TRef sig ⟨S128x128, .i32⟩) addi
  :: TRef.nullary (.of main_while0b_call4_call0_call0_c_27 : TRef sig ⟨S_, .i32⟩) (constantI S_ 32 17#32)
  :: TRef.unary (.of main_while0b_call4_call0_call0_c_27 : TRef sig ⟨S_, .i32⟩) (.of main_while0b_call4_call0_call0_v109 : TRef sig ⟨S128x128, .i32⟩) (broadcastInDim S128x128 ![] bcast_S_S128x128)
  :: TRef.binary (.of main_while0b_call4_call0_call0_v107 : TRef sig ⟨S128x128, .i32⟩) (.of main_while0b_call4_call0_call0_v109 : TRef sig ⟨S128x128, .i32⟩) (.of main_while0b_call4_call0_call0_v110 : TRef sig ⟨S128x128, .i32⟩) Host.shli
  :: TRef.nullary (.of main_while0b_call4_call0_call0_c_28 : TRef sig ⟨S_, .i32⟩) (constantI S_ 32 15#32)
  :: TRef.unary (.of main_while0b_call4_call0_call0_c_28 : TRef sig ⟨S_, .i32⟩) (.of main_while0b_call4_call0_call0_v111 : TRef sig ⟨S128x128, .i32⟩) (broadcastInDim S128x128 ![] bcast_S_S128x128)
  :: TRef.binary (.of main_while0b_call4_call0_call0_v107 : TRef sig ⟨S128x128, .i32⟩) (.of main_while0b_call4_call0_call0_v111 : TRef sig ⟨S128x128, .i32⟩) (.of main_while0b_call4_call0_call0_v112 : TRef sig ⟨S128x128, .i32⟩) Host.shrui
  :: TRef.binary (.of main_while0b_call4_call0_call0_v110 : TRef sig ⟨S128x128, .i32⟩) (.of main_while0b_call4_call0_call0_v112 : TRef sig ⟨S128x128, .i32⟩) (.of main_while0b_call4_call0_call0_v113 : TRef sig ⟨S128x128, .i32⟩) ori
  :: TRef.binary (.of main_while0b_call4_call0_call0_v108 : TRef sig ⟨S128x128, .i32⟩) (.of main_while0b_call4_call0_call0_v113 : TRef sig ⟨S128x128, .i32⟩) (.of main_while0b_call4_call0_call0_v114 : TRef sig ⟨S128x128, .i32⟩) xori
  :: TRef.binary (.of main_while0b_call4_call0_call0_v108 : TRef sig ⟨S128x128, .i32⟩) (.of main_while0b_call4_call0_call0_v114 : TRef sig ⟨S128x128, .i32⟩) (.of main_while0b_call4_call0_call0_v115 : TRef sig ⟨S128x128, .i32⟩) addi
  :: TRef.nullary (.of main_while0b_call4_call0_call0_c_29 : TRef sig ⟨S_, .i32⟩) (constantI S_ 32 29#32)
  :: TRef.unary (.of main_while0b_call4_call0_call0_c_29 : TRef sig ⟨S_, .i32⟩) (.of main_while0b_call4_call0_call0_v116 : TRef sig ⟨S128x128, .i32⟩) (broadcastInDim S128x128 ![] bcast_S_S128x128)
  :: TRef.binary (.of main_while0b_call4_call0_call0_v114 : TRef sig ⟨S128x128, .i32⟩) (.of main_while0b_call4_call0_call0_v116 : TRef sig ⟨S128x128, .i32⟩) (.of main_while0b_call4_call0_call0_v117 : TRef sig ⟨S128x128, .i32⟩) Host.shli
  :: TRef.nullary (.of main_while0b_call4_call0_call0_c_30 : TRef sig ⟨S_, .i32⟩) (constantI S_ 32 3#32)
  :: TRef.unary (.of main_while0b_call4_call0_call0_c_30 : TRef sig ⟨S_, .i32⟩) (.of main_while0b_call4_call0_call0_v118 : TRef sig ⟨S128x128, .i32⟩) (broadcastInDim S128x128 ![] bcast_S_S128x128)
  :: TRef.binary (.of main_while0b_call4_call0_call0_v114 : TRef sig ⟨S128x128, .i32⟩) (.of main_while0b_call4_call0_call0_v118 : TRef sig ⟨S128x128, .i32⟩) (.of main_while0b_call4_call0_call0_v119 : TRef sig ⟨S128x128, .i32⟩) Host.shrui
  :: TRef.binary (.of main_while0b_call4_call0_call0_v117 : TRef sig ⟨S128x128, .i32⟩) (.of main_while0b_call4_call0_call0_v119 : TRef sig ⟨S128x128, .i32⟩) (.of main_while0b_call4_call0_call0_v120 : TRef sig ⟨S128x128, .i32⟩) ori
  :: TRef.binary (.of main_while0b_call4_call0_call0_v115 : TRef sig ⟨S128x128, .i32⟩) (.of main_while0b_call4_call0_call0_v120 : TRef sig ⟨S128x128, .i32⟩) (.of main_while0b_call4_call0_call0_v121 : TRef sig ⟨S128x128, .i32⟩) xori
  :: TRef.binary (.of main_while0b_call4_call0_call0_v115 : TRef sig ⟨S128x128, .i32⟩) (.of main_while0b_call4_call0_call0_v121 : TRef sig ⟨S128x128, .i32⟩) (.of main_while0b_call4_call0_call0_v122 : TRef sig ⟨S128x128, .i32⟩) addi
  :: TRef.nullary (.of main_while0b_call4_call0_call0_c_31 : TRef sig ⟨S_, .i32⟩) (constantI S_ 32 16#32)
  :: TRef.unary (.of main_while0b_call4_call0_call0_c_31 : TRef sig ⟨S_, .i32⟩) (.of main_while0b_call4_call0_call0_v123 : TRef sig ⟨S128x128, .i32⟩) (broadcastInDim S128x128 ![] bcast_S_S128x128)
  :: TRef.binary (.of main_while0b_call4_call0_call0_v121 : TRef sig ⟨S128x128, .i32⟩) (.of main_while0b_call4_call0_call0_v123 : TRef sig ⟨S128x128, .i32⟩) (.of main_while0b_call4_call0_call0_v124 : TRef sig ⟨S128x128, .i32⟩) Host.shli
  :: TRef.nullary (.of main_while0b_call4_call0_call0_c_32 : TRef sig ⟨S_, .i32⟩) (constantI S_ 32 16#32)
  :: TRef.unary (.of main_while0b_call4_call0_call0_c_32 : TRef sig ⟨S_, .i32⟩) (.of main_while0b_call4_call0_call0_v125 : TRef sig ⟨S128x128, .i32⟩) (broadcastInDim S128x128 ![] bcast_S_S128x128)
  :: TRef.binary (.of main_while0b_call4_call0_call0_v121 : TRef sig ⟨S128x128, .i32⟩) (.of main_while0b_call4_call0_call0_v125 : TRef sig ⟨S128x128, .i32⟩) (.of main_while0b_call4_call0_call0_v126 : TRef sig ⟨S128x128, .i32⟩) Host.shrui
  :: TRef.binary (.of main_while0b_call4_call0_call0_v124 : TRef sig ⟨S128x128, .i32⟩) (.of main_while0b_call4_call0_call0_v126 : TRef sig ⟨S128x128, .i32⟩) (.of main_while0b_call4_call0_call0_v127 : TRef sig ⟨S128x128, .i32⟩) ori
  :: TRef.binary (.of main_while0b_call4_call0_call0_v122 : TRef sig ⟨S128x128, .i32⟩) (.of main_while0b_call4_call0_call0_v127 : TRef sig ⟨S128x128, .i32⟩) (.of main_while0b_call4_call0_call0_v128 : TRef sig ⟨S128x128, .i32⟩) xori
  :: TRef.binary (.of main_while0b_call4_call0_call0_v122 : TRef sig ⟨S128x128, .i32⟩) (.of main_while0b_call4_call0_call0_v128 : TRef sig ⟨S128x128, .i32⟩) (.of main_while0b_call4_call0_call0_v129 : TRef sig ⟨S128x128, .i32⟩) addi
  :: TRef.nullary (.of main_while0b_call4_call0_call0_c_33 : TRef sig ⟨S_, .i32⟩) (constantI S_ 32 24#32)
  :: TRef.unary (.of main_while0b_call4_call0_call0_c_33 : TRef sig ⟨S_, .i32⟩) (.of main_while0b_call4_call0_call0_v130 : TRef sig ⟨S128x128, .i32⟩) (broadcastInDim S128x128 ![] bcast_S_S128x128)
  :: TRef.binary (.of main_while0b_call4_call0_call0_v128 : TRef sig ⟨S128x128, .i32⟩) (.of main_while0b_call4_call0_call0_v130 : TRef sig ⟨S128x128, .i32⟩) (.of main_while0b_call4_call0_call0_v131 : TRef sig ⟨S128x128, .i32⟩) Host.shli
  :: TRef.nullary (.of main_while0b_call4_call0_call0_c_34 : TRef sig ⟨S_, .i32⟩) (constantI S_ 32 8#32)
  :: TRef.unary (.of main_while0b_call4_call0_call0_c_34 : TRef sig ⟨S_, .i32⟩) (.of main_while0b_call4_call0_call0_v132 : TRef sig ⟨S128x128, .i32⟩) (broadcastInDim S128x128 ![] bcast_S_S128x128)
  :: TRef.binary (.of main_while0b_call4_call0_call0_v128 : TRef sig ⟨S128x128, .i32⟩) (.of main_while0b_call4_call0_call0_v132 : TRef sig ⟨S128x128, .i32⟩) (.of main_while0b_call4_call0_call0_v133 : TRef sig ⟨S128x128, .i32⟩) Host.shrui
  :: TRef.binary (.of main_while0b_call4_call0_call0_v131 : TRef sig ⟨S128x128, .i32⟩) (.of main_while0b_call4_call0_call0_v133 : TRef sig ⟨S128x128, .i32⟩) (.of main_while0b_call4_call0_call0_v134 : TRef sig ⟨S128x128, .i32⟩) ori
  :: TRef.binary (.of main_while0b_call4_call0_call0_v129 : TRef sig ⟨S128x128, .i32⟩) (.of main_while0b_call4_call0_call0_v134 : TRef sig ⟨S128x128, .i32⟩) (.of main_while0b_call4_call0_call0_v135 : TRef sig ⟨S128x128, .i32⟩) xori
  :: TRef.unary (.of main_while0b_call4_call0_v6 : TRef sig ⟨S_, .i32⟩) (.of main_while0b_call4_call0_call0_v136 : TRef sig ⟨S128x128, .i32⟩) (broadcastInDim S128x128 ![] bcast_S_S128x128)
  :: TRef.binary (.of main_while0b_call4_call0_call0_v129 : TRef sig ⟨S128x128, .i32⟩) (.of main_while0b_call4_call0_call0_v136 : TRef sig ⟨S128x128, .i32⟩) (.of main_while0b_call4_call0_call0_v137 : TRef sig ⟨S128x128, .i32⟩) addi
  :: TRef.unary (.of main_while0b_call4_call0_call0_v1 : TRef sig ⟨S_, .i32⟩) (.of main_while0b_call4_call0_call0_v138 : TRef sig ⟨S128x128, .i32⟩) (broadcastInDim S128x128 ![] bcast_S_S128x128)
  :: TRef.binary (.of main_while0b_call4_call0_call0_v135 : TRef sig ⟨S128x128, .i32⟩) (.of main_while0b_call4_call0_call0_v138 : TRef sig ⟨S128x128, .i32⟩) (.of main_while0b_call4_call0_call0_v139 : TRef sig ⟨S128x128, .i32⟩) addi
  :: TRef.nullary (.of main_while0b_call4_call0_call0_c_35 : TRef sig ⟨S_, .i32⟩) (constantI S_ 32 4#32)
  :: TRef.unary (.of main_while0b_call4_call0_call0_c_35 : TRef sig ⟨S_, .i32⟩) (.of main_while0b_call4_call0_call0_v140 : TRef sig ⟨S128x128, .i32⟩) (broadcastInDim S128x128 ![] bcast_S_S128x128)
  :: TRef.binary (.of main_while0b_call4_call0_call0_v139 : TRef sig ⟨S128x128, .i32⟩) (.of main_while0b_call4_call0_call0_v140 : TRef sig ⟨S128x128, .i32⟩) (.of main_while0b_call4_call0_call0_v141 : TRef sig ⟨S128x128, .i32⟩) addi
  :: TRef.binary (.of main_while0b_call4_call0_call0_v137 : TRef sig ⟨S128x128, .i32⟩) (.of main_while0b_call4_call0_call0_v141 : TRef sig ⟨S128x128, .i32⟩) (.of main_while0b_call4_call0_call0_v142 : TRef sig ⟨S128x128, .i32⟩) addi
  :: TRef.nullary (.of main_while0b_call4_call0_call0_c_36 : TRef sig ⟨S_, .i32⟩) (constantI S_ 32 13#32)
  :: TRef.unary (.of main_while0b_call4_call0_call0_c_36 : TRef sig ⟨S_, .i32⟩) (.of main_while0b_call4_call0_call0_v143 : TRef sig ⟨S128x128, .i32⟩) (broadcastInDim S128x128 ![] bcast_S_S128x128)
  :: TRef.binary (.of main_while0b_call4_call0_call0_v141 : TRef sig ⟨S128x128, .i32⟩) (.of main_while0b_call4_call0_call0_v143 : TRef sig ⟨S128x128, .i32⟩) (.of main_while0b_call4_call0_call0_v144 : TRef sig ⟨S128x128, .i32⟩) Host.shli
  :: TRef.nullary (.of main_while0b_call4_call0_call0_c_37 : TRef sig ⟨S_, .i32⟩) (constantI S_ 32 19#32)
  :: TRef.unary (.of main_while0b_call4_call0_call0_c_37 : TRef sig ⟨S_, .i32⟩) (.of main_while0b_call4_call0_call0_v145 : TRef sig ⟨S128x128, .i32⟩) (broadcastInDim S128x128 ![] bcast_S_S128x128)
  :: TRef.binary (.of main_while0b_call4_call0_call0_v141 : TRef sig ⟨S128x128, .i32⟩) (.of main_while0b_call4_call0_call0_v145 : TRef sig ⟨S128x128, .i32⟩) (.of main_while0b_call4_call0_call0_v146 : TRef sig ⟨S128x128, .i32⟩) Host.shrui
  :: TRef.binary (.of main_while0b_call4_call0_call0_v144 : TRef sig ⟨S128x128, .i32⟩) (.of main_while0b_call4_call0_call0_v146 : TRef sig ⟨S128x128, .i32⟩) (.of main_while0b_call4_call0_call0_v147 : TRef sig ⟨S128x128, .i32⟩) ori
  :: TRef.binary (.of main_while0b_call4_call0_call0_v142 : TRef sig ⟨S128x128, .i32⟩) (.of main_while0b_call4_call0_call0_v147 : TRef sig ⟨S128x128, .i32⟩) (.of main_while0b_call4_call0_call0_v148 : TRef sig ⟨S128x128, .i32⟩) xori
  :: TRef.binary (.of main_while0b_call4_call0_call0_v142 : TRef sig ⟨S128x128, .i32⟩) (.of main_while0b_call4_call0_call0_v148 : TRef sig ⟨S128x128, .i32⟩) (.of main_while0b_call4_call0_call0_v149 : TRef sig ⟨S128x128, .i32⟩) addi
  :: TRef.nullary (.of main_while0b_call4_call0_call0_c_38 : TRef sig ⟨S_, .i32⟩) (constantI S_ 32 15#32)
  :: TRef.unary (.of main_while0b_call4_call0_call0_c_38 : TRef sig ⟨S_, .i32⟩) (.of main_while0b_call4_call0_call0_v150 : TRef sig ⟨S128x128, .i32⟩) (broadcastInDim S128x128 ![] bcast_S_S128x128)
  :: TRef.binary (.of main_while0b_call4_call0_call0_v148 : TRef sig ⟨S128x128, .i32⟩) (.of main_while0b_call4_call0_call0_v150 : TRef sig ⟨S128x128, .i32⟩) (.of main_while0b_call4_call0_call0_v151 : TRef sig ⟨S128x128, .i32⟩) Host.shli
  :: TRef.nullary (.of main_while0b_call4_call0_call0_c_39 : TRef sig ⟨S_, .i32⟩) (constantI S_ 32 17#32)
  :: TRef.unary (.of main_while0b_call4_call0_call0_c_39 : TRef sig ⟨S_, .i32⟩) (.of main_while0b_call4_call0_call0_v152 : TRef sig ⟨S128x128, .i32⟩) (broadcastInDim S128x128 ![] bcast_S_S128x128)
  :: TRef.binary (.of main_while0b_call4_call0_call0_v148 : TRef sig ⟨S128x128, .i32⟩) (.of main_while0b_call4_call0_call0_v152 : TRef sig ⟨S128x128, .i32⟩) (.of main_while0b_call4_call0_call0_v153 : TRef sig ⟨S128x128, .i32⟩) Host.shrui
  :: TRef.binary (.of main_while0b_call4_call0_call0_v151 : TRef sig ⟨S128x128, .i32⟩) (.of main_while0b_call4_call0_call0_v153 : TRef sig ⟨S128x128, .i32⟩) (.of main_while0b_call4_call0_call0_v154 : TRef sig ⟨S128x128, .i32⟩) ori
  :: TRef.binary (.of main_while0b_call4_call0_call0_v149 : TRef sig ⟨S128x128, .i32⟩) (.of main_while0b_call4_call0_call0_v154 : TRef sig ⟨S128x128, .i32⟩) (.of main_while0b_call4_call0_call0_v155 : TRef sig ⟨S128x128, .i32⟩) xori
  :: TRef.binary (.of main_while0b_call4_call0_call0_v149 : TRef sig ⟨S128x128, .i32⟩) (.of main_while0b_call4_call0_call0_v155 : TRef sig ⟨S128x128, .i32⟩) (.of main_while0b_call4_call0_call0_v156 : TRef sig ⟨S128x128, .i32⟩) addi
  :: TRef.nullary (.of main_while0b_call4_call0_call0_c_40 : TRef sig ⟨S_, .i32⟩) (constantI S_ 32 26#32)
  :: TRef.unary (.of main_while0b_call4_call0_call0_c_40 : TRef sig ⟨S_, .i32⟩) (.of main_while0b_call4_call0_call0_v157 : TRef sig ⟨S128x128, .i32⟩) (broadcastInDim S128x128 ![] bcast_S_S128x128)
  :: TRef.binary (.of main_while0b_call4_call0_call0_v155 : TRef sig ⟨S128x128, .i32⟩) (.of main_while0b_call4_call0_call0_v157 : TRef sig ⟨S128x128, .i32⟩) (.of main_while0b_call4_call0_call0_v158 : TRef sig ⟨S128x128, .i32⟩) Host.shli
  :: TRef.nullary (.of main_while0b_call4_call0_call0_c_41 : TRef sig ⟨S_, .i32⟩) (constantI S_ 32 6#32)
  :: TRef.unary (.of main_while0b_call4_call0_call0_c_41 : TRef sig ⟨S_, .i32⟩) (.of main_while0b_call4_call0_call0_v159 : TRef sig ⟨S128x128, .i32⟩) (broadcastInDim S128x128 ![] bcast_S_S128x128)
  :: TRef.binary (.of main_while0b_call4_call0_call0_v155 : TRef sig ⟨S128x128, .i32⟩) (.of main_while0b_call4_call0_call0_v159 : TRef sig ⟨S128x128, .i32⟩) (.of main_while0b_call4_call0_call0_v160 : TRef sig ⟨S128x128, .i32⟩) Host.shrui
  :: TRef.binary (.of main_while0b_call4_call0_call0_v158 : TRef sig ⟨S128x128, .i32⟩) (.of main_while0b_call4_call0_call0_v160 : TRef sig ⟨S128x128, .i32⟩) (.of main_while0b_call4_call0_call0_v161 : TRef sig ⟨S128x128, .i32⟩) ori
  :: TRef.binary (.of main_while0b_call4_call0_call0_v156 : TRef sig ⟨S128x128, .i32⟩) (.of main_while0b_call4_call0_call0_v161 : TRef sig ⟨S128x128, .i32⟩) (.of main_while0b_call4_call0_call0_v162 : TRef sig ⟨S128x128, .i32⟩) xori
  :: TRef.binary (.of main_while0b_call4_call0_call0_v156 : TRef sig ⟨S128x128, .i32⟩) (.of main_while0b_call4_call0_call0_v162 : TRef sig ⟨S128x128, .i32⟩) (.of main_while0b_call4_call0_call0_v163 : TRef sig ⟨S128x128, .i32⟩) addi
  :: TRef.nullary (.of main_while0b_call4_call0_call0_c_42 : TRef sig ⟨S_, .i32⟩) (constantI S_ 32 6#32)
  :: TRef.unary (.of main_while0b_call4_call0_call0_c_42 : TRef sig ⟨S_, .i32⟩) (.of main_while0b_call4_call0_call0_v164 : TRef sig ⟨S128x128, .i32⟩) (broadcastInDim S128x128 ![] bcast_S_S128x128)
  :: TRef.binary (.of main_while0b_call4_call0_call0_v162 : TRef sig ⟨S128x128, .i32⟩) (.of main_while0b_call4_call0_call0_v164 : TRef sig ⟨S128x128, .i32⟩) (.of main_while0b_call4_call0_call0_v165 : TRef sig ⟨S128x128, .i32⟩) Host.shli
  :: TRef.nullary (.of main_while0b_call4_call0_call0_c_43 : TRef sig ⟨S_, .i32⟩) (constantI S_ 32 26#32)
  :: TRef.unary (.of main_while0b_call4_call0_call0_c_43 : TRef sig ⟨S_, .i32⟩) (.of main_while0b_call4_call0_call0_v166 : TRef sig ⟨S128x128, .i32⟩) (broadcastInDim S128x128 ![] bcast_S_S128x128)
  :: TRef.binary (.of main_while0b_call4_call0_call0_v162 : TRef sig ⟨S128x128, .i32⟩) (.of main_while0b_call4_call0_call0_v166 : TRef sig ⟨S128x128, .i32⟩) (.of main_while0b_call4_call0_call0_v167 : TRef sig ⟨S128x128, .i32⟩) Host.shrui
  :: TRef.binary (.of main_while0b_call4_call0_call0_v165 : TRef sig ⟨S128x128, .i32⟩) (.of main_while0b_call4_call0_call0_v167 : TRef sig ⟨S128x128, .i32⟩) (.of main_while0b_call4_call0_call0_v168 : TRef sig ⟨S128x128, .i32⟩) ori
  :: TRef.binary (.of main_while0b_call4_call0_call0_v163 : TRef sig ⟨S128x128, .i32⟩) (.of main_while0b_call4_call0_call0_v168 : TRef sig ⟨S128x128, .i32⟩) (.of main_while0b_call4_call0_call0_v169 : TRef sig ⟨S128x128, .i32⟩) xori
  :: TRef.unary (.of main_while0b_call4_call0_call0_v1 : TRef sig ⟨S_, .i32⟩) (.of main_while0b_call4_call0_call0_v170 : TRef sig ⟨S128x128, .i32⟩) (broadcastInDim S128x128 ![] bcast_S_S128x128)
  :: TRef.binary (.of main_while0b_call4_call0_call0_v163 : TRef sig ⟨S128x128, .i32⟩) (.of main_while0b_call4_call0_call0_v170 : TRef sig ⟨S128x128, .i32⟩) (.of main_while0b_call4_call0_v18_0 : TRef sig ⟨S128x128, .i32⟩) addi
  :: TRef.unary (.of main_while0b_call4_call0_v4 : TRef sig ⟨S_, .i32⟩) (.of main_while0b_call4_call0_call0_v172 : TRef sig ⟨S128x128, .i32⟩) (broadcastInDim S128x128 ![] bcast_S_S128x128)
  :: TRef.binary (.of main_while0b_call4_call0_call0_v169 : TRef sig ⟨S128x128, .i32⟩) (.of main_while0b_call4_call0_call0_v172 : TRef sig ⟨S128x128, .i32⟩) (.of main_while0b_call4_call0_call0_v173 : TRef sig ⟨S128x128, .i32⟩) addi
  :: TRef.nullary (.of main_while0b_call4_call0_call0_c_44 : TRef sig ⟨S_, .i32⟩) (constantI S_ 32 5#32)
  :: TRef.unary (.of main_while0b_call4_call0_call0_c_44 : TRef sig ⟨S_, .i32⟩) (.of main_while0b_call4_call0_call0_v174 : TRef sig ⟨S128x128, .i32⟩) (broadcastInDim S128x128 ![] bcast_S_S128x128)
  :: TRef.binary (.of main_while0b_call4_call0_call0_v173 : TRef sig ⟨S128x128, .i32⟩) (.of main_while0b_call4_call0_call0_v174 : TRef sig ⟨S128x128, .i32⟩) (.of main_while0b_call4_call0_v18_1 : TRef sig ⟨S128x128, .i32⟩) addi
  :: TRef.binary main_while0b_call4_call0_call0.v171 main_while0b_call4_call0_call0.v175 (.of main_while0b_call4_call0_v19 : TRef sig ⟨S128x128, .i32⟩) xori
  :: TRef.nullary (.of main_while0b_call4_call0_c_2 : TRef sig ⟨S_, .i32⟩) (constantI S_ 32 9#32)
  :: TRef.unary (.of main_while0b_call4_call0_c_2 : TRef sig ⟨S_, .i32⟩) (.of main_while0b_call4_call0_v20 : TRef sig ⟨S128x128, .i32⟩) (broadcastInDim S128x128 ![] bcast_S_S128x128)
  :: TRef.binary (.of main_while0b_call4_call0_v19 : TRef sig ⟨S128x128, .i32⟩) (.of main_while0b_call4_call0_v20 : TRef sig ⟨S128x128, .i32⟩) (.of main_while0b_call4_call0_v21 : TRef sig ⟨S128x128, .i32⟩) Host.shrui
  :: TRef.nullary (.of main_while0b_call4_call0_c_3 : TRef sig ⟨S_, .i32⟩) (constantI S_ 32 1065353216#32)
  :: TRef.unary (.of main_while0b_call4_call0_c_3 : TRef sig ⟨S_, .i32⟩) (.of main_while0b_call4_call0_v22 : TRef sig ⟨S128x128, .i32⟩) (broadcastInDim S128x128 ![] bcast_S_S128x128)
  :: TRef.binary (.of main_while0b_call4_call0_v21 : TRef sig ⟨S128x128, .i32⟩) (.of main_while0b_call4_call0_v22 : TRef sig ⟨S128x128, .i32⟩) (.of main_while0b_call4_call0_v23 : TRef sig ⟨S128x128, .i32⟩) ori
  :: TRef.unary (.of main_while0b_call4_call0_v23 : TRef sig ⟨S128x128, .i32⟩) (.of main_while0b_call4_call0_v24 : TRef sig ⟨S128x128, .f32⟩) (bitcastToFloat .f32)
  :: TRef.nullary (.of main_while0b_call4_call0_cst : TRef sig ⟨S_, .f32⟩) (constant S_ .f32 0x3F800000#32)
  :: TRef.unary (.of main_while0b_call4_call0_cst : TRef sig ⟨S_, .f32⟩) (.of main_while0b_call4_call0_v25 : TRef sig ⟨S128x128, .f32⟩) (broadcastInDim S128x128 ![] bcast_S_S128x128)
  :: TRef.binary (.of main_while0b_call4_call0_v24 : TRef sig ⟨S128x128, .f32⟩) (.of main_while0b_call4_call0_v25 : TRef sig ⟨S128x128, .f32⟩) (.of main_while0b_call4_call0_v26 : TRef sig ⟨S128x128, .f32⟩) subf
  :: TRef.binary (.of main_while0b_call4_call0_v2 : TRef sig ⟨S1x1, .f32⟩) (.of main_while0b_call4_call0_v1 : TRef sig ⟨S1x1, .f32⟩) (.of main_while0b_call4_call0_v27 : TRef sig ⟨S1x1, .f32⟩) subf
  :: TRef.unary (.of main_while0b_call4_call0_v27 : TRef sig ⟨S1x1, .f32⟩) (.of main_while0b_call4_call0_v28 : TRef sig ⟨S128x128, .f32⟩) (broadcastInDim S128x128 ![0, 1] bcast_S1x1_S128x128_0_1)
  :: TRef.binary (.of main_while0b_call4_call0_v26 : TRef sig ⟨S128x128, .f32⟩) (.of main_while0b_call4_call0_v28 : TRef sig ⟨S128x128, .f32⟩) (.of main_while0b_call4_call0_v29 : TRef sig ⟨S128x128, .f32⟩) mulf
  :: TRef.unary (.of main_while0b_call4_call0_v1 : TRef sig ⟨S1x1, .f32⟩) (.of main_while0b_call4_call0_v30 : TRef sig ⟨S128x128, .f32⟩) (broadcastInDim S128x128 ![0, 1] bcast_S1x1_S128x128_0_1)
  :: TRef.binary (.of main_while0b_call4_call0_v29 : TRef sig ⟨S128x128, .f32⟩) (.of main_while0b_call4_call0_v30 : TRef sig ⟨S128x128, .f32⟩) (.of main_while0b_call4_call0_v31 : TRef sig ⟨S128x128, .f32⟩) addf
  :: TRef.unary (.of main_while0b_call4_call0_v1 : TRef sig ⟨S1x1, .f32⟩) (.of main_while0b_call4_call0_v32 : TRef sig ⟨S128x128, .f32⟩) (broadcastInDim S128x128 ![0, 1] bcast_S1x1_S128x128_0_1)
  :: TRef.binary (.of main_while0b_call4_call0_v32 : TRef sig ⟨S128x128, .f32⟩) (.of main_while0b_call4_call0_v31 : TRef sig ⟨S128x128, .f32⟩) (.of main_while0b_call4_v0 : TRef sig ⟨S128x128, .f32⟩) maximumf
  :: TRef.unary main_while0b_call4_call0.v33 (.of main_while0b_call4_v1 : TRef sig ⟨S128x128, .f32⟩) Host.log
  :: TRef.unary (.of main_while0b_call4_v1 : TRef sig ⟨S128x128, .f32⟩) (.of main_while0b_call4_v2 : TRef sig ⟨S128x128, .f32⟩) Host.negf
  :: TRef.unary (.of main_while0b_call4_v2 : TRef sig ⟨S128x128, .f32⟩) (.of main_while0b_call4_v3 : TRef sig ⟨S128x128, .f32⟩) Host.log
  :: TRef.unary (.of main_while0b_call4_v3 : TRef sig ⟨S128x128, .f32⟩) (.of main_while0b_v57 : TRef sig ⟨S128x128, .f32⟩) Host.negf
  :: [] )
set_option maxHeartbeats 40000000 in
/-- Each touches buffers of the TensorCore only. -/
theorem while0Ops0_7_sub : (while0Ops0_7 : List (HloOp τ sig (Elt F))).Forall fun op => op.bufs ⊆ tcRefs τ sig :=
  ⟨nullary_bufs_sub .., nullary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub ..⟩
/-- 1 host operation of host loop 0's body region, in order. -/
abbrev while0Ops0_8 : List (HloOp τ sig (Elt F)) :=
  [ binary main_while0b_v57 main_while0b_v54 main_while0b_v58 (addf : (⟨S128x128, .f32⟩ : BufTy).Contents (Elt F) → (⟨S128x128, .f32⟩ : BufTy).Contents (Elt F) → (⟨S128x128, .f32⟩ : BufTy).Contents (Elt F)) ]
/-- Each touches buffers of the TensorCore only. -/
theorem while0Ops0_8_sub : (while0Ops0_8 : List (HloOp τ sig (Elt F))).Forall fun op => op.bufs ⊆ tcRefs τ sig :=
  binary_bufs_sub ..
/-- 5 host operations of @argmax (main_while0b_call5), in order. -/
abbrev while0Ops0_9 : List (HloOp τ sig (Elt F)) :=
  [ TRef.nullary (.of main_while0b_call5_v0 : TRef sig ⟨S128x128, .i32⟩) (iotaInDim S128x128 32 1),
    TRef.nullary (.of main_while0b_call5_cst : TRef sig ⟨S_, .f32⟩) (constant S_ .f32 0xFF800000#32),
    TRef.nullary (.of main_while0b_call5_c : TRef sig ⟨S_, .i32⟩) (constantI S_ 32 0#32),
    TRef.quaternary (.of main_while0b_v58 : TRef sig ⟨S128x128, .f32⟩) (.of main_while0b_call5_v0 : TRef sig ⟨S128x128, .i32⟩) (.of main_while0b_call5_cst : TRef sig ⟨S_, .f32⟩) (.of main_while0b_call5_c : TRef sig ⟨S_, .i32⟩) (.of main_while0b_call5_v1_0 : TRef sig ⟨S128, .f32⟩) (fun x y u v j => (Host.argReduce reducer_argmax_f32_i32 x y u v reducesTo_S128x128_S128_d1 h_S_ j).1),
    TRef.quaternary (.of main_while0b_v58 : TRef sig ⟨S128x128, .f32⟩) (.of main_while0b_call5_v0 : TRef sig ⟨S128x128, .i32⟩) (.of main_while0b_call5_cst : TRef sig ⟨S_, .f32⟩) (.of main_while0b_call5_c : TRef sig ⟨S_, .i32⟩) (.of main_while0b_v59 : TRef sig ⟨S128, .i32⟩) (fun x y u v j => (Host.argReduce reducer_argmax_f32_i32 x y u v reducesTo_S128x128_S128_d1 h_S_ j).2) ]
/-- Each touches buffers of the TensorCore only. -/
theorem while0Ops0_9_sub : (while0Ops0_9 : List (HloOp τ sig (Elt F))).Forall fun op => op.bufs ⊆ tcRefs τ sig :=
  ⟨nullary_bufs_sub .., nullary_bufs_sub .., nullary_bufs_sub .., quaternary_bufs_sub .., quaternary_bufs_sub ..⟩
/-- 15 host operations of @log_softmax (main_while0b_call6), in order. -/
abbrev while0Ops0_10 : List (HloOp τ sig (Elt F)) :=
  [ TRef.nullary (.of main_while0b_call6_cst : TRef sig ⟨S_, .f32⟩) (constant S_ .f32 0xFF800000#32),
    TRef.binary (.of main_while0b_v54 : TRef sig ⟨S128x128, .f32⟩) (.of main_while0b_call6_cst : TRef sig ⟨S_, .f32⟩) (.of main_while0b_call6_v0 : TRef sig ⟨S128, .f32⟩) (fun x v => Host.reduce FloatOps.maximumf x v reducesTo_S128x128_S128_d1 h_S_),
    TRef.nullary (.of main_while0b_call6_cst_0 : TRef sig ⟨S_, .f32⟩) (constant S_ .f32 0xFF800000#32),
    TRef.unary (.of main_while0b_call6_cst_0 : TRef sig ⟨S_, .f32⟩) (.of main_while0b_call6_v1 : TRef sig ⟨S128, .f32⟩) (broadcastInDim S128 ![] bcast_S_S128),
    TRef.binary (.of main_while0b_call6_v1 : TRef sig ⟨S128, .f32⟩) (.of main_while0b_call6_v0 : TRef sig ⟨S128, .f32⟩) (.of main_while0b_call6_v2 : TRef sig ⟨S128, .f32⟩) maximumf,
    TRef.unary (.of main_while0b_call6_v2 : TRef sig ⟨S128, .f32⟩) (.of main_while0b_call6_v3 : TRef sig ⟨S128x1, .f32⟩) (broadcastInDim S128x1 ![0] bcast_S128_S128x1_0),
    TRef.unary (.of main_while0b_call6_v3 : TRef sig ⟨S128x1, .f32⟩) (.of main_while0b_call6_v4 : TRef sig ⟨S128x128, .f32⟩) (broadcastInDim S128x128 ![0, 1] bcast_S128x1_S128x128_0_1),
    TRef.binary (.of main_while0b_v54 : TRef sig ⟨S128x128, .f32⟩) (.of main_while0b_call6_v4 : TRef sig ⟨S128x128, .f32⟩) (.of main_while0b_call6_v5 : TRef sig ⟨S128x128, .f32⟩) subf,
    TRef.unary (.of main_while0b_call6_v5 : TRef sig ⟨S128x128, .f32⟩) (.of main_while0b_call6_v6 : TRef sig ⟨S128x128, .f32⟩) Host.exp,
    TRef.nullary (.of main_while0b_call6_cst_1 : TRef sig ⟨S_, .f32⟩) (constant S_ .f32 0x00000000#32),
    TRef.binary (.of main_while0b_call6_v6 : TRef sig ⟨S128x128, .f32⟩) (.of main_while0b_call6_cst_1 : TRef sig ⟨S_, .f32⟩) (.of main_while0b_call6_v7 : TRef sig ⟨S128, .f32⟩) (fun x v => Host.reduceAdd x v reducesTo_S128x128_S128_d1 h_S_),
    TRef.unary (.of main_while0b_call6_v7 : TRef sig ⟨S128, .f32⟩) (.of main_while0b_call6_v8 : TRef sig ⟨S128x1, .f32⟩) (broadcastInDim S128x1 ![0] bcast_S128_S128x1_0),
    TRef.unary (.of main_while0b_call6_v8 : TRef sig ⟨S128x1, .f32⟩) (.of main_while0b_call6_v9 : TRef sig ⟨S128x1, .f32⟩) Host.log,
    TRef.unary (.of main_while0b_call6_v9 : TRef sig ⟨S128x1, .f32⟩) (.of main_while0b_call6_v10 : TRef sig ⟨S128x128, .f32⟩) (broadcastInDim S128x128 ![0, 1] bcast_S128x1_S128x128_0_1),
    TRef.binary (.of main_while0b_call6_v5 : TRef sig ⟨S128x128, .f32⟩) (.of main_while0b_call6_v10 : TRef sig ⟨S128x128, .f32⟩) (.of main_while0b_v60 : TRef sig ⟨S128x128, .f32⟩) subf ]
/-- Each touches buffers of the TensorCore only. -/
theorem while0Ops0_10_sub : (while0Ops0_10 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
/-- 1 host operation of host loop 0's body region, in order. -/
abbrev while0Ops0_11 : List (HloOp τ sig (Elt F)) :=
  [ unary main_while0b_v59 main_while0b_v61 (broadcastInDim S128x1 ![0] bcast_S128_S128x1_0 : (⟨S128, .i32⟩ : BufTy).Contents (Elt F) → (⟨S128x1, .i32⟩ : BufTy).Contents (Elt F)) ]
/-- Each touches buffers of the TensorCore only. -/
theorem while0Ops0_11_sub : (while0Ops0_11 : List (HloOp τ sig (Elt F))).Forall fun op => op.bufs ⊆ tcRefs τ sig :=
  unary_bufs_sub ..
/-- 22 host operations of @take_along_axis (main_while0b_call7), in order. -/
abbrev while0Ops0_12 : List (HloOp τ sig (Elt F)) :=
  [ TRef.nullary (.of main_while0b_call7_c : TRef sig ⟨S_, .i32⟩) (constantI S_ 32 0#32),
    TRef.unary (.of main_while0b_call7_c : TRef sig ⟨S_, .i32⟩) (.of main_while0b_call7_v0 : TRef sig ⟨S128x1, .i32⟩) (broadcastInDim S128x1 ![] bcast_S_S128x1),
    TRef.binary (.of main_while0b_v61 : TRef sig ⟨S128x1, .i32⟩) (.of main_while0b_call7_v0 : TRef sig ⟨S128x1, .i32⟩) (.of main_while0b_call7_v1 : TRef sig ⟨S128x1, .i1⟩) (cmpi .slt),
    TRef.nullary (.of main_while0b_call7_c_0 : TRef sig ⟨S_, .i32⟩) (constantI S_ 32 128#32),
    TRef.unary (.of main_while0b_call7_c_0 : TRef sig ⟨S_, .i32⟩) (.of main_while0b_call7_v2 : TRef sig ⟨S128x1, .i32⟩) (broadcastInDim S128x1 ![] bcast_S_S128x1),
    TRef.binary (.of main_while0b_v61 : TRef sig ⟨S128x1, .i32⟩) (.of main_while0b_call7_v2 : TRef sig ⟨S128x1, .i32⟩) (.of main_while0b_call7_v3 : TRef sig ⟨S128x1, .i32⟩) addi,
    TRef.ternary (.of main_while0b_call7_v1 : TRef sig ⟨S128x1, .i1⟩) (.of main_while0b_call7_v3 : TRef sig ⟨S128x1, .i32⟩) (.of main_while0b_v61 : TRef sig ⟨S128x1, .i32⟩) (.of main_while0b_call7_v4 : TRef sig ⟨S128x1, .i32⟩) select,
    TRef.reshape (.of main_while0b_call7_v4 : TRef sig ⟨S128x1, .i32⟩) (.of main_while0b_call7_v5 : TRef sig ⟨S128x1x1, .i32⟩) (rfl : (.i32 : EltTy) = .i32) shapeCasts_S128x1_S128x1x1,
    TRef.nullary (.of main_while0b_call7_c_1 : TRef sig ⟨S1, .i32⟩) (constantI S1 32 127#32),
    TRef.nullary (.of main_while0b_call7_c_2 : TRef sig ⟨S_, .i32⟩) (constantI S_ 32 0#32),
    TRef.unary (.of main_while0b_call7_c_2 : TRef sig ⟨S_, .i32⟩) (.of main_while0b_call7_v6 : TRef sig ⟨S128x1x1, .i32⟩) (broadcastInDim S128x1x1 ![] bcast_S_S128x1x1),
    TRef.binary (.of main_while0b_call7_v5 : TRef sig ⟨S128x1x1, .i32⟩) (.of main_while0b_call7_v6 : TRef sig ⟨S128x1x1, .i32⟩) (.of main_while0b_call7_v7 : TRef sig ⟨S128x1x1, .i1⟩) (cmpi .sge),
    TRef.unary (.of main_while0b_call7_c_1 : TRef sig ⟨S1, .i32⟩) (.of main_while0b_call7_v8 : TRef sig ⟨S1x1x1, .i32⟩) (broadcastInDim S1x1x1 ![2] bcast_S1_S1x1x1_2),
    TRef.unary (.of main_while0b_call7_v8 : TRef sig ⟨S1x1x1, .i32⟩) (.of main_while0b_call7_v9 : TRef sig ⟨S128x1x1, .i32⟩) (broadcastInDim S128x1x1 ![0, 1, 2] bcast_S1x1x1_S128x1x1_0_1_2),
    TRef.binary (.of main_while0b_call7_v5 : TRef sig ⟨S128x1x1, .i32⟩) (.of main_while0b_call7_v9 : TRef sig ⟨S128x1x1, .i32⟩) (.of main_while0b_call7_v10 : TRef sig ⟨S128x1x1, .i1⟩) (cmpi .sle),
    TRef.binary (.of main_while0b_call7_v7 : TRef sig ⟨S128x1x1, .i1⟩) (.of main_while0b_call7_v10 : TRef sig ⟨S128x1x1, .i1⟩) (.of main_while0b_call7_v11 : TRef sig ⟨S128x1x1, .i1⟩) andi,
    TRef.nullary (.of main_while0b_call7_c_3 : TRef sig ⟨S_, .i1⟩) (constantI S_ 1 1#1),
    TRef.binary (.of main_while0b_call7_v11 : TRef sig ⟨S128x1x1, .i1⟩) (.of main_while0b_call7_c_3 : TRef sig ⟨S_, .i1⟩) (.of main_while0b_call7_v12 : TRef sig ⟨S128x1, .i1⟩) (fun x v => Host.reduce IntOp.andi x v reducesTo_S128x1x1_S128x1_d2 h_S_),
    TRef.binary (.of main_while0b_v60 : TRef sig ⟨S128x128, .f32⟩) (.of main_while0b_call7_v5 : TRef sig ⟨S128x1x1, .i32⟩) (.of main_while0b_call7_v13 : TRef sig ⟨S128x1, .f32⟩) (fun x i => Host.gather gather_S128x128_S128x1x1_S128x1_n_1_0_0_1_2_11 x i),
    TRef.nullary (.of main_while0b_call7_cst : TRef sig ⟨S_, .f32⟩) (constant S_ .f32 0x7FC00000#32),
    TRef.unary (.of main_while0b_call7_cst : TRef sig ⟨S_, .f32⟩) (.of main_while0b_call7_v14 : TRef sig ⟨S128x1, .f32⟩) (broadcastInDim S128x1 ![] bcast_S_S128x1),
    TRef.ternary (.of main_while0b_call7_v12 : TRef sig ⟨S128x1, .i1⟩) (.of main_while0b_call7_v13 : TRef sig ⟨S128x1, .f32⟩) (.of main_while0b_call7_v14 : TRef sig ⟨S128x1, .f32⟩) (.of main_while0b_v62 : TRef sig ⟨S128x1, .f32⟩) select ]
/-- Each touches buffers of the TensorCore only. -/
theorem while0Ops0_12_sub : (while0Ops0_12 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
/-- 7 host operations of host loop 0's body region, in order. -/
abbrev while0Ops0_13 : List (HloOp τ sig (Elt F)) :=
  [ reshape main_while0b_v62 main_while0b_v63 (rfl : (.f32 : EltTy) = .f32) shapeCasts_S128x1_S128,
    binary main_v16_13 main_while0b_v63 main_while0b_v64 (addf : (⟨S128, .f32⟩ : BufTy).Contents (Elt F) → (⟨S128, .f32⟩ : BufTy).Contents (Elt F) → (⟨S128, .f32⟩ : BufTy).Contents (Elt F)),
    unary main_while0b_v60 main_while0b_v65 (Host.exp : (⟨S128x128, .f32⟩ : BufTy).Contents (Elt F) → (⟨S128x128, .f32⟩ : BufTy).Contents (Elt F)),
    binary main_while0b_v65 main_while0b_v60 main_while0b_v66 (mulf : (⟨S128x128, .f32⟩ : BufTy).Contents (Elt F) → (⟨S128x128, .f32⟩ : BufTy).Contents (Elt F) → (⟨S128x128, .f32⟩ : BufTy).Contents (Elt F)),
    nullary main_while0b_cst_28 (constant S_ .f32 0x00000000#32),
    binary main_while0b_v66 main_while0b_cst_28 main_while0b_v67 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    binary main_v16_14 main_while0b_v67 main_while0b_v68 (subf : (⟨S128, .f32⟩ : BufTy).Contents (Elt F) → (⟨S128, .f32⟩ : BufTy).Contents (Elt F) → (⟨S128, .f32⟩ : BufTy).Contents (Elt F)) ]
/-- Each touches buffers of the TensorCore only. -/
theorem while0Ops0_13_sub : (while0Ops0_13 : List (HloOp τ sig (Elt F))).Forall fun op => op.bufs ⊆ tcRefs τ sig :=
  ⟨reshape_bufs_sub .., binary_bufs_sub .., unary_bufs_sub .., binary_bufs_sub .., nullary_bufs_sub .., binary_bufs_sub .., binary_bufs_sub ..⟩
/-- 6 host operations of @_one_hot (main_while0b_call8), in order. -/
abbrev while0Ops0_14 : List (HloOp τ sig (Elt F)) :=
  [ TRef.unary (.of main_while0b_v59 : TRef sig ⟨S128, .i32⟩) (.of main_while0b_call8_v0 : TRef sig ⟨S128x1, .i32⟩) (broadcastInDim S128x1 ![0] bcast_S128_S128x1_0),
    TRef.nullary (.of main_while0b_call8_v1 : TRef sig ⟨S1x128, .i32⟩) (iotaInDim S1x128 32 1),
    TRef.unary (.of main_while0b_call8_v0 : TRef sig ⟨S128x1, .i32⟩) (.of main_while0b_call8_v2 : TRef sig ⟨S128x128, .i32⟩) (broadcastInDim S128x128 ![0, 1] bcast_S128x1_S128x128_0_1),
    TRef.unary (.of main_while0b_call8_v1 : TRef sig ⟨S1x128, .i32⟩) (.of main_while0b_call8_v3 : TRef sig ⟨S128x128, .i32⟩) (broadcastInDim S128x128 ![0, 1] bcast_S1x128_S128x128_0_1),
    TRef.binary (.of main_while0b_call8_v2 : TRef sig ⟨S128x128, .i32⟩) (.of main_while0b_call8_v3 : TRef sig ⟨S128x128, .i32⟩) (.of main_while0b_call8_v4 : TRef sig ⟨S128x128, .i1⟩) (cmpi .eq),
    TRef.unary (.of main_while0b_call8_v4 : TRef sig ⟨S128x128, .i1⟩) (.of main_while0b_v69 : TRef sig ⟨S128x128, .f32⟩) (uitofp .f32) ]
/-- Each touches buffers of the TensorCore only. -/
theorem while0Ops0_14_sub : (while0Ops0_14 : List (HloOp τ sig (Elt F))).Forall fun op => op.bufs ⊆ tcRefs τ sig :=
  ⟨unary_bufs_sub .., nullary_bufs_sub .., unary_bufs_sub .., unary_bufs_sub .., binary_bufs_sub .., unary_bufs_sub ..⟩
/-- 22 host operations of host loop 0's body region, in order. -/
abbrev while0Ops0_15 : List (HloOp τ sig (Elt F)) :=
  [ binary main_v16_11 main_while0b_v69 main_while0b_v70 (addf : (⟨S128x128, .f32⟩ : BufTy).Contents (Elt F) → (⟨S128x128, .f32⟩ : BufTy).Contents (Elt F) → (⟨S128x128, .f32⟩ : BufTy).Contents (Elt F)),
    nullary main_while0b_c_29 (constantI S_ 32 0#32),
    unary main_while0b_c_29 main_while0b_v71 (broadcastInDim S128 ![] bcast_S_S128 : (⟨S_, .i32⟩ : BufTy).Contents (Elt F) → (⟨S128, .i32⟩ : BufTy).Contents (Elt F)),
    binary main_v16_8 main_while0b_v71 main_while0b_v72 (cmpi .slt : (⟨S128, .i32⟩ : BufTy).Contents (Elt F) → (⟨S128, .i32⟩ : BufTy).Contents (Elt F) → (⟨S128, .i1⟩ : BufTy).Contents (Elt F)),
    nullary main_while0b_c_30 (constantI S_ 32 128#32),
    unary main_while0b_c_30 main_while0b_v73 (broadcastInDim S128 ![] bcast_S_S128 : (⟨S_, .i32⟩ : BufTy).Contents (Elt F) → (⟨S128, .i32⟩ : BufTy).Contents (Elt F)),
    binary main_v16_8 main_while0b_v73 main_while0b_v74 (addi : (⟨S128, .i32⟩ : BufTy).Contents (Elt F) → (⟨S128, .i32⟩ : BufTy).Contents (Elt F) → (⟨S128, .i32⟩ : BufTy).Contents (Elt F)),
    ternary main_while0b_v72 main_while0b_v74 main_v16_8 main_while0b_v75 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    nullary main_while0b_c_31 (constantI S_ 32 0#32),
    unary main_while0b_c_31 main_while0b_v76 (broadcastInDim S128 ![] bcast_S_S128 : (⟨S_, .i32⟩ : BufTy).Contents (Elt F) → (⟨S128, .i32⟩ : BufTy).Contents (Elt F)),
    binary main_while0b_v59 main_while0b_v76 main_while0b_v77 (cmpi .slt : (⟨S128, .i32⟩ : BufTy).Contents (Elt F) → (⟨S128, .i32⟩ : BufTy).Contents (Elt F) → (⟨S128, .i1⟩ : BufTy).Contents (Elt F)),
    nullary main_while0b_c_32 (constantI S_ 32 128#32),
    unary main_while0b_c_32 main_while0b_v78 (broadcastInDim S128 ![] bcast_S_S128 : (⟨S_, .i32⟩ : BufTy).Contents (Elt F) → (⟨S128, .i32⟩ : BufTy).Contents (Elt F)),
    binary main_while0b_v59 main_while0b_v78 main_while0b_v79 (addi : (⟨S128, .i32⟩ : BufTy).Contents (Elt F) → (⟨S128, .i32⟩ : BufTy).Contents (Elt F) → (⟨S128, .i32⟩ : BufTy).Contents (Elt F)),
    ternary main_while0b_v77 main_while0b_v79 main_while0b_v59 main_while0b_v80 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_while0b_v75 main_while0b_v81 (broadcastInDim S128x1 ![0] bcast_S128_S128x1_0 : (⟨S128, .i32⟩ : BufTy).Contents (Elt F) → (⟨S128x1, .i32⟩ : BufTy).Contents (Elt F)),
    unary main_while0b_v80 main_while0b_v82 (broadcastInDim S128x1 ![0] bcast_S128_S128x1_0 : (⟨S128, .i32⟩ : BufTy).Contents (Elt F) → (⟨S128x1, .i32⟩ : BufTy).Contents (Elt F)),
    binary main_while0b_v81 main_while0b_v82 main_while0b_v83 ((fun a b => concatenate S128x2 1 [⟨S128x1, a⟩, ⟨S128x1, b⟩] concatenates_S128x1_S128x1_S128x2_d1) : (⟨S128x1, .i32⟩ : BufTy).Contents (Elt F) → (⟨S128x1, .i32⟩ : BufTy).Contents (Elt F) → (⟨S128x2, .i32⟩ : BufTy).Contents (Elt F)),
    binary main_v16_9 main_while0b_v83 main_while0b_v84 ((fun x i => Host.gather gather_S128x128x512_S128x2_S128x512_1_01_n_n_01_1_11512 x i) : (⟨S128x128x512, .f32⟩ : BufTy).Contents (Elt F) → (⟨S128x2, .i32⟩ : BufTy).Contents (Elt F) → (⟨S128x512, .f32⟩ : BufTy).Contents (Elt F)),
    unary main_v16_12 main_while0b_v85 ((extractStridedSlice S2x128x512 ![1, 0, 0] · slices_S3x128x512_S2x128x512_1_0_0) : (⟨S3x128x512, .f32⟩ : BufTy).Contents (Elt F) → (⟨S2x128x512, .f32⟩ : BufTy).Contents (Elt F)),
    unary main_while0b_v84 main_while0b_v86 (broadcastInDim S1x128x512 ![1, 2] bcast_S128x512_S1x128x512_1_2 : (⟨S128x512, .f32⟩ : BufTy).Contents (Elt F) → (⟨S1x128x512, .f32⟩ : BufTy).Contents (Elt F)),
    binary main_while0b_v85 main_while0b_v86 main_while0b_v87 ((fun a b => concatenate S3x128x512 0 [⟨S2x128x512, a⟩, ⟨S1x128x512, b⟩] concatenates_S2x128x512_S1x128x512_S3x128x512_d0) : (⟨S2x128x512, .f32⟩ : BufTy).Contents (Elt F) → (⟨S1x128x512, .f32⟩ : BufTy).Contents (Elt F) → (⟨S3x128x512, .f32⟩ : BufTy).Contents (Elt F)) ]
/-- Each touches buffers of the TensorCore only. -/
theorem while0Ops0_15_sub : (while0Ops0_15 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub ..⟩
/-- 3 host operations of @dynamic_update_index_in_dim (main_while0b_call9), in order. -/
abbrev while0Ops0_16 : List (HloOp τ sig (Elt F)) :=
  [ TRef.unary (.of main_while0b_v59 : TRef sig ⟨S128, .i32⟩) (.of main_while0b_call9_v0 : TRef sig ⟨S1x128, .i32⟩) (broadcastInDim S1x128 ![1] bcast_S128_S1x128_1),
    TRef.nullary (.of main_while0b_call9_c : TRef sig ⟨S_, .i32⟩) (constantI S_ 32 0#32),
    TRef.binaryIndexed (.of main_v16_15 : TRef sig ⟨S128x128, .i32⟩) (.of main_while0b_call9_v0 : TRef sig ⟨S1x128, .i32⟩) ![(.of main_v16_10 : TRef sig ⟨S_, .i32⟩), (.of main_while0b_call9_c : TRef sig ⟨S_, .i32⟩)] (.of main_while0b_v88 : TRef sig ⟨S128x128, .i32⟩) (fun x u i => Host.dynamicUpdateSlice x u (fun k => (i k (Shape.Idx.first h_S_)).toInt) updateFits_S128x128_S1x128) ]
/-- Each touches buffers of the TensorCore only. -/
theorem while0Ops0_16_sub : (while0Ops0_16 : List (HloOp τ sig (Elt F))).Forall fun op => op.bufs ⊆ tcRefs τ sig :=
  ⟨unary_bufs_sub .., nullary_bufs_sub .., binaryIndexed_bufs_sub ..⟩
/-- 8 host operations of host loop 0's body region, in order. -/
abbrev while0Ops0_17 : List (HloOp τ sig (Elt F)) :=
  [ nullary main_while0b_c_33 (constantI S_ 32 1#32),
    binary main_v16_10 main_while0b_c_33 main_while0b_v89 (addi : (⟨S_, .i32⟩ : BufTy).Contents (Elt F) → (⟨S_, .i32⟩ : BufTy).Contents (Elt F) → (⟨S_, .i32⟩ : BufTy).Contents (Elt F)),
    unary main_while0b_v89 main_v16_10 id,
    unary main_while0b_v70 main_v16_11 id,
    unary main_while0b_v87 main_v16_12 id,
    unary main_while0b_v64 main_v16_13 id,
    unary main_while0b_v68 main_v16_14 id,
    unary main_while0b_v88 main_v16_15 id ]
/-- Each touches buffers of the TensorCore only. -/
theorem while0Ops0_17_sub : (while0Ops0_17 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub ..⟩
/-- One trip of the loop is its stretches one after the other. -/
theorem while0_body_chain : main_while0_body (F := F) = (Pipeline.chain
  [ seq while0Ops0,
    seq while0Ops0_1,
    seq while0Ops0_2,
    seq while0Ops0_3,
    seq while0Ops0_4,
    seq while0Ops0_5,
    seq while0Ops0_6,
    seq while0Ops0_7,
    seq while0Ops0_8,
    seq while0Ops0_9,
    seq while0Ops0_10,
    seq while0Ops0_11,
    seq while0Ops0_12,
    seq while0Ops0_13,
    seq while0Ops0_14,
    seq while0Ops0_15,
    seq while0Ops0_16,
    seq while0Ops0_17 ] : Prog (TpuEff nD τ sig (Elt F) (HostLoop.Sig (Pipeline.Sig Λ₀ (Fin 0) fun p => (pcfgs (F := F) p).Adm) 1) .tc) PUnit) := by
  rewrite [Pipeline.chain_cons, chain_seq_cons, Pipeline.chain_cons, chain_seq_cons, Pipeline.chain_cons, chain_seq_cons, Pipeline.chain_cons, Pipeline.chain_cons, chain_seq_cons, Pipeline.chain_cons, Pipeline.chain_cons, chain_seq_cons, Pipeline.chain_cons, chain_seq_cons, Pipeline.chain_cons, chain_seq_cons, Pipeline.chain_cons, chain_seq_cons]
  chain_rfl

end Cert.ReferenceIdeal.Gen

end
-- ==== Proof.RefFold.lean ====
/- The reference program runs: no stretch of its operations allocates, each writes the buffers listed, and every buffer
   ends at what the stretches leave, trip after trip. -/
module

public import proofs.«01_k».proof.Proof.RefOps
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 5408

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_v2, main_cst, main_v3, main_cst_0, main_v4, main_cst_1, main_v5, main_cst_2, main_v6, main_c, main_c_3, main_v7, main_v8, main_v9, main_c_4, main_v10, main_v11, main_v12, main_v13, main_v14, main_c_5, main_v15, main_c_6, main_v16_0, main_v16_1, main_v16_2, main_v16_3, main_v16_4, main_v16_5, main_v16_6, main_v16_7, main_v16_8, main_v16_9, main_v16_10, main_v16_11, main_v16_12, main_v16_13, main_v16_14, main_v16_15]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call0_v0, main_while0b_v20]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_v21, main_while0b_v22, main_while0b_v23, main_while0b_v24, main_while0b_v25, main_while0b_v26, main_while0b_v27, main_while0b_v28, main_while0b_v29, main_while0b_v30, main_while0b_v31, main_while0b_v32, main_while0b_v33, main_while0b_v34]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call1_cst, main_while0b_call1_v0, main_while0b_v35]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_v36, main_while0b_v37, main_while0b_v38, main_while0b_v39, main_while0b_v40, main_while0b_v41, main_while0b_v42, main_while0b_v43, main_while0b_v44, main_while0b_cst_22, main_while0b_v45, main_while0b_cst_23, main_while0b_v46, main_while0b_v47, main_while0b_v48, main_while0b_cst_24, main_while0b_v49, main_while0b_v50, main_while0b_cst_25, main_while0b_v51, main_while0b_v52, main_while0b_v53, main_while0b_cst_26, main_while0b_cst_27]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call2_v0, main_while0b_call2_v1, main_while0b_call2_v2, main_while0b_call2_v3, main_while0b_call2_v4, main_while0b_v54]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_v55]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_call3_c, main_while0b_call3_v0, main_while0b_call3_v1, main_while0b_call3_c_0, main_while0b_call3_v2, main_while0b_call3_v3, main_while0b_call3_v4, main_while0b_call3_v5, main_while0b_call3_v6, main_while0b_call3_v7, main_while0b_call3_v8, main_while0b_call3_v9, main_while0b_call3_v10, main_while0b_call3_call0_v0, main_while0b_call3_call0_c, main_while0b_call3_call0_v1, main_while0b_call3_call0_v2, main_while0b_call3_call0_v3, main_while0b_call3_call0_v4, main_while0b_call3_call0_v5, main_while0b_call3_call0_v6, main_while0b_call3_call0_c_0, main_while0b_call3_call0_v7, main_while0b_call3_call0_v8, main_while0b_call3_call0_c_1, main_while0b_call3_call0_v9, main_while0b_call3_call0_v10, main_while0b_call3_call0_v11, main_while0b_call3_call0_v12, main_while0b_call3_call0_v13, main_while0b_call3_call0_c_2, main_while0b_call3_call0_v14, main_while0b_call3_call0_v15, main_while0b_call3_call0_c_3, main_while0b_call3_call0_v16, main_while0b_call3_call0_v17, main_while0b_call3_call0_v18, main_while0b_call3_call0_v19, main_while0b_call3_call0_v20, main_while0b_call3_call0_c_4, main_while0b_call3_call0_v21, main_while0b_call3_call0_v22, main_while0b_call3_call0_c_5, main_while0b_call3_call0_v23, main_while0b_call3_call0_v24, main_while0b_call3_call0_v25, main_while0b_call3_call0_v26, main_while0b_call3_call0_v27, main_while0b_call3_call0_c_6, main_while0b_call3_call0_v28, main_while0b_call3_call0_v29, main_while0b_call3_call0_c_7, main_while0b_call3_call0_v30, main_while0b_call3_call0_v31, main_while0b_call3_call0_v32, main_while0b_call3_call0_v33, main_while0b_call3_call0_v34, main_while0b_call3_call0_v35, main_while0b_call3_call0_v36, main_while0b_call3_call0_v37, main_while0b_call3_call0_c_8, main_while0b_call3_call0_v38, main_while0b_call3_call0_v39, main_while0b_call3_call0_v40, main_while0b_call3_call0_c_9, main_while0b_call3_call0_v41, main_while0b_call3_call0_v42, main_while0b_call3_call0_c_10, main_while0b_call3_call0_v43, main_while0b_call3_call0_v44, main_while0b_call3_call0_v45, main_while0b_call3_call0_v46, main_while0b_call3_call0_v47, main_while0b_call3_call0_c_11, main_while0b_call3_call0_v48, main_while0b_call3_call0_v49, main_while0b_call3_call0_c_12, main_while0b_call3_call0_v50, main_while0b_call3_call0_v51, main_while0b_call3_call0_v52, main_while0b_call3_call0_v53, main_while0b_call3_call0_v54, main_while0b_call3_call0_c_13, main_while0b_call3_call0_v55, main_while0b_call3_call0_v56, main_while0b_call3_call0_c_14, main_while0b_call3_call0_v57, main_while0b_call3_call0_v58, main_while0b_call3_call0_v59, main_while0b_call3_call0_v60, main_while0b_call3_call0_v61, main_while0b_call3_call0_c_15, main_while0b_call3_call0_v62, main_while0b_call3_call0_v63, main_while0b_call3_call0_c_16, main_while0b_call3_call0_v64, main_while0b_call3_call0_v65, main_while0b_call3_call0_v66, main_while0b_call3_call0_v67, main_while0b_call3_call0_v68, main_while0b_call3_call0_v69, main_while0b_call3_call0_v70, main_while0b_call3_call0_v71, main_while0b_call3_call0_c_17, main_while0b_call3_call0_v72, main_while0b_call3_call0_v73, main_while0b_call3_call0_v74, main_while0b_call3_call0_c_18, main_while0b_call3_call0_v75, main_while0b_call3_call0_v76, main_while0b_call3_call0_c_19, main_while0b_call3_call0_v77, main_while0b_call3_call0_v78, main_while0b_call3_call0_v79, main_while0b_call3_call0_v80, main_while0b_call3_call0_v81, main_while0b_call3_call0_c_20, main_while0b_call3_call0_v82, main_while0b_call3_call0_v83, main_while0b_call3_call0_c_21, main_while0b_call3_call0_v84, main_while0b_call3_call0_v85, main_while0b_call3_call0_v86, main_while0b_call3_call0_v87, main_while0b_call3_call0_v88, main_while0b_call3_call0_c_22, main_while0b_call3_call0_v89, main_while0b_call3_call0_v90, main_while0b_call3_call0_c_23, main_while0b_call3_call0_v91, main_while0b_call3_call0_v92, main_while0b_call3_call0_v93, main_while0b_call3_call0_v94, main_while0b_call3_call0_v95, main_while0b_call3_call0_c_24, main_while0b_call3_call0_v96, main_while0b_call3_call0_v97, main_while0b_call3_call0_c_25, main_while0b_call3_call0_v98, main_while0b_call3_call0_v99, main_while0b_call3_call0_v100, main_while0b_call3_call0_v101, main_while0b_call3_call0_v102, main_while0b_call3_call0_v103, main_while0b_call3_call0_v104, main_while0b_call3_call0_v105, main_while0b_call3_call0_c_26, main_while0b_call3_call0_v106, main_while0b_call3_call0_v107, main_while0b_call3_call0_v108, main_while0b_call3_call0_c_27, main_while0b_call3_call0_v109, main_while0b_call3_call0_v110, main_while0b_call3_call0_c_28, main_while0b_call3_call0_v111, main_while0b_call3_call0_v112, main_while0b_call3_call0_v113, main_while0b_call3_call0_v114, main_while0b_call3_call0_v115, main_while0b_call3_call0_c_29, main_while0b_call3_call0_v116, main_while0b_call3_call0_v117, main_while0b_call3_call0_c_30, main_while0b_call3_call0_v118, main_while0b_call3_call0_v119, main_while0b_call3_call0_v120, main_while0b_call3_call0_v121, main_while0b_call3_call0_v122, main_while0b_call3_call0_c_31, main_while0b_call3_call0_v123, main_while0b_call3_call0_v124, main_while0b_call3_call0_c_32, main_while0b_call3_call0_v125, main_while0b_call3_call0_v126, main_while0b_call3_call0_v127, main_while0b_call3_call0_v128, main_while0b_call3_call0_v129, main_while0b_call3_call0_c_33, main_while0b_call3_call0_v130, main_while0b_call3_call0_v131, main_while0b_call3_call0_c_34, main_while0b_call3_call0_v132, main_while0b_call3_call0_v133, main_while0b_call3_call0_v134, main_while0b_call3_call0_v135, main_while0b_call3_call0_v136, main_while0b_call3_call0_v137, main_while0b_call3_call0_v138, main_while0b_call3_call0_v139, main_while0b_call3_call0_c_35, main_while0b_call3_call0_v140, main_while0b_call3_call0_v141, main_while0b_call3_call0_v142, main_while0b_call3_call0_c_36, main_while0b_call3_call0_v143, main_while0b_call3_call0_v144, main_while0b_call3_call0_c_37, main_while0b_call3_call0_v145, main_while0b_call3_call0_v146, main_while0b_call3_call0_v147, main_while0b_call3_call0_v148, main_while0b_call3_call0_v149, main_while0b_call3_call0_c_38, main_while0b_call3_call0_v150, main_while0b_call3_call0_v151, main_while0b_call3_call0_c_39, main_while0b_call3_call0_v152, main_while0b_call3_call0_v153, main_while0b_call3_call0_v154, main_while0b_call3_call0_v155, main_while0b_call3_call0_v156, main_while0b_call3_call0_c_40, main_while0b_call3_call0_v157, main_while0b_call3_call0_v158, main_while0b_call3_call0_c_41, main_while0b_call3_call0_v159, main_while0b_call3_call0_v160, main_while0b_call3_call0_v161, main_while0b_call3_call0_v162, main_while0b_call3_call0_v163, main_while0b_call3_call0_c_42, main_while0b_call3_call0_v164, main_while0b_call3_call0_v165, main_while0b_call3_call0_c_43, main_while0b_call3_call0_v166, main_while0b_call3_call0_v167, main_while0b_call3_call0_v168, main_while0b_call3_call0_v169, main_while0b_call3_call0_v170, main_while0b_call3_v11_0, main_while0b_call3_call0_v172, main_while0b_call3_call0_v173, main_while0b_call3_call0_c_44, main_while0b_call3_call0_v174, main_while0b_call3_v11_1, main_while0b_v56]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `while0Ops0_7` allocates a buffer. -/
theorem while0Ops0_7_fresh : (while0Ops0_7 : List (HloOp τ sig (Elt F))).Forall fun op => op.fresh = ∅ :=
  StableHlo.forall_fresh_of_map rfl
/-- The reference each operation of `while0Ops0_7` writes, in order. -/
abbrev while0Ops0_7_W : List (Ref sig .tc) := [main_while0b_call4_cst, main_while0b_call4_cst_0, main_while0b_call4_call0_v0, main_while0b_call4_call0_v1, main_while0b_call4_call0_v2, main_while0b_call4_call0_v3, main_while0b_call4_call0_v4, main_while0b_call4_call0_v5, main_while0b_call4_call0_v6, main_while0b_call4_call0_v7, main_while0b_call4_call0_v8, main_while0b_call4_call0_c, main_while0b_call4_call0_v9, main_while0b_call4_call0_v10, main_while0b_call4_call0_c_0, main_while0b_call4_call0_v11, main_while0b_call4_call0_v12, main_while0b_call4_call0_v13, main_while0b_call4_call0_c_1, main_while0b_call4_call0_v14, main_while0b_call4_call0_v15, main_while0b_call4_call0_v16, main_while0b_call4_call0_v17, main_while0b_call4_call0_call0_v0, main_while0b_call4_call0_call0_c, main_while0b_call4_call0_call0_v1, main_while0b_call4_call0_call0_v2, main_while0b_call4_call0_call0_v3, main_while0b_call4_call0_call0_v4, main_while0b_call4_call0_call0_v5, main_while0b_call4_call0_call0_v6, main_while0b_call4_call0_call0_c_0, main_while0b_call4_call0_call0_v7, main_while0b_call4_call0_call0_v8, main_while0b_call4_call0_call0_c_1, main_while0b_call4_call0_call0_v9, main_while0b_call4_call0_call0_v10, main_while0b_call4_call0_call0_v11, main_while0b_call4_call0_call0_v12, main_while0b_call4_call0_call0_v13, main_while0b_call4_call0_call0_c_2, main_while0b_call4_call0_call0_v14, main_while0b_call4_call0_call0_v15, main_while0b_call4_call0_call0_c_3, main_while0b_call4_call0_call0_v16, main_while0b_call4_call0_call0_v17, main_while0b_call4_call0_call0_v18, main_while0b_call4_call0_call0_v19, main_while0b_call4_call0_call0_v20, main_while0b_call4_call0_call0_c_4, main_while0b_call4_call0_call0_v21, main_while0b_call4_call0_call0_v22, main_while0b_call4_call0_call0_c_5, main_while0b_call4_call0_call0_v23, main_while0b_call4_call0_call0_v24, main_while0b_call4_call0_call0_v25, main_while0b_call4_call0_call0_v26, main_while0b_call4_call0_call0_v27, main_while0b_call4_call0_call0_c_6, main_while0b_call4_call0_call0_v28, main_while0b_call4_call0_call0_v29, main_while0b_call4_call0_call0_c_7, main_while0b_call4_call0_call0_v30, main_while0b_call4_call0_call0_v31, main_while0b_call4_call0_call0_v32, main_while0b_call4_call0_call0_v33, main_while0b_call4_call0_call0_v34, main_while0b_call4_call0_call0_v35, main_while0b_call4_call0_call0_v36, main_while0b_call4_call0_call0_v37, main_while0b_call4_call0_call0_c_8, main_while0b_call4_call0_call0_v38, main_while0b_call4_call0_call0_v39, main_while0b_call4_call0_call0_v40, main_while0b_call4_call0_call0_c_9, main_while0b_call4_call0_call0_v41, main_while0b_call4_call0_call0_v42, main_while0b_call4_call0_call0_c_10, main_while0b_call4_call0_call0_v43, main_while0b_call4_call0_call0_v44, main_while0b_call4_call0_call0_v45, main_while0b_call4_call0_call0_v46, main_while0b_call4_call0_call0_v47, main_while0b_call4_call0_call0_c_11, main_while0b_call4_call0_call0_v48, main_while0b_call4_call0_call0_v49, main_while0b_call4_call0_call0_c_12, main_while0b_call4_call0_call0_v50, main_while0b_call4_call0_call0_v51, main_while0b_call4_call0_call0_v52, main_while0b_call4_call0_call0_v53, main_while0b_call4_call0_call0_v54, main_while0b_call4_call0_call0_c_13, main_while0b_call4_call0_call0_v55, main_while0b_call4_call0_call0_v56, main_while0b_call4_call0_call0_c_14, main_while0b_call4_call0_call0_v57, main_while0b_call4_call0_call0_v58, main_while0b_call4_call0_call0_v59, main_while0b_call4_call0_call0_v60, main_while0b_call4_call0_call0_v61, main_while0b_call4_call0_call0_c_15, main_while0b_call4_call0_call0_v62, main_while0b_call4_call0_call0_v63, main_while0b_call4_call0_call0_c_16, main_while0b_call4_call0_call0_v64, main_while0b_call4_call0_call0_v65, main_while0b_call4_call0_call0_v66, main_while0b_call4_call0_call0_v67, main_while0b_call4_call0_call0_v68, main_while0b_call4_call0_call0_v69, main_while0b_call4_call0_call0_v70, main_while0b_call4_call0_call0_v71, main_while0b_call4_call0_call0_c_17, main_while0b_call4_call0_call0_v72, main_while0b_call4_call0_call0_v73, main_while0b_call4_call0_call0_v74, main_while0b_call4_call0_call0_c_18, main_while0b_call4_call0_call0_v75, main_while0b_call4_call0_call0_v76, main_while0b_call4_call0_call0_c_19, main_while0b_call4_call0_call0_v77, main_while0b_call4_call0_call0_v78, main_while0b_call4_call0_call0_v79, main_while0b_call4_call0_call0_v80, main_while0b_call4_call0_call0_v81, main_while0b_call4_call0_call0_c_20, main_while0b_call4_call0_call0_v82, main_while0b_call4_call0_call0_v83, main_while0b_call4_call0_call0_c_21, main_while0b_call4_call0_call0_v84, main_while0b_call4_call0_call0_v85, main_while0b_call4_call0_call0_v86, main_while0b_call4_call0_call0_v87, main_while0b_call4_call0_call0_v88, main_while0b_call4_call0_call0_c_22, main_while0b_call4_call0_call0_v89, main_while0b_call4_call0_call0_v90, main_while0b_call4_call0_call0_c_23, main_while0b_call4_call0_call0_v91, main_while0b_call4_call0_call0_v92, main_while0b_call4_call0_call0_v93, main_while0b_call4_call0_call0_v94, main_while0b_call4_call0_call0_v95, main_while0b_call4_call0_call0_c_24, main_while0b_call4_call0_call0_v96, main_while0b_call4_call0_call0_v97, main_while0b_call4_call0_call0_c_25, main_while0b_call4_call0_call0_v98, main_while0b_call4_call0_call0_v99, main_while0b_call4_call0_call0_v100, main_while0b_call4_call0_call0_v101, main_while0b_call4_call0_call0_v102, main_while0b_call4_call0_call0_v103, main_while0b_call4_call0_call0_v104, main_while0b_call4_call0_call0_v105, main_while0b_call4_call0_call0_c_26, main_while0b_call4_call0_call0_v106, main_while0b_call4_call0_call0_v107, main_while0b_call4_call0_call0_v108, main_while0b_call4_call0_call0_c_27, main_while0b_call4_call0_call0_v109, main_while0b_call4_call0_call0_v110, main_while0b_call4_call0_call0_c_28, main_while0b_call4_call0_call0_v111, main_while0b_call4_call0_call0_v112, main_while0b_call4_call0_call0_v113, main_while0b_call4_call0_call0_v114, main_while0b_call4_call0_call0_v115, main_while0b_call4_call0_call0_c_29, main_while0b_call4_call0_call0_v116, main_while0b_call4_call0_call0_v117, main_while0b_call4_call0_call0_c_30, main_while0b_call4_call0_call0_v118, main_while0b_call4_call0_call0_v119, main_while0b_call4_call0_call0_v120, main_while0b_call4_call0_call0_v121, main_while0b_call4_call0_call0_v122, main_while0b_call4_call0_call0_c_31, main_while0b_call4_call0_call0_v123, main_while0b_call4_call0_call0_v124, main_while0b_call4_call0_call0_c_32, main_while0b_call4_call0_call0_v125, main_while0b_call4_call0_call0_v126, main_while0b_call4_call0_call0_v127, main_while0b_call4_call0_call0_v128, main_while0b_call4_call0_call0_v129, main_while0b_call4_call0_call0_c_33, main_while0b_call4_call0_call0_v130, main_while0b_call4_call0_call0_v131, main_while0b_call4_call0_call0_c_34, main_while0b_call4_call0_call0_v132, main_while0b_call4_call0_call0_v133, main_while0b_call4_call0_call0_v134, main_while0b_call4_call0_call0_v135, main_while0b_call4_call0_call0_v136, main_while0b_call4_call0_call0_v137, main_while0b_call4_call0_call0_v138, main_while0b_call4_call0_call0_v139, main_while0b_call4_call0_call0_c_35, main_while0b_call4_call0_call0_v140, main_while0b_call4_call0_call0_v141, main_while0b_call4_call0_call0_v142, main_while0b_call4_call0_call0_c_36, main_while0b_call4_call0_call0_v143, main_while0b_call4_call0_call0_v144, main_while0b_call4_call0_call0_c_37, main_while0b_call4_call0_call0_v145, main_while0b_call4_call0_call0_v146, main_while0b_call4_call0_call0_v147, main_while0b_call4_call0_call0_v148, main_while0b_call4_call0_call0_v149, main_while0b_call4_call0_call0_c_38, main_while0b_call4_call0_call0_v150, main_while0b_call4_call0_call0_v151, main_while0b_call4_call0_call0_c_39, main_while0b_call4_call0_call0_v152, main_while0b_call4_call0_call0_v153, main_while0b_call4_call0_call0_v154, main_while0b_call4_call0_call0_v155, main_while0b_call4_call0_call0_v156, main_while0b_call4_call0_call0_c_40, main_while0b_call4_call0_call0_v157, main_while0b_call4_call0_call0_v158, main_while0b_call4_call0_call0_c_41, main_while0b_call4_call0_call0_v159, main_while0b_call4_call0_call0_v160, main_while0b_call4_call0_call0_v161, main_while0b_call4_call0_call0_v162, main_while0b_call4_call0_call0_v163, main_while0b_call4_call0_call0_c_42, main_while0b_call4_call0_call0_v164, main_while0b_call4_call0_call0_v165, main_while0b_call4_call0_call0_c_43, main_while0b_call4_call0_call0_v166, main_while0b_call4_call0_call0_v167, main_while0b_call4_call0_call0_v168, main_while0b_call4_call0_call0_v169, main_while0b_call4_call0_call0_v170, main_while0b_call4_call0_v18_0, main_while0b_call4_call0_call0_v172, main_while0b_call4_call0_call0_v173, main_while0b_call4_call0_call0_c_44, main_while0b_call4_call0_call0_v174, main_while0b_call4_call0_v18_1, main_while0b_call4_call0_v19, main_while0b_call4_call0_c_2, main_while0b_call4_call0_v20, main_while0b_call4_call0_v21, main_while0b_call4_call0_c_3, main_while0b_call4_call0_v22, main_while0b_call4_call0_v23, main_while0b_call4_call0_v24, main_while0b_call4_call0_cst, main_while0b_call4_call0_v25, main_while0b_call4_call0_v26, main_while0b_call4_call0_v27, main_while0b_call4_call0_v28, main_while0b_call4_call0_v29, main_while0b_call4_call0_v30, main_while0b_call4_call0_v31, main_while0b_call4_call0_v32, main_while0b_call4_v0, main_while0b_call4_v1, main_while0b_call4_v2, main_while0b_call4_v3, main_while0b_v57]
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- No operation of `while0Ops0_8` allocates a buffer. -/
theorem while0Ops0_8_fresh : (while0Ops0_8 : List (HloOp τ sig (Elt F))).Forall fun op => op.fresh = ∅ :=
  StableHlo.forall_fresh_of_map rfl
/-- The reference each operation of `while0Ops0_8` writes, in order. -/
abbrev while0Ops0_8_W : List (Ref sig .tc) := [main_while0b_v58]
theorem while0Ops0_8_writes : (while0Ops0_8 : List (HloOp τ sig (Elt F))).Forall fun op => op.writes ⊆ (while0Ops0_8_W.map (Proc.devRef (τ := τ) .tc)).toFinset :=
  StableHlo.forall_writes_sub_of_map rfl
/-- No operation of `while0Ops0_9` allocates a buffer. -/
theorem while0Ops0_9_fresh : (while0Ops0_9 : List (HloOp τ sig (Elt F))).Forall fun op => op.fresh = ∅ :=
  StableHlo.forall_fresh_of_map rfl
/-- The reference each operation of `while0Ops0_9` writes, in order. -/
abbrev while0Ops0_9_W : List (Ref sig .tc) := [main_while0b_call5_v0, main_while0b_call5_cst, main_while0b_call5_c, main_while0b_call5_v1_0, main_while0b_v59]
theorem while0Ops0_9_writes : (while0Ops0_9 : List (HloOp τ sig (Elt F))).Forall fun op => op.writes ⊆ (while0Ops0_9_W.map (Proc.devRef (τ := τ) .tc)).toFinset :=
  StableHlo.forall_writes_sub_of_map rfl
/-- No operation of `while0Ops0_10` allocates a buffer. -/
theorem while0Ops0_10_fresh : (while0Ops0_10 : List (HloOp τ sig (Elt F))).Forall fun op => op.fresh = ∅ :=
  StableHlo.forall_fresh_of_map rfl
/-- The reference each operation of `while0Ops0_10` writes, in order. -/
abbrev while0Ops0_10_W : List (Ref sig .tc) := [main_while0b_call6_cst, main_while0b_call6_v0, main_while0b_call6_cst_0, main_while0b_call6_v1, main_while0b_call6_v2, main_while0b_call6_v3, main_while0b_call6_v4, main_while0b_call6_v5, main_while0b_call6_v6, main_while0b_call6_cst_1, main_while0b_call6_v7, main_while0b_call6_v8, main_while0b_call6_v9, main_while0b_call6_v10, main_while0b_v60]
theorem while0Ops0_10_writes : (while0Ops0_10 : List (HloOp τ sig (Elt F))).Forall fun op => op.writes ⊆ (while0Ops0_10_W.map (Proc.devRef (τ := τ) .tc)).toFinset :=
  StableHlo.forall_writes_sub_of_map rfl
/-- No operation of `while0Ops0_11` allocates a buffer. -/
theorem while0Ops0_11_fresh : (while0Ops0_11 : List (HloOp τ sig (Elt F))).Forall fun op => op.fresh = ∅ :=
  StableHlo.forall_fresh_of_map rfl
/-- The reference each operation of `while0Ops0_11` writes, in order. -/
abbrev while0Ops0_11_W : List (Ref sig .tc) := [main_while0b_v61]
theorem while0Ops0_11_writes : (while0Ops0_11 : List (HloOp τ sig (Elt F))).Forall fun op => op.writes ⊆ (while0Ops0_11_W.map (Proc.devRef (τ := τ) .tc)).toFinset :=
  StableHlo.forall_writes_sub_of_map rfl
/-- No operation of `while0Ops0_12` allocates a buffer. -/
theorem while0Ops0_12_fresh : (while0Ops0_12 : List (HloOp τ sig (Elt F))).Forall fun op => op.fresh = ∅ :=
  StableHlo.forall_fresh_of_map rfl
/-- The reference each operation of `while0Ops0_12` writes, in order. -/
abbrev while0Ops0_12_W : List (Ref sig .tc) := [main_while0b_call7_c, main_while0b_call7_v0, main_while0b_call7_v1, main_while0b_call7_c_0, main_while0b_call7_v2, main_while0b_call7_v3, main_while0b_call7_v4, main_while0b_call7_v5, main_while0b_call7_c_1, main_while0b_call7_c_2, main_while0b_call7_v6, main_while0b_call7_v7, main_while0b_call7_v8, main_while0b_call7_v9, main_while0b_call7_v10, main_while0b_call7_v11, main_while0b_call7_c_3, main_while0b_call7_v12, main_while0b_call7_v13, main_while0b_call7_cst, main_while0b_call7_v14, main_while0b_v62]
theorem while0Ops0_12_writes : (while0Ops0_12 : List (HloOp τ sig (Elt F))).Forall fun op => op.writes ⊆ (while0Ops0_12_W.map (Proc.devRef (τ := τ) .tc)).toFinset :=
  StableHlo.forall_writes_sub_of_map rfl
/-- No operation of `while0Ops0_13` allocates a buffer. -/
theorem while0Ops0_13_fresh : (while0Ops0_13 : List (HloOp τ sig (Elt F))).Forall fun op => op.fresh = ∅ :=
  StableHlo.forall_fresh_of_map rfl
/-- The reference each operation of `while0Ops0_13` writes, in order. -/
abbrev while0Ops0_13_W : List (Ref sig .tc) := [main_while0b_v63, main_while0b_v64, main_while0b_v65, main_while0b_v66, main_while0b_cst_28, main_while0b_v67, main_while0b_v68]
theorem while0Ops0_13_writes : (while0Ops0_13 : List (HloOp τ sig (Elt F))).Forall fun op => op.writes ⊆ (while0Ops0_13_W.map (Proc.devRef (τ := τ) .tc)).toFinset :=
  StableHlo.forall_writes_sub_of_map rfl
/-- No operation of `while0Ops0_14` allocates a buffer. -/
theorem while0Ops0_14_fresh : (while0Ops0_14 : List (HloOp τ sig (Elt F))).Forall fun op => op.fresh = ∅ :=
  StableHlo.forall_fresh_of_map rfl
/-- The reference each operation of `while0Ops0_14` writes, in order. -/
abbrev while0Ops0_14_W : List (Ref sig .tc) := [main_while0b_call8_v0, main_while0b_call8_v1, main_while0b_call8_v2, main_while0b_call8_v3, main_while0b_call8_v4, main_while0b_v69]
theorem while0Ops0_14_writes : (while0Ops0_14 : List (HloOp τ sig (Elt F))).Forall fun op => op.writes ⊆ (while0Ops0_14_W.map (Proc.devRef (τ := τ) .tc)).toFinset :=
  StableHlo.forall_writes_sub_of_map rfl
/-- No operation of `while0Ops0_15` allocates a buffer. -/
theorem while0Ops0_15_fresh : (while0Ops0_15 : List (HloOp τ sig (Elt F))).Forall fun op => op.fresh = ∅ :=
  StableHlo.forall_fresh_of_map rfl
/-- The reference each operation of `while0Ops0_15` writes, in order. -/
abbrev while0Ops0_15_W : List (Ref sig .tc) := [main_while0b_v70, main_while0b_c_29, main_while0b_v71, main_while0b_v72, main_while0b_c_30, main_while0b_v73, main_while0b_v74, main_while0b_v75, main_while0b_c_31, main_while0b_v76, main_while0b_v77, main_while0b_c_32, main_while0b_v78, main_while0b_v79, main_while0b_v80, main_while0b_v81, main_while0b_v82, main_while0b_v83, main_while0b_v84, main_while0b_v85, main_while0b_v86, main_while0b_v87]
theorem while0Ops0_15_writes : (while0Ops0_15 : List (HloOp τ sig (Elt F))).Forall fun op => op.writes ⊆ (while0Ops0_15_W.map (Proc.devRef (τ := τ) .tc)).toFinset :=
  StableHlo.forall_writes_sub_of_map rfl
/-- No operation of `while0Ops0_16` allocates a buffer. -/
theorem while0Ops0_16_fresh : (while0Ops0_16 : List (HloOp τ sig (Elt F))).Forall fun op => op.fresh = ∅ :=
  StableHlo.forall_fresh_of_map rfl
/-- The reference each operation of `while0Ops0_16` writes, in order. -/
abbrev while0Ops0_16_W : List (Ref sig .tc) := [main_while0b_call9_v0, main_while0b_call9_c, main_while0b_v88]
theorem while0Ops0_16_writes : (while0Ops0_16 : List (HloOp τ sig (Elt F))).Forall fun op => op.writes ⊆ (while0Ops0_16_W.map (Proc.devRef (τ := τ) .tc)).toFinset :=
  StableHlo.forall_writes_sub_of_map rfl
/-- No operation of `while0Ops0_17` allocates a buffer. -/
theorem while0Ops0_17_fresh : (while0Ops0_17 : List (HloOp τ sig (Elt F))).Forall fun op => op.fresh = ∅ :=
  StableHlo.forall_fresh_of_map rfl
/-- The reference each operation of `while0Ops0_17` writes, in order. -/
abbrev while0Ops0_17_W : List (Ref sig .tc) := [main_while0b_c_33, main_while0b_v89, main_v16_10, main_v16_11, main_v16_12, main_v16_13, main_v16_14, main_v16_15]
theorem while0Ops0_17_writes : (while0Ops0_17 : List (HloOp τ sig (Elt F))).Forall fun op => op.writes ⊆ (while0Ops0_17_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_v17, main_v18, main_v19]
theorem hostOps0_1_writes : (hostOps0_1 : List (HloOp τ sig (Elt F))).Forall fun op => op.writes ⊆ (hostOps0_1_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_22 (constantI S_ 32 128#32),
    StableHlo.binary main_v16_10 main_while0c_c_22 main_while0c_v20 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11, while0Ops0_12, while0Ops0_13, while0Ops0_14, while0Ops0_15, while0Ops0_16, while0Ops0_17]
abbrev postI : List (List (HloOp τ sig (Elt F))) := [hostOps0_1]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.cons while0Ops0_10_sub (hf := List.forall_iff_forall_mem.mp while0Ops0_10_fresh) (.cons while0Ops0_11_sub (hf := List.forall_iff_forall_mem.mp while0Ops0_11_fresh) (.cons while0Ops0_12_sub (hf := List.forall_iff_forall_mem.mp while0Ops0_12_fresh) (.cons while0Ops0_13_sub (hf := List.forall_iff_forall_mem.mp while0Ops0_13_fresh) (.cons while0Ops0_14_sub (hf := List.forall_iff_forall_mem.mp while0Ops0_14_fresh) (.cons while0Ops0_15_sub (hf := List.forall_iff_forall_mem.mp while0Ops0_15_fresh) (.cons while0Ops0_16_sub (hf := List.forall_iff_forall_mem.mp while0Ops0_16_fresh) (.cons while0Ops0_17_sub (hf := List.forall_iff_forall_mem.mp while0Ops0_17_fresh) (.nil))))))))))))))))))
theorem hpost : Plain (postI (F := F)) := .cons hostOps0_1_sub (hf := List.forall_iff_forall_mem.mp hostOps0_1_fresh) (.nil)

/-- The reference each operation of `condOps` writes, in order. -/
abbrev condOps_W : List (Ref sig .tc) := [main_while0c_c_22, main_while0c_v20]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v16_10`) is written by one stretch of the body, `while0Ops0_17`: not by the condition, nor by the
    body's other stretches. -/
theorem ctr_cond (V : Valuation τ sig (Elt F)) : after condOps V (Proc.devRef .tc main_v16_10) = V (Proc.devRef .tc main_v16_10) :=
  after_of_writes_sub condOps V condOps_writes (by decide +kernel)
theorem ctr_while0Ops0 (V : Valuation τ sig (Elt F)) : after while0Ops0 V (Proc.devRef .tc main_v16_10) = V (Proc.devRef .tc main_v16_10) :=
  after_of_writes_sub while0Ops0 V while0Ops0_writes (by decide +kernel)
theorem ctr_while0Ops0_1 (V : Valuation τ sig (Elt F)) : after while0Ops0_1 V (Proc.devRef .tc main_v16_10) = V (Proc.devRef .tc main_v16_10) :=
  after_of_writes_sub while0Ops0_1 V while0Ops0_1_writes (by decide +kernel)
theorem ctr_while0Ops0_2 (V : Valuation τ sig (Elt F)) : after while0Ops0_2 V (Proc.devRef .tc main_v16_10) = V (Proc.devRef .tc main_v16_10) :=
  after_of_writes_sub while0Ops0_2 V while0Ops0_2_writes (by decide +kernel)
theorem ctr_while0Ops0_3 (V : Valuation τ sig (Elt F)) : after while0Ops0_3 V (Proc.devRef .tc main_v16_10) = V (Proc.devRef .tc main_v16_10) :=
  after_of_writes_sub while0Ops0_3 V while0Ops0_3_writes (by decide +kernel)
theorem ctr_while0Ops0_4 (V : Valuation τ sig (Elt F)) : after while0Ops0_4 V (Proc.devRef .tc main_v16_10) = V (Proc.devRef .tc main_v16_10) :=
  after_of_writes_sub while0Ops0_4 V while0Ops0_4_writes (by decide +kernel)
theorem ctr_while0Ops0_5 (V : Valuation τ sig (Elt F)) : after while0Ops0_5 V (Proc.devRef .tc main_v16_10) = V (Proc.devRef .tc main_v16_10) :=
  after_of_writes_sub while0Ops0_5 V while0Ops0_5_writes (by decide +kernel)
theorem ctr_while0Ops0_6 (V : Valuation τ sig (Elt F)) : after while0Ops0_6 V (Proc.devRef .tc main_v16_10) = V (Proc.devRef .tc main_v16_10) :=
  after_of_writes_sub while0Ops0_6 V while0Ops0_6_writes (by decide +kernel)
theorem ctr_while0Ops0_7 (V : Valuation τ sig (Elt F)) : after while0Ops0_7 V (Proc.devRef .tc main_v16_10) = V (Proc.devRef .tc main_v16_10) :=
  after_of_writes_sub while0Ops0_7 V while0Ops0_7_writes (by decide +kernel)
theorem ctr_while0Ops0_8 (V : Valuation τ sig (Elt F)) : after while0Ops0_8 V (Proc.devRef .tc main_v16_10) = V (Proc.devRef .tc main_v16_10) :=
  after_of_writes_sub while0Ops0_8 V while0Ops0_8_writes (by decide +kernel)
theorem ctr_while0Ops0_9 (V : Valuation τ sig (Elt F)) : after while0Ops0_9 V (Proc.devRef .tc main_v16_10) = V (Proc.devRef .tc main_v16_10) :=
  after_of_writes_sub while0Ops0_9 V while0Ops0_9_writes (by decide +kernel)
theorem ctr_while0Ops0_10 (V : Valuation τ sig (Elt F)) : after while0Ops0_10 V (Proc.devRef .tc main_v16_10) = V (Proc.devRef .tc main_v16_10) :=
  after_of_writes_sub while0Ops0_10 V while0Ops0_10_writes (by decide +kernel)
theorem ctr_while0Ops0_11 (V : Valuation τ sig (Elt F)) : after while0Ops0_11 V (Proc.devRef .tc main_v16_10) = V (Proc.devRef .tc main_v16_10) :=
  after_of_writes_sub while0Ops0_11 V while0Ops0_11_writes (by decide +kernel)
theorem ctr_while0Ops0_12 (V : Valuation τ sig (Elt F)) : after while0Ops0_12 V (Proc.devRef .tc main_v16_10) = V (Proc.devRef .tc main_v16_10) :=
  after_of_writes_sub while0Ops0_12 V while0Ops0_12_writes (by decide +kernel)
theorem ctr_while0Ops0_13 (V : Valuation τ sig (Elt F)) : after while0Ops0_13 V (Proc.devRef .tc main_v16_10) = V (Proc.devRef .tc main_v16_10) :=
  after_of_writes_sub while0Ops0_13 V while0Ops0_13_writes (by decide +kernel)
theorem ctr_while0Ops0_14 (V : Valuation τ sig (Elt F)) : after while0Ops0_14 V (Proc.devRef .tc main_v16_10) = V (Proc.devRef .tc main_v16_10) :=
  after_of_writes_sub while0Ops0_14 V while0Ops0_14_writes (by decide +kernel)
theorem ctr_while0Ops0_15 (V : Valuation τ sig (Elt F)) : after while0Ops0_15 V (Proc.devRef .tc main_v16_10) = V (Proc.devRef .tc main_v16_10) :=
  after_of_writes_sub while0Ops0_15 V while0Ops0_15_writes (by decide +kernel)
theorem ctr_while0Ops0_16 (V : Valuation τ sig (Elt F)) : after while0Ops0_16 V (Proc.devRef .tc main_v16_10) = V (Proc.devRef .tc main_v16_10) :=
  after_of_writes_sub while0Ops0_16 V while0Ops0_16_writes (by decide +kernel)

set_option maxRecDepth 100000 in
/-- `while0Ops0_17` leaves the counter one step on. -/
theorem ctr_step (X : Valuation τ sig (Elt F)) :
    after while0Ops0_17 X (Proc.devRef .tc main_v16_10) = addi (X (Proc.devRef .tc main_v16_10)) (constantI S_ 32 1#32) := by
  after_results
  rfl

/-- The counter is the loop's lower bound at the loop's entry: its last writer before the loop read back. -/
theorem ctr_entry (c : Dev nD) : entryContents preI m c (Proc.devRef .tc main_v16_10) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v16_10) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_16, ctr_while0Ops0_15, ctr_while0Ops0_14, ctr_while0Ops0_13, ctr_while0Ops0_12, ctr_while0Ops0_11, ctr_while0Ops0_10, ctr_while0Ops0_9, ctr_while0Ops0_8, ctr_while0Ops0_7, ctr_while0Ops0_6, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 128 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v16_10 HostLoop.idx0)
        (HloOp.result _ (atK m k c) main_while0c_c_22 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 128 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 128 m ρ (cond_spec m)

end Cert.ReferenceIdeal.Value

end
-- ==== Proof.Words.lean ====
/- The random words both programs draw from, read one entry at a time. Each program mixes two words of key and two words
   of counter by the same sequence of additions, shifts and exclusive-ors, over whole arrays; every one of these
   operations takes one entry to one entry, so one entry of the result is that sequence run on four single words. The
   sequence is written once, as a list of steps over numbered words, and shown to be what a list of operations does. -/
module

public import Idealize.ShloMosaic.Lib.StableHlo.Run

@[expose] public section

noncomputable section

namespace Cert.Words

open Idealize.ShloMosaic Idealize.ShloMosaic.TcCoe Idealize.ShloMosaic.StableHlo

/-- The operations on two words. -/
inductive Mix | add | xor | or | shl | shr

/-- What each computes. -/
def Mix.eval : Mix → BitVec 32 → BitVec 32 → BitVec 32
  | .add => IntOp.addi
  | .xor => IntOp.xori
  | .or => IntOp.ori
  | .shl => IntOp.shli .host
  | .shr => IntOp.shrui .host

/-- One step over numbered words: the word it writes, and what it writes there (a literal, another word, or an operation
    on two words). -/
inductive Step
  | con (o c : ℕ)
  | copy (o a : ℕ)
  | bin (f : Mix) (o a b : ℕ)

/-- The word a step writes. -/
def Step.out : Step → ℕ
  | .con o _ => o
  | .copy o _ => o
  | .bin _ o _ _ => o

/-- What a step writes. -/
def Step.val (E : ℕ → BitVec 32) : Step → BitVec 32
  | .con _ c => BitVec.ofNat 32 c
  | .copy _ a => E a
  | .bin f _ a b => f.eval (E a) (E b)

/-- The words a step reads are below `m`. -/
def Step.below (m : ℕ) : Step → Bool
  | .con _ _ => true
  | .copy _ a => decide (a < m)
  | .bin _ _ a b => decide (a < m) && decide (b < m)

theorem Step.val_congr {m : ℕ} {E E' : ℕ → BitVec 32} (h : ∀ n, n < m → E n = E' n) :
    ∀ st : Step, st.below m = true → st.val E = st.val E'
  | .con _ _, _ => rfl
  | .copy _ a, hb => h a (of_decide_eq_true hb)
  | .bin f _ a b, hb => by
    obtain ⟨ha, hb⟩ := Bool.and_eq_true_iff.mp hb
    exact congrArg₂ f.eval (h a (of_decide_eq_true ha)) (h b (of_decide_eq_true hb))

/-- The steps write the words `m`, `m + 1`, … in turn, each from words written before it. -/
def ordered : ℕ → List Step → Bool
  | _, [] => true
  | m, st :: sts => decide (st.out = m) && (st.below m && ordered (m + 1) sts)

/-- The words after the steps. -/
def eval : List Step → (ℕ → BitVec 32) → ℕ → BitVec 32
  | [], E => E
  | st :: sts, E => eval sts (Function.update E st.out (st.val E))

/-- One entry of one buffer. -/
structure Slot (sig : RefSig) where
  /-- The buffer's shape. -/
  s : Shape
  /-- The buffer. -/
  x : TRef sig ⟨s, .i32⟩
  /-- The entry's index. -/
  i : s.Idx

/-- A buffer of one word, of one word for each key, or of one word for each entry of the result. -/
inductive Buf (sig : RefSig) (s0 sk s : Shape)
  | one (x : TRef sig ⟨s0, .i32⟩)
  | key (x : TRef sig ⟨sk, .i32⟩)
  | vec (x : TRef sig ⟨s, .i32⟩)

section
variable {sig : RefSig} {s0 sk s : Shape}

/-- Where it lies. -/
def Buf.ref : Buf sig s0 sk s → Ref sig .tc
  | .one x => x.ref
  | .key x => x.ref
  | .vec x => x.ref

/-- The entry of it that one entry of the result is made from. -/
def Buf.slot (i0 : s0.Idx) (ik : sk.Idx) (i : s.Idx) : Buf sig s0 sk s → Slot sig
  | .one x => ⟨s0, x, i0⟩
  | .key x => ⟨sk, x, ik⟩
  | .vec x => ⟨s, x, i⟩

theorem Buf.slot_ref (i0 : s0.Idx) (ik : sk.Idx) (i : s.Idx) : ∀ b : Buf sig s0 sk s, (b.slot i0 ik i).x.ref = b.ref
  | .one _ => rfl
  | .key _ => rfl
  | .vec _ => rfl

end

/-- The entry of the list, a default past its end. -/
def pick {α : Type} (d : α) : List α → ℕ → α
  | [], _ => d
  | x :: _, 0 => x
  | _ :: l, n + 1 => pick d l n

/-- The entry of a table written in rows of sixteen. -/
def entry {α : Type} (d : α) (rows : List (List α)) (n : ℕ) : α := pick d (pick [] rows (Nat.div n 16)) (Nat.mod n 16)

section
variable {τ : Topo} {sig : RefSig} {F : FTy → Type}

/-- The word at an entry. -/
def word (V : Valuation τ sig (Elt F)) (z : Slot sig) : BitVec 32 :=
  (z.x.ofBuf (V (Proc.devRef .tc z.x.ref)) : z.s.Idx → BitVec 32) z.i

/-- The operation does the step, one on the first `N` numbered entries: it puts at the step's entry what the step writes,
    and leaves the other buffers. -/
structure Does (slot : ℕ → Slot sig) (N : ℕ) (st : Step) (op : HloOp τ sig (Elt F)) : Prop where
  lt : st.out < N
  out : ∀ V : Valuation τ sig (Elt F), word (op.result V) (slot st.out) = st.val (fun n => word V (slot n))
  keep : ∀ V : Valuation τ sig (Elt F), ∀ r : Ref sig .tc, r ≠ (slot st.out).x.ref →
    op.result V (Proc.devRef .tc r) = V (Proc.devRef .tc r)

/-- The numbered entries are of different buffers. -/
def Apart (slot : ℕ → Slot sig) (N : ℕ) : Prop := ∀ a b, a < N → b < N → a ≠ b → (slot a).x.ref ≠ (slot b).x.ref

/-- The numbered buffers lie one after the other. -/
def rises {s0 sk s : Shape} (T : ℕ → Buf sig s0 sk s) (N : ℕ) : Bool :=
  (List.range (N - 1)).all fun n => decide ((T n).ref.idx.val < (T (n + 1)).ref.idx.val)

theorem rises_lt {s0 sk s : Shape} {T : ℕ → Buf sig s0 sk s} {N : ℕ} (h : rises T N = true) :
    ∀ a b, a < b → b < N → (T a).ref.idx.val < (T b).ref.idx.val := by
  have hs : ∀ n, n + 1 < N → (T n).ref.idx.val < (T (n + 1)).ref.idx.val := fun n hn =>
    of_decide_eq_true (List.all_eq_true.mp h n (List.mem_range.mpr (by omega)))
  have hl : ∀ d n, n + d + 1 < N → (T n).ref.idx.val < (T (n + d + 1)).ref.idx.val := by
    intro d
    induction d with
    | zero => exact fun n hn => hs n hn
    | succ d ih => exact fun n hn => (ih n (by omega)).trans (hs (n + d + 1) (by omega))
  intro a b hab hb
  have := hl (b - a - 1) a (by omega)
  rwa [show a + (b - a - 1) + 1 = b by omega] at this

/-- A buffer that lies before the sixth of them is none of the sixth and later. -/
theorem rises_ne {s0 sk s : Shape} {T : ℕ → Buf sig s0 sk s} {N : ℕ} (h : rises T N = true) {i0 : s0.Idx} {ik : sk.Idx}
    {i : s.Idx} {r : Ref sig .tc} (hr : r.idx.val < (T 5).ref.idx.val) :
    ∀ n, 5 ≤ n → n < N → r ≠ ((T n).slot i0 ik i).x.ref := by
  intro n hn hN e
  rw [Buf.slot_ref] at e
  subst e
  rcases Nat.eq_or_lt_of_le hn with h' | h'
  · subst h'; exact absurd hr (lt_irrefl _)
  · exact absurd (rises_lt h 5 n h' hN) (not_lt.mpr hr.le)

theorem apart_of_rises {s0 sk s : Shape} {T : ℕ → Buf sig s0 sk s} {N : ℕ} (h : rises T N = true) (i0 : s0.Idx) (ik : sk.Idx)
    (i : s.Idx) : Apart (fun n => (T n).slot i0 ik i) N := by
  intro a b ha hb hab
  simp only [Buf.slot_ref]
  intro e
  rcases Nat.lt_or_gt_of_ne hab with h' | h'
  · have := rises_lt h a b h' hb
    rw [e] at this
    exact absurd this (lt_irrefl _)
  · have := rises_lt h b a h' ha
    rw [e] at this
    exact absurd this (lt_irrefl _)

variable {slot : ℕ → Slot sig} {N : ℕ}

/-- An operation that puts a literal everywhere. -/
theorem does_con {o c : ℕ} {so : Shape} {xo : TRef sig ⟨so, .i32⟩} {io : so.Idx}
    {v : (⟨so, .i32⟩ : BufTy).Contents (Elt F)} (eo : slot o = ⟨so, xo, io⟩) (ho : o < N) (h : v io = BitVec.ofNat 32 c) :
    Does (τ := τ) slot N (.con o c) (TRef.nullary xo v) := by
  refine ⟨ho, fun V => ?_, fun V r hr => ?_⟩
  · show word _ (slot o) = _
    rw [eo]
    unfold word
    rw [nullary_result]
    refine Eq.trans (congrFun ?_ io) h
    simp only [TRef.ofBuf, TRef.toBuf, cast_cast, cast_eq]
  · change r ≠ (slot o).x.ref at hr
    rw [eo] at hr
    rw [nullary_result_ne (h := hr)]

/-- An operation that spreads another buffer's entries. -/
theorem does_copy {o a : ℕ} {so sa : Shape} {xo : TRef sig ⟨so, .i32⟩} {xa : TRef sig ⟨sa, .i32⟩}
    {io : so.Idx} {ia : sa.Idx} {f : (⟨sa, .i32⟩ : BufTy).Contents (Elt F) → (⟨so, .i32⟩ : BufTy).Contents (Elt F)}
    (eo : slot o = ⟨so, xo, io⟩) (ea : slot a = ⟨sa, xa, ia⟩) (ho : o < N) (h : ∀ u, f u io = u ia) :
    Does (τ := τ) slot N (.copy o a) (TRef.unary xa xo f) := by
  refine ⟨ho, fun V => ?_, fun V r hr => ?_⟩
  · show word _ (slot o) = word V (slot a)
    rw [eo, ea]
    unfold word
    rw [unary_result]
    refine Eq.trans (congrFun ?_ io) (h (xa.ofBuf (V (Proc.devRef .tc xa.ref))))
    simp only [TRef.ofBuf, TRef.toBuf, cast_cast, cast_eq]
  · change r ≠ (slot o).x.ref at hr
    rw [eo] at hr
    rw [unary_result_ne (h := hr)]

/-- An operation on two buffers, entry by entry. -/
theorem does_bin {g : Mix} {o a b : ℕ} {so sa sb : Shape} {xo : TRef sig ⟨so, .i32⟩}
    {xa : TRef sig ⟨sa, .i32⟩} {xb : TRef sig ⟨sb, .i32⟩} {io : so.Idx} {ia : sa.Idx} {ib : sb.Idx}
    {f : (⟨sa, .i32⟩ : BufTy).Contents (Elt F) → (⟨sb, .i32⟩ : BufTy).Contents (Elt F) → (⟨so, .i32⟩ : BufTy).Contents (Elt F)}
    (eo : slot o = ⟨so, xo, io⟩) (ea : slot a = ⟨sa, xa, ia⟩) (eb : slot b = ⟨sb, xb, ib⟩) (ho : o < N)
    (h : ∀ u v, f u v io = g.eval (u ia) (v ib)) :
    Does (τ := τ) slot N (.bin g o a b) (TRef.binary xa xb xo f) := by
  refine ⟨ho, fun V => ?_, fun V r hr => ?_⟩
  · show word _ (slot o) = g.eval (word V (slot a)) (word V (slot b))
    rw [eo, ea, eb]
    unfold word
    rw [binary_result]
    refine Eq.trans (congrFun ?_ io) (h (xa.ofBuf (V (Proc.devRef .tc xa.ref))) (xb.ofBuf (V (Proc.devRef .tc xb.ref))))
    simp only [TRef.ofBuf, TRef.toBuf, cast_cast, cast_eq]
  · change r ≠ (slot o).x.ref at hr
    rw [eo] at hr
    rw [binary_result_ne (h := hr)]

/-- Operations that do the steps leave at the numbered entries the words the steps leave. -/
theorem word_after (hs : Apart slot N) : ∀ {sts : List Step} {ops : List (HloOp τ sig (Elt F))}, List.Forall₂ (Does slot N) sts ops →
    ∀ {m : ℕ}, ordered m sts = true → ∀ {E : ℕ → BitVec 32} {V : Valuation τ sig (Elt F)},
    (∀ n, n < m → n < N → word V (slot n) = E n) →
    ∀ n, n < m + sts.length → n < N → word (after ops V) (slot n) = eval sts E n
  | [], [], _, _, _, _, _, hE, n, hn, hN => hE n hn hN
  | st :: sts, op :: ops, .cons hd hr, m, hm, E, V, hE, n, hn, hN => by
    obtain ⟨ho, hm⟩ := Bool.and_eq_true_iff.mp hm
    obtain ⟨hb, hm⟩ := Bool.and_eq_true_iff.mp hm
    have ho : st.out = m := of_decide_eq_true ho
    have hmN : m < N := ho ▸ hd.lt
    refine word_after hs hr hm (E := Function.update E st.out (st.val E)) (V := op.result V) (fun k hk hkN => ?_) n
      (by simp only [List.length_cons] at hn; omega) hN
    by_cases hk' : k = st.out
    · subst hk'
      rw [Function.update_self, hd.out V]
      exact Step.val_congr (fun j hj => hE j hj (hj.trans hmN)) st hb
    · rw [Function.update_of_ne hk']
      unfold word
      rw [hd.keep V _ (hs k st.out hkN hd.lt hk')]
      exact hE k (by omega) hkN

/-- They keep every buffer that lies before those the steps write. -/
theorem kept_after : ∀ {sts : List Step} {ops : List (HloOp τ sig (Elt F))}, List.Forall₂ (Does slot N) sts ops →
    ∀ {m : ℕ}, ordered m sts = true → ∀ {r : Ref sig .tc} {V : Valuation τ sig (Elt F)},
    (∀ n, m ≤ n → n < N → r ≠ (slot n).x.ref) → after ops V (Proc.devRef .tc r) = V (Proc.devRef .tc r)
  | [], [], _, _, _, _, _, _ => rfl
  | st :: sts, op :: ops, .cons hd hr, m, hm, r, V, h => by
    obtain ⟨ho, hm⟩ := Bool.and_eq_true_iff.mp hm
    obtain ⟨hb, hm⟩ := Bool.and_eq_true_iff.mp hm
    have ho : st.out = m := of_decide_eq_true ho
    rw [after_cons, kept_after hr hm fun n hn hN => h n (by omega) hN, hd.keep V r (h _ ho.ge hd.lt)]

/-- A line of operations is its first `a`, the next `n`, and the rest. -/
theorem after_parts (ops : List (HloOp τ sig (Elt F))) (a n : ℕ) (V : Valuation τ sig (Elt F)) :
    after ops V = after ((ops.drop a).drop n) (after ((ops.drop a).take n) (after (ops.take a) V)) := by
  have h : ∀ (l₁ l₂ : List (HloOp τ sig (Elt F))) (V : Valuation τ sig (Elt F)), after (l₁ ++ l₂) V = after l₂ (after l₁ V) := by
    intro l₁ l₂
    induction l₁ with
    | nil => exact fun _ => rfl
    | cons op l ih => exact fun V => ih _
  rw [← h, List.take_append_drop, ← h, List.take_append_drop]

end

/-- The steps from the two words of key, their combination, and the two words of counter with the key added: five times
    four rounds, each an addition, a rotation and an exclusive-or, with the key added again after every fourth. -/
def rounds : List Step :=
  [.bin .add 5 3 4, .con 6 13, .copy 7 6, .bin .shl 8 4 7, .con 9 19, .copy 10 9, .bin .shr 11 4 10,
   .bin .or 12 8 11, .bin .xor 13 5 12, .bin .add 14 5 13, .con 15 15, .copy 16 15, .bin .shl 17 13 16, .con 18 17,
   .copy 19 18, .bin .shr 20 13 19, .bin .or 21 17 20, .bin .xor 22 14 21, .bin .add 23 14 22, .con 24 26,
   .copy 25 24, .bin .shl 26 22 25, .con 27 6, .copy 28 27, .bin .shr 29 22 28, .bin .or 30 26 29,
   .bin .xor 31 23 30, .bin .add 32 23 31, .con 33 6, .copy 34 33, .bin .shl 35 31 34, .con 36 26, .copy 37 36,
   .bin .shr 38 31 37, .bin .or 39 35 38, .bin .xor 40 32 39, .copy 41 1, .bin .add 42 32 41, .copy 43 2,
   .bin .add 44 40 43, .con 45 1, .copy 46 45, .bin .add 47 44 46, .bin .add 48 42 47, .con 49 17, .copy 50 49,
   .bin .shl 51 47 50, .con 52 15, .copy 53 52, .bin .shr 54 47 53, .bin .or 55 51 54, .bin .xor 56 48 55,
   .bin .add 57 48 56, .con 58 29, .copy 59 58, .bin .shl 60 56 59, .con 61 3, .copy 62 61, .bin .shr 63 56 62,
   .bin .or 64 60 63, .bin .xor 65 57 64, .bin .add 66 57 65, .con 67 16, .copy 68 67, .bin .shl 69 65 68,
   .con 70 16, .copy 71 70, .bin .shr 72 65 71, .bin .or 73 69 72, .bin .xor 74 66 73, .bin .add 75 66 74,
   .con 76 24, .copy 77 76, .bin .shl 78 74 77, .con 79 8, .copy 80 79, .bin .shr 81 74 80, .bin .or 82 78 81,
   .bin .xor 83 75 82, .copy 84 2, .bin .add 85 75 84, .copy 86 0, .bin .add 87 83 86, .con 88 2, .copy 89 88,
   .bin .add 90 87 89, .bin .add 91 85 90, .con 92 13, .copy 93 92, .bin .shl 94 90 93, .con 95 19, .copy 96 95,
   .bin .shr 97 90 96, .bin .or 98 94 97, .bin .xor 99 91 98, .bin .add 100 91 99, .con 101 15, .copy 102 101,
   .bin .shl 103 99 102, .con 104 17, .copy 105 104, .bin .shr 106 99 105, .bin .or 107 103 106,
   .bin .xor 108 100 107, .bin .add 109 100 108, .con 110 26, .copy 111 110, .bin .shl 112 108 111, .con 113 6,
   .copy 114 113, .bin .shr 115 108 114, .bin .or 116 112 115, .bin .xor 117 109 116, .bin .add 118 109 117,
   .con 119 6, .copy 120 119, .bin .shl 121 117 120, .con 122 26, .copy 123 122, .bin .shr 124 117 123,
   .bin .or 125 121 124, .bin .xor 126 118 125, .copy 127 0, .bin .add 128 118 127, .copy 129 1,
   .bin .add 130 126 129, .con 131 3, .copy 132 131, .bin .add 133 130 132, .bin .add 134 128 133, .con 135 17,
   .copy 136 135, .bin .shl 137 133 136, .con 138 15, .copy 139 138, .bin .shr 140 133 139, .bin .or 141 137 140,
   .bin .xor 142 134 141, .bin .add 143 134 142, .con 144 29, .copy 145 144, .bin .shl 146 142 145, .con 147 3,
   .copy 148 147, .bin .shr 149 142 148, .bin .or 150 146 149, .bin .xor 151 143 150, .bin .add 152 143 151,
   .con 153 16, .copy 154 153, .bin .shl 155 151 154, .con 156 16, .copy 157 156, .bin .shr 158 151 157,
   .bin .or 159 155 158, .bin .xor 160 152 159, .bin .add 161 152 160, .con 162 24, .copy 163 162,
   .bin .shl 164 160 163, .con 165 8, .copy 166 165, .bin .shr 167 160 166, .bin .or 168 164 167,
   .bin .xor 169 161 168, .copy 170 1, .bin .add 171 161 170, .copy 172 2, .bin .add 173 169 172, .con 174 4,
   .copy 175 174, .bin .add 176 173 175, .bin .add 177 171 176, .con 178 13, .copy 179 178, .bin .shl 180 176 179,
   .con 181 19, .copy 182 181, .bin .shr 183 176 182, .bin .or 184 180 183, .bin .xor 185 177 184,
   .bin .add 186 177 185, .con 187 15, .copy 188 187, .bin .shl 189 185 188, .con 190 17, .copy 191 190,
   .bin .shr 192 185 191, .bin .or 193 189 192, .bin .xor 194 186 193, .bin .add 195 186 194, .con 196 26,
   .copy 197 196, .bin .shl 198 194 197, .con 199 6, .copy 200 199, .bin .shr 201 194 200, .bin .or 202 198 201,
   .bin .xor 203 195 202, .bin .add 204 195 203, .con 205 6, .copy 206 205, .bin .shl 207 203 206, .con 208 26,
   .copy 209 208, .bin .shr 210 203 209, .bin .or 211 207 210, .bin .xor 212 204 211, .copy 213 2,
   .bin .add 214 204 213, .copy 215 0, .bin .add 216 212 215, .con 217 5, .copy 218 217, .bin .add 219 216 218]

theorem rounds_ordered : ordered 5 rounds = true := by decide +kernel

/-- The five words the rounds start from. -/
def seeds (k0 k1 x0 x1 : BitVec 32) : ℕ → BitVec 32
  | 0 => k0
  | 1 => k1
  | 2 => IntOp.xori (IntOp.xori k0 k1) 466688986#32
  | 3 => IntOp.addi x0 k0
  | 4 => IntOp.addi x1 k1
  | _ => 0#32

/-- The first of the two words that key `k0 k1` and counter `x0 x1` are mixed to. -/
def mix0 (k0 k1 x0 x1 : BitVec 32) : BitVec 32 := eval rounds (seeds k0 k1 x0 x1) 214

/-- The second. -/
def mix1 (k0 k1 x0 x1 : BitVec 32) : BitVec 32 := eval rounds (seeds k0 k1 x0 x1) 219

section
variable {τ : Topo} {sig : RefSig} {F : FTy → Type} {slot : ℕ → Slot sig}

/-- Operations that do the rounds mix the key and the counter their five words are made of. -/
theorem mixed (hs : Apart slot 220) {ops : List (HloOp τ sig (Elt F))} (h : List.Forall₂ (Does slot 220) rounds ops)
    {V : Valuation τ sig (Elt F)} {k0 k1 x0 x1 : BitVec 32}
    (h0 : word V (slot 0) = k0) (h1 : word V (slot 1) = k1)
    (h2 : word V (slot 2) = IntOp.xori (IntOp.xori k0 k1) 466688986#32)
    (h3 : word V (slot 3) = IntOp.addi x0 k0) (h4 : word V (slot 4) = IntOp.addi x1 k1) :
    word (after ops V) (slot 214) = mix0 k0 k1 x0 x1 ∧ word (after ops V) (slot 219) = mix1 k0 k1 x0 x1 := by
  have hV : ∀ n, n < 5 → n < 220 → word V (slot n) = seeds k0 k1 x0 x1 n := fun n hn _ =>
    match n, hn with
    | 0, _ => h0
    | 1, _ => h1
    | 2, _ => h2
    | 3, _ => h3
    | 4, _ => h4
  exact ⟨word_after hs h rounds_ordered hV 214 (by decide) (by decide), word_after hs h rounds_ordered hV 219 (by decide) (by decide)⟩

end

/-- The first of the two words of the key that a key and a number give. -/
def tick0 (k0 k1 t : BitVec 32) : BitVec 32 := mix0 k0 k1 (IntOp.shrui .host t 32#32) (IntOp.andi t 4294967295#32)
/-- The second of them. -/
def tick1 (k0 k1 t : BitVec 32) : BitVec 32 := mix1 k0 k1 (IntOp.shrui .host t 32#32) (IntOp.andi t 4294967295#32)

/-- The number of row `b`'s entry `p`, of rows of 128. -/
def count (b p : Fin 128) : BitVec 64 :=
  IntOp.addi (IntOp.muli 128#64 (BitVec.ofNat 64 b.val)) (IntOp.muli 1#64 (BitVec.ofNat 64 p.val))

/-- Its higher half. -/
def high (b p : Fin 128) : BitVec 32 := (IntOp.shrui .host (count b p) 32#64).setWidth 32
/-- Its lower half. -/
def low (b p : Fin 128) : BitVec 32 := (count b p).setWidth 32

/-- The Gumbel variable drawn by a word: its upper 23 bits make a number from zero to one, least positive normal number
    included, and that number's logarithm is negated and its logarithm negated again. -/
def gumbel {F : FTy → Type} [FloatOps F] (w : BitVec 32) : F .f32 :=
  let tiny : F .f32 := FloatOps.ofBits .f32 0x00800000#32
  let one : F .f32 := FloatOps.ofBits .f32 0x3F800000#32
  let u : F .f32 := FloatOps.subf (FloatOps.ofBits .f32 (IntOp.ori (IntOp.shrui .host w 9#32) 1065353216#32)) one
  let u : F .f32 := FloatOps.maximumf tiny (FloatOps.addf (FloatOps.mulf u (FloatOps.subf one tiny)) tiny)
  FloatOps.hostNegf (FloatOps.hostUnary .log (FloatOps.hostNegf (FloatOps.hostUnary .log u)))

/-- The noise of row `b`'s entry `p` under a key. -/
def noise {F : FTy → Type} [FloatOps F] (k0 k1 : BitVec 32) (b p : Fin 128) : F .f32 :=
  gumbel (IntOp.xori (mix0 k0 k1 (high b p) (low b p)) (mix1 k0 k1 (high b p) (low b p)))

end Cert.Words

end
-- ==== Proof.RefDraw.lean ====
/- What the reference draws in one trip: the trip's key from the run's key and the trip's number, and one Gumbel variable
   for each batch entry and point from the trip's key. -/
module

public import proofs.«01_k».proof.Proof.Words
public import proofs.«01_k».proof.Proof.RefOps
public import Idealize.ShloMosaic.Lib.StableHlo.RunClose
public import Idealize.ShloMosaic.Lib.Pointwise

@[expose] public section

set_option maxRecDepth 100000

noncomputable section

namespace Cert.ReferenceIdeal.Draw

open Idealize.ShloMosaic Idealize.ShloMosaic.TcCoe Idealize.ShloMosaic.StableHlo
open Cert.ReferenceIdeal Cert.ReferenceIdeal.Gen Cert.Words

variable {F : FTy → Type} [FloatOps F] (V : Valuation τ sig (Elt F))

/-! ## The trip's key -/

/-- The buffers of the mixing that makes the trip's key, in the order of the steps. -/
def foldBufs (φ : fn_threefry2x32.Bufs) : List (List (Buf sig S_ S_ S1)) :=
  [[.one (.of main_while0b_call3_v6), .one (.of main_while0b_call3_v8), .one φ.v1, .vec φ.v3, .vec φ.v5, .vec φ.v6,
    .one φ.c_0, .vec φ.v7, .vec φ.v8, .one φ.c_1, .vec φ.v9, .vec φ.v10, .vec φ.v11, .vec φ.v12, .vec φ.v13, .one φ.c_2],
   [.vec φ.v14, .vec φ.v15, .one φ.c_3, .vec φ.v16, .vec φ.v17, .vec φ.v18, .vec φ.v19, .vec φ.v20, .one φ.c_4, .vec φ.v21,
    .vec φ.v22, .one φ.c_5, .vec φ.v23, .vec φ.v24, .vec φ.v25, .vec φ.v26],
   [.vec φ.v27, .one φ.c_6, .vec φ.v28, .vec φ.v29, .one φ.c_7, .vec φ.v30, .vec φ.v31, .vec φ.v32, .vec φ.v33, .vec φ.v34,
    .vec φ.v35, .vec φ.v36, .vec φ.v37, .one φ.c_8, .vec φ.v38, .vec φ.v39],
   [.vec φ.v40, .one φ.c_9, .vec φ.v41, .vec φ.v42, .one φ.c_10, .vec φ.v43, .vec φ.v44, .vec φ.v45, .vec φ.v46,
    .vec φ.v47, .one φ.c_11, .vec φ.v48, .vec φ.v49, .one φ.c_12, .vec φ.v50, .vec φ.v51],
   [.vec φ.v52, .vec φ.v53, .vec φ.v54, .one φ.c_13, .vec φ.v55, .vec φ.v56, .one φ.c_14, .vec φ.v57, .vec φ.v58,
    .vec φ.v59, .vec φ.v60, .vec φ.v61, .one φ.c_15, .vec φ.v62, .vec φ.v63, .one φ.c_16],
   [.vec φ.v64, .vec φ.v65, .vec φ.v66, .vec φ.v67, .vec φ.v68, .vec φ.v69, .vec φ.v70, .vec φ.v71, .one φ.c_17,
    .vec φ.v72, .vec φ.v73, .vec φ.v74, .one φ.c_18, .vec φ.v75, .vec φ.v76, .one φ.c_19],
   [.vec φ.v77, .vec φ.v78, .vec φ.v79, .vec φ.v80, .vec φ.v81, .one φ.c_20, .vec φ.v82, .vec φ.v83, .one φ.c_21,
    .vec φ.v84, .vec φ.v85, .vec φ.v86, .vec φ.v87, .vec φ.v88, .one φ.c_22, .vec φ.v89],
   [.vec φ.v90, .one φ.c_23, .vec φ.v91, .vec φ.v92, .vec φ.v93, .vec φ.v94, .vec φ.v95, .one φ.c_24, .vec φ.v96,
    .vec φ.v97, .one φ.c_25, .vec φ.v98, .vec φ.v99, .vec φ.v100, .vec φ.v101, .vec φ.v102],
   [.vec φ.v103, .vec φ.v104, .vec φ.v105, .one φ.c_26, .vec φ.v106, .vec φ.v107, .vec φ.v108, .one φ.c_27, .vec φ.v109,
    .vec φ.v110, .one φ.c_28, .vec φ.v111, .vec φ.v112, .vec φ.v113, .vec φ.v114, .vec φ.v115],
   [.one φ.c_29, .vec φ.v116, .vec φ.v117, .one φ.c_30, .vec φ.v118, .vec φ.v119, .vec φ.v120, .vec φ.v121, .vec φ.v122,
    .one φ.c_31, .vec φ.v123, .vec φ.v124, .one φ.c_32, .vec φ.v125, .vec φ.v126, .vec φ.v127],
   [.vec φ.v128, .vec φ.v129, .one φ.c_33, .vec φ.v130, .vec φ.v131, .one φ.c_34, .vec φ.v132, .vec φ.v133, .vec φ.v134,
    .vec φ.v135, .vec φ.v136, .vec φ.v137, .vec φ.v138, .vec φ.v139, .one φ.c_35, .vec φ.v140],
   [.vec φ.v141, .vec φ.v142, .one φ.c_36, .vec φ.v143, .vec φ.v144, .one φ.c_37, .vec φ.v145, .vec φ.v146, .vec φ.v147,
    .vec φ.v148, .vec φ.v149, .one φ.c_38, .vec φ.v150, .vec φ.v151, .one φ.c_39, .vec φ.v152],
   [.vec φ.v153, .vec φ.v154, .vec φ.v155, .vec φ.v156, .one φ.c_40, .vec φ.v157, .vec φ.v158, .one φ.c_41, .vec φ.v159,
    .vec φ.v160, .vec φ.v161, .vec φ.v162, .vec φ.v163, .one φ.c_42, .vec φ.v164, .vec φ.v165],
   [.one φ.c_43, .vec φ.v166, .vec φ.v167, .vec φ.v168, .vec φ.v169, .vec φ.v170, .vec φ.v171, .vec φ.v172, .vec φ.v173,
    .one φ.c_44, .vec φ.v174, .vec φ.v175]]

/-- The buffer of a number. -/
def foldBuf : ℕ → Buf sig S_ S_ S1 := entry (.one (.of main_while0b_call3_v6)) (foldBufs main_while0b_call3_call0)

theorem foldBuf_rises : rises foldBuf 220 = true := by decide +kernel

/-- Its entry that entry `i` of the result is made from. -/
def foldSlot (i : S1.Idx) (n : ℕ) : Slot sig :=
  (foldBuf n).slot (broadcastInDim S1 ![] bcast_S_S1 id i) (broadcastInDim S1 ![] bcast_S_S1 id i) i

set_option maxHeartbeats 4000000 in
/-- The operations of the mixing do the steps. -/
theorem fold_does (i : S1.Idx) :
    List.Forall₂ (Does (F := F) (foldSlot i) 220) rounds ((while0Ops0_6.drop 20).take 215) := by
  repeat (
    refine .cons ?_ ?_
    first
    | exact does_con rfl (by decide) rfl
    | exact does_copy rfl rfl (by decide) fun _ => rfl
    | exact does_bin rfl rfl rfl (by decide) fun _ _ => rfl)
  exact .nil

/-- The first of two words. -/
def half0 (x : IVec S2 32) : IVec S_ 32 := shapeCast S_ (extractStridedSlice S1 ![0] x slices_S2_S1_0) shapeCasts_S1_S_
/-- The second of two words. -/
def half1 (x : IVec S2 32) : IVec S_ 32 := shapeCast S_ (extractStridedSlice S1 ![1] x slices_S2_S1_1) shapeCasts_S1_S_
/-- Two words as one array. -/
def both (a b : IVec S1 32) : IVec S2 32 := concatenate S2 0 [⟨S1, a⟩, ⟨S1, b⟩] concatenates_S1_S1_S2_d0

theorem half0_apply (x : IVec S2 32) (i : S_.Idx) : half0 x i = x (ix1 0) := by
  unfold half0
  refine congrArg x (funext fun a => Fin.ext ?_)
  match a with
  | ⟨0, _⟩ => exact (Nat.zero_add _).trans (Nat.lt_one_iff.mp (Shape.reshapeEquiv shapeCasts_S1_S_ i 0).isLt)

theorem half1_apply (x : IVec S2 32) (i : S_.Idx) : half1 x i = x (ix1 1) := by
  unfold half1
  refine congrArg x (funext fun a => Fin.ext ?_)
  match a with
  | ⟨0, _⟩ => exact congrArg (1 + ·) (Nat.lt_one_iff.mp (Shape.reshapeEquiv shapeCasts_S1_S_ i 0).isLt)

theorem both_0 (a b : IVec S1 32) : both a b (ix1 0) = a (ix1 0) := by
  pointwise [both]
theorem both_1 (a b : IVec S1 32) : both a b (ix1 1) = b (ix1 0) := by
  pointwise [both]

/-- The key that a key and a number give. -/
def foldIn (key : IVec S2 32) (t : IVec S_ 32) : IVec S2 32 :=
  both (fun _ => tick0 (key (ix1 0)) (key (ix1 1)) (t (Shape.Idx.first h_S_)))
    (fun _ => tick1 (key (ix1 0)) (key (ix1 1)) (t (Shape.Idx.first h_S_)))

/-- The number's upper and lower words. -/
def halves (t : IVec S_ 32) : IVec S2 32 :=
  both (broadcastInDim S1 ![] bcast_S_S1 (Host.shrui t (constantI S_ 32 32#32)))
    (broadcastInDim S1 ![] bcast_S_S1 (andi t (constantI S_ 32 4294967295#32)))

theorem one_idx (i : S1.Idx) : i = ix1 0 := by
  funext a
  match a with
  | ⟨0, _⟩ => exact Fin.ext (Nat.lt_one_iff.mp (i 0).isLt)

theorem no_idx (i j : S_.Idx) : i = j := funext fun a => a.elim0

theorem out_6_v56 : after while0Ops0_6 V (Proc.devRef .tc main_while0b_v56)
    = foldIn (V (Proc.devRef .tc main_v16_7)) (V (Proc.devRef .tc main_while0b_v55)) := by
  rw [after_parts while0Ops0_6 20 215]
  obtain ⟨key, hk⟩ : ∃ key : IVec S2 32, V (Proc.devRef .tc main_v16_7) = key := ⟨_, rfl⟩
  obtain ⟨t, ht⟩ : ∃ t : IVec S_ 32, V (Proc.devRef .tc main_while0b_v55) = t := ⟨_, rfl⟩
  rw [hk, ht]
  have h0 : (after (while0Ops0_6.take 20) V (Proc.devRef .tc main_while0b_call3_v6) : IVec S_ 32) = half0 key := by
    subst hk
    unfold half0
    simp only [List.take_succ_cons, List.take_zero]
    after_results_entrywise [cast_eq]
  have h1 : (after (while0Ops0_6.take 20) V (Proc.devRef .tc main_while0b_call3_v8) : IVec S_ 32) = half1 key := by
    subst hk
    unfold half1
    simp only [List.take_succ_cons, List.take_zero]
    after_results_entrywise [cast_eq]
  have h2 : (after (while0Ops0_6.take 20) V (Proc.devRef .tc main_while0b_call3_call0_v1) : IVec S_ 32)
      = xori (xori (half0 key) (half1 key)) (constantI S_ 32 466688986#32) := by
    subst hk
    unfold half0 half1
    simp only [List.take_succ_cons, List.take_zero]
    after_results_entrywise [cast_eq]
  have h3 : (after (while0Ops0_6.take 20) V (Proc.devRef .tc main_while0b_call3_call0_v3) : IVec S1 32)
      = addi (extractStridedSlice S1 ![0] (halves t) slices_S2_S1_0) (broadcastInDim S1 ![] bcast_S_S1 (half0 key)) := by
    subst hk ht
    unfold half0 halves both
    simp only [List.take_succ_cons, List.take_zero]
    after_results_entrywise [cast_eq]
  have h4 : (after (while0Ops0_6.take 20) V (Proc.devRef .tc main_while0b_call3_call0_v5) : IVec S1 32)
      = addi (extractStridedSlice S1 ![1] (halves t) slices_S2_S1_1) (broadcastInDim S1 ![] bcast_S_S1 (half1 key)) := by
    subst hk ht
    unfold half1 halves both
    simp only [List.take_succ_cons, List.take_zero]
    after_results_entrywise [cast_eq]
  generalize after (while0Ops0_6.take 20) V = V₁ at h0 h1 h2 h3 h4
  obtain ⟨m0, m1⟩ := mixed (apart_of_rises foldBuf_rises _ _ (ix1 0)) (fold_does (F := F) (ix1 0)) (V := V₁)
    (k0 := key (ix1 0)) (k1 := key (ix1 1)) (x0 := IntOp.shrui .host (t (Shape.Idx.first h_S_)) 32#32)
    (x1 := IntOp.andi (t (Shape.Idx.first h_S_)) 4294967295#32)
    ((congrFun h0 _).trans (half0_apply key _)) ((congrFun h1 _).trans (half1_apply key _))
    ((congrFun h2 _).trans (congrArg₂ (fun a b => IntOp.xori (IntOp.xori a b) 466688986#32) (half0_apply key _) (half1_apply key _)))
    ((congrFun h3 _).trans (congrArg₂ IntOp.addi (by
      have : extractStridedSlice S1 ![0] (halves t) slices_S2_S1_0 (ix1 0) = halves t (ix1 0) := by pointwise
      refine this.trans ((both_0 _ _).trans ?_)
      exact congrArg (Host.shrui t (constantI S_ 32 32#32)) (no_idx _ (Shape.Idx.first h_S_))) (half0_apply key _)))
    ((congrFun h4 _).trans (congrArg₂ IntOp.addi (by
      have : extractStridedSlice S1 ![1] (halves t) slices_S2_S1_1 (ix1 0) = halves t (ix1 1) := by pointwise
      refine this.trans ((both_1 _ _).trans ?_)
      exact congrArg (andi t (constantI S_ 32 4294967295#32)) (no_idx _ (Shape.Idx.first h_S_))) (half1_apply key _)))
  have m0 : (after ((while0Ops0_6.drop 20).take 215) V₁ (Proc.devRef .tc main_while0b_call3_v11_0) : IVec S1 32)
      = fun _ => tick0 (key (ix1 0)) (key (ix1 1)) (t (Shape.Idx.first h_S_)) := by
    funext i; rw [one_idx i]; exact m0
  have m1 : (after ((while0Ops0_6.drop 20).take 215) V₁ (Proc.devRef .tc main_while0b_call3_v11_1) : IVec S1 32)
      = fun _ => tick1 (key (ix1 0)) (key (ix1 1)) (t (Shape.Idx.first h_S_)) := by
    funext i; rw [one_idx i]; exact m1
  generalize after ((while0Ops0_6.drop 20).take 215) V₁ = V₂ at m0 m1
  have h5 : after ((while0Ops0_6.drop 20).drop 215) V₂ (Proc.devRef .tc main_while0b_v56)
      = both (V₂ (Proc.devRef .tc main_while0b_call3_v11_0)) (V₂ (Proc.devRef .tc main_while0b_call3_v11_1)) := by
    unfold both
    simp only [List.drop_succ_cons, List.drop_zero]
    after_results_entrywise [cast_eq]
  exact h5.trans (congrArg₂ both m0 m1)

/-! ## One trip's noise -/

/-- The buffers of the mixing that draws the noise, in the order of the steps. -/
def drawBufs (φ : fn_threefry2x32_0.Bufs) : List (List (Buf sig S_ S_ S128x128)) :=
  [[.one (.of main_while0b_call4_call0_v4), .one (.of main_while0b_call4_call0_v6), .one φ.v1, .vec φ.v3, .vec φ.v5,
    .vec φ.v6, .one φ.c_0, .vec φ.v7, .vec φ.v8, .one φ.c_1, .vec φ.v9, .vec φ.v10, .vec φ.v11, .vec φ.v12, .vec φ.v13,
    .one φ.c_2],
   [.vec φ.v14, .vec φ.v15, .one φ.c_3, .vec φ.v16, .vec φ.v17, .vec φ.v18, .vec φ.v19, .vec φ.v20, .one φ.c_4, .vec φ.v21,
    .vec φ.v22, .one φ.c_5, .vec φ.v23, .vec φ.v24, .vec φ.v25, .vec φ.v26],
   [.vec φ.v27, .one φ.c_6, .vec φ.v28, .vec φ.v29, .one φ.c_7, .vec φ.v30, .vec φ.v31, .vec φ.v32, .vec φ.v33, .vec φ.v34,
    .vec φ.v35, .vec φ.v36, .vec φ.v37, .one φ.c_8, .vec φ.v38, .vec φ.v39],
   [.vec φ.v40, .one φ.c_9, .vec φ.v41, .vec φ.v42, .one φ.c_10, .vec φ.v43, .vec φ.v44, .vec φ.v45, .vec φ.v46,
    .vec φ.v47, .one φ.c_11, .vec φ.v48, .vec φ.v49, .one φ.c_12, .vec φ.v50, .vec φ.v51],
   [.vec φ.v52, .vec φ.v53, .vec φ.v54, .one φ.c_13, .vec φ.v55, .vec φ.v56, .one φ.c_14, .vec φ.v57, .vec φ.v58,
    .vec φ.v59, .vec φ.v60, .vec φ.v61, .one φ.c_15, .vec φ.v62, .vec φ.v63, .one φ.c_16],
   [.vec φ.v64, .vec φ.v65, .vec φ.v66, .vec φ.v67, .vec φ.v68, .vec φ.v69, .vec φ.v70, .vec φ.v71, .one φ.c_17,
    .vec φ.v72, .vec φ.v73, .vec φ.v74, .one φ.c_18, .vec φ.v75, .vec φ.v76, .one φ.c_19],
   [.vec φ.v77, .vec φ.v78, .vec φ.v79, .vec φ.v80, .vec φ.v81, .one φ.c_20, .vec φ.v82, .vec φ.v83, .one φ.c_21,
    .vec φ.v84, .vec φ.v85, .vec φ.v86, .vec φ.v87, .vec φ.v88, .one φ.c_22, .vec φ.v89],
   [.vec φ.v90, .one φ.c_23, .vec φ.v91, .vec φ.v92, .vec φ.v93, .vec φ.v94, .vec φ.v95, .one φ.c_24, .vec φ.v96,
    .vec φ.v97, .one φ.c_25, .vec φ.v98, .vec φ.v99, .vec φ.v100, .vec φ.v101, .vec φ.v102],
   [.vec φ.v103, .vec φ.v104, .vec φ.v105, .one φ.c_26, .vec φ.v106, .vec φ.v107, .vec φ.v108, .one φ.c_27, .vec φ.v109,
    .vec φ.v110, .one φ.c_28, .vec φ.v111, .vec φ.v112, .vec φ.v113, .vec φ.v114, .vec φ.v115],
   [.one φ.c_29, .vec φ.v116, .vec φ.v117, .one φ.c_30, .vec φ.v118, .vec φ.v119, .vec φ.v120, .vec φ.v121, .vec φ.v122,
    .one φ.c_31, .vec φ.v123, .vec φ.v124, .one φ.c_32, .vec φ.v125, .vec φ.v126, .vec φ.v127],
   [.vec φ.v128, .vec φ.v129, .one φ.c_33, .vec φ.v130, .vec φ.v131, .one φ.c_34, .vec φ.v132, .vec φ.v133, .vec φ.v134,
    .vec φ.v135, .vec φ.v136, .vec φ.v137, .vec φ.v138, .vec φ.v139, .one φ.c_35, .vec φ.v140],
   [.vec φ.v141, .vec φ.v142, .one φ.c_36, .vec φ.v143, .vec φ.v144, .one φ.c_37, .vec φ.v145, .vec φ.v146, .vec φ.v147,
    .vec φ.v148, .vec φ.v149, .one φ.c_38, .vec φ.v150, .vec φ.v151, .one φ.c_39, .vec φ.v152],
   [.vec φ.v153, .vec φ.v154, .vec φ.v155, .vec φ.v156, .one φ.c_40, .vec φ.v157, .vec φ.v158, .one φ.c_41, .vec φ.v159,
    .vec φ.v160, .vec φ.v161, .vec φ.v162, .vec φ.v163, .one φ.c_42, .vec φ.v164, .vec φ.v165],
   [.one φ.c_43, .vec φ.v166, .vec φ.v167, .vec φ.v168, .vec φ.v169, .vec φ.v170, .vec φ.v171, .vec φ.v172, .vec φ.v173,
    .one φ.c_44, .vec φ.v174, .vec φ.v175]]

/-- The buffer of a number. -/
def drawBuf : ℕ → Buf sig S_ S_ S128x128 := entry (.one (.of main_while0b_call4_call0_v4)) (drawBufs main_while0b_call4_call0_call0)

theorem drawBuf_rises : rises drawBuf 220 = true := by decide +kernel

/-- Its entry that entry `i` of the result is made from. -/
def drawSlot (i : S128x128.Idx) (n : ℕ) : Slot sig :=
  (drawBuf n).slot (broadcastInDim S128x128 ![] bcast_S_S128x128 id i) (broadcastInDim S128x128 ![] bcast_S_S128x128 id i) i

set_option maxHeartbeats 4000000 in
/-- The operations of the mixing do the steps. -/
theorem draw_does (i : S128x128.Idx) :
    List.Forall₂ (Does (F := F) (drawSlot i) 220) rounds ((while0Ops0_7.drop 30).take 215) := by
  repeat (
    refine .cons ?_ ?_
    first
    | exact does_con rfl (by decide) rfl
    | exact does_copy rfl rfl (by decide) fun _ => rfl
    | exact does_bin rfl rfl rfl (by decide) fun _ _ => rfl)
  exact .nil

/-- The noise a key draws. -/
def drawn (key : IVec S2 32) : FVec F S128x128 .f32 := fun i => noise (key (ix1 0)) (key (ix1 1)) (i 0) (i 1)

/-- The entries' numbers. -/
def counts : IVec S128x128 64 :=
  addi (muli (broadcastInDim S128x128 ![] bcast_S_S128x128 (constantI S_ 64 128#64)) (iotaInDim S128x128 64 0))
    (muli (broadcastInDim S128x128 ![] bcast_S_S128x128 (constantI S_ 64 1#64)) (iotaInDim S128x128 64 1))

/-- The Gumbel variables of words, the two numbers of the unit interval's ends given. -/
def gumbels (w : IVec S128x128 32) (tiny one : FVec F S1x1 .f32) : FVec F S128x128 .f32 :=
  Host.negf (Host.log (Host.negf (Host.log (maximumf (broadcastInDim S128x128 ![0, 1] bcast_S1x1_S128x128_0_1 tiny)
    (addf (mulf (subf (bitcastToFloat .f32 (ori (Host.shrui w (broadcastInDim S128x128 ![] bcast_S_S128x128 (constantI S_ 32 9#32)))
          (broadcastInDim S128x128 ![] bcast_S_S128x128 (constantI S_ 32 1065353216#32))))
        (broadcastInDim S128x128 ![] bcast_S_S128x128 (constant S_ .f32 0x3F800000#32)))
      (broadcastInDim S128x128 ![0, 1] bcast_S1x1_S128x128_0_1 (subf one tiny)))
    (broadcastInDim S128x128 ![0, 1] bcast_S1x1_S128x128_0_1 tiny))))))

theorem out_7_v57 : after while0Ops0_7 V (Proc.devRef .tc main_while0b_v57) = drawn (F := F) (V (Proc.devRef .tc main_while0b_v56)) := by
  rw [after_parts while0Ops0_7 30 215]
  obtain ⟨key, hk⟩ : ∃ key : IVec S2 32, V (Proc.devRef .tc main_while0b_v56) = key := ⟨_, rfl⟩
  rw [hk]
  have h0 : (after (while0Ops0_7.take 30) V (Proc.devRef .tc main_while0b_call4_call0_v4) : IVec S_ 32) = half0 key := by
    subst hk
    unfold half0
    simp only [List.take_succ_cons, List.take_zero]
    after_results_entrywise [cast_eq]
  have h1 : (after (while0Ops0_7.take 30) V (Proc.devRef .tc main_while0b_call4_call0_v6) : IVec S_ 32) = half1 key := by
    subst hk
    unfold half1
    simp only [List.take_succ_cons, List.take_zero]
    after_results_entrywise [cast_eq]
  have h2 : (after (while0Ops0_7.take 30) V (Proc.devRef .tc main_while0b_call4_call0_call0_v1) : IVec S_ 32)
      = xori (xori (half0 key) (half1 key)) (constantI S_ 32 466688986#32) := by
    subst hk
    unfold half0 half1
    simp only [List.take_succ_cons, List.take_zero]
    after_results_entrywise [cast_eq]
  have h3 : (after (while0Ops0_7.take 30) V (Proc.devRef .tc main_while0b_call4_call0_call0_v3) : IVec S128x128 32)
      = addi (trunci 32 (Host.shrui counts (broadcastInDim S128x128 ![] bcast_S_S128x128 (constantI S_ 64 32#64))) natLt_32_64)
        (broadcastInDim S128x128 ![] bcast_S_S128x128 (half0 key)) := by
    subst hk
    unfold half0 counts
    simp only [List.take_succ_cons, List.take_zero]
    after_results_entrywise [cast_eq]
  have h4 : (after (while0Ops0_7.take 30) V (Proc.devRef .tc main_while0b_call4_call0_call0_v5) : IVec S128x128 32)
      = addi (trunci 32 counts natLt_32_64) (broadcastInDim S128x128 ![] bcast_S_S128x128 (half1 key)) := by
    subst hk
    unfold half1 counts
    simp only [List.take_succ_cons, List.take_zero]
    after_results_entrywise [cast_eq]
  have h5 : (after (while0Ops0_7.take 30) V (Proc.devRef .tc main_while0b_call4_call0_v1) : FVec F S1x1 .f32)
      = fun _ => FloatOps.ofBits .f32 0x00800000#32 := by
    simp only [List.take_succ_cons, List.take_zero]
    after_results_entrywise [cast_eq]
  have h6 : (after (while0Ops0_7.take 30) V (Proc.devRef .tc main_while0b_call4_call0_v2) : FVec F S1x1 .f32)
      = fun _ => FloatOps.ofBits .f32 0x3F800000#32 := by
    simp only [List.take_succ_cons, List.take_zero]
    after_results_entrywise [cast_eq]
  generalize after (while0Ops0_7.take 30) V = V₁ at h0 h1 h2 h3 h4 h5 h6
  have m : (fun i => IntOp.xori ((after ((while0Ops0_7.drop 30).take 215) V₁ (Proc.devRef .tc main_while0b_call4_call0_v18_0) : IVec S128x128 32) i)
        ((after ((while0Ops0_7.drop 30).take 215) V₁ (Proc.devRef .tc main_while0b_call4_call0_v18_1) : IVec S128x128 32) i))
      = fun i : S128x128.Idx => IntOp.xori (mix0 (key (ix1 0)) (key (ix1 1)) (high (i 0) (i 1)) (low (i 0) (i 1)))
          (mix1 (key (ix1 0)) (key (ix1 1)) (high (i 0) (i 1)) (low (i 0) (i 1))) := by
    funext i
    obtain ⟨m0, m1⟩ := mixed (apart_of_rises drawBuf_rises _ _ i) (draw_does (F := F) i) (V := V₁)
      (k0 := key (ix1 0)) (k1 := key (ix1 1)) (x0 := high (i 0) (i 1)) (x1 := low (i 0) (i 1))
      ((congrFun h0 _).trans (half0_apply key _)) ((congrFun h1 _).trans (half1_apply key _))
      ((congrFun h2 _).trans (congrArg₂ (fun a b => IntOp.xori (IntOp.xori a b) 466688986#32) (half0_apply key _) (half1_apply key _)))
      ((congrFun h3 i).trans (congrArg (IntOp.addi _) (half0_apply key _)))
      ((congrFun h4 i).trans (congrArg (IntOp.addi _) (half1_apply key _)))
    exact congrArg₂ IntOp.xori m0 m1
  have h5 := (kept_after (draw_does (F := F) (ix2 0 0)) rounds_ordered (V := V₁) (rises_ne drawBuf_rises
    (r := main_while0b_call4_call0_v1) (by decide +kernel))).trans h5
  have h6 := (kept_after (draw_does (F := F) (ix2 0 0)) rounds_ordered (V := V₁) (rises_ne drawBuf_rises
    (r := main_while0b_call4_call0_v2) (by decide +kernel))).trans h6
  generalize after ((while0Ops0_7.drop 30).take 215) V₁ = V₂ at m h5 h6
  have h7 : after ((while0Ops0_7.drop 30).drop 215) V₂ (Proc.devRef .tc main_while0b_v57)
      = gumbels (xori (V₂ (Proc.devRef .tc main_while0b_call4_call0_v18_0)) (V₂ (Proc.devRef .tc main_while0b_call4_call0_v18_1)))
        (V₂ (Proc.devRef .tc main_while0b_call4_call0_v1)) (V₂ (Proc.devRef .tc main_while0b_call4_call0_v2)) := by
    unfold gumbels
    simp only [List.drop_succ_cons, List.drop_zero]
    after_results_entrywise [cast_eq]
  rw [h7, h5, h6]
  refine (congrArg (fun w => gumbels w _ _) m).trans ?_
  rfl

end Cert.ReferenceIdeal.Draw

end
-- ==== Proof.RefTrip.lean ====
/- One trip of the reference's loop as functions of the carried values: what each stretch of the trip's host
   operations leaves in the buffer it computes, composed into the state the trip hands the next; and the reference
   program's run stated over the states so reached. -/
module

public import proofs.«01_k».proof.Proof.RefFold
public import proofs.«01_k».proof.Proof.RefDraw
public import Idealize.ShloMosaic.Lib.StableHlo.RunClose

@[expose] public section

set_option maxRecDepth 8192

noncomputable section

namespace Cert.ReferenceIdeal.Trip

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Draw (foldIn drawn)

variable {F : FTy → Type} [FloatOps F]

/-! ## The stretches as functions -/

/-- The number of step `j` in the list of the steps' numbers. -/
def tickAt (ts : IVec S128 32) (j : IVec S_ 32) : IVec S_ 32 :=
  shapeCast S_ (Host.dynamicSlice S1 ts (fun k => (((![j] : Fin 1 → IVec S_ 32)) k (Shape.Idx.first h_S_)).toInt) sliceFits_S128_S1 : IVec S1 32) shapeCasts_S1_S_

/-- The noise of step `j`: drawn from the key that the run's key and the step's number give. -/
def noiseAt (key : IVec S2 32) (ts : IVec S128 32) (j : IVec S_ 32) : FVec F S128x128 .f32 := drawn (foldIn key (tickAt ts j))

/-- The three previous rows through their weights, summed. -/
def querySum (p : FVec F S3x128x512 .f32) (w0 w1 w2 : FVec F S360x512 .f32) : FVec F S128x360 .f32 :=
  addf (addf
      (Host.dotGeneral dot_S128x512_S512x360_S128x360_1_0_0_1_n_n none
        (shapeCast S128x512 (extractStridedSlice S1x128x512 ![0, 0, 0] p slices_S3x128x512_S1x128x512_0_0_0) shapeCasts_S1x128x512_S128x512)
        (transpose S512x360 [1, 0] w0 transposes_S360x512_S512x360_1_0))
      (Host.dotGeneral dot_S128x512_S512x360_S128x360_1_0_0_1_n_n none
        (shapeCast S128x512 (extractStridedSlice S1x128x512 ![1, 0, 0] p slices_S3x128x512_S1x128x512_1_0_0) shapeCasts_S1x128x512_S128x512)
        (transpose S512x360 [1, 0] w1 transposes_S360x512_S512x360_1_0)))
    (Host.dotGeneral dot_S128x512_S512x360_S128x360_1_0_0_1_n_n none
        (shapeCast S128x512 (extractStridedSlice S1x128x512 ![2, 0, 0] p slices_S3x128x512_S1x128x512_2_0_0) shapeCasts_S1x128x512_S128x512)
        (transpose S512x360 [1, 0] w2 transposes_S360x512_S512x360_1_0))

/-- The query, no less than zero. -/
def relu (q : FVec F S128x360 .f32) : FVec F S128x360 .f32 :=
  maximumf q (broadcastInDim S128x360 ![] bcast_S_S128x360 (constant S_ .f32 0x00000000#32))

/-- The additive attention's score of every position. -/
def scores (q : FVec F S128x360 .f32) (wp : FVec F S256x360 .f32) (e : FVec F S128x128x256 .f32) (v : FVec F S256 .f32) :
    FVec F S128x128 .f32 :=
  Host.reduceAdd
    (mulf (broadcastInDim S128x128x256 ![0, 1, 2] bcast_S1x1x256_S128x128x256_0_1_2 (broadcastInDim S1x1x256 ![2] bcast_S256_S1x1x256_2 v))
      (Host.tanh (addf e (broadcastInDim S128x128x256 ![0, 1, 2] bcast_S128x1x256_S128x128x256_0_1_2
        (broadcastInDim S128x1x256 ![0, 2] bcast_S128x256_S128x1x256_0_2
          (Host.dotGeneral dot_S128x360_S360x256_S128x256_1_0_0_1_n_n none q (transpose S360x256 [1, 0] wp transposes_S256x360_S360x256_1_0)))))))
    (constant S_ .f32 0x00000000#32) reducesTo_S128x128x256_S128x128_d2 h_S_

/-- Ten times the tanh of the score, less a large multiple of the mask. -/
def masked (s mask : FVec F S128x128 .f32) : FVec F S128x128 .f32 :=
  subf (mulf (broadcastInDim S128x128 ![] bcast_S_S128x128 (constant S_ .f32 0x41200000#32))
      (Host.tanh (Host.divf s (broadcastInDim S128x128 ![] bcast_S_S128x128 (constant S_ .f32 0x3F800000#32)))))
    (mulf (broadcastInDim S128x128 ![] bcast_S_S128x128 (constant S_ .f32 0x4CBEBC20#32)) mask)

/-- Clipped between two scalars. -/
def clip (x : FVec F S128x128 .f32) (lo hi : FVec F S_ .f32) : FVec F S128x128 .f32 :=
  minimumf (broadcastInDim S128x128 ![] bcast_S_S128x128 hi) (maximumf (broadcastInDim S128x128 ![] bcast_S_S128x128 lo) x)

/-- The position of each row's greatest value, the first of equal ones. -/
def argmax (z : FVec F S128x128 .f32) : IVec S128 32 :=
  fun j => (Host.argReduce reducer_argmax_f32_i32 z (iotaInDim S128x128 32 1) (constant S_ .f32 0xFF800000#32) (constantI S_ 32 0#32) reducesTo_S128x128_S128_d1 h_S_ j).2

/-- Each row less its greatest value. -/
def shifted (x : FVec F S128x128 .f32) : FVec F S128x128 .f32 :=
  subf x (broadcastInDim S128x128 ![0, 1] bcast_S128x1_S128x128_0_1 (broadcastInDim S128x1 ![0] bcast_S128_S128x1_0
    (maximumf (broadcastInDim S128 ![] bcast_S_S128 (constant S_ .f32 0xFF800000#32))
      (Host.reduce FloatOps.maximumf x (constant S_ .f32 0xFF800000#32) reducesTo_S128x128_S128_d1 h_S_))))

/-- The logarithm of each row's softmax. -/
def logp (x : FVec F S128x128 .f32) : FVec F S128x128 .f32 :=
  subf (shifted x) (broadcastInDim S128x128 ![0, 1] bcast_S128x1_S128x128_0_1 (Host.log (broadcastInDim S128x1 ![0] bcast_S128_S128x1_0
    (Host.reduceAdd (Host.exp (shifted x)) (constant S_ .f32 0x00000000#32) reducesTo_S128x128_S128_d1 h_S_))))

/-- A column of positions, the negative ones counted from the end. -/
def wrapCol (i : IVec S128x1 32) : IVec S128x1x1 32 :=
  shapeCast S128x1x1 (select (cmpi .slt i (broadcastInDim S128x1 ![] bcast_S_S128x1 (constantI S_ 32 0#32)))
    (addi i (broadcastInDim S128x1 ![] bcast_S_S128x1 (constantI S_ 32 128#32))) i) shapeCasts_S128x1_S128x1x1

/-- Whether each position lies in its row. -/
def inRow (i : IVec S128x1x1 32) : IVec S128x1 1 :=
  Host.reduce IntOp.andi
    (andi (cmpi .sge i (broadcastInDim S128x1x1 ![] bcast_S_S128x1x1 (constantI S_ 32 0#32)))
      (cmpi .sle i (broadcastInDim S128x1x1 ![0, 1, 2] bcast_S1x1x1_S128x1x1_0_1_2 (broadcastInDim S1x1x1 ![2] bcast_S1_S1x1x1_2 (constantI S1 32 127#32)))))
    (constantI S_ 1 1#1) reducesTo_S128x1x1_S128x1_d2 h_S_

/-- One value of each row, at the row's position. -/
def takeAlong (x : FVec F S128x128 .f32) (i : IVec S128x1 32) : FVec F S128x1 .f32 :=
  select (inRow (wrapCol i)) (Host.gather gather_S128x128_S128x1x1_S128x1_n_1_0_0_1_2_11 x (wrapCol i))
    (broadcastInDim S128x1 ![] bcast_S_S128x1 (constant S_ .f32 0x7FC00000#32))

/-- The positions as a column. -/
def asCol (i : IVec S128 32) : IVec S128x1 32 := broadcastInDim S128x1 ![0] bcast_S128_S128x1_0 i

/-- The sum of log probabilities with one more taken in. -/
def addTaken (lp : FVec F S128 .f32) (x : FVec F S128x1 .f32) : FVec F S128 .f32 :=
  addf lp (shapeCast S128 x shapeCasts_S128x1_S128)

/-- The entropies with one more distribution's taken in. -/
def addEntropy (ent : FVec F S128 .f32) (l : FVec F S128x128 .f32) : FVec F S128 .f32 :=
  subf ent (Host.reduceAdd (mulf (Host.exp l) l) (constant S_ .f32 0x00000000#32) reducesTo_S128x128_S128_d1 h_S_)

/-- One at each row's position, zero elsewhere. -/
def oneHot (i : IVec S128 32) : FVec F S128x128 .f32 :=
  uitofp .f32 (cmpi .eq (broadcastInDim S128x128 ![0, 1] bcast_S128x1_S128x128_0_1 (broadcastInDim S128x1 ![0] bcast_S128_S128x1_0 i))
    (broadcastInDim S128x128 ![0, 1] bcast_S1x128_S128x128_0_1 (iotaInDim S1x128 32 1)))

/-- Positions, the negative ones counted from the end. -/
def wrap (i : IVec S128 32) : IVec S128 32 :=
  select (cmpi .slt i (broadcastInDim S128 ![] bcast_S_S128 (constantI S_ 32 0#32)))
    (addi i (broadcastInDim S128 ![] bcast_S_S128 (constantI S_ 32 128#32))) i

/-- Two vectors of positions as pairs. -/
def pairs (a b : IVec S128x1 32) : IVec S128x2 32 :=
  concatenate S128x2 1 [⟨S128x1, a⟩, ⟨S128x1, b⟩] concatenates_S128x1_S128x1_S128x2_d1

/-- One input row for each batch row, at its position. -/
def rowsAt (x : FVec F S128x128x512 .f32) (r i : IVec S128 32) : FVec F S128x512 .f32 :=
  Host.gather gather_S128x128x512_S128x2_S128x512_1_01_n_n_01_1_11512 x
    (pairs (broadcastInDim S128x1 ![0] bcast_S128_S128x1_0 (wrap r)) (broadcastInDim S128x1 ![0] bcast_S128_S128x1_0 (wrap i)))

/-- Two arrays of rows joined. -/
def joinRows (a : FVec F S2x128x512 .f32) (b : FVec F S1x128x512 .f32) : FVec F S3x128x512 .f32 :=
  concatenate S3x128x512 0 [⟨S2x128x512, a⟩, ⟨S1x128x512, b⟩] concatenates_S2x128x512_S1x128x512_S3x128x512_d0

/-- The oldest of the previous rows dropped, a new one added. -/
def pushRow (p : FVec F S3x128x512 .f32) (r : FVec F S128x512 .f32) : FVec F S3x128x512 .f32 :=
  joinRows (extractStridedSlice S2x128x512 ![1, 0, 0] p slices_S3x128x512_S2x128x512_1_0_0)
    (broadcastInDim S1x128x512 ![1, 2] bcast_S128x512_S1x128x512_1_2 r)

/-- The tour with row `j` overwritten. -/
def putRow (x : IVec S128x128 32) (i : IVec S128 32) (j : IVec S_ 32) : IVec S128x128 32 :=
  Host.dynamicUpdateSlice x (broadcastInDim S1x128 ![1] bcast_S128_S1x128_1 i)
    (fun k => (((![j, constantI S_ 32 0#32] : Fin 2 → IVec S_ 32)) k (Shape.Idx.first h_S_)).toInt) updateFits_S128x128_S1x128

/-! ## What each stretch leaves -/

variable (V : Valuation τ sig (Elt F))

theorem out_v20 : after while0Ops0 V (Proc.devRef .tc main_while0b_v20) = tickAt (V (Proc.devRef .tc main_v16_0)) (V (Proc.devRef .tc main_v16_10)) := by
  unfold tickAt
  after_results_entrywise [cast_eq]
theorem out_1_v34 : after while0Ops0_1 V (Proc.devRef .tc main_while0b_v34) = querySum (V (Proc.devRef .tc main_v16_12)) (V (Proc.devRef .tc main_v16_1)) (V (Proc.devRef .tc main_v16_2)) (V (Proc.devRef .tc main_v16_3)) := by
  unfold querySum
  after_results_entrywise [cast_eq]
theorem out_2_v35 : after while0Ops0_2 V (Proc.devRef .tc main_while0b_v35) = relu (V (Proc.devRef .tc main_while0b_v34)) := by
  unfold relu
  after_results_entrywise [cast_eq]
theorem out_3_v53 : after while0Ops0_3 V (Proc.devRef .tc main_while0b_v53) = masked (scores (V (Proc.devRef .tc main_while0b_v35)) (V (Proc.devRef .tc main_v16_4)) (V (Proc.devRef .tc main_v16_5)) (V (Proc.devRef .tc main_v16_6))) (V (Proc.devRef .tc main_v16_11)) := by
  unfold masked scores
  after_results_entrywise [cast_eq]
theorem out_3_cst_26 : after while0Ops0_3 V (Proc.devRef .tc main_while0b_cst_26) = constant S_ .f32 0xCCBEBC20#32 := by
  after_results_entrywise [cast_eq]
theorem out_3_cst_27 : after while0Ops0_3 V (Proc.devRef .tc main_while0b_cst_27) = constant S_ .f32 0x4CBEBC20#32 := by
  after_results_entrywise [cast_eq]
theorem out_4_v54 : after while0Ops0_4 V (Proc.devRef .tc main_while0b_v54) = clip (V (Proc.devRef .tc main_while0b_v53)) (V (Proc.devRef .tc main_while0b_cst_26)) (V (Proc.devRef .tc main_while0b_cst_27)) := by
  unfold clip
  after_results_entrywise [cast_eq]
theorem out_5_v55 : after while0Ops0_5 V (Proc.devRef .tc main_while0b_v55) = V (Proc.devRef .tc main_while0b_v20) := by
  after_results_entrywise [cast_eq]
theorem out_8_v58 : after while0Ops0_8 V (Proc.devRef .tc main_while0b_v58) = addf (V (Proc.devRef .tc main_while0b_v57)) (V (Proc.devRef .tc main_while0b_v54)) := by
  after_results_entrywise [cast_eq]
theorem out_9_v59 : after while0Ops0_9 V (Proc.devRef .tc main_while0b_v59) = argmax (F := F) (V (Proc.devRef .tc main_while0b_v58)) := by
  unfold argmax
  after_results_entrywise [cast_eq]
theorem out_10_v60 : after while0Ops0_10 V (Proc.devRef .tc main_while0b_v60) = logp (V (Proc.devRef .tc main_while0b_v54)) := by
  unfold logp shifted
  after_results_entrywise [cast_eq]
theorem out_11_v61 : after while0Ops0_11 V (Proc.devRef .tc main_while0b_v61) = asCol (V (Proc.devRef .tc main_while0b_v59)) := by
  unfold asCol
  after_results_entrywise [cast_eq]
theorem out_12_v62 : after while0Ops0_12 V (Proc.devRef .tc main_while0b_v62) = takeAlong (V (Proc.devRef .tc main_while0b_v60)) (V (Proc.devRef .tc main_while0b_v61)) := by
  unfold takeAlong inRow wrapCol
  after_results_entrywise [cast_eq]
theorem out_13_v64 : after while0Ops0_13 V (Proc.devRef .tc main_while0b_v64) = addTaken (V (Proc.devRef .tc main_v16_13)) (V (Proc.devRef .tc main_while0b_v62)) := by
  unfold addTaken
  after_results_entrywise [cast_eq]
theorem out_13_v68 : after while0Ops0_13 V (Proc.devRef .tc main_while0b_v68) = addEntropy (V (Proc.devRef .tc main_v16_14)) (V (Proc.devRef .tc main_while0b_v60)) := by
  unfold addEntropy
  after_results_entrywise [cast_eq]
theorem out_14_v69 : after while0Ops0_14 V (Proc.devRef .tc main_while0b_v69) = oneHot (V (Proc.devRef .tc main_while0b_v59)) := by
  unfold oneHot
  after_results_entrywise [cast_eq]
theorem out_15_v70 : after while0Ops0_15 V (Proc.devRef .tc main_while0b_v70) = addf (V (Proc.devRef .tc main_v16_11)) (V (Proc.devRef .tc main_while0b_v69)) := by
  after_results_entrywise [cast_eq]
theorem out_15_v87 : after while0Ops0_15 V (Proc.devRef .tc main_while0b_v87) = pushRow (V (Proc.devRef .tc main_v16_12)) (rowsAt (V (Proc.devRef .tc main_v16_9)) (V (Proc.devRef .tc main_v16_8)) (V (Proc.devRef .tc main_while0b_v59))) := by
  unfold pushRow joinRows rowsAt pairs wrap
  after_results_entrywise [cast_eq]
theorem out_16_v88 : after while0Ops0_16 V (Proc.devRef .tc main_while0b_v88) = putRow (V (Proc.devRef .tc main_v16_15)) (V (Proc.devRef .tc main_while0b_v59)) (V (Proc.devRef .tc main_v16_10)) := by
  unfold putRow
  after_results_entrywise [cast_eq]
theorem out_17_v16_10 : after while0Ops0_17 V (Proc.devRef .tc main_v16_10) = addi (V (Proc.devRef .tc main_v16_10)) (constantI S_ 32 1#32) := by
  after_results_entrywise [cast_eq]
theorem out_17_v16_11 : after while0Ops0_17 V (Proc.devRef .tc main_v16_11) = V (Proc.devRef .tc main_while0b_v70) := by
  after_results_entrywise [cast_eq]
theorem out_17_v16_12 : after while0Ops0_17 V (Proc.devRef .tc main_v16_12) = V (Proc.devRef .tc main_while0b_v87) := by
  after_results_entrywise [cast_eq]
theorem out_17_v16_13 : after while0Ops0_17 V (Proc.devRef .tc main_v16_13) = V (Proc.devRef .tc main_while0b_v64) := by
  after_results_entrywise [cast_eq]
theorem out_17_v16_14 : after while0Ops0_17 V (Proc.devRef .tc main_v16_14) = V (Proc.devRef .tc main_while0b_v68) := by
  after_results_entrywise [cast_eq]
theorem out_17_v16_15 : after while0Ops0_17 V (Proc.devRef .tc main_v16_15) = V (Proc.devRef .tc main_while0b_v88) := by
  after_results_entrywise [cast_eq]

/-! ## What each stretch keeps -/

variable {V}
theorem keep {r : Ref sig .tc} (h : r ∉ while0Ops0_W) : after while0Ops0 V (Proc.devRef .tc r) = V (Proc.devRef .tc r) :=
  after_of_writes_sub while0Ops0 V while0Ops0_writes h
theorem keep_1 {r : Ref sig .tc} (h : r ∉ while0Ops0_1_W) : after while0Ops0_1 V (Proc.devRef .tc r) = V (Proc.devRef .tc r) :=
  after_of_writes_sub while0Ops0_1 V while0Ops0_1_writes h
theorem keep_2 {r : Ref sig .tc} (h : r ∉ while0Ops0_2_W) : after while0Ops0_2 V (Proc.devRef .tc r) = V (Proc.devRef .tc r) :=
  after_of_writes_sub while0Ops0_2 V while0Ops0_2_writes h
theorem keep_3 {r : Ref sig .tc} (h : r ∉ while0Ops0_3_W) : after while0Ops0_3 V (Proc.devRef .tc r) = V (Proc.devRef .tc r) :=
  after_of_writes_sub while0Ops0_3 V while0Ops0_3_writes h
theorem keep_4 {r : Ref sig .tc} (h : r ∉ while0Ops0_4_W) : after while0Ops0_4 V (Proc.devRef .tc r) = V (Proc.devRef .tc r) :=
  after_of_writes_sub while0Ops0_4 V while0Ops0_4_writes h
theorem keep_5 {r : Ref sig .tc} (h : r ∉ while0Ops0_5_W) : after while0Ops0_5 V (Proc.devRef .tc r) = V (Proc.devRef .tc r) :=
  after_of_writes_sub while0Ops0_5 V while0Ops0_5_writes h
/-- The buffers of the fold-in come after all the others that a trip reads. -/
theorem late_6 : (while0Ops0_6_W.all fun w => Nat.ble main_while0b_call3_c.idx.val w.idx.val) = true := by decide +kernel
theorem keep_6 {r : Ref sig .tc} (h : r.idx.val < main_while0b_call3_c.idx.val) : after while0Ops0_6 V (Proc.devRef .tc r) = V (Proc.devRef .tc r) :=
  after_of_writes_sub while0Ops0_6 V while0Ops0_6_writes (fun hr => absurd (Nat.le_of_ble_eq_true (List.all_eq_true.mp late_6 r hr)) (Nat.not_le.mpr h))
/-- The buffers of the drawing come after all the others that a trip reads. -/
theorem late_7 : (while0Ops0_7_W.all fun w => Nat.ble main_while0b_call4_cst.idx.val w.idx.val) = true := by decide +kernel
theorem keep_7 {r : Ref sig .tc} (h : r.idx.val < main_while0b_call4_cst.idx.val) : after while0Ops0_7 V (Proc.devRef .tc r) = V (Proc.devRef .tc r) :=
  after_of_writes_sub while0Ops0_7 V while0Ops0_7_writes (fun hr => absurd (Nat.le_of_ble_eq_true (List.all_eq_true.mp late_7 r hr)) (Nat.not_le.mpr h))
theorem keep_8 {r : Ref sig .tc} (h : r ∉ while0Ops0_8_W) : after while0Ops0_8 V (Proc.devRef .tc r) = V (Proc.devRef .tc r) :=
  after_of_writes_sub while0Ops0_8 V while0Ops0_8_writes h
theorem keep_9 {r : Ref sig .tc} (h : r ∉ while0Ops0_9_W) : after while0Ops0_9 V (Proc.devRef .tc r) = V (Proc.devRef .tc r) :=
  after_of_writes_sub while0Ops0_9 V while0Ops0_9_writes h
theorem keep_10 {r : Ref sig .tc} (h : r ∉ while0Ops0_10_W) : after while0Ops0_10 V (Proc.devRef .tc r) = V (Proc.devRef .tc r) :=
  after_of_writes_sub while0Ops0_10 V while0Ops0_10_writes h
theorem keep_11 {r : Ref sig .tc} (h : r ∉ while0Ops0_11_W) : after while0Ops0_11 V (Proc.devRef .tc r) = V (Proc.devRef .tc r) :=
  after_of_writes_sub while0Ops0_11 V while0Ops0_11_writes h
theorem keep_12 {r : Ref sig .tc} (h : r ∉ while0Ops0_12_W) : after while0Ops0_12 V (Proc.devRef .tc r) = V (Proc.devRef .tc r) :=
  after_of_writes_sub while0Ops0_12 V while0Ops0_12_writes h
theorem keep_13 {r : Ref sig .tc} (h : r ∉ while0Ops0_13_W) : after while0Ops0_13 V (Proc.devRef .tc r) = V (Proc.devRef .tc r) :=
  after_of_writes_sub while0Ops0_13 V while0Ops0_13_writes h
theorem keep_14 {r : Ref sig .tc} (h : r ∉ while0Ops0_14_W) : after while0Ops0_14 V (Proc.devRef .tc r) = V (Proc.devRef .tc r) :=
  after_of_writes_sub while0Ops0_14 V while0Ops0_14_writes h
theorem keep_15 {r : Ref sig .tc} (h : r ∉ while0Ops0_15_W) : after while0Ops0_15 V (Proc.devRef .tc r) = V (Proc.devRef .tc r) :=
  after_of_writes_sub while0Ops0_15 V while0Ops0_15_writes h
theorem keep_16 {r : Ref sig .tc} (h : r ∉ while0Ops0_16_W) : after while0Ops0_16 V (Proc.devRef .tc r) = V (Proc.devRef .tc r) :=
  after_of_writes_sub while0Ops0_16 V while0Ops0_16_writes h
theorem keep_17 {r : Ref sig .tc} (h : r ∉ while0Ops0_17_W) : after while0Ops0_17 V (Proc.devRef .tc r) = V (Proc.devRef .tc r) :=
  after_of_writes_sub while0Ops0_17 V while0Ops0_17_writes h
theorem keep_cond {r : Ref sig .tc} (h : r ∉ condOps_W) : after condOps V (Proc.devRef .tc r) = V (Proc.devRef .tc r) :=
  after_of_writes_sub condOps V condOps_writes h

/-! ## One trip -/

/-- What no trip changes: the run's key, the steps' numbers, the weights, the encoded inputs, the score's vector, the inputs. -/
structure Consts (F : FTy → Type) [FloatOps F] where
  key : IVec S2 32
  ts : IVec S128 32
  w0 : FVec F S360x512 .f32
  w1 : FVec F S360x512 .f32
  w2 : FVec F S360x512 .f32
  wp : FVec F S256x360 .f32
  e : FVec F S128x128x256 .f32
  v : FVec F S256 .f32
  x : FVec F S128x128x512 .f32

/-- What a trip hands the next: the mask, the three previous rows, the sums of log probabilities, the entropies, the
    tour. -/
structure State (F : FTy → Type) [FloatOps F] where
  mask : FVec F S128x128 .f32
  prev : FVec F S3x128x512 .f32
  lp : FVec F S128 .f32
  ent : FVec F S128 .f32
  tour : IVec S128x128 32

namespace Consts

variable (K : Consts F) (j : IVec S_ 32) (s : State F)

/-- The trip's clipped and masked scores. -/
def logits : FVec F S128x128 .f32 :=
  clip (masked (scores (relu (querySum s.prev K.w0 K.w1 K.w2)) K.wp K.e K.v) s.mask)
    (constant S_ .f32 0xCCBEBC20#32) (constant S_ .f32 0x4CBEBC20#32)

/-- The positions the trip chooses. -/
def idx : IVec S128 32 := argmax (addf (noiseAt K.key K.ts j) (K.logits s))

/-- The state after the trip. -/
def next : State F where
  mask := addf s.mask (oneHot (K.idx j s))
  prev := pushRow s.prev (rowsAt K.x (iotaInDim S128 32 0) (K.idx j s))
  lp := addTaken s.lp (takeAlong (logp (K.logits s)) (asCol (K.idx j s)))
  ent := addEntropy s.ent (logp (K.logits s))
  tour := putRow s.tour (K.idx j s) j

end Consts

/-- The buffers hold the state before trip `j`. -/
structure Holds (V : Valuation τ sig (Elt F)) (K : Consts F) (s : State F) (j : ℕ) : Prop where
  ts : V (Proc.devRef .tc main_v16_0) = K.ts
  key : V (Proc.devRef .tc main_v16_7) = K.key
  w0 : V (Proc.devRef .tc main_v16_1) = K.w0
  w1 : V (Proc.devRef .tc main_v16_2) = K.w1
  w2 : V (Proc.devRef .tc main_v16_3) = K.w2
  wp : V (Proc.devRef .tc main_v16_4) = K.wp
  e : V (Proc.devRef .tc main_v16_5) = K.e
  v : V (Proc.devRef .tc main_v16_6) = K.v
  row : V (Proc.devRef .tc main_v16_8) = iotaInDim S128 32 0
  x : V (Proc.devRef .tc main_v16_9) = K.x
  ctr : V (Proc.devRef .tc main_v16_10) = constantI S_ 32 (BitVec.ofNat 32 j)
  mask : V (Proc.devRef .tc main_v16_11) = s.mask
  prev : V (Proc.devRef .tc main_v16_12) = s.prev
  lp : V (Proc.devRef .tc main_v16_13) = s.lp
  ent : V (Proc.devRef .tc main_v16_14) = s.ent
  tour : V (Proc.devRef .tc main_v16_15) = s.tour

/-- The buffers after the first eleven stretches of the trip, the choice made. -/
def mid (V : Valuation τ sig (Elt F)) : Valuation τ sig (Elt F) :=
  after while0Ops0_10 (after while0Ops0_9 (after while0Ops0_8 (after while0Ops0_7 (after while0Ops0_6 (after while0Ops0_5
    (after while0Ops0_4 (after while0Ops0_3 (after while0Ops0_2 (after while0Ops0_1 (after while0Ops0 (after condOps V)))))))))))

/-- The buffers after the trip. -/
def fin (V : Valuation τ sig (Elt F)) : Valuation τ sig (Elt F) :=
  after while0Ops0_17 (after while0Ops0_16 (after while0Ops0_15 (after while0Ops0_14 (after while0Ops0_13
    (after while0Ops0_12 (after while0Ops0_11 V))))))

theorem mid_logp : mid V (Proc.devRef .tc main_while0b_v60) = logp (clip (masked (scores (relu (querySum (V (Proc.devRef .tc main_v16_12)) (V (Proc.devRef .tc main_v16_1)) (V (Proc.devRef .tc main_v16_2)) (V (Proc.devRef .tc main_v16_3)))) (V (Proc.devRef .tc main_v16_4)) (V (Proc.devRef .tc main_v16_5)) (V (Proc.devRef .tc main_v16_6))) (V (Proc.devRef .tc main_v16_11))) (constant S_ .f32 0xCCBEBC20#32) (constant S_ .f32 0x4CBEBC20#32)) := by
  unfold mid
  repeat (first
    | rw [out_v20]
    | rw [out_1_v34]
    | rw [out_2_v35]
    | rw [out_3_v53]
    | rw [out_3_cst_26]
    | rw [out_3_cst_27]
    | rw [out_4_v54]
    | rw [out_5_v55]
    | rw [Draw.out_6_v56]
    | rw [Draw.out_7_v57]
    | rw [out_8_v58]
    | rw [out_9_v59]
    | rw [out_10_v60]
    | rw [keep_10 (by decide)]
    | rw [keep_9 (by decide)]
    | rw [keep_8 (by decide)]
    | rw [keep_7 (by decide)]
    | rw [keep_6 (by decide)]
    | rw [keep_5 (by decide)]
    | rw [keep_4 (by decide)]
    | rw [keep_3 (by decide)]
    | rw [keep_2 (by decide)]
    | rw [keep_1 (by decide)]
    | rw [keep (by decide)]
    | rw [keep_cond (by decide)])
theorem mid_idx : mid V (Proc.devRef .tc main_while0b_v59) = argmax (F := F) (addf (drawn (foldIn (V (Proc.devRef .tc main_v16_7)) (tickAt (V (Proc.devRef .tc main_v16_0)) (V (Proc.devRef .tc main_v16_10))))) (clip (masked (scores (relu (querySum (V (Proc.devRef .tc main_v16_12)) (V (Proc.devRef .tc main_v16_1)) (V (Proc.devRef .tc main_v16_2)) (V (Proc.devRef .tc main_v16_3)))) (V (Proc.devRef .tc main_v16_4)) (V (Proc.devRef .tc main_v16_5)) (V (Proc.devRef .tc main_v16_6))) (V (Proc.devRef .tc main_v16_11))) (constant S_ .f32 0xCCBEBC20#32) (constant S_ .f32 0x4CBEBC20#32))) := by
  unfold mid
  repeat (first
    | rw [out_v20]
    | rw [out_1_v34]
    | rw [out_2_v35]
    | rw [out_3_v53]
    | rw [out_3_cst_26]
    | rw [out_3_cst_27]
    | rw [out_4_v54]
    | rw [out_5_v55]
    | rw [Draw.out_6_v56]
    | rw [Draw.out_7_v57]
    | rw [out_8_v58]
    | rw [out_9_v59]
    | rw [out_10_v60]
    | rw [keep_10 (by decide)]
    | rw [keep_9 (by decide)]
    | rw [keep_8 (by decide)]
    | rw [keep_7 (by decide)]
    | rw [keep_6 (by decide)]
    | rw [keep_5 (by decide)]
    | rw [keep_4 (by decide)]
    | rw [keep_3 (by decide)]
    | rw [keep_2 (by decide)]
    | rw [keep_1 (by decide)]
    | rw [keep (by decide)]
    | rw [keep_cond (by decide)])
set_option maxHeartbeats 1000000 in
theorem mid_keep {r : Ref sig .tc} (h : r ∈ [main_v16_0, main_v16_1, main_v16_2, main_v16_3, main_v16_4, main_v16_5, main_v16_6, main_v16_7, main_v16_8, main_v16_9, main_v16_10, main_v16_11, main_v16_12, main_v16_13, main_v16_14, main_v16_15]) :
    mid V (Proc.devRef .tc r) = V (Proc.devRef .tc r) := by
  unfold mid
  rw [keep_10 (by revert r; decide)]
  rw [keep_9 (by revert r; decide)]
  rw [keep_8 (by revert r; decide)]
  rw [keep_7 (by revert r; decide)]
  rw [keep_6 (by revert r; decide)]
  rw [keep_5 (by revert r; decide)]
  rw [keep_4 (by revert r; decide)]
  rw [keep_3 (by revert r; decide)]
  rw [keep_2 (by revert r; decide)]
  rw [keep_1 (by revert r; decide)]
  rw [keep (by revert r; decide)]
  rw [keep_cond (by revert r; decide)]
theorem fin_v16_10 : fin V (Proc.devRef .tc main_v16_10) = addi (V (Proc.devRef .tc main_v16_10)) (constantI S_ 32 1#32) := by
  unfold fin
  repeat (first
    | rw [out_17_v16_10]
    | rw [keep_17 (by decide)]
    | rw [keep_16 (by decide)]
    | rw [keep_15 (by decide)]
    | rw [keep_14 (by decide)]
    | rw [keep_13 (by decide)]
    | rw [keep_12 (by decide)]
    | rw [keep_11 (by decide)])
theorem fin_v16_11 : fin V (Proc.devRef .tc main_v16_11) = addf (V (Proc.devRef .tc main_v16_11)) (oneHot (V (Proc.devRef .tc main_while0b_v59))) := by
  unfold fin
  repeat (first
    | rw [out_17_v16_11]
    | rw [out_15_v70]
    | rw [out_14_v69]
    | rw [keep_17 (by decide)]
    | rw [keep_16 (by decide)]
    | rw [keep_15 (by decide)]
    | rw [keep_14 (by decide)]
    | rw [keep_13 (by decide)]
    | rw [keep_12 (by decide)]
    | rw [keep_11 (by decide)])
theorem fin_v16_12 : fin V (Proc.devRef .tc main_v16_12) = pushRow (V (Proc.devRef .tc main_v16_12)) (rowsAt (V (Proc.devRef .tc main_v16_9)) (V (Proc.devRef .tc main_v16_8)) (V (Proc.devRef .tc main_while0b_v59))) := by
  unfold fin
  repeat (first
    | rw [out_17_v16_12]
    | rw [out_15_v87]
    | rw [keep_17 (by decide)]
    | rw [keep_16 (by decide)]
    | rw [keep_15 (by decide)]
    | rw [keep_14 (by decide)]
    | rw [keep_13 (by decide)]
    | rw [keep_12 (by decide)]
    | rw [keep_11 (by decide)])
theorem fin_v16_13 : fin V (Proc.devRef .tc main_v16_13) = addTaken (V (Proc.devRef .tc main_v16_13)) (takeAlong (V (Proc.devRef .tc main_while0b_v60)) (asCol (V (Proc.devRef .tc main_while0b_v59)))) := by
  unfold fin
  repeat (first
    | rw [out_17_v16_13]
    | rw [out_13_v64]
    | rw [out_12_v62]
    | rw [out_11_v61]
    | rw [keep_17 (by decide)]
    | rw [keep_16 (by decide)]
    | rw [keep_15 (by decide)]
    | rw [keep_14 (by decide)]
    | rw [keep_13 (by decide)]
    | rw [keep_12 (by decide)]
    | rw [keep_11 (by decide)])
theorem fin_v16_14 : fin V (Proc.devRef .tc main_v16_14) = addEntropy (V (Proc.devRef .tc main_v16_14)) (V (Proc.devRef .tc main_while0b_v60)) := by
  unfold fin
  repeat (first
    | rw [out_17_v16_14]
    | rw [out_13_v68]
    | rw [keep_17 (by decide)]
    | rw [keep_16 (by decide)]
    | rw [keep_15 (by decide)]
    | rw [keep_14 (by decide)]
    | rw [keep_13 (by decide)]
    | rw [keep_12 (by decide)]
    | rw [keep_11 (by decide)])
theorem fin_v16_15 : fin V (Proc.devRef .tc main_v16_15) = putRow (V (Proc.devRef .tc main_v16_15)) (V (Proc.devRef .tc main_while0b_v59)) (V (Proc.devRef .tc main_v16_10)) := by
  unfold fin
  repeat (first
    | rw [out_17_v16_15]
    | rw [out_16_v88]
    | rw [keep_17 (by decide)]
    | rw [keep_16 (by decide)]
    | rw [keep_15 (by decide)]
    | rw [keep_14 (by decide)]
    | rw [keep_13 (by decide)]
    | rw [keep_12 (by decide)]
    | rw [keep_11 (by decide)])
theorem fin_keep {r : Ref sig .tc} (h : r ∈ [main_v16_0, main_v16_1, main_v16_2, main_v16_3, main_v16_4, main_v16_5, main_v16_6, main_v16_7, main_v16_8, main_v16_9]) :
    fin V (Proc.devRef .tc r) = V (Proc.devRef .tc r) := by
  unfold fin
  rw [keep_17 (by revert r; decide)]
  rw [keep_16 (by revert r; decide)]
  rw [keep_15 (by revert r; decide)]
  rw [keep_14 (by revert r; decide)]
  rw [keep_13 (by revert r; decide)]
  rw [keep_12 (by revert r; decide)]
  rw [keep_11 (by revert r; decide)]

/-- One trip takes the state to the next. -/
theorem holds_next {K : Consts F} {s : State F} {j : ℕ} (h : Holds V K s j) :
    Holds (afterL bodyI (after condOps V)) K (K.next (constantI S_ 32 (BitVec.ofNat 32 j)) s) (j + 1) := by
  have hb : afterL bodyI (after condOps V) = fin (mid V) := rfl
  have hl : mid V (Proc.devRef .tc main_while0b_v60) = logp (K.logits s) := by
    rw [mid_logp, h.prev, h.w0, h.w1, h.w2, h.wp, h.e, h.v, h.mask]; rfl
  have hi : mid V (Proc.devRef .tc main_while0b_v59) = K.idx (constantI S_ 32 (BitVec.ofNat 32 j)) s := by
    rw [mid_idx, h.prev, h.w0, h.w1, h.w2, h.wp, h.e, h.v, h.mask, h.key, h.ts, h.ctr]; rfl
  rw [hb]
  constructor
  case ts => rw [fin_keep (by decide), mid_keep (by decide), h.ts]
  case key => rw [fin_keep (by decide), mid_keep (by decide), h.key]
  case w0 => rw [fin_keep (by decide), mid_keep (by decide), h.w0]
  case w1 => rw [fin_keep (by decide), mid_keep (by decide), h.w1]
  case w2 => rw [fin_keep (by decide), mid_keep (by decide), h.w2]
  case wp => rw [fin_keep (by decide), mid_keep (by decide), h.wp]
  case e => rw [fin_keep (by decide), mid_keep (by decide), h.e]
  case v => rw [fin_keep (by decide), mid_keep (by decide), h.v]
  case row => rw [fin_keep (by decide), mid_keep (by decide), h.row]
  case x => rw [fin_keep (by decide), mid_keep (by decide), h.x]
  case ctr =>
    rw [fin_v16_10, mid_keep (by decide), h.ctr]
    funext y
    show BitVec.ofNat 32 j + 1#32 = BitVec.ofNat 32 (j + 1)
    rw [BitVec.ofNat_add]
  case mask => rw [fin_v16_11, hi, mid_keep (by decide), h.mask]; rfl
  case prev => rw [fin_v16_12, hi, mid_keep (by decide), mid_keep (by decide), mid_keep (by decide), h.prev, h.x, h.row]; rfl
  case lp => rw [fin_v16_13, hi, hl, mid_keep (by decide), h.lp]; rfl
  case ent => rw [fin_v16_14, hl, mid_keep (by decide), h.ent]; rfl
  case tour => rw [fin_v16_15, hi, mid_keep (by decide), mid_keep (by decide), h.tour, h.ctr]; rfl

/-- The loop's exit test changes nothing the state is held in. -/
theorem holds_next_cond {K : Consts F} {s : State F} {j : ℕ} (h : Holds V K s j) : Holds (after condOps V) K s j := by
  constructor <;> rw [keep_cond (by decide)]
  · exact h.ts
  · exact h.key
  · exact h.w0
  · exact h.w1
  · exact h.w2
  · exact h.wp
  · exact h.e
  · exact h.v
  · exact h.row
  · exact h.x
  · exact h.ctr
  · exact h.mask
  · exact h.prev
  · exact h.lp
  · exact h.ent
  · exact h.tour

/-! ## The run -/

/-- The run's key: the two words of 42. -/
def runKey : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

/-- What no trip changes, of the program's arguments. -/
def constsOf (x : FVec F S128x128x512 .f32) (wd : FVec F S256x512 .f32) (w0 w1 w2 : FVec F S360x512 .f32)
    (wp : FVec F S256x360 .f32) (v : FVec F S256 .f32) : Consts F where
  key := runKey
  ts := iotaInDim S128 32 0
  w0 := w0
  w1 := w1
  w2 := w2
  wp := wp
  e := Host.dotGeneral dot_S128x128x512_S512x256_S128x128x256_2_0_01_1_n_n none x
    (transpose S512x256 [1, 0] wd transposes_S256x512_S512x256_1_0)
  v := v
  x := x

/-- The state before the first trip: zeros. -/
def start : State F where
  mask := broadcastInDim S128x128 ![] bcast_S_S128x128 (constant S_ .f32 0x00000000#32)
  prev := broadcastInDim S3x128x512 ![] bcast_S_S3x128x512 (constant S_ .f32 0x00000000#32)
  lp := broadcastInDim S128 ![] bcast_S_S128 (constant S_ .f32 0x00000000#32)
  ent := broadcastInDim S128 ![] bcast_S_S128 (constant S_ .f32 0x00000000#32)
  tour := broadcastInDim S128x128 ![] bcast_S_S128x128 (constantI S_ 32 0#32)

/-- The state before trip `j`. -/
def Consts.states (K : Consts F) : ℕ → State F
  | 0 => start
  | j + 1 => K.next (constantI S_ 32 (BitVec.ofNat 32 j)) (K.states j)

/-- The tour as the program returns it: its first row repeated at the end, transposed. -/
def closeTour (x : IVec S128x128 32) : IVec S128x129 32 :=
  transpose S128x129 [1, 0] (concatenate S129x128 0 [⟨S128x128, x⟩, ⟨S1x128, extractStridedSlice S1x128 ![0, 0] x slices_S128x128_S1x128_0_0⟩] concatenates_S128x128_S1x128_S129x128_d0) transposes_S129x128_S128x129_1_0

variable (m : (ℓ : Loc nD τ sig) → Buf (Elt F) ℓ) (c : Dev nD)

/-- What no trip changes, of the memory the run starts from. -/
def constsAt : Consts F :=
  constsOf (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6))

set_option maxRecDepth 65536 in
set_option maxHeartbeats 600000 in
/-- The buffers before the loop hold the first state. -/
theorem entry_holds : Holds (entryContents preI m c) (constsAt m c) start 0 := by
  constructor <;> (simp only [entryContents, afterL_cons, afterL_nil]; after_reads_simp) <;> rfl

/-- Before each trip the buffers hold its state. -/
theorem holds_states : ∀ j, Holds (atK m j c) (constsAt m c) ((constsAt m c).states j) j
  | 0 => entry_holds m c
  | j + 1 => holds_next (holds_states j)

set_option maxRecDepth 65536 in
theorem out_tour : after hostOps0_1 V (Proc.devRef .tc main_v19) = closeTour (V (Proc.devRef .tc main_v16_15)) := by
  unfold closeTour
  after_results_entrywise [cast_eq]

theorem keep_post {r : Ref sig .tc} (h : r ∉ hostOps0_1_W) : after hostOps0_1 V (Proc.devRef .tc r) = V (Proc.devRef .tc r) :=
  after_of_writes_sub hostOps0_1 V hostOps0_1_writes h

theorem keep_pre {r : Ref sig .tc} (h : r ∉ hostOps0_W) : after hostOps0 V (Proc.devRef .tc r) = V (Proc.devRef .tc r) :=
  after_of_writes_sub hostOps0 V hostOps0_writes h

/-- The program's arguments. -/
abbrev args : List (Ref sig .tc) := [main_arg0, main_arg1, main_arg2, main_arg3, main_arg4, main_arg5, main_arg6]

set_option maxHeartbeats 1000000 in
theorem trip_args {r : Ref sig .tc} (h : r ∈ args) :
    afterL bodyI (after condOps V) (Proc.devRef .tc r) = V (Proc.devRef .tc r) := by
  show fin (mid V) (Proc.devRef .tc r) = _
  unfold fin mid
  rw [keep_17 (by revert r; decide)]
  rw [keep_16 (by revert r; decide)]
  rw [keep_15 (by revert r; decide)]
  rw [keep_14 (by revert r; decide)]
  rw [keep_13 (by revert r; decide)]
  rw [keep_12 (by revert r; decide)]
  rw [keep_11 (by revert r; decide)]
  rw [keep_10 (by revert r; decide)]
  rw [keep_9 (by revert r; decide)]
  rw [keep_8 (by revert r; decide)]
  rw [keep_7 (by revert r; decide)]
  rw [keep_6 (by revert r; decide)]
  rw [keep_5 (by revert r; decide)]
  rw [keep_4 (by revert r; decide)]
  rw [keep_3 (by revert r; decide)]
  rw [keep_2 (by revert r; decide)]
  rw [keep_1 (by revert r; decide)]
  rw [keep (by revert r; decide)]
  rw [keep_cond (by revert r; decide)]

theorem args_states {r : Ref sig .tc} (h : r ∈ args) : ∀ j, atK m j c (Proc.devRef .tc r) = m ((c.tc : Thread nD τ).loc r)
  | 0 => keep_pre (V := launchContents m c) (by revert r; decide)
  | j + 1 => (trip_args h).trans (args_states h j)

/-- The reference's run: its three results are the closed tour, the sums of log probabilities and the entropies of the
    state after the last trip, its arguments are as they were, and no semaphore is left raised. -/
theorem run_ref (ρ : Dev nD → PrngReg) :
    θ_run (defs (F := F)) (onTc (τ := τ) (main (F := F))) ⟨m, fun _ => 0, ρ⟩ fun r => ∀ c : Dev nD,
      r.2.mem ((c.tc : Thread nD τ).loc main_v19) = closeTour ((constsAt m c).states 128).tour
      ∧ r.2.mem ((c.tc : Thread nD τ).loc main_v16_13) = ((constsAt m c).states 128).lp
      ∧ r.2.mem ((c.tc : Thread nD τ).loc main_v16_14) = ((constsAt m c).states 128).ent
      ∧ ∀ a ∈ args, r.2.mem ((c.tc : Thread nD τ).loc a) = m ((c.tc : Thread nD τ).loc a) :=
  (θ_run defs _ _).mono (fun _ h c => by
    have hk := holds_next_cond (holds_states m c 128)
    refine ⟨?_, ?_, ?_, fun a ha => ?_⟩
    · rw [h c main_v19 (by decide)]
      exact out_tour.trans (congrArg closeTour hk.tour)
    · rw [h c main_v16_13 (by decide)]
      exact (keep_post (by decide)).trans hk.lp
    · rw [h c main_v16_14 (by decide)]
      exact (keep_post (by decide)).trans hk.ent
    · rw [h c a (by revert a; decide)]
      exact (keep_post (by revert a; decide)).trans ((keep_cond (by revert a; decide)).trans (args_states m c ha 128))) (run_fold m ρ)

end Cert.ReferenceIdeal.Trip

end
-- ==== Proof.Noise.lean ====
/- The noise of the whole run: every decode step draws its own from a key of its own. -/
module

public import proofs.«01_k».proof.Proof.Words

@[expose] public section

namespace Cert.Words

open Idealize.ShloMosaic

/-- The first of the two words of the run's key, 42. -/
def run0 : BitVec 32 := IntOp.shrui .host 42#32 32#32
/-- The second of them. -/
def run1 : BitVec 32 := IntOp.andi 42#32 4294967295#32

/-- The noise of step `t` for batch entry `b` and point `p`: drawn under the key that the run's key and `t` give. -/
def drawnAt {F : FTy → Type} [FloatOps F] (t b p : Fin 128) : F .f32 :=
  noise (tick0 run0 run1 (BitVec.ofNat 32 t.val)) (tick1 run0 run1 (BitVec.ofNat 32 t.val)) b p

end Cert.Words

end
-- ==== Proof.RefRead.lean ====
/- The reference's functions read entry by entry at the exact values: logits, choices, log-probabilities, tours. -/
module

public import proofs.«01_k».proof.Proof.RefTrip
public import proofs.«01_k».proof.Proof.Noise
public import proofs.«01_k».proof.Proof.Choice
public import Idealize.ShloMosaic.Lib.DynamicIndex
public import Idealize.ShloMosaic.Lib.WordCmp

@[expose] public section

set_option maxRecDepth 8192

noncomputable section

namespace Cert.ReferenceIdeal.Trip

open Idealize.ShloMosaic Cert.ReferenceIdeal Cert.ReferenceIdeal.Gen Cert.Choice

/-- The step number that a trip reads off the list of step numbers is the trip's number. -/
theorem tickAt_apply (ts : IVec S128 32) (j : Fin 128) (i : S_.Idx) :
    tickAt ts (constantI S_ 32 (BitVec.ofNat 32 j.val)) i = ts (ix1 j) := by
  have hj := j.isLt
  unfold tickAt
  refine congrArg ts (funext fun a => Fin.ext ?_)
  match a with
  | ⟨0, _⟩ =>
    show (min (max (BitVec.ofNat 32 j.val).toInt 0) ((128 - 1 : ℕ) : Int)).toNat + (Shape.reshapeEquiv shapeCasts_S1_S_ i 0).val = j.val
    rw [Nat.lt_one_iff.mp (Shape.reshapeEquiv shapeCasts_S1_S_ i 0).isLt, toInt_pos]
    omega

theorem runKey_0 : runKey (ix1 0) = Words.run0 := by
  pointwise [runKey]
  rfl
theorem runKey_1 : runKey (ix1 1) = Words.run1 := by
  pointwise [runKey]
  rfl

/-- The noise of a trip is the one drawn for its step. -/
theorem noiseAt_apply (j b p : Fin 128) :
    noiseAt (F := Ideal) runKey (iotaInDim S128 32 0) (constantI S_ 32 (BitVec.ofNat 32 j.val)) (ix2 b p) = Words.drawnAt j b p := by
  show Words.noise (Draw.foldIn runKey _ (ix1 0)) (Draw.foldIn runKey _ (ix1 1)) b p = _
  unfold Draw.foldIn
  rw [Draw.both_0, Draw.both_1, tickAt_apply, runKey_0, runKey_1]
  rfl

theorem querySum_apply (p : FVec Ideal S3x128x512 .f32) (w0 w1 w2 : FVec Ideal S360x512 .f32) (b : Fin 128) (q : Fin 360) :
    querySum (F := Ideal) p w0 w1 w2 (ix2 b q)
      = ∑ x, p (ix3 0 b x) * w0 (ix2 q x) + ∑ x, p (ix3 1 b x) * w1 (ix2 q x) + ∑ x, p (ix3 2 b x) * w2 (ix2 q x) := by
  pointwise [querySum]

theorem relu_apply (q : FVec Ideal S128x360 .f32) (b : Fin 128) (x : Fin 360) : relu (F := Ideal) q (ix2 b x) = max (q (ix2 b x)) 0 := by
  pointwise [relu]

theorem scores_apply (q : FVec Ideal S128x360 .f32) (wp : FVec Ideal S256x360 .f32) (e : FVec Ideal S128x128x256 .f32) (v : FVec Ideal S256 .f32)
    (b p : Fin 128) :
    scores (F := Ideal) q wp e v (ix2 b p) = ∑ a, v (ix1 a) * Ideal.tanh (e (ix3 b p a) + ∑ x, q (ix2 b x) * wp (ix2 a x)) := by
  pointwise [scores]

/-- Division by one. -/
theorem div_one (x : EReal) : Ideal.div x 1 = x := by
  simp [Ideal.div]

theorem masked_apply (s m : FVec Ideal S128x128 .f32) (b p : Fin 128) :
    clip (F := Ideal) (masked s m) (constant S_ .f32 0xCCBEBC20#32) (constant S_ .f32 0x4CBEBC20#32) (ix2 b p)
      = logit (s (ix2 b p)) (m (ix2 b p)) := by
  pointwise [masked, clip]
  unfold logit
  rw [div_one]

/-- The body of the arg-max keeps one of its two pairs, the better. -/
theorem reducer_best (r x : EReal × BitVec 32) :
    (reducer_argmax_f32_i32 (F := Ideal) r x = r ∨ reducer_argmax_f32_i32 (F := Ideal) r x = x)
      ∧ NoBetter r (reducer_argmax_f32_i32 (F := Ideal) r x) ∧ NoBetter x (reducer_argmax_f32_i32 (F := Ideal) r x) := by
  obtain ⟨a, i⟩ := r
  obtain ⟨b, k⟩ := x
  have hred : reducer_argmax_f32_i32 (F := Ideal) (a, i) (b, k)
      = (if b < a then a else b, if b < a ∨ (a = b ∧ i.toInt < k.toInt) then i else k) := by
    unfold reducer_argmax_f32_i32
    simp only [Ideal.cmpf_def, Ideal.cmp, IntOp.cmpi, IntOp.ori, IntOp.andi, Scalar.select, BitVec.slt]
    by_cases h1 : b < a <;> by_cases h2 : a = b <;> by_cases h3 : i.toInt < k.toInt <;> simp [h1, h2, h3]
  rw [hred]
  rcases lt_trichotomy b a with h | h | h
  · rw [if_pos h, if_pos (.inl h)]
    exact ⟨.inl rfl, .refl _, .inl h⟩
  · subst h
    rw [if_neg (lt_irrefl _)]
    by_cases hk : i.toInt < k.toInt
    · rw [if_pos (.inr ⟨rfl, hk⟩)]
      exact ⟨.inl rfl, .refl _, .inr ⟨rfl, le_of_lt hk⟩⟩
    · rw [if_neg (by rintro (h | ⟨-, h⟩); exacts [lt_irrefl _ h, hk h])]
      exact ⟨.inr rfl, .inr ⟨rfl, not_lt.mp hk⟩, .refl _⟩
  · rw [if_neg (not_lt.mpr h.le), if_neg (by rintro (h' | ⟨h', -⟩); exacts [not_lt.mpr h.le h', absurd h' (ne_of_lt h)])]
    exact ⟨.inr rfl, .inl h, .refl _⟩

/-- The arg-max of a row is the first position of its greatest value. -/
theorem argmax_apply (z : FVec Ideal S128x128 .f32) (b : Fin 128) :
    argmax (F := Ideal) z (ix1 b) = BitVec.ofNat 32 (first fun p => z (ix2 b p)).val := by
  unfold argmax
  rw [Ideal.argReduce_eq_reduce2, Host.reduce2_eq_foldl_fiber]
  have hmem : ∀ x : EReal × BitVec 32,
      x ∈ Host.argReduceFiber z (iotaInDim S128x128 32 1) reducesTo_S128x128_S128_d1 (ix1 b)
        ↔ ∃ p : Fin 128, x = (z (ix2 b p), BitVec.ofNat 32 p.val) := by
    intro x
    unfold Host.argReduceFiber
    simp only [List.mem_map, List.mem_filter, List.mem_finRange, true_and, decide_eq_true_eq]
    constructor
    · rintro ⟨n, hn, rfl⟩
      obtain ⟨p, hp⟩ := (Shape.ReducesTo.fiber_r2_a1 _ _ _).mp hn
      refine ⟨p, ?_⟩
      rw [← hp]
      rfl
    · rintro ⟨p, rfl⟩
      refine ⟨S128x128.rowMajor (ix2 b p), ?_, ?_⟩
      · rw [Equiv.symm_apply_apply]
        exact (Shape.ReducesTo.fiber_r2_a1 _ _ _).mpr ⟨p, rfl⟩
      · rw [Equiv.symm_apply_apply]
        rfl
  have hinit : ((constant (F := Ideal) S_ .f32 0xFF800000#32 (Shape.Idx.first h_S_), constantI S_ 32 0#32 (Shape.Idx.first h_S_)) : EReal × BitVec 32)
      = (⊥, 0#32) := Prod.ext ofBits_negInf rfl
  obtain ⟨h1, h2, h3⟩ := foldl_best (reducer_argmax_f32_i32 (F := Ideal)) reducer_best
    (Host.argReduceFiber z (iotaInDim S128x128 32 1) reducesTo_S128x128_S128_d1 (ix1 b)) (⊥, 0#32)
  rw [hinit]
  refine best_first (fun p => z (ix2 b p)) _ ?_ h2 fun p => h3 _ ((hmem _).mpr ⟨p, rfl⟩)
  rcases h1 with h1 | h1
  · exact .inl h1
  · exact .inr ((hmem _).mp h1)

theorem shifted_apply (m : FVec Ideal S128x128 .f32) (b p : Fin 128) : shifted (F := Ideal) m (ix2 b p) = less (fun p => m (ix2 b p)) p := by
  pointwise [shifted]
  unfold less top
  rw [ofBits_negInf, max_eq_right bot_le]

theorem logp_apply (m : FVec Ideal S128x128 .f32) (b p : Fin 128) : logp (F := Ideal) m (ix2 b p) = logProb (fun p => m (ix2 b p)) p := by
  pointwise [logp]
  simp only [shifted_apply]
  rfl

/-- A position's word is not negative, so wrapping leaves it. -/
theorem select_wrap (k : Fin 128) (a : BitVec 32) :
    Scalar.select (IntOp.cmpi .slt (BitVec.ofNat 32 k.val) 0#32) a (BitVec.ofNat 32 k.val) = BitVec.ofNat 32 k.val := by
  have h : IntOp.cmpi .slt (BitVec.ofNat 32 k.val) 0#32 = 0#1 := by
    show BitVec.ofBool (decide ((BitVec.ofNat 32 k.val).toInt < (0#32).toInt)) = 0#1
    rw [toInt_pos, decide_eq_false (by simp)]
    rfl
  rw [h]
  rfl

theorem wrapCol_apply (i : IVec S128x1 32) (b k : Fin 128) (hi : i (ix2 b 0) = BitVec.ofNat 32 k.val) :
    wrapCol i (ix3 b 0 0) = BitVec.ofNat 32 k.val := by
  pointwise [wrapCol]
  rw [hi]
  exact select_wrap k _

theorem inRow_apply (i : IVec S128x1x1 32) (b k : Fin 128) (hi : i (ix3 b 0 0) = BitVec.ofNat 32 k.val) :
    inRow i (ix2 b 0) = 1#1 := by
  pointwise [inRow]
  have hk := k.isLt
  have h1 : IntOp.cmpi .sge (BitVec.ofNat 32 k.val) 0#32 = 1#1 := by
    show BitVec.ofBool (decide ((0#32).toInt ≤ (BitVec.ofNat 32 k.val).toInt)) = 1#1
    rw [toInt_pos, decide_eq_true (by simp)]
    rfl
  have h2 : IntOp.cmpi .sle (BitVec.ofNat 32 k.val) 127#32 = 1#1 := by
    show BitVec.ofBool (decide ((BitVec.ofNat 32 k.val).toInt ≤ (127#32).toInt)) = 1#1
    rw [toInt_pos, decide_eq_true (by have : (127#32).toInt = 127 := by decide
                                      omega)]
    rfl
  have hu : (Finset.univ : Finset (Fin 1)) = {0} := rfl
  rw [hu, Finset.fold_singleton, hi, h1, h2]
  rfl

/-- A gather along each row, at an index in range. -/
theorem gather_row_apply (m : FVec Ideal S128x128 .f32) (i : IVec S128x1x1 32) (b k : Fin 128) (hi : i (ix3 b 0 0) = BitVec.ofNat 32 k.val) :
    Host.gather gather_S128x128_S128x1x1_S128x1_n_1_0_0_1_2_11 m i (ix2 b 0) = m (ix2 b k) := by
  unfold Host.gather
  congr 1
  funext a
  refine Fin.ext ?_
  show GatherDims.start _ _ i a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S128x128_S128x1x1_S128x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S128x128_S128x1x1_S128x1_n_1_0_0_1_2_11.startIndexMap from List.mem_singleton.mpr rfl)]
    have hsi : gather_S128x128_S128x1x1_S128x1_n_1_0_0_1_2_11.siIdx (ix2 b 0)
        ⟨List.idxOf (1 : Fin 2) gather_S128x128_S128x1x1_S128x1_n_1_0_0_1_2_11.startIndexMap,
          List.idxOf_lt_length_iff.2 (List.mem_singleton.mpr rfl)⟩ = ix3 b 0 0 := by
      funext b; refine Fin.ext ?_
      match b with
      | ⟨0, _⟩ => rfl
      | ⟨1, _⟩ => rfl
      | ⟨2, _⟩ => rfl
    rw [hsi, hi]
    have hk := k.isLt
    show min (BitVec.ofNat 32 k.val).toInt.toNat 127 = k.val
    rw [toInt_pos]; omega

/-- The entry of a row at an index in range. -/
theorem takeAlong_apply (m : FVec Ideal S128x128 .f32) (i : IVec S128 32) (b k : Fin 128) (hi : i (ix1 b) = BitVec.ofNat 32 k.val) :
    takeAlong (F := Ideal) m (asCol i) (ix2 b 0) = m (ix2 b k) := by
  pointwise [takeAlong]
  have hc : asCol i (ix2 b 0) = BitVec.ofNat 32 k.val := by
    pointwise [asCol]
    exact hi
  rw [inRow_apply _ b k (wrapCol_apply _ b k hc), gather_row_apply _ _ b k (wrapCol_apply _ b k hc)]
  rfl

theorem addTaken_apply (l : FVec Ideal S128 .f32) (x : FVec Ideal S128x1 .f32) (b : Fin 128) :
    addTaken (F := Ideal) l x (ix1 b) = l (ix1 b) + x (ix2 b 0) := by
  pointwise [addTaken]

theorem addEntropy_apply (l : FVec Ideal S128 .f32) (m : FVec Ideal S128x128 .f32) (b : Fin 128) :
    addEntropy (F := Ideal) l m (ix1 b) = l (ix1 b) - ∑ x, Ideal.exp (m (ix2 b x)) * m (ix2 b x) := by
  pointwise [addEntropy]

theorem oneHot_apply (i : IVec S128 32) (b p k : Fin 128) (hi : i (ix1 b) = BitVec.ofNat 32 k.val) :
    oneHot (F := Ideal) i (ix2 b p) = hot k p := by
  pointwise [oneHot]
  rw [hi]
  exact uitofp_hot k p

/-- A gather of rows, at indices in range. -/
theorem gather_rows_apply (x : FVec Ideal S128x128x512 .f32) (i : IVec S128x2 32) (b k : Fin 128) (h : Fin 512)
    (h0 : i (ix2 b 0) = BitVec.ofNat 32 b.val) (h1 : i (ix2 b 1) = BitVec.ofNat 32 k.val) :
    Host.gather gather_S128x128x512_S128x2_S128x512_1_01_n_n_01_1_11512 x i (ix2 b h) = x (ix3 b k h) := by
  unfold Host.gather
  congr 1
  funext a
  refine Fin.ext ?_
  show GatherDims.start _ _ i a + GatherDims.batchCoord _ _ a + GatherDims.offCoord _ _ a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_cons_self))]
    simp only [Nat.add_zero]
    unfold GatherDims.start
    rw [dif_pos (show (0 : Fin 3) ∈ gather_S128x128x512_S128x2_S128x512_1_01_n_n_01_1_11512.startIndexMap from List.mem_cons_self)]
    have hsi : gather_S128x128x512_S128x2_S128x512_1_01_n_n_01_1_11512.siIdx (ix2 b h)
        ⟨List.idxOf (0 : Fin 3) gather_S128x128x512_S128x2_S128x512_1_01_n_n_01_1_11512.startIndexMap,
          List.idxOf_lt_length_iff.2 List.mem_cons_self⟩ = ix2 b 0 := by
      funext b; refine Fin.ext ?_
      match b with
      | ⟨0, _⟩ => rfl
      | ⟨1, _⟩ => rfl
    rw [hsi, h0]
    have hk := b.isLt
    show min (BitVec.ofNat 32 b.val).toInt.toNat 127 = b.val
    rw [toInt_pos]; omega
  · rw [GatherDims.offCoord_eq_zero _ _ _ (fun h => ((GatherDims.mem_sKept _ _).mp h).1 (List.mem_cons_of_mem _ List.mem_cons_self))]
    simp only [Nat.add_zero]
    unfold GatherDims.start
    rw [dif_pos (show (1 : Fin 3) ∈ gather_S128x128x512_S128x2_S128x512_1_01_n_n_01_1_11512.startIndexMap from List.mem_cons_of_mem _ List.mem_cons_self)]
    have hsi : gather_S128x128x512_S128x2_S128x512_1_01_n_n_01_1_11512.siIdx (ix2 b h)
        ⟨List.idxOf (1 : Fin 3) gather_S128x128x512_S128x2_S128x512_1_01_n_n_01_1_11512.startIndexMap,
          List.idxOf_lt_length_iff.2 (List.mem_cons_of_mem _ List.mem_cons_self)⟩ = ix2 b 1 := by
      funext b; refine Fin.ext ?_
      match b with
      | ⟨0, _⟩ => rfl
      | ⟨1, _⟩ => rfl
    rw [hsi, h1]
    have hk := k.isLt
    show min (BitVec.ofNat 32 k.val).toInt.toNat 127 = k.val
    rw [toInt_pos]; omega
  · have hs : GatherDims.start gather_S128x128x512_S128x2_S128x512_1_01_n_n_01_1_11512 (ix2 b h) i 2 = 0 := by
      unfold GatherDims.start
      rw [dif_neg (by decide)]
    rw [hs]
    unfold GatherDims.offCoord
    rw [dif_pos (by decide)]
    simp only [Nat.zero_add]
    rfl

theorem pairs_apply (x y : IVec S128x1 32) (b : Fin 128) :
    pairs x y (ix2 b 0) = x (ix2 b 0) ∧ pairs x y (ix2 b 1) = y (ix2 b 0) := by
  refine ⟨?_, ?_⟩ <;> pointwise [pairs] <;> rfl

theorem wrap_apply (i : IVec S128 32) (b k : Fin 128) (hi : i (ix1 b) = BitVec.ofNat 32 k.val) : wrap i (ix1 b) = BitVec.ofNat 32 k.val := by
  pointwise [wrap]
  rw [hi]
  exact select_wrap k _

/-- The rows of the points at indices in range. -/
theorem rowsAt_apply (x : FVec Ideal S128x128x512 .f32) (i : IVec S128 32) (b k : Fin 128) (h : Fin 512)
    (hi : i (ix1 b) = BitVec.ofNat 32 k.val) :
    rowsAt (F := Ideal) x (iotaInDim S128 32 0) i (ix2 b h) = x (ix3 b k h) := by
  unfold rowsAt
  refine gather_rows_apply x _ b k h ?_ ?_
  · rw [(pairs_apply _ _ b).1]
    pointwise []
    exact wrap_apply _ b b (by pointwise [])
  · rw [(pairs_apply _ _ b).2]
    pointwise []
    exact wrap_apply _ b k hi

theorem pushRow_apply (x : FVec Ideal S3x128x512 .f32) (y : FVec Ideal S128x512 .f32) (b : Fin 128) (h : Fin 512) :
    pushRow (F := Ideal) x y (ix3 0 b h) = x (ix3 1 b h) ∧ pushRow (F := Ideal) x y (ix3 1 b h) = x (ix3 2 b h)
      ∧ pushRow (F := Ideal) x y (ix3 2 b h) = y (ix2 b h) := by
  refine ⟨?_, ?_, ?_⟩ <;> pointwise [pushRow, joinRows]

theorem putRow_apply (x : IVec S128x128 32) (y : IVec S128 32) (j p b : Fin 128) :
    putRow x y (constantI S_ 32 (BitVec.ofNat 32 j.val)) (ix2 p b) = if p = j then y (ix1 b) else x (ix2 p b) := by
  pointwise [putRow]
  have hj := j.isLt
  have h0 : Host.clampedStart S128x128 S1x128 updateFits_S128x128_S1x128.1
      (fun k => ((![constantI S_ 32 (BitVec.ofNat 32 j.val), constantI S_ 32 0#32] : Fin 2 → IVec S_ 32) k (Shape.Idx.first h_S_)).toInt) 0 = j.val := by
    show (min (max (BitVec.ofNat 32 j.val).toInt 0) ((128 - 1 : ℕ) : Int)).toNat = j.val
    rw [toInt_pos]; omega
  have h1 : Host.clampedStart S128x128 S1x128 updateFits_S128x128_S1x128.1
      (fun k => ((![constantI S_ 32 (BitVec.ofNat 32 j.val), constantI S_ 32 0#32] : Fin 2 → IVec S_ 32) k (Shape.Idx.first h_S_)).toInt) 1 = 0 := rfl
  simp only [h0, h1]
  by_cases h : p = j
  · subst h
    rw [if_pos rfl, dif_pos ⟨⟨le_refl _, Nat.lt_succ_self _⟩, Nat.zero_le _⟩]
    rfl
  · rw [if_neg h, dif_neg]
    rintro ⟨⟨ha, hb⟩, -⟩
    exact h (Fin.ext (by omega))

theorem closeTour_apply (x : IVec S128x128 32) (b : Fin 128) (h : Fin 129) :
    closeTour x (ix2 b h) = x (ix2 ⟨h.val % 128, Nat.mod_lt _ (by decide)⟩ b) := by
  pointwise [closeTour]
  have := h.isLt
  split
  · rename_i hl
    congr 2
    exact Fin.ext (Nat.mod_eq_of_lt hl).symm
  · congr 2
    exact Fin.ext (show h.val - 128 = h.val % 128 by omega)

end Cert.ReferenceIdeal.Trip

end
-- ==== Proof.Agree.lean ====
/- The kernel's decode steps and the reference's carry the same values: the kernel keeps points by batch entries, the
   reference batch entries by points, and the kernel spreads each query sum over the steps that choose its points. -/
module

public import proofs.«01_k».proof.Proof.KernelRead
public import proofs.«01_k».proof.Proof.RefRead

@[expose] public section

set_option maxRecDepth 8192

noncomputable section

namespace Cert.Agree

open Idealize.ShloMosaic Cert.Choice
open Cert.KernelIdeal.Hand.Consts (slot)

/-- What the kernel's steps read and what the reference's read are the same arrays, axes exchanged. -/
structure SameConsts (K : KernelIdeal.Hand.Consts Ideal) (R : ReferenceIdeal.Trip.Consts Ideal) : Prop where
  x : ∀ p b h, K.tin (ix3 p b h) = R.x (ix3 b p h)
  w0 : ∀ h x, K.w0 (ix2 h x) = R.w0 (ix2 x h)
  w1 : ∀ h x, K.w1 (ix2 h x) = R.w1 (ix2 x h)
  w2 : ∀ h x, K.w2 (ix2 h x) = R.w2 (ix2 x h)
  wp : ∀ x a, K.wp (ix2 x a) = R.wp (ix2 a x)
  v : ∀ a, K.v (ix2 0 a) = R.v (ix1 a)
  g : ∀ t p b : Fin 128, K.g (ix3 t p b)
    = ReferenceIdeal.Trip.noiseAt (F := Ideal) R.key R.ts (constantI ReferenceIdeal.S_ 32 (BitVec.ofNat 32 t.val)) (ix2 b p)
  e : ∀ p b a, K.e (ix3 p b a) = R.e (ix3 b p a)

/-- Before step `n` the two carry the same values. The kernel's slot of the next step holds the sum of the point chosen
    two steps ago, the two slots after it nothing; its encoded queries are the reference's of this step. -/
structure SameState (R : ReferenceIdeal.Trip.Consts Ideal) (n : ℕ) (s : KernelIdeal.Hand.State Ideal) (r : ReferenceIdeal.Trip.State Ideal) : Prop where
  mask : ∀ p b, s.mask (ix2 p b) = r.mask (ix2 b p)
  last : ∀ b h, s.rnew (ix2 b h) = r.prev (ix3 2 b h)
  next : ∀ b x, s.q (ix3 (slot (n + 1)) b x) = ∑ h, r.prev (ix3 1 b h) * R.w0 (ix2 x h)
  two : ∀ b x, s.q (ix3 (slot (n + 2)) b x) = 0
  three : ∀ b x, s.q (ix3 (slot (n + 3)) b x) = 0
  eq : ∀ b a, s.eq (ix2 b a)
    = ∑ x, ReferenceIdeal.Trip.relu (F := Ideal) (ReferenceIdeal.Trip.querySum r.prev R.w0 R.w1 R.w2) (ix2 b x) * R.wp (ix2 a x)
  lp : ∀ b, s.lp (ix2 0 b) = r.lp (ix1 b)
  ent : ∀ b, s.ent (ix2 0 b) = r.ent (ix1 b)

variable {K : KernelIdeal.Hand.Consts Ideal} {R : ReferenceIdeal.Trip.Consts Ideal} {n : ℕ}
  {s : KernelIdeal.Hand.State Ideal} {r : ReferenceIdeal.Trip.State Ideal}

/-- The logits agree. -/
theorem logits_eq (hc : SameConsts K R) (hs : SameState R n s r) (p b : Fin 128) : K.logits s (ix2 p b) = R.logits r (ix2 b p) := by
  rw [KernelIdeal.Hand.Consts.logits_apply]
  unfold ReferenceIdeal.Trip.Consts.logits
  rw [ReferenceIdeal.Trip.masked_apply, ReferenceIdeal.Trip.scores_apply, hs.mask]
  refine congrArg (fun u => logit u _) (Finset.sum_congr rfl fun a _ => ?_)
  rw [hc.v, hc.e, hs.eq]

/-- The columns of logits agree. -/
theorem column_eq (hc : SameConsts K R) (hs : SameState R n s r) (b : Fin 128) :
    (fun p => K.logits s (ix2 p b)) = fun p => R.logits r (ix2 b p) :=
  funext fun p => logits_eq hc hs p b

/-- The reference chooses what the kernel chooses. -/
theorem idx_eq (hc : SameConsts K R) (t : Fin KernelIdeal.k0_t2_loop.trips) (hs : SameState R t.val s r) (b : Fin 128) :
    R.idx (constantI ReferenceIdeal.S_ 32 (BitVec.ofNat 32 t.val)) r (ix1 b) = BitVec.ofNat 32 (K.pickAt t s b).val := by
  unfold ReferenceIdeal.Trip.Consts.idx
  rw [ReferenceIdeal.Trip.argmax_apply]
  unfold KernelIdeal.Hand.Consts.pickAt
  refine congrArg (fun z => BitVec.ofNat 32 (first z).val) (funext fun p => ?_)
  rw [logits_eq hc hs, hc.g]
  show ReferenceIdeal.Trip.noiseAt (F := Ideal) R.key R.ts (constantI ReferenceIdeal.S_ 32 (BitVec.ofNat 32 (KernelIdeal.Hand.stepNo t).val)) (ix2 b p)
    + R.logits r (ix2 b p) = _
  rw [add_comm]

/-- One step keeps the agreement. -/
theorem same_next (hc : SameConsts K R) (t : Fin KernelIdeal.k0_t2_loop.trips) (hs : SameState R t.val s r) :
    SameState R (t.val + 1) (K.next t s) (R.next (constantI ReferenceIdeal.S_ 32 (BitVec.ofNat 32 t.val)) r) := by
  have hi := idx_eq hc t hs
  have hr : (R.next (constantI ReferenceIdeal.S_ 32 (BitVec.ofNat 32 t.val)) r).prev
      = ReferenceIdeal.Trip.pushRow r.prev (ReferenceIdeal.Trip.rowsAt R.x (iotaInDim ReferenceIdeal.S128 32 0)
        (R.idx (constantI ReferenceIdeal.S_ 32 (BitVec.ofNat 32 t.val)) r)) := rfl
  have hp0 : ∀ b h, (R.next (constantI ReferenceIdeal.S_ 32 (BitVec.ofNat 32 t.val)) r).prev (ix3 0 b h) = r.prev (ix3 1 b h) :=
    fun b h => by rw [hr]; exact (ReferenceIdeal.Trip.pushRow_apply _ _ b h).1
  have hp1 : ∀ b h, (R.next (constantI ReferenceIdeal.S_ 32 (BitVec.ofNat 32 t.val)) r).prev (ix3 1 b h) = r.prev (ix3 2 b h) :=
    fun b h => by rw [hr]; exact (ReferenceIdeal.Trip.pushRow_apply _ _ b h).2.1
  have hp2 : ∀ b h, (K.next t s).rnew (ix2 b h) = (R.next (constantI ReferenceIdeal.S_ 32 (BitVec.ofNat 32 t.val)) r).prev (ix3 2 b h) := by
    intro b h
    rw [hr]
    refine Eq.trans ?_ (ReferenceIdeal.Trip.pushRow_apply _ _ b h).2.2.symm
    rw [KernelIdeal.Hand.Consts.next_rnew, hc.x, ReferenceIdeal.Trip.rowsAt_apply _ _ b _ h (hi b)]
  refine ⟨fun p b => ?_, hp2, fun b x => ?_, fun b x => ?_, fun b x => ?_, fun b a => ?_, fun b => ?_, fun b => ?_⟩
  · rw [KernelIdeal.Hand.Consts.next_mask, hs.mask]
    exact congrArg (r.mask (ix2 b p) + ·) (ReferenceIdeal.Trip.oneHot_apply _ b p _ (hi b)).symm
  · refine (KernelIdeal.Hand.Consts.slots_two K t s b x).trans ?_
    rw [hs.two, zero_add]
    exact Finset.sum_congr rfl fun h _ => by rw [hs.last, hc.w0, hp1]
  · exact (KernelIdeal.Hand.Consts.slots_three K t s b x).trans (hs.three b x)
  · have h4 : slot (t.val + 1 + 3) = slot t.val := Fin.ext (by show (t.val + 1 + 3) % 4 = t.val % 4; omega)
    rw [h4]
    exact KernelIdeal.Hand.Consts.slots_zero K t s b x
  · rw [KernelIdeal.Hand.Consts.next_eq]
    refine Finset.sum_congr rfl fun x _ => ?_
    rw [ReferenceIdeal.Trip.relu_apply, ReferenceIdeal.Trip.querySum_apply, hc.wp, KernelIdeal.Hand.Consts.slots_one, hs.next]
    simp only [hp0, hp1, hp2, hs.last, hc.w1, hc.w2]
  · rw [KernelIdeal.Hand.Consts.next_lp, hs.lp]
    refine Eq.trans ?_ (ReferenceIdeal.Trip.addTaken_apply _ _ b).symm
    rw [ReferenceIdeal.Trip.takeAlong_apply _ _ b _ (hi b), ReferenceIdeal.Trip.logp_apply, column_eq hc hs]
  · rw [KernelIdeal.Hand.Consts.next_ent, hs.ent]
    refine Eq.trans ?_ (ReferenceIdeal.Trip.addEntropy_apply _ _ b).symm
    simp only [ReferenceIdeal.Trip.logp_apply, column_eq hc hs]

/-- The zeros the two start from agree. -/
theorem same_start : SameState R 0 KernelIdeal.Hand.Consts.start (ReferenceIdeal.Trip.start (F := Ideal)) := by
  obtain ⟨h1, h2, h3, h4, h5, h6⟩ := KernelIdeal.Hand.Consts.start_apply
  have hprev : ∀ k b h, (ReferenceIdeal.Trip.start (F := Ideal)).prev (ix3 k b h) = 0 := by
    intro k b h
    pointwise [ReferenceIdeal.Trip.start]
  refine ⟨fun p b => ?_, fun b h => ?_, fun b x => ?_, fun b x => h3 _ b x, fun b x => h3 _ b x, fun b a => ?_, fun b => ?_, fun b => ?_⟩
  · rw [h1]
    pointwise [ReferenceIdeal.Trip.start]
  · rw [h2, hprev]
  · rw [h3]
    simp only [hprev, zero_mul, Finset.sum_const_zero]
  · rw [h4]
    simp only [ReferenceIdeal.Trip.relu_apply, ReferenceIdeal.Trip.querySum_apply, hprev, zero_mul, Finset.sum_const_zero, add_zero, max_self]
  · rw [h5]
    pointwise [ReferenceIdeal.Trip.start]
  · rw [h6]
    pointwise [ReferenceIdeal.Trip.start]

/-- Before every step the two agree. -/
theorem same_states (hc : SameConsts K R) : ∀ n ≤ 128, SameState R n (K.states n) (R.states n)
  | 0, _ => same_start
  | n + 1, h => by
    have ht : n < KernelIdeal.k0_t2_loop.trips := by rw [KernelIdeal.Hand.trips2]; omega
    have := same_next hc ⟨n, ht⟩ (same_states hc n (by omega))
    rw [← KernelIdeal.Hand.Consts.states_succ] at this
    exact this

/-- Before step `n` the rows below `n` of the reference's tour are the kernel's. -/
theorem tour_rows (hc : SameConsts K R) : ∀ n ≤ 128, ∀ p b : Fin 128, p.val < n → (R.states n).tour (ix2 p b) = K.tourOf (ix2 p b)
  | 0, _ => fun _ _ h => absurd h (Nat.not_lt_zero _)
  | n + 1, h => fun p b hp => by
    have ht : n < KernelIdeal.k0_t2_loop.trips := by rw [KernelIdeal.Hand.trips2]; omega
    have hn : n < 128 := by omega
    refine (ReferenceIdeal.Trip.putRow_apply (R.states n).tour _ ⟨n, hn⟩ p b).trans ?_
    by_cases hpn : p = ⟨n, hn⟩
    · subst hpn
      rw [if_pos rfl]
      exact (idx_eq hc ⟨n, ht⟩ (same_states hc n (by omega)) b).trans (KernelIdeal.Hand.Consts.tourOf_apply K ⟨n, ht⟩ b).symm
    · rw [if_neg hpn]
      refine tour_rows hc n (by omega) p b ?_
      have : p.val ≠ n := fun e => hpn (Fin.ext e)
      omega

end Cert.Agree

end
-- ==== Proof.Run.lean ====
/- The run of the whole kernel program: the launch around the body, and the program's results as functions of the
   arguments. -/
module

public import proofs.«01_k».proof.Proof.Body
public import proofs.«01_k».proof.Proof.Gen.KernelIdeal.Frame
public import Idealize.ShloMosaic.Lib.Pipeline.FrameBody
public import Idealize.ShloMosaic.Lib.Pipeline.FrameSuffix
public import Idealize.ShloMosaic.Lib.Pipeline.ValueKit
public import Idealize.ShloMosaic.Lib.Pipeline.Value
public import Idealize.ShloMosaic.Lib.StableHlo.RunRead

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The program is its host operations, the launch, and its host operations. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The kernel's transfer semaphore. -/
abbrev osem0 : Fin 1 → SemLoc sig := fun _ => SemLoc.dma cc0_scratch8.sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma cc0_scratch8.sem) 0 := by
  rw [Pipeline.ownSems0_eq_of_list c osem0 [0] (by decide) (by decide)]; rfl

/-- What the core holds besides the staged blocks: the scratch buffers at anything, the generator, the semaphore at zero. -/
theorem PhiD0_eq (c : Dev nD) :
    (Pipeline.ΦD osem0 spec0 ∅ (V m) c : sProp 𝕄)
      = iprop(iprop((∃ d, owns (c : Thread nD τ) (Memref.whole cc0_scratch0) fullShare d) ∗ (∃ d, owns (c : Thread nD τ) (Memref.whole cc0_scratch1) fullShare d)
                ∗ (∃ d, owns (c : Thread nD τ) (Memref.whole cc0_scratch2) fullShare d) ∗ (∃ d, owns (c : Thread nD τ) (Memref.whole cc0_scratch3) fullShare d)
                ∗ (∃ d, owns (c : Thread nD τ) (Memref.whole cc0_scratch4) fullShare d) ∗ (∃ d, owns (c : Thread nD τ) (Memref.whole cc0_scratch5) fullShare d)
                ∗ (∃ d, owns (c : Thread nD τ) (Memref.whole cc0_scratch6) fullShare d) ∗ (∃ d, owns (c : Thread nD τ) (Memref.whole cc0_scratch7) fullShare d))
          ∗ (∃ r, prngReg c r)
          ∗ semVal ((c : Thread nD τ), SemLoc.dma cc0_scratch8.sem) 0
          ∗ bigSep (∅ : Finset (Ref sig .tc)) (fun b => ((c : Thread nD τ).loc b) ↦{fullShare} V m c b)) := by
  rw [Pipeline.ΦD_eq, scopedRest0_eq, ownSems00_eq]
  simp only [owns_whole]; try rfl

/-- What the results are computed from at point `t`. -/
def constsAt (c : Dev nD) (t : Fin cfg0.N) : Consts F :=
  constsOf (iblk m c 0 t) (iblk m c 1 t) (iblk m c 2 t) (iblk m c 3 t) (iblk m c 4 t) (iblk m c 5 t) (iblk m c 6 t) (iblk m c 7 t)

/-- The proof data of the one launch: the arrays as it finds them; the inputs' buffers keep their blocks, the results'
    end at the tour and the two sums. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (constsAt m c t).tourOf
    | ⟨9, _⟩ => ((constsAt m c t).states 128).lp
    | ⟨10, _⟩ => ((constsAt m c t).states 128).ent
  Φ _ := Pipeline.ΦD osem0 spec0 ∅ (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem after0_8 (c : Dev nD) (t : Fin cfg0.N) : (dats m 0 c).after 8 t = (constsAt m c t).tourOf := by dsimp only [dats]
theorem after0_9 (c : Dev nD) (t : Fin cfg0.N) : (dats m 0 c).after 9 t = ((constsAt m c t).states 128).lp := by dsimp only [dats]
theorem after0_10 (c : Dev nD) (t : Fin cfg0.N) : (dats m 0 c).after 10 t = ((constsAt m c t).states 128).ent := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t))

/-- The body at a point: from the staged inputs to the staged results. -/
theorem sound_body (hpt : ∀ (K : Consts F) t s y, (K.idx t s y).toNat < 128) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦD osem0 spec0 ∅ (V m) c from rfl, PhiD0_eq]
  rw [after0_0, after0_1, after0_2, after0_3, after0_4, after0_5, after0_6, after0_7, after0_8, after0_9, after0_10]
  simp only [before0_0, before0_1, before0_2, before0_3, before0_4, before0_5, before0_6, before0_7]
  unfold Dat.owesAt Pipeline.owesWithin
  rw [show (dats m 0 c).owed t.castSucc = 0 from rfl, show (dats m 0 c).owed t.succ = 0 from rfl]
  iintro ⟨⟨HS, Hg, Hv, HE⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (wp_body c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (win0_10.stage (cfg0.slots t 10)) (hstage0_10 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8
    Variants.none none (iblk m c 0 t) (iblk m c 1 t) (iblk m c 2 t) (iblk m c 3 t) (iblk m c 4 t) (iblk m c 5 t) (iblk m c 6 t) (iblk m c 7 t) (hpt _)) $$ [HS Hv HW H0 H1 H2 H3 H4 H5 H6 H7 H8 H9 H10]
  · isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [H9]; · iexists _; iexact H9
    isplitl [H10]; · iexists _; iexact H10
    isplitl [HS]; · iexact HS
    isplitl [Hv]; · iexact Hv
    iexists _; iexact HW
  iintro ⟨⟨H0, H1, H2, H3, H4, H5, H6, H7⟩, H8, H9, H10, HS, Hv, ⟨%W', HW'⟩⟩
  isplitl [HS Hg Hv HE]
  · isplitl [HS]; · iexact HS
    isplitl [Hg]; · iexact Hg
    isplitl [Hv]; · iexact Hv
    iexact HE
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (hpt : ∀ (K : Consts F) t s y, (K.idx t s y).toNat < 128) (c : Dev nD) :
    BodyObligation (dats (F := F) m 0 c) (defs₀ (F := F)) Variants.none () Set.univ := fun t => by
  rw [bigSep_W0, bigSep_W0, defs₀_row]
  exact triple_restated (sound_body m hpt c t) rfl .rfl fun _ => .rfl

set_option backward.isDefEq.respectTransparency.types false in
/-- The program runs: the arrays end at their final contents, every other buffer at what the host operations leave, and
    no semaphore is left raised. -/
theorem run_main (hpt : ∀ (K : Consts F) t s y, (K.idx t s y).toNat < 128) :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 ∅ (Finset.empty_subset _) m ρ main
    (hbody := fun c => (body_obligation m hpt c).loose) (hshare := fun c => (dats m 0 c).share_full fun _ => rfl)
    (howed := fun _ _ => rfl) (V₀ := V0 m) (opss := [hostOps1])
    (hsub := fun ops ho op hp => by rw [Pipeline.tailRefsBut_empty]; exact sfx_sub ops ho op hp) (hfresh := sfx_fresh) (hkeep := sfx_keeps)
    (hmain := hmain m Variants.none) (hA := A_eq m)
    (hin := fun _ => .rfl) (hout := fun _ => .rfl) (hQ' := fun _ h => h)

end Cert.KernelIdeal.Hand

end
-- ==== Proof.KernelDraw.lean ====
/- What the kernel's program draws before the kernel runs: one key for each decode step from the run's key and the step's
   number, and one Gumbel variable for each step, batch entry and point from the step's key. -/
module

public import proofs.«01_k».proof.Proof.Noise
public import proofs.«01_k».proof.Proof.Gen.KernelIdeal.Launch
public import Idealize.ShloMosaic.Lib.StableHlo.RunClose
public import Idealize.ShloMosaic.Lib.StableHlo.RunRead
public import Idealize.ShloMosaic.Lib.Pointwise

@[expose] public section

set_option maxRecDepth 100000

noncomputable section

namespace Cert.KernelIdeal.Draw

open Idealize.ShloMosaic Idealize.ShloMosaic.TcCoe Idealize.ShloMosaic.StableHlo
open Cert.KernelIdeal Cert.KernelIdeal.Gen Cert.Words

variable {F : FTy → Type} [FloatOps F] (V : Valuation τ sig (Elt F))

/-! ## The steps' keys -/

/-- The buffers of the mixing that makes the steps' keys, in the order of its steps. -/
def foldBufs (φ : fn_threefry2x32.Bufs) : List (List (Buf sig S_ S_ S128x1)) :=
  [[.one (.of main_call0_v8), .one (.of main_call0_v10), .one φ.v1, .vec φ.v3, .vec φ.v5, .vec φ.v6, .one φ.c_0, .vec φ.v7,
    .vec φ.v8, .one φ.c_1, .vec φ.v9, .vec φ.v10, .vec φ.v11, .vec φ.v12, .vec φ.v13, .one φ.c_2],
   [.vec φ.v14, .vec φ.v15, .one φ.c_3, .vec φ.v16, .vec φ.v17, .vec φ.v18, .vec φ.v19, .vec φ.v20, .one φ.c_4, .vec φ.v21,
    .vec φ.v22, .one φ.c_5, .vec φ.v23, .vec φ.v24, .vec φ.v25, .vec φ.v26],
   [.vec φ.v27, .one φ.c_6, .vec φ.v28, .vec φ.v29, .one φ.c_7, .vec φ.v30, .vec φ.v31, .vec φ.v32, .vec φ.v33, .vec φ.v34,
    .vec φ.v35, .vec φ.v36, .vec φ.v37, .one φ.c_8, .vec φ.v38, .vec φ.v39],
   [.vec φ.v40, .one φ.c_9, .vec φ.v41, .vec φ.v42, .one φ.c_10, .vec φ.v43, .vec φ.v44, .vec φ.v45, .vec φ.v46,
    .vec φ.v47, .one φ.c_11, .vec φ.v48, .vec φ.v49, .one φ.c_12, .vec φ.v50, .vec φ.v51],
   [.vec φ.v52, .vec φ.v53, .vec φ.v54, .one φ.c_13, .vec φ.v55, .vec φ.v56, .one φ.c_14, .vec φ.v57, .vec φ.v58,
    .vec φ.v59, .vec φ.v60, .vec φ.v61, .one φ.c_15, .vec φ.v62, .vec φ.v63, .one φ.c_16],
   [.vec φ.v64, .vec φ.v65, .vec φ.v66, .vec φ.v67, .vec φ.v68, .vec φ.v69, .vec φ.v70, .vec φ.v71, .one φ.c_17,
    .vec φ.v72, .vec φ.v73, .vec φ.v74, .one φ.c_18, .vec φ.v75, .vec φ.v76, .one φ.c_19],
   [.vec φ.v77, .vec φ.v78, .vec φ.v79, .vec φ.v80, .vec φ.v81, .one φ.c_20, .vec φ.v82, .vec φ.v83, .one φ.c_21,
    .vec φ.v84, .vec φ.v85, .vec φ.v86, .vec φ.v87, .vec φ.v88, .one φ.c_22, .vec φ.v89],
   [.vec φ.v90, .one φ.c_23, .vec φ.v91, .vec φ.v92, .vec φ.v93, .vec φ.v94, .vec φ.v95, .one φ.c_24, .vec φ.v96,
    .vec φ.v97, .one φ.c_25, .vec φ.v98, .vec φ.v99, .vec φ.v100, .vec φ.v101, .vec φ.v102],
   [.vec φ.v103, .vec φ.v104, .vec φ.v105, .one φ.c_26, .vec φ.v106, .vec φ.v107, .vec φ.v108, .one φ.c_27, .vec φ.v109,
    .vec φ.v110, .one φ.c_28, .vec φ.v111, .vec φ.v112, .vec φ.v113, .vec φ.v114, .vec φ.v115],
   [.one φ.c_29, .vec φ.v116, .vec φ.v117, .one φ.c_30, .vec φ.v118, .vec φ.v119, .vec φ.v120, .vec φ.v121, .vec φ.v122,
    .one φ.c_31, .vec φ.v123, .vec φ.v124, .one φ.c_32, .vec φ.v125, .vec φ.v126, .vec φ.v127],
   [.vec φ.v128, .vec φ.v129, .one φ.c_33, .vec φ.v130, .vec φ.v131, .one φ.c_34, .vec φ.v132, .vec φ.v133, .vec φ.v134,
    .vec φ.v135, .vec φ.v136, .vec φ.v137, .vec φ.v138, .vec φ.v139, .one φ.c_35, .vec φ.v140],
   [.vec φ.v141, .vec φ.v142, .one φ.c_36, .vec φ.v143, .vec φ.v144, .one φ.c_37, .vec φ.v145, .vec φ.v146, .vec φ.v147,
    .vec φ.v148, .vec φ.v149, .one φ.c_38, .vec φ.v150, .vec φ.v151, .one φ.c_39, .vec φ.v152],
   [.vec φ.v153, .vec φ.v154, .vec φ.v155, .vec φ.v156, .one φ.c_40, .vec φ.v157, .vec φ.v158, .one φ.c_41, .vec φ.v159,
    .vec φ.v160, .vec φ.v161, .vec φ.v162, .vec φ.v163, .one φ.c_42, .vec φ.v164, .vec φ.v165],
   [.one φ.c_43, .vec φ.v166, .vec φ.v167, .vec φ.v168, .vec φ.v169, .vec φ.v170, .vec φ.v171, .vec φ.v172, .vec φ.v173,
    .one φ.c_44, .vec φ.v174, .vec φ.v175]]

/-- The buffer of a number. -/
def foldBuf : ℕ → Buf sig S_ S_ S128x1 := entry (.one (.of main_call0_v8)) (foldBufs main_call0_call0)

theorem foldBuf_rises : rises foldBuf 220 = true := by decide +kernel

/-- Its entry that entry `i` of the result is made from. -/
def foldSlot (i : S128x1.Idx) (n : ℕ) : Slot sig :=
  (foldBuf n).slot (broadcastInDim S128x1 ![] bcast_S_S128x1 id i) (broadcastInDim S128x1 ![] bcast_S_S128x1 id i) i

set_option maxHeartbeats 4000000 in
/-- The operations of the mixing do the steps. -/
theorem fold_does (i : S128x1.Idx) :
    List.Forall₂ (Does (F := F) (foldSlot i) 220) rounds ((hostOps0_1.drop 22).take 215) := by
  repeat (
    refine .cons ?_ ?_
    first
    | exact does_con rfl (by decide) rfl
    | exact does_copy rfl rfl (by decide) fun _ => rfl
    | exact does_bin rfl rfl rfl (by decide) fun _ _ => rfl)
  exact .nil

/-- The first of two words. -/
def half0 (x : IVec S2 32) : IVec S_ 32 := shapeCast S_ (extractStridedSlice S1 ![0] x slices_S2_S1_0) shapeCasts_S1_S_
/-- The second of two words. -/
def half1 (x : IVec S2 32) : IVec S_ 32 := shapeCast S_ (extractStridedSlice S1 ![1] x slices_S2_S1_1) shapeCasts_S1_S_
/-- Two columns side by side. -/
def both (a b : IVec S128x1 32) : IVec S128x2 32 := concatenate S128x2 1 [⟨S128x1, a⟩, ⟨S128x1, b⟩] concatenates_S128x1_S128x1_S128x2_d1
/-- The numbers' upper and lower words. -/
def halves (t : IVec S128 32) : IVec S128x2 32 :=
  both (broadcastInDim S128x1 ![0] bcast_S128_S128x1_0 (Host.shrui t (broadcastInDim S128 ![] bcast_S_S128 (constantI S_ 32 32#32))))
    (broadcastInDim S128x1 ![0] bcast_S128_S128x1_0 (andi t (broadcastInDim S128 ![] bcast_S_S128 (constantI S_ 32 4294967295#32))))

theorem half0_apply (x : IVec S2 32) (i : S_.Idx) : half0 x i = x (ix1 0) := by
  unfold half0
  refine congrArg x (funext fun a => Fin.ext ?_)
  match a with
  | ⟨0, _⟩ => exact (Nat.zero_add _).trans (Nat.lt_one_iff.mp (Shape.reshapeEquiv shapeCasts_S1_S_ i 0).isLt)

theorem half1_apply (x : IVec S2 32) (i : S_.Idx) : half1 x i = x (ix1 1) := by
  unfold half1
  refine congrArg x (funext fun a => Fin.ext ?_)
  match a with
  | ⟨0, _⟩ => exact congrArg (1 + ·) (Nat.lt_one_iff.mp (Shape.reshapeEquiv shapeCasts_S1_S_ i 0).isLt)

theorem both_0 (a b : IVec S128x1 32) (t : Fin 128) : both a b (ix2 t 0) = a (ix2 t 0) := by
  pointwise [both]
theorem both_1 (a b : IVec S128x1 32) (t : Fin 128) : both a b (ix2 t 1) = b (ix2 t 0) := by
  pointwise [both]

theorem halves_0 (x : IVec S128 32) (t : Fin 128) :
    extractStridedSlice S128x1 ![0, 0] (halves x) slices_S128x2_S128x1_0_0 (ix2 t 0) = IntOp.shrui .host (x (ix1 t)) 32#32 := by
  have : extractStridedSlice S128x1 ![0, 0] (halves x) slices_S128x2_S128x1_0_0 (ix2 t 0) = halves x (ix2 t 0) := by pointwise
  refine this.trans ((both_0 _ _ t).trans ?_)
  have : (broadcastInDim S128x1 ![0] bcast_S128_S128x1_0 x) (ix2 t 0) = x (ix1 t) := by pointwise
  exact congrArg (fun w => IntOp.shrui .host w 32#32) this

theorem halves_1 (x : IVec S128 32) (t : Fin 128) :
    extractStridedSlice S128x1 ![0, 1] (halves x) slices_S128x2_S128x1_0_1 (ix2 t 0) = IntOp.andi (x (ix1 t)) 4294967295#32 := by
  have : extractStridedSlice S128x1 ![0, 1] (halves x) slices_S128x2_S128x1_0_1 (ix2 t 0) = halves x (ix2 t 1) := by pointwise
  refine this.trans ((both_1 _ _ t).trans ?_)
  have : (broadcastInDim S128x1 ![0] bcast_S128_S128x1_0 x) (ix2 t 0) = x (ix1 t) := by pointwise
  exact congrArg (fun w => IntOp.andi w 4294967295#32) this

/-- The key of step `t`: what the run's key and the step's number give. -/
theorem out_v16 (t : Fin 128) {key : IVec S2 32} (hk : V (Proc.devRef .tc main_v13) = key) {x : IVec S128 32}
    (hx : V (Proc.devRef .tc main_v15) = x) :
    (after hostOps0_1 V (Proc.devRef .tc main_v16) : IVec S128x2 32) (ix2 t 0) = tick0 (key (ix1 0)) (key (ix1 1)) (x (ix1 t))
    ∧ (after hostOps0_1 V (Proc.devRef .tc main_v16) : IVec S128x2 32) (ix2 t 1) = tick1 (key (ix1 0)) (key (ix1 1)) (x (ix1 t)) := by
  rw [after_parts hostOps0_1 22 215]
  have h0 : (after (hostOps0_1.take 22) V (Proc.devRef .tc main_call0_v8) : IVec S_ 32)
      = half0 key := by
    subst hk
    unfold half0
    simp only [List.take_succ_cons, List.take_zero]
    after_results_entrywise [cast_eq]
  have h1 : (after (hostOps0_1.take 22) V (Proc.devRef .tc main_call0_v10) : IVec S_ 32)
      = half1 key := by
    subst hk
    unfold half1
    simp only [List.take_succ_cons, List.take_zero]
    after_results_entrywise [cast_eq]
  have h2 : (after (hostOps0_1.take 22) V (Proc.devRef .tc main_call0_call0_v1) : IVec S_ 32)
      = xori (xori (half0 key) (half1 key)) (constantI S_ 32 466688986#32) := by
    subst hk
    unfold half0 half1
    simp only [List.take_succ_cons, List.take_zero]
    after_results_entrywise [cast_eq]
  have h3 : (after (hostOps0_1.take 22) V (Proc.devRef .tc main_call0_call0_v3) : IVec S128x1 32)
      = addi (extractStridedSlice S128x1 ![0, 0] (halves x) slices_S128x2_S128x1_0_0) (broadcastInDim S128x1 ![] bcast_S_S128x1 (half0 key)) := by
    subst hk hx
    unfold half0 halves both
    simp only [List.take_succ_cons, List.take_zero]
    after_results_entrywise [cast_eq]
  have h4 : (after (hostOps0_1.take 22) V (Proc.devRef .tc main_call0_call0_v5) : IVec S128x1 32)
      = addi (extractStridedSlice S128x1 ![0, 1] (halves x) slices_S128x2_S128x1_0_1) (broadcastInDim S128x1 ![] bcast_S_S128x1 (half1 key)) := by
    subst hk hx
    unfold half1 halves both
    simp only [List.take_succ_cons, List.take_zero]
    after_results_entrywise [cast_eq]
  generalize after (hostOps0_1.take 22) V = V₁ at h0 h1 h2 h3 h4
  obtain ⟨m0, m1⟩ := mixed (apart_of_rises foldBuf_rises _ _ (ix2 t 0)) (fold_does (F := F) (ix2 t 0)) (V := V₁)
    (k0 := key (ix1 0)) (k1 := key (ix1 1)) (x0 := IntOp.shrui .host (x (ix1 t)) 32#32) (x1 := IntOp.andi (x (ix1 t)) 4294967295#32)
    ((congrFun h0 _).trans (half0_apply key _)) ((congrFun h1 _).trans (half1_apply key _))
    ((congrFun h2 _).trans (congrArg₂ (fun a b => IntOp.xori (IntOp.xori a b) 466688986#32) (half0_apply key _) (half1_apply key _)))
    ((congrFun h3 _).trans (congrArg₂ IntOp.addi (halves_0 x t) (half0_apply key _)))
    ((congrFun h4 _).trans (congrArg₂ IntOp.addi (halves_1 x t) (half1_apply key _)))
  have m0 : (after ((hostOps0_1.drop 22).take 215) V₁ (Proc.devRef .tc main_call0_v13_0) : IVec S128x1 32) (ix2 t 0)
      = tick0 (key (ix1 0)) (key (ix1 1)) (x (ix1 t)) := m0
  have m1 : (after ((hostOps0_1.drop 22).take 215) V₁ (Proc.devRef .tc main_call0_v13_1) : IVec S128x1 32) (ix2 t 0)
      = tick1 (key (ix1 0)) (key (ix1 1)) (x (ix1 t)) := m1
  generalize after ((hostOps0_1.drop 22).take 215) V₁ = V₂ at m0 m1
  have h5 : after ((hostOps0_1.drop 22).drop 215) V₂ (Proc.devRef .tc main_v16)
      = both (V₂ (Proc.devRef .tc main_call0_v13_0)) (V₂ (Proc.devRef .tc main_call0_v13_1)) := by
    unfold both
    simp only [List.drop_succ_cons, List.drop_zero]
    after_results_entrywise [cast_eq]
  rw [h5]
  exact ⟨(both_0 _ _ t).trans m0, (both_1 _ _ t).trans m1⟩

/-! ## The noise of all steps -/

/-- The buffers of the mixing that draws the noise, in the order of its steps. -/
def drawBufs (φ : fn_threefry2x32_0.Bufs) : List (List (Buf sig S_ S128x1x1 S128x128x128)) :=
  [[.key (.of main_call1_call0_v20), .key (.of main_call1_call0_v21), .key φ.v2, .vec φ.v5, .vec φ.v8, .vec φ.v9,
    .one φ.c_0, .vec φ.v10, .vec φ.v11, .one φ.c_1, .vec φ.v12, .vec φ.v13, .vec φ.v14, .vec φ.v15, .vec φ.v16, .one φ.c_2],
   [.vec φ.v17, .vec φ.v18, .one φ.c_3, .vec φ.v19, .vec φ.v20, .vec φ.v21, .vec φ.v22, .vec φ.v23, .one φ.c_4, .vec φ.v24,
    .vec φ.v25, .one φ.c_5, .vec φ.v26, .vec φ.v27, .vec φ.v28, .vec φ.v29],
   [.vec φ.v30, .one φ.c_6, .vec φ.v31, .vec φ.v32, .one φ.c_7, .vec φ.v33, .vec φ.v34, .vec φ.v35, .vec φ.v36, .vec φ.v37,
    .vec φ.v38, .vec φ.v39, .vec φ.v40, .one φ.c_8, .vec φ.v41, .vec φ.v42],
   [.vec φ.v43, .one φ.c_9, .vec φ.v44, .vec φ.v45, .one φ.c_10, .vec φ.v46, .vec φ.v47, .vec φ.v48, .vec φ.v49,
    .vec φ.v50, .one φ.c_11, .vec φ.v51, .vec φ.v52, .one φ.c_12, .vec φ.v53, .vec φ.v54],
   [.vec φ.v55, .vec φ.v56, .vec φ.v57, .one φ.c_13, .vec φ.v58, .vec φ.v59, .one φ.c_14, .vec φ.v60, .vec φ.v61,
    .vec φ.v62, .vec φ.v63, .vec φ.v64, .one φ.c_15, .vec φ.v65, .vec φ.v66, .one φ.c_16],
   [.vec φ.v67, .vec φ.v68, .vec φ.v69, .vec φ.v70, .vec φ.v71, .vec φ.v72, .vec φ.v73, .vec φ.v74, .one φ.c_17,
    .vec φ.v75, .vec φ.v76, .vec φ.v77, .one φ.c_18, .vec φ.v78, .vec φ.v79, .one φ.c_19],
   [.vec φ.v80, .vec φ.v81, .vec φ.v82, .vec φ.v83, .vec φ.v84, .one φ.c_20, .vec φ.v85, .vec φ.v86, .one φ.c_21,
    .vec φ.v87, .vec φ.v88, .vec φ.v89, .vec φ.v90, .vec φ.v91, .one φ.c_22, .vec φ.v92],
   [.vec φ.v93, .one φ.c_23, .vec φ.v94, .vec φ.v95, .vec φ.v96, .vec φ.v97, .vec φ.v98, .one φ.c_24, .vec φ.v99,
    .vec φ.v100, .one φ.c_25, .vec φ.v101, .vec φ.v102, .vec φ.v103, .vec φ.v104, .vec φ.v105],
   [.vec φ.v106, .vec φ.v107, .vec φ.v108, .one φ.c_26, .vec φ.v109, .vec φ.v110, .vec φ.v111, .one φ.c_27, .vec φ.v112,
    .vec φ.v113, .one φ.c_28, .vec φ.v114, .vec φ.v115, .vec φ.v116, .vec φ.v117, .vec φ.v118],
   [.one φ.c_29, .vec φ.v119, .vec φ.v120, .one φ.c_30, .vec φ.v121, .vec φ.v122, .vec φ.v123, .vec φ.v124, .vec φ.v125,
    .one φ.c_31, .vec φ.v126, .vec φ.v127, .one φ.c_32, .vec φ.v128, .vec φ.v129, .vec φ.v130],
   [.vec φ.v131, .vec φ.v132, .one φ.c_33, .vec φ.v133, .vec φ.v134, .one φ.c_34, .vec φ.v135, .vec φ.v136, .vec φ.v137,
    .vec φ.v138, .vec φ.v139, .vec φ.v140, .vec φ.v141, .vec φ.v142, .one φ.c_35, .vec φ.v143],
   [.vec φ.v144, .vec φ.v145, .one φ.c_36, .vec φ.v146, .vec φ.v147, .one φ.c_37, .vec φ.v148, .vec φ.v149, .vec φ.v150,
    .vec φ.v151, .vec φ.v152, .one φ.c_38, .vec φ.v153, .vec φ.v154, .one φ.c_39, .vec φ.v155],
   [.vec φ.v156, .vec φ.v157, .vec φ.v158, .vec φ.v159, .one φ.c_40, .vec φ.v160, .vec φ.v161, .one φ.c_41, .vec φ.v162,
    .vec φ.v163, .vec φ.v164, .vec φ.v165, .vec φ.v166, .one φ.c_42, .vec φ.v167, .vec φ.v168],
   [.one φ.c_43, .vec φ.v169, .vec φ.v170, .vec φ.v171, .vec φ.v172, .vec φ.v173, .vec φ.v174, .vec φ.v175, .vec φ.v176,
    .one φ.c_44, .vec φ.v177, .vec φ.v178]]

/-- The buffer of a number. -/
def drawBuf : ℕ → Buf sig S_ S128x1x1 S128x128x128 := entry (.key (.of main_call1_call0_v20)) (drawBufs main_call1_call0_call0)

theorem drawBuf_rises : rises drawBuf 220 = true := by decide +kernel

/-- Its entry that entry `i` of the result is made from. -/
def drawSlot (i : S128x128x128.Idx) (n : ℕ) : Slot sig :=
  (drawBuf n).slot (broadcastInDim S128x128x128 ![] bcast_S_S128x128x128 id i)
    (broadcastInDim S128x128x128 ![0, 1, 2] bcast_S128x1x1_S128x128x128_0_1_2 id i) i

set_option maxHeartbeats 4000000 in
/-- The operations of the mixing do the steps. -/
theorem draw_does (i : S128x128x128.Idx) :
    List.Forall₂ (Does (F := F) (drawSlot i) 220) rounds ((hostOps0_2.drop 37).take 215) := by
  repeat (
    refine .cons ?_ ?_
    first
    | exact does_con rfl (by decide) rfl
    | exact does_copy rfl rfl (by decide) fun _ => rfl
    | exact does_bin rfl rfl rfl (by decide) fun _ _ => rfl)
  exact .nil

/-- The steps' first words. -/
def first (x : IVec S128x2 32) : IVec S128x1x1 32 :=
  broadcastInDim S128x1x1 ![0] bcast_S128_S128x1x1_0
    (shapeCast S128 (extractStridedSlice S128x1 ![0, 0] x slices_S128x2_S128x1_0_0) shapeCasts_S128x1_S128)
/-- The steps' second words. -/
def second (x : IVec S128x2 32) : IVec S128x1x1 32 :=
  broadcastInDim S128x1x1 ![0] bcast_S128_S128x1x1_0
    (shapeCast S128 (extractStridedSlice S128x1 ![0, 1] x slices_S128x2_S128x1_0_1) shapeCasts_S128x1_S128)

theorem first_apply (x : IVec S128x2 32) (t b p : Fin 128) :
    broadcastInDim S128x128x128 ![0, 1, 2] bcast_S128x1x1_S128x128x128_0_1_2 (first x) (ix3 t b p) = x (ix2 t 0) := by
  pointwise [first]
theorem second_apply (x : IVec S128x2 32) (t b p : Fin 128) :
    broadcastInDim S128x128x128 ![0, 1, 2] bcast_S128x1x1_S128x128x128_0_1_2 (second x) (ix3 t b p) = x (ix2 t 1) := by
  pointwise [second]

/-- The entries' numbers. -/
def counts : IVec S128x128 64 :=
  addi (muli (broadcastInDim S128x128 ![] bcast_S_S128x128 (constantI S_ 64 128#64)) (iotaInDim S128x128 64 0))
    (muli (broadcastInDim S128x128 ![] bcast_S_S128x128 (constantI S_ 64 1#64)) (iotaInDim S128x128 64 1))

/-- Words of one step's entries, for every step. -/
def every (x : IVec S128x128 32) : IVec S128x128x128 32 :=
  broadcastInDim S128x128x128 ![0, 1, 2] bcast_S1x128x128_S128x128x128_0_1_2 (broadcastInDim S1x128x128 ![1, 2] bcast_S128x128_S1x128x128_1_2 x)

theorem every_apply (x : IVec S128x128 32) (t b p : Fin 128) : every x (ix3 t b p) = x (ix2 b p) := by
  pointwise [every]

/-- One number everywhere. -/
def spread (x : FVec F S1x1 .f32) : FVec F S128x128x128 .f32 :=
  broadcastInDim S128x128x128 ![0, 1, 2] bcast_S1x1x1_S128x128x128_0_1_2 (broadcastInDim S1x1x1 ![1, 2] bcast_S1x1_S1x1x1_1_2 x)

/-- The Gumbel variables of words, the two numbers of the unit interval's ends given. -/
def gumbels (w : IVec S128x128x128 32) (tiny one : FVec F S1x1 .f32) : FVec F S128x128x128 .f32 :=
  Host.negf (Host.log (Host.negf (Host.log (maximumf (spread tiny)
    (addf (mulf (subf (bitcastToFloat .f32 (ori (Host.shrui w (broadcastInDim S128x128x128 ![] bcast_S_S128x128x128 (constantI S_ 32 9#32)))
          (broadcastInDim S128x128x128 ![] bcast_S_S128x128x128 (constantI S_ 32 1065353216#32))))
        (broadcastInDim S128x128x128 ![] bcast_S_S128x128x128 (constant S_ .f32 0x3F800000#32)))
      (spread (subf one tiny)))
    (spread tiny))))))

/-- The noise of step `t`, batch entry `b` and point `p`: what the step's key draws there. -/
theorem out_v17 (t b p : Fin 128) {x : IVec S128x2 32} (hx : V (Proc.devRef .tc main_v16) = x) :
    (after hostOps0_2 V (Proc.devRef .tc main_v17) : FVec F S128x128x128 .f32) (ix3 t b p)
      = noise (x (ix2 t 0)) (x (ix2 t 1)) b p := by
  rw [after_parts hostOps0_2 37 215]
  have h0 : (after (hostOps0_2.take 37) V (Proc.devRef .tc main_call1_call0_v20) : IVec S128x1x1 32)
      = first x := by
    subst hx
    unfold first
    simp only [List.take_succ_cons, List.take_zero]
    after_results_entrywise [cast_eq]
  have h1 : (after (hostOps0_2.take 37) V (Proc.devRef .tc main_call1_call0_v21) : IVec S128x1x1 32)
      = second x := by
    subst hx
    unfold second
    simp only [List.take_succ_cons, List.take_zero]
    after_results_entrywise [cast_eq]
  have h2 : (after (hostOps0_2.take 37) V (Proc.devRef .tc main_call1_call0_call0_v2) : IVec S128x1x1 32)
      = xori (xori (first x) (second x)) (broadcastInDim S128x1x1 ![] bcast_S_S128x1x1 (constantI S_ 32 466688986#32)) := by
    subst hx
    unfold first second
    simp only [List.take_succ_cons, List.take_zero]
    after_results_entrywise [cast_eq]
  have h3 : (after (hostOps0_2.take 37) V (Proc.devRef .tc main_call1_call0_call0_v5) : IVec S128x128x128 32)
      = addi (every (trunci 32 (Host.shrui counts (broadcastInDim S128x128 ![] bcast_S_S128x128 (constantI S_ 64 32#64))) natLt_32_64))
        (broadcastInDim S128x128x128 ![0, 1, 2] bcast_S128x1x1_S128x128x128_0_1_2 (first x)) := by
    subst hx
    unfold first every counts
    simp only [List.take_succ_cons, List.take_zero]
    after_results_entrywise [cast_eq]
  have h4 : (after (hostOps0_2.take 37) V (Proc.devRef .tc main_call1_call0_call0_v8) : IVec S128x128x128 32)
      = addi (every (trunci 32 counts natLt_32_64))
        (broadcastInDim S128x128x128 ![0, 1, 2] bcast_S128x1x1_S128x128x128_0_1_2 (second x)) := by
    subst hx
    unfold second every counts
    simp only [List.take_succ_cons, List.take_zero]
    after_results_entrywise [cast_eq]
  have h5 : (after (hostOps0_2.take 37) V (Proc.devRef .tc main_call1_call0_v1) : FVec F S1x1 .f32)
      = fun _ => FloatOps.ofBits .f32 0x00800000#32 := by
    simp only [List.take_succ_cons, List.take_zero]
    after_results_entrywise [cast_eq]
  have h6 : (after (hostOps0_2.take 37) V (Proc.devRef .tc main_call1_call0_v2) : FVec F S1x1 .f32)
      = fun _ => FloatOps.ofBits .f32 0x3F800000#32 := by
    simp only [List.take_succ_cons, List.take_zero]
    after_results_entrywise [cast_eq]
  generalize after (hostOps0_2.take 37) V = V₁ at h0 h1 h2 h3 h4 h5 h6
  obtain ⟨m0, m1⟩ := mixed (apart_of_rises drawBuf_rises _ _ (ix3 t b p)) (draw_does (F := F) (ix3 t b p)) (V := V₁)
    (k0 := x (ix2 t 0)) (k1 := x (ix2 t 1)) (x0 := high b p) (x1 := low b p)
    ((congrFun h0 _).trans (first_apply x t b p)) ((congrFun h1 _).trans (second_apply x t b p))
    ((congrFun h2 _).trans (congrArg₂ (fun a b => IntOp.xori (IntOp.xori a b) 466688986#32) (first_apply x t b p) (second_apply x t b p)))
    ((congrFun h3 _).trans (congrArg₂ IntOp.addi (every_apply _ t b p) (first_apply x t b p)))
    ((congrFun h4 _).trans (congrArg₂ IntOp.addi (every_apply _ t b p) (second_apply x t b p)))
  have m : (xori (after ((hostOps0_2.drop 37).take 215) V₁ (Proc.devRef .tc main_call1_call0_v22_0))
        (after ((hostOps0_2.drop 37).take 215) V₁ (Proc.devRef .tc main_call1_call0_v22_1)) : IVec S128x128x128 32) (ix3 t b p)
      = IntOp.xori (mix0 (x (ix2 t 0)) (x (ix2 t 1)) (high b p) (low b p)) (mix1 (x (ix2 t 0)) (x (ix2 t 1)) (high b p) (low b p)) :=
    congrArg₂ IntOp.xori m0 m1
  have h5 := (kept_after (draw_does (F := F) (ix3 t b p)) rounds_ordered (V := V₁) (rises_ne drawBuf_rises
    (r := main_call1_call0_v1) (by decide +kernel))).trans h5
  have h6 := (kept_after (draw_does (F := F) (ix3 t b p)) rounds_ordered (V := V₁) (rises_ne drawBuf_rises
    (r := main_call1_call0_v2) (by decide +kernel))).trans h6
  generalize after ((hostOps0_2.drop 37).take 215) V₁ = V₂ at m h5 h6
  have h7 : after ((hostOps0_2.drop 37).drop 215) V₂ (Proc.devRef .tc main_v17)
      = gumbels (xori (V₂ (Proc.devRef .tc main_call1_call0_v22_0)) (V₂ (Proc.devRef .tc main_call1_call0_v22_1)))
        (V₂ (Proc.devRef .tc main_call1_call0_v1)) (V₂ (Proc.devRef .tc main_call1_call0_v2)) := by
    unfold gumbels spread
    simp only [List.drop_succ_cons, List.drop_zero]
    after_results_entrywise [cast_eq]
  rw [h7, h5, h6]
  exact congrArg (fun w => gumbel (F := F) w) m

/-! ## What the drawing leaves as it was -/

/-- The buffers written while the steps' keys are made, in order. -/
def written_1 : List (Ref sig .tc) :=
  [main_call0_c, main_call0_v0, main_call0_v1, main_call0_v2, main_call0_c_0, main_call0_v3, main_call0_v4, main_call0_v5,
   main_call0_v6, main_call0_v7, main_call0_v8, main_call0_v9, main_call0_v10, main_call0_v11, main_call0_v12,
   main_call0_call0_v0, main_call0_call0_c, main_call0_call0_v1, main_call0_call0_v2, main_call0_call0_v3, main_call0_call0_v4,
   main_call0_call0_v5, main_call0_call0_v6, main_call0_call0_c_0, main_call0_call0_v7, main_call0_call0_v8,
   main_call0_call0_c_1, main_call0_call0_v9, main_call0_call0_v10, main_call0_call0_v11, main_call0_call0_v12,
   main_call0_call0_v13, main_call0_call0_c_2, main_call0_call0_v14, main_call0_call0_v15, main_call0_call0_c_3,
   main_call0_call0_v16, main_call0_call0_v17, main_call0_call0_v18, main_call0_call0_v19, main_call0_call0_v20,
   main_call0_call0_c_4, main_call0_call0_v21, main_call0_call0_v22, main_call0_call0_c_5, main_call0_call0_v23,
   main_call0_call0_v24, main_call0_call0_v25, main_call0_call0_v26, main_call0_call0_v27, main_call0_call0_c_6,
   main_call0_call0_v28, main_call0_call0_v29, main_call0_call0_c_7, main_call0_call0_v30, main_call0_call0_v31,
   main_call0_call0_v32, main_call0_call0_v33, main_call0_call0_v34, main_call0_call0_v35, main_call0_call0_v36,
   main_call0_call0_v37, main_call0_call0_c_8, main_call0_call0_v38, main_call0_call0_v39, main_call0_call0_v40,
   main_call0_call0_c_9, main_call0_call0_v41, main_call0_call0_v42, main_call0_call0_c_10, main_call0_call0_v43,
   main_call0_call0_v44, main_call0_call0_v45, main_call0_call0_v46, main_call0_call0_v47, main_call0_call0_c_11,
   main_call0_call0_v48, main_call0_call0_v49, main_call0_call0_c_12, main_call0_call0_v50, main_call0_call0_v51,
   main_call0_call0_v52, main_call0_call0_v53, main_call0_call0_v54, main_call0_call0_c_13, main_call0_call0_v55,
   main_call0_call0_v56, main_call0_call0_c_14, main_call0_call0_v57, main_call0_call0_v58, main_call0_call0_v59,
   main_call0_call0_v60, main_call0_call0_v61, main_call0_call0_c_15, main_call0_call0_v62, main_call0_call0_v63,
   main_call0_call0_c_16, main_call0_call0_v64, main_call0_call0_v65, main_call0_call0_v66, main_call0_call0_v67,
   main_call0_call0_v68, main_call0_call0_v69, main_call0_call0_v70, main_call0_call0_v71, main_call0_call0_c_17,
   main_call0_call0_v72, main_call0_call0_v73, main_call0_call0_v74, main_call0_call0_c_18, main_call0_call0_v75,
   main_call0_call0_v76, main_call0_call0_c_19, main_call0_call0_v77, main_call0_call0_v78, main_call0_call0_v79,
   main_call0_call0_v80, main_call0_call0_v81, main_call0_call0_c_20, main_call0_call0_v82, main_call0_call0_v83,
   main_call0_call0_c_21, main_call0_call0_v84, main_call0_call0_v85, main_call0_call0_v86, main_call0_call0_v87,
   main_call0_call0_v88, main_call0_call0_c_22, main_call0_call0_v89, main_call0_call0_v90, main_call0_call0_c_23,
   main_call0_call0_v91, main_call0_call0_v92, main_call0_call0_v93, main_call0_call0_v94, main_call0_call0_v95,
   main_call0_call0_c_24, main_call0_call0_v96, main_call0_call0_v97, main_call0_call0_c_25, main_call0_call0_v98,
   main_call0_call0_v99, main_call0_call0_v100, main_call0_call0_v101, main_call0_call0_v102, main_call0_call0_v103,
   main_call0_call0_v104, main_call0_call0_v105, main_call0_call0_c_26, main_call0_call0_v106, main_call0_call0_v107,
   main_call0_call0_v108, main_call0_call0_c_27, main_call0_call0_v109, main_call0_call0_v110, main_call0_call0_c_28,
   main_call0_call0_v111, main_call0_call0_v112, main_call0_call0_v113, main_call0_call0_v114, main_call0_call0_v115,
   main_call0_call0_c_29, main_call0_call0_v116, main_call0_call0_v117, main_call0_call0_c_30, main_call0_call0_v118,
   main_call0_call0_v119, main_call0_call0_v120, main_call0_call0_v121, main_call0_call0_v122, main_call0_call0_c_31,
   main_call0_call0_v123, main_call0_call0_v124, main_call0_call0_c_32, main_call0_call0_v125, main_call0_call0_v126,
   main_call0_call0_v127, main_call0_call0_v128, main_call0_call0_v129, main_call0_call0_c_33, main_call0_call0_v130,
   main_call0_call0_v131, main_call0_call0_c_34, main_call0_call0_v132, main_call0_call0_v133, main_call0_call0_v134,
   main_call0_call0_v135, main_call0_call0_v136, main_call0_call0_v137, main_call0_call0_v138, main_call0_call0_v139,
   main_call0_call0_c_35, main_call0_call0_v140, main_call0_call0_v141, main_call0_call0_v142, main_call0_call0_c_36,
   main_call0_call0_v143, main_call0_call0_v144, main_call0_call0_c_37, main_call0_call0_v145, main_call0_call0_v146,
   main_call0_call0_v147, main_call0_call0_v148, main_call0_call0_v149, main_call0_call0_c_38, main_call0_call0_v150,
   main_call0_call0_v151, main_call0_call0_c_39, main_call0_call0_v152, main_call0_call0_v153, main_call0_call0_v154,
   main_call0_call0_v155, main_call0_call0_v156, main_call0_call0_c_40, main_call0_call0_v157, main_call0_call0_v158,
   main_call0_call0_c_41, main_call0_call0_v159, main_call0_call0_v160, main_call0_call0_v161, main_call0_call0_v162,
   main_call0_call0_v163, main_call0_call0_c_42, main_call0_call0_v164, main_call0_call0_v165, main_call0_call0_c_43,
   main_call0_call0_v166, main_call0_call0_v167, main_call0_call0_v168, main_call0_call0_v169, main_call0_call0_v170,
   main_call0_v13_0, main_call0_call0_v172, main_call0_call0_v173, main_call0_call0_c_44, main_call0_call0_v174,
   main_call0_v13_1, main_v16]

/-- The buffers written while the noise is drawn, in order. -/
def written_2 : List (Ref sig .tc) :=
  [main_call1_cst, main_call1_cst_0, main_call1_call0_v0, main_call1_call0_v1, main_call1_call0_v2, main_call1_call0_v3,
   main_call1_call0_v4, main_call1_call0_v5, main_call1_call0_v6, main_call1_call0_v7, main_call1_call0_v8, main_call1_call0_c,
   main_call1_call0_v9, main_call1_call0_v10, main_call1_call0_c_0, main_call1_call0_v11, main_call1_call0_v12,
   main_call1_call0_v13, main_call1_call0_c_1, main_call1_call0_v14, main_call1_call0_v15, main_call1_call0_v16,
   main_call1_call0_v17, main_call1_call0_v18, main_call1_call0_v19, main_call1_call0_v20, main_call1_call0_v21,
   main_call1_call0_call0_v0, main_call1_call0_call0_c, main_call1_call0_call0_v1, main_call1_call0_call0_v2,
   main_call1_call0_call0_v3, main_call1_call0_call0_v4, main_call1_call0_call0_v5, main_call1_call0_call0_v6,
   main_call1_call0_call0_v7, main_call1_call0_call0_v8, main_call1_call0_call0_v9, main_call1_call0_call0_c_0,
   main_call1_call0_call0_v10, main_call1_call0_call0_v11, main_call1_call0_call0_c_1, main_call1_call0_call0_v12,
   main_call1_call0_call0_v13, main_call1_call0_call0_v14, main_call1_call0_call0_v15, main_call1_call0_call0_v16,
   main_call1_call0_call0_c_2, main_call1_call0_call0_v17, main_call1_call0_call0_v18, main_call1_call0_call0_c_3,
   main_call1_call0_call0_v19, main_call1_call0_call0_v20, main_call1_call0_call0_v21, main_call1_call0_call0_v22,
   main_call1_call0_call0_v23, main_call1_call0_call0_c_4, main_call1_call0_call0_v24, main_call1_call0_call0_v25,
   main_call1_call0_call0_c_5, main_call1_call0_call0_v26, main_call1_call0_call0_v27, main_call1_call0_call0_v28,
   main_call1_call0_call0_v29, main_call1_call0_call0_v30, main_call1_call0_call0_c_6, main_call1_call0_call0_v31,
   main_call1_call0_call0_v32, main_call1_call0_call0_c_7, main_call1_call0_call0_v33, main_call1_call0_call0_v34,
   main_call1_call0_call0_v35, main_call1_call0_call0_v36, main_call1_call0_call0_v37, main_call1_call0_call0_v38,
   main_call1_call0_call0_v39, main_call1_call0_call0_v40, main_call1_call0_call0_c_8, main_call1_call0_call0_v41,
   main_call1_call0_call0_v42, main_call1_call0_call0_v43, main_call1_call0_call0_c_9, main_call1_call0_call0_v44,
   main_call1_call0_call0_v45, main_call1_call0_call0_c_10, main_call1_call0_call0_v46, main_call1_call0_call0_v47,
   main_call1_call0_call0_v48, main_call1_call0_call0_v49, main_call1_call0_call0_v50, main_call1_call0_call0_c_11,
   main_call1_call0_call0_v51, main_call1_call0_call0_v52, main_call1_call0_call0_c_12, main_call1_call0_call0_v53,
   main_call1_call0_call0_v54, main_call1_call0_call0_v55, main_call1_call0_call0_v56, main_call1_call0_call0_v57,
   main_call1_call0_call0_c_13, main_call1_call0_call0_v58, main_call1_call0_call0_v59, main_call1_call0_call0_c_14,
   main_call1_call0_call0_v60, main_call1_call0_call0_v61, main_call1_call0_call0_v62, main_call1_call0_call0_v63,
   main_call1_call0_call0_v64, main_call1_call0_call0_c_15, main_call1_call0_call0_v65, main_call1_call0_call0_v66,
   main_call1_call0_call0_c_16, main_call1_call0_call0_v67, main_call1_call0_call0_v68, main_call1_call0_call0_v69,
   main_call1_call0_call0_v70, main_call1_call0_call0_v71, main_call1_call0_call0_v72, main_call1_call0_call0_v73,
   main_call1_call0_call0_v74, main_call1_call0_call0_c_17, main_call1_call0_call0_v75, main_call1_call0_call0_v76,
   main_call1_call0_call0_v77, main_call1_call0_call0_c_18, main_call1_call0_call0_v78, main_call1_call0_call0_v79,
   main_call1_call0_call0_c_19, main_call1_call0_call0_v80, main_call1_call0_call0_v81, main_call1_call0_call0_v82,
   main_call1_call0_call0_v83, main_call1_call0_call0_v84, main_call1_call0_call0_c_20, main_call1_call0_call0_v85,
   main_call1_call0_call0_v86, main_call1_call0_call0_c_21, main_call1_call0_call0_v87, main_call1_call0_call0_v88,
   main_call1_call0_call0_v89, main_call1_call0_call0_v90, main_call1_call0_call0_v91, main_call1_call0_call0_c_22,
   main_call1_call0_call0_v92, main_call1_call0_call0_v93, main_call1_call0_call0_c_23, main_call1_call0_call0_v94,
   main_call1_call0_call0_v95, main_call1_call0_call0_v96, main_call1_call0_call0_v97, main_call1_call0_call0_v98,
   main_call1_call0_call0_c_24, main_call1_call0_call0_v99, main_call1_call0_call0_v100, main_call1_call0_call0_c_25,
   main_call1_call0_call0_v101, main_call1_call0_call0_v102, main_call1_call0_call0_v103, main_call1_call0_call0_v104,
   main_call1_call0_call0_v105, main_call1_call0_call0_v106, main_call1_call0_call0_v107, main_call1_call0_call0_v108,
   main_call1_call0_call0_c_26, main_call1_call0_call0_v109, main_call1_call0_call0_v110, main_call1_call0_call0_v111,
   main_call1_call0_call0_c_27, main_call1_call0_call0_v112, main_call1_call0_call0_v113, main_call1_call0_call0_c_28,
   main_call1_call0_call0_v114, main_call1_call0_call0_v115, main_call1_call0_call0_v116, main_call1_call0_call0_v117,
   main_call1_call0_call0_v118, main_call1_call0_call0_c_29, main_call1_call0_call0_v119, main_call1_call0_call0_v120,
   main_call1_call0_call0_c_30, main_call1_call0_call0_v121, main_call1_call0_call0_v122, main_call1_call0_call0_v123,
   main_call1_call0_call0_v124, main_call1_call0_call0_v125, main_call1_call0_call0_c_31, main_call1_call0_call0_v126,
   main_call1_call0_call0_v127, main_call1_call0_call0_c_32, main_call1_call0_call0_v128, main_call1_call0_call0_v129,
   main_call1_call0_call0_v130, main_call1_call0_call0_v131, main_call1_call0_call0_v132, main_call1_call0_call0_c_33,
   main_call1_call0_call0_v133, main_call1_call0_call0_v134, main_call1_call0_call0_c_34, main_call1_call0_call0_v135,
   main_call1_call0_call0_v136, main_call1_call0_call0_v137, main_call1_call0_call0_v138, main_call1_call0_call0_v139,
   main_call1_call0_call0_v140, main_call1_call0_call0_v141, main_call1_call0_call0_v142, main_call1_call0_call0_c_35,
   main_call1_call0_call0_v143, main_call1_call0_call0_v144, main_call1_call0_call0_v145, main_call1_call0_call0_c_36,
   main_call1_call0_call0_v146, main_call1_call0_call0_v147, main_call1_call0_call0_c_37, main_call1_call0_call0_v148,
   main_call1_call0_call0_v149, main_call1_call0_call0_v150, main_call1_call0_call0_v151, main_call1_call0_call0_v152,
   main_call1_call0_call0_c_38, main_call1_call0_call0_v153, main_call1_call0_call0_v154, main_call1_call0_call0_c_39,
   main_call1_call0_call0_v155, main_call1_call0_call0_v156, main_call1_call0_call0_v157, main_call1_call0_call0_v158,
   main_call1_call0_call0_v159, main_call1_call0_call0_c_40, main_call1_call0_call0_v160, main_call1_call0_call0_v161,
   main_call1_call0_call0_c_41, main_call1_call0_call0_v162, main_call1_call0_call0_v163, main_call1_call0_call0_v164,
   main_call1_call0_call0_v165, main_call1_call0_call0_v166, main_call1_call0_call0_c_42, main_call1_call0_call0_v167,
   main_call1_call0_call0_v168, main_call1_call0_call0_c_43, main_call1_call0_call0_v169, main_call1_call0_call0_v170,
   main_call1_call0_call0_v171, main_call1_call0_call0_v172, main_call1_call0_call0_v173, main_call1_call0_v22_0,
   main_call1_call0_call0_v175, main_call1_call0_call0_v176, main_call1_call0_call0_c_44, main_call1_call0_call0_v177,
   main_call1_call0_v22_1, main_call1_call0_v23, main_call1_call0_c_2, main_call1_call0_v24, main_call1_call0_v25,
   main_call1_call0_c_3, main_call1_call0_v26, main_call1_call0_v27, main_call1_call0_v28, main_call1_call0_cst,
   main_call1_call0_v29, main_call1_call0_v30, main_call1_call0_v31, main_call1_call0_v32, main_call1_call0_v33,
   main_call1_call0_v34, main_call1_call0_v35, main_call1_call0_v36, main_call1_call0_v37, main_call1_call0_v38,
   main_call1_call0_v39, main_call1_v0, main_call1_v1, main_call1_v2, main_call1_v3, main_v17]

variable {V}

theorem keep_1 {r : Ref sig .tc} (h : r ∉ written_1) : after hostOps0_1 V (Proc.devRef .tc r) = V (Proc.devRef .tc r) :=
  after_unwritten written_1 rfl h V
theorem keep_2 {r : Ref sig .tc} (h : r ∉ written_2) : after hostOps0_2 V (Proc.devRef .tc r) = V (Proc.devRef .tc r) :=
  after_unwritten written_2 rfl h V

/-! ## The table of all steps -/

/-- The run's key: the two words of 42. -/
def runKey : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩] concatenates_S1_S1_S2_d0

theorem runKey_0 : runKey (ix1 0) = run0 := by
  pointwise [runKey]
  rfl
theorem runKey_1 : runKey (ix1 1) = run1 := by
  pointwise [runKey]
  rfl

/-- The noise of every step, batch entry and point. -/
def table : FVec F S128x128x128 .f32 := fun i => drawnAt (i 0) (i 1) (i 2)

/-- The last operation before the launch exchanges the table's last two axes. -/
theorem out_v18 : after hostOps0_3 (after hostOps0_2 (after hostOps0_1 (after hostOps0 V))) (Proc.devRef .tc main_v18)
    = transpose S128x128x128 [0, 2, 1] (table (F := F)) transposes_S128x128x128_S128x128x128_0_2_1 := by
  have h13 : after hostOps0 V (Proc.devRef .tc main_v13) = runKey := by
    unfold runKey
    after_results_entrywise [cast_eq]
  have h15 : after hostOps0 V (Proc.devRef .tc main_v15) = iotaInDim S128 32 0 := by
    after_results_entrywise [cast_eq]
  generalize after hostOps0 V = V₀ at h13 h15
  have h : ∀ V' : Valuation τ sig (Elt F), after hostOps0_3 V' (Proc.devRef .tc main_v18)
      = transpose S128x128x128 [0, 2, 1] (V' (Proc.devRef .tc main_v17)) transposes_S128x128x128_S128x128x128_0_2_1 := by
    intro V'
    after_results_entrywise [cast_eq]
  rw [h]
  refine congrArg (transpose S128x128x128 [0, 2, 1] · transposes_S128x128x128_S128x128x128_0_2_1) (funext fun i => ?_)
  obtain ⟨t, b, p, rfl⟩ : ∃ t b p : Fin 128, i = ix3 t b p := ⟨i 0, i 1, i 2, eq_ix3 i⟩
  obtain ⟨k0, k1⟩ := out_v16 V₀ t h13 h15
  refine (out_v17 (after hostOps0_1 V₀) t b p rfl).trans ?_
  rw [k0, k1, runKey_0, runKey_1]
  rfl

end Cert.KernelIdeal.Draw

end
-- ==== Proof.Results.lean ====
/- The kernel program's results as functions of its arguments: the blocks the launch stages are the transposed
   arguments and the drawn noise, and the host's last operations close the tour and flatten the two sums. -/
module

public import proofs.«01_k».proof.Proof.Run
public import proofs.«01_k».proof.Proof.KernelDraw
public import Idealize.ShloMosaic.Lib.StableHlo.RunClose

@[expose] public section

set_option maxRecDepth 100000

noncomputable section

namespace Cert.KernelIdeal.Hand

open Idealize.ShloMosaic Idealize.ShloMosaic.TcCoe Idealize.ShloMosaic.Tactic
open Idealize.SL Idealize.SL.Sem
open Idealize.ShloMosaic.StableHlo
open Cert.KernelIdeal Cert.KernelIdeal.Gen
open Idealize.ShloMosaic.Pipeline (Dat Window)

variable {F : FTy → Type} [FloatOps F]
variable (m : (ℓ : Loc nD τ sig) → Buf (Elt F) ℓ) (ρ : Dev nD → PrngReg)

/-- What the decoder's steps read, from the program's arguments. -/
def argConsts (c : Dev nD) : Consts F :=
  constsOf (transpose S128x128x512 [1, 0, 2] (m ((c : Thread nD τ).loc main_arg0)) transposes_S128x128x512_S128x128x512_1_0_2)
    (transpose S512x256 [1, 0] (m ((c : Thread nD τ).loc main_arg1)) transposes_S256x512_S512x256_1_0)
    (transpose S512x360 [1, 0] (m ((c : Thread nD τ).loc main_arg2)) transposes_S360x512_S512x360_1_0)
    (transpose S512x360 [1, 0] (m ((c : Thread nD τ).loc main_arg3)) transposes_S360x512_S512x360_1_0)
    (transpose S512x360 [1, 0] (m ((c : Thread nD τ).loc main_arg4)) transposes_S360x512_S512x360_1_0)
    (transpose S360x256 [1, 0] (m ((c : Thread nD τ).loc main_arg5)) transposes_S256x360_S360x256_1_0)
    (shapeCast S1x256 (m ((c : Thread nD τ).loc main_arg6)) shapeCasts_S256_S1x256)
    (transpose S128x128x128 [0, 2, 1] Draw.table transposes_S128x128x128_S128x128x128_0_2_1)

/-- A column set after the others. -/
def joined (a : IVec S128x128 32) (b : IVec S128x1 32) : IVec S128x129 32 :=
  concatenate S128x129 1 [⟨S128x128, a⟩, ⟨S128x1, b⟩] concatenates_S128x128_S128x1_S128x129_d1

/-- A tour by points and batch entries, the axes exchanged, its first column again at the end. -/
def closed (x : IVec S128x128 32) : IVec S128x129 32 :=
  joined (transpose S128x128 [1, 0] x transposes_S128x128_S128x128_1_0)
    (extractStridedSlice S128x1 ![0, 0] (transpose S128x128 [1, 0] x transposes_S128x128_S128x128_1_0) slices_S128x128_S128x1_0_0)

/-! ## What the launch finds -/

/-- The program's arguments. -/
def args : List (Ref sig .tc) := [main_arg0, main_arg1, main_arg2, main_arg3, main_arg4, main_arg5, main_arg6]

/-- The arguments and the arrays made of them before the noise is drawn. -/
abbrev early : List (Ref sig .tc) := [main_arg0, main_arg1, main_arg2, main_arg3, main_arg4, main_arg5, main_arg6,
  main_v0, main_v1, main_v2, main_v3, main_v4, main_v5, main_v6]

/-- The host operations before the launch, one stretch after the other. -/
theorem V0_eq (c : Dev nD) :
    V0 m c = StableHlo.after hostOps0_3 (StableHlo.after hostOps0_2 (StableHlo.after hostOps0_1 (StableHlo.after hostOps0 fun b => m (c, b)))) := by
  unfold V0
  rw [List.flatten_cons, List.flatten_cons, List.flatten_cons, List.flatten_cons, List.flatten_nil, List.append_nil,
    StableHlo.after_append, StableHlo.after_append, StableHlo.after_append]

/-- The drawing writes none of them. -/
theorem V_kept (c : Dev nD) {r : Ref sig .tc} (h : r ∈ early) :
    V m c r = StableHlo.after hostOps0 (fun b => m (c, b)) (Proc.devRef .tc r) := by
  refine (congrFun (V0_eq m c) _).trans ?_
  exact (StableHlo.after_unwritten [main_v18] rfl (by revert r; decide) _).trans
    ((Draw.keep_2 (r := r) (by revert r; decide +kernel)).trans (Draw.keep_1 (r := r) (by revert r; decide +kernel)))

/-- Every window stages its array's one block. -/
theorem index_zero : ∀ (w : Fin cfg0.W) (t : Fin cfg0.N) a, (cfg0.win w).index t a = 0 := by decide +kernel

theorem iblk_0 (c : Dev nD) (t : Fin cfg0.N) : iblk m c 0 t = transpose S128x128x512 [1, 0, 2] (m ((c : Thread nD τ).loc main_arg0)) transposes_S128x128x512_S128x128x512_1_0_2 := by
  have hV : V m c main_v0 = transpose S128x128x512 [1, 0, 2] (m ((c : Thread nD τ).loc main_arg0)) transposes_S128x128x512_S128x128x512_1_0_2 := by
    rw [V_kept m c (by decide)]
    after_results_entrywise [cast_eq]
  rw [← hV]
  funext y
  show V m c main_v0 (((cfg0.win 0).rect t).emb y) = V m c main_v0 y
  exact congrArg (V m c main_v0) (funext fun a => Fin.ext (Window.rect_emb_val_of_index_zero _ _ _ (index_zero 0 t a) y))

theorem iblk_1 (c : Dev nD) (t : Fin cfg0.N) : iblk m c 1 t = transpose S512x256 [1, 0] (m ((c : Thread nD τ).loc main_arg1)) transposes_S256x512_S512x256_1_0 := by
  have hV : V m c main_v1 = transpose S512x256 [1, 0] (m ((c : Thread nD τ).loc main_arg1)) transposes_S256x512_S512x256_1_0 := by
    rw [V_kept m c (by decide)]
    after_results_entrywise [cast_eq]
  rw [← hV]
  funext y
  show V m c main_v1 (((cfg0.win 1).rect t).emb y) = V m c main_v1 y
  exact congrArg (V m c main_v1) (funext fun a => Fin.ext (Window.rect_emb_val_of_index_zero _ _ _ (index_zero 1 t a) y))

theorem iblk_2 (c : Dev nD) (t : Fin cfg0.N) : iblk m c 2 t = transpose S512x360 [1, 0] (m ((c : Thread nD τ).loc main_arg2)) transposes_S360x512_S512x360_1_0 := by
  have hV : V m c main_v2 = transpose S512x360 [1, 0] (m ((c : Thread nD τ).loc main_arg2)) transposes_S360x512_S512x360_1_0 := by
    rw [V_kept m c (by decide)]
    after_results_entrywise [cast_eq]
  rw [← hV]
  funext y
  show V m c main_v2 (((cfg0.win 2).rect t).emb y) = V m c main_v2 y
  exact congrArg (V m c main_v2) (funext fun a => Fin.ext (Window.rect_emb_val_of_index_zero _ _ _ (index_zero 2 t a) y))

theorem iblk_3 (c : Dev nD) (t : Fin cfg0.N) : iblk m c 3 t = transpose S512x360 [1, 0] (m ((c : Thread nD τ).loc main_arg3)) transposes_S360x512_S512x360_1_0 := by
  have hV : V m c main_v3 = transpose S512x360 [1, 0] (m ((c : Thread nD τ).loc main_arg3)) transposes_S360x512_S512x360_1_0 := by
    rw [V_kept m c (by decide)]
    after_results_entrywise [cast_eq]
  rw [← hV]
  funext y
  show V m c main_v3 (((cfg0.win 3).rect t).emb y) = V m c main_v3 y
  exact congrArg (V m c main_v3) (funext fun a => Fin.ext (Window.rect_emb_val_of_index_zero _ _ _ (index_zero 3 t a) y))

theorem iblk_4 (c : Dev nD) (t : Fin cfg0.N) : iblk m c 4 t = transpose S512x360 [1, 0] (m ((c : Thread nD τ).loc main_arg4)) transposes_S360x512_S512x360_1_0 := by
  have hV : V m c main_v4 = transpose S512x360 [1, 0] (m ((c : Thread nD τ).loc main_arg4)) transposes_S360x512_S512x360_1_0 := by
    rw [V_kept m c (by decide)]
    after_results_entrywise [cast_eq]
  rw [← hV]
  funext y
  show V m c main_v4 (((cfg0.win 4).rect t).emb y) = V m c main_v4 y
  exact congrArg (V m c main_v4) (funext fun a => Fin.ext (Window.rect_emb_val_of_index_zero _ _ _ (index_zero 4 t a) y))

theorem iblk_5 (c : Dev nD) (t : Fin cfg0.N) : iblk m c 5 t = transpose S360x256 [1, 0] (m ((c : Thread nD τ).loc main_arg5)) transposes_S256x360_S360x256_1_0 := by
  have hV : V m c main_v5 = transpose S360x256 [1, 0] (m ((c : Thread nD τ).loc main_arg5)) transposes_S256x360_S360x256_1_0 := by
    rw [V_kept m c (by decide)]
    after_results_entrywise [cast_eq]
  rw [← hV]
  funext y
  show V m c main_v5 (((cfg0.win 5).rect t).emb y) = V m c main_v5 y
  exact congrArg (V m c main_v5) (funext fun a => Fin.ext (Window.rect_emb_val_of_index_zero _ _ _ (index_zero 5 t a) y))

theorem iblk_6 (c : Dev nD) (t : Fin cfg0.N) : iblk m c 6 t = shapeCast S1x256 (m ((c : Thread nD τ).loc main_arg6)) shapeCasts_S256_S1x256 := by
  have hV : V m c main_v6 = shapeCast S1x256 (m ((c : Thread nD τ).loc main_arg6)) shapeCasts_S256_S1x256 := by
    rw [V_kept m c (by decide)]
    after_results_entrywise [cast_eq]
  rw [← hV]
  funext y
  show V m c main_v6 (((cfg0.win 6).rect t).emb y) = V m c main_v6 y
  exact congrArg (V m c main_v6) (funext fun a => Fin.ext (Window.rect_emb_val_of_index_zero _ _ _ (index_zero 6 t a) y))

theorem iblk_7 (c : Dev nD) (t : Fin cfg0.N) : iblk m c 7 t = transpose S128x128x128 [0, 2, 1] Draw.table transposes_S128x128x128_S128x128x128_0_2_1 := by
  rw [← (congrFun (V0_eq m c) _).trans (Draw.out_v18)]
  funext y
  show V m c main_v18 (((cfg0.win 7).rect t).emb y) = V m c main_v18 y
  exact congrArg (V m c main_v18) (funext fun a => Fin.ext (Window.rect_emb_val_of_index_zero _ _ _ (index_zero 7 t a) y))

/-- What the launch's one body run reads is what the arguments give. -/
theorem constsAt_eq (c : Dev nD) (t : Fin cfg0.N) : constsAt m c t = argConsts m c := by
  unfold constsAt argConsts
  rw [iblk_0, iblk_1, iblk_2, iblk_3, iblk_4, iblk_5, iblk_6, iblk_7]

/-! ## What the launch leaves -/

theorem arr_8 (c : Dev nD) : (dats m 0 c).arrAt 8 cfg0.N = (argConsts m c).tourOf := by
  refine (dats m 0 c).arrAt_eq_of_after_last 8 t0_0 (by decide +kernel) _ fun j => ?_
  rw [after0_8, constsAt_eq]
  rfl

theorem arr_9 (c : Dev nD) : (dats m 0 c).arrAt 9 cfg0.N = ((argConsts m c).states 128).lp := by
  refine (dats m 0 c).arrAt_eq_of_after_last 9 t0_0 (by decide +kernel) _ fun j => ?_
  rw [after0_9, constsAt_eq]
  rfl

theorem arr_10 (c : Dev nD) : (dats m 0 c).arrAt 10 cfg0.N = ((argConsts m c).states 128).ent := by
  refine (dats m 0 c).arrAt_eq_of_after_last 10 t0_0 (by decide +kernel) _ fun j => ?_
  rw [after0_10, constsAt_eq]
  rfl

/-- What the host's last operations find: the launch's arrays at their final contents. -/
def left (c : Dev nD) : Valuation τ sig (Elt F) := Pipeline.withArrays spec0 c (V0 m c) (fun w => (dats m 0 c).arrAt w cfg0.N)

theorem tail_eq (c : Dev nD) (b : Ref sig .tc) :
    Pipeline.afterTail₀ cfgs (dats m) 0 (V0 m) [hostOps1] c b = StableHlo.after hostOps1 (left m c) (Proc.devRef .tc b) := by
  unfold Pipeline.afterTail₀ left
  simp only [List.flatten_cons, List.flatten_nil, List.append_nil]

theorem left_8 (c : Dev nD) : left m c (Proc.devRef .tc main_v19_0) = (argConsts m c).tourOf :=
  (Pipeline.withArrays_arr spec0 launch0.win.arr_inj c (V0 m c) (fun w => (dats m 0 c).arrAt w cfg0.N) 8).trans (arr_8 m c)
theorem left_9 (c : Dev nD) : left m c (Proc.devRef .tc main_v19_1) = ((argConsts m c).states 128).lp :=
  (Pipeline.withArrays_arr spec0 launch0.win.arr_inj c (V0 m c) (fun w => (dats m 0 c).arrAt w cfg0.N) 9).trans (arr_9 m c)
theorem left_10 (c : Dev nD) : left m c (Proc.devRef .tc main_v19_2) = ((argConsts m c).states 128).ent :=
  (Pipeline.withArrays_arr spec0 launch0.win.arr_inj c (V0 m c) (fun w => (dats m 0 c).arrAt w cfg0.N) 10).trans (arr_10 m c)

theorem tail_v20 (c : Dev nD) : StableHlo.after (hostOps1.take 2) (left m c) (Proc.devRef .tc main_v20)
    = transpose S128x128 [1, 0] (argConsts m c).tourOf transposes_S128x128_S128x128_1_0 := by
  simp only [hostOps1, List.take]
  after_results_entrywise [left_8 m c]
theorem tail_v21 (c : Dev nD) : StableHlo.after (hostOps1.take 2) (left m c) (Proc.devRef .tc main_v21)
    = extractStridedSlice S128x1 ![0, 0] (transpose S128x128 [1, 0] (argConsts m c).tourOf transposes_S128x128_S128x128_1_0) slices_S128x128_S128x1_0_0 := by
  simp only [hostOps1, List.take]
  after_results_entrywise [left_8 m c]
theorem tail_v22 (c : Dev nD) : StableHlo.after hostOps1 (left m c) (Proc.devRef .tc main_v22) = closed (argConsts m c).tourOf := by
  unfold closed
  after_results_simp_entrywise
  exact congrArg₂ joined (tail_v20 m c) (tail_v21 m c)
theorem tail_v23 (c : Dev nD) : StableHlo.after hostOps1 (left m c) (Proc.devRef .tc main_v23)
    = shapeCast S128 ((argConsts m c).states 128).lp shapeCasts_S1x128_S128 := by
  after_results_entrywise [left_9 m c]
theorem tail_v24 (c : Dev nD) : StableHlo.after hostOps1 (left m c) (Proc.devRef .tc main_v24)
    = shapeCast S128 ((argConsts m c).states 128).ent shapeCasts_S1x128_S128 := by
  after_results_entrywise [left_10 m c]

/-- An argument is no array of the launch. -/
theorem args_ne : ∀ a ∈ args, ∀ w, Pipeline.arrRef spec0 w ≠ a := by decide

/-- No host operation before the launch writes an argument. -/
theorem args_first (V : Valuation τ sig (Elt F)) : ∀ a ∈ args, StableHlo.after hostOps0 V (Proc.devRef .tc a) = V (Proc.devRef .tc a) :=
  fun a ha => StableHlo.after_unwritten [main_v0, main_v1, main_v2, main_v3, main_v4, main_v5, main_v6, main_c, main_c_0, main_v7, main_v8, main_v9,
    main_c_1, main_v10, main_v11, main_v12, main_v13, main_v14, main_v15] rfl (by revert a; decide) V

/-- Nor one after it. -/
theorem args_last (V : Valuation τ sig (Elt F)) : ∀ a ∈ args, StableHlo.after hostOps1 V (Proc.devRef .tc a) = V (Proc.devRef .tc a) :=
  fun a ha => StableHlo.after_unwritten [main_v20, main_v21, main_v22, main_v23, main_v24] rfl (by revert a; decide) V

/-- The host's last operations leave an argument as the program found it. -/
theorem tail_arg (c : Dev nD) (a : Ref sig .tc) (ha : a ∈ args) :
    StableHlo.after hostOps1 (left m c) (Proc.devRef .tc a) = m ((c : Thread nD τ).loc a) := by
  rw [args_last _ a ha]
  refine (Pipeline.withArrays_of_ne spec0 c (V0 m c) _ a (args_ne a ha)).trans ?_
  exact (V_kept m c (by revert a; decide)).trans (args_first _ a ha)

/-- The buffers the claims speak of are no arrays of the launch. -/
theorem results_rest : ∀ a ∈ [main_v22, main_v23, main_v24] ++ args, a ∈ Pipeline.restRefs sig spec0 := by
  have h : ∀ a ∈ [main_v22, main_v23, main_v24] ++ args, a.isScoped = false ∧ ∀ w, (spec0 w).arr.view.ref ≠ a := by decide
  intro a ha
  exact Pipeline.mem_restRefs_of a (h a ha).1 (h a ha).2

/-- The run of the kernel program: the closed tour, the two sums flattened, the arguments as they were, and no
    semaphore left raised. -/
theorem run_results (hpt : ∀ (K : Consts F) t s y, (K.idx t s y).toNat < 128) :
    θ_run defs (onTc (τ := τ) (main (F := F))) ⟨m, fun _ => 0, ρ⟩ (fun r => (∀ c : Dev nD,
        r.2.mem ((c.tc : Thread nD τ).loc main_v22) = closed (argConsts m c).tourOf
        ∧ r.2.mem ((c.tc : Thread nD τ).loc main_v23) = shapeCast S128 ((argConsts m c).states 128).lp shapeCasts_S1x128_S128
        ∧ r.2.mem ((c.tc : Thread nD τ).loc main_v24) = shapeCast S128 ((argConsts m c).states 128).ent shapeCasts_S1x128_S128
        ∧ ∀ a ∈ args, r.2.mem ((c.tc : Thread nD τ).loc a) = m ((c.tc : Thread nD τ).loc a))
      ∧ r.2.sem = fun _ => 0) := by
  refine (θ_run _ _ _).mono (fun r h => ⟨fun c => ?_, h.2⟩) (run_main m ρ hpt)
  have hr : ∀ a ∈ [main_v22, main_v23, main_v24] ++ args,
      r.2.mem ((c.tc : Thread nD τ).loc a) = StableHlo.after hostOps1 (left m c) (Proc.devRef .tc a) := fun a ha =>
    (h.1.rest_eq c a (results_rest a ha)).trans (tail_eq m c a)
  exact ⟨(hr _ (by decide)).trans (tail_v22 m c), (hr _ (by decide)).trans (tail_v23 m c), (hr _ (by decide)).trans (tail_v24 m c),
    fun a ha => (hr a (List.mem_append_right _ ha)).trans (tail_arg m c a ha)⟩

end Cert.KernelIdeal.Hand

end
-- ==== Proof.Claims.lean ====
/- The claims: both programs run and keep their arguments, and their three results are equal. -/
module

public import proofs.«01_k».proof.Defs
public import proofs.«01_k».proof.Proof.Agree
public import proofs.«01_k».proof.Proof.Results
public import Idealize.ShloMosaic.Lib.Quiescent

@[expose] public section

set_option maxRecDepth 8192

noncomputable section

namespace Cert.Agree

open Idealize.ShloMosaic Idealize.SL.Sem Cert.Choice

/-- The transposed arguments the kernel's steps read are the arrays the reference's read. -/
theorem same_consts (x : FVec Ideal ReferenceIdeal.S128x128x512 .f32) (wd : FVec Ideal ReferenceIdeal.S256x512 .f32)
    (w0 w1 w2 : FVec Ideal ReferenceIdeal.S360x512 .f32) (wp : FVec Ideal ReferenceIdeal.S256x360 .f32)
    (v : FVec Ideal ReferenceIdeal.S256 .f32) :
    SameConsts (KernelIdeal.Hand.constsOf
        (transpose KernelIdeal.S128x128x512 [1, 0, 2] x KernelIdeal.Gen.transposes_S128x128x512_S128x128x512_1_0_2)
        (transpose KernelIdeal.S512x256 [1, 0] wd KernelIdeal.Gen.transposes_S256x512_S512x256_1_0)
        (transpose KernelIdeal.S512x360 [1, 0] w0 KernelIdeal.Gen.transposes_S360x512_S512x360_1_0)
        (transpose KernelIdeal.S512x360 [1, 0] w1 KernelIdeal.Gen.transposes_S360x512_S512x360_1_0)
        (transpose KernelIdeal.S512x360 [1, 0] w2 KernelIdeal.Gen.transposes_S360x512_S512x360_1_0)
        (transpose KernelIdeal.S360x256 [1, 0] wp KernelIdeal.Gen.transposes_S256x360_S360x256_1_0)
        (shapeCast KernelIdeal.S1x256 v KernelIdeal.Gen.shapeCasts_S256_S1x256)
        (transpose KernelIdeal.S128x128x128 [0, 2, 1] KernelIdeal.Draw.table KernelIdeal.Gen.transposes_S128x128x128_S128x128x128_0_2_1))
      (ReferenceIdeal.Trip.constsOf x wd w0 w1 w2 wp v) := by
  refine ⟨fun p b h => ?_, fun h x => ?_, fun h x => ?_, fun h x => ?_, fun x a => ?_, fun a => ?_, fun t p b => ?_, fun p b a => ?_⟩
  · pointwise [KernelIdeal.Hand.constsOf, ReferenceIdeal.Trip.constsOf]
  · pointwise [KernelIdeal.Hand.constsOf, ReferenceIdeal.Trip.constsOf]
  · pointwise [KernelIdeal.Hand.constsOf, ReferenceIdeal.Trip.constsOf]
  · pointwise [KernelIdeal.Hand.constsOf, ReferenceIdeal.Trip.constsOf]
  · pointwise [KernelIdeal.Hand.constsOf, ReferenceIdeal.Trip.constsOf]
  · pointwise [KernelIdeal.Hand.constsOf, ReferenceIdeal.Trip.constsOf]
  · refine Eq.trans ?_ (ReferenceIdeal.Trip.noiseAt_apply t b p).symm
    pointwise [KernelIdeal.Hand.constsOf]
    rfl
  · refine (KernelIdeal.Hand.encOf_apply _ _ p b a).trans ?_
    pointwise [ReferenceIdeal.Trip.constsOf]

/-- The kernel's closed tour, entry by entry. -/
theorem closed_apply (x : IVec KernelIdeal.S128x128 32) (b : Fin 128) (h : Fin 129) :
    KernelIdeal.Hand.closed x (ix2 b h) = x (ix2 ⟨h.val % 128, Nat.mod_lt _ (by decide)⟩ b) := by
  pointwise [KernelIdeal.Hand.closed, KernelIdeal.Hand.joined]
  have := h.isLt
  split
  · rename_i hl
    congr 2
    exact Fin.ext (Nat.mod_eq_of_lt hl).symm
  · congr 2
    exact Fin.ext (show h.val - 128 = h.val % 128 by omega)

variable {K : KernelIdeal.Hand.Consts Ideal} {R : ReferenceIdeal.Trip.Consts Ideal}

/-- The closed tours are equal. -/
theorem tour_eq (hc : SameConsts K R) : ReferenceIdeal.Trip.closeTour (R.states 128).tour = KernelIdeal.Hand.closed K.tourOf := by
  funext y
  obtain ⟨b, h, rfl⟩ : ∃ (b : Fin 128) (h : Fin 129), y = ix2 b h := ⟨y 0, y 1, eq_ix2 y⟩
  rw [closed_apply, ReferenceIdeal.Trip.closeTour_apply]
  exact tour_rows hc 128 le_rfl _ b (Nat.mod_lt _ (by decide))

/-- The sums of the chosen log-probabilities are equal. -/
theorem lp_eq (hc : SameConsts K R) :
    (R.states 128).lp = shapeCast KernelIdeal.S128 (K.states 128).lp KernelIdeal.Gen.shapeCasts_S1x128_S128 := by
  funext y
  obtain ⟨b, rfl⟩ : ∃ b : Fin 128, y = ix1 b := ⟨y 0, eq_ix1 y⟩
  rw [← (same_states hc 128 le_rfl).lp]
  pointwise []

/-- The sums of the entropies are equal. -/
theorem ent_eq (hc : SameConsts K R) :
    (R.states 128).ent = shapeCast KernelIdeal.S128 (K.states 128).ent KernelIdeal.Gen.shapeCasts_S1x128_S128 := by
  funext y
  obtain ⟨b, rfl⟩ : ∃ b : Fin 128, y = ix1 b := ⟨y 0, eq_ix1 y⟩
  rw [← (same_states hc 128 le_rfl).ent]
  pointwise []

end Cert.Agree

namespace Cert.Proof

open Idealize.ShloMosaic Idealize.SL.Sem Cert.Agree

/-- The seven arguments one by one, of a list that holds them all. -/
theorem args_all {p : Ref KernelIdeal.sig .tc → Prop} (h : ∀ a ∈ KernelIdeal.Hand.args, p a) :
    p KernelIdeal.main_arg0 ∧ p KernelIdeal.main_arg1 ∧ p KernelIdeal.main_arg2 ∧ p KernelIdeal.main_arg3
      ∧ p KernelIdeal.main_arg4 ∧ p KernelIdeal.main_arg5 ∧ p KernelIdeal.main_arg6 :=
  ⟨h _ (by decide), h _ (by decide), h _ (by decide), h _ (by decide), h _ (by decide), h _ (by decide), h _ (by decide)⟩

/-- The same of the reference's. -/
theorem ref_args_all {p : Ref ReferenceIdeal.sig .tc → Prop} (h : ∀ a ∈ ReferenceIdeal.Trip.args, p a) :
    p ReferenceIdeal.main_arg0 ∧ p ReferenceIdeal.main_arg1 ∧ p ReferenceIdeal.main_arg2 ∧ p ReferenceIdeal.main_arg3
      ∧ p ReferenceIdeal.main_arg4 ∧ p ReferenceIdeal.main_arg5 ∧ p ReferenceIdeal.main_arg6 :=
  ⟨h _ (by decide), h _ (by decide), h _ (by decide), h _ (by decide), h _ (by decide), h _ (by decide), h _ (by decide)⟩

/-- The kernel's program runs, leaves its arguments unchanged and no semaphore raised. -/
theorem frame_kernel : Cert.quiescent_KernelIdeal := fun m ρ _ =>
  (θ_run _ _ _).mono (fun _ h => ⟨fun c => args_all (h.1 c).2.2.2, h.2⟩)
    (KernelIdeal.Hand.run_results (F := Ideal) m ρ KernelIdeal.Hand.Consts.idx_lt)

/-- So does the reference's. -/
theorem frame_reference : Cert.quiescent_ReferenceIdeal := fun m ρ _ =>
  (θ_run _ _ _).mono (fun r h => ⟨fun c => ref_args_all (h c).2.2.2, sem_eq_zero_of_no_sems (by decide) r.2⟩)
    (ReferenceIdeal.Trip.run_ref (F := Ideal) m ρ)

/-- The tour, the log-probabilities and the entropies of the two programs are equal. -/
theorem algebraic : Cert.algebraic_KernelIdeal_ReferenceIdeal := by
  intro m ρ m' ρ' _ hargs
  have hc : ∀ c, SameConsts (KernelIdeal.Hand.argConsts m c) (ReferenceIdeal.Trip.constsAt m' c) := by
    intro c
    obtain ⟨h0, h1, h2, h3, h4, h5, h6⟩ := hargs c
    unfold ReferenceIdeal.Trip.constsAt
    rw [h0, h1, h2, h3, h4, h5, h6]
    exact same_consts _ _ _ _ _ _ _
  refine ⟨fun c => KernelIdeal.Hand.closed (KernelIdeal.Hand.argConsts m c).tourOf,
    fun c => shapeCast KernelIdeal.S128 ((KernelIdeal.Hand.argConsts m c).states 128).lp KernelIdeal.Gen.shapeCasts_S1x128_S128,
    fun c => shapeCast KernelIdeal.S128 ((KernelIdeal.Hand.argConsts m c).states 128).ent KernelIdeal.Gen.shapeCasts_S1x128_S128, ?_, ?_⟩
  · exact (θ_run _ _ _).mono (fun _ h c => ⟨(h.1 c).1, (h.1 c).2.1, (h.1 c).2.2.1, args_all (h.1 c).2.2.2⟩)
      (KernelIdeal.Hand.run_results (F := Ideal) m ρ KernelIdeal.Hand.Consts.idx_lt)
  · exact (θ_run _ _ _).mono (fun _ h c => ⟨(h c).1.trans (tour_eq (hc c)), (h c).2.1.trans (lp_eq (hc c)),
      (h c).2.2.1.trans (ent_eq (hc c)), ref_args_all (h c).2.2.2⟩)
      (ReferenceIdeal.Trip.run_ref (F := Ideal) m' ρ')

end Cert.Proof

end
-- ==== Proof.lean ====
/- The proof of the certificate's claim: the kernel's program and the reference's run and keep their arguments, and at
   exact values their three results are equal. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Claims
public import Idealize.ShloMosaic.Adequacy
public import Idealize.ShloMosaic.Init

@[expose] public section

noncomputable section

namespace Cert.Proof

open Idealize.ShloMosaic

/-- The claim: both programs run and keep their arguments, and their results are equal at exact values. -/
theorem claim : Cert.Claim :=
  ⟨Cert.KernelIdeal.Gen.facts, Cert.ReferenceIdeal.Gen.facts, frame_kernel, frame_reference, algebraic⟩

end Cert.Proof

end
